-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_scores [hPre_finite_scores : Cert.Pre_finite_scores.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_scores.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_scores [hPre_finite_scores : Cert.Pre_finite_scores.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_scores.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))) = (fun _ => 1#1)

def Pre_Kernel3 [hPre_routed : Cert.Pre_routed.Facts] (m : (ℓ : Loc Cert.Kernel3.nD Cert.Kernel3.τ Cert.Kernel3.sig) → Buf (Elt Bits) ℓ) : Prop :=
  ∀ c : Dev Cert.Kernel3.nD,
    (Cert.Pre_routed.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6))) = (fun _ => 1#1)

def Pre_Kernel3Ideal [hPre_routed : Cert.Pre_routed.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_routed.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_routed [hPre_routed : Cert.Pre_routed.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_routed.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))) = (fun _ => 1#1)

def Pre_Kernel4 [hPre_routed : Cert.Pre_routed.Facts] (m : (ℓ : Loc Cert.Kernel4.nD Cert.Kernel4.τ Cert.Kernel4.sig) → Buf (Elt Bits) ℓ) : Prop :=
  ∀ c : Dev Cert.Kernel4.nD,
    (Cert.Pre_routed.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5)) (m ((c.tc : Thread Cert.Kernel4.nD Cert.Kernel4.τ).loc Cert.Kernel4.main_arg6))) = (fun _ => 1#1)

def Pre_Kernel4Ideal [hPre_routed : Cert.Pre_routed.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_routed.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_routed [hPre_routed : Cert.Pre_routed.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_routed.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))) = (fun _ => 1#1)

def Pre_Kernel5 [hPre_routed : Cert.Pre_routed.Facts] (m : (ℓ : Loc Cert.Kernel5.nD Cert.Kernel5.τ Cert.Kernel5.sig) → Buf (Elt Bits) ℓ) : Prop :=
  ∀ c : Dev Cert.Kernel5.nD,
    (Cert.Pre_routed.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5)) (m ((c.tc : Thread Cert.Kernel5.nD Cert.Kernel5.τ).loc Cert.Kernel5.main_arg6))) = (fun _ => 1#1)

def Pre_Kernel5Ideal [hPre_routed : Cert.Pre_routed.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_routed.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_routed [hPre_routed : Cert.Pre_routed.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_routed.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))) = (fun _ => 1#1)

def Pre_Kernel6 [hPre_routed : Cert.Pre_routed.Facts] (m : (ℓ : Loc Cert.Kernel6.nD Cert.Kernel6.τ Cert.Kernel6.sig) → Buf (Elt Bits) ℓ) : Prop :=
  ∀ c : Dev Cert.Kernel6.nD,
    (Cert.Pre_routed.fn (F := Bits) (m ((c.tc : Thread Cert.Kernel6.nD Cert.Kernel6.τ).loc Cert.Kernel6.main_arg0)) (m ((c.tc : Thread Cert.Kernel6.nD Cert.Kernel6.τ).loc Cert.Kernel6.main_arg1)) (m ((c.tc : Thread Cert.Kernel6.nD Cert.Kernel6.τ).loc Cert.Kernel6.main_arg2)) (m ((c.tc : Thread Cert.Kernel6.nD Cert.Kernel6.τ).loc Cert.Kernel6.main_arg3)) (m ((c.tc : Thread Cert.Kernel6.nD Cert.Kernel6.τ).loc Cert.Kernel6.main_arg4)) (m ((c.tc : Thread Cert.Kernel6.nD Cert.Kernel6.τ).loc Cert.Kernel6.main_arg5)) (m ((c.tc : Thread Cert.Kernel6.nD Cert.Kernel6.τ).loc Cert.Kernel6.main_arg6))) = (fun _ => 1#1)

def Pre_Kernel6Ideal [hPre_routed : Cert.Pre_routed.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_routed.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_routed [hPre_routed : Cert.Pre_routed.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_routed.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite_scores [hKernel2Ideal : Cert.Kernel2Ideal.Facts] [hPre_finite_scores : Cert.Pre_finite_scores.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_scores m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite_scores [hReference2Ideal : Cert.Reference2Ideal.Facts] [hPre_finite_scores : Cert.Pre_finite_scores.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_scores m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] [hPre_routed : Cert.Pre_routed.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] [hPre_routed : Cert.Pre_routed.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_routed [hReference3Ideal : Cert.Reference3Ideal.Facts] [hPre_routed : Cert.Pre_routed.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_routed m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] [hPre_routed : Cert.Pre_routed.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] [hPre_routed : Cert.Pre_routed.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Reference4Ideal_pre_routed [hReference4Ideal : Cert.Reference4Ideal.Facts] [hPre_routed : Cert.Pre_routed.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_routed m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] [hPre_routed : Cert.Pre_routed.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] [hPre_routed : Cert.Pre_routed.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Reference5Ideal_pre_routed [hReference5Ideal : Cert.Reference5Ideal.Facts] [hPre_routed : Cert.Pre_routed.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_routed m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] [hPre_routed : Cert.Pre_routed.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] [hPre_routed : Cert.Pre_routed.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Reference6Ideal_pre_routed [hReference6Ideal : Cert.Reference6Ideal.Facts] [hPre_routed : Cert.Pre_routed.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_routed m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite_scores [hKernel2Ideal : Cert.Kernel2Ideal.Facts] [hReference2Ideal : Cert.Reference2Ideal.Facts] [hPre_finite_scores : Cert.Pre_finite_scores.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_scores m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v13)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v38) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] [hPre_routed : Cert.Pre_routed.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v62) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] [hPre_routed : Cert.Pre_routed.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v62) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] [hPre_routed : Cert.Pre_routed.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v62) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] [hPre_routed : Cert.Pre_routed.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v62) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v1_0)) (v1 : (c : Dev Cert.Kernel7Ideal.nD) → Buf (Elt Ideal) ((c.tc : Thread Cert.Kernel7Ideal.nD Cert.Kernel7Ideal.τ).loc Cert.Kernel7Ideal.main_v1_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1_0) = v0 c
          ∧ r.2.mem ((c.tc : Thread Cert.Kernel7Ideal.nD Cert.Kernel7Ideal.τ).loc Cert.Kernel7Ideal.main_v1_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v60) = v0 c
          ∧ r.2.mem ((c.tc : Thread Cert.Reference7Ideal.nD Cert.Reference7Ideal.τ).loc Cert.Reference7Ideal.main_v62) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_inputs : Cert.Pre_finite_inputs.Facts) (hPre_finite_scores : Cert.Pre_finite_scores.Facts) (hPre_routed : Cert.Pre_routed.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Kernel2Ideal_pre_finite_scores (hKernel2Ideal := hKernel2Ideal) (hPre_finite_scores := hPre_finite_scores)
    ∧ quiescent_Reference2Ideal (hReference2Ideal := hReference2Ideal)
    ∧ quiescent_Reference2Ideal_pre_finite_scores (hReference2Ideal := hReference2Ideal) (hPre_finite_scores := hPre_finite_scores)
    ∧ quiescent_Kernel3 (hKernel3 := hKernel3) (hPre_routed := hPre_routed)
    ∧ quiescent_Kernel3Ideal (hKernel3Ideal := hKernel3Ideal) (hPre_routed := hPre_routed)
    ∧ quiescent_Reference3Ideal (hReference3Ideal := hReference3Ideal)
    ∧ quiescent_Reference3Ideal_pre_routed (hReference3Ideal := hReference3Ideal) (hPre_routed := hPre_routed)
    ∧ quiescent_Kernel4 (hKernel4 := hKernel4) (hPre_routed := hPre_routed)
    ∧ quiescent_Kernel4Ideal (hKernel4Ideal := hKernel4Ideal) (hPre_routed := hPre_routed)
    ∧ quiescent_Reference4Ideal (hReference4Ideal := hReference4Ideal)
    ∧ quiescent_Reference4Ideal_pre_routed (hReference4Ideal := hReference4Ideal) (hPre_routed := hPre_routed)
    ∧ quiescent_Kernel5 (hKernel5 := hKernel5) (hPre_routed := hPre_routed)
    ∧ quiescent_Kernel5Ideal (hKernel5Ideal := hKernel5Ideal) (hPre_routed := hPre_routed)
    ∧ quiescent_Reference5Ideal (hReference5Ideal := hReference5Ideal)
    ∧ quiescent_Reference5Ideal_pre_routed (hReference5Ideal := hReference5Ideal) (hPre_routed := hPre_routed)
    ∧ quiescent_Kernel6 (hKernel6 := hKernel6) (hPre_routed := hPre_routed)
    ∧ quiescent_Kernel6Ideal (hKernel6Ideal := hKernel6Ideal) (hPre_routed := hPre_routed)
    ∧ quiescent_Reference6Ideal (hReference6Ideal := hReference6Ideal)
    ∧ quiescent_Reference6Ideal_pre_routed (hReference6Ideal := hReference6Ideal) (hPre_routed := hPre_routed)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal_pre_finite_scores (hKernel2Ideal := hKernel2Ideal) (hReference2Ideal := hReference2Ideal) (hPre_finite_scores := hPre_finite_scores)
    ∧ preserves_Kernel3_Kernel3Ideal
    ∧ algebraic_Kernel3Ideal_Reference3Ideal (hKernel3Ideal := hKernel3Ideal) (hReference3Ideal := hReference3Ideal) (hPre_routed := hPre_routed)
    ∧ preserves_Kernel4_Kernel4Ideal
    ∧ algebraic_Kernel4Ideal_Reference4Ideal (hKernel4Ideal := hKernel4Ideal) (hReference4Ideal := hReference4Ideal) (hPre_routed := hPre_routed)
    ∧ preserves_Kernel5_Kernel5Ideal
    ∧ algebraic_Kernel5Ideal_Reference5Ideal (hKernel5Ideal := hKernel5Ideal) (hReference5Ideal := hReference5Ideal) (hPre_routed := hPre_routed)
    ∧ preserves_Kernel6_Kernel6Ideal
    ∧ algebraic_Kernel6Ideal_Reference6Ideal (hKernel6Ideal := hKernel6Ideal) (hReference6Ideal := hReference6Ideal) (hPre_routed := hPre_routed)
    ∧ preserves_Kernel7_Kernel7Ideal
    ∧ algebraic_Kernel7Ideal_Reference7Ideal (hKernel7Ideal := hKernel7Ideal) (hReference7Ideal := hReference7Ideal)
-- ==== Pre_finite_inputs.lean ====
abbrev S2x8x16640x128 : Shape := ⟨4, ![2, 8, 16640, 128]⟩
abbrev S1x4x64 : Shape := ⟨3, ![1, 4, 64]⟩
abbrev S1x128 : Shape := ⟨2, ![1, 128]⟩
abbrev S_ : Shape := ⟨0, ![]⟩

class Facts : Prop where
  bcast_S_S2x8x16640x128 : S_.BroadcastsInDim S2x8x16640x128 (![] : Fin 0 → Fin S2x8x16640x128.rank)
  bcast_S_S1x4x64 : S_.BroadcastsInDim S1x4x64 (![] : Fin 0 → Fin S1x4x64.rank)
  reducesTo_S1x4x64_S_d0_1_2 : S1x4x64.ReducesTo [0, 1, 2] S_
  h_S_ : 0 < S_.numel

variable [Facts]

def fn {F : FTy → Type} [FloatOps F] (main_arg0 : FVec F S2x8x16640x128 .f32) (main_arg1 : FVec F S2x8x16640x128 .f32) (main_arg2 : FVec F S2x8x16640x128 .f32) (main_arg3 : FVec F S1x4x64 .f32) (main_arg4 : FVec F S1x128 .f32) : IVec S2x8x16640x128 1 :=
  let main_v0 : FVec F S2x8x16640x128 .f32 := Host.absf main_arg0
  let main_cst : FVec F S_ .f32 := constant S_ .f32 0x7F800000#32
  let main_v1 : FVec F S2x8x16640x128 .f32 := broadcastInDim S2x8x16640x128 ![] bcast_S_S2x8x16640x128 main_cst
  let main_v2 : IVec S2x8x16640x128 1 := cmpf .olt main_v0 main_v1
  let main_v3 : FVec F S2x8x16640x128 .f32 := Host.absf main_arg1
  let main_cst_0 : FVec F S_ .f32 := constant S_ .f32 0x7F800000#32
  let main_v4 : FVec F S2x8x16640x128 .f32 := broadcastInDim S2x8x16640x128 ![] bcast_S_S2x8x16640x128 main_cst_0
  let main_v5 : IVec S2x8x16640x128 1 := cmpf .olt main_v3 main_v4
  let main_v6 : IVec S2x8x16640x128 1 := andi main_v2 main_v5
  let main_v7 : FVec F S2x8x16640x128 .f32 := Host.absf main_arg2
  let main_cst_1 : FVec F S_ .f32 := constant S_ .f32 0x7F800000#32
  let main_v8 : FVec F S2x8x16640x128 .f32 := broadcastInDim S2x8x16640x128 ![] bcast_S_S2x8x16640x128 main_cst_1
  let main_v9 : IVec S2x8x16640x128 1 := cmpf .olt main_v7 main_v8
  let main_v10 : IVec S2x8x16640x128 1 := andi main_v6 main_v9
  let main_v11 : FVec F S1x4x64 .f32 := Host.absf main_arg3
  let main_cst_2 : FVec F S_ .f32 := constant S_ .f32 0x7F800000#32
  let main_v12 : FVec F S1x4x64 .f32 := broadcastInDim S1x4x64 ![] bcast_S_S1x4x64 main_cst_2
  let main_v13 : IVec S1x4x64 1 := cmpf .olt main_v11 main_v12
  let main_c : IVec S_ 1 := constantI S_ 1 1#1
  let main_v14 : IVec S_ 1 := (fun x v => Host.reduce IntOp.andi x v reducesTo_S1x4x64_S_d0_1_2 h_S_) main_v13 main_c
  let main_v15 : IVec S2x8x16640x128 1 := broadcastInDim S2x8x16640x128 ![] bcast_S_S2x8x16640x128 main_v14
  let main_v16 : IVec S2x8x16640x128 1 := andi main_v10 main_v15
  main_v16
-- ==== Pre_finite_scores.lean ====
abbrev S2x8x16640x128 : Shape := ⟨4, ![2, 8, 16640, 128]⟩
abbrev S2x2x16640x128 : Shape := ⟨4, ![2, 2, 16640, 128]⟩
abbrev S_ : Shape := ⟨0, ![]⟩

class Facts : Prop where
  bcast_S_S2x8x16640x128 : S_.BroadcastsInDim S2x8x16640x128 (![] : Fin 0 → Fin S2x8x16640x128.rank)
  reducesTo_S2x8x16640x128_S_d0_1_2_3 : S2x8x16640x128.ReducesTo [0, 1, 2, 3] S_
  h_S_ : 0 < S_.numel
  bcast_S_S2x2x16640x128 : S_.BroadcastsInDim S2x2x16640x128 (![] : Fin 0 → Fin S2x2x16640x128.rank)
  reducesTo_S2x2x16640x128_S_d0_1_2_3 : S2x2x16640x128.ReducesTo [0, 1, 2, 3] S_

variable [Facts]

def fn {F : FTy → Type} [FloatOps F] (main_arg0 : FVec F S2x8x16640x128 .f32) (main_arg1 : FVec F S2x2x16640x128 .f32) (main_arg2 : FVec F S2x2x16640x128 .f32) : IVec S_ 1 :=
  let main_v0 : FVec F S2x8x16640x128 .f32 := Host.absf main_arg0
  let main_cst : FVec F S_ .f32 := constant S_ .f32 0x7F800000#32
  let main_v1 : FVec F S2x8x16640x128 .f32 := broadcastInDim S2x8x16640x128 ![] bcast_S_S2x8x16640x128 main_cst
  let main_v2 : IVec S2x8x16640x128 1 := cmpf .olt main_v0 main_v1
  let main_c : IVec S_ 1 := constantI S_ 1 1#1
  let main_v3 : IVec S_ 1 := (fun x v => Host.reduce IntOp.andi x v reducesTo_S2x8x16640x128_S_d0_1_2_3 h_S_) main_v2 main_c
  let main_v4 : FVec F S2x2x16640x128 .f32 := Host.absf main_arg1
  let main_cst_0 : FVec F S_ .f32 := constant S_ .f32 0x7F800000#32
  let main_v5 : FVec F S2x2x16640x128 .f32 := broadcastInDim S2x2x16640x128 ![] bcast_S_S2x2x16640x128 main_cst_0
  let main_v6 : IVec S2x2x16640x128 1 := cmpf .olt main_v4 main_v5
  let main_c_1 : IVec S_ 1 := constantI S_ 1 1#1
  let main_v7 : IVec S_ 1 := (fun x v => Host.reduce IntOp.andi x v reducesTo_S2x2x16640x128_S_d0_1_2_3 h_S_) main_v6 main_c_1
  let main_v8 : IVec S_ 1 := andi main_v3 main_v7
  main_v8
-- ==== Pre_routed.lean ====
abbrev S292 : Shape := ⟨1, ![292]⟩
abbrev S1 : Shape := ⟨1, ![1]⟩
abbrev S1196032x128 : Shape := ⟨2, ![1196032, 128]⟩
abbrev S4x32x1024x2048 : Shape := ⟨4, ![4, 32, 1024, 2048]⟩
abbrev S32x1x2048 : Shape := ⟨3, ![32, 1, 2048]⟩
abbrev S4x32x1024x1024 : Shape := ⟨4, ![4, 32, 1024, 1024]⟩
abbrev S32x1x1024 : Shape := ⟨3, ![32, 1, 1024]⟩
abbrev S_ : Shape := ⟨0, ![]⟩

class Facts : Prop where
  bcast_S_S292 : S_.BroadcastsInDim S292 (![] : Fin 0 → Fin S292.rank)
  bcast_S_S1 : S_.BroadcastsInDim S1 (![] : Fin 0 → Fin S1.rank)
  reducesTo_S1_S_d0 : S1.ReducesTo [0] S_
  h_S_ : 0 < S_.numel

variable [Facts]

def fn {F : FTy → Type} [FloatOps F] (main_arg0 : IVec S292 32) (main_arg1 : IVec S1 32) (main_arg2 : FVec F S1196032x128 .f32) (main_arg3 : FVec F S4x32x1024x2048 .f32) (main_arg4 : FVec F S32x1x2048 .f32) (main_arg5 : FVec F S4x32x1024x1024 .f32) (main_arg6 : FVec F S32x1x1024 .f32) : IVec S292 1 :=
  let main_c : IVec S_ 32 := constantI S_ 32 0#32
  let main_v0 : IVec S292 32 := broadcastInDim S292 ![] bcast_S_S292 main_c
  let main_v1 : IVec S292 1 := cmpi .sge main_arg0 main_v0
  let main_c_0 : IVec S_ 32 := constantI S_ 32 32#32
  let main_v2 : IVec S292 32 := broadcastInDim S292 ![] bcast_S_S292 main_c_0
  let main_v3 : IVec S292 1 := cmpi .slt main_arg0 main_v2
  let main_v4 : IVec S292 1 := andi main_v1 main_v3
  let main_c_1 : IVec S_ 32 := constantI S_ 32 1#32
  let main_v5 : IVec S1 32 := broadcastInDim S1 ![] bcast_S_S1 main_c_1
  let main_v6 : IVec S1 1 := cmpi .sge main_arg1 main_v5
  let main_c_2 : IVec S_ 32 := constantI S_ 32 292#32
  let main_v7 : IVec S1 32 := broadcastInDim S1 ![] bcast_S_S1 main_c_2
  let main_v8 : IVec S1 1 := cmpi .sle main_arg1 main_v7
  let main_v9 : IVec S1 1 := andi main_v6 main_v8
  let main_c_3 : IVec S_ 1 := constantI S_ 1 1#1
  let main_v10 : IVec S_ 1 := (fun x v => Host.reduce IntOp.andi x v reducesTo_S1_S_d0 h_S_) main_v9 main_c_3
  let main_v11 : IVec S292 1 := broadcastInDim S292 ![] bcast_S_S292 main_v10
  let main_v12 : IVec S292 1 := andi main_v4 main_v11
  main_v12
-- ==== Kernel.lean ====
abbrev S2x8x16640x128 : Shape := ⟨4, ![2, 8, 16640, 128]⟩
abbrev S1x4x64 : Shape := ⟨3, ![1, 4, 64]⟩
abbrev S1x128 : Shape := ⟨2, ![1, 128]⟩
abbrev S_ : Shape := ⟨0, ![]⟩
abbrev S2x8x16640x256 : Shape := ⟨4, ![2, 8, 16640, 256]⟩
abbrev S4x64 : Shape := ⟨2, ![4, 64]⟩
abbrev S128 : Shape := ⟨1, ![128]⟩
abbrev S2x16640x1024 : Shape := ⟨3, ![2, 16640, 1024]⟩
abbrev S1x1x256x128 : Shape := ⟨4, ![1, 1, 256, 128]⟩
abbrev S1x1x16640x128 : Shape := ⟨4, ![1, 1, 16640, 128]⟩
abbrev S1x1x16640x256 : Shape := ⟨4, ![1, 1, 16640, 256]⟩
abbrev S1x256x128 : Shape := ⟨3, ![1, 256, 128]⟩
abbrev S512x3328 : Shape := ⟨2, ![512, 3328]⟩
abbrev S256x1 : Shape := ⟨2, ![256, 1]⟩
abbrev S256x256 : Shape := ⟨2, ![256, 256]⟩
abbrev S256x128 : Shape := ⟨2, ![256, 128]⟩
abbrev S512x128 : Shape := ⟨2, ![512, 128]⟩
abbrev S1x1x256x256 : Shape := ⟨4, ![1, 1, 256, 256]⟩
abbrev S256 : Shape := ⟨1, ![256]⟩
abbrev S1x1x3328x128 : Shape := ⟨4, ![1, 1, 3328, 128]⟩
abbrev S3328x128 : Shape := ⟨2, ![3328, 128]⟩
abbrev S1x1x3328x256 : Shape := ⟨4, ![1, 1, 3328, 256]⟩
abbrev S3328x256 : Shape := ⟨2, ![3328, 256]⟩
abbrev S256x3328 : Shape := ⟨2, ![256, 3328]⟩
abbrev S1x64 : Shape := ⟨2, ![1, 64]⟩
abbrev S1 : Shape := ⟨1, ![1]⟩
abbrev S1x1 : Shape := ⟨2, ![1, 1]⟩

abbrev nBuf : Space → Nat
  | .hbm => 29
  | .vmem => 14
  | .smem => 0
  | _ => 0

abbrev bufTy : (tb : Table) → Fin (tcTables nBuf tb) → BufTy
  | .hbm, ⟨0, _⟩ => ⟨S2x8x16640x128, .f32⟩
  | .hbm, ⟨1, _⟩ => ⟨S2x8x16640x128, .f32⟩
  | .hbm, ⟨2, _⟩ => ⟨S2x8x16640x128, .f32⟩
  | .hbm, ⟨3, _⟩ => ⟨S1x4x64, .f32⟩
  | .hbm, ⟨4, _⟩ => ⟨S1x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S2x8x16640x128, .f32⟩
  | .hbm, ⟨10, _⟩ => ⟨S2x8x16640x128, .f32⟩
  | .hbm, ⟨11, _⟩ => ⟨S2x8x16640x128, .bf16⟩
  | .hbm, ⟨12, _⟩ => ⟨S2x8x16640x128, .bf16⟩
  | .hbm, ⟨13, _⟩ => ⟨S2x8x16640x128, .bf16⟩
  | .hbm, ⟨14, _⟩ => ⟨S2x8x16640x128, .i32⟩
  | .hbm, ⟨15, _⟩ => ⟨S_, .i32⟩
  | .hbm, ⟨16, _⟩ => ⟨S2x8x16640x128, .i32⟩
  | .hbm, ⟨17, _⟩ => ⟨S2x8x16640x128, .i1⟩
  | .hbm, ⟨18, _⟩ => ⟨S_, .f32⟩
  | .hbm, ⟨19, _⟩ => ⟨S_, .f32⟩
  | .hbm, ⟨20, _⟩ => ⟨S2x8x16640x128, .f32⟩
  | .hbm, ⟨21, _⟩ => ⟨S2x8x16640x128, .f32⟩
  | .hbm, ⟨22, _⟩ => ⟨S2x8x16640x128, .f32⟩
  | .hbm, ⟨23, _⟩ => ⟨S2x8x16640x128, .bf16⟩
  | .hbm, ⟨24, _⟩ => ⟨S2x8x16640x256, .bf16⟩
  | .hbm, ⟨25, _⟩ => ⟨S4x64, .f32⟩
  | .hbm, ⟨26, _⟩ => ⟨S128, .f32⟩
  | .hbm, ⟨27, _⟩ => ⟨S1x128, .f32⟩
  | .hbm, ⟨28, _⟩ => ⟨S2x16640x1024, .bf16⟩
  | .local _ .vmem, ⟨0, _⟩ => ⟨S1x1x256x128, .bf16⟩
  | .local _ .vmem, ⟨1, _⟩ => ⟨S1x1x256x128, .bf16⟩
  | .local _ .vmem, ⟨2, _⟩ => ⟨S1x1x16640x128, .bf16⟩
  | .local _ .vmem, ⟨3, _⟩ => ⟨S1x1x16640x256, .bf16⟩
  | .local _ .vmem, ⟨4, _⟩ => ⟨S4x64, .f32⟩
  | .local _ .vmem, ⟨5, _⟩ => ⟨S1x128, .f32⟩
  | .local _ .vmem, ⟨6, _⟩ => ⟨S1x256x128, .bf16⟩
  | .local _ .vmem, ⟨7, _⟩ => ⟨S1x256x128, .bf16⟩
  | .local _ .vmem, ⟨8, _⟩ => ⟨S512x3328, .f32⟩
  | .local _ .vmem, ⟨9, _⟩ => ⟨S512x3328, .f32⟩
  | .local _ .vmem, ⟨10, _⟩ => ⟨S256x1, .f32⟩
  | .local _ .vmem, ⟨11, _⟩ => ⟨S256x256, .f32⟩
  | .local _ .vmem, ⟨12, _⟩ => ⟨S256x1, .f32⟩
  | .local _ .vmem, ⟨13, _⟩ => ⟨S256x256, .f32⟩
  | _, _ => ⟨S2x8x16640x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨3, ![2, 8, 65], ![false, false, false]⟩

def k0_cond2 (i : grid0.Coords) : BitVec 1 :=
  let arg2 : BitVec 32 := BitVec.ofNat 32 (i 2).val
  let c1_i32 : BitVec 32 := 1#32
  let v10 : BitVec 1 := Scalar.cmpi .slt arg2 c1_i32
  let v_true : BitVec 1 := 1#1
  let v30 : BitVec 1 := Scalar.xori v10 v_true
  let v31 : BitVec 32 := Scalar.extui v30
  let c0_i32_16 : BitVec 32 := 0#32
  let v32 : BitVec 1 := Scalar.cmpi .ne v31 c0_i32_16
  v32

def k0_mult1 : BitVec 32 :=
  let c0_i32_38 : BitVec 32 := 0#32
  c0_i32_38
@[reducible] def k0_t1_loop : Scf.Loop 32 :=
  let c0_i32_45 : BitVec 32 := 0#32
  let c2_i32 : BitVec 32 := 2#32
  let v89 : BitVec 32 := Scalar.addi c0_i32_45 c2_i32
  let c1_i32_46 : BitVec 32 := 1#32
  ⟨c0_i32_45, v89, c1_i32_46⟩
def k0_mult2 (k0_t1 : Fin k0_t1_loop.trips) : BitVec 32 :=
  let c2_i32_74 : BitVec 32 := 2#32
  let c0_i32_45 : BitVec 32 := 0#32
  let c1_i32_46 : BitVec 32 := 1#32
  let arg15 : BitVec 32 := Scf.iv c0_i32_45 c1_i32_46 k0_t1
  let v138 : BitVec 32 := Scalar.muli c2_i32_74 arg15
  let c1_i32_75 : BitVec 32 := 1#32
  let v139 : BitVec 32 := Scalar.addi v138 c1_i32_75
  let c3328_i32 : BitVec 32 := 3328#32
  let v141 : BitVec 32 := Scalar.muli v139 c3328_i32
  v141
def k0_off1 (k0_t1 : Fin k0_t1_loop.trips) (c1_i32_75 : BitVec 32) : Fin 4 → Nat :=
  let c0_77 : Index := 0#32
  let c0_78 : Index := 0#32
  let c2_i32_74 : BitVec 32 := 2#32
  let c0_i32_45 : BitVec 32 := 0#32
  let c1_i32_46 : BitVec 32 := 1#32
  let arg15 : BitVec 32 := Scf.iv c0_i32_45 c1_i32_46 k0_t1
  let v138 : BitVec 32 := Scalar.muli c2_i32_74 arg15
  let v139 : BitVec 32 := Scalar.addi v138 c1_i32_75
  let c3328_i32 : BitVec 32 := 3328#32
  let v141 : BitVec 32 := Scalar.muli v139 c3328_i32
  let v142 : BitVec 32 := v141
  let v143 : Index := Scalar.indexCast v142
  let c0_79 : Index := 0#32
  ![0, 0, v143.toNat, 0]
def k0_mult3 (k0_t1 : Fin k0_t1_loop.trips) : BitVec 32 :=
  let c2_i32_76 : BitVec 32 := 2#32
  let c0_i32_45 : BitVec 32 := 0#32
  let c1_i32_46 : BitVec 32 := 1#32
  let arg15 : BitVec 32 := Scf.iv c0_i32_45 c1_i32_46 k0_t1
  let v140 : BitVec 32 := Scalar.muli c2_i32_76 arg15
  let c3328_i32_83 : BitVec 32 := 3328#32
  let v150 : BitVec 32 := Scalar.muli v140 c3328_i32_83
  v150
def k0_off2 (k0_t1 : Fin k0_t1_loop.trips) : Fin 4 → Nat :=
  let c0_84 : Index := 0#32
  let c0_85 : Index := 0#32
  let c2_i32_76 : BitVec 32 := 2#32
  let c0_i32_45 : BitVec 32 := 0#32
  let c1_i32_46 : BitVec 32 := 1#32
  let arg15 : BitVec 32 := Scf.iv c0_i32_45 c1_i32_46 k0_t1
  let v140 : BitVec 32 := Scalar.muli c2_i32_76 arg15
  let c3328_i32_83 : BitVec 32 := 3328#32
  let v150 : BitVec 32 := Scalar.muli v140 c3328_i32_83
  let v151 : BitVec 32 := v150
  let v152 : Index := Scalar.indexCast v151
  let c0_86 : Index := 0#32
  ![0, 0, v152.toNat, 0]
def k0_mult4 (k0_t1 : Fin k0_t1_loop.trips) : BitVec 32 :=
  let c2_i32_111 : BitVec 32 := 2#32
  let c0_i32_45 : BitVec 32 := 0#32
  let c1_i32_46 : BitVec 32 := 1#32
  let arg15 : BitVec 32 := Scf.iv c0_i32_45 c1_i32_46 k0_t1
  let v199 : BitVec 32 := Scalar.muli c2_i32_111 arg15
  let c2_i32_112 : BitVec 32 := 2#32
  let v200 : BitVec 32 := Scalar.addi v199 c2_i32_112
  let c3328_i32_115 : BitVec 32 := 3328#32
  let v203 : BitVec 32 := Scalar.muli v200 c3328_i32_115
  v203
def k0_mult5 (k0_t1 : Fin k0_t1_loop.trips) : BitVec 32 :=
  let c2_i32_113 : BitVec 32 := 2#32
  let c0_i32_45 : BitVec 32 := 0#32
  let c1_i32_46 : BitVec 32 := 1#32
  let arg15 : BitVec 32 := Scf.iv c0_i32_45 c1_i32_46 k0_t1
  let v201 : BitVec 32 := Scalar.muli c2_i32_113 arg15
  let c1_i32_114 : BitVec 32 := 1#32
  let v202 : BitVec 32 := Scalar.addi v201 c1_i32_114
  let c3328_i32_122 : BitVec 32 := 3328#32
  let v212 : BitVec 32 := Scalar.muli v202 c3328_i32_122
  v212
def k0_off3 (k0_t1 : Fin k0_t1_loop.trips) : Fin 4 → Nat :=
  let c0_123 : Index := 0#32
  let c0_124 : Index := 0#32
  let c2_i32_113 : BitVec 32 := 2#32
  let c0_i32_45 : BitVec 32 := 0#32
  let c1_i32_46 : BitVec 32 := 1#32
  let arg15 : BitVec 32 := Scf.iv c0_i32_45 c1_i32_46 k0_t1
  let v201 : BitVec 32 := Scalar.muli c2_i32_113 arg15
  let c1_i32_114 : BitVec 32 := 1#32
  let v202 : BitVec 32 := Scalar.addi v201 c1_i32_114
  let c3328_i32_122 : BitVec 32 := 3328#32
  let v212 : BitVec 32 := Scalar.muli v202 c3328_i32_122
  let v213 : BitVec 32 := v212
  let v214 : Index := Scalar.indexCast v213
  let c0_125 : Index := 0#32
  ![0, 0, v214.toNat, 0]
def k0_mult6 : BitVec 32 :=
  let c13312_i32 : BitVec 32 := 13312#32
  c13312_i32
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S1x1x16640x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, false]

abbrev stage0_2 : Fin 1 → Memref sig .tc .vmem S1x1x16640x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S2x8x16640x128 : Shape := ⟨4, ![2, 8, 16640, 128]⟩
abbrev S1x4x64 : Shape := ⟨3, ![1, 4, 64]⟩
abbrev S1x128 : Shape := ⟨2, ![1, 128]⟩
abbrev S4x64 : Shape := ⟨2, ![4, 64]⟩
abbrev S1x64 : Shape := ⟨2, ![1, 64]⟩
abbrev S64 : Shape := ⟨1, ![64]⟩
abbrev S_ : Shape := ⟨0, ![]⟩
abbrev S2x8x16640x64 : Shape := ⟨4, ![2, 8, 16640, 64]⟩
abbrev S2x8x256x64 : Shape := ⟨4, ![2, 8, 256, 64]⟩
abbrev S2x8x256x128 : Shape := ⟨4, ![2, 8, 256, 128]⟩
abbrev S2x8x256x256 : Shape := ⟨4, ![2, 8, 256, 256]⟩
abbrev S2x8x256 : Shape := ⟨3, ![2, 8, 256]⟩
abbrev S2x8x256x1 : Shape := ⟨4, ![2, 8, 256, 1]⟩
abbrev S2x8x16384x64 : Shape := ⟨4, ![2, 8, 16384, 64]⟩
abbrev S2x8x16384x16640 : Shape := ⟨4, ![2, 8, 16384, 16640]⟩
abbrev S2x8x16384 : Shape := ⟨3, ![2, 8, 16384]⟩
abbrev S2x8x16384x1 : Shape := ⟨4, ![2, 8, 16384, 1]⟩
abbrev S2x8x16384x128 : Shape := ⟨4, ![2, 8, 16384, 128]⟩
abbrev S128 : Shape := ⟨1, ![128]⟩
abbrev S1x1x1x128 : Shape := ⟨4, ![1, 1, 1, 128]⟩
abbrev S2x256x8x128 : Shape := ⟨4, ![2, 256, 8, 128]⟩
abbrev S2x256x1024 : Shape := ⟨3, ![2, 256, 1024]⟩
abbrev S2x16384x8x128 : Shape := ⟨4, ![2, 16384, 8, 128]⟩
abbrev S2x16384x1024 : Shape := ⟨3, ![2, 16384, 1024]⟩
abbrev S2x16640x1024 : Shape := ⟨3, ![2, 16640, 1024]⟩

abbrev nBuf : Space → Nat
  | .hbm => 162
  | .vmem => 0
  | .smem => 0
  | _ => 0

abbrev hbmTy0_0 (i : Nat) : BufTy := match i % 128 with
  | 0 => ⟨S2x8x16640x128, .f32⟩
  | 1 => ⟨S2x8x16640x128, .f32⟩
  | 2 => ⟨S2x8x16640x128, .f32⟩
  | 3 => ⟨S1x4x64, .f32⟩
  | 4 => ⟨S1x128, .f32⟩
  | 5 => ⟨S4x64, .f32⟩
  | 6 => ⟨S1x64, .f32⟩
  | 7 => ⟨S64, .f32⟩
  | 8 => ⟨S1x64, .f32⟩
  | 9 => ⟨S64, .f32⟩
  | 10 => ⟨S64, .f32⟩
  | 11 => ⟨S_, .f32⟩
  | 12 => ⟨S_, .f32⟩
  | 13 => ⟨S_, .f32⟩
  | 14 => ⟨S1x64, .f32⟩
  | 15 => ⟨S64, .f32⟩
  | 16 => ⟨S1x64, .f32⟩
  | 17 => ⟨S64, .f32⟩
  | 18 => ⟨S64, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S2x8x16640x64, .f32⟩
  | 26 => ⟨S2x8x16640x64, .f32⟩
  | 27 => ⟨S2x8x16640x64, .f32⟩
  | 28 => ⟨S2x8x16640x64, .f32⟩
  | 29 => ⟨S2x8x256x64, .f32⟩
  | 30 => ⟨S2x8x256x64, .f32⟩
  | 31 => ⟨S2x8x256x64, .f32⟩
  | 32 => ⟨S2x8x256x64, .f32⟩
  | 33 => ⟨S2x8x256x128, .f32⟩
  | 34 => ⟨S2x8x256x256, .f32⟩
  | 35 => ⟨S_, .f32⟩
  | 36 => ⟨S2x8x256x256, .f32⟩
  | 37 => ⟨S2x8x256x256, .f32⟩
  | 38 => ⟨S_, .f32⟩
  | 39 => ⟨S2x8x256, .f32⟩
  | 40 => ⟨S_, .f32⟩
  | 41 => ⟨S2x8x256, .f32⟩
  | 42 => ⟨S2x8x256, .f32⟩
  | 43 => ⟨S2x8x256x1, .f32⟩
  | 44 => ⟨S2x8x256x256, .f32⟩
  | 45 => ⟨S2x8x256x256, .f32⟩
  | 46 => ⟨S2x8x256x256, .f32⟩
  | 47 => ⟨S_, .f32⟩
  | 48 => ⟨S2x8x256, .f32⟩
  | 49 => ⟨S2x8x256x1, .f32⟩
  | 50 => ⟨S2x8x256x256, .f32⟩
  | 51 => ⟨S2x8x256x256, .f32⟩
  | 52 => ⟨S2x8x256x256, .f32⟩
  | 53 => ⟨S_, .f32⟩
  | 54 => ⟨S2x8x256x256, .f32⟩
  | 55 => ⟨S2x8x256x256, .f32⟩
  | 56 => ⟨S_, .f32⟩
  | 57 => ⟨S2x8x256, .f32⟩
  | 58 => ⟨S_, .f32⟩
  | 59 => ⟨S2x8x256, .f32⟩
  | 60 => ⟨S2x8x256, .f32⟩
  | 61 => ⟨S2x8x256x1, .f32⟩
  | 62 => ⟨S2x8x256x256, .f32⟩
  | 63 => ⟨S2x8x256x256, .f32⟩
  | 64 => ⟨S2x8x256x256, .f32⟩
  | 65 => ⟨S_, .f32⟩
  | 66 => ⟨S2x8x256, .f32⟩
  | 67 => ⟨S2x8x256x1, .f32⟩
  | 68 => ⟨S2x8x256x256, .f32⟩
  | 69 => ⟨S2x8x256x256, .f32⟩
  | 70 => ⟨S2x8x256x256, .f32⟩
  | 71 => ⟨S2x8x256x256, .f32⟩
  | 72 => ⟨S2x8x256x256, .f32⟩
  | 73 => ⟨S2x8x256x128, .f32⟩
  | 74 => ⟨S2x8x16384x64, .f32⟩
  | 75 => ⟨S2x8x16384x64, .f32⟩
  | 76 => ⟨S2x8x16384x16640, .f32⟩
  | 77 => ⟨S_, .f32⟩
  | 78 => ⟨S2x8x16384x16640, .f32⟩
  | 79 => ⟨S2x8x16384x16640, .f32⟩
  | 80 => ⟨S_, .f32⟩
  | 81 => ⟨S2x8x16384, .f32⟩
  | 82 => ⟨S_, .f32⟩
  | 83 => ⟨S2x8x16384, .f32⟩
  | 84 => ⟨S2x8x16384, .f32⟩
  | 85 => ⟨S2x8x16384x1, .f32⟩
  | 86 => ⟨S2x8x16384x16640, .f32⟩
  | 87 => ⟨S2x8x16384x16640, .f32⟩
  | 88 => ⟨S2x8x16384x16640, .f32⟩
  | 89 => ⟨S_, .f32⟩
  | 90 => ⟨S2x8x16384, .f32⟩
  | 91 => ⟨S2x8x16384x1, .f32⟩
  | 92 => ⟨S2x8x16384x16640, .f32⟩
  | 93 => ⟨S2x8x16384x16640, .f32⟩
  | 94 => ⟨S2x8x16384x16640, .f32⟩
  | 95 => ⟨S_, .f32⟩
  | 96 => ⟨S2x8x16384x16640, .f32⟩
  | 97 => ⟨S2x8x16384x16640, .f32⟩
  | 98 => ⟨S_, .f32⟩
  | 99 => ⟨S2x8x16384, .f32⟩
  | 100 => ⟨S_, .f32⟩
  | 101 => ⟨S2x8x16384, .f32⟩
  | 102 => ⟨S2x8x16384, .f32⟩
  | 103 => ⟨S2x8x16384x1, .f32⟩
  | 104 => ⟨S2x8x16384x16640, .f32⟩
  | 105 => ⟨S2x8x16384x16640, .f32⟩
  | 106 => ⟨S2x8x16384x16640, .f32⟩
  | 107 => ⟨S_, .f32⟩
  | 108 => ⟨S2x8x16384, .f32⟩
  | 109 => ⟨S2x8x16384x1, .f32⟩
  | 110 => ⟨S2x8x16384x16640, .f32⟩
  | 111 => ⟨S2x8x16384x16640, .f32⟩
  | 112 => ⟨S2x8x16384x16640, .f32⟩
  | 113 => ⟨S2x8x16384x16640, .f32⟩
  | 114 => ⟨S2x8x16384x16640, .f32⟩
  | 115 => ⟨S2x8x16384x128, .f32⟩
  | 116 => ⟨S128, .f32⟩
  | 117 => ⟨S2x8x256x128, .f32⟩
  | 118 => ⟨S_, .f32⟩
  | 119 => ⟨S2x8x256, .f32⟩
  | 120 => ⟨S2x8x256x1, .f32⟩
  | 121 => ⟨S_, .f32⟩
  | 122 => ⟨S2x8x256x1, .f32⟩
  | 123 => ⟨S2x8x256x1, .f32⟩
  | 124 => ⟨S_, .f32⟩
  | 125 => ⟨S2x8x256x1, .f32⟩
  | 126 => ⟨S2x8x256x1, .f32⟩
  | 127 => ⟨S2x8x256x1, .f32⟩
  | _ => ⟨S2x8x16640x128, .f32⟩

abbrev hbmTy0_1 (i : Nat) : BufTy := match i % 128 with
  | 0 => ⟨S2x8x256x128, .f32⟩
  | 1 => ⟨S2x8x256x128, .f32⟩
  | 2 => ⟨S1x1x1x128, .f32⟩
  | 3 => ⟨S2x8x256x128, .f32⟩
  | 4 => ⟨S2x8x256x128, .f32⟩
  | 5 => ⟨S_, .f32⟩
  | 6 => ⟨S2x8x256x128, .f32⟩
  | 7 => ⟨S2x8x256x128, .f32⟩
  | 8 => ⟨S2x256x8x128, .f32⟩
  | 9 => ⟨S2x256x1024, .f32⟩
  | 10 => ⟨S128, .f32⟩
  | 11 => ⟨S2x8x16384x128, .f32⟩
  | 12 => ⟨S_, .f32⟩
  | 13 => ⟨S2x8x16384, .f32⟩
  | 14 => ⟨S2x8x16384x1, .f32⟩
  | 15 => ⟨S_, .f32⟩
  | 16 => ⟨S2x8x16384x1, .f32⟩
  | 17 => ⟨S2x8x16384x1, .f32⟩
  | 18 => ⟨S_, .f32⟩
  | 19 => ⟨S2x8x16384x1, .f32⟩
  | 20 => ⟨S2x8x16384x1, .f32⟩
  | 21 => ⟨S2x8x16384x1, .f32⟩
  | 22 => ⟨S2x8x16384x128, .f32⟩
  | 23 => ⟨S2x8x16384x128, .f32⟩
  | 24 => ⟨S1x1x1x128, .f32⟩
  | 25 => ⟨S2x8x16384x128, .f32⟩
  | 26 => ⟨S2x8x16384x128, .f32⟩
  | 27 => ⟨S_, .f32⟩
  | 28 => ⟨S2x8x16384x128, .f32⟩
  | 29 => ⟨S2x8x16384x128, .f32⟩
  | 30 => ⟨S2x16384x8x128, .f32⟩
  | 31 => ⟨S2x16384x1024, .f32⟩
  | 32 => ⟨S2x16640x1024, .f32⟩
  | 33 => ⟨S2x16640x1024, .bf16⟩
  | _ => ⟨S2x8x16640x128, .f32⟩

abbrev hbmTy (i : Nat) : BufTy := match i / 128 with
  | 0 => hbmTy0_0 i
  | 1 => hbmTy0_1 i
  | _ => ⟨S2x8x16640x128, .f32⟩

abbrev bufTy : (tb : Table) → Fin (tcTables nBuf tb) → BufTy
  | .hbm, ⟨i, _⟩ => hbmTy i
  | _, _ => ⟨S2x8x16640x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_6 : Ref sig .tc := ⟨.hbm, 53, rfl⟩
abbrev main_v41 : Ref sig .tc := ⟨.hbm, 54, rfl⟩
abbrev main_v42 : Ref sig .tc := ⟨.hbm, 55, rfl⟩
abbrev main_cst_7 : Ref sig .tc := ⟨.hbm, 56, rfl⟩
abbrev main_v43 : Ref sig .tc := ⟨.hbm, 57, rfl⟩
abbrev main_cst_8 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_9 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_10 : Ref sig .tc := ⟨.hbm, 77, rfl⟩
abbrev main_v61 : Ref sig .tc := ⟨.hbm, 78, rfl⟩
abbrev main_v62 : Ref sig .tc := ⟨.hbm, 79, rfl⟩
abbrev main_cst_11 : Ref sig .tc := ⟨.hbm, 80, rfl⟩
abbrev main_v63 : Ref sig .tc := ⟨.hbm, 81, rfl⟩
abbrev main_cst_12 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_13 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_cst_14 : Ref sig .tc := ⟨.hbm, 95, rfl⟩
abbrev main_v75 : Ref sig .tc := ⟨.hbm, 96, rfl⟩
abbrev main_v76 : Ref sig .tc := ⟨.hbm, 97, rfl⟩
abbrev main_cst_15 : Ref sig .tc := ⟨.hbm, 98, rfl⟩
abbrev main_v77 : Ref sig .tc := ⟨.hbm, 99, rfl⟩
abbrev main_cst_16 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_cst_17 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_cst_18 : Ref sig .tc := ⟨.hbm, 118, rfl⟩
abbrev main_v94 : Ref sig .tc := ⟨.hbm, 119, rfl⟩
abbrev main_v95 : Ref sig .tc := ⟨.hbm, 120, rfl⟩
abbrev main_cst_19 : Ref sig .tc := ⟨.hbm, 121, rfl⟩
abbrev main_v96 : Ref sig .tc := ⟨.hbm, 122, rfl⟩
abbrev main_v97 : Ref sig .tc := ⟨.hbm, 123, rfl⟩
abbrev main_cst_20 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_cst_21 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_cst_22 : Ref sig .tc := ⟨.hbm, 140, rfl⟩
abbrev main_v112 : Ref sig .tc := ⟨.hbm, 141, rfl⟩
abbrev main_v113 : Ref sig .tc := ⟨.hbm, 142, rfl⟩
abbrev main_cst_23 : Ref sig .tc := ⟨.hbm, 143, rfl⟩
abbrev main_v114 : Ref sig .tc := ⟨.hbm, 144, rfl⟩
abbrev main_v115 : Ref sig .tc := ⟨.hbm, 145, rfl⟩
abbrev main_cst_24 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_cst_25 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩

abbrev nD : Nat := 1
abbrev τ : Topo := Topo.v7x

variable {F : FTy → Type} [FloatOps F]
-- ==== Kernel2.lean ====
abbrev S2x8x16640x128 : Shape := ⟨4, ![2, 8, 16640, 128]⟩
abbrev S2x2x16640x128 : Shape := ⟨4, ![2, 2, 16640, 128]⟩
abbrev S_ : Shape := ⟨0, ![]⟩
abbrev S2x2x16640x256 : Shape := ⟨4, ![2, 2, 16640, 256]⟩
abbrev S2x16640x1024 : Shape := ⟨3, ![2, 16640, 1024]⟩
abbrev S1x4x256x128 : Shape := ⟨4, ![1, 4, 256, 128]⟩
abbrev S1x1x16640x128 : Shape := ⟨4, ![1, 1, 16640, 128]⟩
abbrev S1x1x16640x256 : Shape := ⟨4, ![1, 1, 16640, 256]⟩
abbrev S1x256x512 : Shape := ⟨3, ![1, 256, 512]⟩
abbrev S1024x3328 : Shape := ⟨2, ![1024, 3328]⟩
abbrev S256x1 : Shape := ⟨2, ![256, 1]⟩
abbrev S256x256 : Shape := ⟨2, ![256, 256]⟩
abbrev S1x1x256x128 : Shape := ⟨4, ![1, 1, 256, 128]⟩
abbrev S256x128 : Shape := ⟨2, ![256, 128]⟩
abbrev S1x1x256x256 : Shape := ⟨4, ![1, 1, 256, 256]⟩
abbrev S256 : Shape := ⟨1, ![256]⟩
abbrev S1x1x3328x128 : Shape := ⟨4, ![1, 1, 3328, 128]⟩
abbrev S3328x128 : Shape := ⟨2, ![3328, 128]⟩
abbrev S256x3328 : Shape := ⟨2, ![256, 3328]⟩
abbrev S1x1x3328x256 : Shape := ⟨4, ![1, 1, 3328, 256]⟩
abbrev S3328x256 : Shape := ⟨2, ![3328, 256]⟩
abbrev S1x256x128 : Shape := ⟨3, ![1, 256, 128]⟩

abbrev nBuf : Space → Nat
  | .hbm => 24
  | .vmem => 16
  | .smem => 0
  | _ => 0

abbrev bufTy : (tb : Table) → Fin (tcTables nBuf tb) → BufTy
  | .hbm, ⟨0, _⟩ => ⟨S2x8x16640x128, .f32⟩
  | .hbm, ⟨1, _⟩ => ⟨S2x2x16640x128, .f32⟩
  | .hbm, ⟨2, _⟩ => ⟨S2x2x16640x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S2x8x16640x128, .f32⟩
  | .hbm, ⟨8, _⟩ => ⟨S2x8x16640x128, .f32⟩
  | .hbm, ⟨9, _⟩ => ⟨S2x8x16640x128, .bf16⟩
  | .hbm, ⟨10, _⟩ => ⟨S2x2x16640x128, .bf16⟩
  | .hbm, ⟨11, _⟩ => ⟨S2x2x16640x128, .bf16⟩
  | .hbm, ⟨12, _⟩ => ⟨S2x2x16640x128, .i32⟩
  | .hbm, ⟨13, _⟩ => ⟨S_, .i32⟩
  | .hbm, ⟨14, _⟩ => ⟨S2x2x16640x128, .i32⟩
  | .hbm, ⟨15, _⟩ => ⟨S2x2x16640x128, .i1⟩
  | .hbm, ⟨16, _⟩ => ⟨S_, .f32⟩
  | .hbm, ⟨17, _⟩ => ⟨S_, .f32⟩
  | .hbm, ⟨18, _⟩ => ⟨S2x2x16640x128, .f32⟩
  | .hbm, ⟨19, _⟩ => ⟨S2x2x16640x128, .f32⟩
  | .hbm, ⟨20, _⟩ => ⟨S2x2x16640x128, .f32⟩
  | .hbm, ⟨21, _⟩ => ⟨S2x2x16640x128, .bf16⟩
  | .hbm, ⟨22, _⟩ => ⟨S2x2x16640x256, .bf16⟩
  | .hbm, ⟨23, _⟩ => ⟨S2x16640x1024, .bf16⟩
  | .local _ .vmem, ⟨0, _⟩ => ⟨S1x4x256x128, .bf16⟩
  | .local _ .vmem, ⟨1, _⟩ => ⟨S1x4x256x128, .bf16⟩
  | .local _ .vmem, ⟨2, _⟩ => ⟨S1x1x16640x128, .bf16⟩
  | .local _ .vmem, ⟨3, _⟩ => ⟨S1x1x16640x256, .bf16⟩
  | .local _ .vmem, ⟨4, _⟩ => ⟨S1x256x512, .bf16⟩
  | .local _ .vmem, ⟨5, _⟩ => ⟨S1x256x512, .bf16⟩
  | .local _ .vmem, ⟨6, _⟩ => ⟨S1024x3328, .f32⟩
  | .local _ .vmem, ⟨7, _⟩ => ⟨S1024x3328, .f32⟩
  | .local _ .vmem, ⟨8, _⟩ => ⟨S256x1, .f32⟩
  | .local _ .vmem, ⟨9, _⟩ => ⟨S256x256, .f32⟩
  | .local _ .vmem, ⟨10, _⟩ => ⟨S256x1, .f32⟩
  | .local _ .vmem, ⟨11, _⟩ => ⟨S256x256, .f32⟩
  | .local _ .vmem, ⟨12, _⟩ => ⟨S256x1, .f32⟩
  | .local _ .vmem, ⟨13, _⟩ => ⟨S256x256, .f32⟩
  | .local _ .vmem, ⟨14, _⟩ => ⟨S256x1, .f32⟩
  | .local _ .vmem, ⟨15, _⟩ => ⟨S256x256, .f32⟩
  | _, _ => ⟨S2x8x16640x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_scratch8 : Ref sig .tc := ⟨.vmem, 14, rfl⟩
abbrev cc0_scratch9 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![2, 2, 65], ![false, false, false]⟩

def k0_cond2 (i : grid0.Coords) : BitVec 1 :=
  let arg2 : BitVec 32 := BitVec.ofNat 32 (i 2).val
  let c1_i32 : BitVec 32 := 1#32
  let v8 : BitVec 1 := Scalar.cmpi .slt arg2 c1_i32
  let v_true : BitVec 1 := 1#1
  let v43 : BitVec 1 := Scalar.xori v8 v_true
  let v44 : BitVec 32 := Scalar.extui v43
  let c0_i32_35 : BitVec 32 := 0#32
  let v45 : BitVec 1 := Scalar.cmpi .ne v44 c0_i32_35
  v45

def k0_mult1 : BitVec 32 :=
  let c0_i32_61 : BitVec 32 := 0#32
  c0_i32_61
@[reducible] def k0_t1_loop : Scf.Loop 32 :=
  let c0_i32_75 : BitVec 32 := 0#32
  let c2_i32 : BitVec 32 := 2#32
  let v98 : BitVec 32 := Scalar.addi c0_i32_75 c2_i32
  let c1_i32_76 : BitVec 32 := 1#32
  ⟨c0_i32_75, v98, c1_i32_76⟩
def k0_mult2 (k0_t1 : Fin k0_t1_loop.trips) : BitVec 32 :=
  let c2_i32_129 : BitVec 32 := 2#32
  let c0_i32_75 : BitVec 32 := 0#32
  let c1_i32_76 : BitVec 32 := 1#32
  let arg17 : BitVec 32 := Scf.iv c0_i32_75 c1_i32_76 k0_t1
  let v191 : BitVec 32 := Scalar.muli c2_i32_129 arg17
  let c1_i32_130 : BitVec 32 := 1#32
  let v192 : BitVec 32 := Scalar.addi v191 c1_i32_130
  let c3328_i32 : BitVec 32 := 3328#32
  let v194 : BitVec 32 := Scalar.muli v192 c3328_i32
  v194
def k0_off1 (k0_t1 : Fin k0_t1_loop.trips) (c1_i32_130 : BitVec 32) : Fin 4 → Nat :=
  let c0_132 : Index := 0#32
  let c0_133 : Index := 0#32
  let c2_i32_129 : BitVec 32 := 2#32
  let c0_i32_75 : BitVec 32 := 0#32
  let c1_i32_76 : BitVec 32 := 1#32
  let arg17 : BitVec 32 := Scf.iv c0_i32_75 c1_i32_76 k0_t1
  let v191 : BitVec 32 := Scalar.muli c2_i32_129 arg17
  let v192 : BitVec 32 := Scalar.addi v191 c1_i32_130
  let c3328_i32 : BitVec 32 := 3328#32
  let v194 : BitVec 32 := Scalar.muli v192 c3328_i32
  let v195 : BitVec 32 := v194
  let v196 : Index := Scalar.indexCast v195
  let c0_134 : Index := 0#32
  ![0, 0, v196.toNat, 0]
def k0_mult3 (k0_t1 : Fin k0_t1_loop.trips) : BitVec 32 :=
  let c2_i32_131 : BitVec 32 := 2#32
  let c0_i32_75 : BitVec 32 := 0#32
  let c1_i32_76 : BitVec 32 := 1#32
  let arg17 : BitVec 32 := Scf.iv c0_i32_75 c1_i32_76 k0_t1
  let v193 : BitVec 32 := Scalar.muli c2_i32_131 arg17
  let c3328_i32_147 : BitVec 32 := 3328#32
  let v215 : BitVec 32 := Scalar.muli v193 c3328_i32_147
  v215
def k0_off2 (k0_t1 : Fin k0_t1_loop.trips) : Fin 4 → Nat :=
  let c0_148 : Index := 0#32
  let c0_149 : Index := 0#32
  let c2_i32_131 : BitVec 32 := 2#32
  let c0_i32_75 : BitVec 32 := 0#32
  let c1_i32_76 : BitVec 32 := 1#32
  let arg17 : BitVec 32 := Scf.iv c0_i32_75 c1_i32_76 k0_t1
  let v193 : BitVec 32 := Scalar.muli c2_i32_131 arg17
  let c3328_i32_147 : BitVec 32 := 3328#32
  let v215 : BitVec 32 := Scalar.muli v193 c3328_i32_147
  let v216 : BitVec 32 := v215
  let v217 : Index := Scalar.indexCast v216
  let c0_150 : Index := 0#32
  ![0, 0, v217.toNat, 0]
def k0_mult4 (k0_t1 : Fin k0_t1_loop.trips) : BitVec 32 :=
  let c2_i32_199 : BitVec 32 := 2#32
  let c0_i32_75 : BitVec 32 := 0#32
  let c1_i32_76 : BitVec 32 := 1#32
  let arg17 : BitVec 32 := Scf.iv c0_i32_75 c1_i32_76 k0_t1
  let v308 : BitVec 32 := Scalar.muli c2_i32_199 arg17
  let c2_i32_200 : BitVec 32 := 2#32
  let v309 : BitVec 32 := Scalar.addi v308 c2_i32_200
  let c3328_i32_203 : BitVec 32 := 3328#32
  let v312 : BitVec 32 := Scalar.muli v309 c3328_i32_203
  v312
def k0_mult5 (k0_t1 : Fin k0_t1_loop.trips) : BitVec 32 :=
  let c2_i32_201 : BitVec 32 := 2#32
  let c0_i32_75 : BitVec 32 := 0#32
  let c1_i32_76 : BitVec 32 := 1#32
  let arg17 : BitVec 32 := Scf.iv c0_i32_75 c1_i32_76 k0_t1
  let v310 : BitVec 32 := Scalar.muli c2_i32_201 arg17
  let c1_i32_202 : BitVec 32 := 1#32
  let v311 : BitVec 32 := Scalar.addi v310 c1_i32_202
  let c3328_i32_219 : BitVec 32 := 3328#32
  let v333 : BitVec 32 := Scalar.muli v311 c3328_i32_219
  v333
def k0_off3 (k0_t1 : Fin k0_t1_loop.trips) : Fin 4 → Nat :=
  let c0_220 : Index := 0#32
  let c0_221 : Index := 0#32
  let c2_i32_201 : BitVec 32 := 2#32
  let c0_i32_75 : BitVec 32 := 0#32
  let c1_i32_76 : BitVec 32 := 1#32
  let arg17 : BitVec 32 := Scf.iv c0_i32_75 c1_i32_76 k0_t1
  let v310 : BitVec 32 := Scalar.muli c2_i32_201 arg17
  let c1_i32_202 : BitVec 32 := 1#32
  let v311 : BitVec 32 := Scalar.addi v310 c1_i32_202
  let c3328_i32_219 : BitVec 32 := 3328#32
  let v333 : BitVec 32 := Scalar.muli v311 c3328_i32_219
  let v334 : BitVec 32 := v333
  let v335 : Index := Scalar.indexCast v334
  let c0_222 : Index := 0#32
  ![0, 0, v335.toNat, 0]
def k0_mult6 : BitVec 32 :=
  let c13312_i32 : BitVec 32 := 13312#32
  c13312_i32
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x4x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S1x1x16640x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, false]

abbrev stage0_2 : Fin 1 → Memref sig .tc .vmem S1x1x16640x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference2Ideal.lean ====
abbrev S2x8x16640x128 : Shape := ⟨4, ![2, 8, 16640, 128]⟩
abbrev S2x2x16640x128 : Shape := ⟨4, ![2, 2, 16640, 128]⟩
abbrev S2x2x4x16640x128 : Shape := ⟨5, ![2, 2, 4, 16640, 128]⟩
abbrev S2x2x4x256x128 : Shape := ⟨5, ![2, 2, 4, 256, 128]⟩
abbrev S2x2x256x128 : Shape := ⟨4, ![2, 2, 256, 128]⟩
abbrev S2x2x4x256x256 : Shape := ⟨5, ![2, 2, 4, 256, 256]⟩
abbrev S_ : Shape := ⟨0, ![]⟩
abbrev S2x2x4x256 : Shape := ⟨4, ![2, 2, 4, 256]⟩
abbrev S2x2x4x256x1 : Shape := ⟨5, ![2, 2, 4, 256, 1]⟩
abbrev S2x2x4x16384x128 : Shape := ⟨5, ![2, 2, 4, 16384, 128]⟩
abbrev S2x2x4x16384x16640 : Shape := ⟨5, ![2, 2, 4, 16384, 16640]⟩
abbrev S2x2x4x16384 : Shape := ⟨4, ![2, 2, 4, 16384]⟩
abbrev S2x2x4x16384x1 : Shape := ⟨5, ![2, 2, 4, 16384, 1]⟩
abbrev S2x16640x2x4x128 : Shape := ⟨5, ![2, 16640, 2, 4, 128]⟩
abbrev S2x16640x1024 : Shape := ⟨3, ![2, 16640, 1024]⟩

abbrev nBuf : Space → Nat
  | .hbm => 50
  | .vmem => 0
  | .smem => 0
  | _ => 0

abbrev bufTy : (tb : Table) → Fin (tcTables nBuf tb) → BufTy
  | .hbm, ⟨0, _⟩ => ⟨S2x8x16640x128, .f32⟩
  | .hbm, ⟨1, _⟩ => ⟨S2x2x16640x128, .f32⟩
  | .hbm, ⟨2, _⟩ => ⟨S2x2x16640x128, .f32⟩
  | .hbm, ⟨3, _⟩ => ⟨S2x2x4x16640x128, .f32⟩
  | .hbm, ⟨4, _⟩ => ⟨S2x2x4x256x128, .f32⟩
  | .hbm, ⟨5, _⟩ => ⟨S2x2x256x128, .f32⟩
  | .hbm, ⟨6, _⟩ => ⟨S2x2x256x128, .f32⟩
  | .hbm, ⟨7, _⟩ => ⟨S2x2x4x256x256, .f32⟩
  | .hbm, ⟨8, _⟩ => ⟨S_, .f32⟩
  | .hbm, ⟨9, _⟩ => ⟨S2x2x4x256x256, .f32⟩
  | .hbm, ⟨10, _⟩ => ⟨S2x2x4x256x256, .f32⟩
  | .hbm, ⟨11, _⟩ => ⟨S_, .f32⟩
  | .hbm, ⟨12, _⟩ => ⟨S2x2x4x256, .f32⟩
  | .hbm, ⟨13, _⟩ => ⟨S_, .f32⟩
  | .hbm, ⟨14, _⟩ => ⟨S2x2x4x256, .f32⟩
  | .hbm, ⟨15, _⟩ => ⟨S2x2x4x256, .f32⟩
  | .hbm, ⟨16, _⟩ => ⟨S2x2x4x256x1, .f32⟩
  | .hbm, ⟨17, _⟩ => ⟨S2x2x4x256x256, .f32⟩
  | .hbm, ⟨18, _⟩ => ⟨S2x2x4x256x256, .f32⟩
  | .hbm, ⟨19, _⟩ => ⟨S2x2x4x256x256, .f32⟩
  | .hbm, ⟨20, _⟩ => ⟨S_, .f32⟩
  | .hbm, ⟨21, _⟩ => ⟨S2x2x4x256, .f32⟩
  | .hbm, ⟨22, _⟩ => ⟨S2x2x4x256x1, .f32⟩
  | .hbm, ⟨23, _⟩ => ⟨S2x2x4x256x256, .f32⟩
  | .hbm, ⟨24, _⟩ => ⟨S2x2x4x256x256, .f32⟩
  | .hbm, ⟨25, _⟩ => ⟨S2x2x4x256x128, .f32⟩
  | .hbm, ⟨26, _⟩ => ⟨S2x2x4x16384x128, .f32⟩
  | .hbm, ⟨27, _⟩ => ⟨S2x2x4x16384x16640, .f32⟩
  | .hbm, ⟨28, _⟩ => ⟨S_, .f32⟩
  | .hbm, ⟨29, _⟩ => ⟨S2x2x4x16384x16640, .f32⟩
  | .hbm, ⟨30, _⟩ => ⟨S2x2x4x16384x16640, .f32⟩
  | .hbm, ⟨31, _⟩ => ⟨S_, .f32⟩
  | .hbm, ⟨32, _⟩ => ⟨S2x2x4x16384, .f32⟩
  | .hbm, ⟨33, _⟩ => ⟨S_, .f32⟩
  | .hbm, ⟨34, _⟩ => ⟨S2x2x4x16384, .f32⟩
  | .hbm, ⟨35, _⟩ => ⟨S2x2x4x16384, .f32⟩
  | .hbm, ⟨36, _⟩ => ⟨S2x2x4x16384x1, .f32⟩
  | .hbm, ⟨37, _⟩ => ⟨S2x2x4x16384x16640, .f32⟩
  | .hbm, ⟨38, _⟩ => ⟨S2x2x4x16384x16640, .f32⟩
  | .hbm, ⟨39, _⟩ => ⟨S2x2x4x16384x16640, .f32⟩
  | .hbm, ⟨40, _⟩ => ⟨S_, .f32⟩
  | .hbm, ⟨41, _⟩ => ⟨S2x2x4x16384, .f32⟩
  | .hbm, ⟨42, _⟩ => ⟨S2x2x4x16384x1, .f32⟩
  | .hbm, ⟨43, _⟩ => ⟨S2x2x4x16384x16640, .f32⟩
  | .hbm, ⟨44, _⟩ => ⟨S2x2x4x16384x16640, .f32⟩
  | .hbm, ⟨45, _⟩ => ⟨S2x2x4x16384x128, .f32⟩
  | .hbm, ⟨46, _⟩ => ⟨S2x2x4x16640x128, .f32⟩
  | .hbm, ⟨47, _⟩ => ⟨S2x16640x2x4x128, .f32⟩
  | .hbm, ⟨48, _⟩ => ⟨S2x16640x1024, .f32⟩
  | .hbm, ⟨49, _⟩ => ⟨S2x16640x1024, .bf16⟩
  | _, _ => ⟨S2x8x16640x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_6 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== Kernel3.lean ====
abbrev S292 : Shape := ⟨1, ![292]⟩
abbrev S1 : Shape := ⟨1, ![1]⟩
abbrev S1196032x128 : Shape := ⟨2, ![1196032, 128]⟩
abbrev S4x32x1024x2048 : Shape := ⟨4, ![4, 32, 1024, 2048]⟩
abbrev S32x1x2048 : Shape := ⟨3, ![32, 1, 2048]⟩
abbrev S4x32x1024x1024 : Shape := ⟨4, ![4, 32, 1024, 1024]⟩
abbrev S32x1x1024 : Shape := ⟨3, ![32, 1, 1024]⟩
abbrev S4096x128 : Shape := ⟨2, ![4096, 128]⟩
abbrev S1x1x1024x2048 : Shape := ⟨4, ![1, 1, 1024, 2048]⟩
abbrev S1x1x2048 : Shape := ⟨3, ![1, 1, 2048]⟩
abbrev S1x1x1024x1024 : Shape := ⟨4, ![1, 1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S512x128 : Shape := ⟨2, ![512, 128]⟩
abbrev S512x1024 : Shape := ⟨2, ![512, 1024]⟩
abbrev S1024x512 : Shape := ⟨2, ![1024, 512]⟩
abbrev S512x512 : Shape := ⟨2, ![512, 512]⟩
abbrev S1x1x512 : Shape := ⟨3, ![1, 1, 512]⟩
abbrev S1x512 : Shape := ⟨2, ![1, 512]⟩
abbrev S1x1024 : Shape := ⟨2, ![1, 1024]⟩

abbrev nBuf : Space → Nat
  | .hbm => 6
  | .vmem => 14
  | .smem => 2
  | _ => 0

abbrev bufTy : (tb : Table) → Fin (tcTables nBuf tb) → BufTy
  | .hbm, ⟨0, _⟩ => ⟨S1196032x128, .f32⟩
  | .hbm, ⟨1, _⟩ => ⟨S4x32x1024x2048, .f32⟩
  | .hbm, ⟨2, _⟩ => ⟨S32x1x2048, .f32⟩
  | .hbm, ⟨3, _⟩ => ⟨S4x32x1024x1024, .f32⟩
  | .hbm, ⟨4, _⟩ => ⟨S32x1x1024, .f32⟩
  | .hbm, ⟨5, _⟩ => ⟨S1196032x128, .f32⟩
  | .local _ .vmem, ⟨0, _⟩ => ⟨S4096x128, .f32⟩
  | .local _ .vmem, ⟨1, _⟩ => ⟨S4096x128, .f32⟩
  | .local _ .vmem, ⟨2, _⟩ => ⟨S1x1x1024x2048, .f32⟩
  | .local _ .vmem, ⟨3, _⟩ => ⟨S1x1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S4096x128, .f32⟩
  | .local _ .vmem, ⟨11, _⟩ => ⟨S4096x128, .f32⟩
  | .local _ .vmem, ⟨12, _⟩ => ⟨S1024x2048, .bf16⟩
  | .local _ .vmem, ⟨13, _⟩ => ⟨S1024x1024, .bf16⟩
  | .local _ .smem, ⟨0, _⟩ => ⟨S292, .i32⟩
  | .local _ .smem, ⟨1, _⟩ => ⟨S1, .i32⟩
  | _, _ => ⟨S1196032x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![292], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg0 : BitVec 32 := BitVec.ofNat 32 (i 0).val
  let v1 : BitVec 1 := Scalar.cmpi .slt arg0 v0
  let v14 : BitVec 32 := Scalar.extui v1
  let c0_i32_2 : BitVec 32 := 0#32
  let v15 : BitVec 1 := Scalar.cmpi .ne v14 c0_i32_2
  v15

def k0_cond3 (i : grid0.Coords) (v0 : BitVec 32) : BitVec 1 :=
  let arg0 : BitVec 32 := BitVec.ofNat 32 (i 0).val
  let v1 : BitVec 1 := Scalar.cmpi .slt arg0 v0
  let v_true : BitVec 1 := 1#1
  let v16 : BitVec 1 := Scalar.xori v1 v_true
  let v17 : BitVec 32 := Scalar.extui v16
  let c0_i32_3 : BitVec 32 := 0#32
  let v18 : BitVec 1 := Scalar.cmpi .ne v17 c0_i32_3
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S292.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S292) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S292.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S292) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S292.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S292) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S292.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S292) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S292 : Shape := ⟨1, ![292]⟩
abbrev S1 : Shape := ⟨1, ![1]⟩
abbrev S1196032x128 : Shape := ⟨2, ![1196032, 128]⟩
abbrev S4x32x1024x2048 : Shape := ⟨4, ![4, 32, 1024, 2048]⟩
abbrev S32x1x2048 : Shape := ⟨3, ![32, 1, 2048]⟩
abbrev S4x32x1024x1024 : Shape := ⟨4, ![4, 32, 1024, 1024]⟩
abbrev S32x1x1024 : Shape := ⟨3, ![32, 1, 1024]⟩
abbrev S292x512x1024 : Shape := ⟨3, ![292, 512, 1024]⟩
abbrev S1x32x1024x2048 : Shape := ⟨4, ![1, 32, 1024, 2048]⟩
abbrev S32x1024x2048 : Shape := ⟨3, ![32, 1024, 2048]⟩
abbrev S_ : Shape := ⟨0, ![]⟩
abbrev S292x1 : Shape := ⟨2, ![292, 1]⟩
abbrev S292x1024x2048 : Shape := ⟨3, ![292, 1024, 2048]⟩
abbrev S292x512x2048 : Shape := ⟨3, ![292, 512, 2048]⟩
abbrev S292x1x2048 : Shape := ⟨3, ![292, 1, 2048]⟩
abbrev S1x32x1024x1024 : Shape := ⟨4, ![1, 32, 1024, 1024]⟩
abbrev S32x1024x1024 : Shape := ⟨3, ![32, 1024, 1024]⟩
abbrev S292x1024x1024 : Shape := ⟨3, ![292, 1024, 1024]⟩
abbrev S292x1x1024 : Shape := ⟨3, ![292, 1, 1024]⟩
abbrev S292x1x1 : Shape := ⟨3, ![292, 1, 1]⟩

abbrev nBuf : Space → Nat
  | .hbm => 94
  | .vmem => 0
  | .smem => 0
  | _ => 0

abbrev bufTy : (tb : Table) → Fin (tcTables nBuf tb) → BufTy
  | .hbm, ⟨0, _⟩ => ⟨S292, .i32⟩
  | .hbm, ⟨1, _⟩ => ⟨S1, .i32⟩
  | .hbm, ⟨2, _⟩ => ⟨S1196032x128, .f32⟩
  | .hbm, ⟨3, _⟩ => ⟨S4x32x1024x2048, .f32⟩
  | .hbm, ⟨4, _⟩ => ⟨S32x1x2048, .f32⟩
  | .hbm, ⟨5, _⟩ => ⟨S4x32x1024x1024, .f32⟩
  | .hbm, ⟨6, _⟩ => ⟨S32x1x1024, .f32⟩
  | .hbm, ⟨7, _⟩ => ⟨S292x512x1024, .f32⟩
  | .hbm, ⟨8, _⟩ => ⟨S1x32x1024x2048, .f32⟩
  | .hbm, ⟨9, _⟩ => ⟨S32x1024x2048, .f32⟩
  | .hbm, ⟨10, _⟩ => ⟨S_, .i32⟩
  | .hbm, ⟨11, _⟩ => ⟨S292, .i32⟩
  | .hbm, ⟨12, _⟩ => ⟨S292, .i1⟩
  | .hbm, ⟨13, _⟩ => ⟨S_, .i32⟩
  | .hbm, ⟨14, _⟩ => ⟨S292, .i32⟩
  | .hbm, ⟨15, _⟩ => ⟨S292, .i32⟩
  | .hbm, ⟨16, _⟩ => ⟨S292, .i32⟩
  | .hbm, ⟨17, _⟩ => ⟨S292x1, .i32⟩
  | .hbm, ⟨18, _⟩ => ⟨S292x1024x2048, .f32⟩
  | .hbm, ⟨19, _⟩ => ⟨S292x512x2048, .f32⟩
  | .hbm, ⟨20, _⟩ => ⟨S_, .i32⟩
  | .hbm, ⟨21, _⟩ => ⟨S292, .i32⟩
  | .hbm, ⟨22, _⟩ => ⟨S292, .i1⟩
  | .hbm, ⟨23, _⟩ => ⟨S_, .i32⟩
  | .hbm, ⟨24, _⟩ => ⟨S292, .i32⟩
  | .hbm, ⟨25, _⟩ => ⟨S292, .i32⟩
  | .hbm, ⟨26, _⟩ => ⟨S292, .i32⟩
  | .hbm, ⟨27, _⟩ => ⟨S292x1, .i32⟩
  | .hbm, ⟨28, _⟩ => ⟨S292x1x2048, .f32⟩
  | .hbm, ⟨29, _⟩ => ⟨S292x512x2048, .f32⟩
  | .hbm, ⟨30, _⟩ => ⟨S292x512x2048, .f32⟩
  | .hbm, ⟨31, _⟩ => ⟨S292x512x1024, .f32⟩
  | .hbm, ⟨32, _⟩ => ⟨S_, .f32⟩
  | .hbm, ⟨33, _⟩ => ⟨S292x512x1024, .f32⟩
  | .hbm, ⟨34, _⟩ => ⟨S292x512x1024, .f32⟩
  | .hbm, ⟨35, _⟩ => ⟨S292x512x1024, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S292x512x1024, .f32⟩
  | .hbm, ⟨40, _⟩ => ⟨S292x512x1024, .f32⟩
  | .hbm, ⟨41, _⟩ => ⟨S_, .f32⟩
  | .hbm, ⟨42, _⟩ => ⟨S292x512x1024, .f32⟩
  | .hbm, ⟨43, _⟩ => ⟨S292x512x1024, .f32⟩
  | .hbm, ⟨44, _⟩ => ⟨S_, .f32⟩
  | .hbm, ⟨45, _⟩ => ⟨S292x512x1024, .f32⟩
  | .hbm, ⟨46, _⟩ => ⟨S292x512x1024, .f32⟩
  | .hbm, ⟨47, _⟩ => ⟨S292x512x1024, .f32⟩
  | .hbm, ⟨48, _⟩ => ⟨S292x512x1024, .f32⟩
  | .hbm, ⟨49, _⟩ => ⟨S_, .f32⟩
  | .hbm, ⟨50, _⟩ => ⟨S292x512x1024, .f32⟩
  | .hbm, ⟨51, _⟩ => ⟨S292x512x1024, .f32⟩
  | .hbm, ⟨52, _⟩ => ⟨S_, .f32⟩
  | .hbm, ⟨53, _⟩ => ⟨S292x512x1024, .f32⟩
  | .hbm, ⟨54, _⟩ => ⟨S292x512x1024, .f32⟩
  | .hbm, ⟨55, _⟩ => ⟨S292x512x1024, .f32⟩
  | .hbm, ⟨56, _⟩ => ⟨S_, .f32⟩
  | .hbm, ⟨57, _⟩ => ⟨S292x512x1024, .f32⟩
  | .hbm, ⟨58, _⟩ => ⟨S292x512x1024, .f32⟩
  | .hbm, ⟨59, _⟩ => ⟨S292x512x1024, .f32⟩
  | .hbm, ⟨60, _⟩ => ⟨S1x32x1024x1024, .f32⟩
  | .hbm, ⟨61, _⟩ => ⟨S32x1024x1024, .f32⟩
  | .hbm, ⟨62, _⟩ => ⟨S_, .i32⟩
  | .hbm, ⟨63, _⟩ => ⟨S292, .i32⟩
  | .hbm, ⟨64, _⟩ => ⟨S292, .i1⟩
  | .hbm, ⟨65, _⟩ => ⟨S_, .i32⟩
  | .hbm, ⟨66, _⟩ => ⟨S292, .i32⟩
  | .hbm, ⟨67, _⟩ => ⟨S292, .i32⟩
  | .hbm, ⟨68, _⟩ => ⟨S292, .i32⟩
  | .hbm, ⟨69, _⟩ => ⟨S292x1, .i32⟩
  | .hbm, ⟨70, _⟩ => ⟨S292x1024x1024, .f32⟩
  | .hbm, ⟨71, _⟩ => ⟨S292x512x1024, .f32⟩
  | .hbm, ⟨72, _⟩ => ⟨S_, .i32⟩
  | .hbm, ⟨73, _⟩ => ⟨S292, .i32⟩
  | .hbm, ⟨74, _⟩ => ⟨S292, .i1⟩
  | .hbm, ⟨75, _⟩ => ⟨S_, .i32⟩
  | .hbm, ⟨76, _⟩ => ⟨S292, .i32⟩
  | .hbm, ⟨77, _⟩ => ⟨S292, .i32⟩
  | .hbm, ⟨78, _⟩ => ⟨S292, .i32⟩
  | .hbm, ⟨79, _⟩ => ⟨S292x1, .i32⟩
  | .hbm, ⟨80, _⟩ => ⟨S292x1x1024, .f32⟩
  | .hbm, ⟨81, _⟩ => ⟨S292x512x1024, .f32⟩
  | .hbm, ⟨82, _⟩ => ⟨S292x512x1024, .f32⟩
  | .hbm, ⟨83, _⟩ => ⟨S292, .i32⟩
  | .hbm, ⟨84, _⟩ => ⟨S_, .i32⟩
  | .hbm, ⟨85, _⟩ => ⟨S292, .i32⟩
  | .hbm, ⟨86, _⟩ => ⟨S292, .i1⟩
  | .hbm, ⟨87, _⟩ => ⟨S292x1x1, .i1⟩
  | .hbm, ⟨88, _⟩ => ⟨S_, .f32⟩
  | .hbm, ⟨89, _⟩ => ⟨S_, .f32⟩
  | .hbm, ⟨90, _⟩ => ⟨S292x512x1024, .i1⟩
  | .hbm, ⟨91, _⟩ => ⟨S292x512x1024, .f32⟩
  | .hbm, ⟨92, _⟩ => ⟨S292x512x1024, .f32⟩
  | .hbm, ⟨93, _⟩ => ⟨S1196032x128, .f32⟩
  | _, _ => ⟨S292, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_cst_4 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_v24 : Ref sig .tc := ⟨.hbm, 43, rfl⟩
abbrev main_cst_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_6 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_8 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_c_9 : Ref sig .tc := ⟨.hbm, 62, rfl⟩
abbrev main_v39 : Ref sig .tc := ⟨.hbm, 63, rfl⟩
abbrev main_v40 : Ref sig .tc := ⟨.hbm, 64, rfl⟩
abbrev main_c_10 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_c_11 : Ref sig .tc := ⟨.hbm, 72, rfl⟩
abbrev main_v47 : Ref sig .tc := ⟨.hbm, 73, rfl⟩
abbrev main_v48 : Ref sig .tc := ⟨.hbm, 74, rfl⟩
abbrev main_c_12 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_13 : Ref sig .tc := ⟨.hbm, 88, rfl⟩
abbrev main_call1_v0 : Ref sig .tc := ⟨.hbm, 89, rfl⟩
abbrev main_call1_v1 : Ref sig .tc := ⟨.hbm, 90, rfl⟩
abbrev main_call1_v2 : Ref sig .tc := ⟨.hbm, 91, rfl⟩
abbrev main_v61 : Ref sig .tc := ⟨.hbm, 92, rfl⟩
abbrev main_v62 : Ref sig .tc := ⟨.hbm, 93, rfl⟩

abbrev nD : Nat := 1
abbrev τ : Topo := Topo.v7x

variable {F : FTy → Type} [FloatOps F]
-- ==== Kernel4.lean ====
abbrev S292 : Shape := ⟨1, ![292]⟩
abbrev S1 : Shape := ⟨1, ![1]⟩
abbrev S1196032x128 : Shape := ⟨2, ![1196032, 128]⟩
abbrev S4x32x1024x2048 : Shape := ⟨4, ![4, 32, 1024, 2048]⟩
abbrev S32x1x2048 : Shape := ⟨3, ![32, 1, 2048]⟩
abbrev S4x32x1024x1024 : Shape := ⟨4, ![4, 32, 1024, 1024]⟩
abbrev S32x1x1024 : Shape := ⟨3, ![32, 1, 1024]⟩
abbrev S4096x128 : Shape := ⟨2, ![4096, 128]⟩
abbrev S1x1x1024x2048 : Shape := ⟨4, ![1, 1, 1024, 2048]⟩
abbrev S1x1x2048 : Shape := ⟨3, ![1, 1, 2048]⟩
abbrev S1x1x1024x1024 : Shape := ⟨4, ![1, 1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S512x128 : Shape := ⟨2, ![512, 128]⟩
abbrev S512x1024 : Shape := ⟨2, ![512, 1024]⟩
abbrev S1024x512 : Shape := ⟨2, ![1024, 512]⟩
abbrev S512x512 : Shape := ⟨2, ![512, 512]⟩
abbrev S1x1x512 : Shape := ⟨3, ![1, 1, 512]⟩
abbrev S1x512 : Shape := ⟨2, ![1, 512]⟩
abbrev S1x1024 : Shape := ⟨2, ![1, 1024]⟩

abbrev nBuf : Space → Nat
  | .hbm => 6
  | .vmem => 14
  | .smem => 2
  | _ => 0

abbrev bufTy : (tb : Table) → Fin (tcTables nBuf tb) → BufTy
  | .hbm, ⟨0, _⟩ => ⟨S1196032x128, .f32⟩
  | .hbm, ⟨1, _⟩ => ⟨S4x32x1024x2048, .f32⟩
  | .hbm, ⟨2, _⟩ => ⟨S32x1x2048, .f32⟩
  | .hbm, ⟨3, _⟩ => ⟨S4x32x1024x1024, .f32⟩
  | .hbm, ⟨4, _⟩ => ⟨S32x1x1024, .f32⟩
  | .hbm, ⟨5, _⟩ => ⟨S1196032x128, .f32⟩
  | .local _ .vmem, ⟨0, _⟩ => ⟨S4096x128, .f32⟩
  | .local _ .vmem, ⟨1, _⟩ => ⟨S4096x128, .f32⟩
  | .local _ .vmem, ⟨2, _⟩ => ⟨S1x1x1024x2048, .f32⟩
  | .local _ .vmem, ⟨3, _⟩ => ⟨S1x1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S4096x128, .f32⟩
  | .local _ .vmem, ⟨11, _⟩ => ⟨S4096x128, .f32⟩
  | .local _ .vmem, ⟨12, _⟩ => ⟨S1024x2048, .bf16⟩
  | .local _ .vmem, ⟨13, _⟩ => ⟨S1024x1024, .bf16⟩
  | .local _ .smem, ⟨0, _⟩ => ⟨S292, .i32⟩
  | .local _ .smem, ⟨1, _⟩ => ⟨S1, .i32⟩
  | _, _ => ⟨S1196032x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![292], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg0 : BitVec 32 := BitVec.ofNat 32 (i 0).val
  let v1 : BitVec 1 := Scalar.cmpi .slt arg0 v0
  let v14 : BitVec 32 := Scalar.extui v1
  let c0_i32_2 : BitVec 32 := 0#32
  let v15 : BitVec 1 := Scalar.cmpi .ne v14 c0_i32_2
  v15

def k0_cond3 (i : grid0.Coords) (v0 : BitVec 32) : BitVec 1 :=
  let arg0 : BitVec 32 := BitVec.ofNat 32 (i 0).val
  let v1 : BitVec 1 := Scalar.cmpi .slt arg0 v0
  let v_true : BitVec 1 := 1#1
  let v16 : BitVec 1 := Scalar.xori v1 v_true
  let v17 : BitVec 32 := Scalar.extui v16
  let c0_i32_3 : BitVec 32 := 0#32
  let v18 : BitVec 1 := Scalar.cmpi .ne v17 c0_i32_3
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S292.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S292) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_2 (k0_off1_inb : ∀ i : grid0.Coords, ∀ a, (k0_off1 i) a + S1.size a ≤ S292.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S292) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S292.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S292) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_4 (k0_off1_inb : ∀ i : grid0.Coords, ∀ a, (k0_off1 i) a + S1.size a ≤ S292.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S292) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S292 : Shape := ⟨1, ![292]⟩
abbrev S1 : Shape := ⟨1, ![1]⟩
abbrev S1196032x128 : Shape := ⟨2, ![1196032, 128]⟩
abbrev S4x32x1024x2048 : Shape := ⟨4, ![4, 32, 1024, 2048]⟩
abbrev S32x1x2048 : Shape := ⟨3, ![32, 1, 2048]⟩
abbrev S4x32x1024x1024 : Shape := ⟨4, ![4, 32, 1024, 1024]⟩
abbrev S32x1x1024 : Shape := ⟨3, ![32, 1, 1024]⟩
abbrev S292x512x1024 : Shape := ⟨3, ![292, 512, 1024]⟩
abbrev S1x32x1024x2048 : Shape := ⟨4, ![1, 32, 1024, 2048]⟩
abbrev S32x1024x2048 : Shape := ⟨3, ![32, 1024, 2048]⟩
abbrev S_ : Shape := ⟨0, ![]⟩
abbrev S292x1 : Shape := ⟨2, ![292, 1]⟩
abbrev S292x1024x2048 : Shape := ⟨3, ![292, 1024, 2048]⟩
abbrev S292x512x2048 : Shape := ⟨3, ![292, 512, 2048]⟩
abbrev S292x1x2048 : Shape := ⟨3, ![292, 1, 2048]⟩
abbrev S1x32x1024x1024 : Shape := ⟨4, ![1, 32, 1024, 1024]⟩
abbrev S32x1024x1024 : Shape := ⟨3, ![32, 1024, 1024]⟩
abbrev S292x1024x1024 : Shape := ⟨3, ![292, 1024, 1024]⟩
abbrev S292x1x1024 : Shape := ⟨3, ![292, 1, 1024]⟩
abbrev S292x1x1 : Shape := ⟨3, ![292, 1, 1]⟩

abbrev nBuf : Space → Nat
  | .hbm => 94
  | .vmem => 0
  | .smem => 0
  | _ => 0

abbrev bufTy : (tb : Table) → Fin (tcTables nBuf tb) → BufTy
  | .hbm, ⟨0, _⟩ => ⟨S292, .i32⟩
  | .hbm, ⟨1, _⟩ => ⟨S1, .i32⟩
  | .hbm, ⟨2, _⟩ => ⟨S1196032x128, .f32⟩
  | .hbm, ⟨3, _⟩ => ⟨S4x32x1024x2048, .f32⟩
  | .hbm, ⟨4, _⟩ => ⟨S32x1x2048, .f32⟩
  | .hbm, ⟨5, _⟩ => ⟨S4x32x1024x1024, .f32⟩
  | .hbm, ⟨6, _⟩ => ⟨S32x1x1024, .f32⟩
  | .hbm, ⟨7, _⟩ => ⟨S292x512x1024, .f32⟩
  | .hbm, ⟨8, _⟩ => ⟨S1x32x1024x2048, .f32⟩
  | .hbm, ⟨9, _⟩ => ⟨S32x1024x2048, .f32⟩
  | .hbm, ⟨10, _⟩ => ⟨S_, .i32⟩
  | .hbm, ⟨11, _⟩ => ⟨S292, .i32⟩
  | .hbm, ⟨12, _⟩ => ⟨S292, .i1⟩
  | .hbm, ⟨13, _⟩ => ⟨S_, .i32⟩
  | .hbm, ⟨14, _⟩ => ⟨S292, .i32⟩
  | .hbm, ⟨15, _⟩ => ⟨S292, .i32⟩
  | .hbm, ⟨16, _⟩ => ⟨S292, .i32⟩
  | .hbm, ⟨17, _⟩ => ⟨S292x1, .i32⟩
  | .hbm, ⟨18, _⟩ => ⟨S292x1024x2048, .f32⟩
  | .hbm, ⟨19, _⟩ => ⟨S292x512x2048, .f32⟩
  | .hbm, ⟨20, _⟩ => ⟨S_, .i32⟩
  | .hbm, ⟨21, _⟩ => ⟨S292, .i32⟩
  | .hbm, ⟨22, _⟩ => ⟨S292, .i1⟩
  | .hbm, ⟨23, _⟩ => ⟨S_, .i32⟩
  | .hbm, ⟨24, _⟩ => ⟨S292, .i32⟩
  | .hbm, ⟨25, _⟩ => ⟨S292, .i32⟩
  | .hbm, ⟨26, _⟩ => ⟨S292, .i32⟩
  | .hbm, ⟨27, _⟩ => ⟨S292x1, .i32⟩
  | .hbm, ⟨28, _⟩ => ⟨S292x1x2048, .f32⟩
  | .hbm, ⟨29, _⟩ => ⟨S292x512x2048, .f32⟩
  | .hbm, ⟨30, _⟩ => ⟨S292x512x2048, .f32⟩
  | .hbm, ⟨31, _⟩ => ⟨S292x512x1024, .f32⟩
  | .hbm, ⟨32, _⟩ => ⟨S_, .f32⟩
  | .hbm, ⟨33, _⟩ => ⟨S292x512x1024, .f32⟩
  | .hbm, ⟨34, _⟩ => ⟨S292x512x1024, .f32⟩
  | .hbm, ⟨35, _⟩ => ⟨S292x512x1024, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S292x512x1024, .f32⟩
  | .hbm, ⟨40, _⟩ => ⟨S292x512x1024, .f32⟩
  | .hbm, ⟨41, _⟩ => ⟨S_, .f32⟩
  | .hbm, ⟨42, _⟩ => ⟨S292x512x1024, .f32⟩
  | .hbm, ⟨43, _⟩ => ⟨S292x512x1024, .f32⟩
  | .hbm, ⟨44, _⟩ => ⟨S_, .f32⟩
  | .hbm, ⟨45, _⟩ => ⟨S292x512x1024, .f32⟩
  | .hbm, ⟨46, _⟩ => ⟨S292x512x1024, .f32⟩
  | .hbm, ⟨47, _⟩ => ⟨S292x512x1024, .f32⟩
  | .hbm, ⟨48, _⟩ => ⟨S292x512x1024, .f32⟩
  | .hbm, ⟨49, _⟩ => ⟨S_, .f32⟩
  | .hbm, ⟨50, _⟩ => ⟨S292x512x1024, .f32⟩
  | .hbm, ⟨51, _⟩ => ⟨S292x512x1024, .f32⟩
  | .hbm, ⟨52, _⟩ => ⟨S_, .f32⟩
  | .hbm, ⟨53, _⟩ => ⟨S292x512x1024, .f32⟩
  | .hbm, ⟨54, _⟩ => ⟨S292x512x1024, .f32⟩
  | .hbm, ⟨55, _⟩ => ⟨S292x512x1024, .f32⟩
  | .hbm, ⟨56, _⟩ => ⟨S_, .f32⟩
  | .hbm, ⟨57, _⟩ => ⟨S292x512x1024, .f32⟩
  | .hbm, ⟨58, _⟩ => ⟨S292x512x1024, .f32⟩
  | .hbm, ⟨59, _⟩ => ⟨S292x512x1024, .f32⟩
  | .hbm, ⟨60, _⟩ => ⟨S1x32x1024x1024, .f32⟩
  | .hbm, ⟨61, _⟩ => ⟨S32x1024x1024, .f32⟩
  | .hbm, ⟨62, _⟩ => ⟨S_, .i32⟩
  | .hbm, ⟨63, _⟩ => ⟨S292, .i32⟩
  | .hbm, ⟨64, _⟩ => ⟨S292, .i1⟩
  | .hbm, ⟨65, _⟩ => ⟨S_, .i32⟩
  | .hbm, ⟨66, _⟩ => ⟨S292, .i32⟩
  | .hbm, ⟨67, _⟩ => ⟨S292, .i32⟩
  | .hbm, ⟨68, _⟩ => ⟨S292, .i32⟩
  | .hbm, ⟨69, _⟩ => ⟨S292x1, .i32⟩
  | .hbm, ⟨70, _⟩ => ⟨S292x1024x1024, .f32⟩
  | .hbm, ⟨71, _⟩ => ⟨S292x512x1024, .f32⟩
  | .hbm, ⟨72, _⟩ => ⟨S_, .i32⟩
  | .hbm, ⟨73, _⟩ => ⟨S292, .i32⟩
  | .hbm, ⟨74, _⟩ => ⟨S292, .i1⟩
  | .hbm, ⟨75, _⟩ => ⟨S_, .i32⟩
  | .hbm, ⟨76, _⟩ => ⟨S292, .i32⟩
  | .hbm, ⟨77, _⟩ => ⟨S292, .i32⟩
  | .hbm, ⟨78, _⟩ => ⟨S292, .i32⟩
  | .hbm, ⟨79, _⟩ => ⟨S292x1, .i32⟩
  | .hbm, ⟨80, _⟩ => ⟨S292x1x1024, .f32⟩
  | .hbm, ⟨81, _⟩ => ⟨S292x512x1024, .f32⟩
  | .hbm, ⟨82, _⟩ => ⟨S292x512x1024, .f32⟩
  | .hbm, ⟨83, _⟩ => ⟨S292, .i32⟩
  | .hbm, ⟨84, _⟩ => ⟨S_, .i32⟩
  | .hbm, ⟨85, _⟩ => ⟨S292, .i32⟩
  | .hbm, ⟨86, _⟩ => ⟨S292, .i1⟩
  | .hbm, ⟨87, _⟩ => ⟨S292x1x1, .i1⟩
  | .hbm, ⟨88, _⟩ => ⟨S_, .f32⟩
  | .hbm, ⟨89, _⟩ => ⟨S_, .f32⟩
  | .hbm, ⟨90, _⟩ => ⟨S292x512x1024, .i1⟩
  | .hbm, ⟨91, _⟩ => ⟨S292x512x1024, .f32⟩
  | .hbm, ⟨92, _⟩ => ⟨S292x512x1024, .f32⟩
  | .hbm, ⟨93, _⟩ => ⟨S1196032x128, .f32⟩
  | _, _ => ⟨S292, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_cst_4 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_v24 : Ref sig .tc := ⟨.hbm, 43, rfl⟩
abbrev main_cst_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_6 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_8 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_c_9 : Ref sig .tc := ⟨.hbm, 62, rfl⟩
abbrev main_v39 : Ref sig .tc := ⟨.hbm, 63, rfl⟩
abbrev main_v40 : Ref sig .tc := ⟨.hbm, 64, rfl⟩
abbrev main_c_10 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_c_11 : Ref sig .tc := ⟨.hbm, 72, rfl⟩
abbrev main_v47 : Ref sig .tc := ⟨.hbm, 73, rfl⟩
abbrev main_v48 : Ref sig .tc := ⟨.hbm, 74, rfl⟩
abbrev main_c_12 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_13 : Ref sig .tc := ⟨.hbm, 88, rfl⟩
abbrev main_call1_v0 : Ref sig .tc := ⟨.hbm, 89, rfl⟩
abbrev main_call1_v1 : Ref sig .tc := ⟨.hbm, 90, rfl⟩
abbrev main_call1_v2 : Ref sig .tc := ⟨.hbm, 91, rfl⟩
abbrev main_v61 : Ref sig .tc := ⟨.hbm, 92, rfl⟩
abbrev main_v62 : Ref sig .tc := ⟨.hbm, 93, rfl⟩

abbrev nD : Nat := 1
abbrev τ : Topo := Topo.v7x

variable {F : FTy → Type} [FloatOps F]
-- ==== Kernel5.lean ====
abbrev S292 : Shape := ⟨1, ![292]⟩
abbrev S1 : Shape := ⟨1, ![1]⟩
abbrev S1196032x128 : Shape := ⟨2, ![1196032, 128]⟩
abbrev S4x32x1024x2048 : Shape := ⟨4, ![4, 32, 1024, 2048]⟩
abbrev S32x1x2048 : Shape := ⟨3, ![32, 1, 2048]⟩
abbrev S4x32x1024x1024 : Shape := ⟨4, ![4, 32, 1024, 1024]⟩
abbrev S32x1x1024 : Shape := ⟨3, ![32, 1, 1024]⟩
abbrev S4096x128 : Shape := ⟨2, ![4096, 128]⟩
abbrev S1x1x1024x2048 : Shape := ⟨4, ![1, 1, 1024, 2048]⟩
abbrev S1x1x2048 : Shape := ⟨3, ![1, 1, 2048]⟩
abbrev S1x1x1024x1024 : Shape := ⟨4, ![1, 1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S512x128 : Shape := ⟨2, ![512, 128]⟩
abbrev S512x1024 : Shape := ⟨2, ![512, 1024]⟩
abbrev S1024x512 : Shape := ⟨2, ![1024, 512]⟩
abbrev S512x512 : Shape := ⟨2, ![512, 512]⟩
abbrev S1x1x512 : Shape := ⟨3, ![1, 1, 512]⟩
abbrev S1x512 : Shape := ⟨2, ![1, 512]⟩
abbrev S1x1024 : Shape := ⟨2, ![1, 1024]⟩

abbrev nBuf : Space → Nat
  | .hbm => 6
  | .vmem => 14
  | .smem => 2
  | _ => 0

abbrev bufTy : (tb : Table) → Fin (tcTables nBuf tb) → BufTy
  | .hbm, ⟨0, _⟩ => ⟨S1196032x128, .f32⟩
  | .hbm, ⟨1, _⟩ => ⟨S4x32x1024x2048, .f32⟩
  | .hbm, ⟨2, _⟩ => ⟨S32x1x2048, .f32⟩
  | .hbm, ⟨3, _⟩ => ⟨S4x32x1024x1024, .f32⟩
  | .hbm, ⟨4, _⟩ => ⟨S32x1x1024, .f32⟩
  | .hbm, ⟨5, _⟩ => ⟨S1196032x128, .f32⟩
  | .local _ .vmem, ⟨0, _⟩ => ⟨S4096x128, .f32⟩
  | .local _ .vmem, ⟨1, _⟩ => ⟨S4096x128, .f32⟩
  | .local _ .vmem, ⟨2, _⟩ => ⟨S1x1x1024x2048, .f32⟩
  | .local _ .vmem, ⟨3, _⟩ => ⟨S1x1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S4096x128, .f32⟩
  | .local _ .vmem, ⟨11, _⟩ => ⟨S4096x128, .f32⟩
  | .local _ .vmem, ⟨12, _⟩ => ⟨S1024x2048, .bf16⟩
  | .local _ .vmem, ⟨13, _⟩ => ⟨S1024x1024, .bf16⟩
  | .local _ .smem, ⟨0, _⟩ => ⟨S292, .i32⟩
  | .local _ .smem, ⟨1, _⟩ => ⟨S1, .i32⟩
  | _, _ => ⟨S1196032x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![292], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg0 : BitVec 32 := BitVec.ofNat 32 (i 0).val
  let v1 : BitVec 1 := Scalar.cmpi .slt arg0 v0
  let v14 : BitVec 32 := Scalar.extui v1
  let c0_i32_2 : BitVec 32 := 0#32
  let v15 : BitVec 1 := Scalar.cmpi .ne v14 c0_i32_2
  v15

def k0_cond3 (i : grid0.Coords) (v0 : BitVec 32) : BitVec 1 :=
  let arg0 : BitVec 32 := BitVec.ofNat 32 (i 0).val
  let v1 : BitVec 1 := Scalar.cmpi .slt arg0 v0
  let v_true : BitVec 1 := 1#1
  let v16 : BitVec 1 := Scalar.xori v1 v_true
  let v17 : BitVec 32 := Scalar.extui v16
  let c0_i32_3 : BitVec 32 := 0#32
  let v18 : BitVec 1 := Scalar.cmpi .ne v17 c0_i32_3
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S292.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S292) ![v0.toNat] S1.size (k0_off1_inb i)) numel1_S1
  let c2_i32 : BitVec 32 := 2#32
  let c0_i32 : BitVec 32 := 0#32
  let c0_i32_0 : BitVec 32 := 0#32
  let c0_i32_1 : BitVec 32 := 0#32
  ![c2_i32.toNat, v1.toNat, c0_i32.toNat, c0_i32_0.toNat]

def cc0_transform_2 (k0_off1_inb : ∀ i : grid0.Coords, ∀ a, (k0_off1 i) a + S1.size a ≤ S292.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S292) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S292.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S292) ![v0.toNat] S1.size (k0_off1_inb i)) numel1_S1
  let c2_i32 : BitVec 32 := 2#32
  let c0_i32 : BitVec 32 := 0#32
  let c0_i32_0 : BitVec 32 := 0#32
  let c0_i32_1 : BitVec 32 := 0#32
  ![c2_i32.toNat, v1.toNat, c0_i32.toNat, c0_i32_0.toNat]

def cc0_transform_4 (k0_off1_inb : ∀ i : grid0.Coords, ∀ a, (k0_off1 i) a + S1.size a ≤ S292.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S292) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S292 : Shape := ⟨1, ![292]⟩
abbrev S1 : Shape := ⟨1, ![1]⟩
abbrev S1196032x128 : Shape := ⟨2, ![1196032, 128]⟩
abbrev S4x32x1024x2048 : Shape := ⟨4, ![4, 32, 1024, 2048]⟩
abbrev S32x1x2048 : Shape := ⟨3, ![32, 1, 2048]⟩
abbrev S4x32x1024x1024 : Shape := ⟨4, ![4, 32, 1024, 1024]⟩
abbrev S32x1x1024 : Shape := ⟨3, ![32, 1, 1024]⟩
abbrev S292x512x1024 : Shape := ⟨3, ![292, 512, 1024]⟩
abbrev S1x32x1024x2048 : Shape := ⟨4, ![1, 32, 1024, 2048]⟩
abbrev S32x1024x2048 : Shape := ⟨3, ![32, 1024, 2048]⟩
abbrev S_ : Shape := ⟨0, ![]⟩
abbrev S292x1 : Shape := ⟨2, ![292, 1]⟩
abbrev S292x1024x2048 : Shape := ⟨3, ![292, 1024, 2048]⟩
abbrev S292x512x2048 : Shape := ⟨3, ![292, 512, 2048]⟩
abbrev S292x1x2048 : Shape := ⟨3, ![292, 1, 2048]⟩
abbrev S1x32x1024x1024 : Shape := ⟨4, ![1, 32, 1024, 1024]⟩
abbrev S32x1024x1024 : Shape := ⟨3, ![32, 1024, 1024]⟩
abbrev S292x1024x1024 : Shape := ⟨3, ![292, 1024, 1024]⟩
abbrev S292x1x1024 : Shape := ⟨3, ![292, 1, 1024]⟩
abbrev S292x1x1 : Shape := ⟨3, ![292, 1, 1]⟩

abbrev nBuf : Space → Nat
  | .hbm => 94
  | .vmem => 0
  | .smem => 0
  | _ => 0

abbrev bufTy : (tb : Table) → Fin (tcTables nBuf tb) → BufTy
  | .hbm, ⟨0, _⟩ => ⟨S292, .i32⟩
  | .hbm, ⟨1, _⟩ => ⟨S1, .i32⟩
  | .hbm, ⟨2, _⟩ => ⟨S1196032x128, .f32⟩
  | .hbm, ⟨3, _⟩ => ⟨S4x32x1024x2048, .f32⟩
  | .hbm, ⟨4, _⟩ => ⟨S32x1x2048, .f32⟩
  | .hbm, ⟨5, _⟩ => ⟨S4x32x1024x1024, .f32⟩
  | .hbm, ⟨6, _⟩ => ⟨S32x1x1024, .f32⟩
  | .hbm, ⟨7, _⟩ => ⟨S292x512x1024, .f32⟩
  | .hbm, ⟨8, _⟩ => ⟨S1x32x1024x2048, .f32⟩
  | .hbm, ⟨9, _⟩ => ⟨S32x1024x2048, .f32⟩
  | .hbm, ⟨10, _⟩ => ⟨S_, .i32⟩
  | .hbm, ⟨11, _⟩ => ⟨S292, .i32⟩
  | .hbm, ⟨12, _⟩ => ⟨S292, .i1⟩
  | .hbm, ⟨13, _⟩ => ⟨S_, .i32⟩
  | .hbm, ⟨14, _⟩ => ⟨S292, .i32⟩
  | .hbm, ⟨15, _⟩ => ⟨S292, .i32⟩
  | .hbm, ⟨16, _⟩ => ⟨S292, .i32⟩
  | .hbm, ⟨17, _⟩ => ⟨S292x1, .i32⟩
  | .hbm, ⟨18, _⟩ => ⟨S292x1024x2048, .f32⟩
  | .hbm, ⟨19, _⟩ => ⟨S292x512x2048, .f32⟩
  | .hbm, ⟨20, _⟩ => ⟨S_, .i32⟩
  | .hbm, ⟨21, _⟩ => ⟨S292, .i32⟩
  | .hbm, ⟨22, _⟩ => ⟨S292, .i1⟩
  | .hbm, ⟨23, _⟩ => ⟨S_, .i32⟩
  | .hbm, ⟨24, _⟩ => ⟨S292, .i32⟩
  | .hbm, ⟨25, _⟩ => ⟨S292, .i32⟩
  | .hbm, ⟨26, _⟩ => ⟨S292, .i32⟩
  | .hbm, ⟨27, _⟩ => ⟨S292x1, .i32⟩
  | .hbm, ⟨28, _⟩ => ⟨S292x1x2048, .f32⟩
  | .hbm, ⟨29, _⟩ => ⟨S292x512x2048, .f32⟩
  | .hbm, ⟨30, _⟩ => ⟨S292x512x2048, .f32⟩
  | .hbm, ⟨31, _⟩ => ⟨S292x512x1024, .f32⟩
  | .hbm, ⟨32, _⟩ => ⟨S_, .f32⟩
  | .hbm, ⟨33, _⟩ => ⟨S292x512x1024, .f32⟩
  | .hbm, ⟨34, _⟩ => ⟨S292x512x1024, .f32⟩
  | .hbm, ⟨35, _⟩ => ⟨S292x512x1024, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S292x512x1024, .f32⟩
  | .hbm, ⟨40, _⟩ => ⟨S292x512x1024, .f32⟩
  | .hbm, ⟨41, _⟩ => ⟨S_, .f32⟩
  | .hbm, ⟨42, _⟩ => ⟨S292x512x1024, .f32⟩
  | .hbm, ⟨43, _⟩ => ⟨S292x512x1024, .f32⟩
  | .hbm, ⟨44, _⟩ => ⟨S_, .f32⟩
  | .hbm, ⟨45, _⟩ => ⟨S292x512x1024, .f32⟩
  | .hbm, ⟨46, _⟩ => ⟨S292x512x1024, .f32⟩
  | .hbm, ⟨47, _⟩ => ⟨S292x512x1024, .f32⟩
  | .hbm, ⟨48, _⟩ => ⟨S292x512x1024, .f32⟩
  | .hbm, ⟨49, _⟩ => ⟨S_, .f32⟩
  | .hbm, ⟨50, _⟩ => ⟨S292x512x1024, .f32⟩
  | .hbm, ⟨51, _⟩ => ⟨S292x512x1024, .f32⟩
  | .hbm, ⟨52, _⟩ => ⟨S_, .f32⟩
  | .hbm, ⟨53, _⟩ => ⟨S292x512x1024, .f32⟩
  | .hbm, ⟨54, _⟩ => ⟨S292x512x1024, .f32⟩
  | .hbm, ⟨55, _⟩ => ⟨S292x512x1024, .f32⟩
  | .hbm, ⟨56, _⟩ => ⟨S_, .f32⟩
  | .hbm, ⟨57, _⟩ => ⟨S292x512x1024, .f32⟩
  | .hbm, ⟨58, _⟩ => ⟨S292x512x1024, .f32⟩
  | .hbm, ⟨59, _⟩ => ⟨S292x512x1024, .f32⟩
  | .hbm, ⟨60, _⟩ => ⟨S1x32x1024x1024, .f32⟩
  | .hbm, ⟨61, _⟩ => ⟨S32x1024x1024, .f32⟩
  | .hbm, ⟨62, _⟩ => ⟨S_, .i32⟩
  | .hbm, ⟨63, _⟩ => ⟨S292, .i32⟩
  | .hbm, ⟨64, _⟩ => ⟨S292, .i1⟩
  | .hbm, ⟨65, _⟩ => ⟨S_, .i32⟩
  | .hbm, ⟨66, _⟩ => ⟨S292, .i32⟩
  | .hbm, ⟨67, _⟩ => ⟨S292, .i32⟩
  | .hbm, ⟨68, _⟩ => ⟨S292, .i32⟩
  | .hbm, ⟨69, _⟩ => ⟨S292x1, .i32⟩
  | .hbm, ⟨70, _⟩ => ⟨S292x1024x1024, .f32⟩
  | .hbm, ⟨71, _⟩ => ⟨S292x512x1024, .f32⟩
  | .hbm, ⟨72, _⟩ => ⟨S_, .i32⟩
  | .hbm, ⟨73, _⟩ => ⟨S292, .i32⟩
  | .hbm, ⟨74, _⟩ => ⟨S292, .i1⟩
  | .hbm, ⟨75, _⟩ => ⟨S_, .i32⟩
  | .hbm, ⟨76, _⟩ => ⟨S292, .i32⟩
  | .hbm, ⟨77, _⟩ => ⟨S292, .i32⟩
  | .hbm, ⟨78, _⟩ => ⟨S292, .i32⟩
  | .hbm, ⟨79, _⟩ => ⟨S292x1, .i32⟩
  | .hbm, ⟨80, _⟩ => ⟨S292x1x1024, .f32⟩
  | .hbm, ⟨81, _⟩ => ⟨S292x512x1024, .f32⟩
  | .hbm, ⟨82, _⟩ => ⟨S292x512x1024, .f32⟩
  | .hbm, ⟨83, _⟩ => ⟨S292, .i32⟩
  | .hbm, ⟨84, _⟩ => ⟨S_, .i32⟩
  | .hbm, ⟨85, _⟩ => ⟨S292, .i32⟩
  | .hbm, ⟨86, _⟩ => ⟨S292, .i1⟩
  | .hbm, ⟨87, _⟩ => ⟨S292x1x1, .i1⟩
  | .hbm, ⟨88, _⟩ => ⟨S_, .f32⟩
  | .hbm, ⟨89, _⟩ => ⟨S_, .f32⟩
  | .hbm, ⟨90, _⟩ => ⟨S292x512x1024, .i1⟩
  | .hbm, ⟨91, _⟩ => ⟨S292x512x1024, .f32⟩
  | .hbm, ⟨92, _⟩ => ⟨S292x512x1024, .f32⟩
  | .hbm, ⟨93, _⟩ => ⟨S1196032x128, .f32⟩
  | _, _ => ⟨S292, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_cst_4 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_v24 : Ref sig .tc := ⟨.hbm, 43, rfl⟩
abbrev main_cst_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_6 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_8 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_c_9 : Ref sig .tc := ⟨.hbm, 62, rfl⟩
abbrev main_v39 : Ref sig .tc := ⟨.hbm, 63, rfl⟩
abbrev main_v40 : Ref sig .tc := ⟨.hbm, 64, rfl⟩
abbrev main_c_10 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_c_11 : Ref sig .tc := ⟨.hbm, 72, rfl⟩
abbrev main_v47 : Ref sig .tc := ⟨.hbm, 73, rfl⟩
abbrev main_v48 : Ref sig .tc := ⟨.hbm, 74, rfl⟩
abbrev main_c_12 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_13 : Ref sig .tc := ⟨.hbm, 88, rfl⟩
abbrev main_call1_v0 : Ref sig .tc := ⟨.hbm, 89, rfl⟩
abbrev main_call1_v1 : Ref sig .tc := ⟨.hbm, 90, rfl⟩
abbrev main_call1_v2 : Ref sig .tc := ⟨.hbm, 91, rfl⟩
abbrev main_v61 : Ref sig .tc := ⟨.hbm, 92, rfl⟩
abbrev main_v62 : Ref sig .tc := ⟨.hbm, 93, rfl⟩

abbrev nD : Nat := 1
abbrev τ : Topo := Topo.v7x

variable {F : FTy → Type} [FloatOps F]
-- ==== Kernel6.lean ====
abbrev S292 : Shape := ⟨1, ![292]⟩
abbrev S1 : Shape := ⟨1, ![1]⟩
abbrev S1196032x128 : Shape := ⟨2, ![1196032, 128]⟩
abbrev S4x32x1024x2048 : Shape := ⟨4, ![4, 32, 1024, 2048]⟩
abbrev S32x1x2048 : Shape := ⟨3, ![32, 1, 2048]⟩
abbrev S4x32x1024x1024 : Shape := ⟨4, ![4, 32, 1024, 1024]⟩
abbrev S32x1x1024 : Shape := ⟨3, ![32, 1, 1024]⟩
abbrev S4096x128 : Shape := ⟨2, ![4096, 128]⟩
abbrev S1x1x1024x2048 : Shape := ⟨4, ![1, 1, 1024, 2048]⟩
abbrev S1x1x2048 : Shape := ⟨3, ![1, 1, 2048]⟩
abbrev S1x1x1024x1024 : Shape := ⟨4, ![1, 1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S512x128 : Shape := ⟨2, ![512, 128]⟩
abbrev S512x1024 : Shape := ⟨2, ![512, 1024]⟩
abbrev S1024x512 : Shape := ⟨2, ![1024, 512]⟩
abbrev S512x512 : Shape := ⟨2, ![512, 512]⟩
abbrev S1x1x512 : Shape := ⟨3, ![1, 1, 512]⟩
abbrev S1x512 : Shape := ⟨2, ![1, 512]⟩
abbrev S1x1024 : Shape := ⟨2, ![1, 1024]⟩

abbrev nBuf : Space → Nat
  | .hbm => 6
  | .vmem => 14
  | .smem => 2
  | _ => 0

abbrev bufTy : (tb : Table) → Fin (tcTables nBuf tb) → BufTy
  | .hbm, ⟨0, _⟩ => ⟨S1196032x128, .f32⟩
  | .hbm, ⟨1, _⟩ => ⟨S4x32x1024x2048, .f32⟩
  | .hbm, ⟨2, _⟩ => ⟨S32x1x2048, .f32⟩
  | .hbm, ⟨3, _⟩ => ⟨S4x32x1024x1024, .f32⟩
  | .hbm, ⟨4, _⟩ => ⟨S32x1x1024, .f32⟩
  | .hbm, ⟨5, _⟩ => ⟨S1196032x128, .f32⟩
  | .local _ .vmem, ⟨0, _⟩ => ⟨S4096x128, .f32⟩
  | .local _ .vmem, ⟨1, _⟩ => ⟨S4096x128, .f32⟩
  | .local _ .vmem, ⟨2, _⟩ => ⟨S1x1x1024x2048, .f32⟩
  | .local _ .vmem, ⟨3, _⟩ => ⟨S1x1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S4096x128, .f32⟩
  | .local _ .vmem, ⟨11, _⟩ => ⟨S4096x128, .f32⟩
  | .local _ .vmem, ⟨12, _⟩ => ⟨S1024x2048, .bf16⟩
  | .local _ .vmem, ⟨13, _⟩ => ⟨S1024x1024, .bf16⟩
  | .local _ .smem, ⟨0, _⟩ => ⟨S292, .i32⟩
  | .local _ .smem, ⟨1, _⟩ => ⟨S1, .i32⟩
  | _, _ => ⟨S1196032x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![292], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg0 : BitVec 32 := BitVec.ofNat 32 (i 0).val
  let v1 : BitVec 1 := Scalar.cmpi .slt arg0 v0
  let v14 : BitVec 32 := Scalar.extui v1
  let c0_i32_2 : BitVec 32 := 0#32
  let v15 : BitVec 1 := Scalar.cmpi .ne v14 c0_i32_2
  v15

def k0_cond3 (i : grid0.Coords) (v0 : BitVec 32) : BitVec 1 :=
  let arg0 : BitVec 32 := BitVec.ofNat 32 (i 0).val
  let v1 : BitVec 1 := Scalar.cmpi .slt arg0 v0
  let v_true : BitVec 1 := 1#1
  let v16 : BitVec 1 := Scalar.xori v1 v_true
  let v17 : BitVec 32 := Scalar.extui v16
  let c0_i32_3 : BitVec 32 := 0#32
  let v18 : BitVec 1 := Scalar.cmpi .ne v17 c0_i32_3
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S292.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S292) ![v0.toNat] S1.size (k0_off1_inb i)) numel1_S1
  let c3_i32 : BitVec 32 := 3#32
  let c0_i32 : BitVec 32 := 0#32
  let c0_i32_0 : BitVec 32 := 0#32
  let c0_i32_1 : BitVec 32 := 0#32
  ![c3_i32.toNat, v1.toNat, c0_i32.toNat, c0_i32_0.toNat]

def cc0_transform_2 (k0_off1_inb : ∀ i : grid0.Coords, ∀ a, (k0_off1 i) a + S1.size a ≤ S292.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S292) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S292.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S292) ![v0.toNat] S1.size (k0_off1_inb i)) numel1_S1
  let c3_i32 : BitVec 32 := 3#32
  let c0_i32 : BitVec 32 := 0#32
  let c0_i32_0 : BitVec 32 := 0#32
  let c0_i32_1 : BitVec 32 := 0#32
  ![c3_i32.toNat, v1.toNat, c0_i32.toNat, c0_i32_0.toNat]

def cc0_transform_4 (k0_off1_inb : ∀ i : grid0.Coords, ∀ a, (k0_off1 i) a + S1.size a ≤ S292.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S292) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference6Ideal.lean ====
abbrev S292 : Shape := ⟨1, ![292]⟩
abbrev S1 : Shape := ⟨1, ![1]⟩
abbrev S1196032x128 : Shape := ⟨2, ![1196032, 128]⟩
abbrev S4x32x1024x2048 : Shape := ⟨4, ![4, 32, 1024, 2048]⟩
abbrev S32x1x2048 : Shape := ⟨3, ![32, 1, 2048]⟩
abbrev S4x32x1024x1024 : Shape := ⟨4, ![4, 32, 1024, 1024]⟩
abbrev S32x1x1024 : Shape := ⟨3, ![32, 1, 1024]⟩
abbrev S292x512x1024 : Shape := ⟨3, ![292, 512, 1024]⟩
abbrev S1x32x1024x2048 : Shape := ⟨4, ![1, 32, 1024, 2048]⟩
abbrev S32x1024x2048 : Shape := ⟨3, ![32, 1024, 2048]⟩
abbrev S_ : Shape := ⟨0, ![]⟩
abbrev S292x1 : Shape := ⟨2, ![292, 1]⟩
abbrev S292x1024x2048 : Shape := ⟨3, ![292, 1024, 2048]⟩
abbrev S292x512x2048 : Shape := ⟨3, ![292, 512, 2048]⟩
abbrev S292x1x2048 : Shape := ⟨3, ![292, 1, 2048]⟩
abbrev S1x32x1024x1024 : Shape := ⟨4, ![1, 32, 1024, 1024]⟩
abbrev S32x1024x1024 : Shape := ⟨3, ![32, 1024, 1024]⟩
abbrev S292x1024x1024 : Shape := ⟨3, ![292, 1024, 1024]⟩
abbrev S292x1x1024 : Shape := ⟨3, ![292, 1, 1024]⟩
abbrev S292x1x1 : Shape := ⟨3, ![292, 1, 1]⟩

abbrev nBuf : Space → Nat
  | .hbm => 94
  | .vmem => 0
  | .smem => 0
  | _ => 0

abbrev bufTy : (tb : Table) → Fin (tcTables nBuf tb) → BufTy
  | .hbm, ⟨0, _⟩ => ⟨S292, .i32⟩
  | .hbm, ⟨1, _⟩ => ⟨S1, .i32⟩
  | .hbm, ⟨2, _⟩ => ⟨S1196032x128, .f32⟩
  | .hbm, ⟨3, _⟩ => ⟨S4x32x1024x2048, .f32⟩
  | .hbm, ⟨4, _⟩ => ⟨S32x1x2048, .f32⟩
  | .hbm, ⟨5, _⟩ => ⟨S4x32x1024x1024, .f32⟩
  | .hbm, ⟨6, _⟩ => ⟨S32x1x1024, .f32⟩
  | .hbm, ⟨7, _⟩ => ⟨S292x512x1024, .f32⟩
  | .hbm, ⟨8, _⟩ => ⟨S1x32x1024x2048, .f32⟩
  | .hbm, ⟨9, _⟩ => ⟨S32x1024x2048, .f32⟩
  | .hbm, ⟨10, _⟩ => ⟨S_, .i32⟩
  | .hbm, ⟨11, _⟩ => ⟨S292, .i32⟩
  | .hbm, ⟨12, _⟩ => ⟨S292, .i1⟩
  | .hbm, ⟨13, _⟩ => ⟨S_, .i32⟩
  | .hbm, ⟨14, _⟩ => ⟨S292, .i32⟩
  | .hbm, ⟨15, _⟩ => ⟨S292, .i32⟩
  | .hbm, ⟨16, _⟩ => ⟨S292, .i32⟩
  | .hbm, ⟨17, _⟩ => ⟨S292x1, .i32⟩
  | .hbm, ⟨18, _⟩ => ⟨S292x1024x2048, .f32⟩
  | .hbm, ⟨19, _⟩ => ⟨S292x512x2048, .f32⟩
  | .hbm, ⟨20, _⟩ => ⟨S_, .i32⟩
  | .hbm, ⟨21, _⟩ => ⟨S292, .i32⟩
  | .hbm, ⟨22, _⟩ => ⟨S292, .i1⟩
  | .hbm, ⟨23, _⟩ => ⟨S_, .i32⟩
  | .hbm, ⟨24, _⟩ => ⟨S292, .i32⟩
  | .hbm, ⟨25, _⟩ => ⟨S292, .i32⟩
  | .hbm, ⟨26, _⟩ => ⟨S292, .i32⟩
  | .hbm, ⟨27, _⟩ => ⟨S292x1, .i32⟩
  | .hbm, ⟨28, _⟩ => ⟨S292x1x2048, .f32⟩
  | .hbm, ⟨29, _⟩ => ⟨S292x512x2048, .f32⟩
  | .hbm, ⟨30, _⟩ => ⟨S292x512x2048, .f32⟩
  | .hbm, ⟨31, _⟩ => ⟨S292x512x1024, .f32⟩
  | .hbm, ⟨32, _⟩ => ⟨S_, .f32⟩
  | .hbm, ⟨33, _⟩ => ⟨S292x512x1024, .f32⟩
  | .hbm, ⟨34, _⟩ => ⟨S292x512x1024, .f32⟩
  | .hbm, ⟨35, _⟩ => ⟨S292x512x1024, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S292x512x1024, .f32⟩
  | .hbm, ⟨40, _⟩ => ⟨S292x512x1024, .f32⟩
  | .hbm, ⟨41, _⟩ => ⟨S_, .f32⟩
  | .hbm, ⟨42, _⟩ => ⟨S292x512x1024, .f32⟩
  | .hbm, ⟨43, _⟩ => ⟨S292x512x1024, .f32⟩
  | .hbm, ⟨44, _⟩ => ⟨S_, .f32⟩
  | .hbm, ⟨45, _⟩ => ⟨S292x512x1024, .f32⟩
  | .hbm, ⟨46, _⟩ => ⟨S292x512x1024, .f32⟩
  | .hbm, ⟨47, _⟩ => ⟨S292x512x1024, .f32⟩
  | .hbm, ⟨48, _⟩ => ⟨S292x512x1024, .f32⟩
  | .hbm, ⟨49, _⟩ => ⟨S_, .f32⟩
  | .hbm, ⟨50, _⟩ => ⟨S292x512x1024, .f32⟩
  | .hbm, ⟨51, _⟩ => ⟨S292x512x1024, .f32⟩
  | .hbm, ⟨52, _⟩ => ⟨S_, .f32⟩
  | .hbm, ⟨53, _⟩ => ⟨S292x512x1024, .f32⟩
  | .hbm, ⟨54, _⟩ => ⟨S292x512x1024, .f32⟩
  | .hbm, ⟨55, _⟩ => ⟨S292x512x1024, .f32⟩
  | .hbm, ⟨56, _⟩ => ⟨S_, .f32⟩
  | .hbm, ⟨57, _⟩ => ⟨S292x512x1024, .f32⟩
  | .hbm, ⟨58, _⟩ => ⟨S292x512x1024, .f32⟩
  | .hbm, ⟨59, _⟩ => ⟨S292x512x1024, .f32⟩
  | .hbm, ⟨60, _⟩ => ⟨S1x32x1024x1024, .f32⟩
  | .hbm, ⟨61, _⟩ => ⟨S32x1024x1024, .f32⟩
  | .hbm, ⟨62, _⟩ => ⟨S_, .i32⟩
  | .hbm, ⟨63, _⟩ => ⟨S292, .i32⟩
  | .hbm, ⟨64, _⟩ => ⟨S292, .i1⟩
  | .hbm, ⟨65, _⟩ => ⟨S_, .i32⟩
  | .hbm, ⟨66, _⟩ => ⟨S292, .i32⟩
  | .hbm, ⟨67, _⟩ => ⟨S292, .i32⟩
  | .hbm, ⟨68, _⟩ => ⟨S292, .i32⟩
  | .hbm, ⟨69, _⟩ => ⟨S292x1, .i32⟩
  | .hbm, ⟨70, _⟩ => ⟨S292x1024x1024, .f32⟩
  | .hbm, ⟨71, _⟩ => ⟨S292x512x1024, .f32⟩
  | .hbm, ⟨72, _⟩ => ⟨S_, .i32⟩
  | .hbm, ⟨73, _⟩ => ⟨S292, .i32⟩
  | .hbm, ⟨74, _⟩ => ⟨S292, .i1⟩
  | .hbm, ⟨75, _⟩ => ⟨S_, .i32⟩
  | .hbm, ⟨76, _⟩ => ⟨S292, .i32⟩
  | .hbm, ⟨77, _⟩ => ⟨S292, .i32⟩
  | .hbm, ⟨78, _⟩ => ⟨S292, .i32⟩
  | .hbm, ⟨79, _⟩ => ⟨S292x1, .i32⟩
  | .hbm, ⟨80, _⟩ => ⟨S292x1x1024, .f32⟩
  | .hbm, ⟨81, _⟩ => ⟨S292x512x1024, .f32⟩
  | .hbm, ⟨82, _⟩ => ⟨S292x512x1024, .f32⟩
  | .hbm, ⟨83, _⟩ => ⟨S292, .i32⟩
  | .hbm, ⟨84, _⟩ => ⟨S_, .i32⟩
  | .hbm, ⟨85, _⟩ => ⟨S292, .i32⟩
  | .hbm, ⟨86, _⟩ => ⟨S292, .i1⟩
  | .hbm, ⟨87, _⟩ => ⟨S292x1x1, .i1⟩
  | .hbm, ⟨88, _⟩ => ⟨S_, .f32⟩
  | .hbm, ⟨89, _⟩ => ⟨S_, .f32⟩
  | .hbm, ⟨90, _⟩ => ⟨S292x512x1024, .i1⟩
  | .hbm, ⟨91, _⟩ => ⟨S292x512x1024, .f32⟩
  | .hbm, ⟨92, _⟩ => ⟨S292x512x1024, .f32⟩
  | .hbm, ⟨93, _⟩ => ⟨S1196032x128, .f32⟩
  | _, _ => ⟨S292, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_cst_4 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_v24 : Ref sig .tc := ⟨.hbm, 43, rfl⟩
abbrev main_cst_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_6 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_8 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_c_9 : Ref sig .tc := ⟨.hbm, 62, rfl⟩
abbrev main_v39 : Ref sig .tc := ⟨.hbm, 63, rfl⟩
abbrev main_v40 : Ref sig .tc := ⟨.hbm, 64, rfl⟩
abbrev main_c_10 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_c_11 : Ref sig .tc := ⟨.hbm, 72, rfl⟩
abbrev main_v47 : Ref sig .tc := ⟨.hbm, 73, rfl⟩
abbrev main_v48 : Ref sig .tc := ⟨.hbm, 74, rfl⟩
abbrev main_c_12 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_13 : Ref sig .tc := ⟨.hbm, 88, rfl⟩
abbrev main_call1_v0 : Ref sig .tc := ⟨.hbm, 89, rfl⟩
abbrev main_call1_v1 : Ref sig .tc := ⟨.hbm, 90, rfl⟩
abbrev main_call1_v2 : Ref sig .tc := ⟨.hbm, 91, rfl⟩
abbrev main_v61 : Ref sig .tc := ⟨.hbm, 92, rfl⟩
abbrev main_v62 : Ref sig .tc := ⟨.hbm, 93, rfl⟩

abbrev nD : Nat := 1
abbrev τ : Topo := Topo.v7x

variable {F : FTy → Type} [FloatOps F]
-- ==== Kernel7.lean ====
abbrev S33280x1024 : Shape := ⟨2, ![33280, 1024]⟩
abbrev S8x1x6144 : Shape := ⟨3, ![8, 1, 6144]⟩
abbrev S1x1024 : Shape := ⟨2, ![1, 1024]⟩
abbrev S1024x3072 : Shape := ⟨2, ![1024, 3072]⟩
abbrev S256x1024 : Shape := ⟨2, ![256, 1024]⟩
abbrev S1x1x6144 : Shape := ⟨3, ![1, 1, 6144]⟩
abbrev S1x6144 : Shape := ⟨2, ![1, 6144]⟩
abbrev S256 : Shape := ⟨1, ![256]⟩
abbrev S256x1 : Shape := ⟨2, ![256, 1]⟩
abbrev S256x3072 : Shape := ⟨2, ![256, 3072]⟩

abbrev nBuf : Space → Nat
  | .hbm => 7
  | .vmem => 10
  | .smem => 0
  | _ => 0

abbrev bufTy : (tb : Table) → Fin (tcTables nBuf tb) → BufTy
  | .hbm, ⟨0, _⟩ => ⟨S33280x1024, .f32⟩
  | .hbm, ⟨1, _⟩ => ⟨S8x1x6144, .f32⟩
  | .hbm, ⟨2, _⟩ => ⟨S1x1024, .f32⟩
  | .hbm, ⟨3, _⟩ => ⟨S1024x3072, .f32⟩
  | .hbm, ⟨4, _⟩ => ⟨S1024x3072, .bf16⟩
  | .hbm, ⟨5, _⟩ => ⟨S33280x1024, .f32⟩
  | .hbm, ⟨6, _⟩ => ⟨S33280x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1x6144, .f32⟩
  | .local _ .vmem, ⟨4, _⟩ => ⟨S1x1x6144, .f32⟩
  | .local _ .vmem, ⟨5, _⟩ => ⟨S1024x3072, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | _, _ => ⟨S33280x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![130], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c65_i32 : BitVec 32 := 65#32
  let c0_i32 : BitVec 32 := 0#32
  let v0 : BitVec 1 := Scalar.cmpi .eq c65_i32 c0_i32
  let c1_i32 : BitVec 32 := 1#32
  let v1 : BitVec 32 := Scalar.select v0 c1_i32 c65_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c1_i32_3 : BitVec 32 := 1#32
  let v10 : BitVec 1 := Scalar.cmpi .slt v9 c1_i32_3
  let c65_i32_4 : BitVec 32 := 65#32
  let v11 : BitVec 32 := Scalar.divsi arg0 c65_i32_4
  let c0_i32_5 : BitVec 32 := 0#32
  let v12 : BitVec 1 := Scalar.cmpi .sgt arg0 c0_i32_5
  let v13 : BitVec 32 := Scalar.extui v12
  let c0_i32_6 : BitVec 32 := 0#32
  let v14 : BitVec 1 := Scalar.cmpi .slt arg0 c0_i32_6
  let v15 : BitVec 32 := Scalar.extui v14
  let v16 : BitVec 32 := Scalar.subi v13 v15
  let c0_i32_7 : BitVec 32 := 0#32
  let v17 : BitVec 1 := Scalar.cmpi .sgt c65_i32_4 c0_i32_7
  let v18 : BitVec 32 := Scalar.extui v17
  let c0_i32_8 : BitVec 32 := 0#32
  let v19 : BitVec 1 := Scalar.cmpi .slt c65_i32_4 c0_i32_8
  let v20 : BitVec 32 := Scalar.extui v19
  let v21 : BitVec 32 := Scalar.subi v18 v20
  let v22 : BitVec 1 := Scalar.cmpi .ne v16 v21
  let v23 : BitVec 32 := Scalar.remsi arg0 c65_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let c2_i32 : BitVec 32 := 2#32
  let v28 : BitVec 32 := Scalar.select v10 c2_i32 v27
  let c0_i32_11 : BitVec 32 := 0#32
  let c0_i32_12 : BitVec 32 := 0#32
  let c0_i32_13 : BitVec 32 := 0#32
  ![v28.toNat, c0_i32_11.toNat, c0_i32_12.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference7Ideal.lean ====
abbrev S33280x1024 : Shape := ⟨2, ![33280, 1024]⟩
abbrev S8x1x6144 : Shape := ⟨3, ![8, 1, 6144]⟩
abbrev S1x1024 : Shape := ⟨2, ![1, 1024]⟩
abbrev S1024x3072 : Shape := ⟨2, ![1024, 3072]⟩
abbrev S2x16640x1024 : Shape := ⟨3, ![2, 16640, 1024]⟩
abbrev S2x256x1024 : Shape := ⟨3, ![2, 256, 1024]⟩
abbrev S1024 : Shape := ⟨1, ![1024]⟩
abbrev S1x1x6144 : Shape := ⟨3, ![1, 1, 6144]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S2x256x3072 : Shape := ⟨3, ![2, 256, 3072]⟩
abbrev S2x16384x1024 : Shape := ⟨3, ![2, 16384, 1024]⟩
abbrev S2x1x6144 : Shape := ⟨3, ![2, 1, 6144]⟩
abbrev S2x16384 : Shape := ⟨2, ![2, 16384]⟩
abbrev S2x16384x1 : Shape := ⟨3, ![2, 16384, 1]⟩
abbrev S2x1x1024 : Shape := ⟨3, ![2, 1, 1024]⟩
abbrev S2x16384x3072 : Shape := ⟨3, ![2, 16384, 3072]⟩

abbrev nBuf : Space → Nat
  | .hbm => 75
  | .vmem => 0
  | .smem => 0
  | _ => 0

abbrev bufTy : (tb : Table) → Fin (tcTables nBuf tb) → BufTy
  | .hbm, ⟨0, _⟩ => ⟨S33280x1024, .f32⟩
  | .hbm, ⟨1, _⟩ => ⟨S8x1x6144, .f32⟩
  | .hbm, ⟨2, _⟩ => ⟨S1x1024, .f32⟩
  | .hbm, ⟨3, _⟩ => ⟨S1024x3072, .f32⟩
  | .hbm, ⟨4, _⟩ => ⟨S2x16640x1024, .f32⟩
  | .hbm, ⟨5, _⟩ => ⟨S2x256x1024, .f32⟩
  | .hbm, ⟨6, _⟩ => ⟨S1024, .f32⟩
  | .hbm, ⟨7, _⟩ => ⟨S1x1x6144, .f32⟩
  | .hbm, ⟨8, _⟩ => ⟨S2x256x1024, .f32⟩
  | .hbm, ⟨9, _⟩ => ⟨S_, .f32⟩
  | .hbm, ⟨10, _⟩ => ⟨S2x256, .f32⟩
  | .hbm, ⟨11, _⟩ => ⟨S2x256x1, .f32⟩
  | .hbm, ⟨12, _⟩ => ⟨S_, .f32⟩
  | .hbm, ⟨13, _⟩ => ⟨S2x256x1, .f32⟩
  | .hbm, ⟨14, _⟩ => ⟨S2x256x1, .f32⟩
  | .hbm, ⟨15, _⟩ => ⟨S_, .f32⟩
  | .hbm, ⟨16, _⟩ => ⟨S2x256x1, .f32⟩
  | .hbm, ⟨17, _⟩ => ⟨S2x256x1, .f32⟩
  | .hbm, ⟨18, _⟩ => ⟨S2x256x1, .f32⟩
  | .hbm, ⟨19, _⟩ => ⟨S2x256x1024, .f32⟩
  | .hbm, ⟨20, _⟩ => ⟨S2x256x1024, .f32⟩
  | .hbm, ⟨21, _⟩ => ⟨S1x1x1024, .f32⟩
  | .hbm, ⟨22, _⟩ => ⟨S2x256x1024, .f32⟩
  | .hbm, ⟨23, _⟩ => ⟨S2x256x1024, .f32⟩
  | .hbm, ⟨24, _⟩ => ⟨S1x1x1024, .f32⟩
  | .hbm, ⟨25, _⟩ => ⟨S_, .f32⟩
  | .hbm, ⟨26, _⟩ => ⟨S1x1x1024, .f32⟩
  | .hbm, ⟨27, _⟩ => ⟨S1x1x1024, .f32⟩
  | .hbm, ⟨28, _⟩ => ⟨S2x256x1024, .f32⟩
  | .hbm, ⟨29, _⟩ => ⟨S2x256x1024, .f32⟩
  | .hbm, ⟨30, _⟩ => ⟨S1x1x1024, .f32⟩
  | .hbm, ⟨31, _⟩ => ⟨S2x256x1024, .f32⟩
  | .hbm, ⟨32, _⟩ => ⟨S2x256x1024, .f32⟩
  | .hbm, ⟨33, _⟩ => ⟨S2x256x3072, .f32⟩
  | .hbm, ⟨34, _⟩ => ⟨S2x256x1024, .f32⟩
  | .hbm, ⟨35, _⟩ => ⟨S2x256x1024, .f32⟩
  | .hbm, ⟨36, _⟩ => ⟨S2x256x1024, .f32⟩
  | .hbm, ⟨37, _⟩ => ⟨S2x256x1024, .f32⟩
  | .hbm, ⟨38, _⟩ => ⟨S2x16384x1024, .f32⟩
  | .hbm, ⟨39, _⟩ => ⟨S1024, .f32⟩
  | .hbm, ⟨40, _⟩ => ⟨S2x1x6144, .f32⟩
  | .hbm, ⟨41, _⟩ => ⟨S2x16384x1024, .f32⟩
  | .hbm, ⟨42, _⟩ => ⟨S_, .f32⟩
  | .hbm, ⟨43, _⟩ => ⟨S2x16384, .f32⟩
  | .hbm, ⟨44, _⟩ => ⟨S2x16384x1, .f32⟩
  | .hbm, ⟨45, _⟩ => ⟨S_, .f32⟩
  | .hbm, ⟨46, _⟩ => ⟨S2x16384x1, .f32⟩
  | .hbm, ⟨47, _⟩ => ⟨S2x16384x1, .f32⟩
  | .hbm, ⟨48, _⟩ => ⟨S_, .f32⟩
  | .hbm, ⟨49, _⟩ => ⟨S2x16384x1, .f32⟩
  | .hbm, ⟨50, _⟩ => ⟨S2x16384x1, .f32⟩
  | .hbm, ⟨51, _⟩ => ⟨S2x16384x1, .f32⟩
  | .hbm, ⟨52, _⟩ => ⟨S2x16384x1024, .f32⟩
  | .hbm, ⟨53, _⟩ => ⟨S2x16384x1024, .f32⟩
  | .hbm, ⟨54, _⟩ => ⟨S1x1x1024, .f32⟩
  | .hbm, ⟨55, _⟩ => ⟨S2x16384x1024, .f32⟩
  | .hbm, ⟨56, _⟩ => ⟨S2x16384x1024, .f32⟩
  | .hbm, ⟨57, _⟩ => ⟨S2x1x1024, .f32⟩
  | .hbm, ⟨58, _⟩ => ⟨S_, .f32⟩
  | .hbm, ⟨59, _⟩ => ⟨S2x1x1024, .f32⟩
  | .hbm, ⟨60, _⟩ => ⟨S2x1x1024, .f32⟩
  | .hbm, ⟨61, _⟩ => ⟨S2x16384x1024, .f32⟩
  | .hbm, ⟨62, _⟩ => ⟨S2x16384x1024, .f32⟩
  | .hbm, ⟨63, _⟩ => ⟨S2x1x1024, .f32⟩
  | .hbm, ⟨64, _⟩ => ⟨S2x16384x1024, .f32⟩
  | .hbm, ⟨65, _⟩ => ⟨S2x16384x1024, .f32⟩
  | .hbm, ⟨66, _⟩ => ⟨S2x16384x3072, .f32⟩
  | .hbm, ⟨67, _⟩ => ⟨S2x16384x1024, .f32⟩
  | .hbm, ⟨68, _⟩ => ⟨S2x16384x1024, .f32⟩
  | .hbm, ⟨69, _⟩ => ⟨S2x16384x1024, .f32⟩
  | .hbm, ⟨70, _⟩ => ⟨S2x16384x1024, .f32⟩
  | .hbm, ⟨71, _⟩ => ⟨S2x16640x1024, .f32⟩
  | .hbm, ⟨72, _⟩ => ⟨S33280x1024, .f32⟩
  | .hbm, ⟨73, _⟩ => ⟨S2x16640x1024, .f32⟩
  | .hbm, ⟨74, _⟩ => ⟨S33280x1024, .f32⟩
  | _, _ => ⟨S33280x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_3 : Ref sig .tc := ⟨.hbm, 42, rfl⟩
abbrev main_v34 : Ref sig .tc := ⟨.hbm, 43, rfl⟩
abbrev main_v35 : Ref sig .tc := ⟨.hbm, 44, rfl⟩
abbrev main_cst_4 : Ref sig .tc := ⟨.hbm, 45, rfl⟩
abbrev main_v36 : Ref sig .tc := ⟨.hbm, 46, rfl⟩
abbrev main_v37 : Ref sig .tc := ⟨.hbm, 47, rfl⟩
abbrev main_cst_5 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_6 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩

abbrev nD : Nat := 1
abbrev τ : Topo := Topo.v7x

variable {F : FTy → Type} [FloatOps F]
-- ==== Proof.Steps.lean ====
/-
  Loads and stores over OWNED MEMREFS: the three steps an attention kernel's body takes, stated of `owns c m X` — the
  memref read as the array `X` — rather than of buffer contents. A load through a rectangle continues at `X` read at the
  rectangle's indices; a load of everything continues at `X`; a store of everything leaves the payload.
-/
module

public import Idealize.ShloMosaic.Lib.Pipeline.FrameBody
public import Idealize.ShloMosaic.Lib.Tactic

@[expose] public section

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U] {Lvl : Type} {Λ : Labels}
variable [Preorder Lvl] {defs : Defs nD τ sig Val Λ} (𝒱 : Variants) (c : Thread nD τ) (bd : Option 𝒱.V) (E : Set Name)
variable {s : Shape} {e : EltTy} {α : Type} {Q : α → sProp (MT nD τ sig Ix Val Name U Lvl)}

/-- The array `X` read at the indices of the rectangle `r`. -/
def pick {s : Shape} {β : Type} (r : LoadRect s) (X : s.Idx → β) : r.shape.Idx → β := fun j => X (r.idx j)

/-- A load through a rectangle of an owned memref continues at the array read at the rectangle's indices. -/
theorem load_part {cs : CoreSpace} {m : Memref sig c.2.kind cs s e} {r : LoadRect s} {hl : m.view.LoadsAt r}
    {k : (r.shape.Idx → Val e) → Prog (TpuEff nD τ sig Val Λ c.2) α} {X : s.Idx → Val e} :
    owns c m fullShare X
      ⊢ iprop((owns c m fullShare X -∗ wp frame (wpE defs 𝒱 c bd) E (k (pick r X)) Q)
        -∗ wp frame (wpE defs 𝒱 c bd) E (Prog.lift (.load m r hl) >>= k) Q) := by
  unfold owns
  iintro ⟨%f, %hf, H⟩ K
  subst hf
  iapply (wp_load 𝒱 c bd E (hl := hl) (k := k) (Q := Q) (S := m.view.set) (q := fullShare) (f := f)
    (View.setOn_subset_set m.view r.set)) $$ [H]
  · iexact H
  iintro H
  iapply K
  iexists f
  isplitr
  · ipureintro; rfl
  iexact H

theorem z2 (a : Fin 2) : (![0, 0] : Fin 2 → ℕ) a = 0 := by fin_cases a <;> rfl
theorem z3 (a : Fin 3) : (![0, 0, 0] : Fin 3 → ℕ) a = 0 := by fin_cases a <;> rfl
theorem z4 (a : Fin 4) : (![0, 0, 0, 0] : Fin 4 → ℕ) a = 0 := by fin_cases a <;> rfl

/-- The rectangle of everything reads the array itself. -/
theorem idx_all {off : Fin s.rank → ℕ} (h0 : ∀ a, off a = 0) (inb : ∀ a, off a + s.size a ≤ s.size a) (j : s.Idx) :
    (Rect.unit (s := s) off s.size inb).toLoadRect.idx j = j := by
  funext a; apply Fin.ext
  show off a + 1 * (j a).val = (j a).val
  rw [h0 a]; omega

/-- A load of everything continues at the array. -/
theorem load_all {cs : CoreSpace} {m : Memref sig c.2.kind cs s e} {off : Fin s.rank → ℕ} {inb : ∀ a, off a + s.size a ≤ s.size a}
    {hl : m.view.LoadsAt (Rect.unit (s := s) off s.size inb).toLoadRect}
    {k : (s.Idx → Val e) → Prog (TpuEff nD τ sig Val Λ c.2) α} {X : s.Idx → Val e} (h0 : ∀ a, off a = 0) :
    owns c m fullShare X
      ⊢ iprop((owns c m fullShare X -∗ wp frame (wpE defs 𝒱 c bd) E (k X) Q)
        -∗ wp frame (wpE defs 𝒱 c bd) E (Prog.lift (.load m (Rect.unit (s := s) off s.size inb).toLoadRect hl) >>= k) Q) := by
  have e0 : (pick (Rect.unit (s := s) off s.size inb).toLoadRect X : s.Idx → Val e) = X :=
    funext fun j => congrArg X (idx_all h0 inb j)
  have := load_part (defs := defs) 𝒱 c bd E (hl := hl) (k := k) (Q := Q) (X := X)
  exact Eq.mp (congrArg (fun P => owns c m fullShare X
      ⊢ iprop((owns c m fullShare X -∗ wp frame (wpE defs 𝒱 c bd) E P Q)
        -∗ wp frame (wpE defs 𝒱 c bd) E (Prog.lift (.load m (Rect.unit (s := s) off s.size inb).toLoadRect hl) >>= k) Q))
    (congrArg k e0)) this

/-- A store of everything leaves the payload. -/
theorem store_all {cs : CoreSpace} {m : Memref sig c.2.kind cs s e} {off : Fin s.rank → ℕ} {inb : ∀ a, off a + s.size a ≤ s.size a}
    {w : s.Idx → Val e} {hx : (m.access (Rect.unit (s := s) off s.size inb)).Stores Finset.univ}
    {hm : Finset.univ = Finset.univ ∨ ∀ a, (Rect.unit (s := s) off s.size inb).stride a = 1}
    {k : PUnit → Prog (TpuEff nD τ sig Val Λ c.2) α} {X : s.Idx → Val e} (h0 : ∀ a, off a = 0) :
    owns c m fullShare X
      ⊢ iprop((owns c m fullShare w -∗ wp frame (wpE defs 𝒱 c bd) E (k ⟨⟩) Q)
        -∗ wp frame (wpE defs 𝒱 c bd) E (Prog.lift (.store m (Rect.unit (s := s) off s.size inb) w Finset.univ hx hm) >>= k) Q) := by
  unfold owns
  iintro ⟨%f, %hf, H⟩ K
  iapply (wp_store 𝒱 c bd E (Q := Q) (w := w) (hx := hx) (hm := hm) (k := k) (Mk := Finset.univ) (S := m.view.set) (f := f)
    (by rw [View.setOn_univ, View.set_slice]; exact View.setOn_subset_set m.view _)) $$ [H]
  · iexact H
  iintro H
  iapply K
  iexists ((m.access (Rect.unit (s := s) off s.size inb)).write Val f w Finset.univ)
  isplitr
  · ipureintro
    funext j
    have h := congrFun (View.read_write_univ (v := m.access (Rect.unit (s := s) off s.size inb)) f w) j
    rw [← h]
    show m.view.read Val _ j = m.view.read Val _ ((Rect.unit (s := s) off s.size inb).toLoadRect.idx j)
    rw [idx_all h0 inb j]
  iexact H

end Cert.Attn

end
-- ==== Proof.DiffParts.lean ====
/-
  The body of the differential-attention kernel, part by part: from what each memref holds, what it holds afterwards.
-/
module

public import proofs.«01_k».proof.Proof.Steps
public import proofs.«01_k».proof.Proof.Gen.KernelIdeal.Launch
public import proofs.«01_k».proof.Proof.Gen.KernelIdeal.Skeleton

@[expose] public section

noncomputable section

namespace Cert.Proof.Diff

open Cert.KernelIdeal Cert.KernelIdeal.Gen Cert.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev 𝒱₀ : Variants := Variants.none

/-- Core `c` owns the memref and reads `X` through it. -/
abbrev O (c : Dev nD) {sp : Space} {s : Shape} {e : EltTy} (m : Memref sig .tc sp s e) (X : s.Idx → Elt F e) : sProp 𝕄 :=
  owns (c : Thread nD τ) m fullShare X

/-- The program `p` on core `c` runs safely to the post `Q`. -/
abbrev W (c : Dev nD) {α : Type} (p : Prog (TpuEff nD τ sig (Elt F) Λ₀ .tc) α) (Q : α → sProp 𝕄) : sProp 𝕄 :=
  wp Idealize.ShloMosaic.frame (wpE (defs₀ (F := F)) 𝒱₀ (c : Thread nD τ) none) Set.univ p Q

/-- The context branch up to the second stream: the first stream takes the first 256 keys in. -/
theorem part1_spec (c : Dev nD) (arg3 : Memref sig .tc .vmem S1x1x256x128 .bf16) (harg3 : arg3.IsWhole) (arg4 : Memref sig .tc .vmem S1x1x16640x128 .bf16) (harg4 : arg4.IsWhole) (arg5 : Memref sig .tc .vmem S1x1x16640x256 .bf16) (harg5 : arg5.IsWhole) (arg6 : Memref sig .tc .vmem S4x64 .f32) (harg6 : arg6.IsWhole) (arg7 : Memref sig .tc .vmem S1x128 .f32) (harg7 : arg7.IsWhole) (arg8 : Memref sig .tc .vmem S1x256x128 .bf16) (harg8 : arg8.IsWhole) (arg9 : Memref sig .tc .vmem S512x3328 .f32) (harg9 : arg9.IsWhole) (arg10 : Memref sig .tc .vmem S512x3328 .f32) (harg10 : arg10.IsWhole) (arg11 : Memref sig .tc .vmem S256x1 .f32) (harg11 : arg11.IsWhole) (arg12 : Memref sig .tc .vmem S256x256 .f32) (harg12 : arg12.IsWhole) (arg13 : Memref sig .tc .vmem S256x1 .f32) (harg13 : arg13.IsWhole) (arg14 : Memref sig .tc .vmem S256x256 .f32) (harg14 : arg14.IsWhole) (i : grid0.Coords) (v6 : FVec F S256x128 .bf16) (v9 : FVec F S256x128 .bf16) {X4 : S1x1x16640x128.Idx → Elt F .bf16} {X5 : S1x1x16640x256.Idx → Elt F .bf16} {X11 : S256x1.Idx → Elt F .f32} {X12 : S256x256.Idx → Elt F .f32} {X13 : S256x1.Idx → Elt F .f32} {Q : _ → sProp 𝕄} :
    iprop(O c arg4 X4 ∗ O c arg5 X5 ∗ O c arg11 X11 ∗ O c arg12 X12 ∗ O c arg13 X13)
      ⊢ iprop((iprop(O c arg4 X4 ∗ O c arg5 X5 ∗ O c arg11 (k0_pay7 v6 (pick (Rect.unit (s := S1x1x16640x128) ![0, 0, 0, 0] S1x1x256x128.size inb_S1x1x16640x128_S1x1x256x128_0_0_0_0).toLoadRect X4) X11) ∗ O c arg12 (k0_pay6 v6 (pick (Rect.unit (s := S1x1x16640x128) ![0, 0, 0, 0] S1x1x256x128.size inb_S1x1x16640x128_S1x1x256x128_0_0_0_0).toLoadRect X4) (pick (Rect.unit (s := S1x1x16640x256) ![0, 0, 0, 0] S1x1x256x256.size inb_S1x1x16640x256_S1x1x256x256_0_0_0_0).toLoadRect X5) X11 X12) ∗ O c arg13 X13)
          -∗ Q ⟨k0_pay3 (pick (Rect.unit (s := S1x1x16640x256) ![0, 0, 0, 0] S1x1x256x256.size inb_S1x1x16640x256_S1x1x256x256_0_0_0_0).toLoadRect X5), k0_pay9 v9 (pick (Rect.unit (s := S1x1x16640x128) ![0, 0, 0, 0] S1x1x256x128.size inb_S1x1x16640x128_S1x1x256x128_0_0_0_0).toLoadRect X4) X13, k0_pay10 v9 (pick (Rect.unit (s := S1x1x16640x128) ![0, 0, 0, 0] S1x1x256x128.size inb_S1x1x16640x128_S1x1x256x128_0_0_0_0).toLoadRect X4) X13, k0_pay11 v9 (pick (Rect.unit (s := S1x1x16640x128) ![0, 0, 0, 0] S1x1x256x128.size inb_S1x1x16640x128_S1x1x256x128_0_0_0_0).toLoadRect X4) X13⟩) -∗ W c (k0_part1 i arg3 harg3 arg4 harg4 arg5 harg5 arg6 harg6 arg7 harg7 arg8 harg8 arg9 harg9 arg10 harg10 arg11 harg11 arg12 harg12 arg13 harg13 arg14 harg14 v6 v9) Q) := by
  unfold W
  rw [k0_part1_eq_skeleton]; unfold k0_part1_skel
  iintro ⟨H4, H5, H11, H12, H13⟩ HK
  iapply (load_part 𝒱₀ (c : Thread nD τ) none Set.univ) $$ H4; iintro H4
  iapply (load_part 𝒱₀ (c : Thread nD τ) none Set.univ) $$ H5; iintro H5
  iapply (load_all 𝒱₀ (c : Thread nD τ) none Set.univ z2) $$ H11; iintro H11
  iapply (load_all 𝒱₀ (c : Thread nD τ) none Set.univ z2) $$ H12; iintro H12
  iapply (load_all 𝒱₀ (c : Thread nD τ) none Set.univ z2) $$ H12; iintro H12
  iapply (store_all 𝒱₀ (c : Thread nD τ) none Set.univ z2) $$ H12; iintro H12
  iapply (load_all 𝒱₀ (c : Thread nD τ) none Set.univ z2) $$ H11; iintro H11
  iapply (store_all 𝒱₀ (c : Thread nD τ) none Set.univ z2) $$ H11; iintro H11
  iapply (load_all 𝒱₀ (c : Thread nD τ) none Set.univ z2) $$ H13; iintro H13
  iapply (le_wp_ret _ _ _ _ _)
  iapply HK
  isplitl [H4]; · iexact H4
  isplitl [H5]; · iexact H5
  isplitl [H11]; · iexact H11
  isplitl [H12]; · iexact H12
  iexact H13

/-- A trip, first phase: the next chunk is scored into the second buffer; the first stream's update is computed. -/
theorem part2_spec (c : Dev nD) (arg3 : Memref sig .tc .vmem S1x1x256x128 .bf16) (harg3 : arg3.IsWhole) (arg4 : Memref sig .tc .vmem S1x1x16640x128 .bf16) (harg4 : arg4.IsWhole) (arg5 : Memref sig .tc .vmem S1x1x16640x256 .bf16) (harg5 : arg5.IsWhole) (arg6 : Memref sig .tc .vmem S4x64 .f32) (harg6 : arg6.IsWhole) (arg7 : Memref sig .tc .vmem S1x128 .f32) (harg7 : arg7.IsWhole) (arg8 : Memref sig .tc .vmem S1x256x128 .bf16) (harg8 : arg8.IsWhole) (arg9 : Memref sig .tc .vmem S512x3328 .f32) (harg9 : arg9.IsWhole) (arg10 : Memref sig .tc .vmem S512x3328 .f32) (harg10 : arg10.IsWhole) (arg11 : Memref sig .tc .vmem S256x1 .f32) (harg11 : arg11.IsWhole) (arg12 : Memref sig .tc .vmem S256x256 .f32) (harg12 : arg12.IsWhole) (arg13 : Memref sig .tc .vmem S256x1 .f32) (harg13 : arg13.IsWhole) (arg14 : Memref sig .tc .vmem S256x256 .f32) (harg14 : arg14.IsWhole) (i : grid0.Coords) (v11 : FVec F S512x128 .bf16) (k0_h2 : k0_cond2 i = 1#1) (c0_i32_45 : BitVec 32) (c1_i32_46 : BitVec 32) (k0_t1 : Fin k0_t1_loop.trips) {X4 : S1x1x16640x128.Idx → Elt F .bf16} {X10 : S512x3328.Idx → Elt F .f32} {X5 : S1x1x16640x256.Idx → Elt F .bf16} {X9 : S512x3328.Idx → Elt F .f32} {X11 : S256x1.Idx → Elt F .f32} {X12 : S256x256.Idx → Elt F .f32} {Q : _ → sProp 𝕄} :
    iprop(O c arg4 X4 ∗ O c arg10 X10 ∗ O c arg5 X5 ∗ O c arg9 X9 ∗ O c arg11 X11 ∗ O c arg12 X12)
      ⊢ iprop((iprop(O c arg4 X4 ∗ O c arg10 (k0_pay12 v11 (pick (Rect.unit (s := S1x1x16640x128) (k0_off1 k0_t1 1#32) S1x1x3328x128.size (k0_off1_inb i k0_t1 k0_h2 0)).toLoadRect X4)) ∗ O c arg5 X5 ∗ O c arg9 X9 ∗ O c arg11 X11 ∗ O c arg12 X12)
          -∗ Q ⟨(Scf.iv c0_i32_45 c1_i32_46 k0_t1), k0_pay13 (pick (Rect.unit (s := S1x1x16640x256) (k0_off2 k0_t1) S1x1x3328x256.size (k0_off2_inb i k0_t1 k0_h2)).toLoadRect X5), k0_pay14 (pick (Rect.unit (s := S512x3328) ![0, 0] S256x3328.size inb_S512x3328_S256x3328_0_0).toLoadRect X9) X11, k0_pay15 (pick (Rect.unit (s := S1x1x16640x256) (k0_off2 k0_t1) S1x1x3328x256.size (k0_off2_inb i k0_t1 k0_h2)).toLoadRect X5) (pick (Rect.unit (s := S512x3328) ![0, 0] S256x3328.size inb_S512x3328_S256x3328_0_0).toLoadRect X9) X11 X12, X12⟩) -∗ W c (k0_part2 i arg3 harg3 arg4 harg4 arg5 harg5 arg6 harg6 arg7 harg7 arg8 harg8 arg9 harg9 arg10 harg10 arg11 harg11 arg12 harg12 arg13 harg13 arg14 harg14 v11 k0_h2 c0_i32_45 c1_i32_46 k0_t1) Q) := by
  unfold W
  rw [k0_part2_eq_skeleton]; unfold k0_part2_skel
  iintro ⟨H4, H10, H5, H9, H11, H12⟩ HK
  iapply (load_part 𝒱₀ (c : Thread nD τ) none Set.univ) $$ H4; iintro H4
  iapply (load_all 𝒱₀ (c : Thread nD τ) none Set.univ z2) $$ H10; iintro H10
  iapply (store_all 𝒱₀ (c : Thread nD τ) none Set.univ z2) $$ H10; iintro H10
  iapply (load_part 𝒱₀ (c : Thread nD τ) none Set.univ) $$ H5; iintro H5
  iapply (load_part 𝒱₀ (c : Thread nD τ) none Set.univ) $$ H9; iintro H9
  iapply (load_all 𝒱₀ (c : Thread nD τ) none Set.univ z2) $$ H11; iintro H11
  iapply (load_all 𝒱₀ (c : Thread nD τ) none Set.univ z2) $$ H12; iintro H12
  iapply (load_all 𝒱₀ (c : Thread nD τ) none Set.univ z2) $$ H12; iintro H12
  iapply (le_wp_ret _ _ _ _ _)
  iapply HK
  isplitl [H4]; · iexact H4
  isplitl [H10]; · iexact H10
  isplitl [H5]; · iexact H5
  isplitl [H9]; · iexact H9
  isplitl [H11]; · iexact H11
  iexact H12

/-- A trip, first phase: both streams take the chunk of the first buffer in. -/
theorem part3_spec (c : Dev nD) (arg3 : Memref sig .tc .vmem S1x1x256x128 .bf16) (harg3 : arg3.IsWhole) (arg4 : Memref sig .tc .vmem S1x1x16640x128 .bf16) (harg4 : arg4.IsWhole) (arg5 : Memref sig .tc .vmem S1x1x16640x256 .bf16) (harg5 : arg5.IsWhole) (arg6 : Memref sig .tc .vmem S4x64 .f32) (harg6 : arg6.IsWhole) (arg7 : Memref sig .tc .vmem S1x128 .f32) (harg7 : arg7.IsWhole) (arg8 : Memref sig .tc .vmem S1x256x128 .bf16) (harg8 : arg8.IsWhole) (arg9 : Memref sig .tc .vmem S512x3328 .f32) (harg9 : arg9.IsWhole) (arg10 : Memref sig .tc .vmem S512x3328 .f32) (harg10 : arg10.IsWhole) (arg11 : Memref sig .tc .vmem S256x1 .f32) (harg11 : arg11.IsWhole) (arg12 : Memref sig .tc .vmem S256x256 .f32) (harg12 : arg12.IsWhole) (arg13 : Memref sig .tc .vmem S256x1 .f32) (harg13 : arg13.IsWhole) (arg14 : Memref sig .tc .vmem S256x256 .f32) (harg14 : arg14.IsWhole) (i : grid0.Coords) (arg15 : BitVec 32) (v154 : FVec F S3328x256 .bf16) (v159 : FVec F S256x1 .f32) (v170 : FVec F S256x256 .f32) (v171 : Vec F S256x256 .f32) {X12 : S256x256.Idx → Elt F .f32} {X11 : S256x1.Idx → Elt F .f32} {X9 : S512x3328.Idx → Elt F .f32} {X13 : S256x1.Idx → Elt F .f32} {X14 : S256x256.Idx → Elt F .f32} {Q : _ → sProp 𝕄} :
    iprop(O c arg12 X12 ∗ O c arg11 X11 ∗ O c arg9 X9 ∗ O c arg13 X13 ∗ O c arg14 X14)
      ⊢ iprop((iprop(O c arg12 (k0_pay16 v170) ∗ O c arg11 (k0_pay17 v159) ∗ O c arg9 X9 ∗ O c arg13 (k0_pay20 (pick (Rect.unit (s := S512x3328) ![256, 0] S256x3328.size inb_S512x3328_S256x3328_256_0).toLoadRect X9) X13) ∗ O c arg14 (k0_pay19 v154 (pick (Rect.unit (s := S512x3328) ![256, 0] S256x3328.size inb_S512x3328_S256x3328_256_0).toLoadRect X9) X13 X14))
          -∗ Q (Scalar.addi (Scalar.muli 2#32 arg15) 1#32)) -∗ W c (k0_part3 i arg3 harg3 arg4 harg4 arg5 harg5 arg6 harg6 arg7 harg7 arg8 harg8 arg9 harg9 arg10 harg10 arg11 harg11 arg12 harg12 arg13 harg13 arg14 harg14 arg15 v154 v159 v170 v171) Q) := by
  unfold W
  rw [k0_part3_eq_skeleton]; unfold k0_part3_skel
  iintro ⟨H12, H11, H9, H13, H14⟩ HK
  iapply (store_all 𝒱₀ (c : Thread nD τ) none Set.univ z2) $$ H12; iintro H12
  iapply (load_all 𝒱₀ (c : Thread nD τ) none Set.univ z2) $$ H11; iintro H11
  iapply (store_all 𝒱₀ (c : Thread nD τ) none Set.univ z2) $$ H11; iintro H11
  iapply (load_part 𝒱₀ (c : Thread nD τ) none Set.univ) $$ H9; iintro H9
  iapply (load_all 𝒱₀ (c : Thread nD τ) none Set.univ z2) $$ H13; iintro H13
  iapply (load_all 𝒱₀ (c : Thread nD τ) none Set.univ z2) $$ H14; iintro H14
  iapply (load_all 𝒱₀ (c : Thread nD τ) none Set.univ z2) $$ H14; iintro H14
  iapply (store_all 𝒱₀ (c : Thread nD τ) none Set.univ z2) $$ H14; iintro H14
  iapply (load_all 𝒱₀ (c : Thread nD τ) none Set.univ z2) $$ H13; iintro H13
  iapply (store_all 𝒱₀ (c : Thread nD τ) none Set.univ z2) $$ H13; iintro H13
  iapply (le_wp_ret _ _ _ _ _)
  iapply HK
  isplitl [H12]; · iexact H12
  isplitl [H11]; · iexact H11
  isplitl [H9]; · iexact H9
  isplitl [H13]; · iexact H13
  iexact H14

/-- A trip, second phase: the chunk after is scored into the first buffer; the first stream takes the second buffer in. -/
theorem part4_spec (c : Dev nD) (arg3 : Memref sig .tc .vmem S1x1x256x128 .bf16) (harg3 : arg3.IsWhole) (arg4 : Memref sig .tc .vmem S1x1x16640x128 .bf16) (harg4 : arg4.IsWhole) (arg5 : Memref sig .tc .vmem S1x1x16640x256 .bf16) (harg5 : arg5.IsWhole) (arg6 : Memref sig .tc .vmem S4x64 .f32) (harg6 : arg6.IsWhole) (arg7 : Memref sig .tc .vmem S1x128 .f32) (harg7 : arg7.IsWhole) (arg8 : Memref sig .tc .vmem S1x256x128 .bf16) (harg8 : arg8.IsWhole) (arg9 : Memref sig .tc .vmem S512x3328 .f32) (harg9 : arg9.IsWhole) (arg10 : Memref sig .tc .vmem S512x3328 .f32) (harg10 : arg10.IsWhole) (arg11 : Memref sig .tc .vmem S256x1 .f32) (harg11 : arg11.IsWhole) (arg12 : Memref sig .tc .vmem S256x256 .f32) (harg12 : arg12.IsWhole) (arg13 : Memref sig .tc .vmem S256x1 .f32) (harg13 : arg13.IsWhole) (arg14 : Memref sig .tc .vmem S256x256 .f32) (harg14 : arg14.IsWhole) (i : grid0.Coords) (v11 : FVec F S512x128 .bf16) (k0_h2 : k0_cond2 i = 1#1) (k0_t1 : Fin k0_t1_loop.trips) (v202 : BitVec 32) {X4 : S1x1x16640x128.Idx → Elt F .bf16} {X9 : S512x3328.Idx → Elt F .f32} {X5 : S1x1x16640x256.Idx → Elt F .bf16} {X10 : S512x3328.Idx → Elt F .f32} {X11 : S256x1.Idx → Elt F .f32} {X12 : S256x256.Idx → Elt F .f32} {Q : _ → sProp 𝕄} :
    iprop(O c arg4 X4 ∗ O c arg9 X9 ∗ O c arg5 X5 ∗ O c arg10 X10 ∗ O c arg11 X11 ∗ O c arg12 X12)
      ⊢ iprop((iprop(O c arg4 X4 ∗ O c arg9 (k0_pay21 v11 (pick (Rect.unit (s := S1x1x16640x128) (k0_off1 k0_t1 2#32) S1x1x3328x128.size (k0_off1_inb i k0_t1 k0_h2 1)).toLoadRect X4)) ∗ O c arg5 X5 ∗ O c arg10 X10 ∗ O c arg11 (k0_pay25 (pick (Rect.unit (s := S512x3328) ![0, 0] S256x3328.size inb_S512x3328_S256x3328_0_0).toLoadRect X10) X11) ∗ O c arg12 (k0_pay24 (pick (Rect.unit (s := S1x1x16640x256) (k0_off3 k0_t1) S1x1x3328x256.size (k0_off3_inb i k0_t1 k0_h2)).toLoadRect X5) (pick (Rect.unit (s := S512x3328) ![0, 0] S256x3328.size inb_S512x3328_S256x3328_0_0).toLoadRect X10) X11 X12))
          -∗ Q ⟨k0_pay22 (pick (Rect.unit (s := S1x1x16640x256) (k0_off3 k0_t1) S1x1x3328x256.size (k0_off3_inb i k0_t1 k0_h2)).toLoadRect X5), (pick (Rect.unit (s := S512x3328) ![256, 0] S256x3328.size inb_S512x3328_S256x3328_256_0).toLoadRect X10)⟩) -∗ W c (k0_part4 i arg3 harg3 arg4 harg4 arg5 harg5 arg6 harg6 arg7 harg7 arg8 harg8 arg9 harg9 arg10 harg10 arg11 harg11 arg12 harg12 arg13 harg13 arg14 harg14 v11 k0_h2 k0_t1 v202) Q) := by
  unfold W
  rw [k0_part4_eq_skeleton]; unfold k0_part4_skel
  iintro ⟨H4, H9, H5, H10, H11, H12⟩ HK
  iapply (load_part 𝒱₀ (c : Thread nD τ) none Set.univ) $$ H4; iintro H4
  iapply (load_all 𝒱₀ (c : Thread nD τ) none Set.univ z2) $$ H9; iintro H9
  iapply (store_all 𝒱₀ (c : Thread nD τ) none Set.univ z2) $$ H9; iintro H9
  iapply (load_part 𝒱₀ (c : Thread nD τ) none Set.univ) $$ H5; iintro H5
  iapply (load_part 𝒱₀ (c : Thread nD τ) none Set.univ) $$ H10; iintro H10
  iapply (load_all 𝒱₀ (c : Thread nD τ) none Set.univ z2) $$ H11; iintro H11
  iapply (load_all 𝒱₀ (c : Thread nD τ) none Set.univ z2) $$ H12; iintro H12
  iapply (load_all 𝒱₀ (c : Thread nD τ) none Set.univ z2) $$ H12; iintro H12
  iapply (store_all 𝒱₀ (c : Thread nD τ) none Set.univ z2) $$ H12; iintro H12
  iapply (load_all 𝒱₀ (c : Thread nD τ) none Set.univ z2) $$ H11; iintro H11
  iapply (store_all 𝒱₀ (c : Thread nD τ) none Set.univ z2) $$ H11; iintro H11
  iapply (load_part 𝒱₀ (c : Thread nD τ) none Set.univ) $$ H10; iintro H10
  iapply (le_wp_ret _ _ _ _ _)
  iapply HK
  isplitl [H4]; · iexact H4
  isplitl [H9]; · iexact H9
  isplitl [H5]; · iexact H5
  isplitl [H10]; · iexact H10
  isplitl [H11]; · iexact H11
  iexact H12

/-- One trip of the loop: the buffers after it. -/
theorem trip_spec (c : Dev nD) (arg3 : Memref sig .tc .vmem S1x1x256x128 .bf16) (harg3 : arg3.IsWhole) (arg4 : Memref sig .tc .vmem S1x1x16640x128 .bf16) (harg4 : arg4.IsWhole) (arg5 : Memref sig .tc .vmem S1x1x16640x256 .bf16) (harg5 : arg5.IsWhole) (arg6 : Memref sig .tc .vmem S4x64 .f32) (harg6 : arg6.IsWhole) (arg7 : Memref sig .tc .vmem S1x128 .f32) (harg7 : arg7.IsWhole) (arg8 : Memref sig .tc .vmem S1x256x128 .bf16) (harg8 : arg8.IsWhole) (arg9 : Memref sig .tc .vmem S512x3328 .f32) (harg9 : arg9.IsWhole) (arg10 : Memref sig .tc .vmem S512x3328 .f32) (harg10 : arg10.IsWhole) (arg11 : Memref sig .tc .vmem S256x1 .f32) (harg11 : arg11.IsWhole) (arg12 : Memref sig .tc .vmem S256x256 .f32) (harg12 : arg12.IsWhole) (arg13 : Memref sig .tc .vmem S256x1 .f32) (harg13 : arg13.IsWhole) (arg14 : Memref sig .tc .vmem S256x256 .f32) (harg14 : arg14.IsWhole) (i : grid0.Coords) (v11 : FVec F S512x128 .bf16) (k0_h2 : k0_cond2 i = 1#1) (k0_t1 : Fin k0_t1_loop.trips) {X4 : S1x1x16640x128.Idx → Elt F .bf16} {X10 : S512x3328.Idx → Elt F .f32} {X5 : S1x1x16640x256.Idx → Elt F .bf16} {X9 : S512x3328.Idx → Elt F .f32} {X11 : S256x1.Idx → Elt F .f32} {X12 : S256x256.Idx → Elt F .f32} {X13 : S256x1.Idx → Elt F .f32} {X14 : S256x256.Idx → Elt F .f32} {Q : _ → sProp 𝕄} :
    iprop(O c arg4 X4 ∗ O c arg10 X10 ∗ O c arg5 X5 ∗ O c arg9 X9 ∗ O c arg11 X11 ∗ O c arg12 X12 ∗ O c arg13 X13 ∗ O c arg14 X14)
      ⊢ iprop((iprop(O c arg4 X4 ∗ O c arg10 (k0_pay12 v11 (pick (Rect.unit (s := S1x1x16640x128) (k0_off1 k0_t1 1#32) S1x1x3328x128.size (k0_off1_inb i k0_t1 k0_h2 0)).toLoadRect X4)) ∗ O c arg5 X5 ∗ O c arg9 (k0_pay21 v11 (pick (Rect.unit (s := S1x1x16640x128) (k0_off1 k0_t1 2#32) S1x1x3328x128.size (k0_off1_inb i k0_t1 k0_h2 1)).toLoadRect X4)) ∗ O c arg11 (k0_pay25 (pick (Rect.unit (s := S512x3328) ![0, 0] S256x3328.size inb_S512x3328_S256x3328_0_0).toLoadRect (k0_pay12 v11 (pick (Rect.unit (s := S1x1x16640x128) (k0_off1 k0_t1 1#32) S1x1x3328x128.size (k0_off1_inb i k0_t1 k0_h2 0)).toLoadRect X4))) (k0_pay17 (k0_pay14 (pick (Rect.unit (s := S512x3328) ![0, 0] S256x3328.size inb_S512x3328_S256x3328_0_0).toLoadRect X9) X11))) ∗ O c arg12 (k0_pay24 (pick (Rect.unit (s := S1x1x16640x256) (k0_off3 k0_t1) S1x1x3328x256.size (k0_off3_inb i k0_t1 k0_h2)).toLoadRect X5) (pick (Rect.unit (s := S512x3328) ![0, 0] S256x3328.size inb_S512x3328_S256x3328_0_0).toLoadRect (k0_pay12 v11 (pick (Rect.unit (s := S1x1x16640x128) (k0_off1 k0_t1 1#32) S1x1x3328x128.size (k0_off1_inb i k0_t1 k0_h2 0)).toLoadRect X4))) (k0_pay17 (k0_pay14 (pick (Rect.unit (s := S512x3328) ![0, 0] S256x3328.size inb_S512x3328_S256x3328_0_0).toLoadRect X9) X11)) (k0_pay16 (k0_pay15 (pick (Rect.unit (s := S1x1x16640x256) (k0_off2 k0_t1) S1x1x3328x256.size (k0_off2_inb i k0_t1 k0_h2)).toLoadRect X5) (pick (Rect.unit (s := S512x3328) ![0, 0] S256x3328.size inb_S512x3328_S256x3328_0_0).toLoadRect X9) X11 X12))) ∗ O c arg13 (k0_pay29 (pick (Rect.unit (s := S512x3328) ![256, 0] S256x3328.size inb_S512x3328_S256x3328_256_0).toLoadRect (k0_pay12 v11 (pick (Rect.unit (s := S1x1x16640x128) (k0_off1 k0_t1 1#32) S1x1x3328x128.size (k0_off1_inb i k0_t1 k0_h2 0)).toLoadRect X4))) (k0_pay20 (pick (Rect.unit (s := S512x3328) ![256, 0] S256x3328.size inb_S512x3328_S256x3328_256_0).toLoadRect X9) X13)) ∗ O c arg14 (k0_pay28 (k0_pay22 (pick (Rect.unit (s := S1x1x16640x256) (k0_off3 k0_t1) S1x1x3328x256.size (k0_off3_inb i k0_t1 k0_h2)).toLoadRect X5)) (pick (Rect.unit (s := S512x3328) ![256, 0] S256x3328.size inb_S512x3328_S256x3328_256_0).toLoadRect (k0_pay12 v11 (pick (Rect.unit (s := S1x1x16640x128) (k0_off1 k0_t1 1#32) S1x1x3328x128.size (k0_off1_inb i k0_t1 k0_h2 0)).toLoadRect X4))) (k0_pay20 (pick (Rect.unit (s := S512x3328) ![256, 0] S256x3328.size inb_S512x3328_S256x3328_256_0).toLoadRect X9) X13) (k0_pay19 (k0_pay13 (pick (Rect.unit (s := S1x1x16640x256) (k0_off2 k0_t1) S1x1x3328x256.size (k0_off2_inb i k0_t1 k0_h2)).toLoadRect X5)) (pick (Rect.unit (s := S512x3328) ![256, 0] S256x3328.size inb_S512x3328_S256x3328_256_0).toLoadRect X9) X13 X14)))
          -∗ Q ⟨⟩) -∗ W c (k0_t1_body i arg3 harg3 arg4 harg4 arg5 harg5 arg6 harg6 arg7 harg7 arg8 harg8 arg9 harg9 arg10 harg10 arg11 harg11 arg12 harg12 arg13 harg13 arg14 harg14 v11 k0_h2 k0_t1 ()) Q) := by
  unfold W k0_t1_body
  iintro ⟨H4, H10, H5, H9, H11, H12, H13, H14⟩ HK
  rw [wp_bind]
  iapply (part2_spec c arg3 harg3 arg4 harg4 arg5 harg5 arg6 harg6 arg7 harg7 arg8 harg8 arg9 harg9 arg10 harg10 arg11 harg11 arg12 harg12 arg13 harg13 arg14 harg14 _ _ _ _ _ _) $$ [H4 H10 H5 H9 H11 H12]
  · isplitl [H4]; · iexact H4
    · isplitl [H10]; · iexact H10
      · isplitl [H5]; · iexact H5
        · isplitl [H9]; · iexact H9
          · isplitl [H11]; · iexact H11
            iexact H12
  iintro ⟨H4, H10, H5, H9, H11, H12⟩
  try dsimp only
  rw [wp_bind]
  iapply (part3_spec c arg3 harg3 arg4 harg4 arg5 harg5 arg6 harg6 arg7 harg7 arg8 harg8 arg9 harg9 arg10 harg10 arg11 harg11 arg12 harg12 arg13 harg13 arg14 harg14 _ _ _ _ _ _) $$ [H12 H11 H9 H13 H14]
  · isplitl [H12]; · iexact H12
    · isplitl [H11]; · iexact H11
      · isplitl [H9]; · iexact H9
        · isplitl [H13]; · iexact H13
          iexact H14
  iintro ⟨H12, H11, H9, H13, H14⟩
  try dsimp only
  rw [wp_bind]
  iapply (part4_spec c arg3 harg3 arg4 harg4 arg5 harg5 arg6 harg6 arg7 harg7 arg8 harg8 arg9 harg9 arg10 harg10 arg11 harg11 arg12 harg12 arg13 harg13 arg14 harg14 _ _ _ _ _) $$ [H4 H9 H5 H10 H11 H12]
  · isplitl [H4]; · iexact H4
    · isplitl [H9]; · iexact H9
      · isplitl [H5]; · iexact H5
        · isplitl [H10]; · iexact H10
          · isplitl [H11]; · iexact H11
            iexact H12
  iintro ⟨H4, H9, H5, H10, H11, H12⟩
  try dsimp only
  iapply (load_all 𝒱₀ (c : Thread nD τ) none Set.univ z2) $$ H13; iintro H13
  iapply (load_all 𝒱₀ (c : Thread nD τ) none Set.univ z2) $$ H14; iintro H14
  iapply (load_all 𝒱₀ (c : Thread nD τ) none Set.univ z2) $$ H14; iintro H14
  iapply (store_all 𝒱₀ (c : Thread nD τ) none Set.univ z2) $$ H14; iintro H14
  iapply (load_all 𝒱₀ (c : Thread nD τ) none Set.univ z2) $$ H13; iintro H13
  iapply (store_all 𝒱₀ (c : Thread nD τ) none Set.univ z2) $$ H13; iintro H13
  iapply (le_wp_ret _ _ _ _ _)
  iapply HK
  isplitl [H4]; · iexact H4
  isplitl [H10]; · iexact H10
  isplitl [H5]; · iexact H5
  isplitl [H9]; · iexact H9
  isplitl [H11]; · iexact H11
  isplitl [H12]; · iexact H12
  isplitl [H13]; · iexact H13
  iexact H14

end Cert.Proof.Diff

end
-- ==== Proof.DiffLoop.lean ====
/-
  The loop of the differential-attention kernel, and the parts of its body around the loop.
-/
module

public import proofs.«01_k».proof.Proof.DiffParts
public import proofs.«01_k».proof.Proof.Gen.KernelIdeal.Launch
public import proofs.«01_k».proof.Proof.Gen.KernelIdeal.Skeleton

@[expose] public section

noncomputable section

namespace Cert.Proof.Diff

open Cert.KernelIdeal Cert.KernelIdeal.Gen Cert.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The first chunk of the keys. -/
abbrev chunk0 := Rect.unit (s := S1x1x16640x128) ![0, 0, 0, 0] S1x1x3328x128.size inb_S1x1x16640x128_S1x1x3328x128_0_0_0_0

/-- The last chunk of the values. -/
abbrev last := Rect.unit (s := S1x1x16640x256) ![0, 0, 13312, 0] S1x1x3328x256.size inb_S1x1x16640x256_S1x1x3328x256_0_0_13312_0

/-- What the loop carries: the scores of the chunk to come, and each stream's maxima and weighted sums. -/
structure Regs (F : FTy → Type) where
  s : S512x3328.Idx → Elt F .f32
  m1 : S256x1.Idx → Elt F .f32
  a1 : S256x256.Idx → Elt F .f32
  m2 : S256x1.Idx → Elt F .f32
  a2 : S256x256.Idx → Elt F .f32

/-- Core `c` owns the memref, whatever it holds. -/
abbrev Any (c : Dev nD) {sp : Space} {s : Shape} {e : EltTy} (m : Memref sig .tc sp s e) : sProp 𝕄 :=
  iprop(∃ Z : s.Idx → Elt F e, O (F := F) c m Z)

/-- One trip of the loop, on what it carries. -/
def trip (i : grid0.Coords) (v11 : FVec F S512x128 .bf16) (k0_h2 : k0_cond2 i = 1#1) (K : S1x1x16640x128.Idx → Elt F .bf16) (V : S1x1x16640x256.Idx → Elt F .bf16) (k0_t1 : Fin k0_t1_loop.trips) (r : Regs F) : Regs F :=
    { s := (k0_pay21 v11 (pick (Rect.unit (s := S1x1x16640x128) (k0_off1 k0_t1 2#32) S1x1x3328x128.size (k0_off1_inb i k0_t1 k0_h2 1)).toLoadRect K)),
      m1 := (k0_pay25 (pick (Rect.unit (s := S512x3328) ![0, 0] S256x3328.size inb_S512x3328_S256x3328_0_0).toLoadRect (k0_pay12 v11 (pick (Rect.unit (s := S1x1x16640x128) (k0_off1 k0_t1 1#32) S1x1x3328x128.size (k0_off1_inb i k0_t1 k0_h2 0)).toLoadRect K))) (k0_pay17 (k0_pay14 (pick (Rect.unit (s := S512x3328) ![0, 0] S256x3328.size inb_S512x3328_S256x3328_0_0).toLoadRect r.s) r.m1))),
      a1 := (k0_pay24 (pick (Rect.unit (s := S1x1x16640x256) (k0_off3 k0_t1) S1x1x3328x256.size (k0_off3_inb i k0_t1 k0_h2)).toLoadRect V) (pick (Rect.unit (s := S512x3328) ![0, 0] S256x3328.size inb_S512x3328_S256x3328_0_0).toLoadRect (k0_pay12 v11 (pick (Rect.unit (s := S1x1x16640x128) (k0_off1 k0_t1 1#32) S1x1x3328x128.size (k0_off1_inb i k0_t1 k0_h2 0)).toLoadRect K))) (k0_pay17 (k0_pay14 (pick (Rect.unit (s := S512x3328) ![0, 0] S256x3328.size inb_S512x3328_S256x3328_0_0).toLoadRect r.s) r.m1)) (k0_pay16 (k0_pay15 (pick (Rect.unit (s := S1x1x16640x256) (k0_off2 k0_t1) S1x1x3328x256.size (k0_off2_inb i k0_t1 k0_h2)).toLoadRect V) (pick (Rect.unit (s := S512x3328) ![0, 0] S256x3328.size inb_S512x3328_S256x3328_0_0).toLoadRect r.s) r.m1 r.a1))),
      m2 := (k0_pay29 (pick (Rect.unit (s := S512x3328) ![256, 0] S256x3328.size inb_S512x3328_S256x3328_256_0).toLoadRect (k0_pay12 v11 (pick (Rect.unit (s := S1x1x16640x128) (k0_off1 k0_t1 1#32) S1x1x3328x128.size (k0_off1_inb i k0_t1 k0_h2 0)).toLoadRect K))) (k0_pay20 (pick (Rect.unit (s := S512x3328) ![256, 0] S256x3328.size inb_S512x3328_S256x3328_256_0).toLoadRect r.s) r.m2)),
      a2 := (k0_pay28 (k0_pay22 (pick (Rect.unit (s := S1x1x16640x256) (k0_off3 k0_t1) S1x1x3328x256.size (k0_off3_inb i k0_t1 k0_h2)).toLoadRect V)) (pick (Rect.unit (s := S512x3328) ![256, 0] S256x3328.size inb_S512x3328_S256x3328_256_0).toLoadRect (k0_pay12 v11 (pick (Rect.unit (s := S1x1x16640x128) (k0_off1 k0_t1 1#32) S1x1x3328x128.size (k0_off1_inb i k0_t1 k0_h2 0)).toLoadRect K))) (k0_pay20 (pick (Rect.unit (s := S512x3328) ![256, 0] S256x3328.size inb_S512x3328_S256x3328_256_0).toLoadRect r.s) r.m2) (k0_pay19 (k0_pay13 (pick (Rect.unit (s := S1x1x16640x256) (k0_off2 k0_t1) S1x1x3328x256.size (k0_off2_inb i k0_t1 k0_h2)).toLoadRect V)) (pick (Rect.unit (s := S512x3328) ![256, 0] S256x3328.size inb_S512x3328_S256x3328_256_0).toLoadRect r.s) r.m2 r.a2)) }

/-- What the loop carries before trip `n`. -/
def regsAt (i : grid0.Coords) (v11 : FVec F S512x128 .bf16) (k0_h2 : k0_cond2 i = 1#1) (K : S1x1x16640x128.Idx → Elt F .bf16) (V : S1x1x16640x256.Idx → Elt F .bf16) (r : Regs F) : ℕ → Regs F
  | 0 => r
  | n + 1 => if h : n < k0_t1_loop.trips then trip i v11 k0_h2 K V ⟨n, h⟩ (regsAt i v11 k0_h2 K V r n) else regsAt i v11 k0_h2 K V r n

theorem regsAt_succ (i : grid0.Coords) (v11 : FVec F S512x128 .bf16) (k0_h2 : k0_cond2 i = 1#1) (K : S1x1x16640x128.Idx → Elt F .bf16) (V : S1x1x16640x256.Idx → Elt F .bf16) (r : Regs F) (k : Fin k0_t1_loop.trips) :
    regsAt i v11 k0_h2 K V r (k.val + 1) = trip i v11 k0_h2 K V k (regsAt i v11 k0_h2 K V r k.val) := by
  rw [regsAt, dif_pos k.isLt]

/-- The loop: from what it carries at the start to what it carries after the last trip. -/
theorem loop_spec (c : Dev nD) (arg3 : Memref sig .tc .vmem S1x1x256x128 .bf16) (harg3 : arg3.IsWhole) (arg4 : Memref sig .tc .vmem S1x1x16640x128 .bf16) (harg4 : arg4.IsWhole) (arg5 : Memref sig .tc .vmem S1x1x16640x256 .bf16) (harg5 : arg5.IsWhole) (arg6 : Memref sig .tc .vmem S4x64 .f32) (harg6 : arg6.IsWhole) (arg7 : Memref sig .tc .vmem S1x128 .f32) (harg7 : arg7.IsWhole) (arg8 : Memref sig .tc .vmem S1x256x128 .bf16) (harg8 : arg8.IsWhole) (arg9 : Memref sig .tc .vmem S512x3328 .f32) (harg9 : arg9.IsWhole) (arg10 : Memref sig .tc .vmem S512x3328 .f32) (harg10 : arg10.IsWhole) (arg11 : Memref sig .tc .vmem S256x1 .f32) (harg11 : arg11.IsWhole) (arg12 : Memref sig .tc .vmem S256x256 .f32) (harg12 : arg12.IsWhole) (arg13 : Memref sig .tc .vmem S256x1 .f32) (harg13 : arg13.IsWhole) (arg14 : Memref sig .tc .vmem S256x256 .f32) (harg14 : arg14.IsWhole) (i : grid0.Coords) (v11 : FVec F S512x128 .bf16) (k0_h2 : k0_cond2 i = 1#1) {K : S1x1x16640x128.Idx → Elt F .bf16} {V : S1x1x16640x256.Idx → Elt F .bf16} {r : Regs F} {α : Type} {kk : Unit → Prog (TpuEff nD τ sig (Elt F) Λ₀ .tc) α} {Q : α → sProp 𝕄} :
    iprop(O c arg4 K ∗ Any (F := F) c arg10 ∗ O c arg5 V ∗ O c arg9 r.s ∗ O c arg11 r.m1 ∗ O c arg12 r.a1 ∗ O c arg13 r.m2 ∗ O c arg14 r.a2)
      ⊢ iprop((iprop(O c arg4 K ∗ Any (F := F) c arg10 ∗ O c arg5 V ∗ O c arg9 (regsAt i v11 k0_h2 K V r k0_t1_loop.trips).s ∗ O c arg11 (regsAt i v11 k0_h2 K V r k0_t1_loop.trips).m1 ∗ O c arg12 (regsAt i v11 k0_h2 K V r k0_t1_loop.trips).a1 ∗ O c arg13 (regsAt i v11 k0_h2 K V r k0_t1_loop.trips).m2 ∗ O c arg14 (regsAt i v11 k0_h2 K V r k0_t1_loop.trips).a2)
          -∗ W c (kk ()) Q) -∗ W c (Scf.Loop.for k0_t1_loop (k0_t1_ok i k0_h2) () (k0_t1_body i arg3 harg3 arg4 harg4 arg5 harg5 arg6 harg6 arg7 harg7 arg8 harg8 arg9 harg9 arg10 harg10 arg11 harg11 arg12 harg12 arg13 harg13 arg14 harg14 v11 k0_h2) >>= kk) Q) := by
  have step : ∀ (k : Fin k0_t1_loop.trips) (acc : Unit), (fun n _ => iprop(O c arg4 K ∗ Any (F := F) c arg10 ∗ O c arg5 V ∗ O c arg9 (regsAt i v11 k0_h2 K V r n).s ∗ O c arg11 (regsAt i v11 k0_h2 K V r n).m1 ∗ O c arg12 (regsAt i v11 k0_h2 K V r n).a1 ∗ O c arg13 (regsAt i v11 k0_h2 K V r n).m2 ∗ O c arg14 (regsAt i v11 k0_h2 K V r n).a2)) k.val acc
      ⊢ wp Idealize.ShloMosaic.frame (wpE (defs₀ (F := F)) 𝒱₀ (c : Thread nD τ) none) Set.univ (k0_t1_body i arg3 harg3 arg4 harg4 arg5 harg5 arg6 harg6 arg7 harg7 arg8 harg8 arg9 harg9 arg10 harg10 arg11 harg11 arg12 harg12 arg13 harg13 arg14 harg14 v11 k0_h2 k acc) ((fun n _ => iprop(O c arg4 K ∗ Any (F := F) c arg10 ∗ O c arg5 V ∗ O c arg9 (regsAt i v11 k0_h2 K V r n).s ∗ O c arg11 (regsAt i v11 k0_h2 K V r n).m1 ∗ O c arg12 (regsAt i v11 k0_h2 K V r n).a1 ∗ O c arg13 (regsAt i v11 k0_h2 K V r n).m2 ∗ O c arg14 (regsAt i v11 k0_h2 K V r n).a2)) (k.val + 1)) := by
    intro k acc
    dsimp only
    iintro ⟨H4, ⟨%Z, H10⟩, H5, H9, H11, H12, H13, H14⟩
    iapply (trip_spec c arg3 harg3 arg4 harg4 arg5 harg5 arg6 harg6 arg7 harg7 arg8 harg8 arg9 harg9 arg10 harg10 arg11 harg11 arg12 harg12 arg13 harg13 arg14 harg14 i v11 k0_h2 k) $$ [H4 H10 H5 H9 H11 H12 H13 H14]
    · isplitl [H4]; · iexact H4
      isplitl [H10]; · iexact H10
      isplitl [H5]; · iexact H5
      isplitl [H9]; · iexact H9
      isplitl [H11]; · iexact H11
      isplitl [H12]; · iexact H12
      isplitl [H13]; · iexact H13
      iexact H14
    iintro ⟨H4, H10, H5, H9, H11, H12, H13, H14⟩
    rw [regsAt_succ]
    isplitl [H4]; · iexact H4
    isplitl [H10]; · iexists _; iexact H10
    isplitl [H5]; · iexact H5
    isplitl [H9]; · iexact H9
    isplitl [H11]; · iexact H11
    isplitl [H12]; · iexact H12
    isplitl [H13]; · iexact H13
    iexact H14
  unfold W
  iintro ⟨H4, H10, H5, H9, H11, H12, H13, H14⟩ HK
  iapply (Scf.wp_for_bind Idealize.ShloMosaic.frame (wpE (defs₀ (F := F)) 𝒱₀ (c : Thread nD τ) none) Set.univ k0_t1_loop.lb k0_t1_loop.ub k0_t1_loop.st (k0_t1_ok i k0_h2) () (k0_t1_body i arg3 harg3 arg4 harg4 arg5 harg5 arg6 harg6 arg7 harg7 arg8 harg8 arg9 harg9 arg10 harg10 arg11 harg11 arg12 harg12 arg13 harg13 arg14 harg14 v11 k0_h2) (fun n _ => iprop(O c arg4 K ∗ Any (F := F) c arg10 ∗ O c arg5 V ∗ O c arg9 (regsAt i v11 k0_h2 K V r n).s ∗ O c arg11 (regsAt i v11 k0_h2 K V r n).m1 ∗ O c arg12 (regsAt i v11 k0_h2 K V r n).a1 ∗ O c arg13 (regsAt i v11 k0_h2 K V r n).m2 ∗ O c arg14 (regsAt i v11 k0_h2 K V r n).a2)) step) $$ [H4 H10 H5 H9 H11 H12 H13 H14]
  · isplitl [H4]; · iexact H4
    isplitl [H10]; · iexact H10
    isplitl [H5]; · iexact H5
    isplitl [H9]; · iexact H9
    isplitl [H11]; · iexact H11
    isplitl [H12]; · iexact H12
    isplitl [H13]; · iexact H13
    iexact H14
  iintro %acc HI
  iapply HK
  iexact HI

/-- The latent rows, all chunks but the last for the second stream. -/
theorem part5_spec (c : Dev nD) (arg3 : Memref sig .tc .vmem S1x1x256x128 .bf16) (harg3 : arg3.IsWhole) (arg4 : Memref sig .tc .vmem S1x1x16640x128 .bf16) (harg4 : arg4.IsWhole) (arg5 : Memref sig .tc .vmem S1x1x16640x256 .bf16) (harg5 : arg5.IsWhole) (arg6 : Memref sig .tc .vmem S4x64 .f32) (harg6 : arg6.IsWhole) (arg7 : Memref sig .tc .vmem S1x128 .f32) (harg7 : arg7.IsWhole) (arg8 : Memref sig .tc .vmem S1x256x128 .bf16) (harg8 : arg8.IsWhole) (arg9 : Memref sig .tc .vmem S512x3328 .f32) (harg9 : arg9.IsWhole) (arg10 : Memref sig .tc .vmem S512x3328 .f32) (harg10 : arg10.IsWhole) (arg11 : Memref sig .tc .vmem S256x1 .f32) (harg11 : arg11.IsWhole) (arg12 : Memref sig .tc .vmem S256x256 .f32) (harg12 : arg12.IsWhole) (arg13 : Memref sig .tc .vmem S256x1 .f32) (harg13 : arg13.IsWhole) (arg14 : Memref sig .tc .vmem S256x256 .f32) (harg14 : arg14.IsWhole) (i : grid0.Coords) (v11 : FVec F S512x128 .bf16) (k0_h2 : k0_cond2 i = 1#1) {X4 : S1x1x16640x128.Idx → Elt F .bf16} {X9 : S512x3328.Idx → Elt F .f32} {X5 : S1x1x16640x256.Idx → Elt F .bf16} {X11 : S256x1.Idx → Elt F .f32} {X12 : S256x256.Idx → Elt F .f32} {X13 : S256x1.Idx → Elt F .f32} {X14 : S256x256.Idx → Elt F .f32} {R : Regs F} (hR : R = regsAt i v11 k0_h2 X4 X5 ⟨(k0_pay26 v11 (pick chunk0.toLoadRect X4)), X11, X12, X13, X14⟩ k0_t1_loop.trips) {Q : _ → sProp 𝕄} :
    iprop(O c arg4 X4 ∗ O c arg9 X9 ∗ Any c arg10 ∗ O c arg5 X5 ∗ O c arg11 X11 ∗ O c arg12 X12 ∗ O c arg13 X13 ∗ O c arg14 X14)
      ⊢ iprop((iprop(O c arg4 X4 ∗ O c arg9 R.s ∗ Any c arg10 ∗ O c arg5 X5 ∗ O c arg11 R.m1 ∗ O c arg12 (k0_pay32 (pick last.toLoadRect X5) (pick (Rect.unit (s := S512x3328) ![0, 0] S256x3328.size inb_S512x3328_S256x3328_0_0).toLoadRect R.s) R.m1 R.a1) ∗ O c arg13 R.m2 ∗ O c arg14 R.a2)
          -∗ Q ⟨k0_pay30 (pick last.toLoadRect X5), k0_pay31 (pick (Rect.unit (s := S512x3328) ![0, 0] S256x3328.size inb_S512x3328_S256x3328_0_0).toLoadRect R.s) R.m1⟩) -∗ W c (k0_part5 i arg3 harg3 arg4 harg4 arg5 harg5 arg6 harg6 arg7 harg7 arg8 harg8 arg9 harg9 arg10 harg10 arg11 harg11 arg12 harg12 arg13 harg13 arg14 harg14 v11 k0_h2) Q) := by
  subst hR
  unfold W
  rw [k0_part5_eq_skeleton]; unfold k0_part5_skel
  iintro ⟨H4, H9, H10, H5, H11, H12, H13, H14⟩ HK
  iapply (load_part 𝒱₀ (c : Thread nD τ) none Set.univ) $$ H4; iintro H4
  iapply (load_all 𝒱₀ (c : Thread nD τ) none Set.univ z2) $$ H9; iintro H9
  iapply (store_all 𝒱₀ (c : Thread nD τ) none Set.univ z2) $$ H9; iintro H9
  iapply (loop_spec c arg3 harg3 arg4 harg4 arg5 harg5 arg6 harg6 arg7 harg7 arg8 harg8 arg9 harg9 arg10 harg10 arg11 harg11 arg12 harg12 arg13 harg13 arg14 harg14 i v11 k0_h2 (r := ⟨(k0_pay26 v11 (pick chunk0.toLoadRect X4)), X11, X12, X13, X14⟩)) $$ [H4 H10 H5 H9 H11 H12 H13 H14]
  · isplitl [H4]; · iexact H4
    · isplitl [H10]; · iexact H10
      · isplitl [H5]; · iexact H5
        · isplitl [H9]; · iexact H9
          · isplitl [H11]; · iexact H11
            · isplitl [H12]; · iexact H12
              · isplitl [H13]; · iexact H13
                iexact H14
  iintro ⟨H4, H10, H5, H9, H11, H12, H13, H14⟩
  iapply (load_part 𝒱₀ (c : Thread nD τ) none Set.univ) $$ H5; iintro H5
  iapply (load_part 𝒱₀ (c : Thread nD τ) none Set.univ) $$ H9; iintro H9
  iapply (load_all 𝒱₀ (c : Thread nD τ) none Set.univ z2) $$ H11; iintro H11
  iapply (load_all 𝒱₀ (c : Thread nD τ) none Set.univ z2) $$ H12; iintro H12
  iapply (load_all 𝒱₀ (c : Thread nD τ) none Set.univ z2) $$ H12; iintro H12
  iapply (store_all 𝒱₀ (c : Thread nD τ) none Set.univ z2) $$ H12; iintro H12
  iapply (le_wp_ret _ _ _ _ _)
  iapply HK
  isplitl [H4]; · iexact H4
  isplitl [H9]; · iexact H9
  isplitl [H10]; · iexact H10
  isplitl [H5]; · iexact H5
  isplitl [H11]; · iexact H11
  isplitl [H12]; · iexact H12
  isplitl [H13]; · iexact H13
  iexact H14

/-- A block of latent rows: all chunks are taken in. -/
theorem part7_pos (c : Dev nD) (arg3 : Memref sig .tc .vmem S1x1x256x128 .bf16) (harg3 : arg3.IsWhole) (arg4 : Memref sig .tc .vmem S1x1x16640x128 .bf16) (harg4 : arg4.IsWhole) (arg5 : Memref sig .tc .vmem S1x1x16640x256 .bf16) (harg5 : arg5.IsWhole) (arg6 : Memref sig .tc .vmem S4x64 .f32) (harg6 : arg6.IsWhole) (arg7 : Memref sig .tc .vmem S1x128 .f32) (harg7 : arg7.IsWhole) (arg8 : Memref sig .tc .vmem S1x256x128 .bf16) (harg8 : arg8.IsWhole) (arg9 : Memref sig .tc .vmem S512x3328 .f32) (harg9 : arg9.IsWhole) (arg10 : Memref sig .tc .vmem S512x3328 .f32) (harg10 : arg10.IsWhole) (arg11 : Memref sig .tc .vmem S256x1 .f32) (harg11 : arg11.IsWhole) (arg12 : Memref sig .tc .vmem S256x256 .f32) (harg12 : arg12.IsWhole) (arg13 : Memref sig .tc .vmem S256x1 .f32) (harg13 : arg13.IsWhole) (arg14 : Memref sig .tc .vmem S256x256 .f32) (harg14 : arg14.IsWhole) (i : grid0.Coords) (v10 : BitVec 1) (v11 : FVec F S512x128 .bf16) (v_true : BitVec 1) {X4 : S1x1x16640x128.Idx → Elt F .bf16} {X9 : S512x3328.Idx → Elt F .f32} {X5 : S1x1x16640x256.Idx → Elt F .bf16} {X11 : S256x1.Idx → Elt F .f32} {X12 : S256x256.Idx → Elt F .f32} {X13 : S256x1.Idx → Elt F .f32} {X14 : S256x256.Idx → Elt F .f32} {X6 : S4x64.Idx → Elt F .f32} (k0_h2 : k0_cond2 i = 1#1) {R : Regs F} (hR : R = regsAt i v11 k0_h2 X4 X5 ⟨(k0_pay26 v11 (pick chunk0.toLoadRect X4)), X11, X12, X13, X14⟩ k0_t1_loop.trips) {A : S256x256.Idx → Elt F .f32} (hA : A = k0_pay32 (pick last.toLoadRect X5) (pick (Rect.unit (s := S512x3328) ![0, 0] S256x3328.size inb_S512x3328_S256x3328_0_0).toLoadRect R.s) R.m1 R.a1) {B : S256x256.Idx → Elt F .f32} (hB : B = k0_pay46 (k0_pay30 (pick last.toLoadRect X5)) (pick (Rect.unit (s := S512x3328) ![256, 0] S256x3328.size inb_S512x3328_S256x3328_256_0).toLoadRect R.s) R.m2 R.a2) {Q : _ → sProp 𝕄} :
    iprop(O c arg4 X4 ∗ O c arg9 X9 ∗ Any c arg10 ∗ O c arg5 X5 ∗ O c arg11 X11 ∗ O c arg12 X12 ∗ O c arg13 X13 ∗ O c arg14 X14 ∗ O c arg6 X6)
      ⊢ iprop((iprop(O c arg4 X4 ∗ O c arg9 R.s ∗ Any c arg10 ∗ O c arg5 X5 ∗ O c arg11 (k0_pay44 (k0_pay31 (pick (Rect.unit (s := S512x3328) ![0, 0] S256x3328.size inb_S512x3328_S256x3328_0_0).toLoadRect R.s) R.m1)) ∗ O c arg12 A ∗ O c arg13 (k0_pay47 (pick (Rect.unit (s := S512x3328) ![256, 0] S256x3328.size inb_S512x3328_S256x3328_256_0).toLoadRect R.s) R.m2) ∗ O c arg14 B ∗ O c arg6 X6)
          -∗ Q (k0_pay48 (pick (Rect.unit (s := S256x256) ![0, 0] S256x128.size inb_S256x256_S256x128_0_0).toLoadRect A) (pick (Rect.unit (s := S256x256) ![0, 128] S256x1.size inb_S256x256_S256x1_0_128).toLoadRect A) (pick (Rect.unit (s := S256x256) ![0, 0] S256x128.size inb_S256x256_S256x128_0_0).toLoadRect B) (pick (Rect.unit (s := S256x256) ![0, 128] S256x1.size inb_S256x256_S256x1_0_128).toLoadRect B) X6)) -∗ W c (k0_part7 i arg3 harg3 arg4 harg4 arg5 harg5 arg6 harg6 arg7 harg7 arg8 harg8 arg9 harg9 arg10 harg10 arg11 harg11 arg12 harg12 arg13 harg13 arg14 harg14 v10 v11 v_true) Q) := by
  subst hB hA hR
  unfold W
  rw [k0_part7_eq_skeleton]; unfold k0_part7_skel
  iintro ⟨H4, H9, H10, H5, H11, H12, H13, H14, H6⟩ HK
  rw [dif_pos k0_h2]
  rw [wp_bind]
  iapply (part5_spec c arg3 harg3 arg4 harg4 arg5 harg5 arg6 harg6 arg7 harg7 arg8 harg8 arg9 harg9 arg10 harg10 arg11 harg11 arg12 harg12 arg13 harg13 arg14 harg14 _ _ _ rfl) $$ [H4 H9 H10 H5 H11 H12 H13 H14]
  · isplitl [H4]; · iexact H4
    · isplitl [H9]; · iexact H9
      · isplitl [H10]; · iexact H10
        · isplitl [H5]; · iexact H5
          · isplitl [H11]; · iexact H11
            · isplitl [H12]; · iexact H12
              · isplitl [H13]; · iexact H13
                iexact H14
  iintro ⟨H4, H9, H10, H5, H11, H12, H13, H14⟩
  try dsimp only
  iapply (load_all 𝒱₀ (c : Thread nD τ) none Set.univ z2) $$ H11; iintro H11
  iapply (store_all 𝒱₀ (c : Thread nD τ) none Set.univ z2) $$ H11; iintro H11
  iapply (load_part 𝒱₀ (c : Thread nD τ) none Set.univ) $$ H9; iintro H9
  iapply (load_all 𝒱₀ (c : Thread nD τ) none Set.univ z2) $$ H13; iintro H13
  iapply (load_all 𝒱₀ (c : Thread nD τ) none Set.univ z2) $$ H14; iintro H14
  iapply (load_all 𝒱₀ (c : Thread nD τ) none Set.univ z2) $$ H14; iintro H14
  iapply (store_all 𝒱₀ (c : Thread nD τ) none Set.univ z2) $$ H14; iintro H14
  iapply (load_all 𝒱₀ (c : Thread nD τ) none Set.univ z2) $$ H13; iintro H13
  iapply (store_all 𝒱₀ (c : Thread nD τ) none Set.univ z2) $$ H13; iintro H13
  iapply (load_part 𝒱₀ (c : Thread nD τ) none Set.univ) $$ H12; iintro H12
  iapply (load_part 𝒱₀ (c : Thread nD τ) none Set.univ) $$ H12; iintro H12
  iapply (load_part 𝒱₀ (c : Thread nD τ) none Set.univ) $$ H14; iintro H14
  iapply (load_part 𝒱₀ (c : Thread nD τ) none Set.univ) $$ H14; iintro H14
  iapply (load_all 𝒱₀ (c : Thread nD τ) none Set.univ z2) $$ H6; iintro H6
  iapply (le_wp_ret _ _ _ _ _)
  iapply HK
  isplitl [H4]; · iexact H4
  isplitl [H9]; · iexact H9
  isplitl [H10]; · iexact H10
  isplitl [H5]; · iexact H5
  isplitl [H11]; · iexact H11
  isplitl [H12]; · iexact H12
  isplitl [H13]; · iexact H13
  isplitl [H14]; · iexact H14
  iexact H6

/-- A block of context rows: the chunks are skipped. -/
theorem part7_neg (c : Dev nD) (arg3 : Memref sig .tc .vmem S1x1x256x128 .bf16) (harg3 : arg3.IsWhole) (arg4 : Memref sig .tc .vmem S1x1x16640x128 .bf16) (harg4 : arg4.IsWhole) (arg5 : Memref sig .tc .vmem S1x1x16640x256 .bf16) (harg5 : arg5.IsWhole) (arg6 : Memref sig .tc .vmem S4x64 .f32) (harg6 : arg6.IsWhole) (arg7 : Memref sig .tc .vmem S1x128 .f32) (harg7 : arg7.IsWhole) (arg8 : Memref sig .tc .vmem S1x256x128 .bf16) (harg8 : arg8.IsWhole) (arg9 : Memref sig .tc .vmem S512x3328 .f32) (harg9 : arg9.IsWhole) (arg10 : Memref sig .tc .vmem S512x3328 .f32) (harg10 : arg10.IsWhole) (arg11 : Memref sig .tc .vmem S256x1 .f32) (harg11 : arg11.IsWhole) (arg12 : Memref sig .tc .vmem S256x256 .f32) (harg12 : arg12.IsWhole) (arg13 : Memref sig .tc .vmem S256x1 .f32) (harg13 : arg13.IsWhole) (arg14 : Memref sig .tc .vmem S256x256 .f32) (harg14 : arg14.IsWhole) (i : grid0.Coords) (v10 : BitVec 1) (v11 : FVec F S512x128 .bf16) (v_true : BitVec 1) {X12 : S256x256.Idx → Elt F .f32} {X14 : S256x256.Idx → Elt F .f32} {X6 : S4x64.Idx → Elt F .f32} (k0_h2 : ¬ (k0_cond2 i = 1#1)) {Q : _ → sProp 𝕄} :
    iprop(O c arg12 X12 ∗ O c arg14 X14 ∗ O c arg6 X6)
      ⊢ iprop((iprop(O c arg12 X12 ∗ O c arg14 X14 ∗ O c arg6 X6)
          -∗ Q (k0_pay48 (pick (Rect.unit (s := S256x256) ![0, 0] S256x128.size inb_S256x256_S256x128_0_0).toLoadRect X12) (pick (Rect.unit (s := S256x256) ![0, 128] S256x1.size inb_S256x256_S256x1_0_128).toLoadRect X12) (pick (Rect.unit (s := S256x256) ![0, 0] S256x128.size inb_S256x256_S256x128_0_0).toLoadRect X14) (pick (Rect.unit (s := S256x256) ![0, 128] S256x1.size inb_S256x256_S256x1_0_128).toLoadRect X14) X6)) -∗ W c (k0_part7 i arg3 harg3 arg4 harg4 arg5 harg5 arg6 harg6 arg7 harg7 arg8 harg8 arg9 harg9 arg10 harg10 arg11 harg11 arg12 harg12 arg13 harg13 arg14 harg14 v10 v11 v_true) Q) := by
  unfold W
  rw [k0_part7_eq_skeleton]; unfold k0_part7_skel
  iintro ⟨H12, H14, H6⟩ HK
  rw [dif_neg k0_h2]
  iapply (load_part 𝒱₀ (c : Thread nD τ) none Set.univ) $$ H12; iintro H12
  iapply (load_part 𝒱₀ (c : Thread nD τ) none Set.univ) $$ H12; iintro H12
  iapply (load_part 𝒱₀ (c : Thread nD τ) none Set.univ) $$ H14; iintro H14
  iapply (load_part 𝒱₀ (c : Thread nD τ) none Set.univ) $$ H14; iintro H14
  iapply (load_all 𝒱₀ (c : Thread nD τ) none Set.univ z2) $$ H6; iintro H6
  iapply (le_wp_ret _ _ _ _ _)
  iapply HK
  isplitl [H12]; · iexact H12
  isplitl [H14]; · iexact H14
  iexact H6

/-- The start, at a block of context rows. -/
theorem part6_pos (c : Dev nD) (arg3 : Memref sig .tc .vmem S1x1x256x128 .bf16) (harg3 : arg3.IsWhole) (arg4 : Memref sig .tc .vmem S1x1x16640x128 .bf16) (harg4 : arg4.IsWhole) (arg5 : Memref sig .tc .vmem S1x1x16640x256 .bf16) (harg5 : arg5.IsWhole) (arg6 : Memref sig .tc .vmem S4x64 .f32) (harg6 : arg6.IsWhole) (arg7 : Memref sig .tc .vmem S1x128 .f32) (harg7 : arg7.IsWhole) (arg8 : Memref sig .tc .vmem S1x256x128 .bf16) (harg8 : arg8.IsWhole) (arg9 : Memref sig .tc .vmem S512x3328 .f32) (harg9 : arg9.IsWhole) (arg10 : Memref sig .tc .vmem S512x3328 .f32) (harg10 : arg10.IsWhole) (arg11 : Memref sig .tc .vmem S256x1 .f32) (harg11 : arg11.IsWhole) (arg12 : Memref sig .tc .vmem S256x256 .f32) (harg12 : arg12.IsWhole) (arg13 : Memref sig .tc .vmem S256x1 .f32) (harg13 : arg13.IsWhole) (arg14 : Memref sig .tc .vmem S256x256 .f32) (harg14 : arg14.IsWhole) (i : grid0.Coords)  {X3 : S1x1x256x128.Idx → Elt F .bf16} {X11 : S256x1.Idx → Elt F .f32} {X12 : S256x256.Idx → Elt F .f32} {X13 : S256x1.Idx → Elt F .f32} {X14 : S256x256.Idx → Elt F .f32} {X4 : S1x1x16640x128.Idx → Elt F .bf16} {X5 : S1x1x16640x256.Idx → Elt F .bf16} (k0_h1 : (Scalar.cmpi .ne (Scalar.extui (Scalar.cmpi .slt (BitVec.ofNat 32 (i 2).val) 1#32)) 0#32) = 1#1) {Q : _ → sProp 𝕄} :
    iprop(O c arg3 X3 ∗ O c arg11 X11 ∗ O c arg12 X12 ∗ O c arg13 X13 ∗ O c arg14 X14 ∗ O c arg4 X4 ∗ O c arg5 X5)
      ⊢ iprop((iprop(O c arg3 X3 ∗ O c arg11 (k0_pay7 (k0_pay35 X3) (pick (Rect.unit (s := S1x1x16640x128) ![0, 0, 0, 0] S1x1x256x128.size inb_S1x1x16640x128_S1x1x256x128_0_0_0_0).toLoadRect X4) (k0_pay38 (F := F))) ∗ O c arg12 (k0_pay6 (k0_pay35 X3) (pick (Rect.unit (s := S1x1x16640x128) ![0, 0, 0, 0] S1x1x256x128.size inb_S1x1x16640x128_S1x1x256x128_0_0_0_0).toLoadRect X4) (pick (Rect.unit (s := S1x1x16640x256) ![0, 0, 0, 0] S1x1x256x256.size inb_S1x1x16640x256_S1x1x256x256_0_0_0_0).toLoadRect X5) (k0_pay38 (F := F)) (k0_pay39 (F := F))) ∗ O c arg13 (k0_pay43 (k0_pay9 (k0_pay36 X3) (pick (Rect.unit (s := S1x1x16640x128) ![0, 0, 0, 0] S1x1x256x128.size inb_S1x1x16640x128_S1x1x256x128_0_0_0_0).toLoadRect X4) (k0_pay40 (F := F)))) ∗ O c arg14 (k0_pay42 (k0_pay3 (pick (Rect.unit (s := S1x1x16640x256) ![0, 0, 0, 0] S1x1x256x256.size inb_S1x1x16640x256_S1x1x256x256_0_0_0_0).toLoadRect X5)) (k0_pay10 (k0_pay36 X3) (pick (Rect.unit (s := S1x1x16640x128) ![0, 0, 0, 0] S1x1x256x128.size inb_S1x1x16640x128_S1x1x256x128_0_0_0_0).toLoadRect X4) (k0_pay40 (F := F))) (k0_pay11 (k0_pay36 X3) (pick (Rect.unit (s := S1x1x16640x128) ![0, 0, 0, 0] S1x1x256x128.size inb_S1x1x16640x128_S1x1x256x128_0_0_0_0).toLoadRect X4) (k0_pay40 (F := F))) (k0_pay41 (F := F))) ∗ O c arg4 X4 ∗ O c arg5 X5)
          -∗ Q ⟨(Scalar.cmpi .slt (BitVec.ofNat 32 (i 2).val) 1#32), k0_pay37 X3, 1#1⟩) -∗ W c (k0_part6 i arg3 harg3 arg4 harg4 arg5 harg5 arg6 harg6 arg7 harg7 arg8 harg8 arg9 harg9 arg10 harg10 arg11 harg11 arg12 harg12 arg13 harg13 arg14 harg14 ) Q) := by
  unfold W
  rw [k0_part6_eq_skeleton]; unfold k0_part6_skel
  iintro ⟨H3, H11, H12, H13, H14, H4, H5⟩ HK
  iapply (load_all 𝒱₀ (c : Thread nD τ) none Set.univ z4) $$ H3; iintro H3
  iapply (load_all 𝒱₀ (c : Thread nD τ) none Set.univ z2) $$ H11; iintro H11
  iapply (store_all 𝒱₀ (c : Thread nD τ) none Set.univ z2) $$ H11; iintro H11
  iapply (load_all 𝒱₀ (c : Thread nD τ) none Set.univ z2) $$ H12; iintro H12
  iapply (store_all 𝒱₀ (c : Thread nD τ) none Set.univ z2) $$ H12; iintro H12
  iapply (load_all 𝒱₀ (c : Thread nD τ) none Set.univ z2) $$ H13; iintro H13
  iapply (store_all 𝒱₀ (c : Thread nD τ) none Set.univ z2) $$ H13; iintro H13
  iapply (load_all 𝒱₀ (c : Thread nD τ) none Set.univ z2) $$ H14; iintro H14
  iapply (store_all 𝒱₀ (c : Thread nD τ) none Set.univ z2) $$ H14; iintro H14
  rw [dif_pos k0_h1]
  rw [wp_bind]
  iapply (part1_spec c arg3 harg3 arg4 harg4 arg5 harg5 arg6 harg6 arg7 harg7 arg8 harg8 arg9 harg9 arg10 harg10 arg11 harg11 arg12 harg12 arg13 harg13 arg14 harg14 _ _ _) $$ [H4 H5 H11 H12 H13]
  · isplitl [H4]; · iexact H4
    · isplitl [H5]; · iexact H5
      · isplitl [H11]; · iexact H11
        · isplitl [H12]; · iexact H12
          iexact H13
  iintro ⟨H4, H5, H11, H12, H13⟩
  try dsimp only
  iapply (load_all 𝒱₀ (c : Thread nD τ) none Set.univ z2) $$ H14; iintro H14
  iapply (load_all 𝒱₀ (c : Thread nD τ) none Set.univ z2) $$ H14; iintro H14
  iapply (store_all 𝒱₀ (c : Thread nD τ) none Set.univ z2) $$ H14; iintro H14
  iapply (load_all 𝒱₀ (c : Thread nD τ) none Set.univ z2) $$ H13; iintro H13
  iapply (store_all 𝒱₀ (c : Thread nD τ) none Set.univ z2) $$ H13; iintro H13
  iapply (le_wp_ret _ _ _ _ _)
  iapply HK
  isplitl [H3]; · iexact H3
  isplitl [H11]; · iexact H11
  isplitl [H12]; · iexact H12
  isplitl [H13]; · iexact H13
  isplitl [H14]; · iexact H14
  isplitl [H4]; · iexact H4
  iexact H5

/-- The start, at a block of latent rows. -/
theorem part6_neg (c : Dev nD) (arg3 : Memref sig .tc .vmem S1x1x256x128 .bf16) (harg3 : arg3.IsWhole) (arg4 : Memref sig .tc .vmem S1x1x16640x128 .bf16) (harg4 : arg4.IsWhole) (arg5 : Memref sig .tc .vmem S1x1x16640x256 .bf16) (harg5 : arg5.IsWhole) (arg6 : Memref sig .tc .vmem S4x64 .f32) (harg6 : arg6.IsWhole) (arg7 : Memref sig .tc .vmem S1x128 .f32) (harg7 : arg7.IsWhole) (arg8 : Memref sig .tc .vmem S1x256x128 .bf16) (harg8 : arg8.IsWhole) (arg9 : Memref sig .tc .vmem S512x3328 .f32) (harg9 : arg9.IsWhole) (arg10 : Memref sig .tc .vmem S512x3328 .f32) (harg10 : arg10.IsWhole) (arg11 : Memref sig .tc .vmem S256x1 .f32) (harg11 : arg11.IsWhole) (arg12 : Memref sig .tc .vmem S256x256 .f32) (harg12 : arg12.IsWhole) (arg13 : Memref sig .tc .vmem S256x1 .f32) (harg13 : arg13.IsWhole) (arg14 : Memref sig .tc .vmem S256x256 .f32) (harg14 : arg14.IsWhole) (i : grid0.Coords)  {X3 : S1x1x256x128.Idx → Elt F .bf16} {X11 : S256x1.Idx → Elt F .f32} {X12 : S256x256.Idx → Elt F .f32} {X13 : S256x1.Idx → Elt F .f32} {X14 : S256x256.Idx → Elt F .f32} (k0_h1 : ¬ ((Scalar.cmpi .ne (Scalar.extui (Scalar.cmpi .slt (BitVec.ofNat 32 (i 2).val) 1#32)) 0#32) = 1#1)) {Q : _ → sProp 𝕄} :
    iprop(O c arg3 X3 ∗ O c arg11 X11 ∗ O c arg12 X12 ∗ O c arg13 X13 ∗ O c arg14 X14)
      ⊢ iprop((iprop(O c arg3 X3 ∗ O c arg11 (k0_pay38 (F := F)) ∗ O c arg12 (k0_pay39 (F := F)) ∗ O c arg13 (k0_pay40 (F := F)) ∗ O c arg14 (k0_pay41 (F := F)))
          -∗ Q ⟨(Scalar.cmpi .slt (BitVec.ofNat 32 (i 2).val) 1#32), k0_pay37 X3, 1#1⟩) -∗ W c (k0_part6 i arg3 harg3 arg4 harg4 arg5 harg5 arg6 harg6 arg7 harg7 arg8 harg8 arg9 harg9 arg10 harg10 arg11 harg11 arg12 harg12 arg13 harg13 arg14 harg14 ) Q) := by
  unfold W
  rw [k0_part6_eq_skeleton]; unfold k0_part6_skel
  iintro ⟨H3, H11, H12, H13, H14⟩ HK
  iapply (load_all 𝒱₀ (c : Thread nD τ) none Set.univ z4) $$ H3; iintro H3
  iapply (load_all 𝒱₀ (c : Thread nD τ) none Set.univ z2) $$ H11; iintro H11
  iapply (store_all 𝒱₀ (c : Thread nD τ) none Set.univ z2) $$ H11; iintro H11
  iapply (load_all 𝒱₀ (c : Thread nD τ) none Set.univ z2) $$ H12; iintro H12
  iapply (store_all 𝒱₀ (c : Thread nD τ) none Set.univ z2) $$ H12; iintro H12
  iapply (load_all 𝒱₀ (c : Thread nD τ) none Set.univ z2) $$ H13; iintro H13
  iapply (store_all 𝒱₀ (c : Thread nD τ) none Set.univ z2) $$ H13; iintro H13
  iapply (load_all 𝒱₀ (c : Thread nD τ) none Set.univ z2) $$ H14; iintro H14
  iapply (store_all 𝒱₀ (c : Thread nD τ) none Set.univ z2) $$ H14; iintro H14
  rw [dif_neg k0_h1]
  iapply (le_wp_ret _ _ _ _ _)
  iapply HK
  isplitl [H3]; · iexact H3
  isplitl [H11]; · iexact H11
  isplitl [H12]; · iexact H12
  isplitl [H13]; · iexact H13
  iexact H14

end Cert.Proof.Diff

end
-- ==== Proof.DiffBody.lean ====
/-
  The whole body of the differential-attention kernel: the output block as a function of what the windows hold.
-/
module

public import proofs.«01_k».proof.Proof.DiffLoop
public import proofs.«01_k».proof.Proof.Gen.KernelIdeal.Launch
public import proofs.«01_k».proof.Proof.Gen.KernelIdeal.Skeleton

@[expose] public section

noncomputable section

namespace Cert.Proof.Diff

open Cert.KernelIdeal Cert.KernelIdeal.Gen Cert.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The two streams' maxima and weighted sums. -/
structure Streams (F : FTy → Type) where
  m1 : S256x1.Idx → Elt F .f32
  a1 : S256x256.Idx → Elt F .f32
  m2 : S256x1.Idx → Elt F .f32
  a2 : S256x256.Idx → Elt F .f32

/-- The streams before any key. -/
def start : Streams F :=
  { m1 := (k0_pay38 (F := F)),
    a1 := (k0_pay39 (F := F)),
    m2 := (k0_pay40 (F := F)),
    a2 := (k0_pay41 (F := F)) }

/-- The streams after the first 256 keys. -/
def ctxStep (q : S1x1x256x128.Idx → Elt F .bf16) (K : S1x1x16640x128.Idx → Elt F .bf16) (V : S1x1x16640x256.Idx → Elt F .bf16) : Streams F :=
  { m1 := (k0_pay7 (k0_pay35 q) (pick (Rect.unit (s := S1x1x16640x128) ![0, 0, 0, 0] S1x1x256x128.size inb_S1x1x16640x128_S1x1x256x128_0_0_0_0).toLoadRect K) (k0_pay38 (F := F))),
    a1 := (k0_pay6 (k0_pay35 q) (pick (Rect.unit (s := S1x1x16640x128) ![0, 0, 0, 0] S1x1x256x128.size inb_S1x1x16640x128_S1x1x256x128_0_0_0_0).toLoadRect K) (pick (Rect.unit (s := S1x1x16640x256) ![0, 0, 0, 0] S1x1x256x256.size inb_S1x1x16640x256_S1x1x256x256_0_0_0_0).toLoadRect V) (k0_pay38 (F := F)) (k0_pay39 (F := F))),
    m2 := (k0_pay43 (k0_pay9 (k0_pay36 q) (pick (Rect.unit (s := S1x1x16640x128) ![0, 0, 0, 0] S1x1x256x128.size inb_S1x1x16640x128_S1x1x256x128_0_0_0_0).toLoadRect K) (k0_pay40 (F := F)))),
    a2 := (k0_pay42 (k0_pay3 (pick (Rect.unit (s := S1x1x16640x256) ![0, 0, 0, 0] S1x1x256x256.size inb_S1x1x16640x256_S1x1x256x256_0_0_0_0).toLoadRect V)) (k0_pay10 (k0_pay36 q) (pick (Rect.unit (s := S1x1x16640x128) ![0, 0, 0, 0] S1x1x256x128.size inb_S1x1x16640x128_S1x1x256x128_0_0_0_0).toLoadRect K) (k0_pay40 (F := F))) (k0_pay11 (k0_pay36 q) (pick (Rect.unit (s := S1x1x16640x128) ![0, 0, 0, 0] S1x1x256x128.size inb_S1x1x16640x128_S1x1x256x128_0_0_0_0).toLoadRect K) (k0_pay40 (F := F))) (k0_pay41 (F := F))) }

/-- The streams after all chunks. -/
def latStep (i : grid0.Coords) (k0_h2 : k0_cond2 i = 1#1) (v11 : FVec F S512x128 .bf16) (K : S1x1x16640x128.Idx → Elt F .bf16) (V : S1x1x16640x256.Idx → Elt F .bf16) (p : Streams F) : Streams F :=
  let r := regsAt i v11 k0_h2 K V ⟨(k0_pay26 v11 (pick chunk0.toLoadRect K)), p.m1, p.a1, p.m2, p.a2⟩ k0_t1_loop.trips
  { m1 := (k0_pay44 (k0_pay31 (pick (Rect.unit (s := S512x3328) ![0, 0] S256x3328.size inb_S512x3328_S256x3328_0_0).toLoadRect r.s) r.m1)),
    a1 := (k0_pay32 (pick last.toLoadRect V) (pick (Rect.unit (s := S512x3328) ![0, 0] S256x3328.size inb_S512x3328_S256x3328_0_0).toLoadRect r.s) r.m1 r.a1),
    m2 := (k0_pay47 (pick (Rect.unit (s := S512x3328) ![256, 0] S256x3328.size inb_S512x3328_S256x3328_256_0).toLoadRect r.s) r.m2),
    a2 := (k0_pay46 (k0_pay30 (pick last.toLoadRect V)) (pick (Rect.unit (s := S512x3328) ![256, 0] S256x3328.size inb_S512x3328_S256x3328_256_0).toLoadRect r.s) r.m2 r.a2) }

/-- The condition of the context branch. -/
abbrev isCtx (i : grid0.Coords) : Prop := (Scalar.cmpi .ne (Scalar.extui (Scalar.cmpi .slt (BitVec.ofNat 32 (i 2).val) 1#32)) 0#32) = 1#1

/-- The streams after the context branch. -/
def first (i : grid0.Coords) (q : S1x1x256x128.Idx → Elt F .bf16) (K : S1x1x16640x128.Idx → Elt F .bf16) (V : S1x1x16640x256.Idx → Elt F .bf16) : Streams F :=
  if isCtx i then ctxStep q K V else start

/-- The streams after the branch of the latent rows. -/
def second (i : grid0.Coords) (v11 : FVec F S512x128 .bf16) (K : S1x1x16640x128.Idx → Elt F .bf16) (V : S1x1x16640x256.Idx → Elt F .bf16) (p : Streams F) : Streams F :=
  if h : k0_cond2 i = 1#1 then latStep i h v11 K V p else p

/-- The difference of the two streams' averages. -/
def blend (p : Streams F) (lam : S4x64.Idx → Elt F .f32) : FVec F S256x128 .f32 :=
  (k0_pay48 (pick (Rect.unit (s := S256x256) ![0, 0] S256x128.size inb_S256x256_S256x128_0_0).toLoadRect p.a1) (pick (Rect.unit (s := S256x256) ![0, 128] S256x1.size inb_S256x256_S256x1_0_128).toLoadRect p.a1) (pick (Rect.unit (s := S256x256) ![0, 0] S256x128.size inb_S256x256_S256x128_0_0).toLoadRect p.a2) (pick (Rect.unit (s := S256x256) ![0, 128] S256x1.size inb_S256x256_S256x1_0_128).toLoadRect p.a2) lam)

/-- The start: scores cleared, and the context branch. -/
theorem part6_spec (c : Dev nD) (arg3 : Memref sig .tc .vmem S1x1x256x128 .bf16) (harg3 : arg3.IsWhole) (arg4 : Memref sig .tc .vmem S1x1x16640x128 .bf16) (harg4 : arg4.IsWhole) (arg5 : Memref sig .tc .vmem S1x1x16640x256 .bf16) (harg5 : arg5.IsWhole) (arg6 : Memref sig .tc .vmem S4x64 .f32) (harg6 : arg6.IsWhole) (arg7 : Memref sig .tc .vmem S1x128 .f32) (harg7 : arg7.IsWhole) (arg8 : Memref sig .tc .vmem S1x256x128 .bf16) (harg8 : arg8.IsWhole) (arg9 : Memref sig .tc .vmem S512x3328 .f32) (harg9 : arg9.IsWhole) (arg10 : Memref sig .tc .vmem S512x3328 .f32) (harg10 : arg10.IsWhole) (arg11 : Memref sig .tc .vmem S256x1 .f32) (harg11 : arg11.IsWhole) (arg12 : Memref sig .tc .vmem S256x256 .f32) (harg12 : arg12.IsWhole) (arg13 : Memref sig .tc .vmem S256x1 .f32) (harg13 : arg13.IsWhole) (arg14 : Memref sig .tc .vmem S256x256 .f32) (harg14 : arg14.IsWhole) (i : grid0.Coords) {X3 : S1x1x256x128.Idx → Elt F .bf16} {X4 : S1x1x16640x128.Idx → Elt F .bf16} {X5 : S1x1x16640x256.Idx → Elt F .bf16} {X11 : S256x1.Idx → Elt F .f32} {X12 : S256x256.Idx → Elt F .f32} {X13 : S256x1.Idx → Elt F .f32} {X14 : S256x256.Idx → Elt F .f32} {Q : _ → sProp 𝕄} :
    iprop(O c arg3 X3 ∗ O c arg4 X4 ∗ O c arg5 X5 ∗ O c arg11 X11 ∗ O c arg12 X12 ∗ O c arg13 X13 ∗ O c arg14 X14)
      ⊢ iprop((iprop(O c arg3 X3 ∗ O c arg4 X4 ∗ O c arg5 X5 ∗ O c arg11 (first i X3 X4 X5).m1 ∗ O c arg12 (first i X3 X4 X5).a1 ∗ O c arg13 (first i X3 X4 X5).m2 ∗ O c arg14 (first i X3 X4 X5).a2)
          -∗ Q ⟨(Scalar.cmpi .slt (BitVec.ofNat 32 (i 2).val) 1#32), k0_pay37 X3, 1#1⟩) -∗ W c (k0_part6 i arg3 harg3 arg4 harg4 arg5 harg5 arg6 harg6 arg7 harg7 arg8 harg8 arg9 harg9 arg10 harg10 arg11 harg11 arg12 harg12 arg13 harg13 arg14 harg14) Q) := by
  iintro ⟨H3, H4, H5, H11, H12, H13, H14⟩ HK
  by_cases h : isCtx i
  · iapply (part6_pos c arg3 harg3 arg4 harg4 arg5 harg5 arg6 harg6 arg7 harg7 arg8 harg8 arg9 harg9 arg10 harg10 arg11 harg11 arg12 harg12 arg13 harg13 arg14 harg14 i h) $$ [H3 H11 H12 H13 H14 H4 H5]
    · isplitl [H3]; · iexact H3
      isplitl [H11]; · iexact H11
      isplitl [H12]; · iexact H12
      isplitl [H13]; · iexact H13
      isplitl [H14]; · iexact H14
      isplitl [H4]; · iexact H4
      iexact H5
    iintro ⟨H3, H11, H12, H13, H14, H4, H5⟩
    iapply HK
    unfold first
    rw [if_pos h]
    isplitl [H3]; · iexact H3
    isplitl [H4]; · iexact H4
    isplitl [H5]; · iexact H5
    isplitl [H11]; · iexact H11
    isplitl [H12]; · iexact H12
    isplitl [H13]; · iexact H13
    iexact H14

  · iapply (part6_neg c arg3 harg3 arg4 harg4 arg5 harg5 arg6 harg6 arg7 harg7 arg8 harg8 arg9 harg9 arg10 harg10 arg11 harg11 arg12 harg12 arg13 harg13 arg14 harg14 i h) $$ [H3 H11 H12 H13 H14]
    · isplitl [H3]; · iexact H3
      isplitl [H11]; · iexact H11
      isplitl [H12]; · iexact H12
      isplitl [H13]; · iexact H13
      iexact H14
    iintro ⟨H3, H11, H12, H13, H14⟩
    iapply HK
    unfold first
    rw [if_neg h]
    isplitl [H3]; · iexact H3
    isplitl [H4]; · iexact H4
    isplitl [H5]; · iexact H5
    isplitl [H11]; · iexact H11
    isplitl [H12]; · iexact H12
    isplitl [H13]; · iexact H13
    iexact H14

/-- The branch of the latent rows, and the difference of the streams' averages. -/
theorem part7_spec (c : Dev nD) (arg3 : Memref sig .tc .vmem S1x1x256x128 .bf16) (harg3 : arg3.IsWhole) (arg4 : Memref sig .tc .vmem S1x1x16640x128 .bf16) (harg4 : arg4.IsWhole) (arg5 : Memref sig .tc .vmem S1x1x16640x256 .bf16) (harg5 : arg5.IsWhole) (arg6 : Memref sig .tc .vmem S4x64 .f32) (harg6 : arg6.IsWhole) (arg7 : Memref sig .tc .vmem S1x128 .f32) (harg7 : arg7.IsWhole) (arg8 : Memref sig .tc .vmem S1x256x128 .bf16) (harg8 : arg8.IsWhole) (arg9 : Memref sig .tc .vmem S512x3328 .f32) (harg9 : arg9.IsWhole) (arg10 : Memref sig .tc .vmem S512x3328 .f32) (harg10 : arg10.IsWhole) (arg11 : Memref sig .tc .vmem S256x1 .f32) (harg11 : arg11.IsWhole) (arg12 : Memref sig .tc .vmem S256x256 .f32) (harg12 : arg12.IsWhole) (arg13 : Memref sig .tc .vmem S256x1 .f32) (harg13 : arg13.IsWhole) (arg14 : Memref sig .tc .vmem S256x256 .f32) (harg14 : arg14.IsWhole) (i : grid0.Coords) (v10 : BitVec 1) (v11 : FVec F S512x128 .bf16) (v_true : BitVec 1) {X4 : S1x1x16640x128.Idx → Elt F .bf16} {X5 : S1x1x16640x256.Idx → Elt F .bf16} {X6 : S4x64.Idx → Elt F .f32} {X11 : S256x1.Idx → Elt F .f32} {X12 : S256x256.Idx → Elt F .f32} {X13 : S256x1.Idx → Elt F .f32} {X14 : S256x256.Idx → Elt F .f32} {Q : _ → sProp 𝕄} :
    iprop(O c arg4 X4 ∗ O c arg5 X5 ∗ O c arg6 X6 ∗ Any (F := F) c arg9 ∗ Any (F := F) c arg10 ∗ O c arg11 X11 ∗ O c arg12 X12 ∗ O c arg13 X13 ∗ O c arg14 X14)
      ⊢ iprop((iprop(O c arg4 X4 ∗ O c arg5 X5 ∗ O c arg6 X6 ∗ Any (F := F) c arg9 ∗ Any (F := F) c arg10 ∗ O c arg11 ((second i v11 X4 X5 ⟨X11, X12, X13, X14⟩).m1) ∗ O c arg12 ((second i v11 X4 X5 ⟨X11, X12, X13, X14⟩).a1) ∗ O c arg13 ((second i v11 X4 X5 ⟨X11, X12, X13, X14⟩).m2) ∗ O c arg14 ((second i v11 X4 X5 ⟨X11, X12, X13, X14⟩).a2))
          -∗ Q (blend (second i v11 X4 X5 ⟨X11, X12, X13, X14⟩) X6)) -∗ W c (k0_part7 i arg3 harg3 arg4 harg4 arg5 harg5 arg6 harg6 arg7 harg7 arg8 harg8 arg9 harg9 arg10 harg10 arg11 harg11 arg12 harg12 arg13 harg13 arg14 harg14 v10 v11 v_true) Q) := by
  iintro ⟨H4, H5, H6, ⟨%Z, H9⟩, H10, H11, H12, H13, H14⟩ HK
  by_cases h : k0_cond2 i = 1#1
  · iapply (part7_pos c arg3 harg3 arg4 harg4 arg5 harg5 arg6 harg6 arg7 harg7 arg8 harg8 arg9 harg9 arg10 harg10 arg11 harg11 arg12 harg12 arg13 harg13 arg14 harg14 i v10 v11 v_true h rfl rfl rfl) $$ [H4 H9 H10 H5 H11 H12 H13 H14 H6]
    · isplitl [H4]; · iexact H4
      isplitl [H9]; · iexact H9
      isplitl [H10]; · iexact H10
      isplitl [H5]; · iexact H5
      isplitl [H11]; · iexact H11
      isplitl [H12]; · iexact H12
      isplitl [H13]; · iexact H13
      isplitl [H14]; · iexact H14
      iexact H6
    iintro ⟨H4, H9, H10, H5, H11, H12, H13, H14, H6⟩
    rw [second, dif_pos h]
    unfold latStep blend
    dsimp only
    iapply HK
    isplitl [H4]; · iexact H4
    isplitl [H5]; · iexact H5
    isplitl [H6]; · iexact H6
    isplitl [H9]; · iexists _; iexact H9
    isplitl [H10]; · iexact H10
    isplitl [H11]; · iexact H11
    isplitl [H12]; · iexact H12
    isplitl [H13]; · iexact H13
    iexact H14

  · iapply (part7_neg c arg3 harg3 arg4 harg4 arg5 harg5 arg6 harg6 arg7 harg7 arg8 harg8 arg9 harg9 arg10 harg10 arg11 harg11 arg12 harg12 arg13 harg13 arg14 harg14 i v10 v11 v_true h) $$ [H12 H14 H6]
    · isplitl [H12]; · iexact H12
      isplitl [H14]; · iexact H14
      iexact H6
    iintro ⟨H12, H14, H6⟩
    rw [second, dif_neg h]
    unfold blend
    dsimp only
    iapply HK
    isplitl [H4]; · iexact H4
    isplitl [H5]; · iexact H5
    isplitl [H6]; · iexact H6
    isplitl [H9]; · iexists _; iexact H9
    isplitl [H10]; · iexact H10
    isplitl [H11]; · iexact H11
    isplitl [H12]; · iexact H12
    isplitl [H13]; · iexact H13
    iexact H14

/-- The whole body: from what its windows hold, what the output block holds. -/
theorem body_spec (c : Dev nD) (arg3 : Memref sig .tc .vmem S1x1x256x128 .bf16) (harg3 : arg3.IsWhole) (arg4 : Memref sig .tc .vmem S1x1x16640x128 .bf16) (harg4 : arg4.IsWhole) (arg5 : Memref sig .tc .vmem S1x1x16640x256 .bf16) (harg5 : arg5.IsWhole) (arg6 : Memref sig .tc .vmem S4x64 .f32) (harg6 : arg6.IsWhole) (arg7 : Memref sig .tc .vmem S1x128 .f32) (harg7 : arg7.IsWhole) (arg8 : Memref sig .tc .vmem S1x256x128 .bf16) (harg8 : arg8.IsWhole) (arg9 : Memref sig .tc .vmem S512x3328 .f32) (harg9 : arg9.IsWhole) (arg10 : Memref sig .tc .vmem S512x3328 .f32) (harg10 : arg10.IsWhole) (arg11 : Memref sig .tc .vmem S256x1 .f32) (harg11 : arg11.IsWhole) (arg12 : Memref sig .tc .vmem S256x256 .f32) (harg12 : arg12.IsWhole) (arg13 : Memref sig .tc .vmem S256x1 .f32) (harg13 : arg13.IsWhole) (arg14 : Memref sig .tc .vmem S256x256 .f32) (harg14 : arg14.IsWhole) (i : grid0.Coords)  {X3 : S1x1x256x128.Idx → Elt F .bf16} {X4 : S1x1x16640x128.Idx → Elt F .bf16} {X5 : S1x1x16640x256.Idx → Elt F .bf16} {X11 : S256x1.Idx → Elt F .f32} {X12 : S256x256.Idx → Elt F .f32} {X13 : S256x1.Idx → Elt F .f32} {X14 : S256x256.Idx → Elt F .f32} {X6 : S4x64.Idx → Elt F .f32} {X7 : S1x128.Idx → Elt F .f32} {X8 : S1x256x128.Idx → Elt F .bf16} {Q : _ → sProp 𝕄} :
    iprop(O c arg3 X3 ∗ O c arg4 X4 ∗ O c arg5 X5 ∗ O c arg11 X11 ∗ O c arg12 X12 ∗ O c arg13 X13 ∗ O c arg14 X14 ∗ O c arg6 X6 ∗ Any c arg9 ∗ Any c arg10 ∗ O c arg7 X7 ∗ O c arg8 X8)
      ⊢ iprop((iprop(O c arg3 X3 ∗ O c arg4 X4 ∗ O c arg5 X5 ∗ O c arg11 ((second i (k0_pay37 X3) X4 X5 ⟨((first i X3 X4 X5).m1), ((first i X3 X4 X5).a1), ((first i X3 X4 X5).m2), ((first i X3 X4 X5).a2)⟩).m1) ∗ O c arg12 ((second i (k0_pay37 X3) X4 X5 ⟨((first i X3 X4 X5).m1), ((first i X3 X4 X5).a1), ((first i X3 X4 X5).m2), ((first i X3 X4 X5).a2)⟩).a1) ∗ O c arg13 ((second i (k0_pay37 X3) X4 X5 ⟨((first i X3 X4 X5).m1), ((first i X3 X4 X5).a1), ((first i X3 X4 X5).m2), ((first i X3 X4 X5).a2)⟩).m2) ∗ O c arg14 ((second i (k0_pay37 X3) X4 X5 ⟨((first i X3 X4 X5).m1), ((first i X3 X4 X5).a1), ((first i X3 X4 X5).m2), ((first i X3 X4 X5).a2)⟩).a2) ∗ O c arg6 X6 ∗ Any c arg9 ∗ Any c arg10 ∗ O c arg7 X7 ∗ O c arg8 (k0_pay1 (blend (second i (k0_pay37 X3) X4 X5 ⟨((first i X3 X4 X5).m1), ((first i X3 X4 X5).a1), ((first i X3 X4 X5).m2), ((first i X3 X4 X5).a2)⟩) X6) X7))
          -∗ Q ⟨⟩) -∗ W c (cc0_diff_attn i arg3 harg3 arg4 harg4 arg5 harg5 arg6 harg6 arg7 harg7 arg8 harg8 arg9 harg9 arg10 harg10 arg11 harg11 arg12 harg12 arg13 harg13 arg14 harg14 ) Q) := by
  unfold W
  rw [cc0_diff_attn_eq_skeleton]; unfold cc0_diff_attn_skel
  iintro ⟨H3, H4, H5, H11, H12, H13, H14, H6, H9, H10, H7, H8⟩ HK
  rw [wp_bind]
  iapply (part6_spec c arg3 harg3 arg4 harg4 arg5 harg5 arg6 harg6 arg7 harg7 arg8 harg8 arg9 harg9 arg10 harg10 arg11 harg11 arg12 harg12 arg13 harg13 arg14 harg14 _) $$ [H3 H4 H5 H11 H12 H13 H14]
  · isplitl [H3]; · iexact H3
    · isplitl [H4]; · iexact H4
      · isplitl [H5]; · iexact H5
        · isplitl [H11]; · iexact H11
          · isplitl [H12]; · iexact H12
            · isplitl [H13]; · iexact H13
              iexact H14
  iintro ⟨H3, H4, H5, H11, H12, H13, H14⟩
  try dsimp only
  rw [wp_bind]
  iapply (part7_spec c arg3 harg3 arg4 harg4 arg5 harg5 arg6 harg6 arg7 harg7 arg8 harg8 arg9 harg9 arg10 harg10 arg11 harg11 arg12 harg12 arg13 harg13 arg14 harg14 _ _ _ _) $$ [H4 H5 H6 H9 H10 H11 H12 H13 H14]
  · isplitl [H4]; · iexact H4
    · isplitl [H5]; · iexact H5
      · isplitl [H6]; · iexact H6
        · isplitl [H9]; · iexact H9
          · isplitl [H10]; · iexact H10
            · isplitl [H11]; · iexact H11
              · isplitl [H12]; · iexact H12
                · isplitl [H13]; · iexact H13
                  iexact H14
  iintro ⟨H4, H5, H6, H9, H10, H11, H12, H13, H14⟩
  try dsimp only
  iapply (load_all 𝒱₀ (c : Thread nD τ) none Set.univ z2) $$ H7; iintro H7
  iapply (load_all 𝒱₀ (c : Thread nD τ) none Set.univ z3) $$ H8; iintro H8
  iapply (store_all 𝒱₀ (c : Thread nD τ) none Set.univ z3) $$ H8; iintro H8
  iapply (le_wp_ret _ _ _ _ _)
  iapply HK
  isplitl [H3]; · iexact H3
  isplitl [H4]; · iexact H4
  isplitl [H5]; · iexact H5
  isplitl [H11]; · iexact H11
  isplitl [H12]; · iexact H12
  isplitl [H13]; · iexact H13
  isplitl [H14]; · iexact H14
  isplitl [H6]; · iexact H6
  isplitl [H9]; · iexact H9
  isplitl [H10]; · iexact H10
  isplitl [H7]; · iexact H7
  iexact H8

end Cert.Proof.Diff

end
-- ==== Proof.DiffRun.lean ====
/-
  The run of the differential-attention program: the pipeline's proof data (each input window at its block, the output
  window at the block the body leaves), the body at every point of the grid, and the run of the whole program.
-/
module

public import proofs.«01_k».proof.Proof.DiffBody
public import proofs.«01_k».proof.Proof.Gen.KernelIdeal.Frame

@[expose] public section

noncomputable section

namespace Cert.Proof.Diff

open Cert.KernelIdeal Cert.KernelIdeal.Gen Cert.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The output block, from what the windows hold at the point `i`. -/
def outBlock (i : grid0.Coords) (q : S1x1x256x128.Idx → Elt F .bf16) (K : S1x1x16640x128.Idx → Elt F .bf16)
    (V : S1x1x16640x256.Idx → Elt F .bf16) (lam : S4x64.Idx → Elt F .f32) (gain : S1x128.Idx → Elt F .f32) :
    S1x256x128.Idx → Elt F .bf16 :=
  k0_pay1 (blend (second i (k0_pay37 q) K V (first i q K V)) lam) gain

variable (m : (ℓ : Loc nD τ sig) → Buf (Elt F) ℓ) (ρ : Dev nD → PrngReg)

/-- The arrays as the region finds them; after the body each input's buffer at its block, the result's at `outBlock` of
    the blocks; nothing else carried between the points; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock (grid0.coords t) (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t
    = outBlock (grid0.coords t) (iblk m c 0 t) (iblk m c 1 t) (iblk m c 2 t) (iblk m c 3 t) (iblk m c 4 t) := by dsimp only [dats]

/-- Each input's staging buffer holds its block when the body runs. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The body at every point: the windows and the scratch buffers are handed to `body_spec`, the rest passes through. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3, before0_4]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after0_0, after0_1, after0_2, after0_3,
    after0_4, after0_5]
  unfold Pipeline.ΦA
  rw [scopedRest0_eq]
  unfold outBlock
  iintro ⟨⟨⟨⟨%f0, S0⟩, ⟨%f1, S1⟩, ⟨%f2, S2⟩, ⟨%f3, S3⟩, ⟨%f4, S4⟩, ⟨%f5, S5⟩⟩, HR⟩, Ho, ⟨%d0, H0⟩, ⟨%d1, H1⟩, ⟨%d2, H2⟩, ⟨%d3, H3⟩, ⟨%d4, H4⟩, ⟨%d5, H5⟩⟩
  iapply (body_spec c _ _ _ _ _ _ _ _ _ _ _ _ _ _ _ _ _ _ _ _ _ _ _ _ (grid0.coords t)) $$ [S0 S1 S2 S3 S4 S5 H0 H1 H2 H3 H4 H5]
  · isplitl [H0]; · iexact H0
    isplitl [H1]; · iexact H1
    isplitl [H2]; · iexact H2
    isplitl [S2]; · iapply (Entails.of_eq (owns_whole (c : Thread nD τ) cc0_scratch2 fullShare f2).symm); iexact S2
    isplitl [S3]; · iapply (Entails.of_eq (owns_whole (c : Thread nD τ) cc0_scratch3 fullShare f3).symm); iexact S3
    isplitl [S4]; · iapply (Entails.of_eq (owns_whole (c : Thread nD τ) cc0_scratch4 fullShare f4).symm); iexact S4
    isplitl [S5]; · iapply (Entails.of_eq (owns_whole (c : Thread nD τ) cc0_scratch5 fullShare f5).symm); iexact S5
    isplitl [H3]; · iexact H3
    isplitl [S0]; · iexists f0; iapply (Entails.of_eq (owns_whole (c : Thread nD τ) cc0_scratch0 fullShare f0).symm); iexact S0
    isplitl [S1]; · iexists f1; iapply (Entails.of_eq (owns_whole (c : Thread nD τ) cc0_scratch1 fullShare f1).symm); iexact S1
    isplitl [H4]; · iexact H4
    iexact H5
  iintro ⟨H0, H1, H2, S2, S3, S4, S5, H3, ⟨%g0, S0⟩, ⟨%g1, S1⟩, H4, H5⟩
  isplitl [HR S0 S1 S2 S3 S4 S5]
  · isplitl [S0 S1 S2 S3 S4 S5]
    · isplitl [S0]; · iexists _; iapply (Entails.of_eq (owns_whole (c : Thread nD τ) cc0_scratch0 fullShare _)); iexact S0
      isplitl [S1]; · iexists _; iapply (Entails.of_eq (owns_whole (c : Thread nD τ) cc0_scratch1 fullShare _)); iexact S1
      isplitl [S2]; · iexists _; iapply (Entails.of_eq (owns_whole (c : Thread nD τ) cc0_scratch2 fullShare _)); iexact S2
      isplitl [S3]; · iexists _; iapply (Entails.of_eq (owns_whole (c : Thread nD τ) cc0_scratch3 fullShare _)); iexact S3
      isplitl [S4]; · iexists _; iapply (Entails.of_eq (owns_whole (c : Thread nD τ) cc0_scratch4 fullShare _)); iexact S4
      iexists _; iapply (Entails.of_eq (owns_whole (c : Thread nD τ) cc0_scratch5 fullShare _)); iexact S5
    iexact HR
  isplitl [Ho]; · iexact Ho
  isplitl [H0]; · iexact H0
  isplitl [H1]; · iexact H1
  isplitl [H2]; · iexact H2
  isplitl [H3]; · iexact H3
  isplitl [H4]; · iexact H4
  iexact H5

set_option backward.isDefEq.respectTransparency.types false in
/-- From any memory with zero counters every weakly fair execution of the program terminates, every array of the
    pipeline ends at what the proof data says, and every counter ends at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := A_eq m) (hΦ := fun _ _ => rfl)

end Cert.Proof.Diff

end
-- ==== Proof.DiffFrame.lean ====
/-
  The frames of the differential-attention program, at the bits and at the extended reals: one run, over any floats,
  read at the argument arrays.
-/
module

public import proofs.«01_k».proof.Defs
public import proofs.«01_k».proof.Proof.DiffRun
public import proofs.«01_k».proof.Proof.Gen.Kernel
public import proofs.«01_k».proof.Proof.Gen.ReferenceIdeal.Run
public import Idealize.ShloMosaic.Adequacy
public import Idealize.ShloMosaic.Init

@[expose] public section

noncomputable section

namespace Cert.Proof.Diff

open Idealize.ShloMosaic Idealize.ShloMosaic.TcCoe Idealize.SL.Sem

/-- The run over any floats: the arguments end as they were, every counter at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  θ_run_with_sems (Cert.KernelIdeal.Gen.frame_of m ρ (dats m) (A_eq m)) (run_main (F := F) m ρ)

theorem frame_KernelIdeal : Cert.quiescent_KernelIdeal := fun m ρ _ => frame_any m ρ

/-- The kernel as printed is the same text: the same body table, -/
theorem defs₀_eq : (Cert.Kernel.defs₀ (F := Bits)) = Cert.KernelIdeal.defs₀ (F := Bits) := by
  unfold Cert.Kernel.defs₀ Cert.KernelIdeal.defs₀
  congr 1
  funext l a
  match l, a with
  | 0, (t, s) => rfl

theorem defs_eq : (Cert.Kernel.defs (F := Bits)) = Cert.KernelIdeal.defs (F := Bits) :=
  congrArg (Pipeline.defs (Cert.KernelIdeal.pcfgs (F := Bits))) defs₀_eq

/-- so its run is the run over any floats, read at the bits. -/
theorem frame_Kernel : Cert.quiescent_Kernel := fun m ρ _ => by
  rw [defs_eq]
  exact frame_any (F := Bits) m ρ

/-- The reference is a line of host operations; it declares no semaphore. -/
theorem frame_ReferenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof.Diff

end
-- ==== Proof.Softmax.lean ====
/-
  SOFTMAX ATTENTION OF ONE QUERY, as numbers. `mean s w n c` is column `c` of the average of the first `n` rows of `w`
  with weights `exp (s j)`. Two ways of computing it are shown to give it, over extended reals whose entries are finite:
  the running form, which takes the keys in chunks and rescales what it has whenever the greatest score so far grows
  (`Part`, `Part.step`, `Part.div`), and the plain form, which divides every weight by their sum first (`plain_weight`).
-/
module

public import Idealize.ShloMosaic.PureOps.Ideal
public import Mathlib.Analysis.SpecialFunctions.Pow.Real
public import Mathlib.Analysis.SpecialFunctions.Log.Basic

@[expose] public section

noncomputable section

namespace Cert.Attn

open Idealize.ShloMosaic
open Finset

/-- A finite sum of reals is the same sum taken among the extended reals. -/
theorem real_sum {ι : Type} (S : Finset ι) (f : ι → ℝ) : ((∑ i ∈ S, f i : ℝ) : EReal) = ∑ i ∈ S, (f i : EReal) := by
  classical
  induction S using Finset.induction_on with
  | empty => simp
  | insert i S hi ih => rw [Finset.sum_insert hi, Finset.sum_insert hi, EReal.coe_add, ih]

/-- The greatest of finitely many reals, at least one of them, is a real. -/
theorem real_max {L : ℕ} (hL : 0 < L) (f : Fin L → ℝ) :
    ∃ M : ℝ, (Finset.univ : Finset (Fin L)).fold max (⊥ : EReal) (fun k => (f k : EReal)) = (M : EReal) := by
  haveI : Nonempty (Fin L) := ⟨⟨0, hL⟩⟩
  obtain ⟨i, -, hi⟩ := Finset.exists_mem_eq_sup (Finset.univ : Finset (Fin L)) Finset.univ_nonempty (fun k => (f k : EReal))
  exact ⟨f i, hi⟩

/-- `exp2` of a real. -/
theorem two_pow (x : ℝ) : Ideal.exp2 (x : EReal) = (((2 : ℝ) ^ x : ℝ) : EReal) := rfl

/-- A quotient of reals, the divisor not zero. -/
theorem real_div (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

/-- What the running form holds after the first `n` keys: nothing yet, or, for some real `M`, the sums of the rows
    with weights `2 ^ (σ j - M)`. -/
def Part (σ : ℕ → ℝ) (w : ℕ → ℕ → ℝ) (n : ℕ) (m : EReal) (a : Fin 256 → EReal) : Prop :=
  (n = 0 ∧ m = ⊥ ∧ ∀ c, a c = 0)
    ∨ ∃ M : ℝ, m = (M : EReal) ∧ ∀ c : Fin 256, a c = ((∑ j ∈ range n, (2 : ℝ) ^ (σ j - M) * w j c.val : ℝ) : EReal)

/-- Nothing taken yet. -/
theorem Part.start (σ : ℕ → ℝ) (w : ℕ → ℕ → ℝ) : Part σ w 0 ⊥ (fun _ => 0) := .inl ⟨rfl, rfl, fun _ => rfl⟩

/-- One more chunk of `L` keys. -/
theorem Part.step {σ : ℕ → ℝ} {w : ℕ → ℕ → ℝ} {n : ℕ} {m : EReal} {a : Fin 256 → EReal} (h : Part σ w n m a)
    {L : ℕ} (hL : 0 < L) (S : Fin L → EReal) (hS : ∀ k, S k = (σ (n + k.val) : EReal))
    (V : Fin L → Fin 256 → EReal) (hV : ∀ k c, V k c = (w (n + k.val) c.val : EReal))
    (m' : EReal) (hm : m' = max m ((Finset.univ : Finset (Fin L)).fold max (⊥ : EReal) S))
    (a' : Fin 256 → EReal) (ha : ∀ c, a' c = Ideal.exp2 (m - m') * a c + ∑ k : Fin L, Ideal.exp2 (S k - m') * V k c) :
    Part σ w (n + L) m' a' := by
  obtain ⟨X, hX⟩ := real_max hL (fun k => σ (n + k.val))
  rw [show S = fun k => ((σ (n + k.val) : ℝ) : EReal) from funext hS, hX] at hm
  have tail : ∀ (M : ℝ), m' = M → ∀ c : Fin 256,
      ∑ k : Fin L, Ideal.exp2 (S k - m') * V k c
        = ((∑ j ∈ range L, (2 : ℝ) ^ (σ (n + j) - M) * w (n + j) c.val : ℝ) : EReal) := by
    intro M hM c
    rw [← Fin.sum_univ_eq_sum_range (fun j => (2 : ℝ) ^ (σ (n + j) - M) * w (n + j) c.val), real_sum]
    refine Finset.sum_congr rfl fun k _ => ?_
    rw [hS, hV, hM, ← EReal.coe_sub, two_pow, EReal.coe_mul]
  rcases h with ⟨rfl, rfl, h0⟩ | ⟨M, rfl, h1⟩
  · have hM : m' = (X : EReal) := by rw [hm]; exact max_eq_right bot_le
    refine .inr ⟨X, hM, fun c => ?_⟩
    rw [ha, h0, mul_zero, zero_add, tail X hM c]
    simp only [Nat.zero_add]
  · have hM : m' = ((max M X : ℝ) : EReal) := by rw [hm]; exact (EReal.coe_strictMono.monotone.map_max).symm
    refine .inr ⟨max M X, hM, fun c => ?_⟩
    rw [ha, h1, tail _ hM c, hM, ← EReal.coe_sub, two_pow, ← EReal.coe_mul, ← EReal.coe_add, Finset.sum_range_add,
      Finset.mul_sum]
    congr 2
    refine Finset.sum_congr rfl fun j _ => ?_
    rw [← mul_assoc, ← Real.rpow_add (by norm_num)]
    congr 2; ring

/-- The average of the first `n` rows of `w` with weights `exp (s j)`, at column `c`. -/
def mean (s : ℕ → ℝ) (w : ℕ → ℕ → ℝ) (n c : ℕ) : ℝ := (∑ j ∈ range n, Real.exp (s j) * w j c) / ∑ j ∈ range n, Real.exp (s j)

/-- The sum of the weights is positive. -/
theorem weights_pos (s : ℕ → ℝ) {n : ℕ} (hn : 0 < n) : 0 < ∑ j ∈ range n, Real.exp (s j) :=
  Finset.sum_pos (fun _ _ => Real.exp_pos _) ⟨0, Finset.mem_range.mpr hn⟩

/-- The running form's quotient by a column of ones is the average. -/
theorem Part.div {σ s : ℕ → ℝ} {w : ℕ → ℕ → ℝ} {n : ℕ} {m : EReal} {a : Fin 256 → EReal} (h : Part σ w n m a)
    (hn : 0 < n) (hσ : ∀ j, σ j * Real.log 2 = s j) (c d : Fin 256) (hd : ∀ j, j < n → w j d.val = 1) :
    Ideal.div (a c) (a d) = (mean s w n c.val : EReal) := by
  rcases h with ⟨rfl, -⟩ | ⟨M, -, h⟩
  · exact absurd hn (lt_irrefl 0)
  have e : ∀ j, (2 : ℝ) ^ (σ j - M) = (2 : ℝ) ^ (-M) * Real.exp (s j) := by
    intro j
    rw [show σ j - M = -M + σ j by ring, Real.rpow_add (by norm_num), Real.rpow_def_of_pos (by norm_num) (σ j), mul_comm (Real.log 2), hσ]
  have hp : (0 : ℝ) < (2 : ℝ) ^ (-M) := Real.rpow_pos_of_pos (by norm_num) _
  have hone : ∑ j ∈ range n, (2 : ℝ) ^ (σ j - M) * w j d.val = (2 : ℝ) ^ (-M) * ∑ j ∈ range n, Real.exp (s j) := by
    rw [Finset.mul_sum]
    refine Finset.sum_congr rfl fun j hj => ?_
    rw [e, hd j (Finset.mem_range.mp hj), mul_one]
  have hnum : ∑ j ∈ range n, (2 : ℝ) ^ (σ j - M) * w j c.val = (2 : ℝ) ^ (-M) * ∑ j ∈ range n, Real.exp (s j) * w j c.val := by
    rw [Finset.mul_sum]
    refine Finset.sum_congr rfl fun j _ => ?_
    rw [e, mul_assoc]
  have hs := weights_pos s hn
  rw [h c, h d, hone, hnum, real_div _ _ (mul_pos hp hs).ne', mean, mul_div_mul_left _ _ hp.ne']

/-- The plain form's weight of key `k`: its exponential, of the score less any real, over their sum. -/
theorem plain_weight (s : ℕ → ℝ) {n : ℕ} (hn : 0 < n) (M : ℝ) (k : Fin n) :
    Ideal.div (Ideal.exp ((s k.val : EReal) - (M : EReal))) (0 + ∑ j : Fin n, Ideal.exp ((s j.val : EReal) - (M : EReal)))
      = ((Real.exp (s k.val) / ∑ j ∈ range n, Real.exp (s j) : ℝ) : EReal) := by
  have e : ∀ x : ℝ, Ideal.exp ((x : EReal) - (M : EReal)) = ((Real.exp (-M) * Real.exp x : ℝ) : EReal) := by
    intro x
    rw [← EReal.coe_sub, Ideal.exp_coe, show x - M = -M + x by ring, Real.exp_add]
  have hp := Real.exp_pos (-M)
  have hs := weights_pos s hn
  simp only [e]
  rw [zero_add, ← real_sum, ← Finset.mul_sum, Fin.sum_univ_eq_sum_range (fun j => Real.exp (s j)), real_div _ _ (mul_pos hp hs).ne',
    mul_div_mul_left _ _ hp.ne']

end Cert.Attn

end

end
-- ==== Proof.Tile.lean ====
/-
  ONE CHUNK OF KEYS ON A TILE OF 256 QUERIES, read at an element: the new greatest score and the new accumulator of the
  running form of softmax attention, as an attention kernel's vector operations compute them, for a chunk of any length.
-/
module

public import Idealize.ShloMosaic.Lib.ValueIdx
public import Idealize.ShloMosaic.Lib.ValueLayout
public import Idealize.ShloMosaic.Lib.ValueLayoutCasts
public import Idealize.ShloMosaic.Lib.MatmulPlain
public import Idealize.ShloMosaic.Lib.Pipeline.Value
public import Idealize.ShloMosaic.PureOps.Ideal.Laws
public import proofs.«01_k».proof.Proof.Softmax
public import proofs.«01_k».proof.Proof.Steps

@[expose] public section

set_option maxRecDepth 16384

noncomputable section

namespace Cert.Attn

open Idealize.ShloMosaic Idealize.ShloMosaic.ValueIdx

/-- The greatest entry of row `r`. -/
def rowMax {R L : ℕ} (S : (⟨2, ![R, L]⟩ : Shape).Idx → EReal) (r : Fin R) : EReal :=
  (Finset.univ : Finset (Fin L)).fold max (⊥ : EReal) (fun k => S (ix2 r k))

/-- The pattern of minus infinity denotes it. -/
theorem ofBits_neg_inf : Ideal.ofBits .f32 0xFF800000#32 = (⊥ : EReal) := by simp [Ideal.ofBits, Ideal.ieee]

/-- The cast of an array to its own shape is the array. -/
theorem cast_same {α : Type} {s : Shape} (x : s.Idx → α) (h : s.ShapeCasts s) : shapeCast s x h = x :=
  funext fun j => shapeCast_apply x h j j rfl

/-- The lane of a row's reduction: the row index with the lane put in. -/
theorem lift_row {R L : ℕ} (h : (⟨2, ![R, L]⟩ : Shape).Reduces [1] ⟨1, ![R]⟩) (r : Fin R) (k : Fin L) :
    h.lift (ix1 r) k = ix2 r k := by
  funext a; apply Fin.ext
  match a with
  | ⟨0, _⟩ => rfl
  | ⟨1, _⟩ => rfl

/-- The rows' greatest entries, as one column. -/
theorem maxCol_apply {R L : ℕ} (S : FVec Ideal ⟨2, ![R, L]⟩ .f32) (h : (⟨2, ![R, L]⟩ : Shape).Reduces [1] ⟨1, ![R]⟩)
    (hφ : FKind.Formats .f32) (ha : (0xFF800000#32 : BitVec 32) = FKind.maximumf.neutral .f32 hφ)
    (hc : (⟨1, ![R]⟩ : Shape).ShapeCasts ⟨2, ![R, 1]⟩) (r : Fin R) (u : Fin 1) :
    shapeCast ⟨2, ![R, 1]⟩ (multiReduction .maximumf [1] ⟨1, ![R]⟩ S 0xFF800000#32 h hφ ha) hc (ix2 r u) = rowMax S r := by
  rw [shapeCast_a_a1_apply, Ideal.multiReduction_maximumf_single]
  show Finset.fold max (Ideal.ofBits .f32 0xFF800000#32) _ _ = _
  rw [ofBits_neg_inf]
  unfold rowMax
  congr 1
  funext k
  exact congrArg S (lift_row h r k)

/-- The rows' sums, as one column. -/
theorem sumCol_apply {R L : ℕ} (S : FVec Ideal ⟨2, ![R, L]⟩ .f32) (h : (⟨2, ![R, L]⟩ : Shape).Reduces [1] ⟨1, ![R]⟩)
    (hφ : FKind.Formats .f32) (ha : (0x00000000#32 : BitVec 32) = FKind.add.neutral .f32 hφ)
    (hc : (⟨1, ![R]⟩ : Shape).ShapeCasts ⟨2, ![R, 1]⟩) (r : Fin R) (u : Fin 1) :
    shapeCast ⟨2, ![R, 1]⟩ (multiReduction .add [1] ⟨1, ![R]⟩ S 0x00000000#32 h hφ ha) hc (ix2 r u) = ∑ k : Fin L, S (ix2 r k) := by
  rw [shapeCast_a_a1_apply, Ideal.multiReduction_add_single]
  exact Finset.sum_congr rfl fun k _ => congrArg S (lift_row h r k)

/-- A column spread over the lanes reads, in every lane, the column's entry of that row. -/
theorem spread_apply {α : Type} {R L : ℕ} (x : (⟨2, ![R, 1]⟩ : Shape).Idx → α) (h : (⟨2, ![R, 1]⟩ : Shape).Broadcasts ⟨2, ![R, L]⟩)
    (r : Fin R) (c : Fin L) : broadcastTo ⟨2, ![R, L]⟩ x h (ix2 r c) = x (ix2 r 0) := by
  refine broadcastTo_apply x h _ _ fun a => ?_
  match a with
  | ⟨0, _⟩ =>
    show r.val = if R = 1 then 0 else r.val
    have := r.isLt
    split <;> omega
  | ⟨1, _⟩ => rfl

/-- The new greatest score. -/
theorem newMax_apply {R L : ℕ} (S : FVec Ideal ⟨2, ![R, L]⟩ .f32) (m : FVec Ideal ⟨2, ![R, 1]⟩ .f32)
    (h : (⟨2, ![R, L]⟩ : Shape).Reduces [1] ⟨1, ![R]⟩) (hφ : FKind.Formats .f32)
    (ha : (0xFF800000#32 : BitVec 32) = FKind.maximumf.neutral .f32 hφ) (hc : (⟨1, ![R]⟩ : Shape).ShapeCasts ⟨2, ![R, 1]⟩)
    (r : Fin R) (u : Fin 1) :
    maximumf m (shapeCast ⟨2, ![R, 1]⟩ (multiReduction .maximumf [1] ⟨1, ![R]⟩ S 0xFF800000#32 h hφ ha) hc) (ix2 r u)
      = max (m (ix2 r u)) (rowMax S r) := by
  rw [maximumf_apply, maxCol_apply]

/-- The new accumulator: the old one rescaled, plus the chunk's values with their weights. -/
theorem newAcc_apply {R L C : ℕ} (S : FVec Ideal ⟨2, ![R, L]⟩ .f32) (m N : FVec Ideal ⟨2, ![R, 1]⟩ .f32)
    (a : FVec Ideal ⟨2, ![R, C]⟩ .f32) (V : FVec Ideal ⟨2, ![L, C]⟩ .bf16)
    (h₁ : (⟨2, ![R, 1]⟩ : Shape).Broadcasts ⟨2, ![R, C]⟩) (h₂ : (⟨2, ![R, 1]⟩ : Shape).Broadcasts ⟨2, ![R, L]⟩)
    (hb : FTy.bits .bf16 < FTy.bits .f32) (r : Fin R) (c : Fin C) :
    addf (mulf (broadcastTo ⟨2, ![R, C]⟩ (exp2 (subf m N)) h₁) a)
        (matmul (DotDims.plain R L C) none (exp2 (truncf .bf16 (subf S (broadcastTo ⟨2, ![R, L]⟩ N h₂)) hb)) V
          (constant ⟨2, ![R, C]⟩ .f32 0x00000000#32)) (ix2 r c)
      = Ideal.exp2 (m (ix2 r 0) - N (ix2 r 0)) * a (ix2 r c) + ∑ k : Fin L, Ideal.exp2 (S (ix2 r k) - N (ix2 r 0)) * V (ix2 k c) := by
  simp only [matmul]
  rw [addf_apply, mulf_apply, spread_apply, Ideal.matmul_plain_apply, constant_apply, Ideal.ofBits_zero_f32, zero_add]
  refine congrArg₂ (· + ·) rfl (Finset.sum_congr rfl fun k _ => ?_)
  refine congrArg (· * V (ix2 k c)) ?_
  show Ideal.exp2 (S (ix2 r k) - broadcastTo ⟨2, ![R, L]⟩ N h₂ (ix2 r k)) = _
  rw [spread_apply]

/-- Scores: a query's product with every key. -/
theorem scores_apply {R L D : ℕ} (q : FVec Ideal ⟨2, ![R, D]⟩ .bf16) (K : FVec Ideal ⟨2, ![L, D]⟩ .bf16) (r : Fin R) (k : Fin L) :
    matmul (DotDims.transposedRhs R D L) none q K (constant ⟨2, ![R, L]⟩ .f32 0x00000000#32) (ix2 r k)
      = ∑ d : Fin D, q (ix2 r d) * K (ix2 k d) := by
  simp only [matmul]
  rw [Ideal.matmul_transposedRhs_apply, constant_apply, Ideal.ofBits_zero_f32, zero_add]

/-- Two leading unit axes dropped. -/
theorem drop_two_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 0 0 i j) :=
  shapeCast_apply x h _ _ (by
    rw [Shape.rowMajor_val_four, Shape.rowMajor_val_two]
    show ((0 * 1 + 0) * a + i.val) * b + j.val = i.val * b + j.val
    simp)

/-- A tile's new greatest scores after a chunk with scores `S`. -/
def newMax {L : ℕ} (S : (⟨2, ![256, L]⟩ : Shape).Idx → EReal) (m : (⟨2, ![256, 1]⟩ : Shape).Idx → EReal) : (⟨2, ![256, 1]⟩ : Shape).Idx → EReal :=
  fun j => max (m j) (rowMax S (j 0))

/-- A tile's new accumulator after a chunk with scores `S` and values `V`. -/
def newAcc {L : ℕ} (S : (⟨2, ![256, L]⟩ : Shape).Idx → EReal) (V : (⟨4, ![1, 1, L, 256]⟩ : Shape).Idx → EReal)
    (m : (⟨2, ![256, 1]⟩ : Shape).Idx → EReal) (a : (⟨2, ![256, 256]⟩ : Shape).Idx → EReal) : (⟨2, ![256, 256]⟩ : Shape).Idx → EReal :=
  fun j => Ideal.exp2 (m (ix2 (j 0) 0) - newMax S m (ix2 (j 0) 0)) * a j
    + ∑ k : Fin L, Ideal.exp2 (S (ix2 (j 0) k) - newMax S m (ix2 (j 0) 0)) * V (ix4 0 0 k (j 1))

theorem newMax_eq {L : ℕ} (S : FVec Ideal ⟨2, ![256, L]⟩ .f32) (m : FVec Ideal ⟨2, ![256, 1]⟩ .f32)
    (h : (⟨2, ![256, L]⟩ : Shape).Reduces [1] ⟨1, ![256]⟩) (hφ : FKind.Formats .f32)
    (ha : (0xFF800000#32 : BitVec 32) = FKind.maximumf.neutral .f32 hφ) (hc : (⟨1, ![256]⟩ : Shape).ShapeCasts ⟨2, ![256, 1]⟩) :
    maximumf m (shapeCast ⟨2, ![256, 1]⟩ (multiReduction .maximumf [1] ⟨1, ![256]⟩ S 0xFF800000#32 h hφ ha) hc) = newMax S m := by
  funext j
  obtain ⟨r, u, rfl⟩ : ∃ (r : Fin 256) (u : Fin 1), j = ix2 r u := ⟨j 0, j 1, eq_ix2 j⟩
  exact newMax_apply S m h hφ ha hc r u

theorem newAcc_eq {L : ℕ} (S : FVec Ideal ⟨2, ![256, L]⟩ .f32) (m N : FVec Ideal ⟨2, ![256, 1]⟩ .f32) (hN : N = newMax S m)
    (a : FVec Ideal ⟨2, ![256, 256]⟩ .f32) (V : FVec Ideal ⟨4, ![1, 1, L, 256]⟩ .bf16)
    (h₀ : (⟨4, ![1, 1, L, 256]⟩ : Shape).ShapeCasts ⟨2, ![L, 256]⟩)
    (h₁ : (⟨2, ![256, 1]⟩ : Shape).Broadcasts ⟨2, ![256, 256]⟩) (h₂ : (⟨2, ![256, 1]⟩ : Shape).Broadcasts ⟨2, ![256, L]⟩)
    (hb : FTy.bits .bf16 < FTy.bits .f32) :
    addf (mulf (broadcastTo ⟨2, ![256, 256]⟩ (exp2 (subf m N)) h₁) a)
        (matmul (DotDims.plain 256 L 256) none (exp2 (truncf .bf16 (subf S (broadcastTo ⟨2, ![256, L]⟩ N h₂)) hb))
          (shapeCast ⟨2, ![L, 256]⟩ V h₀) (constant ⟨2, ![256, 256]⟩ .f32 0x00000000#32)) = newAcc S V m a := by
  funext j
  obtain ⟨r, c, rfl⟩ : ∃ (r : Fin 256) (c : Fin 256), j = ix2 r c := ⟨j 0, j 1, eq_ix2 j⟩
  rw [newAcc_apply, hN]
  refine congrArg₂ (· + ·) rfl (Finset.sum_congr rfl fun k _ => ?_)
  rw [drop_two_apply]

/-- After the first `n` keys, every row of the tile holds the running form of its own scores. -/
def Rows (σ : Fin 256 → ℕ → ℝ) (w : ℕ → ℕ → ℝ) (n : ℕ) (m : (⟨2, ![256, 1]⟩ : Shape).Idx → EReal)
    (a : (⟨2, ![256, 256]⟩ : Shape).Idx → EReal) : Prop :=
  ∀ r, Part (σ r) w n (m (ix2 r 0)) (fun c => a (ix2 r c))

/-- One more chunk on the tile. -/
theorem Rows.step {σ : Fin 256 → ℕ → ℝ} {w : ℕ → ℕ → ℝ} {n n' : ℕ} {m : (⟨2, ![256, 1]⟩ : Shape).Idx → EReal}
    {a : (⟨2, ![256, 256]⟩ : Shape).Idx → EReal} (h : Rows σ w n m a) {L : ℕ} (hL : 0 < L) (hn : n' = n + L)
    {S : (⟨2, ![256, L]⟩ : Shape).Idx → EReal} (hS : ∀ r k, S (ix2 r k) = (σ r (n + k.val) : EReal))
    {V : (⟨4, ![1, 1, L, 256]⟩ : Shape).Idx → EReal} (hV : ∀ k c, V (ix4 0 0 k c) = (w (n + k.val) c.val : EReal)) :
    Rows σ w n' (newMax S m) (newAcc S V m a) := by
  subst hn
  intro r
  exact (h r).step hL (fun k => S (ix2 r k)) (hS r) (fun k c => V (ix4 0 0 k c)) hV _ rfl _ fun c => rfl

/-- An array read through a unit-stride rectangle at offset `off` is the array at the shifted index. -/
theorem pick_apply {s : Shape} {β : Type} (off size : Fin s.rank → ℕ) (inb : ∀ a, off a + size a ≤ s.size a) (X : s.Idx → β)
    (j : (Rect.unit (s := s) off size inb).toLoadRect.shape.Idx) (i : s.Idx) (hi : ∀ a, (i a).val = off a + (j a).val) :
    pick (Rect.unit (s := s) off size inb).toLoadRect X j = X i := by
  unfold pick
  refine congrArg X (funext fun a => Fin.ext ?_)
  rw [hi a]
  show off a + 1 * (j a).val = _
  rw [Nat.one_mul]

end Cert.Attn

end

end
-- ==== Proof.DiffPay.lean ====
/-
  What the differential-attention kernel's vector operations compute, over extended reals: each update of a stream's
  greatest scores is `newMax`, each update of its accumulator `newAcc`, and each block of scores the product of the
  masked queries with the chunk's keys.
-/
module

public import proofs.«01_k».proof.Proof.Tile
public import proofs.«01_k».proof.Proof.Gen.KernelIdeal.Skeleton

@[expose] public section

set_option maxRecDepth 16384

noncomputable section

namespace Cert.Proof.Diff

open Cert.KernelIdeal Cert.KernelIdeal.Gen Cert.Attn
open Idealize.ShloMosaic Idealize.ShloMosaic.ValueIdx

theorem max14 (S : FVec Ideal S256x3328 .f32) (m : FVec Ideal S256x1 .f32) : k0_pay14 (F := Ideal) S m = newMax S m := by
  unfold k0_pay14
  dsimp only
  exact newMax_eq S m _ _ _ _
theorem max17 (S : FVec Ideal S256x3328 .f32) (m : FVec Ideal S256x1 .f32) : k0_pay17 (F := Ideal) (k0_pay14 (F := Ideal) S m) = newMax S m := by
  unfold k0_pay17 k0_pay14
  dsimp only
  rw [cast_same]
  exact newMax_eq S m _ _ _ _
theorem acc16 (S : FVec Ideal S256x3328 .f32) (V : FVec Ideal S1x1x3328x256 .bf16) (m : FVec Ideal S256x1 .f32) (a : FVec Ideal S256x256 .f32) : k0_pay16 (F := Ideal) (k0_pay15 (F := Ideal) V S m a) = newAcc S V m a := by
  unfold k0_pay16 k0_pay15 k0_pay13
  dsimp only
  rw [cast_same]
  exact newAcc_eq S m _ (max14 S m) a V _ _ _ _
theorem max18 (S : FVec Ideal S256x3328 .f32) (m : FVec Ideal S256x1 .f32) : k0_pay18 (F := Ideal) S m = newMax S m := by
  unfold k0_pay18
  dsimp only
  exact newMax_eq S m _ _ _ _
theorem max20 (S : FVec Ideal S256x3328 .f32) (m : FVec Ideal S256x1 .f32) : k0_pay20 (F := Ideal) S m = newMax S m := by
  unfold k0_pay20 k0_pay18
  dsimp only
  rw [cast_same]
  exact newMax_eq S m _ _ _ _
theorem acc19 (S : FVec Ideal S256x3328 .f32) (V : FVec Ideal S1x1x3328x256 .bf16) (m : FVec Ideal S256x1 .f32) (a : FVec Ideal S256x256 .f32) : k0_pay19 (F := Ideal) (k0_pay13 (F := Ideal) V) S m a = newAcc S V m a := by
  unfold k0_pay19 k0_pay13
  dsimp only
  rw [cast_same]
  exact newAcc_eq S m _ (max18 S m) a V _ _ _ _
theorem max23 (S : FVec Ideal S256x3328 .f32) (m : FVec Ideal S256x1 .f32) : k0_pay23 (F := Ideal) S m = newMax S m := by
  unfold k0_pay23
  dsimp only
  exact newMax_eq S m _ _ _ _
theorem max25 (S : FVec Ideal S256x3328 .f32) (m : FVec Ideal S256x1 .f32) : k0_pay25 (F := Ideal) S m = newMax S m := by
  unfold k0_pay25 k0_pay23
  dsimp only
  rw [cast_same]
  exact newMax_eq S m _ _ _ _
theorem acc24 (S : FVec Ideal S256x3328 .f32) (V : FVec Ideal S1x1x3328x256 .bf16) (m : FVec Ideal S256x1 .f32) (a : FVec Ideal S256x256 .f32) : k0_pay24 (F := Ideal) V S m a = newAcc S V m a := by
  unfold k0_pay24 k0_pay22
  dsimp only
  rw [cast_same]
  exact newAcc_eq S m _ (max23 S m) a V _ _ _ _
theorem max27 (S : FVec Ideal S256x3328 .f32) (m : FVec Ideal S256x1 .f32) : k0_pay27 (F := Ideal) S m = newMax S m := by
  unfold k0_pay27
  dsimp only
  exact newMax_eq S m _ _ _ _
theorem max29 (S : FVec Ideal S256x3328 .f32) (m : FVec Ideal S256x1 .f32) : k0_pay29 (F := Ideal) S m = newMax S m := by
  unfold k0_pay29 k0_pay27
  dsimp only
  rw [cast_same]
  exact newMax_eq S m _ _ _ _
theorem acc28 (S : FVec Ideal S256x3328 .f32) (V : FVec Ideal S1x1x3328x256 .bf16) (m : FVec Ideal S256x1 .f32) (a : FVec Ideal S256x256 .f32) : k0_pay28 (F := Ideal) (k0_pay22 (F := Ideal) V) S m a = newAcc S V m a := by
  unfold k0_pay28 k0_pay22
  dsimp only
  rw [cast_same]
  exact newAcc_eq S m _ (max27 S m) a V _ _ _ _
theorem max31 (S : FVec Ideal S256x3328 .f32) (m : FVec Ideal S256x1 .f32) : k0_pay31 (F := Ideal) S m = newMax S m := by
  unfold k0_pay31
  dsimp only
  exact newMax_eq S m _ _ _ _
theorem max44 (S : FVec Ideal S256x3328 .f32) (m : FVec Ideal S256x1 .f32) : k0_pay44 (F := Ideal) (k0_pay31 (F := Ideal) S m) = newMax S m := by
  unfold k0_pay44 k0_pay31
  dsimp only
  rw [cast_same]
  exact newMax_eq S m _ _ _ _
theorem acc32 (S : FVec Ideal S256x3328 .f32) (V : FVec Ideal S1x1x3328x256 .bf16) (m : FVec Ideal S256x1 .f32) (a : FVec Ideal S256x256 .f32) : k0_pay32 (F := Ideal) V S m a = newAcc S V m a := by
  unfold k0_pay32 k0_pay30
  dsimp only
  rw [cast_same]
  exact newAcc_eq S m _ (max31 S m) a V _ _ _ _
theorem max45 (S : FVec Ideal S256x3328 .f32) (m : FVec Ideal S256x1 .f32) : k0_pay45 (F := Ideal) S m = newMax S m := by
  unfold k0_pay45
  dsimp only
  exact newMax_eq S m _ _ _ _
theorem max47 (S : FVec Ideal S256x3328 .f32) (m : FVec Ideal S256x1 .f32) : k0_pay47 (F := Ideal) S m = newMax S m := by
  unfold k0_pay47 k0_pay45
  dsimp only
  rw [cast_same]
  exact newMax_eq S m _ _ _ _
theorem acc46 (S : FVec Ideal S256x3328 .f32) (V : FVec Ideal S1x1x3328x256 .bf16) (m : FVec Ideal S256x1 .f32) (a : FVec Ideal S256x256 .f32) : k0_pay46 (F := Ideal) (k0_pay30 (F := Ideal) V) S m a = newAcc S V m a := by
  unfold k0_pay46 k0_pay30
  dsimp only
  rw [cast_same]
  exact newAcc_eq S m _ (max45 S m) a V _ _ _ _

theorem max5 (q : FVec Ideal S256x128 .bf16) (K : FVec Ideal S1x1x256x128 .bf16) (m : FVec Ideal S256x1 .f32) :
    k0_pay5 (F := Ideal) q K m = newMax (k0_pay4 (F := Ideal) q K) m := newMax_eq (k0_pay4 (F := Ideal) q K) m _ _ _ _
theorem max7 (q : FVec Ideal S256x128 .bf16) (K : FVec Ideal S1x1x256x128 .bf16) (m : FVec Ideal S256x1 .f32) :
    k0_pay7 (F := Ideal) q K m = newMax (k0_pay4 (F := Ideal) q K) m := (cast_same _ _).trans (max5 q K m)
theorem acc6 (q : FVec Ideal S256x128 .bf16) (K : FVec Ideal S1x1x256x128 .bf16) (V : FVec Ideal S1x1x256x256 .bf16)
    (m : FVec Ideal S256x1 .f32) (a : FVec Ideal S256x256 .f32) : k0_pay6 (F := Ideal) q K V m a = newAcc (k0_pay4 (F := Ideal) q K) V m a := by
  unfold k0_pay6 k0_pay3
  dsimp only
  rw [cast_same]
  exact newAcc_eq (k0_pay4 (F := Ideal) q K) m _ (max5 q K m) a V _ _ _ _
theorem max9 (q : FVec Ideal S256x128 .bf16) (K : FVec Ideal S1x1x256x128 .bf16) (m : FVec Ideal S256x1 .f32) :
    k0_pay9 (F := Ideal) q K m = newMax (k0_pay8 (F := Ideal) q K) m := newMax_eq (k0_pay8 (F := Ideal) q K) m _ _ _ _
theorem max43 (q : FVec Ideal S256x128 .bf16) (K : FVec Ideal S1x1x256x128 .bf16) (m : FVec Ideal S256x1 .f32) :
    k0_pay43 (F := Ideal) (k0_pay9 (F := Ideal) q K m) = newMax (k0_pay8 (F := Ideal) q K) m := (cast_same _ _).trans (max9 q K m)
theorem acc42 (q : FVec Ideal S256x128 .bf16) (K : FVec Ideal S1x1x256x128 .bf16) (V : FVec Ideal S1x1x256x256 .bf16)
    (m : FVec Ideal S256x1 .f32) (a : FVec Ideal S256x256 .f32) :
    k0_pay42 (F := Ideal) (k0_pay3 (F := Ideal) V) (k0_pay10 (F := Ideal) q K m) (k0_pay11 (F := Ideal) q K m) a = newAcc (k0_pay8 (F := Ideal) q K) V m a := by
  unfold k0_pay42 k0_pay10 k0_pay11 k0_pay3
  dsimp only
  rw [cast_same]
  exact newAcc_eq (k0_pay8 (F := Ideal) q K) m _ (max9 q K m) a V _ _ _ _

/-! ### Scores -/
theorem scores4 (q : FVec Ideal S256x128 .bf16) (K : FVec Ideal S1x1x256x128 .bf16) (r : Fin 256) (k : Fin 256) :
    k0_pay4 (F := Ideal) q K (ix2 r k) = ∑ d : Fin 128, q (ix2 r d) * K (ix4 0 0 k d) := by
  refine (scores_apply q (k0_pay2 (F := Ideal) K) r k).trans (Finset.sum_congr rfl fun d _ => ?_)
  exact congrArg (q (ix2 r d) * ·) (drop_two_apply K _ k d)
theorem scores8 (q : FVec Ideal S256x128 .bf16) (K : FVec Ideal S1x1x256x128 .bf16) (r : Fin 256) (k : Fin 256) :
    k0_pay8 (F := Ideal) q K (ix2 r k) = ∑ d : Fin 128, q (ix2 r d) * K (ix4 0 0 k d) := scores4 q K r k
theorem scores12 (q : FVec Ideal S512x128 .bf16) (K : FVec Ideal S1x1x3328x128 .bf16) (r : Fin 512) (k : Fin 3328) :
    k0_pay12 (F := Ideal) q K (ix2 r k) = ∑ d : Fin 128, q (ix2 r d) * K (ix4 0 0 k d) := by
  unfold k0_pay12
  rw [cast_same]
  refine (scores_apply q _ r k).trans (Finset.sum_congr rfl fun d _ => ?_)
  exact congrArg (q (ix2 r d) * ·) (drop_two_apply K _ k d)
theorem scores21 (q : FVec Ideal S512x128 .bf16) (K : FVec Ideal S1x1x3328x128 .bf16) (r : Fin 512) (k : Fin 3328) :
    k0_pay21 (F := Ideal) q K (ix2 r k) = ∑ d : Fin 128, q (ix2 r d) * K (ix4 0 0 k d) := scores12 q K r k
theorem scores26 (q : FVec Ideal S512x128 .bf16) (K : FVec Ideal S1x1x3328x128 .bf16) (r : Fin 512) (k : Fin 3328) :
    k0_pay26 (F := Ideal) q K (ix2 r k) = ∑ d : Fin 128, q (ix2 r d) * K (ix4 0 0 k d) := scores12 q K r k

/-! ### The masked queries -/

/-- The lane mask: `d < 64`, as the one-bit word the kernel computes. -/
theorem lane_lt : ∀ d : Fin 128, IntOp.cmpi .slt (BitVec.ofNat 32 d.val) 64#32 = if d.val < 64 then 1#1 else 0#1 := by decide +kernel
theorem lane_ge : ∀ d : Fin 128, IntOp.cmpi .sge (BitVec.ofNat 32 d.val) 64#32 = if d.val < 64 then 0#1 else 1#1 := by decide +kernel
theorem ofBits_zero_bf16 : Ideal.ofBits .bf16 0x0000#16 = (0 : EReal) := by simp [Ideal.ofBits, Ideal.ieee]
theorem low_half (q : FVec Ideal S1x1x256x128 .bf16) (r : Fin 256) (d : Fin 128) :
    k0_pay35 (F := Ideal) q (ix2 r d) = if d.val < 64 then q (ix4 0 0 r d) else 0 := by
  have h : k0_pay35 (F := Ideal) q (ix2 r d) = Scalar.select (IntOp.cmpi .slt (BitVec.ofNat 32 (0 * 128 + d.val)) 64#32) (k0_pay33 (F := Ideal) q (ix2 r d)) (Ideal.ofBits .bf16 0x0000#16) := rfl
  rw [h, Nat.zero_mul, Nat.zero_add, lane_lt, ofBits_zero_bf16]
  split
  · rw [select_one]; exact drop_two_apply q _ r d
  · rw [select_zero]
theorem high_half (q : FVec Ideal S1x1x256x128 .bf16) (r : Fin 256) (d : Fin 128) :
    k0_pay36 (F := Ideal) q (ix2 r d) = if d.val < 64 then 0 else q (ix4 0 0 r d) := by
  have h : k0_pay36 (F := Ideal) q (ix2 r d) = Scalar.select (IntOp.cmpi .sge (BitVec.ofNat 32 (0 * 128 + d.val)) 64#32) (k0_pay33 (F := Ideal) q (ix2 r d)) (Ideal.ofBits .bf16 0x0000#16) := rfl
  rw [h, Nat.zero_mul, Nat.zero_add, lane_ge, ofBits_zero_bf16]
  split
  · rw [select_zero]
  · rw [select_one]; exact drop_two_apply q _ r d

/-- The two masked copies stacked: rows 0 to 255 the low half, rows 256 to 511 the high half. -/
theorem stacked_low (q : FVec Ideal S1x1x256x128 .bf16) (r : Fin 256) (d : Fin 128) :
    k0_pay37 (F := Ideal) q (ix2 (⟨r.val, by omega⟩ : Fin 512) d) = k0_pay35 (F := Ideal) q (ix2 r d) := by
  unfold k0_pay37
  exact concatenate_pair_apply_left (t := S512x128) (s₁ := S256x128) (s₂ := S256x128) 0 (k0_pay35 (F := Ideal) q) (k0_pay36 (F := Ideal) q) _ _ rfl (ix2 r d) fun b => by
    match b with | ⟨0, _⟩ => rfl | ⟨1, _⟩ => rfl
theorem stacked_high (q : FVec Ideal S1x1x256x128 .bf16) (r : Fin 256) (d : Fin 128) :
    k0_pay37 (F := Ideal) q (ix2 (⟨256 + r.val, by omega⟩ : Fin 512) d) = k0_pay36 (F := Ideal) q (ix2 r d) := by
  unfold k0_pay37
  exact concatenate_pair_apply_right (t := S512x128) (s₁ := S256x128) (s₂ := S256x128) 0 (k0_pay35 (F := Ideal) q) (k0_pay36 (F := Ideal) q) _ _ rfl rfl (ix2 r d) (fun b hb => by
    match b, hb with | ⟨0, _⟩, hb => exact absurd rfl hb | ⟨1, _⟩, _ => rfl) (Nat.add_comm _ _)

end Cert.Proof.Diff

end

end
-- ==== Proof.DiffTile.lean ====
/-
  What one grid point of the differential-attention kernel leaves, over extended reals, when its blocks hold finite
  numbers: for every query of the tile, each stream holds the running form of that query's scores over the keys the tile
  attends to, and the block stored is the two averages' difference, normalised and scaled.
-/
module

public import proofs.«01_k».proof.Proof.DiffPay
public import proofs.«01_k».proof.Proof.DiffRun

@[expose] public section

set_option maxRecDepth 16384

noncomputable section

namespace Cert.Proof.Diff

open Cert.KernelIdeal Cert.KernelIdeal.Gen Cert.Attn
open Idealize.ShloMosaic Idealize.ShloMosaic.ValueIdx
open Finset

/-- The product of the low halves of query `r` and key `j`. -/
def low (Q κ : ℕ → ℕ → ℝ) (r j : ℕ) : ℝ := ∑ d ∈ range 64, Q r d * κ j d
/-- The product of the high halves of query `r` and key `j`. -/
def high (Q κ : ℕ → ℕ → ℝ) (r j : ℕ) : ℝ := ∑ d ∈ range 64, Q r (64 + d) * κ j (64 + d)

theorem low_sum (f g : ℕ → ℝ) (x y : Fin 128 → EReal) (hx : ∀ d, x d = if d.val < 64 then (f d.val : EReal) else 0)
    (hy : ∀ d, y d = (g d.val : EReal)) : ∑ d : Fin 128, x d * y d = ((∑ d ∈ range 64, f d * g d : ℝ) : EReal) := by
  have e : ∀ d : Fin 128, x d * y d = (((if d.val < 64 then f d.val * g d.val else 0) : ℝ) : EReal) := by
    intro d
    rw [hx, hy]
    split <;> simp
  rw [Finset.sum_congr rfl fun d _ => e d, ← real_sum, Fin.sum_univ_eq_sum_range (fun d => if d < 64 then f d * g d else (0 : ℝ)),
    show (128 : ℕ) = 64 + 64 from rfl, Finset.sum_range_add]
  congr 1
  rw [Finset.sum_congr rfl (fun d hd => if_pos (Finset.mem_range.mp hd)),
    Finset.sum_eq_zero (s := range 64) (f := fun d => if 64 + d < 64 then f (64 + d) * g (64 + d) else (0 : ℝ)) (fun d _ => if_neg (by omega)), add_zero]

theorem high_sum (f g : ℕ → ℝ) (x y : Fin 128 → EReal) (hx : ∀ d, x d = if d.val < 64 then 0 else (f d.val : EReal))
    (hy : ∀ d, y d = (g d.val : EReal)) : ∑ d : Fin 128, x d * y d = ((∑ d ∈ range 64, f (64 + d) * g (64 + d) : ℝ) : EReal) := by
  have e : ∀ d : Fin 128, x d * y d = (((if d.val < 64 then 0 else f d.val * g d.val) : ℝ) : EReal) := by
    intro d
    rw [hx, hy]
    split <;> simp
  rw [Finset.sum_congr rfl fun d _ => e d, ← real_sum, Fin.sum_univ_eq_sum_range (fun d => if d < 64 then (0 : ℝ) else f d * g d),
    show (128 : ℕ) = 64 + 64 from rfl, Finset.sum_range_add]
  congr 1
  rw [Finset.sum_congr rfl (fun d hd => if_neg (by omega : ¬ 64 + d < 64)),
    Finset.sum_eq_zero (s := range 64) (f := fun d => if d < 64 then (0 : ℝ) else f d * g d) (fun d hd => if_pos (Finset.mem_range.mp hd)), zero_add]

/-- The blocks of a grid point hold finite numbers: the queries `Q`, the keys `κ`, the values `w`. -/
structure Holds (q : S1x1x256x128.Idx → EReal) (K : S1x1x16640x128.Idx → EReal) (V : S1x1x16640x256.Idx → EReal)
    (Q κ w : ℕ → ℕ → ℝ) : Prop where
  q_eq : ∀ (r : Fin 256) (d : Fin 128), q (ix4 0 0 r d) = (Q r.val d.val : EReal)
  k_eq : ∀ (j : Fin 16640) (d : Fin 128), K (ix4 0 0 j d) = (κ j.val d.val : EReal)
  v_eq : ∀ (j : Fin 16640) (c : Fin 256), V (ix4 0 0 j c) = (w j.val c.val : EReal)

/-- A chunk of keys read at its offset. -/
theorem keys_at {L n : ℕ} (off : Fin 4 → ℕ) (ho : off = ![0, 0, n, 0]) (hL : n + L ≤ 16640) (inb : ∀ a, off a + (⟨4, ![1, 1, L, 128]⟩ : Shape).size a ≤ S1x1x16640x128.size a)
    (K : S1x1x16640x128.Idx → EReal) (k : Fin L) (d : Fin 128) :
    pick (Rect.unit (s := S1x1x16640x128) off (⟨4, ![1, 1, L, 128]⟩ : Shape).size inb).toLoadRect K (ix4 0 0 k d)
      = K (ix4 0 0 ⟨n + k.val, by omega⟩ d) := by
  subst ho
  refine pick_apply (s := S1x1x16640x128) _ _ inb K (ix4 0 0 k d) (ix4 0 0 ⟨n + k.val, by omega⟩ d) fun a => ?_
  match a with
  | ⟨0, _⟩ => rfl
  | ⟨1, _⟩ => rfl
  | ⟨2, _⟩ => rfl
  | ⟨3, _⟩ => exact (Nat.zero_add _).symm

/-- A chunk of values read at its offset. -/
theorem values_at {L n : ℕ} (off : Fin 4 → ℕ) (ho : off = ![0, 0, n, 0]) (hL : n + L ≤ 16640) (inb : ∀ a, off a + (⟨4, ![1, 1, L, 256]⟩ : Shape).size a ≤ S1x1x16640x256.size a)
    (V : S1x1x16640x256.Idx → EReal) (k : Fin L) (c : Fin 256) :
    pick (Rect.unit (s := S1x1x16640x256) off (⟨4, ![1, 1, L, 256]⟩ : Shape).size inb).toLoadRect V (ix4 0 0 k c)
      = V (ix4 0 0 ⟨n + k.val, by omega⟩ c) := by
  subst ho
  refine pick_apply (s := S1x1x16640x256) _ _ inb V (ix4 0 0 k c) (ix4 0 0 ⟨n + k.val, by omega⟩ c) fun a => ?_
  match a with
  | ⟨0, _⟩ => rfl
  | ⟨1, _⟩ => rfl
  | ⟨2, _⟩ => rfl
  | ⟨3, _⟩ => exact (Nat.zero_add _).symm

/-- Half of the scratch of scores: the low stream's rows, or the high stream's. -/
theorem rows_at (o : ℕ) (ho : o + 256 ≤ 512) (inb : ∀ a, (![o, 0] : Fin 2 → ℕ) a + S256x3328.size a ≤ S512x3328.size a)
    (s : S512x3328.Idx → EReal) (r : Fin 256) (k : Fin 3328) :
    pick (Rect.unit (s := S512x3328) ![o, 0] S256x3328.size inb).toLoadRect s (ix2 r k) = s (ix2 ⟨o + r.val, by omega⟩ k) := by
  refine pick_apply (s := S512x3328) _ _ inb s (ix2 r k) (ix2 ⟨o + r.val, by omega⟩ k) fun a => ?_
  match a with
  | ⟨0, _⟩ => rfl
  | ⟨1, _⟩ => exact (Nat.zero_add _).symm

variable {q : S1x1x256x128.Idx → EReal} {K : S1x1x16640x128.Idx → EReal} {V : S1x1x16640x256.Idx → EReal} {Q κ w : ℕ → ℕ → ℝ}

/-- A product of the low halves, as the kernel forms it from the masked queries. -/
theorem low_score (H : Holds q K V Q κ w) (r : Fin 256) (j : Fin 16640) :
    ∑ d : Fin 128, k0_pay35 (F := Ideal) q (ix2 r d) * K (ix4 0 0 j d) = (low Q κ r.val j.val : EReal) :=
  low_sum (Q r.val) (κ j.val) _ _ (fun d => by rw [low_half, H.q_eq]) (fun d => H.k_eq j d)

/-- A product of the high halves. -/
theorem high_score (H : Holds q K V Q κ w) (r : Fin 256) (j : Fin 16640) :
    ∑ d : Fin 128, k0_pay36 (F := Ideal) q (ix2 r d) * K (ix4 0 0 j d) = (high Q κ r.val j.val : EReal) :=
  high_sum (Q r.val) (κ j.val) _ _ (fun d => by rw [high_half, H.q_eq]) (fun d => H.k_eq j d)

/-- The scratch of scores holds both streams' scores of the chunk at `n`. -/
def ScoresAt (Q κ : ℕ → ℕ → ℝ) (n : ℕ) (s : S512x3328.Idx → EReal) : Prop :=
  (∀ (r : Fin 256) (k : Fin 3328), s (ix2 (⟨r.val, by omega⟩ : Fin 512) k) = (low Q κ r.val (n + k.val) : EReal))
    ∧ ∀ (r : Fin 256) (k : Fin 3328), s (ix2 (⟨256 + r.val, by omega⟩ : Fin 512) k) = (high Q κ r.val (n + k.val) : EReal)

theorem scores_at (H : Holds q K V Q κ w) {n : ℕ} (hn : n + 3328 ≤ 16640) (off : Fin 4 → ℕ) (ho : off = ![0, 0, n, 0])
    (inb : ∀ a, off a + S1x1x3328x128.size a ≤ S1x1x16640x128.size a) :
    ScoresAt Q κ n (k0_pay12 (F := Ideal) (k0_pay37 (F := Ideal) q) (pick (Rect.unit (s := S1x1x16640x128) off S1x1x3328x128.size inb).toLoadRect K)) := by
  refine ⟨fun r k => ?_, fun r k => ?_⟩
  · rw [scores12, ← low_score H r ⟨n + k.val, by omega⟩]
    exact Finset.sum_congr rfl fun d _ => congrArg₂ (· * ·) (stacked_low q r d) (keys_at off ho hn inb K k d)
  · rw [scores12, ← high_score H r ⟨n + k.val, by omega⟩]
    exact Finset.sum_congr rfl fun d _ => congrArg₂ (· * ·) (stacked_high q r d) (keys_at off ho hn inb K k d)

/-- Both streams hold the running form after the first `n` keys. -/
def Both (Q κ w : ℕ → ℕ → ℝ) (n : ℕ) (m1 : S256x1.Idx → EReal) (a1 : S256x256.Idx → EReal) (m2 : S256x1.Idx → EReal) (a2 : S256x256.Idx → EReal) : Prop :=
  Rows (fun r => low Q κ r.val) w n m1 a1 ∧ Rows (fun r => high Q κ r.val) w n m2 a2

theorem start_both (Q κ w : ℕ → ℕ → ℝ) : Both Q κ w 0 (start (F := Ideal)).m1 (start (F := Ideal)).a1 (start (F := Ideal)).m2 (start (F := Ideal)).a2 := by
  have h1 : ∀ j, k0_pay38 (F := Ideal) j = (⊥ : EReal) := fun j => (congrFun (cast_same (broadcast S256x1 (Scalar.ofBits .f32 0xFF800000#32 : Ideal .f32)) shapeCasts_S256x1_S256x1) j).trans ofBits_neg_inf
  have h2 : ∀ j, k0_pay39 (F := Ideal) j = (0 : EReal) := fun j => (congrFun (cast_same (broadcast S256x256 (Scalar.ofBits .f32 0x00000000#32 : Ideal .f32)) shapeCasts_S256x256_S256x256) j).trans Ideal.ofBits_zero_f32
  exact ⟨fun r => .inl ⟨rfl, h1 (ix2 r 0), fun c => h2 (ix2 r c)⟩, fun r => .inl ⟨rfl, h1 (ix2 r 0), fun c => h2 (ix2 r c)⟩⟩

/-- The context branch: the first 256 keys. -/
theorem ctx_both (H : Holds q K V Q κ w) :
    Both Q κ w 256 (ctxStep (F := Ideal) q K V).m1 (ctxStep (F := Ideal) q K V).a1 (ctxStep (F := Ideal) q K V).m2 (ctxStep (F := Ideal) q K V).a2 := by
  have h := start_both Q κ w
  have hv := fun (k : Fin 256) (c : Fin 256) => (values_at (L := 256) (n := 0) ![0, 0, 0, 0] rfl (by omega) inb_S1x1x16640x256_S1x1x256x256_0_0_0_0 V k c).trans (H.v_eq _ c)
  have hk := fun (k : Fin 256) (d : Fin 128) => keys_at (L := 256) (n := 0) ![0, 0, 0, 0] rfl (by omega) inb_S1x1x16640x128_S1x1x256x128_0_0_0_0 K k d
  refine ⟨?_, ?_⟩
  · unfold ctxStep
    dsimp only
    rw [max7, acc6]
    refine h.1.step (by norm_num) rfl (fun r k => ?_) hv
    rw [scores4, ← low_score H r ⟨0 + k.val, by omega⟩]
    exact Finset.sum_congr rfl fun d _ => congrArg (_ * ·) (hk k d)
  · unfold ctxStep
    dsimp only
    rw [max43, acc42]
    refine h.2.step (by norm_num) rfl (fun r k => ?_) hv
    rw [scores8, ← high_score H r ⟨0 + k.val, by omega⟩]
    exact Finset.sum_congr rfl fun d _ => congrArg (_ * ·) (hk k d)

theorem trips_eq : k0_t1_loop.trips = 2 := by decide +kernel
theorem off1_next : ∀ t : Fin k0_t1_loop.trips, k0_off1 t 1#32 = ![0, 0, 6656 * t.val + 3328, 0] := by decide +kernel
theorem off1_after : ∀ t : Fin k0_t1_loop.trips, k0_off1 t 2#32 = ![0, 0, 6656 * (t.val + 1), 0] := by decide +kernel
theorem off2_eq : ∀ t : Fin k0_t1_loop.trips, k0_off2 t = ![0, 0, 6656 * t.val, 0] := by decide +kernel
theorem off3_eq : ∀ t : Fin k0_t1_loop.trips, k0_off3 t = ![0, 0, 6656 * t.val + 3328, 0] := by decide +kernel

/-- One trip: two chunks, and the scores of the one after. -/
theorem trip_both (H : Holds q K V Q κ w) (i : grid0.Coords) (hc : k0_cond2 i = 1#1) (t : Fin k0_t1_loop.trips) (g : Regs Ideal)
    (hs : ScoresAt Q κ (6656 * t.val) g.s) (hg : Both Q κ w (6656 * t.val) g.m1 g.a1 g.m2 g.a2) :
    ScoresAt Q κ (6656 * (t.val + 1)) (trip i (k0_pay37 (F := Ideal) q) hc K V t g).s
      ∧ Both Q κ w (6656 * (t.val + 1)) (trip i (k0_pay37 (F := Ideal) q) hc K V t g).m1 (trip i (k0_pay37 (F := Ideal) q) hc K V t g).a1
          (trip i (k0_pay37 (F := Ideal) q) hc K V t g).m2 (trip i (k0_pay37 (F := Ideal) q) hc K V t g).a2 := by
  have ht : t.val < 2 := lt_of_lt_of_eq t.isLt trips_eq
  have hv2 := fun (k : Fin 3328) (c : Fin 256) => (values_at (L := 3328) (n := 6656 * t.val) (k0_off2 t) (off2_eq t) (by omega) (k0_off2_inb i t hc) V k c).trans (H.v_eq _ c)
  have hv3 := fun (k : Fin 3328) (c : Fin 256) => (values_at (L := 3328) (n := 6656 * t.val + 3328) (k0_off3 t) (off3_eq t) (by omega) (k0_off3_inb i t hc) V k c).trans (H.v_eq _ c)
  have hn := scores_at H (n := 6656 * t.val + 3328) (by omega) (k0_off1 t 1#32) (off1_next t) (k0_off1_inb i t hc 0)
  refine ⟨scores_at H (n := 6656 * (t.val + 1)) (by omega) (k0_off1 t 2#32) (off1_after t) (k0_off1_inb i t hc 1), ?_, ?_⟩
  · unfold trip
    dsimp only
    rw [max25, acc24, max17, acc16]
    refine (hg.1.step (by norm_num) rfl (fun r k => ?_) hv2).step (by norm_num) (by omega) (fun r k => ?_) hv3
    · exact (rows_at 0 (by omega) _ _ r k).trans ((congrArg (fun x => g.s (ix2 x k)) (Fin.ext (Nat.zero_add _))).trans (hs.1 r k))
    · exact (rows_at 0 (by omega) _ _ r k).trans ((congrArg (fun x => k0_pay12 (F := Ideal) _ _ (ix2 x k)) (Fin.ext (Nat.zero_add _))).trans (hn.1 r k))
  · unfold trip
    dsimp only
    rw [max29, acc28, max20, acc19]
    refine (hg.2.step (by norm_num) rfl (fun r k => ?_) hv2).step (by norm_num) (by omega) (fun r k => ?_) hv3
    · exact (rows_at 256 (by omega) _ _ r k).trans (hs.2 r k)
    · exact (rows_at 256 (by omega) _ _ r k).trans (hn.2 r k)

/-- Before trip `n`. -/
theorem regs_both (H : Holds q K V Q κ w) (i : grid0.Coords) (hc : k0_cond2 i = 1#1) (g : Regs Ideal)
    (hs : ScoresAt Q κ 0 g.s) (hg : Both Q κ w 0 g.m1 g.a1 g.m2 g.a2) (n : ℕ) (hn : n ≤ k0_t1_loop.trips) :
    ScoresAt Q κ (6656 * n) (regsAt i (k0_pay37 (F := Ideal) q) hc K V g n).s
      ∧ Both Q κ w (6656 * n) (regsAt i (k0_pay37 (F := Ideal) q) hc K V g n).m1 (regsAt i (k0_pay37 (F := Ideal) q) hc K V g n).a1
          (regsAt i (k0_pay37 (F := Ideal) q) hc K V g n).m2 (regsAt i (k0_pay37 (F := Ideal) q) hc K V g n).a2 := by
  induction n with
  | zero => exact ⟨hs, hg⟩
  | succ n ih =>
    have := ih (Nat.le_of_succ_le hn)
    rw [regsAt_succ i (k0_pay37 (F := Ideal) q) hc K V g ⟨n, hn⟩]
    exact trip_both H i hc ⟨n, hn⟩ _ this.1 this.2

/-- The latent branch: all 16640 keys. -/
theorem lat_both (H : Holds q K V Q κ w) (i : grid0.Coords) (hc : k0_cond2 i = 1#1) (p : Streams Ideal)
    (hp : Both Q κ w 0 p.m1 p.a1 p.m2 p.a2) :
    Both Q κ w 16640 (latStep i hc (k0_pay37 (F := Ideal) q) K V p).m1 (latStep i hc (k0_pay37 (F := Ideal) q) K V p).a1
      (latStep i hc (k0_pay37 (F := Ideal) q) K V p).m2 (latStep i hc (k0_pay37 (F := Ideal) q) K V p).a2 := by
  have hs := scores_at H (n := 0) (by omega) ![0, 0, 0, 0] rfl inb_S1x1x16640x128_S1x1x3328x128_0_0_0_0
  have h := regs_both H i hc ⟨_, p.m1, p.a1, p.m2, p.a2⟩ hs hp k0_t1_loop.trips le_rfl
  have hv := fun (k : Fin 3328) (c : Fin 256) => (values_at (L := 3328) (n := 13312) ![0, 0, 13312, 0] rfl (by omega) inb_S1x1x16640x256_S1x1x3328x256_0_0_13312_0 V k c).trans (H.v_eq _ c)
  have e : 6656 * k0_t1_loop.trips = 13312 := by rw [trips_eq]
  rw [e] at h
  refine ⟨?_, ?_⟩
  · unfold latStep
    dsimp only
    rw [max44, acc32]
    refine h.2.1.step (by norm_num) rfl (fun r k => ?_) hv
    exact (rows_at 0 (by omega) _ _ r k).trans ((congrArg (fun x => (regsAt i (k0_pay37 (F := Ideal) q) hc K V _ k0_t1_loop.trips).s (ix2 x k)) (Fin.ext (Nat.zero_add _))).trans (h.1.1 r k))
  · unfold latStep
    dsimp only
    rw [max47, acc46]
    refine h.2.2.step (by norm_num) rfl (fun r k => ?_) hv
    exact (rows_at 256 (by omega) _ _ r k).trans (h.1.2 r k)

end Cert.Proof.Diff

end

end
-- ==== Proof.Merge.lean ====
/-
  The merge of the two attention streams, over extended reals: the mixing weight, and a head's row normalised by its root
  mean square, multiplied by the gain and by the layer's constant. Both programs apply these to the same numbers.
-/
module

public import proofs.«01_k».proof.Proof.Softmax

@[expose] public section

noncomputable section

namespace Cert.Attn

open Idealize.ShloMosaic
open Finset

/-- The mixing weight of four vectors of 64. -/
def mixing (v : Fin 4 → Fin 64 → EReal) : EReal :=
  Ideal.exp (∑ d, v 0 d * v 1 d) - Ideal.exp (∑ d, v 2 d * v 3 d) + Ideal.ofBits .f32 0x3F0E59D5#32

/-- A row `o` of a head after the norm, at lane `c` with gain `g`. -/
def finish (o : Fin 128 → EReal) (g : EReal) (c : Fin 128) : EReal :=
  o c * Ideal.rsqrt (Ideal.div (∑ k, o k * o k) (Ideal.ofBits .f32 0x43000000#32) + Ideal.ofBits .f32 0x358637BD#32) * g * Ideal.ofBits .f32 0x3EE34C57#32

/-- The mixing weight of finite vectors is finite. -/
theorem mixing_real (v : Fin 4 → Fin 64 → EReal) (h : ∀ a d, ∃ x : ℝ, v a d = (x : EReal)) : ∃ x : ℝ, mixing v = (x : EReal) := by
  choose f hf using h
  have e : ∀ a b, ∑ d, v a d * v b d = ((∑ d, f a d * f b d : ℝ) : EReal) := by
    intro a b
    rw [real_sum]
    exact Finset.sum_congr rfl fun d _ => by rw [hf, hf, EReal.coe_mul]
  obtain ⟨y, hy⟩ : ∃ y : ℝ, Ideal.ofBits .f32 0x3F0E59D5#32 = (y : EReal) := ⟨_, by simp [Ideal.ofBits, Ideal.ieee]; rfl⟩
  refine ⟨Real.exp (∑ d, f 0 d * f 1 d) - Real.exp (∑ d, f 2 d * f 3 d) + y, ?_⟩
  unfold mixing
  rw [e, e, hy, Ideal.exp_coe, Ideal.exp_coe, EReal.coe_add, EReal.coe_sub]

/-- The difference of two averages is the average under the difference of the weights. -/
theorem mean_diff (s t : ℕ → ℝ) (w : ℕ → ℕ → ℝ) (n c : ℕ) (l : ℝ) :
    ∑ j ∈ range n, (Real.exp (s j) / (∑ i ∈ range n, Real.exp (s i)) - l * (Real.exp (t j) / ∑ i ∈ range n, Real.exp (t i))) * w j c
      = mean s w n c - l * mean t w n c := by
  unfold mean
  rw [Finset.sum_div, Finset.sum_div, Finset.mul_sum, ← Finset.sum_sub_distrib]
  exact Finset.sum_congr rfl fun j _ => by ring

end Cert.Attn

end

end
-- ==== Proof.DiffOut.lean ====
/-
  The block a grid point of the differential-attention kernel stores, read at a query and a lane.
-/
module

public import proofs.«01_k».proof.Proof.DiffTile
public import proofs.«01_k».proof.Proof.Merge

@[expose] public section

set_option maxRecDepth 16384

noncomputable section

namespace Cert.Proof.Diff

open Cert.KernelIdeal Cert.KernelIdeal.Gen Cert.Attn
open Idealize.ShloMosaic Idealize.ShloMosaic.ValueIdx
open Finset

/-- The single entry of a one-by-one array, spread. -/
theorem spread_one {α : Type} {R L : ℕ} (x : (⟨2, ![1, 1]⟩ : Shape).Idx → α) (h : (⟨2, ![1, 1]⟩ : Shape).Broadcasts ⟨2, ![R, L]⟩)
    (r : Fin R) (c : Fin L) : broadcastTo ⟨2, ![R, L]⟩ x h (ix2 r c) = x (ix2 0 0) := by
  refine broadcastTo_apply x h _ _ fun a => ?_
  match a with
  | ⟨0, _⟩ => rfl
  | ⟨1, _⟩ => rfl

/-- The product of two rows of the mixing vectors, summed. -/
theorem rows_sum (lam : FVec Ideal S4x64 .f32) (a b : Fin 4) (ha : S4x64.Slices ![a.val, 0] S1x64) (hb : S4x64.Slices ![b.val, 0] S1x64)
    (h : S1x64.Reduces [1] S1) (hφ : FKind.Formats .f32) (hn : (0x00000000#32 : BitVec 32) = FKind.add.neutral .f32 hφ) (hc : S1.ShapeCasts S1x1) :
    shapeCast S1x1 (multiReduction .add [1] S1 (mulf (extractStridedSlice S1x64 ![a.val, 0] lam ha) (extractStridedSlice S1x64 ![b.val, 0] lam hb)) 0x00000000#32 h hφ hn) hc (ix2 0 0)
      = ∑ d : Fin 64, lam (ix2 a d) * lam (ix2 b d) := by
  refine (sumCol_apply (R := 1) (L := 64) _ h hφ hn hc 0 0).trans (Finset.sum_congr rfl fun d _ => ?_)
  exact congrArg₂ (· * ·) (slice2_axis0_apply a.val lam ha (0 : Fin 1) d a rfl) (slice2_axis0_apply b.val lam hb (0 : Fin 1) d b rfl)

/-- A row of the norm and the gain, as the kernel computes them. -/
theorem finish_apply (o : FVec Ideal S256x128 .f32) (gain : FVec Ideal S1x128 .f32) (h : S256x128.Reduces [1] S256) (hφ : FKind.Formats .f32)
    (hn : (0x00000000#32 : BitVec 32) = FKind.add.neutral .f32 hφ) (hc : S256.ShapeCasts S256x1) (h₁ : S256x1.Broadcasts S256x128)
    (h₂ : S1x128.Broadcasts S256x128) (r : Fin 256) (c : Fin 128) :
    mulf (mulf (mulf o (broadcastTo S256x128 (rsqrt (addf (divf (shapeCast S256x1 (multiReduction .add [1] S256 (mulf o o) 0x00000000#32 h hφ hn) hc)
        (broadcast S256x1 (Scalar.ofBits .f32 0x43000000#32 : Ideal .f32))) (broadcast S256x1 (Scalar.ofBits .f32 0x358637BD#32 : Ideal .f32)))) h₁))
        (broadcastTo S256x128 gain h₂)) (broadcast S256x128 (Scalar.ofBits .f32 0x3EE34C57#32 : Ideal .f32)) (ix2 r c)
      = finish (fun k => o (ix2 r k)) (gain (ix2 0 c)) c := by
  refine congrArg (· * _) (congrArg₂ (· * ·) (congrArg (o (ix2 r c) * ·) ((spread_apply _ h₁ r c).trans ?_)) (broadcastTo_1b_ab_apply gain h₂ r c))
  exact congrArg Ideal.rsqrt (congrArg (· + _) (congrArg (Ideal.div · _) (sumCol_apply (R := 256) (L := 128) (mulf o o) h hφ hn hc r 0)))

/-- The stored block from the two streams' sums and weights. -/
theorem stored_apply (n1 : FVec Ideal S256x128 .f32) (d1 : FVec Ideal S256x1 .f32) (n2 : FVec Ideal S256x128 .f32) (d2 : FVec Ideal S256x1 .f32)
    (lam : FVec Ideal S4x64 .f32) (gain : FVec Ideal S1x128 .f32) (r : Fin 256) (c : Fin 128) :
    k0_pay1 (F := Ideal) (k0_pay48 (F := Ideal) n1 d1 n2 d2 lam) gain (ix3 0 r c)
      = finish (fun k => Ideal.div (n1 (ix2 r k)) (d1 (ix2 r 0)) - mixing (fun a d => lam (ix2 a d)) * Ideal.div (n2 (ix2 r k)) (d2 (ix2 r 0)))
          (gain (ix2 0 c)) c := by
  have hl : addf (subf
        (exp (shapeCast S1x1 (multiReduction .add [1] S1 (mulf (extractStridedSlice S1x64 ![0, 0] lam slices_S4x64_o0_0_S1x64) (extractStridedSlice S1x64 ![1, 0] lam slices_S4x64_o1_0_S1x64)) 0x00000000#32 reduces_S1x64_S1 (.inl rfl) rfl) shapeCasts_S1_S1x1))
        (exp (shapeCast S1x1 (multiReduction .add [1] S1 (mulf (extractStridedSlice S1x64 ![2, 0] lam slices_S4x64_o2_0_S1x64) (extractStridedSlice S1x64 ![3, 0] lam slices_S4x64_o3_0_S1x64)) 0x00000000#32 reduces_S1x64_S1 (.inl rfl) rfl) shapeCasts_S1_S1x1)))
        (broadcast S1x1 (Scalar.ofBits .f32 0x3F0E59D5#32 : Ideal .f32)) (ix2 0 0) = mixing (fun a d => lam (ix2 a d)) := by
    refine congrArg (· + _) (congrArg₂ (· - ·) (congrArg Ideal.exp ?_) (congrArg Ideal.exp ?_))
    · exact rows_sum lam 0 1 _ _ _ _ _ _
    · exact rows_sum lam 2 3 _ _ _ _ _ _
  unfold k0_pay1 k0_pay48
  dsimp only
  rw [cast_same, cast_same, shapeCast_ab_1ab_apply]
  refine (finish_apply _ gain _ _ _ _ _ _ r c).trans (congrArg (finish · (gain (ix2 0 c)) c) (funext fun k => ?_))
  refine congrArg₂ (· - ·) (congrArg (Ideal.div (n1 (ix2 r k)) ·) (spread_apply d1 _ r k)) (congrArg₂ (· * ·) ?_ (congrArg (Ideal.div (n2 (ix2 r k)) ·) (spread_apply d2 _ r k)))
  exact (spread_one _ _ r k).trans hl

/-- Lanes of an accumulator. -/
theorem lanes_at (a : S256x256.Idx → EReal) (r : Fin 256) (c : Fin 128) :
    pick (Rect.unit (s := S256x256) ![0, 0] S256x128.size inb_S256x256_S256x128_0_0).toLoadRect a (ix2 r c) = a (ix2 r ⟨c.val, by omega⟩) := by
  refine pick_apply (s := S256x256) _ _ _ a (ix2 r c) (ix2 r ⟨c.val, by omega⟩) fun x => ?_
  match x with
  | ⟨0, _⟩ => exact (Nat.zero_add _).symm
  | ⟨1, _⟩ => exact (Nat.zero_add _).symm

/-- The lane of weights. -/
theorem weights_at (a : S256x256.Idx → EReal) (r : Fin 256) :
    pick (Rect.unit (s := S256x256) ![0, 128] S256x1.size inb_S256x256_S256x1_0_128).toLoadRect a (ix2 r (0 : Fin 1)) = a (ix2 r ⟨128, by omega⟩) := by
  refine pick_apply (s := S256x256) _ _ _ a (ix2 r (0 : Fin 1)) (ix2 r ⟨128, by omega⟩) fun x => ?_
  match x with
  | ⟨0, _⟩ => exact (Nat.zero_add _).symm
  | ⟨1, _⟩ => rfl

variable {q : S1x1x256x128.Idx → EReal} {K : S1x1x16640x128.Idx → EReal} {V : S1x1x16640x256.Idx → EReal} {Q κ w : ℕ → ℕ → ℝ}

theorem isCtx_iff (i : grid0.Coords) : isCtx i ↔ (i 2).val = 0 :=
  (by decide +kernel : ∀ n : Fin 65, (Scalar.cmpi .ne (Scalar.extui (Scalar.cmpi .slt (BitVec.ofNat 32 n.val) 1#32) : BitVec 32) 0#32) = 1#1 ↔ n.val = 0) (i 2)

theorem cond2_iff (i : grid0.Coords) : k0_cond2 i = 1#1 ↔ (i 2).val ≠ 0 :=
  (by decide +kernel : ∀ n : Fin 65, (Scalar.cmpi .ne (Scalar.extui (Scalar.xori (Scalar.cmpi .slt (BitVec.ofNat 32 n.val) 1#32) 1#1) : BitVec 32) 0#32) = 1#1 ↔ n.val ≠ 0) (i 2)

/-- The number of keys a tile's queries attend to. -/
def reach (i : grid0.Coords) : ℕ := if (i 2).val = 0 then 256 else 16640

/-- The block stored at a grid point: the difference of the two averages, finished. The streams' scores are in base two: `s`
    and `t` are the scores in base e. -/
theorem outBlock_apply (H : Holds q K V Q κ w) (hw : ∀ j, j < 16640 → w j 128 = 1) (i : grid0.Coords)
    (lam : S4x64.Idx → EReal) (gain : S1x128.Idx → EReal) (s t : ℕ → ℕ → ℝ)
    (hs : ∀ r j, low Q κ r j * Real.log 2 = s r j) (ht : ∀ r j, high Q κ r j * Real.log 2 = t r j) (r : Fin 256) (c : Fin 128) :
    outBlock (F := Ideal) i q K V lam gain (ix3 0 r c)
      = finish (fun k => (mean (s r.val) w (reach i) k.val : EReal) - mixing (fun a d => lam (ix2 a d)) * (mean (t r.val) w (reach i) k.val : EReal))
          (gain (ix2 0 c)) c := by
  have hB : Both Q κ w (reach i) (second i (k0_pay37 (F := Ideal) q) K V (first (F := Ideal) i q K V)).m1 (second i (k0_pay37 (F := Ideal) q) K V (first (F := Ideal) i q K V)).a1
      (second i (k0_pay37 (F := Ideal) q) K V (first (F := Ideal) i q K V)).m2 (second i (k0_pay37 (F := Ideal) q) K V (first (F := Ideal) i q K V)).a2 := by
    unfold first second reach
    by_cases h : (i 2).val = 0
    · rw [dif_neg (fun e => (cond2_iff i).mp e h), if_pos ((isCtx_iff i).mpr h), if_pos h]
      exact ctx_both H
    · rw [dif_pos ((cond2_iff i).mpr h), if_neg (fun e => h ((isCtx_iff i).mp e)), if_neg h]
      exact lat_both H i ((cond2_iff i).mpr h) start (start_both Q κ w)
  have hp : 0 < reach i := by unfold reach; split <;> omega
  have hle : reach i ≤ 16640 := by unfold reach; split <;> omega
  unfold outBlock blend
  refine (stored_apply _ _ _ _ lam gain r c).trans (congrArg (finish · (gain (ix2 0 c)) c) (funext fun k => ?_))
  rw [lanes_at, lanes_at, weights_at, weights_at]
  rw [(hB.1 r).div hp (hs r.val) ⟨k.val, by omega⟩ ⟨128, by omega⟩ (fun j hj => hw j (by omega)),
    (hB.2 r).div hp (ht r.val) ⟨k.val, by omega⟩ ⟨128, by omega⟩ (fun j hj => hw j (by omega))]

end Cert.Proof.Diff

end

end
-- ==== Proof.Spec.lean ====
/-
  The differential attention as one formula over the arguments' entries, which both programs are shown to compute.
-/
module

public import proofs.«01_k».proof.Proof.Merge
public import proofs.«01_k».proof.Proof.Tile

@[expose] public section

noncomputable section

namespace Cert.Attn

open Idealize.ShloMosaic Idealize.ShloMosaic.ValueIdx
open Finset

/-- The entries of a rank-four array as real numbers, by number. -/
def entry {n0 n1 n2 n3 : ℕ} (x : (⟨4, ![n0, n1, n2, n3]⟩ : Shape).Idx → EReal) (b h l d : ℕ) : ℝ :=
  if H : b < n0 ∧ h < n1 ∧ l < n2 ∧ d < n3 then (x (ix4 ⟨b, H.1⟩ ⟨h, H.2.1⟩ ⟨l, H.2.2.1⟩ ⟨d, H.2.2.2⟩)).toReal else 0

/-- Every entry is a real number. -/
def Finite4 {n0 n1 n2 n3 : ℕ} (x : (⟨4, ![n0, n1, n2, n3]⟩ : Shape).Idx → EReal) : Prop := ∀ i, ∃ y : ℝ, x i = (y : EReal)

theorem entry_eq {n0 n1 n2 n3 : ℕ} {x : (⟨4, ![n0, n1, n2, n3]⟩ : Shape).Idx → EReal} (hx : Finite4 x) (b : Fin n0) (h : Fin n1) (l : Fin n2) (d : Fin n3) :
    x (ix4 b h l d) = (entry x b.val h.val l.val d.val : EReal) := by
  unfold entry
  rw [dif_pos ⟨b.isLt, h.isLt, l.isLt, d.isLt⟩]
  obtain ⟨y, hy⟩ := hx (ix4 b h l d)
  show x (ix4 b h l d) = ((x (ix4 b h l d)).toReal : EReal)
  rw [hy, EReal.toReal_coe]

/-- The score of query `l` against key `j` over the low 64 lanes. -/
def scoreLow (q k : ℕ → ℕ → ℕ → ℕ → ℝ) (b h l j : ℕ) : ℝ := (∑ d ∈ range 64, q b h l d * k b h j d) * (1 / 8)
/-- The score of query `l` against key `j` over the high 64 lanes. -/
def scoreHigh (q k : ℕ → ℕ → ℕ → ℕ → ℝ) (b h l j : ℕ) : ℝ := (∑ d ∈ range 64, q b h l (64 + d) * k b h j (64 + d)) * (1 / 8)

/-- The number of keys query `l` attends to: a context query the context, a latent query all. -/
def reachOf (l : ℕ) : ℕ := if l < 256 then 256 else 16640

/-- The layer's result for batch `b`, head `h`, query `l`, at lane `c`. -/
def diffOut (q k v : ℕ → ℕ → ℕ → ℕ → ℝ) (lam : Fin 4 → Fin 64 → EReal) (gain : Fin 128 → EReal) (b h l : ℕ) (c : Fin 128) : EReal :=
  finish (fun e => (mean (scoreLow q k b h l) (v b h) (reachOf l) e.val : EReal)
    - mixing lam * (mean (scoreHigh q k b h l) (v b h) (reachOf l) e.val : EReal)) (gain c) c

/-- An average reads the values at its own lane only. -/
theorem mean_congr (s : ℕ → ℝ) {w v : ℕ → ℕ → ℝ} {n c : ℕ} (h : ∀ j, j < n → w j c = v j c) : mean s w n c = mean s v n c := by
  unfold mean
  rw [Finset.sum_congr rfl fun j hj => by rw [h j (Finset.mem_range.mp hj)]]

end Cert.Attn

end

end
-- ==== Proof.DiffHost.lean ====
/-
  The arrays the differential-attention kernel is launched on: the host's scaling, casts and column of ones.
-/
module

public import proofs.«01_k».proof.Proof.DiffOut
public import proofs.«01_k».proof.Proof.Spec
public import Idealize.ShloMosaic.Lib.Pipeline.ValueKit
public import Idealize.ShloMosaic.Lib.Pipeline.Covers

@[expose] public section

set_option maxRecDepth 16384

noncomputable section

namespace Cert.Proof.Diff

open Cert.KernelIdeal Cert.KernelIdeal.Gen Cert.Attn
open Idealize.ShloMosaic hiding ix0 ix1 ix2 ix3 ix4 ix5
open Idealize.ShloMosaic.TcCoe Idealize.ShloMosaic.ValueIdx Idealize.SL.Sem
open Finset

variable (m : (ℓ : Loc nD τ sig) → Buf (Elt Ideal) ℓ) (c : Dev nD)

theorem V_q : V m c main_v4 = truncf (F := Ideal) (s := S2x8x16640x128) (φ := .f32) .bf16 (mulf (m ((c : Thread nD τ).loc main_arg0)) (broadcastInDim S2x8x16640x128 ![] bcast_S_S2x8x16640x128 (Host.divf (constant S_ .f32 0x3E000000#32) (Host.log (constant S_ .f32 0x40000000#32))))) bitsLt_bf16_f32 := by
  entry_read
  rfl

theorem V_k : V m c main_v5 = truncf (F := Ideal) (s := S2x8x16640x128) (φ := .f32) .bf16 (m ((c : Thread nD τ).loc main_arg1)) bitsLt_bf16_f32 := by
  entry_read
  rfl

theorem V_lam : V m c main_v13 = shapeCast S4x64 (m ((c : Thread nD τ).loc main_arg3)) shapeCasts_S1x4x64_S4x64 := by
  entry_read
  rfl

theorem V_gain : V m c main_v15 = shapeCast S1x128 (shapeCast S128 (m ((c : Thread nD τ).loc main_arg4)) shapeCasts_S1x128_S128) shapeCasts_S128_S1x128 := by
  entry_read
  rfl

theorem V_v : V m c main_v12 = concatenate S2x8x16640x256 3 [⟨S2x8x16640x128, truncf .bf16 (m ((c : Thread nD τ).loc main_arg2)) bitsLt_bf16_f32⟩,
      ⟨S2x8x16640x128, truncf .bf16 (select (cmpi .eq (iotaInDim S2x8x16640x128 32 3) (broadcastInDim S2x8x16640x128 ![] bcast_S_S2x8x16640x128 (constantI S_ 32 0#32)))
        (broadcastInDim S2x8x16640x128 ![] bcast_S_S2x8x16640x128 (constant (F := Ideal) S_ .f32 0x3F800000#32)) (broadcastInDim S2x8x16640x128 ![] bcast_S_S2x8x16640x128 (constant (F := Ideal) S_ .f32 0x00000000#32))) bitsLt_bf16_f32⟩]
      concatenates_S2x8x16640x128_S2x8x16640x128_S2x8x16640x256_d3 := by
  entry_read
  rfl

/-! ## The entries, when the arguments are finite -/

theorem eighth : Ideal.ofBits .f32 0x3E000000#32 = ((1 / 8 : ℝ) : EReal) := by simp [Ideal.ofBits, Ideal.ieee]; rw [← EReal.coe_mul]; norm_num
theorem two : Ideal.ofBits .f32 0x40000000#32 = ((2 : ℝ) : EReal) := by simp [Ideal.ofBits, Ideal.ieee]; rw [← EReal.coe_mul]; norm_num
theorem one : Ideal.ofBits .f32 0x3F800000#32 = ((1 : ℝ) : EReal) := by simp [Ideal.ofBits, Ideal.ieee]; rw [← EReal.coe_mul]; norm_num

theorem log_two_ne : Real.log 2 ≠ 0 := (Real.log_pos (by norm_num)).ne'

/-- The scale: an eighth over the logarithm of two. -/
theorem scale_eq : Ideal.div (Ideal.ofBits .f32 0x3E000000#32) (Ideal.log (Ideal.ofBits .f32 0x40000000#32)) = ((1 / 8 / Real.log 2 : ℝ) : EReal) := by
  rw [eighth, two, Ideal.log_coe, if_neg (by norm_num), real_div _ _ log_two_ne]

theorem q_entry (hq : Finite4 (n0 := 2) (n1 := 8) (n2 := 16640) (n3 := 128) (m ((c : Thread nD τ).loc main_arg0))) (b : Fin 2) (h : Fin 8) (l : Fin 16640) (d : Fin 128) :
    V m c main_v4 (ix4 b h l d) = ((entry (n0 := 2) (n1 := 8) (n2 := 16640) (n3 := 128) (m ((c : Thread nD τ).loc main_arg0)) b.val h.val l.val d.val * (1 / 8 / Real.log 2) : ℝ) : EReal) := by
  rw [V_q, EReal.coe_mul, ← entry_eq hq, ← scale_eq]
  exact congrArg (fun y : EReal => (show EReal from m ((c : Thread nD τ).loc main_arg0) (ix4 b h l d)) * y) (broadcastInDim_scalar_apply _ _ _)

theorem k_entry (hk : Finite4 (n0 := 2) (n1 := 8) (n2 := 16640) (n3 := 128) (m ((c : Thread nD τ).loc main_arg1))) (b : Fin 2) (h : Fin 8) (l : Fin 16640) (d : Fin 128) :
    V m c main_v5 (ix4 b h l d) = (entry (n0 := 2) (n1 := 8) (n2 := 16640) (n3 := 128) (m ((c : Thread nD τ).loc main_arg1)) b.val h.val l.val d.val : EReal) := by
  rw [V_k, ← entry_eq hk]
  rfl

/-- The values with the column of ones at lane 128 and zeros after it. -/
def withOnes (v : ℕ → ℕ → ℝ) (j d : ℕ) : ℝ := if d < 128 then v j d else if d = 128 then 1 else 0

theorem v_entry (hv : Finite4 (n0 := 2) (n1 := 8) (n2 := 16640) (n3 := 128) (m ((c : Thread nD τ).loc main_arg2))) (b : Fin 2) (h : Fin 8) (l : Fin 16640) (d : Fin 256) :
    V m c main_v12 (ix4 b h l d) = (withOnes (entry (n0 := 2) (n1 := 8) (n2 := 16640) (n3 := 128) (m ((c : Thread nD τ).loc main_arg2)) b.val h.val) l.val d.val : EReal) := by
  rw [V_v]
  unfold withOnes
  by_cases hd : d.val < 128
  · rw [if_pos hd]
    refine (concatenate_pair_apply_left (t := S2x8x16640x256) (s₁ := S2x8x16640x128) (s₂ := S2x8x16640x128) _ _ _ _ (ix4 b h l d) rfl (ix4 b h l ⟨d.val, hd⟩) fun a => ?_).trans (entry_eq hv b h l ⟨d.val, hd⟩)
    match a with
    | ⟨0, _⟩ => rfl
    | ⟨1, _⟩ => rfl
    | ⟨2, _⟩ => rfl
    | ⟨3, _⟩ => rfl
  · rw [if_neg hd]
    have hd' : d.val - 128 < 128 := by omega
    refine (concatenate_pair_apply_right (t := S2x8x16640x256) (s₁ := S2x8x16640x128) (s₂ := S2x8x16640x128) _ _ _ _ (ix4 b h l d) rfl rfl (ix4 b h l ⟨d.val - 128, hd'⟩) (fun a ha => ?_) ?_).trans ?_
    · match a with
      | ⟨0, _⟩ => rfl
      | ⟨1, _⟩ => rfl
      | ⟨2, _⟩ => rfl
      | ⟨3, _⟩ => exact absurd rfl ha
    · show d.val - 128 + 128 = d.val
      omega
    · show (if IntOp.cmpi .eq (BitVec.ofNat 32 (d.val - 128)) (broadcastInDim S2x8x16640x128 ![] bcast_S_S2x8x16640x128 (constantI S_ 32 0#32) _) = 1#1 then broadcastInDim S2x8x16640x128 ![] bcast_S_S2x8x16640x128 (constant (F := Ideal) S_ .f32 0x3F800000#32) _
        else broadcastInDim S2x8x16640x128 ![] bcast_S_S2x8x16640x128 (constant (F := Ideal) S_ .f32 0x00000000#32) _) = _
      rw [broadcastInDim_scalar_apply, broadcastInDim_scalar_apply, broadcastInDim_scalar_apply]
      show (if IntOp.cmpi .eq (BitVec.ofNat 32 (d.val - 128)) 0#32 = 1#1 then Ideal.ofBits .f32 0x3F800000#32 else Ideal.ofBits .f32 0x00000000#32) = _
      have key : ∀ x : Fin 128, IntOp.cmpi .eq (BitVec.ofNat 32 x.val) 0#32 = 1#1 ↔ x.val = 0 := by decide +kernel
      by_cases h0 : d.val = 128
      · rw [if_pos ((key ⟨d.val - 128, hd'⟩).mpr (by show d.val - 128 = 0; omega)), if_pos h0, one]
      · rw [if_neg (fun e => h0 (by have := (key ⟨d.val - 128, hd'⟩).mp e; simp at this; omega)), if_neg h0, Ideal.ofBits_zero_f32, EReal.coe_zero]

theorem lam_entry (a : Fin 4) (d : Fin 64) : V m c main_v13 (ix2 a d) = m ((c : Thread nD τ).loc main_arg3) (ix3 0 a d) := by
  rw [V_lam]
  exact shapeCast_apply (s := S1x4x64) (t := S4x64) _ _ _ (ix3 0 a d) (by
    rw [Shape.rowMajor_val_three, Shape.rowMajor_val_two]
    show (0 * 4 + a.val) * 64 + d.val = a.val * 64 + d.val
    rw [Nat.zero_mul, Nat.zero_add])

theorem gain_entry (d : Fin 128) : V m c main_v15 (ix2 0 d) = m ((c : Thread nD τ).loc main_arg4) (ix2 0 d) := by
  rw [V_gain]
  refine (shapeCast_a_1a_apply _ _ _ _).trans (shapeCast_1a_a_apply _ _ _)

/-! ## The blocks -/

theorem word_val {n k : ℕ} (h : n < k) (hk : k ≤ 16640) : (BitVec.ofNat 32 n).toNat = n := by
  rw [BitVec.toNat_ofNat, Nat.mod_eq_of_lt (by omega)]

theorem map0 (i : grid0.Coords) : cc0_transform_0 i = ![(i 0).val, (i 1).val, (i 2).val, 0] := by
  show ![(BitVec.ofNat 32 (i 0).val).toNat, (BitVec.ofNat 32 (i 1).val).toNat, (BitVec.ofNat 32 (i 2).val).toNat, 0] = _
  rw [word_val (i 0).isLt (by decide), word_val (i 1).isLt (by decide), word_val (i 2).isLt (by decide)]
theorem map1 (i : grid0.Coords) : cc0_transform_1 i = ![(i 0).val, (i 1).val, 0, 0] := by
  show ![(BitVec.ofNat 32 (i 0).val).toNat, (BitVec.ofNat 32 (i 1).val).toNat, 0, 0] = _
  rw [word_val (i 0).isLt (by decide), word_val (i 1).isLt (by decide)]
theorem map2 (i : grid0.Coords) : cc0_transform_2 i = ![(i 0).val, (i 1).val, 0, 0] := map1 i
theorem map5 (i : grid0.Coords) : cc0_transform_5 i = ![(i 0).val, (i 2).val, (i 1).val] := by
  show ![(BitVec.ofNat 32 (i 0).val).toNat, (BitVec.ofNat 32 (i 2).val).toNat, (BitVec.ofNat 32 (i 1).val).toNat] = _
  rw [word_val (i 0).isLt (by decide), word_val (i 1).isLt (by decide), word_val (i 2).isLt (by decide)]

/-- The batch, the head and the tile of a grid point. -/
def batchOf (i : grid0.Coords) : Fin 2 := i 0
def headOf (i : grid0.Coords) : Fin 8 := i 1
def tileOf (i : grid0.Coords) : Fin 65 := i 2

theorem blk0 (t : Fin cfg0.N) (r : Fin 256) (d : Fin 128) : iblk m c 0 t (ix4 0 0 r d)
    = V m c main_v4 (ix4 (batchOf (grid0.coords t)) (headOf (grid0.coords t)) ⟨256 * (tileOf (grid0.coords t)).val + r.val, by omega⟩ d) := by
  refine congrArg (V m c main_v4) (funext fun a => Fin.ext ?_)
  refine (Pipeline.Window.rect_emb_val win0_0 t (ix4 0 0 r d) a).trans ?_
  show cc0_transform_0 (grid0.coords t) a * win0_0.size a + _ = _
  rw [map0]
  match a with
  | ⟨0, _⟩ => exact (Nat.add_zero _).trans (Nat.mul_one _)
  | ⟨1, _⟩ => exact (Nat.add_zero _).trans (Nat.mul_one _)
  | ⟨2, _⟩ => exact congrArg (· + r.val) (Nat.mul_comm _ 256)
  | ⟨3, _⟩ => exact (congrArg (· + d.val) (Nat.zero_mul _)).trans (Nat.zero_add _)

theorem blk1 (t : Fin cfg0.N) (j : Fin 16640) (d : Fin 128) : iblk m c 1 t (ix4 0 0 j d)
    = V m c main_v5 (ix4 (batchOf (grid0.coords t)) (headOf (grid0.coords t)) j d) := by
  refine congrArg (V m c main_v5) (funext fun a => Fin.ext ?_)
  refine (Pipeline.Window.rect_emb_val win0_1 t (ix4 0 0 j d) a).trans ?_
  show cc0_transform_1 (grid0.coords t) a * win0_1.size a + _ = _
  rw [map1]
  match a with
  | ⟨0, _⟩ => exact (Nat.add_zero _).trans (Nat.mul_one _)
  | ⟨1, _⟩ => exact (Nat.add_zero _).trans (Nat.mul_one _)
  | ⟨2, _⟩ => exact (congrArg (· + j.val) (Nat.zero_mul _)).trans (Nat.zero_add _)
  | ⟨3, _⟩ => exact (congrArg (· + d.val) (Nat.zero_mul _)).trans (Nat.zero_add _)

theorem blk2 (t : Fin cfg0.N) (j : Fin 16640) (d : Fin 256) : iblk m c 2 t (ix4 0 0 j d)
    = V m c main_v12 (ix4 (batchOf (grid0.coords t)) (headOf (grid0.coords t)) j d) := by
  refine congrArg (V m c main_v12) (funext fun a => Fin.ext ?_)
  refine (Pipeline.Window.rect_emb_val win0_2 t (ix4 0 0 j d) a).trans ?_
  show cc0_transform_2 (grid0.coords t) a * win0_2.size a + _ = _
  rw [map2]
  match a with
  | ⟨0, _⟩ => exact (Nat.add_zero _).trans (Nat.mul_one _)
  | ⟨1, _⟩ => exact (Nat.add_zero _).trans (Nat.mul_one _)
  | ⟨2, _⟩ => exact (congrArg (· + j.val) (Nat.zero_mul _)).trans (Nat.zero_add _)
  | ⟨3, _⟩ => exact (congrArg (· + d.val) (Nat.zero_mul _)).trans (Nat.zero_add _)

theorem blk3 (t : Fin cfg0.N) (a : Fin 4) (d : Fin 64) : iblk m c 3 t (ix2 a d) = V m c main_v13 (ix2 a d) := by
  refine congrArg (V m c main_v13) (funext fun x => Fin.ext ?_)
  refine (Pipeline.Window.rect_emb_val win0_3 t (ix2 a d) x).trans ?_
  match x with
  | ⟨0, _⟩ => exact (congrArg (· + a.val) (Nat.zero_mul _)).trans (Nat.zero_add _)
  | ⟨1, _⟩ => exact (congrArg (· + d.val) (Nat.zero_mul _)).trans (Nat.zero_add _)

theorem blk4 (t : Fin cfg0.N) (d : Fin 128) : iblk m c 4 t (ix2 0 d) = V m c main_v15 (ix2 0 d) := by
  refine congrArg (V m c main_v15) (funext fun x => Fin.ext ?_)
  refine (Pipeline.Window.rect_emb_val win0_4 t (ix2 0 d) x).trans ?_
  match x with
  | ⟨0, _⟩ => exact (congrArg (· + 0) (Nat.zero_mul _)).trans (Nat.zero_add _)
  | ⟨1, _⟩ => exact (congrArg (· + d.val) (Nat.zero_mul _)).trans (Nat.zero_add _)

theorem emb5 (t : Fin cfg0.N) (r : Fin 256) (d : Fin 128) : ((cfg0.win 5).blk t).view.emb (ix3 0 r d)
    = ix3 (batchOf (grid0.coords t)) (⟨256 * (tileOf (grid0.coords t)).val + r.val, by omega⟩ : Fin 16640) (⟨128 * (headOf (grid0.coords t)).val + d.val, by omega⟩ : Fin 1024) := by
  refine funext fun a => Fin.ext ?_
  refine (Pipeline.Window.rect_emb_val win0_5 t (ix3 0 r d) a).trans ?_
  show cc0_transform_5 (grid0.coords t) a * win0_5.size a + _ = _
  rw [map5]
  match a with
  | ⟨0, _⟩ => exact (Nat.add_zero _).trans (Nat.mul_one _)
  | ⟨1, _⟩ => exact congrArg (· + r.val) (Nat.mul_comm _ 256)
  | ⟨2, _⟩ => exact congrArg (· + d.val) (Nat.mul_comm _ 128)

/-- A grid point from its batch, head and tile. -/
def pointAt (b : Fin 2) (h : Fin 8) (t : Fin 65) : grid0.Coords := fun a => match a with
  | ⟨0, _⟩ => b
  | ⟨1, _⟩ => h
  | ⟨2, _⟩ => t

theorem covers5 : win0_5.Covers :=
  win0_5.covers_of_indexMap_surj rfl (by decide) fun β => by
    refine ⟨pointAt (β 0) (β 2) (β 1), ?_⟩
    intro a
    have e := congrFun (map5 (pointAt (β 0) (β 2) (β 1))) a
    refine Eq.trans e ?_
    match a with
    | ⟨0, _⟩ => rfl
    | ⟨1, _⟩ => rfl
    | ⟨2, _⟩ => rfl

end Cert.Proof.Diff

end

end
-- ==== Proof.DiffValue.lean ====
/-
  The differential-attention kernel's result, over extended reals, entry by entry, when the arguments are finite.
-/
module

public import proofs.«01_k».proof.Proof.DiffHost

@[expose] public section

set_option maxRecDepth 16384

noncomputable section

namespace Cert.Proof.Diff

open Cert.KernelIdeal Cert.KernelIdeal.Gen Cert.Attn
open Idealize.ShloMosaic hiding ix0 ix1 ix2 ix3 ix4 ix5
open Idealize.ShloMosaic.TcCoe Idealize.ShloMosaic.ValueIdx Idealize.SL.Sem
open Finset

variable (m : (ℓ : Loc nD τ sig) → Buf (Elt Ideal) ℓ) (c : Dev nD)

/-- The arguments' entries. -/
abbrev qOf : ℕ → ℕ → ℕ → ℕ → ℝ := entry (n0 := 2) (n1 := 8) (n2 := 16640) (n3 := 128) (m ((c : Thread nD τ).loc main_arg0))
abbrev kOf : ℕ → ℕ → ℕ → ℕ → ℝ := entry (n0 := 2) (n1 := 8) (n2 := 16640) (n3 := 128) (m ((c : Thread nD τ).loc main_arg1))
abbrev vOf : ℕ → ℕ → ℕ → ℕ → ℝ := entry (n0 := 2) (n1 := 8) (n2 := 16640) (n3 := 128) (m ((c : Thread nD τ).loc main_arg2))

/-- The arguments are finite. -/
structure Finite : Prop where
  q : Finite4 (n0 := 2) (n1 := 8) (n2 := 16640) (n3 := 128) (m ((c : Thread nD τ).loc main_arg0))
  k : Finite4 (n0 := 2) (n1 := 8) (n2 := 16640) (n3 := 128) (m ((c : Thread nD τ).loc main_arg1))
  v : Finite4 (n0 := 2) (n1 := 8) (n2 := 16640) (n3 := 128) (m ((c : Thread nD τ).loc main_arg2))

/-- The blocks of a grid point hold the arguments' entries. -/
theorem holds_at (H : Finite m c) (t : Fin cfg0.N) :
    Holds (iblk m c 0 t) (iblk m c 1 t) (iblk m c 2 t)
      (fun r d => qOf m c (batchOf (grid0.coords t)).val (headOf (grid0.coords t)).val (256 * (tileOf (grid0.coords t)).val + r) d * (1 / 8 / Real.log 2))
      (kOf m c (batchOf (grid0.coords t)).val (headOf (grid0.coords t)).val)
      (withOnes (vOf m c (batchOf (grid0.coords t)).val (headOf (grid0.coords t)).val)) where
  q_eq r d := (blk0 m c t r d).trans (q_entry m c H.q _ _ _ d)
  k_eq j d := (blk1 m c t j d).trans (k_entry m c H.k _ _ j d)
  v_eq j d := (blk2 m c t j d).trans (v_entry m c H.v _ _ j d)

theorem scale_low (q k : ℕ → ℕ → ℕ → ℕ → ℝ) (b h l r j : ℕ) :
    low (fun r d => q b h (l + r) d * (1 / 8 / Real.log 2)) (k b h) r j * Real.log 2 = scoreLow q k b h (l + r) j := by
  unfold low scoreLow
  rw [Finset.sum_mul, Finset.sum_mul]
  refine Finset.sum_congr rfl fun d _ => ?_
  have := log_two_ne
  field_simp

theorem scale_high (q k : ℕ → ℕ → ℕ → ℕ → ℝ) (b h l r j : ℕ) :
    high (fun r d => q b h (l + r) d * (1 / 8 / Real.log 2)) (k b h) r j * Real.log 2 = scoreHigh q k b h (l + r) j := by
  unfold high scoreHigh
  rw [Finset.sum_mul, Finset.sum_mul]
  refine Finset.sum_congr rfl fun d _ => ?_
  have := log_two_ne
  field_simp

/-- The result array: head `e / 128` of token `l` at lane `e % 128`. -/
def result (c : Dev nD) : S2x16640x1024.Idx → EReal := fun i =>
  diffOut (qOf m c) (kOf m c) (vOf m c) (fun a d => m ((c : Thread nD τ).loc main_arg3) (ix3 0 a d)) (fun d => m ((c : Thread nD τ).loc main_arg4) (ix2 0 d))
    (i 0).val ((i 2).val / 128) (i 1).val ⟨(i 2).val % 128, Nat.mod_lt _ (by norm_num)⟩

theorem reach_eq (i : grid0.Coords) (r : Fin 256) : reach i = reachOf (256 * (tileOf i).val + r.val) := by
  unfold reach reachOf
  have : (tileOf i).val = (i 2).val := rfl
  by_cases h : (i 2).val = 0
  · rw [if_pos h, if_pos (by rw [this, h]; omega)]
  · rw [if_neg h, if_neg (by rw [this]; omega)]

theorem stored_eq (H : Finite m c) (t : Fin cfg0.N) (r : Fin 256) (d : Fin 128) :
    outBlock (F := Ideal) (grid0.coords t) (iblk m c 0 t) (iblk m c 1 t) (iblk m c 2 t) (iblk m c 3 t) (iblk m c 4 t) (ix3 0 r d)
      = diffOut (qOf m c) (kOf m c) (vOf m c) (fun a d => m ((c : Thread nD τ).loc main_arg3) (ix3 0 a d)) (fun d => m ((c : Thread nD τ).loc main_arg4) (ix2 0 d))
          (batchOf (grid0.coords t)).val (headOf (grid0.coords t)).val (256 * (tileOf (grid0.coords t)).val + r.val) d := by
  rw [outBlock_apply (holds_at m c H t) (fun j _ => by unfold withOnes; simp) (grid0.coords t) _ _ _ _
    (fun r j => scale_low (qOf m c) (kOf m c) _ _ _ r j) (fun r j => scale_high (qOf m c) (kOf m c) _ _ _ r j) r d]
  unfold diffOut
  have hl : (fun (a : Fin 4) (d : Fin 64) => iblk m c 3 t (ix2 a d)) = fun a d => m ((c : Thread nD τ).loc main_arg3) (ix3 0 a d) :=
    funext fun a => funext fun d => (blk3 m c t a d).trans (lam_entry m c a d)
  rw [reach_eq (grid0.coords t) r, (blk4 m c t d).trans (gain_entry m c d)]
  refine congrArg (finish · _ d) (funext fun e => ?_)
  have hw : ∀ s : ℕ → ℝ, mean s (withOnes (vOf m c (batchOf (grid0.coords t)).val (headOf (grid0.coords t)).val)) (reachOf (256 * (tileOf (grid0.coords t)).val + r.val)) e.val
      = mean s (vOf m c (batchOf (grid0.coords t)).val (headOf (grid0.coords t)).val) (reachOf (256 * (tileOf (grid0.coords t)).val + r.val)) e.val :=
    fun s => mean_congr s fun j _ => if_pos e.isLt
  rw [hw, hw]
  exact congrArg (fun f => _ - mixing f * _) hl

/-- The array the run leaves. -/
theorem final_eq (H : Finite m c) : (dats m 0 c).arrAt 5 cfg0.N = result m c := by
  refine (dats m 0 c).arrAt_eq_of_covers 5 _ covers5 fun t hf y => ?_
  obtain ⟨u, r, d, rfl⟩ : ∃ (u : Fin 1) (r : Fin 256) (d : Fin 128), y = ix3 u r d := ⟨y 0, y 1, y 2, ValueIdx.eq_ix3 y⟩
  obtain rfl : u = 0 := Subsingleton.elim _ _
  rw [emb5]
  refine (congrFun (after0_5 m c t) _).trans ((stored_eq m c H t r d).trans ?_)
  unfold result
  show _ = diffOut _ _ _ _ _ _ ((128 * (headOf (grid0.coords t)).val + d.val) / 128) _ ⟨(128 * (headOf (grid0.coords t)).val + d.val) % 128, _⟩
  have h1 : (128 * (headOf (grid0.coords t)).val + d.val) / 128 = (headOf (grid0.coords t)).val := by omega
  have h2 : (⟨(128 * (headOf (grid0.coords t)).val + d.val) % 128, Nat.mod_lt _ (by norm_num)⟩ : Fin 128) = d := Fin.ext (by show _ % 128 = _; omega)
  rw [h1, h2]

end Cert.Proof.Diff

end

end
-- ==== Proof.Plain.lean ====
/-
  The attention written plainly by host operations, for `L` queries and `M` keys: scores by one product, the softmax over
  the keys, the difference of the two softmaxes applied to the values, and the head's norm.
-/
module

public import proofs.«01_k».proof.Proof.Spec
public import Idealize.ShloMosaic.Lib.ValueIdx
public import Idealize.ShloMosaic.Lib.IdealHost

@[expose] public section

set_option maxRecDepth 16384

noncomputable section

namespace Cert.Attn

open Idealize.ShloMosaic Idealize.ShloMosaic.ValueIdx
open Finset

abbrev Sc : Shape := ⟨0, ![]⟩
abbrev S3 (L : ℕ) : Shape := ⟨3, ![2, 8, L]⟩
abbrev S4 (L M : ℕ) : Shape := ⟨4, ![2, 8, L, M]⟩

/-- Queries against keys. -/
def dotQK (L M D : ℕ) (wf : DotDims.WF (S4 L D) (S4 M D) (S4 L M) [3] [3] [2] [2] [0, 1] [0, 1]) : DotDims (S4 L D) (S4 M D) (S4 L M) where
  lhsContracting := [3]
  rhsContracting := [3]
  lhsNonContracting := [2]
  rhsNonContracting := [2]
  lhsBatch := [0, 1]
  rhsBatch := [0, 1]
  wf := wf

/-- Weights against values. -/
def dotPV (L M D : ℕ) (wf : DotDims.WF (S4 L M) (S4 M D) (S4 L D) [3] [2] [2] [3] [0, 1] [0, 1]) : DotDims (S4 L M) (S4 M D) (S4 L D) where
  lhsContracting := [3]
  rhsContracting := [2]
  lhsNonContracting := [2]
  rhsNonContracting := [3]
  lhsBatch := [0, 1]
  rhsBatch := [0, 1]
  wf := wf

theorem dotQK_apply {L M D : ℕ} (wf) (x : FVec Ideal (S4 L D) .f32) (y : FVec Ideal (S4 M D) .f32) (b : Fin 2) (h : Fin 8) (i : Fin L) (j : Fin M) :
    Host.dotGeneral (φ₁ := .f32) (φ₂ := .f32) (dotQK L M D wf) none x y (ix4 b h i j) = ∑ d : Fin D, x (ix4 b h i d) * y (ix4 b h j d) := by
  have hr : (dotQK L M D wf).contr.rank = 1 := rfl
  have hs : (dotQK L M D wf).contr.size ⟨0, by rw [hr]; omega⟩ = D := rfl
  refine (Ideal.dotGeneral_apply (dotQK L M D wf) none _ x y _).trans ?_
  rw [← Equiv.sum_comp (contrEquiv1 _ D hr hs).symm]
  refine Finset.sum_congr rfl fun d _ => ?_
  have hd := contrEquiv1_symm_val (dotQK L M D wf) D hr hs d
  refine congrArg₂ (· * ·) (congrArg x (funext fun a => Fin.ext ?_)) (congrArg y (funext fun a => Fin.ext ?_))
  · match a with
    | ⟨0, _⟩ => rfl
    | ⟨1, _⟩ => rfl
    | ⟨2, _⟩ => rfl
    | ⟨3, _⟩ => exact hd
  · match a with
    | ⟨0, _⟩ => rfl
    | ⟨1, _⟩ => rfl
    | ⟨2, _⟩ => rfl
    | ⟨3, _⟩ => exact hd

theorem dotPV_apply {L M D : ℕ} (wf) (x : FVec Ideal (S4 L M) .f32) (y : FVec Ideal (S4 M D) .f32) (b : Fin 2) (h : Fin 8) (i : Fin L) (c : Fin D) :
    Host.dotGeneral (φ₁ := .f32) (φ₂ := .f32) (dotPV L M D wf) none x y (ix4 b h i c) = ∑ j : Fin M, x (ix4 b h i j) * y (ix4 b h j c) := by
  have hr : (dotPV L M D wf).contr.rank = 1 := rfl
  have hs : (dotPV L M D wf).contr.size ⟨0, by rw [hr]; omega⟩ = M := rfl
  refine (Ideal.dotGeneral_apply (dotPV L M D wf) none _ x y _).trans ?_
  rw [← Equiv.sum_comp (contrEquiv1 _ M hr hs).symm]
  refine Finset.sum_congr rfl fun d _ => ?_
  have hd := contrEquiv1_symm_val (dotPV L M D wf) M hr hs d
  refine congrArg₂ (· * ·) (congrArg x (funext fun a => Fin.ext ?_)) (congrArg y (funext fun a => Fin.ext ?_))
  · match a with
    | ⟨0, _⟩ => rfl
    | ⟨1, _⟩ => rfl
    | ⟨2, _⟩ => rfl
    | ⟨3, _⟩ => exact hd
  · match a with
    | ⟨0, _⟩ => rfl
    | ⟨1, _⟩ => rfl
    | ⟨2, _⟩ => exact hd
    | ⟨3, _⟩ => rfl

/-- What the shapes have to satisfy for a reduction along the last axis, kept and spread. -/
structure RowFacts (L M : ℕ) : Prop where
  bS : Sc.BroadcastsInDim (S4 L M) ![]
  bT : Sc.BroadcastsInDim (S3 L) ![]
  b3 : (S3 L).BroadcastsInDim (S4 L 1) ![0, 1, 2]
  b4 : (S4 L 1).BroadcastsInDim (S4 L M) ![0, 1, 2, 3]
  b1 : Sc.BroadcastsInDim (S4 L 1) ![]
  rT : (S4 L M).ReducesTo [3] (S3 L)
  red : (S4 L M).Reduces [3] (S3 L)
  hS : 0 < Sc.numel

/-- A reduction's result put back on its axis of extent one. -/
theorem keep_apply {α : Type} {L : ℕ} (x : (S3 L).Idx → α) (hb : (S3 L).BroadcastsInDim (S4 L 1) ![0, 1, 2]) (b : Fin 2) (h : Fin 8) (i : Fin L) (u : Fin 1) :
    broadcastInDim (S4 L 1) ![0, 1, 2] hb x (ix4 b h i u) = x (ix3 b h i) := by
  refine broadcastInDim_apply _ hb x _ _ fun a => ?_
  match a with
  | ⟨0, _⟩ => rfl
  | ⟨1, _⟩ => rfl
  | ⟨2, _⟩ =>
    show i.val = if L = 1 then 0 else i.val
    split
    · have := i.isLt; omega
    · rfl

/-- An axis of extent one spread. -/
theorem spread4_apply {α : Type} {L M : ℕ} (x : (S4 L 1).Idx → α) (hb : (S4 L 1).BroadcastsInDim (S4 L M) ![0, 1, 2, 3]) (b : Fin 2) (h : Fin 8) (i : Fin L) (j : Fin M) :
    broadcastInDim (S4 L M) ![0, 1, 2, 3] hb x (ix4 b h i j) = x (ix4 b h i 0) := by
  refine broadcastInDim_apply _ hb x _ _ fun a => ?_
  match a with
  | ⟨0, _⟩ => rfl
  | ⟨1, _⟩ => rfl
  | ⟨2, _⟩ =>
    show i.val = if L = 1 then 0 else i.val
    split
    · have := i.isLt; omega
    · rfl
  | ⟨3, _⟩ => rfl

theorem lift4 {L M : ℕ} (hred : (S4 L M).Reduces [3] (S3 L)) (b : Fin 2) (h : Fin 8) (i : Fin L) (k : Fin M) : hred.lift (ix3 b h i) k = ix4 b h i k := by
  funext a; apply Fin.ext
  match a with
  | ⟨0, _⟩ => rfl
  | ⟨1, _⟩ => rfl
  | ⟨2, _⟩ => rfl
  | ⟨3, _⟩ => rfl

/-- The sum along the last axis. -/
theorem sum4_apply {L M : ℕ} (f : RowFacts L M) (x : FVec Ideal (S4 L M) .f32) (b : Fin 2) (h : Fin 8) (i : Fin L) :
    Host.reduceAdd x (constant Sc .f32 0x00000000#32) f.rT f.hS (ix3 b h i) = 0 + ∑ k : Fin M, x (ix4 b h i k) := by
  refine (Ideal.hostReduceAdd_single f.rT f.red x _ _).trans ?_
  refine congrArg₂ (· + ·) Ideal.ofBits_zero_f32 (Finset.sum_congr rfl fun k _ => congrArg x (lift4 f.red b h i k))

/-- The softmax over the keys, as jax prints it. -/
def plainSoftmax {L M : ℕ} (f : RowFacts L M) (S : FVec Ideal (S4 L M) .f32) : FVec Ideal (S4 L M) .f32 :=
  Host.divf
    (Host.exp (subf S (broadcastInDim (S4 L M) ![0, 1, 2, 3] f.b4 (broadcastInDim (S4 L 1) ![0, 1, 2] f.b3
      (maximumf (broadcastInDim (S3 L) ![] f.bT (constant Sc .f32 0xFF800000#32)) (Host.reduce FloatOps.maximumf S (constant Sc .f32 0xFF800000#32) f.rT f.hS))))))
    (broadcastInDim (S4 L M) ![0, 1, 2, 3] f.b4 (broadcastInDim (S4 L 1) ![0, 1, 2] f.b3 (Host.reduceAdd
      (Host.exp (subf S (broadcastInDim (S4 L M) ![0, 1, 2, 3] f.b4 (broadcastInDim (S4 L 1) ![0, 1, 2] f.b3
        (maximumf (broadcastInDim (S3 L) ![] f.bT (constant Sc .f32 0xFF800000#32)) (Host.reduce FloatOps.maximumf S (constant Sc .f32 0xFF800000#32) f.rT f.hS))))))
      (constant Sc .f32 0x00000000#32) f.rT f.hS)))

/-- A weight of the softmax of finite scores. -/
theorem plainSoftmax_apply {L M : ℕ} (f : RowFacts L M) (hM : 0 < M) (S : FVec Ideal (S4 L M) .f32) (s : ℕ → ℝ) (b : Fin 2) (h : Fin 8) (i : Fin L)
    (hS : ∀ j : Fin M, S (ix4 b h i j) = (s j.val : EReal)) (j : Fin M) :
    plainSoftmax f S (ix4 b h i j) = ((Real.exp (s j.val) / ∑ k ∈ range M, Real.exp (s k) : ℝ) : EReal) := by
  obtain ⟨A, hA⟩ := real_max hM fun k : Fin M => s k.val
  have hmax : (maximumf (broadcastInDim (S3 L) ![] f.bT (constant Sc .f32 0xFF800000#32)) (Host.reduce FloatOps.maximumf S (constant Sc .f32 0xFF800000#32) f.rT f.hS) : FVec Ideal (S3 L) .f32) (ix3 b h i) = (A : EReal) := by
    show max (broadcastInDim (S3 L) ![] f.bT (constant (F := Ideal) Sc .f32 0xFF800000#32) (ix3 b h i)) (Host.reduce FloatOps.maximumf S (constant Sc .f32 0xFF800000#32) f.rT f.hS (ix3 b h i)) = _
    rw [broadcastInDim_scalar_apply, Host.reduce_eq_fold_single FloatOps.maximumf S _ f.rT f.red f.hS]
    show max (Ideal.ofBits .f32 0xFF800000#32) (Finset.fold max (Ideal.ofBits .f32 0xFF800000#32) (fun k : Fin M => S (f.red.lift (ix3 b h i) k)) Finset.univ) = _
    rw [ofBits_neg_inf, max_eq_right bot_le, ← hA]
    exact congrArg (fun g => Finset.fold max ⊥ g Finset.univ) (funext fun k => (congrArg S (lift4 f.red b h i k)).trans (hS k))
  have hexp : ∀ k : Fin M, Host.exp (subf S (broadcastInDim (S4 L M) ![0, 1, 2, 3] f.b4 (broadcastInDim (S4 L 1) ![0, 1, 2] f.b3
      (maximumf (broadcastInDim (S3 L) ![] f.bT (constant Sc .f32 0xFF800000#32)) (Host.reduce FloatOps.maximumf S (constant Sc .f32 0xFF800000#32) f.rT f.hS))))) (ix4 b h i k)
      = Ideal.exp ((s k.val : EReal) - (A : EReal)) := fun k =>
    congrArg Ideal.exp (congrArg₂ (· - ·) (hS k) ((spread4_apply _ f.b4 b h i k).trans ((keep_apply _ f.b3 b h i 0).trans hmax)))
  refine Eq.trans ?_ (plain_weight s hM A j)
  refine congrArg₂ Ideal.div (hexp j) ((spread4_apply _ f.b4 b h i j).trans ((keep_apply _ f.b3 b h i 0).trans ((sum4_apply f _ b h i).trans ?_)))
  exact congrArg (0 + ·) (Finset.sum_congr rfl fun k _ => hexp k)

/-- The head's norm, as jax prints it. -/
def plainNorm {L : ℕ} (f : RowFacts L 128) (g3 : (⟨1, ![128]⟩ : Shape).BroadcastsInDim ⟨4, ![1, 1, 1, 128]⟩ ![3])
    (g4 : (⟨4, ![1, 1, 1, 128]⟩ : Shape).BroadcastsInDim (S4 L 128) ![0, 1, 2, 3]) (o : FVec Ideal (S4 L 128) .f32) (g : FVec Ideal ⟨1, ![128]⟩ .f32) :
    FVec Ideal (S4 L 128) .f32 :=
  mulf (mulf (mulf o (broadcastInDim (S4 L 128) ![0, 1, 2, 3] f.b4 (Host.rsqrt (addf (Host.divf
      (broadcastInDim (S4 L 1) ![0, 1, 2] f.b3 (Host.reduceAdd (mulf o o) (constant Sc .f32 0x00000000#32) f.rT f.hS))
      (broadcastInDim (S4 L 1) ![] f.b1 (constant Sc .f32 0x43000000#32))) (broadcastInDim (S4 L 1) ![] f.b1 (constant Sc .f32 0x358637BD#32))))))
    (broadcastInDim (S4 L 128) ![0, 1, 2, 3] g4 (broadcastInDim ⟨4, ![1, 1, 1, 128]⟩ ![3] g3 g)))
    (broadcastInDim (S4 L 128) ![] f.bS (constant Sc .f32 0x3EE34C57#32))

theorem plainNorm_apply {L : ℕ} (f : RowFacts L 128) (g3) (g4) (o : FVec Ideal (S4 L 128) .f32) (g : FVec Ideal ⟨1, ![128]⟩ .f32)
    (b : Fin 2) (h : Fin 8) (i : Fin L) (c : Fin 128) :
    plainNorm f g3 g4 o g (ix4 b h i c) = finish (fun k => o (ix4 b h i k)) (g (ix1 c)) c := by
  have hg : broadcastInDim (S4 L 128) ![0, 1, 2, 3] g4 (broadcastInDim ⟨4, ![1, 1, 1, 128]⟩ ![3] g3 g) (ix4 b h i c) = g (ix1 c) := by
    refine (broadcastInDim_apply _ g4 _ _ (ix4 0 0 0 c) fun a => ?_).trans (broadcastInDim_apply _ g3 _ _ (ix1 c) fun a => ?_)
    · match a with
      | ⟨0, _⟩ => rfl
      | ⟨1, _⟩ => rfl
      | ⟨2, _⟩ => rfl
      | ⟨3, _⟩ => rfl
    · match a with
      | ⟨0, _⟩ => rfl
  refine congrArg₂ (· * ·) (congrArg₂ (· * ·) (congrArg (o (ix4 b h i c) * ·) ((spread4_apply _ f.b4 b h i c).trans ?_)) hg) (broadcastInDim_scalar_apply _ _ _)
  refine congrArg Ideal.rsqrt (congrArg₂ (· + ·) (congrArg₂ Ideal.div ((keep_apply _ f.b3 b h i 0).trans ((sum4_apply f _ b h i).trans (zero_add _))) (broadcastInDim_scalar_apply _ _ _)) (broadcastInDim_scalar_apply _ _ _))

/-- The shapes of one attention call. -/
structure CallFacts (L M : ℕ) : Prop where
  qk : DotDims.WF (S4 L 64) (S4 M 64) (S4 L M) [3] [3] [2] [2] [0, 1] [0, 1]
  pv : DotDims.WF (S4 L M) (S4 M 128) (S4 L 128) [3] [2] [2] [3] [0, 1] [0, 1]
  row : RowFacts L M
  norm : RowFacts L 128
  g3 : (⟨1, ![128]⟩ : Shape).BroadcastsInDim ⟨4, ![1, 1, 1, 128]⟩ ![3]
  g4 : (⟨4, ![1, 1, 1, 128]⟩ : Shape).BroadcastsInDim (S4 L 128) ![0, 1, 2, 3]
  tr : (S4 L 128).Transposes [0, 2, 1, 3] ⟨4, ![2, L, 8, 128]⟩
  cast : (⟨4, ![2, L, 8, 128]⟩ : Shape).ShapeCasts ⟨3, ![2, L, 1024]⟩

/-- The scores of one half of the lanes. -/
def plainScores {L M : ℕ} (f : CallFacts L M) (q : FVec Ideal (S4 L 64) .f32) (k : FVec Ideal (S4 M 64) .f32) : FVec Ideal (S4 L M) .f32 :=
  mulf (Host.dotGeneral (dotQK L M 64 f.qk) none q k) (broadcastInDim (S4 L M) ![] f.row.bS (constant Sc .f32 0x3E000000#32))

/-- The difference of the two softmaxes, applied to the values. -/
def plainHeads {L M : ℕ} (f : CallFacts L M) (q1 q2 : FVec Ideal (S4 L 64) .f32) (k1 k2 : FVec Ideal (S4 M 64) .f32) (v : FVec Ideal (S4 M 128) .f32)
    (lam : FVec Ideal Sc .f32) : FVec Ideal (S4 L 128) .f32 :=
  Host.dotGeneral (dotPV L M 128 f.pv) none
    (subf (plainSoftmax f.row (plainScores f q1 k1)) (mulf (broadcastInDim (S4 L M) ![] f.row.bS lam) (plainSoftmax f.row (plainScores f q2 k2)))) v

/-- One attention call: the heads, the norm, heads beside each other in a token's row. -/
def plainCall {L M : ℕ} (f : CallFacts L M) (q1 q2 : FVec Ideal (S4 L 64) .f32) (k1 k2 : FVec Ideal (S4 M 64) .f32) (v : FVec Ideal (S4 M 128) .f32)
    (lam : FVec Ideal Sc .f32) (g : FVec Ideal ⟨1, ![128]⟩ .f32) : FVec Ideal ⟨3, ![2, L, 1024]⟩ .f32 :=
  shapeCast ⟨3, ![2, L, 1024]⟩ (transpose ⟨4, ![2, L, 8, 128]⟩ [0, 2, 1, 3] (plainNorm f.norm f.g3 f.g4 (plainHeads f q1 q2 k1 k2 v lam) g) f.tr) f.cast

theorem eighth_eq : Ideal.ofBits .f32 0x3E000000#32 = ((1 / 8 : ℝ) : EReal) := by
  simp [Ideal.ofBits, Ideal.ieee]; rw [← EReal.coe_mul]; norm_num

theorem plainScores_apply {L M : ℕ} (f : CallFacts L M) (q : FVec Ideal (S4 L 64) .f32) (k : FVec Ideal (S4 M 64) .f32) (x y : ℕ → ℝ)
    (b : Fin 2) (h : Fin 8) (i : Fin L) (j : Fin M) (hq : ∀ d : Fin 64, q (ix4 b h i d) = (x d.val : EReal)) (hk : ∀ d : Fin 64, k (ix4 b h j d) = (y d.val : EReal)) :
    plainScores f q k (ix4 b h i j) = (((∑ d ∈ range 64, x d * y d) * (1 / 8) : ℝ) : EReal) := by
  rw [EReal.coe_mul]
  refine congrArg₂ (· * ·) ((dotQK_apply f.qk q k b h i j).trans ?_) ((broadcastInDim_scalar_apply _ _ _).trans eighth_eq)
  rw [← Fin.sum_univ_eq_sum_range (fun d => x d * y d), real_sum]
  exact Finset.sum_congr rfl fun d _ => by rw [hq, hk, EReal.coe_mul]

theorem plainHeads_apply {L M : ℕ} (f : CallFacts L M) (hM : 0 < M) (q1 q2 : FVec Ideal (S4 L 64) .f32) (k1 k2 : FVec Ideal (S4 M 64) .f32) (v : FVec Ideal (S4 M 128) .f32)
    (lam : FVec Ideal Sc .f32) (Q K V : ℕ → ℕ → ℕ → ℕ → ℝ) (l0 : ℕ) (b : Fin 2) (h : Fin 8) (i : Fin L)
    (hq1 : ∀ d, q1 (ix4 b h i d) = (Q b.val h.val (l0 + i.val) d.val : EReal)) (hq2 : ∀ d, q2 (ix4 b h i d) = (Q b.val h.val (l0 + i.val) (64 + d.val) : EReal))
    (hk1 : ∀ j d, k1 (ix4 b h j d) = (K b.val h.val j.val d.val : EReal)) (hk2 : ∀ j d, k2 (ix4 b h j d) = (K b.val h.val j.val (64 + d.val) : EReal))
    (hv : ∀ j d, v (ix4 b h j d) = (V b.val h.val j.val d.val : EReal)) (y : ℝ) (hl : lam ix0 = (y : EReal)) (c : Fin 128) :
    plainHeads f q1 q2 k1 k2 v lam (ix4 b h i c)
      = (mean (scoreLow Q K b.val h.val (l0 + i.val)) (V b.val h.val) M c.val : EReal) - (y : EReal) * (mean (scoreHigh Q K b.val h.val (l0 + i.val)) (V b.val h.val) M c.val : EReal) := by
  have h1 : ∀ j : Fin M, plainScores f q1 k1 (ix4 b h i j) = (scoreLow Q K b.val h.val (l0 + i.val) j.val : EReal) := fun j =>
    plainScores_apply f q1 k1 (Q b.val h.val (l0 + i.val)) (K b.val h.val j.val) b h i j hq1 (hk1 j)
  have h2 : ∀ j : Fin M, plainScores f q2 k2 (ix4 b h i j) = (scoreHigh Q K b.val h.val (l0 + i.val) j.val : EReal) := fun j =>
    plainScores_apply f q2 k2 (fun d => Q b.val h.val (l0 + i.val) (64 + d)) (fun d => K b.val h.val j.val (64 + d)) b h i j hq2 (hk2 j)
  rw [← EReal.coe_mul, ← EReal.coe_sub, ← mean_diff, ← Fin.sum_univ_eq_sum_range (fun j => (Real.exp (scoreLow Q K b.val h.val (l0 + i.val) j) / (∑ i_1 ∈ range M, Real.exp (scoreLow Q K b.val h.val (l0 + i.val) i_1))
    - y * (Real.exp (scoreHigh Q K b.val h.val (l0 + i.val) j) / ∑ i_1 ∈ range M, Real.exp (scoreHigh Q K b.val h.val (l0 + i.val) i_1))) * V b.val h.val j c.val), real_sum]
  refine (dotPV_apply f.pv _ v b h i c).trans (Finset.sum_congr rfl fun j _ => ?_)
  rw [EReal.coe_mul, EReal.coe_sub, EReal.coe_mul]
  refine congrArg₂ (· * ·) (congrArg₂ (· - ·) (plainSoftmax_apply f.row hM _ _ b h i h1 j)
    (congrArg₂ (· * ·) ((broadcastInDim_scalar_apply _ _ _).trans hl) (plainSoftmax_apply f.row hM _ _ b h i h2 j))) (hv j c)

theorem plainCall_apply {L M : ℕ} (f : CallFacts L M) (hM : 0 < M) (q1 q2 : FVec Ideal (S4 L 64) .f32) (k1 k2 : FVec Ideal (S4 M 64) .f32) (v : FVec Ideal (S4 M 128) .f32)
    (lam : FVec Ideal Sc .f32) (g : FVec Ideal ⟨1, ![128]⟩ .f32) (Q K V : ℕ → ℕ → ℕ → ℕ → ℝ) (w : Fin 4 → Fin 64 → EReal) (l0 : ℕ) (i : Fin L)
    (hq1 : ∀ b h d, q1 (ix4 b h i d) = (Q b.val h.val (l0 + i.val) d.val : EReal)) (hq2 : ∀ b h d, q2 (ix4 b h i d) = (Q b.val h.val (l0 + i.val) (64 + d.val) : EReal))
    (hk1 : ∀ b h j d, k1 (ix4 b h j d) = (K b.val h.val j.val d.val : EReal)) (hk2 : ∀ b h j d, k2 (ix4 b h j d) = (K b.val h.val j.val (64 + d.val) : EReal))
    (hv : ∀ b h j d, v (ix4 b h j d) = (V b.val h.val j.val d.val : EReal)) (y : ℝ) (hl : lam ix0 = mixing w) (hy : mixing w = (y : EReal)) (hr : reachOf (l0 + i.val) = M)
    (b : Fin 2) (e : Fin 1024) :
    plainCall f q1 q2 k1 k2 v lam g (ix3 b i e)
      = diffOut Q K V w (fun d => g (ix1 d)) b.val (e.val / 128) (l0 + i.val) ⟨e.val % 128, Nat.mod_lt _ (by norm_num)⟩ := by
  have he : e.val / 128 < 8 := by omega
  have hm : e.val % 128 < 128 := Nat.mod_lt _ (by norm_num)
  unfold plainCall diffOut
  refine (shapeCast_apply _ f.cast (ix3 b i e) (ix4 b i ⟨e.val / 128, he⟩ ⟨e.val % 128, hm⟩) ?_).trans ?_
  · rw [Shape.rowMajor_val_four, Shape.rowMajor_val_three]
    show ((b.val * L + i.val) * 8 + e.val / 128) * 128 + e.val % 128 = (b.val * L + i.val) * 1024 + e.val
    omega
  refine (transpose_apply _ _ f.tr _ (ix4 b ⟨e.val / 128, he⟩ i ⟨e.val % 128, hm⟩) fun a => ?_).trans ?_
  · match a with
    | ⟨0, _⟩ => rfl
    | ⟨1, _⟩ => rfl
    | ⟨2, _⟩ => rfl
    | ⟨3, _⟩ => rfl
  rw [plainNorm_apply, hr, hy]
  refine congrArg (finish · _ _) (funext fun c => ?_)
  exact plainHeads_apply f hM q1 q2 k1 k2 v lam Q K V l0 b ⟨e.val / 128, he⟩ i (hq1 _ _) (hq2 _ _) (hk1 _ _) (hk2 _ _) (hv _ _) y (hl.trans hy) c

end Cert.Attn

end

end
-- ==== Proof.DiffRef.lean ====
/-
  The differential attention's reference, over extended reals, entry by entry, when the arguments are finite.
-/
module

public import proofs.«01_k».proof.Proof.Plain
public import Idealize.ShloMosaic.Lib.Pointwise.Reduce
public import proofs.«01_k».proof.Proof.Gen.ReferenceIdeal
public import proofs.«01_k».proof.Proof.Gen.ReferenceIdeal.Run

@[expose] public section

set_option maxRecDepth 16384

noncomputable section

namespace Cert.Proof.DiffRef

open Cert.ReferenceIdeal Cert.ReferenceIdeal.Gen Cert.Attn
open Idealize.ShloMosaic hiding ix0 ix1 ix2 ix3 ix4 ix5
open Idealize.ShloMosaic.TcCoe Idealize.ShloMosaic.ValueIdx Idealize.SL.Sem

/-- The shapes of the context's call, -/
theorem ctxFacts : CallFacts 256 256 where
  qk := dot_S2x8x256x64_S2x8x256x64_S2x8x256x256_3_3_2_2_01_01_wf
  pv := dot_S2x8x256x256_S2x8x256x128_S2x8x256x128_3_2_2_3_01_01_wf
  row := ⟨bcast_S_S2x8x256x256, bcast_S_S2x8x256, bcast_S2x8x256_S2x8x256x1_0_1_2, bcast_S2x8x256x1_S2x8x256x256_0_1_2_3, bcast_S_S2x8x256x1,
    reducesTo_S2x8x256x256_S2x8x256_d3, by decide, h_S_⟩
  norm := ⟨bcast_S_S2x8x256x128, bcast_S_S2x8x256, bcast_S2x8x256_S2x8x256x1_0_1_2, bcast_S2x8x256x1_S2x8x256x128_0_1_2_3, bcast_S_S2x8x256x1,
    reducesTo_S2x8x256x128_S2x8x256_d3, by decide, h_S_⟩
  g3 := bcast_S128_S1x1x1x128_3
  g4 := bcast_S1x1x1x128_S2x8x256x128_0_1_2_3
  tr := transposes_S2x8x256x128_S2x256x8x128_0_2_1_3
  cast := shapeCasts_S2x256x8x128_S2x256x1024

/-- and of the latents' call. -/
theorem latFacts : CallFacts 16384 16640 where
  qk := dot_S2x8x16384x64_S2x8x16640x64_S2x8x16384x16640_3_3_2_2_01_01_wf
  pv := dot_S2x8x16384x16640_S2x8x16640x128_S2x8x16384x128_3_2_2_3_01_01_wf
  row := ⟨bcast_S_S2x8x16384x16640, bcast_S_S2x8x16384, bcast_S2x8x16384_S2x8x16384x1_0_1_2, bcast_S2x8x16384x1_S2x8x16384x16640_0_1_2_3, bcast_S_S2x8x16384x1,
    reducesTo_S2x8x16384x16640_S2x8x16384_d3, by decide, h_S_⟩
  norm := ⟨bcast_S_S2x8x16384x128, bcast_S_S2x8x16384, bcast_S2x8x16384_S2x8x16384x1_0_1_2, bcast_S2x8x16384x1_S2x8x16384x128_0_1_2_3, bcast_S_S2x8x16384x1,
    reducesTo_S2x8x16384x128_S2x8x16384_d3, by decide, h_S_⟩
  g3 := bcast_S128_S1x1x1x128_3
  g4 := bcast_S1x1x1x128_S2x8x16384x128_0_1_2_3
  tr := transposes_S2x8x16384x128_S2x16384x8x128_0_2_1_3
  cast := shapeCasts_S2x16384x8x128_S2x16384x1024

variable (m : (ℓ : Loc nD τ sig) → Buf (Elt Ideal) ℓ) (c : Dev nD)

/-- One of the four mixing vectors. -/
abbrev vec (x : FVec Ideal S1x4x64 .f32) (off : Fin 2 → ℕ) (h : S4x64.Slices off S1x64) : FVec Ideal S64 .f32 :=
  shapeCast S64 (extractStridedSlice S1x64 off (shapeCast S4x64 x shapeCasts_S1x4x64_S4x64) h) shapeCasts_S1x64_S64

/-- The mixing scalar, as jax prints it. -/
def plainMix (x : FVec Ideal S1x4x64 .f32) : FVec Ideal S_ .f32 :=
  addf (subf
      (Host.exp (Host.reduceAdd (mulf (vec x ![0, 0] slices_S4x64_S1x64_0_0) (vec x ![1, 0] slices_S4x64_S1x64_1_0)) (constant S_ .f32 0x00000000#32) reducesTo_S64_S_d0 h_S_))
      (Host.exp (Host.reduceAdd (mulf (vec x ![2, 0] slices_S4x64_S1x64_2_0) (vec x ![3, 0] slices_S4x64_S1x64_3_0)) (constant S_ .f32 0x00000000#32) reducesTo_S64_S_d0 h_S_)))
    (constant S_ .f32 0x3F0E59D5#32)

theorem vec_apply (x : FVec Ideal S1x4x64 .f32) (a : Fin 4) (off : Fin 2 → ℕ) (h : S4x64.Slices off S1x64) (h0 : off 0 = a.val) (h1 : off 1 = 0) (d : Fin 64) :
    vec x off h (ix1 d) = x (ix3 0 a d) := by
  refine (shapeCast_1a_a_apply _ _ _).trans ((extractStridedSlice_apply off _ h _ (ix2 a d) fun e => ?_).trans ?_)
  · match e with
    | ⟨0, _⟩ => show a.val = off 0 + 0; omega
    | ⟨1, _⟩ => show d.val = off 1 + d.val; omega
  · exact shapeCast_apply (s := S1x4x64) (t := S4x64) _ _ _ (ix3 0 a d) (by
      rw [Shape.rowMajor_val_three, Shape.rowMajor_val_two]
      show (0 * 4 + a.val) * 64 + d.val = a.val * 64 + d.val
      omega)

theorem sum64 (x : FVec Ideal S64 .f32) : Host.reduceAdd x (constant S_ .f32 0x00000000#32) reducesTo_S64_S_d0 h_S_ ix0 = ∑ d : Fin 64, x (ix1 d) := by
  refine (Ideal.hostReduceAdd_r1_a0 reducesTo_S64_S_d0 x _ _).trans ?_
  exact (congrArg (· + _) Ideal.ofBits_zero_f32).trans (zero_add _)

theorem plainMix_apply (x : FVec Ideal S1x4x64 .f32) : plainMix x ix0 = mixing fun a d => x (ix3 0 a d) := by
  refine congrArg₂ (· + ·) (congrArg₂ (· - ·) (congrArg Ideal.exp ((sum64 _).trans ?_)) (congrArg Ideal.exp ((sum64 _).trans ?_))) rfl
  · exact Finset.sum_congr rfl fun d _ => congrArg₂ (· * ·) (vec_apply x 0 _ _ rfl rfl d) (vec_apply x 1 _ _ rfl rfl d)
  · exact Finset.sum_congr rfl fun d _ => congrArg₂ (· * ·) (vec_apply x 2 _ _ rfl rfl d) (vec_apply x 3 _ _ rfl rfl d)

abbrev lowHalf (x : FVec Ideal S2x8x16640x128 .f32) : FVec Ideal S2x8x16640x64 .f32 :=
  extractStridedSlice S2x8x16640x64 ![0, 0, 0, 0] x slices_S2x8x16640x128_S2x8x16640x64_0_0_0_0
abbrev highHalf (x : FVec Ideal S2x8x16640x128 .f32) : FVec Ideal S2x8x16640x64 .f32 :=
  extractStridedSlice S2x8x16640x64 ![0, 0, 0, 64] x slices_S2x8x16640x128_S2x8x16640x64_0_0_0_64
abbrev ctxRows (x : FVec Ideal S2x8x16640x64 .f32) : FVec Ideal S2x8x256x64 .f32 :=
  extractStridedSlice S2x8x256x64 ![0, 0, 0, 0] x slices_S2x8x16640x64_S2x8x256x64_0_0_0_0
abbrev latRows (x : FVec Ideal S2x8x16640x64 .f32) : FVec Ideal S2x8x16384x64 .f32 :=
  extractStridedSlice S2x8x16384x64 ![0, 0, 256, 0] x slices_S2x8x16640x64_S2x8x16384x64_0_0_256_0

/-- The two calls of the reference. -/
def ctxCall (q k v : FVec Ideal S2x8x16640x128 .f32) (l : FVec Ideal S1x4x64 .f32) (g : FVec Ideal S1x128 .f32) : FVec Ideal S2x256x1024 .f32 :=
  plainCall ctxFacts (ctxRows (lowHalf q)) (ctxRows (highHalf q)) (ctxRows (lowHalf k)) (ctxRows (highHalf k))
    (extractStridedSlice S2x8x256x128 ![0, 0, 0, 0] v slices_S2x8x16640x128_S2x8x256x128_0_0_0_0) (plainMix l) (shapeCast S128 g shapeCasts_S1x128_S128)
def latCall (q k v : FVec Ideal S2x8x16640x128 .f32) (l : FVec Ideal S1x4x64 .f32) (g : FVec Ideal S1x128 .f32) : FVec Ideal S2x16384x1024 .f32 :=
  plainCall latFacts (latRows (lowHalf q)) (latRows (highHalf q)) (lowHalf k) (highHalf k) v (plainMix l) (shapeCast S128 g shapeCasts_S1x128_S128)

/-- The reference's result, as the two calls beside each other. -/
theorem res_eq : Value.res_main_v129 (F := Ideal) m c
    = truncf (F := Ideal) (s := S2x16640x1024) (φ := .f32) .bf16 (concatenate S2x16640x1024 1
        [⟨S2x256x1024, ctxCall (m ((c : Thread nD τ).loc main_arg0)) (m ((c : Thread nD τ).loc main_arg1)) (m ((c : Thread nD τ).loc main_arg2)) (m ((c : Thread nD τ).loc main_arg3)) (m ((c : Thread nD τ).loc main_arg4))⟩,
         ⟨S2x16384x1024, latCall (m ((c : Thread nD τ).loc main_arg0)) (m ((c : Thread nD τ).loc main_arg1)) (m ((c : Thread nD τ).loc main_arg2)) (m ((c : Thread nD τ).loc main_arg3)) (m ((c : Thread nD τ).loc main_arg4))⟩]
        concatenates_S2x256x1024_S2x16384x1024_S2x16640x1024_d1) bitsLt_bf16_f32 := by
  unfold Value.res_main_v129
  rfl

theorem half_read {L o l0 : ℕ} (x : FVec Ideal S2x8x16640x128 .f32) (hx : Finite4 (n0 := 2) (n1 := 8) (n2 := 16640) (n3 := 128) x)
    (h1 : S2x8x16640x128.Slices ![0, 0, 0, o] S2x8x16640x64) (h2 : S2x8x16640x64.Slices ![0, 0, l0, 0] (S4 L 64)) (b : Fin 2) (h : Fin 8) (i : Fin L) (d : Fin 64)
    (ho : o ≤ 64) (hl : l0 + L ≤ 16640) :
    extractStridedSlice (S4 L 64) ![0, 0, l0, 0] (extractStridedSlice S2x8x16640x64 ![0, 0, 0, o] x h1) h2 (ix4 b h i d)
      = (entry (n0 := 2) (n1 := 8) (n2 := 16640) (n3 := 128) x b.val h.val (l0 + i.val) (o + d.val) : EReal) := by
  have hi := i.isLt
  have hd := d.isLt
  refine (extractStridedSlice_apply _ _ h2 _ (ix4 b h ⟨l0 + i.val, by omega⟩ d) fun a => ?_).trans
    ((extractStridedSlice_apply _ _ h1 _ (ix4 b h ⟨l0 + i.val, by omega⟩ ⟨o + d.val, by omega⟩) fun a => ?_).trans (entry_eq hx b h _ _))
  · match a with
    | ⟨0, _⟩ => exact (Nat.zero_add _).symm
    | ⟨1, _⟩ => exact (Nat.zero_add _).symm
    | ⟨2, _⟩ => rfl
    | ⟨3, _⟩ => exact (Nat.zero_add _).symm
  · match a with
    | ⟨0, _⟩ => exact (Nat.zero_add _).symm
    | ⟨1, _⟩ => exact (Nat.zero_add _).symm
    | ⟨2, _⟩ => exact (Nat.zero_add _).symm
    | ⟨3, _⟩ => rfl

theorem half_read' {o : ℕ} (x : FVec Ideal S2x8x16640x128 .f32) (hx : Finite4 (n0 := 2) (n1 := 8) (n2 := 16640) (n3 := 128) x)
    (h1 : S2x8x16640x128.Slices ![0, 0, 0, o] S2x8x16640x64) (b : Fin 2) (h : Fin 8) (i : Fin 16640) (d : Fin 64) (ho : o ≤ 64) :
    extractStridedSlice S2x8x16640x64 ![0, 0, 0, o] x h1 (ix4 b h i d)
      = (entry (n0 := 2) (n1 := 8) (n2 := 16640) (n3 := 128) x b.val h.val i.val (o + d.val) : EReal) := by
  have hd := d.isLt
  refine (extractStridedSlice_apply _ _ h1 _ (ix4 b h i ⟨o + d.val, by omega⟩) fun a => ?_).trans (entry_eq hx b h _ _)
  match a with
  | ⟨0, _⟩ => exact (Nat.zero_add _).symm
  | ⟨1, _⟩ => exact (Nat.zero_add _).symm
  | ⟨2, _⟩ => exact (Nat.zero_add _).symm
  | ⟨3, _⟩ => rfl

theorem zero_lane {x : ℕ → ℝ} (d : ℕ) : (x (0 + d) : EReal) = (x d : EReal) := by rw [Nat.zero_add]

/-- The result of the reference, entry by entry. -/
theorem res_apply (q k v : FVec Ideal S2x8x16640x128 .f32) (l : FVec Ideal S1x4x64 .f32) (g : FVec Ideal S1x128 .f32)
    (hq : Finite4 (n0 := 2) (n1 := 8) (n2 := 16640) (n3 := 128) q) (hk : Finite4 (n0 := 2) (n1 := 8) (n2 := 16640) (n3 := 128) k)
    (hv : Finite4 (n0 := 2) (n1 := 8) (n2 := 16640) (n3 := 128) v) (hl : ∀ a d, ∃ y : ℝ, l (ix3 0 a d) = (y : EReal)) (i : S2x16640x1024.Idx) :
    (concatenate S2x16640x1024 1 [⟨S2x256x1024, ctxCall q k v l g⟩, ⟨S2x16384x1024, latCall q k v l g⟩] concatenates_S2x256x1024_S2x16384x1024_S2x16640x1024_d1) i
      = diffOut (entry (n0 := 2) (n1 := 8) (n2 := 16640) (n3 := 128) q) (entry (n0 := 2) (n1 := 8) (n2 := 16640) (n3 := 128) k) (entry (n0 := 2) (n1 := 8) (n2 := 16640) (n3 := 128) v)
          (fun a d => l (ix3 0 a d)) (fun d => g (ix2 0 d)) (i 0).val ((i 2).val / 128) (i 1).val ⟨(i 2).val % 128, Nat.mod_lt _ (by norm_num)⟩ := by
  obtain ⟨b, t, e, rfl⟩ : ∃ (b : Fin 2) (t : Fin 16640) (e : Fin 1024), i = ix3 b t e := ⟨i 0, i 1, i 2, ValueIdx.eq_ix3 i⟩
  obtain ⟨y, hy⟩ := mixing_real (fun a d => l (ix3 0 a d)) hl
  have hg : (fun d : Fin 128 => shapeCast S128 g shapeCasts_S1x128_S128 (ix1 d)) = fun d => g (ix2 0 d) := funext fun d => shapeCast_1a_a_apply _ _ _
  by_cases ht : t.val < 256
  · refine (concatenate_pair_apply_left (t := S2x16640x1024) (s₁ := S2x256x1024) (s₂ := S2x16384x1024) 1 _ _ _ _ rfl (ix3 b ⟨t.val, ht⟩ e) ?_).trans ?_
    · intro a
      match a with
      | ⟨0, _⟩ => rfl
      | ⟨1, _⟩ => rfl
      | ⟨2, _⟩ => rfl
    refine (plainCall_apply ctxFacts (by norm_num) _ _ _ _ _ _ _ (entry (n0 := 2) (n1 := 8) (n2 := 16640) (n3 := 128) q) (entry (n0 := 2) (n1 := 8) (n2 := 16640) (n3 := 128) k)
      (entry (n0 := 2) (n1 := 8) (n2 := 16640) (n3 := 128) v) (fun a d => l (ix3 0 a d)) 0 ⟨t.val, ht⟩ ?_ ?_ ?_ ?_ ?_ y (plainMix_apply l) hy ?_ b e).trans ?_
    · exact fun b h d => (half_read (L := 256) q hq _ _ b h _ d (by norm_num) (by norm_num)).trans (zero_lane _)
    · exact fun b h d => half_read (L := 256) q hq _ _ b h _ d (by norm_num) (by norm_num)
    · exact fun b h j d => (half_read (L := 256) k hk _ _ b h _ d (by norm_num) (by norm_num)).trans (by rw [Nat.zero_add, Nat.zero_add])
    · exact fun b h j d => (half_read (L := 256) k hk _ _ b h _ d (by norm_num) (by norm_num)).trans (by rw [Nat.zero_add])
    · intro b h j d
      have hj := j.isLt
      refine (extractStridedSlice_apply _ _ _ _ (ix4 b h ⟨j.val, by omega⟩ d) fun a => ?_).trans (entry_eq hv b h _ _)
      match a with
      | ⟨0, _⟩ => exact (Nat.zero_add _).symm
      | ⟨1, _⟩ => exact (Nat.zero_add _).symm
      | ⟨2, _⟩ => exact (Nat.zero_add _).symm
      | ⟨3, _⟩ => exact (Nat.zero_add _).symm
    · unfold reachOf; rw [if_pos (by show 0 + t.val < 256; omega)]
    · rw [hg]
      show diffOut _ _ _ _ _ _ _ (0 + t.val) _ = diffOut _ _ _ _ _ _ _ t.val _
      rw [Nat.zero_add]
  · have htl := t.isLt
    refine (concatenate_pair_apply_right (t := S2x16640x1024) (s₁ := S2x256x1024) (s₂ := S2x16384x1024) 1 _ _ _ _ rfl rfl (ix3 b ⟨t.val - 256, by omega⟩ e) ?_ ?_).trans ?_
    · intro a ha
      match a with
      | ⟨0, _⟩ => rfl
      | ⟨1, _⟩ => exact absurd rfl ha
      | ⟨2, _⟩ => rfl
    · show t.val - 256 + 256 = t.val; omega
    refine (plainCall_apply latFacts (by norm_num) _ _ _ _ _ _ _ (entry (n0 := 2) (n1 := 8) (n2 := 16640) (n3 := 128) q) (entry (n0 := 2) (n1 := 8) (n2 := 16640) (n3 := 128) k)
      (entry (n0 := 2) (n1 := 8) (n2 := 16640) (n3 := 128) v) (fun a d => l (ix3 0 a d)) 256 ⟨t.val - 256, by omega⟩ ?_ ?_ ?_ ?_ ?_ y (plainMix_apply l) hy ?_ b e).trans ?_
    · exact fun b h d => (half_read (L := 16384) q hq _ _ b h _ d (by norm_num) (by norm_num)).trans (zero_lane _)
    · exact fun b h d => half_read (L := 16384) q hq _ _ b h _ d (by norm_num) (by norm_num)
    · exact fun b h j d => (half_read' k hk _ b h _ d (by norm_num)).trans (zero_lane _)
    · exact fun b h j d => half_read' k hk _ b h _ d (by norm_num)
    · exact fun b h j d => entry_eq hv b h j d
    · unfold reachOf; rw [if_neg (by show ¬ 256 + (t.val - 256) < 256; omega)]
    · rw [hg]
      show diffOut _ _ _ _ _ _ _ (256 + (t.val - 256)) _ = diffOut _ _ _ _ _ _ _ t.val _
      rw [show 256 + (t.val - 256) = t.val by omega]

end Cert.Proof.DiffRef

end

end
-- ==== Proof.DiffClaim.lean ====
/-
  The kernel and the reference leave the same result: both leave, entry by entry, the difference of two softmax means under
  the head's norm.
-/
module

public import proofs.«01_k».proof.Defs
public import proofs.«01_k».proof.Proof.DiffFrame
public import proofs.«01_k».proof.Proof.DiffValue
public import proofs.«01_k».proof.Proof.DiffRef
public import Idealize.ShloMosaic.Lib.Claim
public import Idealize.ShloMosaic.Lib.ReduceAll

@[expose] public section

set_option maxRecDepth 16384

noncomputable section

namespace Cert.Proof.Diff

open Cert.Attn
open Idealize.ShloMosaic hiding ix0 ix1 ix2 ix3 ix4 ix5
open Idealize.ShloMosaic.TcCoe Idealize.ShloMosaic.ValueIdx Idealize.SL.Sem

theorem inf_eq : Ideal.ofBits .f32 0x7F800000#32 = (⊤ : EReal) := by
  simp [Ideal.ofBits, Ideal.ieee]

/-- A number smaller in size than infinity is real. -/
theorem real_of_lt {x : EReal} (h : FloatOps.cmpf (F := Ideal) (φ := .f32) .olt (FloatOps.hostAbsf (F := Ideal) (φ := .f32) x) (Ideal.ofBits .f32 0x7F800000#32) = 1#1) : ∃ y : ℝ, x = (y : EReal) := by
  rw [inf_eq] at h
  have h' : max x (-x) < ⊤ := by
    by_contra hn
    have : Ideal.cmp .olt (max x (-x)) ⊤ = 0#1 := by simp only [Ideal.cmp]; rw [decide_eq_false hn]; rfl
    exact absurd (h.symm.trans this) (by decide)
  induction x using EReal.rec with
  | bot => exact absurd h' (by simp)
  | coe y => exact ⟨y, rfl⟩
  | top => exact absurd h' (by simp)

theorem real_at {t : Shape} (x : FVec Ideal t .f32) (hb : (⟨0, ![]⟩ : Shape).BroadcastsInDim t ![]) (i : t.Idx)
    (h : cmpf .olt (Host.absf x) (broadcastInDim t ![] hb (constant ⟨0, ![]⟩ .f32 0x7F800000#32)) i = 1#1) : ∃ y : ℝ, x i = (y : EReal) := by
  refine real_of_lt (Eq.trans (congrArg (FloatOps.cmpf (F := Ideal) (φ := .f32) .olt (FloatOps.hostAbsf (F := Ideal) (φ := .f32) (x i))) ?_) h)
  exact (broadcastInDim_scalar_apply hb (constant (F := Ideal) ⟨0, ![]⟩ .f32 0x7F800000#32) i).symm

/-- What the precondition says of the arguments. -/
theorem finite_of_pre [hP : Cert.Pre_finite_inputs.Facts] (x0 x1 x2 : FVec Ideal Cert.Pre_finite_inputs.S2x8x16640x128 .f32) (x3 : FVec Ideal Cert.Pre_finite_inputs.S1x4x64 .f32)
    (x4 : FVec Ideal Cert.Pre_finite_inputs.S1x128 .f32) (h : Cert.Pre_finite_inputs.fn (F := Ideal) x0 x1 x2 x3 x4 = fun _ => 1#1) :
    Finite4 (n0 := 2) (n1 := 8) (n2 := 16640) (n3 := 128) x0 ∧ Finite4 (n0 := 2) (n1 := 8) (n2 := 16640) (n3 := 128) x1
      ∧ Finite4 (n0 := 2) (n1 := 8) (n2 := 16640) (n3 := 128) x2 ∧ ∀ a d, ∃ y : ℝ, x3 (ix3 0 a d) = (y : EReal) := by
  have split : ∀ i : Cert.Pre_finite_inputs.S2x8x16640x128.Idx, (∃ y : ℝ, x0 i = (y : EReal)) ∧ (∃ y : ℝ, x1 i = (y : EReal)) ∧ (∃ y : ℝ, x2 i = (y : EReal)) ∧ ∀ a d, ∃ y : ℝ, x3 (ix3 0 a d) = (y : EReal) := by
    intro i
    obtain ⟨h1, h3⟩ := IntOp.andi_eq_one.1 (congrFun h i)
    obtain ⟨h1, h2⟩ := IntOp.andi_eq_one.1 h1
    obtain ⟨h0, h1⟩ := IntOp.andi_eq_one.1 h1
    refine ⟨real_at x0 _ i h0, real_at x1 _ i h1, real_at x2 _ i h2, fun a d => ?_⟩
    haveI : Subsingleton Cert.Pre_finite_inputs.S_.Idx := ⟨fun a b => funext fun k => k.elim0⟩
    have h4 := (broadcastInDim_scalar_apply _ _ _).symm.trans h3
    have h5 := Host.reduce_andi_all _ _ _ _ _ h4 (ix3 0 a d)
    exact real_at x3 _ _ h5
  exact ⟨fun i => (split i).1, fun i => (split i).2.1, fun i => (split i).2.2.1, (split (ix4 0 0 0 0)).2.2.2⟩

theorem algebraic_KernelIdeal [hP : Cert.Pre_finite_inputs.Facts] : Cert.algebraic_KernelIdeal_ReferenceIdeal_pre_finite_inputs := by
  intro m g m' g' hpre hargs
  refine ⟨result m, ?_, ?_⟩
  · refine (θ_run Cert.KernelIdeal.defs _ _).mono (fun r h c => ?_) (θ_run_and (run_main (F := Ideal) m g) (frame_any (F := Ideal) m g))
    obtain ⟨⟨hpost, _⟩, hframe, _⟩ := h
    obtain ⟨h0, h1, h2, h3⟩ := finite_of_pre _ _ _ _ _ (hpre c)
    exact ⟨(hpost.out_eq c 5).trans (final_eq m c ⟨h0, h1, h2⟩), hframe c⟩
  · refine (θ_run Cert.ReferenceIdeal.defs _ _).mono (fun r h c => ?_) (Cert.ReferenceIdeal.Value.run (F := Ideal) m' g')
    refine ⟨(h c).1.trans ?_, (h c).2⟩
    obtain ⟨h0, h1, h2, h3⟩ := finite_of_pre _ _ _ _ _ (hpre c)
    obtain ⟨e0, e1, e2, e3, e4⟩ := hargs c
    rw [DiffRef.res_eq, e0, e1, e2, e3, e4]
    exact funext fun i => DiffRef.res_apply _ _ _ _ _ h0 h1 h2 h3 i

end Cert.Proof.Diff

end

end
-- ==== Proof.Blocks.lean ====
/-
  ARRAYS HELD AS FOUR BLOCKS: a 1024-row array as four blocks of 256 rows, a 512-lane array as four blocks of 128 lanes.
  A load of a block of an owned memref continues at the block; a store of a block replaces it and leaves the others.
-/
module

public import proofs.«01_k».proof.Proof.Steps
public import Idealize.ShloMosaic.Lib.ValueIdx

@[expose] public section

noncomputable section

namespace Cert.Attn

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U] {Lvl : Type} {Λ : Labels}
variable [Preorder Lvl] {defs : Defs nD τ sig Val Λ} (𝒱 : Variants) (c : Thread nD τ) (bd : Option 𝒱.V) (E : Set Name)
variable {s : Shape} {e : EltTy} {α : Type} {Q : α → sProp (MT nD τ sig Ix Val Name U Lvl)}

/-- A load through a rectangle continues at any array equal to what it reads. -/
theorem load_as {cs : CoreSpace} {m : Memref sig c.2.kind cs s e} {r : LoadRect s} {hl : m.view.LoadsAt r}
    {k : (r.shape.Idx → Val e) → Prog (TpuEff nD τ sig Val Λ c.2) α} {X : s.Idx → Val e} {Y : r.shape.Idx → Val e}
    (h : pick r X = Y) :
    owns c m fullShare X
      ⊢ iprop((owns c m fullShare X -∗ wp frame (wpE defs 𝒱 c bd) E (k Y) Q)
        -∗ wp frame (wpE defs 𝒱 c bd) E (Prog.lift (.load m r hl) >>= k) Q) := by
  subst h
  exact load_part 𝒱 c bd E

/-- A store through a rectangle leaves the array that is the payload on the rectangle and what it was elsewhere. -/
theorem store_as {cs : CoreSpace} {m : Memref sig c.2.kind cs s e} {r : Rect s}
    {w : r.shape.Idx → Val e} {hx : (m.access r).Stores Finset.univ}
    {hm : Finset.univ = Finset.univ ∨ ∀ a, r.stride a = 1}
    {k : PUnit → Prog (TpuEff nD τ sig Val Λ c.2) α} {X Y : s.Idx → Val e}
    (hin : ∀ j, Y (r.emb j) = w j) (hout : ∀ i, (∀ j, r.emb j ≠ i) → Y i = X i) :
    owns c m fullShare X
      ⊢ iprop((owns c m fullShare Y -∗ wp frame (wpE defs 𝒱 c bd) E (k ⟨⟩) Q)
        -∗ wp frame (wpE defs 𝒱 c bd) E (Prog.lift (.store m r w Finset.univ hx hm) >>= k) Q) := by
  unfold owns
  iintro ⟨%f, %hf, H⟩ K
  iapply (wp_store 𝒱 c bd E (Q := Q) (w := w) (hx := hx) (hm := hm) (k := k) (Mk := Finset.univ) (S := m.view.set) (f := f)
    (by rw [View.setOn_univ, View.set_slice]; exact View.setOn_subset_set m.view _)) $$ [H]
  · iexact H
  iintro H
  iapply K
  iexists ((m.access r).write Val f w Finset.univ)
  isplitr
  · ipureintro
    funext i
    by_cases hi : ∃ j, r.emb j = i
    · obtain ⟨j, rfl⟩ := hi
      exact (View.read_slice_write_emb (v := m.view) r f w (Finset.mem_univ j)).trans (hin j).symm
    · have hn : ∀ j, r.emb j ≠ i := fun j hj => hi ⟨j, hj⟩
      refine (View.read_slice_write_of_not_mem (v := m.view) r f w Finset.univ (y := i) ?_).trans ?_
      · intro hmem
        obtain ⟨j, -, hj⟩ := Finset.mem_map.mp hmem
        exact hn j hj
      · rw [hf]; exact (hout i hn).symm
  iexact H

/-! ### Four blocks of rows -/

/-- The row and column within its block of an index of the 1024-row array. -/
def inRows (j : (⟨2, ![1024, 3328]⟩ : Shape).Idx) : (⟨2, ![256, 3328]⟩ : Shape).Idx :=
  ix2 (⟨(j 0).val % 256, Nat.mod_lt _ (by decide)⟩ : Fin 256) (j 1 : Fin 3328)

/-- The block of an index of the 1024-row array. -/
def rowsOf (j : (⟨2, ![1024, 3328]⟩ : Shape).Idx) : Fin 4 :=
  ⟨(j 0).val / 256, by have : (j 0).val < 1024 := (j 0).isLt; omega⟩

/-- Four blocks of 256 rows, one under the other. -/
def stack {β : Type} (x : Fin 4 → (⟨2, ![256, 3328]⟩ : Shape).Idx → β) : (⟨2, ![1024, 3328]⟩ : Shape).Idx → β :=
  fun j => x (rowsOf j) (inRows j)

theorem rows_emb (g : Fin 4) {off : Fin 2 → ℕ} (h0 : off 0 = 256 * g.val) (h1 : off 1 = 0)
    (inb : ∀ a, off a + (![256, 3328] : Fin 2 → ℕ) a ≤ (⟨2, ![1024, 3328]⟩ : Shape).size a)
    (j : (⟨2, ![256, 3328]⟩ : Shape).Idx) :
    rowsOf ((Rect.unit (s := (⟨2, ![1024, 3328]⟩ : Shape)) off ![256, 3328] inb).emb j) = g
      ∧ inRows ((Rect.unit (s := (⟨2, ![1024, 3328]⟩ : Shape)) off ![256, 3328] inb).emb j) = j := by
  have hj : (j 0).val < 256 := (j 0).isLt
  have e0 : (((Rect.unit (s := (⟨2, ![1024, 3328]⟩ : Shape)) off ![256, 3328] inb).emb j) 0).val = off 0 + 1 * (j 0).val := rfl
  have e1 : (((Rect.unit (s := (⟨2, ![1024, 3328]⟩ : Shape)) off ![256, 3328] inb).emb j) 1).val = off 1 + 1 * (j 1).val := rfl
  rw [h0] at e0; rw [h1] at e1
  constructor
  · apply Fin.ext; show _ / 256 = _; rw [e0]; omega
  · funext a; apply Fin.ext
    match a with
    | ⟨0, _⟩ => show _ % 256 = (j 0).val; rw [e0]; omega
    | ⟨1, _⟩ => exact e1.trans (show 0 + 1 * (j 1).val = (j 1).val by omega)

theorem rows_pick {β : Type} (g : Fin 4) {off : Fin 2 → ℕ} (h0 : off 0 = 256 * g.val) (h1 : off 1 = 0)
    (inb : ∀ a, off a + (![256, 3328] : Fin 2 → ℕ) a ≤ (⟨2, ![1024, 3328]⟩ : Shape).size a)
    (x : Fin 4 → (⟨2, ![256, 3328]⟩ : Shape).Idx → β) :
    pick (Rect.unit (s := (⟨2, ![1024, 3328]⟩ : Shape)) off ![256, 3328] inb).toLoadRect (stack x) = x g := by
  funext j
  obtain ⟨a, b⟩ := rows_emb g h0 h1 inb j
  show x (rowsOf _) (inRows _) = x g j
  exact (congrArg (fun t => x t _) a).trans (congrArg (x g) b)

theorem rows_in {β : Type} (g : Fin 4) {off : Fin 2 → ℕ} (h0 : off 0 = 256 * g.val) (h1 : off 1 = 0)
    (inb : ∀ a, off a + (![256, 3328] : Fin 2 → ℕ) a ≤ (⟨2, ![1024, 3328]⟩ : Shape).size a)
    (x : Fin 4 → (⟨2, ![256, 3328]⟩ : Shape).Idx → β) (w : (⟨2, ![256, 3328]⟩ : Shape).Idx → β)
    (j : (⟨2, ![256, 3328]⟩ : Shape).Idx) :
    stack (Function.update x g w) ((Rect.unit (s := (⟨2, ![1024, 3328]⟩ : Shape)) off ![256, 3328] inb).emb j) = w j :=
  (congrFun (rows_pick g h0 h1 inb (Function.update x g w)) j).trans (congrFun (Function.update_self g w x) j)

theorem rows_out {β : Type} (g : Fin 4) {off : Fin 2 → ℕ} (h0 : off 0 = 256 * g.val) (h1 : off 1 = 0)
    (inb : ∀ a, off a + (![256, 3328] : Fin 2 → ℕ) a ≤ (⟨2, ![1024, 3328]⟩ : Shape).size a)
    (x : Fin 4 → (⟨2, ![256, 3328]⟩ : Shape).Idx → β) (w : (⟨2, ![256, 3328]⟩ : Shape).Idx → β)
    (i : (⟨2, ![1024, 3328]⟩ : Shape).Idx)
    (h : ∀ j, (Rect.unit (s := (⟨2, ![1024, 3328]⟩ : Shape)) off ![256, 3328] inb).emb j ≠ i) :
    stack (Function.update x g w) i = stack x i := by
  have hne : rowsOf i ≠ g := by
    intro hg
    apply h (inRows i)
    funext a; apply Fin.ext
    have hv : (i 0).val / 256 = g.val := congrArg Fin.val hg
    match a with
    | ⟨0, _⟩ => show off 0 + 1 * ((i 0).val % 256) = (i 0).val; rw [h0]; omega
    | ⟨1, _⟩ => show off 1 + 1 * (i 1).val = (i 1).val; rw [h1]; omega
  show Function.update x g w (rowsOf i) (inRows i) = x (rowsOf i) (inRows i)
  rw [Function.update_of_ne hne]

/-- Every 1024-row array is four blocks of rows. -/
theorem stack_self {β : Type} (Z : (⟨2, ![1024, 3328]⟩ : Shape).Idx → β) : ∃ x, stack x = Z := by
  refine ⟨fun g j => Z (ix2 (⟨256 * g.val + (j 0).val, ?_⟩ : Fin 1024) (j 1 : Fin 3328)), ?_⟩
  · have := g.isLt; have : (j 0).val < 256 := (j 0).isLt; omega
  · funext i
    refine congrArg Z ?_
    funext a; apply Fin.ext
    match a with
    | ⟨0, _⟩ => show 256 * ((i 0).val / 256) + (i 0).val % 256 = (i 0).val; omega
    | ⟨1, _⟩ => rfl

/-! ### Four blocks of lanes -/

/-- The row and lane within its block of an index of the 512-lane array. -/
def inLanes (j : (⟨3, ![1, 256, 512]⟩ : Shape).Idx) : (⟨3, ![1, 256, 128]⟩ : Shape).Idx :=
  ix3 (0 : Fin 1) (j 1 : Fin 256) (⟨(j 2).val % 128, Nat.mod_lt _ (by decide)⟩ : Fin 128)

/-- The block of an index of the 512-lane array. -/
def lanesOf (j : (⟨3, ![1, 256, 512]⟩ : Shape).Idx) : Fin 4 :=
  ⟨(j 2).val / 128, by have : (j 2).val < 512 := (j 2).isLt; omega⟩

/-- Four blocks of 128 lanes, side by side. -/
def beside {β : Type} (x : Fin 4 → (⟨3, ![1, 256, 128]⟩ : Shape).Idx → β) : (⟨3, ![1, 256, 512]⟩ : Shape).Idx → β :=
  fun j => x (lanesOf j) (inLanes j)

theorem lanes_emb (g : Fin 4) {off : Fin 3 → ℕ} (h0 : off 0 = 0) (h1 : off 1 = 0) (h2 : off 2 = 128 * g.val)
    (inb : ∀ a, off a + (![1, 256, 128] : Fin 3 → ℕ) a ≤ (⟨3, ![1, 256, 512]⟩ : Shape).size a)
    (j : (⟨3, ![1, 256, 128]⟩ : Shape).Idx) :
    lanesOf ((Rect.unit (s := (⟨3, ![1, 256, 512]⟩ : Shape)) off ![1, 256, 128] inb).emb j) = g
      ∧ inLanes ((Rect.unit (s := (⟨3, ![1, 256, 512]⟩ : Shape)) off ![1, 256, 128] inb).emb j) = j := by
  have hj : (j 2).val < 128 := (j 2).isLt
  have hz : (j 0).val < 1 := (j 0).isLt
  have e1 : (((Rect.unit (s := (⟨3, ![1, 256, 512]⟩ : Shape)) off ![1, 256, 128] inb).emb j) 1).val = off 1 + 1 * (j 1).val := rfl
  have e2 : (((Rect.unit (s := (⟨3, ![1, 256, 512]⟩ : Shape)) off ![1, 256, 128] inb).emb j) 2).val = off 2 + 1 * (j 2).val := rfl
  rw [h1] at e1; rw [h2] at e2
  constructor
  · apply Fin.ext; show _ / 128 = _; rw [e2]; omega
  · funext a; apply Fin.ext
    match a with
    | ⟨0, _⟩ => show 0 = (j 0).val; omega
    | ⟨1, _⟩ => exact e1.trans (show 0 + 1 * (j 1).val = (j 1).val by omega)
    | ⟨2, _⟩ => show _ % 128 = (j 2).val; rw [e2]; omega

theorem lanes_pick {β : Type} (g : Fin 4) {off : Fin 3 → ℕ} (h0 : off 0 = 0) (h1 : off 1 = 0) (h2 : off 2 = 128 * g.val)
    (inb : ∀ a, off a + (![1, 256, 128] : Fin 3 → ℕ) a ≤ (⟨3, ![1, 256, 512]⟩ : Shape).size a)
    (x : Fin 4 → (⟨3, ![1, 256, 128]⟩ : Shape).Idx → β) :
    pick (Rect.unit (s := (⟨3, ![1, 256, 512]⟩ : Shape)) off ![1, 256, 128] inb).toLoadRect (beside x) = x g := by
  funext j
  obtain ⟨a, b⟩ := lanes_emb g h0 h1 h2 inb j
  show x (lanesOf _) (inLanes _) = x g j
  exact (congrArg (fun t => x t _) a).trans (congrArg (x g) b)

theorem lanes_in {β : Type} (g : Fin 4) {off : Fin 3 → ℕ} (h0 : off 0 = 0) (h1 : off 1 = 0) (h2 : off 2 = 128 * g.val)
    (inb : ∀ a, off a + (![1, 256, 128] : Fin 3 → ℕ) a ≤ (⟨3, ![1, 256, 512]⟩ : Shape).size a)
    (x : Fin 4 → (⟨3, ![1, 256, 128]⟩ : Shape).Idx → β) (w : (⟨3, ![1, 256, 128]⟩ : Shape).Idx → β)
    (j : (⟨3, ![1, 256, 128]⟩ : Shape).Idx) :
    beside (Function.update x g w) ((Rect.unit (s := (⟨3, ![1, 256, 512]⟩ : Shape)) off ![1, 256, 128] inb).emb j) = w j :=
  (congrFun (lanes_pick g h0 h1 h2 inb (Function.update x g w)) j).trans (congrFun (Function.update_self g w x) j)

theorem lanes_out {β : Type} (g : Fin 4) {off : Fin 3 → ℕ} (h0 : off 0 = 0) (h1 : off 1 = 0) (h2 : off 2 = 128 * g.val)
    (inb : ∀ a, off a + (![1, 256, 128] : Fin 3 → ℕ) a ≤ (⟨3, ![1, 256, 512]⟩ : Shape).size a)
    (x : Fin 4 → (⟨3, ![1, 256, 128]⟩ : Shape).Idx → β) (w : (⟨3, ![1, 256, 128]⟩ : Shape).Idx → β)
    (i : (⟨3, ![1, 256, 512]⟩ : Shape).Idx)
    (h : ∀ j, (Rect.unit (s := (⟨3, ![1, 256, 512]⟩ : Shape)) off ![1, 256, 128] inb).emb j ≠ i) :
    beside (Function.update x g w) i = beside x i := by
  have hne : lanesOf i ≠ g := by
    intro hg
    apply h (inLanes i)
    funext a; apply Fin.ext
    have hv : (i 2).val / 128 = g.val := congrArg Fin.val hg
    have hz : (i 0).val < 1 := (i 0).isLt
    match a with
    | ⟨0, _⟩ => show off 0 + 1 * 0 = (i 0).val; rw [h0]; omega
    | ⟨1, _⟩ => show off 1 + 1 * (i 1).val = (i 1).val; rw [h1]; omega
    | ⟨2, _⟩ => show off 2 + 1 * ((i 2).val % 128) = (i 2).val; rw [h2]; omega
  show Function.update x g w (lanesOf i) (inLanes i) = x (lanesOf i) (inLanes i)
  rw [Function.update_of_ne hne]

/-- Every 512-lane array is four blocks of lanes. -/
theorem beside_self {β : Type} (Z : (⟨3, ![1, 256, 512]⟩ : Shape).Idx → β) : ∃ x, beside x = Z := by
  refine ⟨fun g j => Z (ix3 (0 : Fin 1) (j 1 : Fin 256) (⟨128 * g.val + (j 2).val, ?_⟩ : Fin 512)), ?_⟩
  · have := g.isLt; have : (j 2).val < 128 := (j 2).isLt; omega
  · funext i
    refine congrArg Z ?_
    funext a; apply Fin.ext
    have hz : (i 0).val < 1 := (i 0).isLt
    match a with
    | ⟨0, _⟩ => show 0 = (i 0).val; omega
    | ⟨1, _⟩ => rfl
    | ⟨2, _⟩ => show 128 * ((i 2).val / 128) + (i 2).val % 128 = (i 2).val; omega

/-- Four blocks, the first, second, third or fourth replaced. -/
theorem set_0 {β : Type} (a b c d w : β) : Function.update (![a, b, c, d] : Fin 4 → β) 0 w = ![w, b, c, d] := by
  funext g; fin_cases g <;> rfl
theorem set_1 {β : Type} (a b c d w : β) : Function.update (![a, b, c, d] : Fin 4 → β) 1 w = ![a, w, c, d] := by
  funext g; fin_cases g <;> rfl
theorem set_2 {β : Type} (a b c d w : β) : Function.update (![a, b, c, d] : Fin 4 → β) 2 w = ![a, b, w, d] := by
  funext g; fin_cases g <;> rfl
theorem set_3 {β : Type} (a b c d w : β) : Function.update (![a, b, c, d] : Fin 4 → β) 3 w = ![a, b, c, w] := by
  funext g; fin_cases g <;> rfl
theorem four_self {β : Type} (x : Fin 4 → β) : ![x 0, x 1, x 2, x 3] = x := by
  funext g; fin_cases g <;> rfl

variable {cs : CoreSpace}

/-! ### The loads and stores of a block -/

/-- A load of the first block of rows. -/
theorem load_rows_0 {m : Memref sig c.2.kind cs ⟨2, ![1024, 3328]⟩ e} {inb : ∀ a, (![0, 0] : Fin 2 → ℕ) a + (![256, 3328] : Fin 2 → ℕ) a ≤ (⟨2, ![1024, 3328]⟩ : Shape).size a}
    {hl : m.view.LoadsAt (Rect.unit (s := (⟨2, ![1024, 3328]⟩ : Shape)) ![0, 0] ![256, 3328] inb).toLoadRect}
    {k : ((⟨2, ![256, 3328]⟩ : Shape).Idx → Val e) → Prog (TpuEff nD τ sig Val Λ c.2) α} {a b p d : (⟨2, ![256, 3328]⟩ : Shape).Idx → Val e} :
    owns c m fullShare (stack ![a, b, p, d])
      ⊢ iprop((owns c m fullShare (stack ![a, b, p, d]) -∗ wp frame (wpE defs 𝒱 c bd) E (k a) Q)
        -∗ wp frame (wpE defs 𝒱 c bd) E (Prog.lift (.load m (Rect.unit (s := (⟨2, ![1024, 3328]⟩ : Shape)) ![0, 0] ![256, 3328] inb).toLoadRect hl) >>= k) Q) :=
  load_as 𝒱 c bd E (rows_pick 0 rfl rfl inb ![a, b, p, d])

/-- A store of the first block of rows. -/
theorem store_rows_0 {m : Memref sig c.2.kind cs ⟨2, ![1024, 3328]⟩ e} {inb : ∀ a, (![0, 0] : Fin 2 → ℕ) a + (![256, 3328] : Fin 2 → ℕ) a ≤ (⟨2, ![1024, 3328]⟩ : Shape).size a}
    {w : (⟨2, ![256, 3328]⟩ : Shape).Idx → Val e} {hx : (m.access (Rect.unit (s := (⟨2, ![1024, 3328]⟩ : Shape)) ![0, 0] ![256, 3328] inb)).Stores Finset.univ}
    {hm : Finset.univ = Finset.univ ∨ ∀ a, (Rect.unit (s := (⟨2, ![1024, 3328]⟩ : Shape)) ![0, 0] ![256, 3328] inb).stride a = 1}
    {k : PUnit → Prog (TpuEff nD τ sig Val Λ c.2) α} {a b p d : (⟨2, ![256, 3328]⟩ : Shape).Idx → Val e} :
    owns c m fullShare (stack ![a, b, p, d])
      ⊢ iprop((owns c m fullShare (stack ![w, b, p, d]) -∗ wp frame (wpE defs 𝒱 c bd) E (k ⟨⟩) Q)
        -∗ wp frame (wpE defs 𝒱 c bd) E (Prog.lift (.store m (Rect.unit (s := (⟨2, ![1024, 3328]⟩ : Shape)) ![0, 0] ![256, 3328] inb) w Finset.univ hx hm) >>= k) Q) := by
  rw [← set_0 a b p d w]
  exact store_as 𝒱 c bd E (rows_in 0 rfl rfl inb ![a, b, p, d] w) (rows_out 0 rfl rfl inb ![a, b, p, d] w)

/-- A store of the first block of lanes. -/
theorem store_lanes_0 {m : Memref sig c.2.kind cs ⟨3, ![1, 256, 512]⟩ e} {inb : ∀ a, (![0, 0, 0] : Fin 3 → ℕ) a + (![1, 256, 128] : Fin 3 → ℕ) a ≤ (⟨3, ![1, 256, 512]⟩ : Shape).size a}
    {w : (⟨3, ![1, 256, 128]⟩ : Shape).Idx → Val e} {hx : (m.access (Rect.unit (s := (⟨3, ![1, 256, 512]⟩ : Shape)) ![0, 0, 0] ![1, 256, 128] inb)).Stores Finset.univ}
    {hm : Finset.univ = Finset.univ ∨ ∀ a, (Rect.unit (s := (⟨3, ![1, 256, 512]⟩ : Shape)) ![0, 0, 0] ![1, 256, 128] inb).stride a = 1}
    {k : PUnit → Prog (TpuEff nD τ sig Val Λ c.2) α} {a b p d : (⟨3, ![1, 256, 128]⟩ : Shape).Idx → Val e} :
    owns c m fullShare (beside ![a, b, p, d])
      ⊢ iprop((owns c m fullShare (beside ![w, b, p, d]) -∗ wp frame (wpE defs 𝒱 c bd) E (k ⟨⟩) Q)
        -∗ wp frame (wpE defs 𝒱 c bd) E (Prog.lift (.store m (Rect.unit (s := (⟨3, ![1, 256, 512]⟩ : Shape)) ![0, 0, 0] ![1, 256, 128] inb) w Finset.univ hx hm) >>= k) Q) := by
  rw [← set_0 a b p d w]
  exact store_as 𝒱 c bd E (lanes_in 0 rfl rfl rfl inb ![a, b, p, d] w) (lanes_out 0 rfl rfl rfl inb ![a, b, p, d] w)

/-- A load of the second block of rows. -/
theorem load_rows_1 {m : Memref sig c.2.kind cs ⟨2, ![1024, 3328]⟩ e} {inb : ∀ a, (![256, 0] : Fin 2 → ℕ) a + (![256, 3328] : Fin 2 → ℕ) a ≤ (⟨2, ![1024, 3328]⟩ : Shape).size a}
    {hl : m.view.LoadsAt (Rect.unit (s := (⟨2, ![1024, 3328]⟩ : Shape)) ![256, 0] ![256, 3328] inb).toLoadRect}
    {k : ((⟨2, ![256, 3328]⟩ : Shape).Idx → Val e) → Prog (TpuEff nD τ sig Val Λ c.2) α} {a b p d : (⟨2, ![256, 3328]⟩ : Shape).Idx → Val e} :
    owns c m fullShare (stack ![a, b, p, d])
      ⊢ iprop((owns c m fullShare (stack ![a, b, p, d]) -∗ wp frame (wpE defs 𝒱 c bd) E (k b) Q)
        -∗ wp frame (wpE defs 𝒱 c bd) E (Prog.lift (.load m (Rect.unit (s := (⟨2, ![1024, 3328]⟩ : Shape)) ![256, 0] ![256, 3328] inb).toLoadRect hl) >>= k) Q) :=
  load_as 𝒱 c bd E (rows_pick 1 rfl rfl inb ![a, b, p, d])

/-- A store of the second block of rows. -/
theorem store_rows_1 {m : Memref sig c.2.kind cs ⟨2, ![1024, 3328]⟩ e} {inb : ∀ a, (![256, 0] : Fin 2 → ℕ) a + (![256, 3328] : Fin 2 → ℕ) a ≤ (⟨2, ![1024, 3328]⟩ : Shape).size a}
    {w : (⟨2, ![256, 3328]⟩ : Shape).Idx → Val e} {hx : (m.access (Rect.unit (s := (⟨2, ![1024, 3328]⟩ : Shape)) ![256, 0] ![256, 3328] inb)).Stores Finset.univ}
    {hm : Finset.univ = Finset.univ ∨ ∀ a, (Rect.unit (s := (⟨2, ![1024, 3328]⟩ : Shape)) ![256, 0] ![256, 3328] inb).stride a = 1}
    {k : PUnit → Prog (TpuEff nD τ sig Val Λ c.2) α} {a b p d : (⟨2, ![256, 3328]⟩ : Shape).Idx → Val e} :
    owns c m fullShare (stack ![a, b, p, d])
      ⊢ iprop((owns c m fullShare (stack ![a, w, p, d]) -∗ wp frame (wpE defs 𝒱 c bd) E (k ⟨⟩) Q)
        -∗ wp frame (wpE defs 𝒱 c bd) E (Prog.lift (.store m (Rect.unit (s := (⟨2, ![1024, 3328]⟩ : Shape)) ![256, 0] ![256, 3328] inb) w Finset.univ hx hm) >>= k) Q) := by
  rw [← set_1 a b p d w]
  exact store_as 𝒱 c bd E (rows_in 1 rfl rfl inb ![a, b, p, d] w) (rows_out 1 rfl rfl inb ![a, b, p, d] w)

/-- A store of the second block of lanes. -/
theorem store_lanes_1 {m : Memref sig c.2.kind cs ⟨3, ![1, 256, 512]⟩ e} {inb : ∀ a, (![0, 0, 128] : Fin 3 → ℕ) a + (![1, 256, 128] : Fin 3 → ℕ) a ≤ (⟨3, ![1, 256, 512]⟩ : Shape).size a}
    {w : (⟨3, ![1, 256, 128]⟩ : Shape).Idx → Val e} {hx : (m.access (Rect.unit (s := (⟨3, ![1, 256, 512]⟩ : Shape)) ![0, 0, 128] ![1, 256, 128] inb)).Stores Finset.univ}
    {hm : Finset.univ = Finset.univ ∨ ∀ a, (Rect.unit (s := (⟨3, ![1, 256, 512]⟩ : Shape)) ![0, 0, 128] ![1, 256, 128] inb).stride a = 1}
    {k : PUnit → Prog (TpuEff nD τ sig Val Λ c.2) α} {a b p d : (⟨3, ![1, 256, 128]⟩ : Shape).Idx → Val e} :
    owns c m fullShare (beside ![a, b, p, d])
      ⊢ iprop((owns c m fullShare (beside ![a, w, p, d]) -∗ wp frame (wpE defs 𝒱 c bd) E (k ⟨⟩) Q)
        -∗ wp frame (wpE defs 𝒱 c bd) E (Prog.lift (.store m (Rect.unit (s := (⟨3, ![1, 256, 512]⟩ : Shape)) ![0, 0, 128] ![1, 256, 128] inb) w Finset.univ hx hm) >>= k) Q) := by
  rw [← set_1 a b p d w]
  exact store_as 𝒱 c bd E (lanes_in 1 rfl rfl rfl inb ![a, b, p, d] w) (lanes_out 1 rfl rfl rfl inb ![a, b, p, d] w)

/-- A load of the third block of rows. -/
theorem load_rows_2 {m : Memref sig c.2.kind cs ⟨2, ![1024, 3328]⟩ e} {inb : ∀ a, (![512, 0] : Fin 2 → ℕ) a + (![256, 3328] : Fin 2 → ℕ) a ≤ (⟨2, ![1024, 3328]⟩ : Shape).size a}
    {hl : m.view.LoadsAt (Rect.unit (s := (⟨2, ![1024, 3328]⟩ : Shape)) ![512, 0] ![256, 3328] inb).toLoadRect}
    {k : ((⟨2, ![256, 3328]⟩ : Shape).Idx → Val e) → Prog (TpuEff nD τ sig Val Λ c.2) α} {a b p d : (⟨2, ![256, 3328]⟩ : Shape).Idx → Val e} :
    owns c m fullShare (stack ![a, b, p, d])
      ⊢ iprop((owns c m fullShare (stack ![a, b, p, d]) -∗ wp frame (wpE defs 𝒱 c bd) E (k p) Q)
        -∗ wp frame (wpE defs 𝒱 c bd) E (Prog.lift (.load m (Rect.unit (s := (⟨2, ![1024, 3328]⟩ : Shape)) ![512, 0] ![256, 3328] inb).toLoadRect hl) >>= k) Q) :=
  load_as 𝒱 c bd E (rows_pick 2 rfl rfl inb ![a, b, p, d])

/-- A store of the third block of rows. -/
theorem store_rows_2 {m : Memref sig c.2.kind cs ⟨2, ![1024, 3328]⟩ e} {inb : ∀ a, (![512, 0] : Fin 2 → ℕ) a + (![256, 3328] : Fin 2 → ℕ) a ≤ (⟨2, ![1024, 3328]⟩ : Shape).size a}
    {w : (⟨2, ![256, 3328]⟩ : Shape).Idx → Val e} {hx : (m.access (Rect.unit (s := (⟨2, ![1024, 3328]⟩ : Shape)) ![512, 0] ![256, 3328] inb)).Stores Finset.univ}
    {hm : Finset.univ = Finset.univ ∨ ∀ a, (Rect.unit (s := (⟨2, ![1024, 3328]⟩ : Shape)) ![512, 0] ![256, 3328] inb).stride a = 1}
    {k : PUnit → Prog (TpuEff nD τ sig Val Λ c.2) α} {a b p d : (⟨2, ![256, 3328]⟩ : Shape).Idx → Val e} :
    owns c m fullShare (stack ![a, b, p, d])
      ⊢ iprop((owns c m fullShare (stack ![a, b, w, d]) -∗ wp frame (wpE defs 𝒱 c bd) E (k ⟨⟩) Q)
        -∗ wp frame (wpE defs 𝒱 c bd) E (Prog.lift (.store m (Rect.unit (s := (⟨2, ![1024, 3328]⟩ : Shape)) ![512, 0] ![256, 3328] inb) w Finset.univ hx hm) >>= k) Q) := by
  rw [← set_2 a b p d w]
  exact store_as 𝒱 c bd E (rows_in 2 rfl rfl inb ![a, b, p, d] w) (rows_out 2 rfl rfl inb ![a, b, p, d] w)

/-- A store of the third block of lanes. -/
theorem store_lanes_2 {m : Memref sig c.2.kind cs ⟨3, ![1, 256, 512]⟩ e} {inb : ∀ a, (![0, 0, 256] : Fin 3 → ℕ) a + (![1, 256, 128] : Fin 3 → ℕ) a ≤ (⟨3, ![1, 256, 512]⟩ : Shape).size a}
    {w : (⟨3, ![1, 256, 128]⟩ : Shape).Idx → Val e} {hx : (m.access (Rect.unit (s := (⟨3, ![1, 256, 512]⟩ : Shape)) ![0, 0, 256] ![1, 256, 128] inb)).Stores Finset.univ}
    {hm : Finset.univ = Finset.univ ∨ ∀ a, (Rect.unit (s := (⟨3, ![1, 256, 512]⟩ : Shape)) ![0, 0, 256] ![1, 256, 128] inb).stride a = 1}
    {k : PUnit → Prog (TpuEff nD τ sig Val Λ c.2) α} {a b p d : (⟨3, ![1, 256, 128]⟩ : Shape).Idx → Val e} :
    owns c m fullShare (beside ![a, b, p, d])
      ⊢ iprop((owns c m fullShare (beside ![a, b, w, d]) -∗ wp frame (wpE defs 𝒱 c bd) E (k ⟨⟩) Q)
        -∗ wp frame (wpE defs 𝒱 c bd) E (Prog.lift (.store m (Rect.unit (s := (⟨3, ![1, 256, 512]⟩ : Shape)) ![0, 0, 256] ![1, 256, 128] inb) w Finset.univ hx hm) >>= k) Q) := by
  rw [← set_2 a b p d w]
  exact store_as 𝒱 c bd E (lanes_in 2 rfl rfl rfl inb ![a, b, p, d] w) (lanes_out 2 rfl rfl rfl inb ![a, b, p, d] w)

/-- A load of the fourth block of rows. -/
theorem load_rows_3 {m : Memref sig c.2.kind cs ⟨2, ![1024, 3328]⟩ e} {inb : ∀ a, (![768, 0] : Fin 2 → ℕ) a + (![256, 3328] : Fin 2 → ℕ) a ≤ (⟨2, ![1024, 3328]⟩ : Shape).size a}
    {hl : m.view.LoadsAt (Rect.unit (s := (⟨2, ![1024, 3328]⟩ : Shape)) ![768, 0] ![256, 3328] inb).toLoadRect}
    {k : ((⟨2, ![256, 3328]⟩ : Shape).Idx → Val e) → Prog (TpuEff nD τ sig Val Λ c.2) α} {a b p d : (⟨2, ![256, 3328]⟩ : Shape).Idx → Val e} :
    owns c m fullShare (stack ![a, b, p, d])
      ⊢ iprop((owns c m fullShare (stack ![a, b, p, d]) -∗ wp frame (wpE defs 𝒱 c bd) E (k d) Q)
        -∗ wp frame (wpE defs 𝒱 c bd) E (Prog.lift (.load m (Rect.unit (s := (⟨2, ![1024, 3328]⟩ : Shape)) ![768, 0] ![256, 3328] inb).toLoadRect hl) >>= k) Q) :=
  load_as 𝒱 c bd E (rows_pick 3 rfl rfl inb ![a, b, p, d])

/-- A store of the fourth block of rows. -/
theorem store_rows_3 {m : Memref sig c.2.kind cs ⟨2, ![1024, 3328]⟩ e} {inb : ∀ a, (![768, 0] : Fin 2 → ℕ) a + (![256, 3328] : Fin 2 → ℕ) a ≤ (⟨2, ![1024, 3328]⟩ : Shape).size a}
    {w : (⟨2, ![256, 3328]⟩ : Shape).Idx → Val e} {hx : (m.access (Rect.unit (s := (⟨2, ![1024, 3328]⟩ : Shape)) ![768, 0] ![256, 3328] inb)).Stores Finset.univ}
    {hm : Finset.univ = Finset.univ ∨ ∀ a, (Rect.unit (s := (⟨2, ![1024, 3328]⟩ : Shape)) ![768, 0] ![256, 3328] inb).stride a = 1}
    {k : PUnit → Prog (TpuEff nD τ sig Val Λ c.2) α} {a b p d : (⟨2, ![256, 3328]⟩ : Shape).Idx → Val e} :
    owns c m fullShare (stack ![a, b, p, d])
      ⊢ iprop((owns c m fullShare (stack ![a, b, p, w]) -∗ wp frame (wpE defs 𝒱 c bd) E (k ⟨⟩) Q)
        -∗ wp frame (wpE defs 𝒱 c bd) E (Prog.lift (.store m (Rect.unit (s := (⟨2, ![1024, 3328]⟩ : Shape)) ![768, 0] ![256, 3328] inb) w Finset.univ hx hm) >>= k) Q) := by
  rw [← set_3 a b p d w]
  exact store_as 𝒱 c bd E (rows_in 3 rfl rfl inb ![a, b, p, d] w) (rows_out 3 rfl rfl inb ![a, b, p, d] w)

/-- A store of the fourth block of lanes. -/
theorem store_lanes_3 {m : Memref sig c.2.kind cs ⟨3, ![1, 256, 512]⟩ e} {inb : ∀ a, (![0, 0, 384] : Fin 3 → ℕ) a + (![1, 256, 128] : Fin 3 → ℕ) a ≤ (⟨3, ![1, 256, 512]⟩ : Shape).size a}
    {w : (⟨3, ![1, 256, 128]⟩ : Shape).Idx → Val e} {hx : (m.access (Rect.unit (s := (⟨3, ![1, 256, 512]⟩ : Shape)) ![0, 0, 384] ![1, 256, 128] inb)).Stores Finset.univ}
    {hm : Finset.univ = Finset.univ ∨ ∀ a, (Rect.unit (s := (⟨3, ![1, 256, 512]⟩ : Shape)) ![0, 0, 384] ![1, 256, 128] inb).stride a = 1}
    {k : PUnit → Prog (TpuEff nD τ sig Val Λ c.2) α} {a b p d : (⟨3, ![1, 256, 128]⟩ : Shape).Idx → Val e} :
    owns c m fullShare (beside ![a, b, p, d])
      ⊢ iprop((owns c m fullShare (beside ![a, b, p, w]) -∗ wp frame (wpE defs 𝒱 c bd) E (k ⟨⟩) Q)
        -∗ wp frame (wpE defs 𝒱 c bd) E (Prog.lift (.store m (Rect.unit (s := (⟨3, ![1, 256, 512]⟩ : Shape)) ![0, 0, 384] ![1, 256, 128] inb) w Finset.univ hx hm) >>= k) Q) := by
  rw [← set_3 a b p d w]
  exact store_as 𝒱 c bd E (lanes_in 3 rfl rfl rfl inb ![a, b, p, d] w) (lanes_out 3 rfl rfl rfl inb ![a, b, p, d] w)

end Cert.Attn

end
-- ==== Proof.GqaParts.lean ====
/-
  The body of the grouped-attention kernel, part by part: from what each memref holds, what it holds afterwards.
-/
module

public import proofs.«01_k».proof.Proof.Blocks
public import proofs.«01_k».proof.Proof.Gen.Kernel2Ideal.Launch
public import proofs.«01_k».proof.Proof.Gen.Kernel2Ideal.Skeleton

@[expose] public section

noncomputable section

namespace Cert.Proof.Gqa

open Cert.Kernel2Ideal Cert.Kernel2Ideal.Gen Cert.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev 𝒱₀ : Variants := Variants.none

/-- Core `c` owns the memref and reads `X` through it. -/
abbrev O (c : Dev nD) {sp : Space} {s : Shape} {e : EltTy} (m : Memref sig .tc sp s e) (X : s.Idx → Elt F e) : sProp 𝕄 :=
  owns (c : Thread nD τ) m fullShare X

/-- The program `p` on core `c` runs safely to the post `Q`. -/
abbrev W (c : Dev nD) {α : Type} (p : Prog (TpuEff nD τ sig (Elt F) Λ₀ .tc) α) (Q : α → sProp 𝕄) : sProp 𝕄 :=
  wp Idealize.ShloMosaic.frame (wpE (defs₀ (F := F)) 𝒱₀ (c : Thread nD τ) none) Set.univ p Q

/-- The context branch, first head: the first 256 keys are taken in; the second head's update is begun. -/
theorem part1_spec (c : Dev nD) (arg3 : Memref sig .tc .vmem S1x4x256x128 .bf16) (harg3 : arg3.IsWhole) (arg4 : Memref sig .tc .vmem S1x1x16640x128 .bf16) (harg4 : arg4.IsWhole) (arg5 : Memref sig .tc .vmem S1x1x16640x256 .bf16) (harg5 : arg5.IsWhole) (arg6 : Memref sig .tc .vmem S1x256x512 .bf16) (harg6 : arg6.IsWhole) (arg7 : Memref sig .tc .vmem S1024x3328 .f32) (harg7 : arg7.IsWhole) (arg8 : Memref sig .tc .vmem S1024x3328 .f32) (harg8 : arg8.IsWhole) (arg9 : Memref sig .tc .vmem S256x1 .f32) (harg9 : arg9.IsWhole) (arg10 : Memref sig .tc .vmem S256x256 .f32) (harg10 : arg10.IsWhole) (arg11 : Memref sig .tc .vmem S256x1 .f32) (harg11 : arg11.IsWhole) (arg12 : Memref sig .tc .vmem S256x256 .f32) (harg12 : arg12.IsWhole) (arg13 : Memref sig .tc .vmem S256x1 .f32) (harg13 : arg13.IsWhole) (arg14 : Memref sig .tc .vmem S256x256 .f32) (harg14 : arg14.IsWhole) (arg15 : Memref sig .tc .vmem S256x1 .f32) (harg15 : arg15.IsWhole) (arg16 : Memref sig .tc .vmem S256x256 .f32) (harg16 : arg16.IsWhole) (i : grid0.Coords) (v1 : FVec F S256x128 .bf16) (v3 : FVec F S256x128 .bf16) {X4 : S1x1x16640x128.Idx → Elt F .bf16} {X5 : S1x1x16640x256.Idx → Elt F .bf16} {X9 : S256x1.Idx → Elt F .f32} {X10 : S256x256.Idx → Elt F .f32} {X11 : S256x1.Idx → Elt F .f32} {Q : _ → sProp 𝕄} :
    iprop(O c arg4 X4 ∗ O c arg5 X5 ∗ O c arg9 X9 ∗ O c arg10 X10 ∗ O c arg11 X11)
      ⊢ iprop((iprop(O c arg4 X4 ∗ O c arg5 X5 ∗ O c arg9 (k0_pay10 v1 (pick (Rect.unit (s := S1x1x16640x128) ![0, 0, 0, 0] S1x1x256x128.size inb_S1x1x16640x128_S1x1x256x128_0_0_0_0).toLoadRect X4) X9) ∗ O c arg10 (k0_pay9 v1 (pick (Rect.unit (s := S1x1x16640x128) ![0, 0, 0, 0] S1x1x256x128.size inb_S1x1x16640x128_S1x1x256x128_0_0_0_0).toLoadRect X4) (pick (Rect.unit (s := S1x1x16640x256) ![0, 0, 0, 0] S1x1x256x256.size inb_S1x1x16640x256_S1x1x256x256_0_0_0_0).toLoadRect X5) X9 X10) ∗ O c arg11 X11)
          -∗ Q ⟨k0_pay5 (pick (Rect.unit (s := S1x1x16640x128) ![0, 0, 0, 0] S1x1x256x128.size inb_S1x1x16640x128_S1x1x256x128_0_0_0_0).toLoadRect X4), k0_pay6 (pick (Rect.unit (s := S1x1x16640x256) ![0, 0, 0, 0] S1x1x256x256.size inb_S1x1x16640x256_S1x1x256x256_0_0_0_0).toLoadRect X5), k0_pay12 v3 (pick (Rect.unit (s := S1x1x16640x128) ![0, 0, 0, 0] S1x1x256x128.size inb_S1x1x16640x128_S1x1x256x128_0_0_0_0).toLoadRect X4) X11, k0_pay13 v3 (pick (Rect.unit (s := S1x1x16640x128) ![0, 0, 0, 0] S1x1x256x128.size inb_S1x1x16640x128_S1x1x256x128_0_0_0_0).toLoadRect X4) X11, k0_pay14 v3 (pick (Rect.unit (s := S1x1x16640x128) ![0, 0, 0, 0] S1x1x256x128.size inb_S1x1x16640x128_S1x1x256x128_0_0_0_0).toLoadRect X4) X11⟩) -∗ W c (k0_part1 i arg3 harg3 arg4 harg4 arg5 harg5 arg6 harg6 arg7 harg7 arg8 harg8 arg9 harg9 arg10 harg10 arg11 harg11 arg12 harg12 arg13 harg13 arg14 harg14 arg15 harg15 arg16 harg16 v1 v3) Q) := by
  unfold W
  rw [k0_part1_eq_skeleton]; unfold k0_part1_skel
  iintro ⟨H4, H5, H9, H10, H11⟩ HK
  iapply (load_part 𝒱₀ (c : Thread nD τ) none Set.univ) $$ H4; iintro H4
  iapply (load_part 𝒱₀ (c : Thread nD τ) none Set.univ) $$ H5; iintro H5
  iapply (load_all 𝒱₀ (c : Thread nD τ) none Set.univ z2) $$ H9; iintro H9
  iapply (load_all 𝒱₀ (c : Thread nD τ) none Set.univ z2) $$ H10; iintro H10
  iapply (load_all 𝒱₀ (c : Thread nD τ) none Set.univ z2) $$ H10; iintro H10
  iapply (store_all 𝒱₀ (c : Thread nD τ) none Set.univ z2) $$ H10; iintro H10
  iapply (load_all 𝒱₀ (c : Thread nD τ) none Set.univ z2) $$ H9; iintro H9
  iapply (store_all 𝒱₀ (c : Thread nD τ) none Set.univ z2) $$ H9; iintro H9
  iapply (load_all 𝒱₀ (c : Thread nD τ) none Set.univ z2) $$ H11; iintro H11
  iapply (le_wp_ret _ _ _ _ _)
  iapply HK
  isplitl [H4]; · iexact H4
  isplitl [H5]; · iexact H5
  isplitl [H9]; · iexact H9
  isplitl [H10]; · iexact H10
  iexact H11

/-- The context branch, second and third heads. -/
theorem part2_spec (c : Dev nD) (arg3 : Memref sig .tc .vmem S1x4x256x128 .bf16) (harg3 : arg3.IsWhole) (arg4 : Memref sig .tc .vmem S1x1x16640x128 .bf16) (harg4 : arg4.IsWhole) (arg5 : Memref sig .tc .vmem S1x1x16640x256 .bf16) (harg5 : arg5.IsWhole) (arg6 : Memref sig .tc .vmem S1x256x512 .bf16) (harg6 : arg6.IsWhole) (arg7 : Memref sig .tc .vmem S1024x3328 .f32) (harg7 : arg7.IsWhole) (arg8 : Memref sig .tc .vmem S1024x3328 .f32) (harg8 : arg8.IsWhole) (arg9 : Memref sig .tc .vmem S256x1 .f32) (harg9 : arg9.IsWhole) (arg10 : Memref sig .tc .vmem S256x256 .f32) (harg10 : arg10.IsWhole) (arg11 : Memref sig .tc .vmem S256x1 .f32) (harg11 : arg11.IsWhole) (arg12 : Memref sig .tc .vmem S256x256 .f32) (harg12 : arg12.IsWhole) (arg13 : Memref sig .tc .vmem S256x1 .f32) (harg13 : arg13.IsWhole) (arg14 : Memref sig .tc .vmem S256x256 .f32) (harg14 : arg14.IsWhole) (arg15 : Memref sig .tc .vmem S256x1 .f32) (harg15 : arg15.IsWhole) (arg16 : Memref sig .tc .vmem S256x256 .f32) (harg16 : arg16.IsWhole) (i : grid0.Coords) (v5 : FVec F S256x128 .bf16) (v7 : FVec F S256x128 .bf16) (v79 : FVec F S256x128 .bf16) (v81 : FVec F S256x256 .bf16) (v108 : FVec F S256x1 .f32) (v110 : FVec F S256x1 .f32) (v112 : FVec F S256x256 .f32) {X12 : S256x256.Idx → Elt F .f32} {X11 : S256x1.Idx → Elt F .f32} {X13 : S256x1.Idx → Elt F .f32} {X14 : S256x256.Idx → Elt F .f32} {Q : _ → sProp 𝕄} :
    iprop(O c arg12 X12 ∗ O c arg11 X11 ∗ O c arg13 X13 ∗ O c arg14 X14)
      ⊢ iprop((iprop(O c arg12 (k0_pay15 v81 v110 v112 X12) ∗ O c arg11 (k0_pay16 v108) ∗ O c arg13 (k0_pay20 v5 v79 X13) ∗ O c arg14 (k0_pay19 v5 v79 v81 X13 X14))
          -∗ Q (k0_pay21 v7 v79)) -∗ W c (k0_part2 i arg3 harg3 arg4 harg4 arg5 harg5 arg6 harg6 arg7 harg7 arg8 harg8 arg9 harg9 arg10 harg10 arg11 harg11 arg12 harg12 arg13 harg13 arg14 harg14 arg15 harg15 arg16 harg16 v5 v7 v79 v81 v108 v110 v112) Q) := by
  unfold W
  rw [k0_part2_eq_skeleton]; unfold k0_part2_skel
  iintro ⟨H12, H11, H13, H14⟩ HK
  iapply (load_all 𝒱₀ (c : Thread nD τ) none Set.univ z2) $$ H12; iintro H12
  iapply (load_all 𝒱₀ (c : Thread nD τ) none Set.univ z2) $$ H12; iintro H12
  iapply (store_all 𝒱₀ (c : Thread nD τ) none Set.univ z2) $$ H12; iintro H12
  iapply (load_all 𝒱₀ (c : Thread nD τ) none Set.univ z2) $$ H11; iintro H11
  iapply (store_all 𝒱₀ (c : Thread nD τ) none Set.univ z2) $$ H11; iintro H11
  iapply (load_all 𝒱₀ (c : Thread nD τ) none Set.univ z2) $$ H13; iintro H13
  iapply (load_all 𝒱₀ (c : Thread nD τ) none Set.univ z2) $$ H14; iintro H14
  iapply (load_all 𝒱₀ (c : Thread nD τ) none Set.univ z2) $$ H14; iintro H14
  iapply (store_all 𝒱₀ (c : Thread nD τ) none Set.univ z2) $$ H14; iintro H14
  iapply (load_all 𝒱₀ (c : Thread nD τ) none Set.univ z2) $$ H13; iintro H13
  iapply (store_all 𝒱₀ (c : Thread nD τ) none Set.univ z2) $$ H13; iintro H13
  iapply (le_wp_ret _ _ _ _ _)
  iapply HK
  isplitl [H12]; · iexact H12
  isplitl [H11]; · iexact H11
  isplitl [H13]; · iexact H13
  iexact H14

/-- A trip, first phase: the next chunk is scored for the four heads into the second buffer. -/
theorem part3_spec (c : Dev nD) (arg3 : Memref sig .tc .vmem S1x4x256x128 .bf16) (harg3 : arg3.IsWhole) (arg4 : Memref sig .tc .vmem S1x1x16640x128 .bf16) (harg4 : arg4.IsWhole) (arg5 : Memref sig .tc .vmem S1x1x16640x256 .bf16) (harg5 : arg5.IsWhole) (arg6 : Memref sig .tc .vmem S1x256x512 .bf16) (harg6 : arg6.IsWhole) (arg7 : Memref sig .tc .vmem S1024x3328 .f32) (harg7 : arg7.IsWhole) (arg8 : Memref sig .tc .vmem S1024x3328 .f32) (harg8 : arg8.IsWhole) (arg9 : Memref sig .tc .vmem S256x1 .f32) (harg9 : arg9.IsWhole) (arg10 : Memref sig .tc .vmem S256x256 .f32) (harg10 : arg10.IsWhole) (arg11 : Memref sig .tc .vmem S256x1 .f32) (harg11 : arg11.IsWhole) (arg12 : Memref sig .tc .vmem S256x256 .f32) (harg12 : arg12.IsWhole) (arg13 : Memref sig .tc .vmem S256x1 .f32) (harg13 : arg13.IsWhole) (arg14 : Memref sig .tc .vmem S256x256 .f32) (harg14 : arg14.IsWhole) (arg15 : Memref sig .tc .vmem S256x1 .f32) (harg15 : arg15.IsWhole) (arg16 : Memref sig .tc .vmem S256x256 .f32) (harg16 : arg16.IsWhole) (i : grid0.Coords) (v1 : FVec F S256x128 .bf16) (v3 : FVec F S256x128 .bf16) (v5 : FVec F S256x128 .bf16) (v7 : FVec F S256x128 .bf16) (k0_h2 : k0_cond2 i = 1#1) (c0_i32_75 : BitVec 32) (c1_i32_76 : BitVec 32) (k0_t1 : Fin k0_t1_loop.trips) {X4 : S1x1x16640x128.Idx → Elt F .bf16} {X8a X8b X8p X8d : S256x3328.Idx → Elt F .f32} {X5 : S1x1x16640x256.Idx → Elt F .bf16} {X7a X7b X7p X7d : S256x3328.Idx → Elt F .f32} {Q : _ → sProp 𝕄} :
    iprop(O c arg4 X4 ∗ O c arg8 (stack ![X8a, X8b, X8p, X8d]) ∗ O c arg5 X5 ∗ O c arg7 (stack ![X7a, X7b, X7p, X7d]))
      ⊢ iprop((iprop(O c arg4 X4 ∗ O c arg8 (stack ![(k0_pay23 v1 (pick (Rect.unit (s := S1x1x16640x128) (k0_off1 k0_t1 1#32) S1x1x3328x128.size (k0_off1_inb i k0_t1 k0_h2 0)).toLoadRect X4)), (k0_pay24 v3 (pick (Rect.unit (s := S1x1x16640x128) (k0_off1 k0_t1 1#32) S1x1x3328x128.size (k0_off1_inb i k0_t1 k0_h2 0)).toLoadRect X4)), (k0_pay25 v5 (pick (Rect.unit (s := S1x1x16640x128) (k0_off1 k0_t1 1#32) S1x1x3328x128.size (k0_off1_inb i k0_t1 k0_h2 0)).toLoadRect X4)), (k0_pay26 v7 (pick (Rect.unit (s := S1x1x16640x128) (k0_off1 k0_t1 1#32) S1x1x3328x128.size (k0_off1_inb i k0_t1 k0_h2 0)).toLoadRect X4))]) ∗ O c arg5 X5 ∗ O c arg7 (stack ![X7a, X7b, X7p, X7d]))
          -∗ Q ⟨(Scf.iv c0_i32_75 c1_i32_76 k0_t1), k0_pay27 (pick (Rect.unit (s := S1x1x16640x256) (k0_off2 k0_t1) S1x1x3328x256.size (k0_off2_inb i k0_t1 k0_h2)).toLoadRect X5), X7a⟩) -∗ W c (k0_part3 i arg3 harg3 arg4 harg4 arg5 harg5 arg6 harg6 arg7 harg7 arg8 harg8 arg9 harg9 arg10 harg10 arg11 harg11 arg12 harg12 arg13 harg13 arg14 harg14 arg15 harg15 arg16 harg16 v1 v3 v5 v7 k0_h2 c0_i32_75 c1_i32_76 k0_t1) Q) := by
  unfold W
  rw [k0_part3_eq_skeleton]; unfold k0_part3_skel
  iintro ⟨H4, H8, H5, H7⟩ HK
  iapply (load_part 𝒱₀ (c : Thread nD τ) none Set.univ) $$ H4; iintro H4
  iapply (load_rows_0 𝒱₀ (c : Thread nD τ) none Set.univ) $$ H8; iintro H8
  iapply (store_rows_0 𝒱₀ (c : Thread nD τ) none Set.univ) $$ H8; iintro H8
  iapply (load_rows_1 𝒱₀ (c : Thread nD τ) none Set.univ) $$ H8; iintro H8
  iapply (store_rows_1 𝒱₀ (c : Thread nD τ) none Set.univ) $$ H8; iintro H8
  iapply (load_rows_2 𝒱₀ (c : Thread nD τ) none Set.univ) $$ H8; iintro H8
  iapply (store_rows_2 𝒱₀ (c : Thread nD τ) none Set.univ) $$ H8; iintro H8
  iapply (load_rows_3 𝒱₀ (c : Thread nD τ) none Set.univ) $$ H8; iintro H8
  iapply (store_rows_3 𝒱₀ (c : Thread nD τ) none Set.univ) $$ H8; iintro H8
  iapply (load_part 𝒱₀ (c : Thread nD τ) none Set.univ) $$ H5; iintro H5
  iapply (load_rows_0 𝒱₀ (c : Thread nD τ) none Set.univ) $$ H7; iintro H7
  iapply (le_wp_ret _ _ _ _ _)
  iapply HK
  isplitl [H4]; · iexact H4
  isplitl [H8]; · iexact H8
  isplitl [H5]; · iexact H5
  iexact H7

/-- A trip, first phase: the first head takes the first buffer in; the second head's update is computed. -/
theorem part4_spec (c : Dev nD) (arg3 : Memref sig .tc .vmem S1x4x256x128 .bf16) (harg3 : arg3.IsWhole) (arg4 : Memref sig .tc .vmem S1x1x16640x128 .bf16) (harg4 : arg4.IsWhole) (arg5 : Memref sig .tc .vmem S1x1x16640x256 .bf16) (harg5 : arg5.IsWhole) (arg6 : Memref sig .tc .vmem S1x256x512 .bf16) (harg6 : arg6.IsWhole) (arg7 : Memref sig .tc .vmem S1024x3328 .f32) (harg7 : arg7.IsWhole) (arg8 : Memref sig .tc .vmem S1024x3328 .f32) (harg8 : arg8.IsWhole) (arg9 : Memref sig .tc .vmem S256x1 .f32) (harg9 : arg9.IsWhole) (arg10 : Memref sig .tc .vmem S256x256 .f32) (harg10 : arg10.IsWhole) (arg11 : Memref sig .tc .vmem S256x1 .f32) (harg11 : arg11.IsWhole) (arg12 : Memref sig .tc .vmem S256x256 .f32) (harg12 : arg12.IsWhole) (arg13 : Memref sig .tc .vmem S256x1 .f32) (harg13 : arg13.IsWhole) (arg14 : Memref sig .tc .vmem S256x256 .f32) (harg14 : arg14.IsWhole) (arg15 : Memref sig .tc .vmem S256x1 .f32) (harg15 : arg15.IsWhole) (arg16 : Memref sig .tc .vmem S256x256 .f32) (harg16 : arg16.IsWhole) (i : grid0.Coords) (v219 : FVec F S3328x256 .bf16) (v220 : Vec F S256x3328 .f32) {X9 : S256x1.Idx → Elt F .f32} {X10 : S256x256.Idx → Elt F .f32} {X7a X7b X7p X7d : S256x3328.Idx → Elt F .f32} {X11 : S256x1.Idx → Elt F .f32} {X12 : S256x256.Idx → Elt F .f32} {Q : _ → sProp 𝕄} :
    iprop(O c arg9 X9 ∗ O c arg10 X10 ∗ O c arg7 (stack ![X7a, X7b, X7p, X7d]) ∗ O c arg11 X11 ∗ O c arg12 X12)
      ⊢ iprop((iprop(O c arg9 (k0_pay30 v220 X9) ∗ O c arg10 (k0_pay29 v219 v220 X9 X10) ∗ O c arg7 (stack ![X7a, X7b, X7p, X7d]) ∗ O c arg11 X11 ∗ O c arg12 X12)
          -∗ Q ⟨k0_pay31 X7b X11, k0_pay32 v219 X7b X11 X12, X12⟩) -∗ W c (k0_part4 i arg3 harg3 arg4 harg4 arg5 harg5 arg6 harg6 arg7 harg7 arg8 harg8 arg9 harg9 arg10 harg10 arg11 harg11 arg12 harg12 arg13 harg13 arg14 harg14 arg15 harg15 arg16 harg16 v219 v220) Q) := by
  unfold W
  rw [k0_part4_eq_skeleton]; unfold k0_part4_skel
  iintro ⟨H9, H10, H7, H11, H12⟩ HK
  iapply (load_all 𝒱₀ (c : Thread nD τ) none Set.univ z2) $$ H9; iintro H9
  iapply (load_all 𝒱₀ (c : Thread nD τ) none Set.univ z2) $$ H10; iintro H10
  iapply (load_all 𝒱₀ (c : Thread nD τ) none Set.univ z2) $$ H10; iintro H10
  iapply (store_all 𝒱₀ (c : Thread nD τ) none Set.univ z2) $$ H10; iintro H10
  iapply (load_all 𝒱₀ (c : Thread nD τ) none Set.univ z2) $$ H9; iintro H9
  iapply (store_all 𝒱₀ (c : Thread nD τ) none Set.univ z2) $$ H9; iintro H9
  iapply (load_rows_1 𝒱₀ (c : Thread nD τ) none Set.univ) $$ H7; iintro H7
  iapply (load_all 𝒱₀ (c : Thread nD τ) none Set.univ z2) $$ H11; iintro H11
  iapply (load_all 𝒱₀ (c : Thread nD τ) none Set.univ z2) $$ H12; iintro H12
  iapply (load_all 𝒱₀ (c : Thread nD τ) none Set.univ z2) $$ H12; iintro H12
  iapply (le_wp_ret _ _ _ _ _)
  iapply HK
  isplitl [H9]; · iexact H9
  isplitl [H10]; · iexact H10
  isplitl [H7]; · iexact H7
  isplitl [H11]; · iexact H11
  iexact H12

/-- A trip, first phase: the second and third heads take the first buffer in; the fourth head's update is begun. -/
theorem part5_spec (c : Dev nD) (arg3 : Memref sig .tc .vmem S1x4x256x128 .bf16) (harg3 : arg3.IsWhole) (arg4 : Memref sig .tc .vmem S1x1x16640x128 .bf16) (harg4 : arg4.IsWhole) (arg5 : Memref sig .tc .vmem S1x1x16640x256 .bf16) (harg5 : arg5.IsWhole) (arg6 : Memref sig .tc .vmem S1x256x512 .bf16) (harg6 : arg6.IsWhole) (arg7 : Memref sig .tc .vmem S1024x3328 .f32) (harg7 : arg7.IsWhole) (arg8 : Memref sig .tc .vmem S1024x3328 .f32) (harg8 : arg8.IsWhole) (arg9 : Memref sig .tc .vmem S256x1 .f32) (harg9 : arg9.IsWhole) (arg10 : Memref sig .tc .vmem S256x256 .f32) (harg10 : arg10.IsWhole) (arg11 : Memref sig .tc .vmem S256x1 .f32) (harg11 : arg11.IsWhole) (arg12 : Memref sig .tc .vmem S256x256 .f32) (harg12 : arg12.IsWhole) (arg13 : Memref sig .tc .vmem S256x1 .f32) (harg13 : arg13.IsWhole) (arg14 : Memref sig .tc .vmem S256x256 .f32) (harg14 : arg14.IsWhole) (arg15 : Memref sig .tc .vmem S256x1 .f32) (harg15 : arg15.IsWhole) (arg16 : Memref sig .tc .vmem S256x256 .f32) (harg16 : arg16.IsWhole) (i : grid0.Coords) (v219 : FVec F S3328x256 .bf16) (v246 : FVec F S256x1 .f32) (v257 : FVec F S256x256 .f32) (v258 : Vec F S256x256 .f32) {X12 : S256x256.Idx → Elt F .f32} {X11 : S256x1.Idx → Elt F .f32} {X7a X7b X7p X7d : S256x3328.Idx → Elt F .f32} {X13 : S256x1.Idx → Elt F .f32} {X14 : S256x256.Idx → Elt F .f32} {X15 : S256x1.Idx → Elt F .f32} {Q : _ → sProp 𝕄} :
    iprop(O c arg12 X12 ∗ O c arg11 X11 ∗ O c arg7 (stack ![X7a, X7b, X7p, X7d]) ∗ O c arg13 X13 ∗ O c arg14 X14 ∗ O c arg15 X15)
      ⊢ iprop((iprop(O c arg12 (k0_pay33 v257) ∗ O c arg11 (k0_pay34 v246) ∗ O c arg7 (stack ![X7a, X7b, X7p, X7d]) ∗ O c arg13 (k0_pay37 X7p X13) ∗ O c arg14 (k0_pay36 v219 X7p X13 X14) ∗ O c arg15 X15)
          -∗ Q ⟨k0_pay38 X7d X15, k0_pay39 X7d X15, k0_pay40 X7d X15⟩) -∗ W c (k0_part5 i arg3 harg3 arg4 harg4 arg5 harg5 arg6 harg6 arg7 harg7 arg8 harg8 arg9 harg9 arg10 harg10 arg11 harg11 arg12 harg12 arg13 harg13 arg14 harg14 arg15 harg15 arg16 harg16 v219 v246 v257 v258) Q) := by
  unfold W
  rw [k0_part5_eq_skeleton]; unfold k0_part5_skel
  iintro ⟨H12, H11, H7, H13, H14, H15⟩ HK
  iapply (store_all 𝒱₀ (c : Thread nD τ) none Set.univ z2) $$ H12; iintro H12
  iapply (load_all 𝒱₀ (c : Thread nD τ) none Set.univ z2) $$ H11; iintro H11
  iapply (store_all 𝒱₀ (c : Thread nD τ) none Set.univ z2) $$ H11; iintro H11
  iapply (load_rows_2 𝒱₀ (c : Thread nD τ) none Set.univ) $$ H7; iintro H7
  iapply (load_all 𝒱₀ (c : Thread nD τ) none Set.univ z2) $$ H13; iintro H13
  iapply (load_all 𝒱₀ (c : Thread nD τ) none Set.univ z2) $$ H14; iintro H14
  iapply (load_all 𝒱₀ (c : Thread nD τ) none Set.univ z2) $$ H14; iintro H14
  iapply (store_all 𝒱₀ (c : Thread nD τ) none Set.univ z2) $$ H14; iintro H14
  iapply (load_all 𝒱₀ (c : Thread nD τ) none Set.univ z2) $$ H13; iintro H13
  iapply (store_all 𝒱₀ (c : Thread nD τ) none Set.univ z2) $$ H13; iintro H13
  iapply (load_rows_3 𝒱₀ (c : Thread nD τ) none Set.univ) $$ H7; iintro H7
  iapply (load_all 𝒱₀ (c : Thread nD τ) none Set.univ z2) $$ H15; iintro H15
  iapply (le_wp_ret _ _ _ _ _)
  iapply HK
  isplitl [H12]; · iexact H12
  isplitl [H11]; · iexact H11
  isplitl [H7]; · iexact H7
  isplitl [H13]; · iexact H13
  isplitl [H14]; · iexact H14
  iexact H15

/-- A trip: the fourth head takes the first buffer in; the chunk after is scored for the first two heads. -/
theorem part6_spec (c : Dev nD) (arg3 : Memref sig .tc .vmem S1x4x256x128 .bf16) (harg3 : arg3.IsWhole) (arg4 : Memref sig .tc .vmem S1x1x16640x128 .bf16) (harg4 : arg4.IsWhole) (arg5 : Memref sig .tc .vmem S1x1x16640x256 .bf16) (harg5 : arg5.IsWhole) (arg6 : Memref sig .tc .vmem S1x256x512 .bf16) (harg6 : arg6.IsWhole) (arg7 : Memref sig .tc .vmem S1024x3328 .f32) (harg7 : arg7.IsWhole) (arg8 : Memref sig .tc .vmem S1024x3328 .f32) (harg8 : arg8.IsWhole) (arg9 : Memref sig .tc .vmem S256x1 .f32) (harg9 : arg9.IsWhole) (arg10 : Memref sig .tc .vmem S256x256 .f32) (harg10 : arg10.IsWhole) (arg11 : Memref sig .tc .vmem S256x1 .f32) (harg11 : arg11.IsWhole) (arg12 : Memref sig .tc .vmem S256x256 .f32) (harg12 : arg12.IsWhole) (arg13 : Memref sig .tc .vmem S256x1 .f32) (harg13 : arg13.IsWhole) (arg14 : Memref sig .tc .vmem S256x256 .f32) (harg14 : arg14.IsWhole) (arg15 : Memref sig .tc .vmem S256x1 .f32) (harg15 : arg15.IsWhole) (arg16 : Memref sig .tc .vmem S256x256 .f32) (harg16 : arg16.IsWhole) (i : grid0.Coords) (v1 : FVec F S256x128 .bf16) (v3 : FVec F S256x128 .bf16) (v5 : FVec F S256x128 .bf16) (k0_h2 : k0_cond2 i = 1#1) (k0_t1 : Fin k0_t1_loop.trips) (arg17 : BitVec 32) (v219 : FVec F S3328x256 .bf16) (v290 : FVec F S256x1 .f32) (v292 : FVec F S256x1 .f32) (v295 : FVec F S256x3328 .bf16) {X16 : S256x256.Idx → Elt F .f32} {X15 : S256x1.Idx → Elt F .f32} {X4 : S1x1x16640x128.Idx → Elt F .bf16} {X7a X7b X7p X7d : S256x3328.Idx → Elt F .f32} {Q : _ → sProp 𝕄} :
    iprop(O c arg16 X16 ∗ O c arg15 X15 ∗ O c arg4 X4 ∗ O c arg7 (stack ![X7a, X7b, X7p, X7d]))
      ⊢ iprop((iprop(O c arg16 (k0_pay41 v219 v292 v295 X16) ∗ O c arg15 (k0_pay42 v290) ∗ O c arg4 X4 ∗ O c arg7 (stack ![(k0_pay44 v1 (pick (Rect.unit (s := S1x1x16640x128) (k0_off1 k0_t1 2#32) S1x1x3328x128.size (k0_off1_inb i k0_t1 k0_h2 1)).toLoadRect X4)), (k0_pay45 v3 (pick (Rect.unit (s := S1x1x16640x128) (k0_off1 k0_t1 2#32) S1x1x3328x128.size (k0_off1_inb i k0_t1 k0_h2 1)).toLoadRect X4)), X7p, X7d]))
          -∗ Q ⟨(Scalar.addi (Scalar.muli 2#32 arg17) 1#32), k0_pay43 (pick (Rect.unit (s := S1x1x16640x128) (k0_off1 k0_t1 2#32) S1x1x3328x128.size (k0_off1_inb i k0_t1 k0_h2 1)).toLoadRect X4), k0_pay46 v5 (pick (Rect.unit (s := S1x1x16640x128) (k0_off1 k0_t1 2#32) S1x1x3328x128.size (k0_off1_inb i k0_t1 k0_h2 1)).toLoadRect X4)⟩) -∗ W c (k0_part6 i arg3 harg3 arg4 harg4 arg5 harg5 arg6 harg6 arg7 harg7 arg8 harg8 arg9 harg9 arg10 harg10 arg11 harg11 arg12 harg12 arg13 harg13 arg14 harg14 arg15 harg15 arg16 harg16 v1 v3 v5 k0_h2 k0_t1 arg17 v219 v290 v292 v295) Q) := by
  unfold W
  rw [k0_part6_eq_skeleton]; unfold k0_part6_skel
  iintro ⟨H16, H15, H4, H7⟩ HK
  iapply (load_all 𝒱₀ (c : Thread nD τ) none Set.univ z2) $$ H16; iintro H16
  iapply (load_all 𝒱₀ (c : Thread nD τ) none Set.univ z2) $$ H16; iintro H16
  iapply (store_all 𝒱₀ (c : Thread nD τ) none Set.univ z2) $$ H16; iintro H16
  iapply (load_all 𝒱₀ (c : Thread nD τ) none Set.univ z2) $$ H15; iintro H15
  iapply (store_all 𝒱₀ (c : Thread nD τ) none Set.univ z2) $$ H15; iintro H15
  iapply (load_part 𝒱₀ (c : Thread nD τ) none Set.univ) $$ H4; iintro H4
  iapply (load_rows_0 𝒱₀ (c : Thread nD τ) none Set.univ) $$ H7; iintro H7
  iapply (store_rows_0 𝒱₀ (c : Thread nD τ) none Set.univ) $$ H7; iintro H7
  iapply (load_rows_1 𝒱₀ (c : Thread nD τ) none Set.univ) $$ H7; iintro H7
  iapply (store_rows_1 𝒱₀ (c : Thread nD τ) none Set.univ) $$ H7; iintro H7
  iapply (load_rows_2 𝒱₀ (c : Thread nD τ) none Set.univ) $$ H7; iintro H7
  iapply (le_wp_ret _ _ _ _ _)
  iapply HK
  isplitl [H16]; · iexact H16
  isplitl [H15]; · iexact H15
  isplitl [H4]; · iexact H4
  iexact H7

/-- A trip, second phase: the chunk after is scored for the other two heads; the first head takes the second buffer in. -/
theorem part7_spec (c : Dev nD) (arg3 : Memref sig .tc .vmem S1x4x256x128 .bf16) (harg3 : arg3.IsWhole) (arg4 : Memref sig .tc .vmem S1x1x16640x128 .bf16) (harg4 : arg4.IsWhole) (arg5 : Memref sig .tc .vmem S1x1x16640x256 .bf16) (harg5 : arg5.IsWhole) (arg6 : Memref sig .tc .vmem S1x256x512 .bf16) (harg6 : arg6.IsWhole) (arg7 : Memref sig .tc .vmem S1024x3328 .f32) (harg7 : arg7.IsWhole) (arg8 : Memref sig .tc .vmem S1024x3328 .f32) (harg8 : arg8.IsWhole) (arg9 : Memref sig .tc .vmem S256x1 .f32) (harg9 : arg9.IsWhole) (arg10 : Memref sig .tc .vmem S256x256 .f32) (harg10 : arg10.IsWhole) (arg11 : Memref sig .tc .vmem S256x1 .f32) (harg11 : arg11.IsWhole) (arg12 : Memref sig .tc .vmem S256x256 .f32) (harg12 : arg12.IsWhole) (arg13 : Memref sig .tc .vmem S256x1 .f32) (harg13 : arg13.IsWhole) (arg14 : Memref sig .tc .vmem S256x256 .f32) (harg14 : arg14.IsWhole) (arg15 : Memref sig .tc .vmem S256x1 .f32) (harg15 : arg15.IsWhole) (arg16 : Memref sig .tc .vmem S256x256 .f32) (harg16 : arg16.IsWhole) (i : grid0.Coords) (v7 : FVec F S256x128 .bf16) (k0_h2 : k0_cond2 i = 1#1) (k0_t1 : Fin k0_t1_loop.trips) (v311 : BitVec 32) (v316 : FVec F S3328x128 .bf16) (v325 : FVec F S256x3328 .f32) {X7a X7b X7p X7d : S256x3328.Idx → Elt F .f32} {X5 : S1x1x16640x256.Idx → Elt F .bf16} {X8a X8b X8p X8d : S256x3328.Idx → Elt F .f32} {X9 : S256x1.Idx → Elt F .f32} {X10 : S256x256.Idx → Elt F .f32} {Q : _ → sProp 𝕄} :
    iprop(O c arg7 (stack ![X7a, X7b, X7p, X7d]) ∗ O c arg5 X5 ∗ O c arg8 (stack ![X8a, X8b, X8p, X8d]) ∗ O c arg9 X9 ∗ O c arg10 X10)
      ⊢ iprop((iprop(O c arg7 (stack ![X7a, X7b, (k0_pay47 v325), (k0_pay48 v7 v316)]) ∗ O c arg5 X5 ∗ O c arg8 (stack ![X8a, X8b, X8p, X8d]) ∗ O c arg9 (k0_pay52 X8a X9) ∗ O c arg10 (k0_pay51 (pick (Rect.unit (s := S1x1x16640x256) (k0_off3 k0_t1) S1x1x3328x256.size (k0_off3_inb i k0_t1 k0_h2)).toLoadRect X5) X8a X9 X10))
          -∗ Q ⟨k0_pay49 (pick (Rect.unit (s := S1x1x16640x256) (k0_off3 k0_t1) S1x1x3328x256.size (k0_off3_inb i k0_t1 k0_h2)).toLoadRect X5), X8b⟩) -∗ W c (k0_part7 i arg3 harg3 arg4 harg4 arg5 harg5 arg6 harg6 arg7 harg7 arg8 harg8 arg9 harg9 arg10 harg10 arg11 harg11 arg12 harg12 arg13 harg13 arg14 harg14 arg15 harg15 arg16 harg16 v7 k0_h2 k0_t1 v311 v316 v325) Q) := by
  unfold W
  rw [k0_part7_eq_skeleton]; unfold k0_part7_skel
  iintro ⟨H7, H5, H8, H9, H10⟩ HK
  iapply (store_rows_2 𝒱₀ (c : Thread nD τ) none Set.univ) $$ H7; iintro H7
  iapply (load_rows_3 𝒱₀ (c : Thread nD τ) none Set.univ) $$ H7; iintro H7
  iapply (store_rows_3 𝒱₀ (c : Thread nD τ) none Set.univ) $$ H7; iintro H7
  iapply (load_part 𝒱₀ (c : Thread nD τ) none Set.univ) $$ H5; iintro H5
  iapply (load_rows_0 𝒱₀ (c : Thread nD τ) none Set.univ) $$ H8; iintro H8
  iapply (load_all 𝒱₀ (c : Thread nD τ) none Set.univ z2) $$ H9; iintro H9
  iapply (load_all 𝒱₀ (c : Thread nD τ) none Set.univ z2) $$ H10; iintro H10
  iapply (load_all 𝒱₀ (c : Thread nD τ) none Set.univ z2) $$ H10; iintro H10
  iapply (store_all 𝒱₀ (c : Thread nD τ) none Set.univ z2) $$ H10; iintro H10
  iapply (load_all 𝒱₀ (c : Thread nD τ) none Set.univ z2) $$ H9; iintro H9
  iapply (store_all 𝒱₀ (c : Thread nD τ) none Set.univ z2) $$ H9; iintro H9
  iapply (load_rows_1 𝒱₀ (c : Thread nD τ) none Set.univ) $$ H8; iintro H8
  iapply (le_wp_ret _ _ _ _ _)
  iapply HK
  isplitl [H7]; · iexact H7
  isplitl [H5]; · iexact H5
  isplitl [H8]; · iexact H8
  isplitl [H9]; · iexact H9
  iexact H10

/-- A trip, second phase: the second head takes the second buffer in; the third head's update is computed. -/
theorem part8_spec (c : Dev nD) (arg3 : Memref sig .tc .vmem S1x4x256x128 .bf16) (harg3 : arg3.IsWhole) (arg4 : Memref sig .tc .vmem S1x1x16640x128 .bf16) (harg4 : arg4.IsWhole) (arg5 : Memref sig .tc .vmem S1x1x16640x256 .bf16) (harg5 : arg5.IsWhole) (arg6 : Memref sig .tc .vmem S1x256x512 .bf16) (harg6 : arg6.IsWhole) (arg7 : Memref sig .tc .vmem S1024x3328 .f32) (harg7 : arg7.IsWhole) (arg8 : Memref sig .tc .vmem S1024x3328 .f32) (harg8 : arg8.IsWhole) (arg9 : Memref sig .tc .vmem S256x1 .f32) (harg9 : arg9.IsWhole) (arg10 : Memref sig .tc .vmem S256x256 .f32) (harg10 : arg10.IsWhole) (arg11 : Memref sig .tc .vmem S256x1 .f32) (harg11 : arg11.IsWhole) (arg12 : Memref sig .tc .vmem S256x256 .f32) (harg12 : arg12.IsWhole) (arg13 : Memref sig .tc .vmem S256x1 .f32) (harg13 : arg13.IsWhole) (arg14 : Memref sig .tc .vmem S256x256 .f32) (harg14 : arg14.IsWhole) (arg15 : Memref sig .tc .vmem S256x1 .f32) (harg15 : arg15.IsWhole) (arg16 : Memref sig .tc .vmem S256x256 .f32) (harg16 : arg16.IsWhole) (i : grid0.Coords) (v337 : FVec F S3328x256 .bf16) (v360 : Vec F S256x3328 .f32) {X11 : S256x1.Idx → Elt F .f32} {X12 : S256x256.Idx → Elt F .f32} {X8a X8b X8p X8d : S256x3328.Idx → Elt F .f32} {X13 : S256x1.Idx → Elt F .f32} {X14 : S256x256.Idx → Elt F .f32} {Q : _ → sProp 𝕄} :
    iprop(O c arg11 X11 ∗ O c arg12 X12 ∗ O c arg8 (stack ![X8a, X8b, X8p, X8d]) ∗ O c arg13 X13 ∗ O c arg14 X14)
      ⊢ iprop((iprop(O c arg11 (k0_pay55 v360 X11) ∗ O c arg12 (k0_pay54 v337 v360 X11 X12) ∗ O c arg8 (stack ![X8a, X8b, X8p, X8d]) ∗ O c arg13 X13 ∗ O c arg14 X14)
          -∗ Q ⟨k0_pay56 X8p X13, k0_pay57 v337 X8p X13 X14⟩) -∗ W c (k0_part8 i arg3 harg3 arg4 harg4 arg5 harg5 arg6 harg6 arg7 harg7 arg8 harg8 arg9 harg9 arg10 harg10 arg11 harg11 arg12 harg12 arg13 harg13 arg14 harg14 arg15 harg15 arg16 harg16 v337 v360) Q) := by
  unfold W
  rw [k0_part8_eq_skeleton]; unfold k0_part8_skel
  iintro ⟨H11, H12, H8, H13, H14⟩ HK
  iapply (load_all 𝒱₀ (c : Thread nD τ) none Set.univ z2) $$ H11; iintro H11
  iapply (load_all 𝒱₀ (c : Thread nD τ) none Set.univ z2) $$ H12; iintro H12
  iapply (load_all 𝒱₀ (c : Thread nD τ) none Set.univ z2) $$ H12; iintro H12
  iapply (store_all 𝒱₀ (c : Thread nD τ) none Set.univ z2) $$ H12; iintro H12
  iapply (load_all 𝒱₀ (c : Thread nD τ) none Set.univ z2) $$ H11; iintro H11
  iapply (store_all 𝒱₀ (c : Thread nD τ) none Set.univ z2) $$ H11; iintro H11
  iapply (load_rows_2 𝒱₀ (c : Thread nD τ) none Set.univ) $$ H8; iintro H8
  iapply (load_all 𝒱₀ (c : Thread nD τ) none Set.univ z2) $$ H13; iintro H13
  iapply (load_all 𝒱₀ (c : Thread nD τ) none Set.univ z2) $$ H14; iintro H14
  iapply (load_all 𝒱₀ (c : Thread nD τ) none Set.univ z2) $$ H14; iintro H14
  iapply (le_wp_ret _ _ _ _ _)
  iapply HK
  isplitl [H11]; · iexact H11
  isplitl [H12]; · iexact H12
  isplitl [H8]; · iexact H8
  isplitl [H13]; · iexact H13
  iexact H14

/-- The last chunk: the first and second heads take it in. -/
theorem part10_spec (c : Dev nD) (arg3 : Memref sig .tc .vmem S1x4x256x128 .bf16) (harg3 : arg3.IsWhole) (arg4 : Memref sig .tc .vmem S1x1x16640x128 .bf16) (harg4 : arg4.IsWhole) (arg5 : Memref sig .tc .vmem S1x1x16640x256 .bf16) (harg5 : arg5.IsWhole) (arg6 : Memref sig .tc .vmem S1x256x512 .bf16) (harg6 : arg6.IsWhole) (arg7 : Memref sig .tc .vmem S1024x3328 .f32) (harg7 : arg7.IsWhole) (arg8 : Memref sig .tc .vmem S1024x3328 .f32) (harg8 : arg8.IsWhole) (arg9 : Memref sig .tc .vmem S256x1 .f32) (harg9 : arg9.IsWhole) (arg10 : Memref sig .tc .vmem S256x256 .f32) (harg10 : arg10.IsWhole) (arg11 : Memref sig .tc .vmem S256x1 .f32) (harg11 : arg11.IsWhole) (arg12 : Memref sig .tc .vmem S256x256 .f32) (harg12 : arg12.IsWhole) (arg13 : Memref sig .tc .vmem S256x1 .f32) (harg13 : arg13.IsWhole) (arg14 : Memref sig .tc .vmem S256x256 .f32) (harg14 : arg14.IsWhole) (arg15 : Memref sig .tc .vmem S256x1 .f32) (harg15 : arg15.IsWhole) (arg16 : Memref sig .tc .vmem S256x256 .f32) (harg16 : arg16.IsWhole) (i : grid0.Coords) (v102 : FVec F S3328x256 .bf16) (v103 : Vec F S256x3328 .f32) (v104 : Vec F S256x1 .f32) {X10 : S256x256.Idx → Elt F .f32} {X9 : S256x1.Idx → Elt F .f32} {X7a X7b X7p X7d : S256x3328.Idx → Elt F .f32} {X11 : S256x1.Idx → Elt F .f32} {X12 : S256x256.Idx → Elt F .f32} {Q : _ → sProp 𝕄} :
    iprop(O c arg10 X10 ∗ O c arg9 X9 ∗ O c arg7 (stack ![X7a, X7b, X7p, X7d]) ∗ O c arg11 X11 ∗ O c arg12 X12)
      ⊢ iprop((iprop(O c arg10 (k0_pay69 v102 v103 v104 X10) ∗ O c arg9 (k0_pay70 v103 v104) ∗ O c arg7 (stack ![X7a, X7b, X7p, X7d]) ∗ O c arg11 X11 ∗ O c arg12 (k0_pay72 v102 X7b X11 X12))
          -∗ Q (k0_pay71 X7b X11)) -∗ W c (k0_part10 i arg3 harg3 arg4 harg4 arg5 harg5 arg6 harg6 arg7 harg7 arg8 harg8 arg9 harg9 arg10 harg10 arg11 harg11 arg12 harg12 arg13 harg13 arg14 harg14 arg15 harg15 arg16 harg16 v102 v103 v104) Q) := by
  unfold W
  rw [k0_part10_eq_skeleton]; unfold k0_part10_skel
  iintro ⟨H10, H9, H7, H11, H12⟩ HK
  iapply (load_all 𝒱₀ (c : Thread nD τ) none Set.univ z2) $$ H10; iintro H10
  iapply (load_all 𝒱₀ (c : Thread nD τ) none Set.univ z2) $$ H10; iintro H10
  iapply (store_all 𝒱₀ (c : Thread nD τ) none Set.univ z2) $$ H10; iintro H10
  iapply (load_all 𝒱₀ (c : Thread nD τ) none Set.univ z2) $$ H9; iintro H9
  iapply (store_all 𝒱₀ (c : Thread nD τ) none Set.univ z2) $$ H9; iintro H9
  iapply (load_rows_1 𝒱₀ (c : Thread nD τ) none Set.univ) $$ H7; iintro H7
  iapply (load_all 𝒱₀ (c : Thread nD τ) none Set.univ z2) $$ H11; iintro H11
  iapply (load_all 𝒱₀ (c : Thread nD τ) none Set.univ z2) $$ H12; iintro H12
  iapply (load_all 𝒱₀ (c : Thread nD τ) none Set.univ z2) $$ H12; iintro H12
  iapply (store_all 𝒱₀ (c : Thread nD τ) none Set.univ z2) $$ H12; iintro H12
  iapply (le_wp_ret _ _ _ _ _)
  iapply HK
  isplitl [H10]; · iexact H10
  isplitl [H9]; · iexact H9
  isplitl [H7]; · iexact H7
  isplitl [H11]; · iexact H11
  iexact H12

/-- The last chunk: the third head takes it in; the fourth head's update is begun. -/
theorem part11_spec (c : Dev nD) (arg3 : Memref sig .tc .vmem S1x4x256x128 .bf16) (harg3 : arg3.IsWhole) (arg4 : Memref sig .tc .vmem S1x1x16640x128 .bf16) (harg4 : arg4.IsWhole) (arg5 : Memref sig .tc .vmem S1x1x16640x256 .bf16) (harg5 : arg5.IsWhole) (arg6 : Memref sig .tc .vmem S1x256x512 .bf16) (harg6 : arg6.IsWhole) (arg7 : Memref sig .tc .vmem S1024x3328 .f32) (harg7 : arg7.IsWhole) (arg8 : Memref sig .tc .vmem S1024x3328 .f32) (harg8 : arg8.IsWhole) (arg9 : Memref sig .tc .vmem S256x1 .f32) (harg9 : arg9.IsWhole) (arg10 : Memref sig .tc .vmem S256x256 .f32) (harg10 : arg10.IsWhole) (arg11 : Memref sig .tc .vmem S256x1 .f32) (harg11 : arg11.IsWhole) (arg12 : Memref sig .tc .vmem S256x256 .f32) (harg12 : arg12.IsWhole) (arg13 : Memref sig .tc .vmem S256x1 .f32) (harg13 : arg13.IsWhole) (arg14 : Memref sig .tc .vmem S256x256 .f32) (harg14 : arg14.IsWhole) (arg15 : Memref sig .tc .vmem S256x1 .f32) (harg15 : arg15.IsWhole) (arg16 : Memref sig .tc .vmem S256x256 .f32) (harg16 : arg16.IsWhole) (i : grid0.Coords) (v102 : FVec F S3328x256 .bf16) (v129 : FVec F S256x1 .f32) {X11 : S256x1.Idx → Elt F .f32} {X7a X7b X7p X7d : S256x3328.Idx → Elt F .f32} {X13 : S256x1.Idx → Elt F .f32} {X14 : S256x256.Idx → Elt F .f32} {X15 : S256x1.Idx → Elt F .f32} {Q : _ → sProp 𝕄} :
    iprop(O c arg11 X11 ∗ O c arg7 (stack ![X7a, X7b, X7p, X7d]) ∗ O c arg13 X13 ∗ O c arg14 X14 ∗ O c arg15 X15)
      ⊢ iprop((iprop(O c arg11 (k0_pay73 v129) ∗ O c arg7 (stack ![X7a, X7b, X7p, X7d]) ∗ O c arg13 (k0_pay76 X7p X13) ∗ O c arg14 (k0_pay75 v102 X7p X13 X14) ∗ O c arg15 X15)
          -∗ Q ⟨k0_pay77 X7d X15, k0_pay78 X7d X15, k0_pay79 X7d X15⟩) -∗ W c (k0_part11 i arg3 harg3 arg4 harg4 arg5 harg5 arg6 harg6 arg7 harg7 arg8 harg8 arg9 harg9 arg10 harg10 arg11 harg11 arg12 harg12 arg13 harg13 arg14 harg14 arg15 harg15 arg16 harg16 v102 v129) Q) := by
  unfold W
  rw [k0_part11_eq_skeleton]; unfold k0_part11_skel
  iintro ⟨H11, H7, H13, H14, H15⟩ HK
  iapply (load_all 𝒱₀ (c : Thread nD τ) none Set.univ z2) $$ H11; iintro H11
  iapply (store_all 𝒱₀ (c : Thread nD τ) none Set.univ z2) $$ H11; iintro H11
  iapply (load_rows_2 𝒱₀ (c : Thread nD τ) none Set.univ) $$ H7; iintro H7
  iapply (load_all 𝒱₀ (c : Thread nD τ) none Set.univ z2) $$ H13; iintro H13
  iapply (load_all 𝒱₀ (c : Thread nD τ) none Set.univ z2) $$ H14; iintro H14
  iapply (load_all 𝒱₀ (c : Thread nD τ) none Set.univ z2) $$ H14; iintro H14
  iapply (store_all 𝒱₀ (c : Thread nD τ) none Set.univ z2) $$ H14; iintro H14
  iapply (load_all 𝒱₀ (c : Thread nD τ) none Set.univ z2) $$ H13; iintro H13
  iapply (store_all 𝒱₀ (c : Thread nD τ) none Set.univ z2) $$ H13; iintro H13
  iapply (load_rows_3 𝒱₀ (c : Thread nD τ) none Set.univ) $$ H7; iintro H7
  iapply (load_all 𝒱₀ (c : Thread nD τ) none Set.univ z2) $$ H15; iintro H15
  iapply (le_wp_ret _ _ _ _ _)
  iapply HK
  isplitl [H11]; · iexact H11
  isplitl [H7]; · iexact H7
  isplitl [H13]; · iexact H13
  isplitl [H14]; · iexact H14
  iexact H15

/-- The start: the queries of the four heads are read and the first heads' streams cleared. -/
theorem part12_spec (c : Dev nD) (arg3 : Memref sig .tc .vmem S1x4x256x128 .bf16) (harg3 : arg3.IsWhole) (arg4 : Memref sig .tc .vmem S1x1x16640x128 .bf16) (harg4 : arg4.IsWhole) (arg5 : Memref sig .tc .vmem S1x1x16640x256 .bf16) (harg5 : arg5.IsWhole) (arg6 : Memref sig .tc .vmem S1x256x512 .bf16) (harg6 : arg6.IsWhole) (arg7 : Memref sig .tc .vmem S1024x3328 .f32) (harg7 : arg7.IsWhole) (arg8 : Memref sig .tc .vmem S1024x3328 .f32) (harg8 : arg8.IsWhole) (arg9 : Memref sig .tc .vmem S256x1 .f32) (harg9 : arg9.IsWhole) (arg10 : Memref sig .tc .vmem S256x256 .f32) (harg10 : arg10.IsWhole) (arg11 : Memref sig .tc .vmem S256x1 .f32) (harg11 : arg11.IsWhole) (arg12 : Memref sig .tc .vmem S256x256 .f32) (harg12 : arg12.IsWhole) (arg13 : Memref sig .tc .vmem S256x1 .f32) (harg13 : arg13.IsWhole) (arg14 : Memref sig .tc .vmem S256x256 .f32) (harg14 : arg14.IsWhole) (arg15 : Memref sig .tc .vmem S256x1 .f32) (harg15 : arg15.IsWhole) (arg16 : Memref sig .tc .vmem S256x256 .f32) (harg16 : arg16.IsWhole) (i : grid0.Coords)  {X3 : S1x4x256x128.Idx → Elt F .bf16} {X9 : S256x1.Idx → Elt F .f32} {X10 : S256x256.Idx → Elt F .f32} {X11 : S256x1.Idx → Elt F .f32} {X12 : S256x256.Idx → Elt F .f32} {Q : _ → sProp 𝕄} :
    iprop(O c arg3 X3 ∗ O c arg9 X9 ∗ O c arg10 X10 ∗ O c arg11 X11 ∗ O c arg12 X12)
      ⊢ iprop((iprop(O c arg3 X3 ∗ O c arg9 (k0_pay84 (F := F)) ∗ O c arg10 (k0_pay85 (F := F)) ∗ O c arg11 (k0_pay86 (F := F)) ∗ O c arg12 X12)
          -∗ Q ⟨k0_pay80 (pick (Rect.unit (s := S1x4x256x128) ![0, 0, 0, 0] S1x1x256x128.size inb_S1x4x256x128_S1x1x256x128_0_0_0_0).toLoadRect X3), k0_pay81 (pick (Rect.unit (s := S1x4x256x128) ![0, 1, 0, 0] S1x1x256x128.size inb_S1x4x256x128_S1x1x256x128_0_1_0_0).toLoadRect X3), k0_pay82 (pick (Rect.unit (s := S1x4x256x128) ![0, 2, 0, 0] S1x1x256x128.size inb_S1x4x256x128_S1x1x256x128_0_2_0_0).toLoadRect X3), k0_pay83 (pick (Rect.unit (s := S1x4x256x128) ![0, 3, 0, 0] S1x1x256x128.size inb_S1x4x256x128_S1x1x256x128_0_3_0_0).toLoadRect X3), (Scalar.cmpi .slt (BitVec.ofNat 32 (i 2).val) 1#32), k0_pay87 (F := F)⟩) -∗ W c (k0_part12 i arg3 harg3 arg4 harg4 arg5 harg5 arg6 harg6 arg7 harg7 arg8 harg8 arg9 harg9 arg10 harg10 arg11 harg11 arg12 harg12 arg13 harg13 arg14 harg14 arg15 harg15 arg16 harg16 ) Q) := by
  unfold W
  rw [k0_part12_eq_skeleton]; unfold k0_part12_skel
  iintro ⟨H3, H9, H10, H11, H12⟩ HK
  iapply (load_part 𝒱₀ (c : Thread nD τ) none Set.univ) $$ H3; iintro H3
  iapply (load_part 𝒱₀ (c : Thread nD τ) none Set.univ) $$ H3; iintro H3
  iapply (load_part 𝒱₀ (c : Thread nD τ) none Set.univ) $$ H3; iintro H3
  iapply (load_part 𝒱₀ (c : Thread nD τ) none Set.univ) $$ H3; iintro H3
  iapply (load_all 𝒱₀ (c : Thread nD τ) none Set.univ z2) $$ H9; iintro H9
  iapply (store_all 𝒱₀ (c : Thread nD τ) none Set.univ z2) $$ H9; iintro H9
  iapply (load_all 𝒱₀ (c : Thread nD τ) none Set.univ z2) $$ H10; iintro H10
  iapply (store_all 𝒱₀ (c : Thread nD τ) none Set.univ z2) $$ H10; iintro H10
  iapply (load_all 𝒱₀ (c : Thread nD τ) none Set.univ z2) $$ H11; iintro H11
  iapply (store_all 𝒱₀ (c : Thread nD τ) none Set.univ z2) $$ H11; iintro H11
  iapply (load_all 𝒱₀ (c : Thread nD τ) none Set.univ z2) $$ H12; iintro H12
  iapply (le_wp_ret _ _ _ _ _)
  iapply HK
  isplitl [H3]; · iexact H3
  isplitl [H9]; · iexact H9
  isplitl [H10]; · iexact H10
  isplitl [H11]; · iexact H11
  iexact H12

/-- One trip of the loop: the buffers after it. -/
theorem trip_spec (c : Dev nD) (arg3 : Memref sig .tc .vmem S1x4x256x128 .bf16) (harg3 : arg3.IsWhole) (arg4 : Memref sig .tc .vmem S1x1x16640x128 .bf16) (harg4 : arg4.IsWhole) (arg5 : Memref sig .tc .vmem S1x1x16640x256 .bf16) (harg5 : arg5.IsWhole) (arg6 : Memref sig .tc .vmem S1x256x512 .bf16) (harg6 : arg6.IsWhole) (arg7 : Memref sig .tc .vmem S1024x3328 .f32) (harg7 : arg7.IsWhole) (arg8 : Memref sig .tc .vmem S1024x3328 .f32) (harg8 : arg8.IsWhole) (arg9 : Memref sig .tc .vmem S256x1 .f32) (harg9 : arg9.IsWhole) (arg10 : Memref sig .tc .vmem S256x256 .f32) (harg10 : arg10.IsWhole) (arg11 : Memref sig .tc .vmem S256x1 .f32) (harg11 : arg11.IsWhole) (arg12 : Memref sig .tc .vmem S256x256 .f32) (harg12 : arg12.IsWhole) (arg13 : Memref sig .tc .vmem S256x1 .f32) (harg13 : arg13.IsWhole) (arg14 : Memref sig .tc .vmem S256x256 .f32) (harg14 : arg14.IsWhole) (arg15 : Memref sig .tc .vmem S256x1 .f32) (harg15 : arg15.IsWhole) (arg16 : Memref sig .tc .vmem S256x256 .f32) (harg16 : arg16.IsWhole) (i : grid0.Coords) (v1 : FVec F S256x128 .bf16) (v3 : FVec F S256x128 .bf16) (v5 : FVec F S256x128 .bf16) (v7 : FVec F S256x128 .bf16) (k0_h2 : k0_cond2 i = 1#1) (k0_t1 : Fin k0_t1_loop.trips) {X4 : S1x1x16640x128.Idx → Elt F .bf16} {X8a X8b X8p X8d : S256x3328.Idx → Elt F .f32} {X5 : S1x1x16640x256.Idx → Elt F .bf16} {X7a X7b X7p X7d : S256x3328.Idx → Elt F .f32} {X9 : S256x1.Idx → Elt F .f32} {X10 : S256x256.Idx → Elt F .f32} {X11 : S256x1.Idx → Elt F .f32} {X12 : S256x256.Idx → Elt F .f32} {X13 : S256x1.Idx → Elt F .f32} {X14 : S256x256.Idx → Elt F .f32} {X15 : S256x1.Idx → Elt F .f32} {X16 : S256x256.Idx → Elt F .f32} {Q : _ → sProp 𝕄} :
    iprop(O c arg4 X4 ∗ O c arg8 (stack ![X8a, X8b, X8p, X8d]) ∗ O c arg5 X5 ∗ O c arg7 (stack ![X7a, X7b, X7p, X7d]) ∗ O c arg9 X9 ∗ O c arg10 X10 ∗ O c arg11 X11 ∗ O c arg12 X12 ∗ O c arg13 X13 ∗ O c arg14 X14 ∗ O c arg15 X15 ∗ O c arg16 X16)
      ⊢ iprop((iprop(O c arg4 X4 ∗ O c arg8 (stack ![(k0_pay23 v1 (pick (Rect.unit (s := S1x1x16640x128) (k0_off1 k0_t1 1#32) S1x1x3328x128.size (k0_off1_inb i k0_t1 k0_h2 0)).toLoadRect X4)), (k0_pay24 v3 (pick (Rect.unit (s := S1x1x16640x128) (k0_off1 k0_t1 1#32) S1x1x3328x128.size (k0_off1_inb i k0_t1 k0_h2 0)).toLoadRect X4)), (k0_pay25 v5 (pick (Rect.unit (s := S1x1x16640x128) (k0_off1 k0_t1 1#32) S1x1x3328x128.size (k0_off1_inb i k0_t1 k0_h2 0)).toLoadRect X4)), (k0_pay26 v7 (pick (Rect.unit (s := S1x1x16640x128) (k0_off1 k0_t1 1#32) S1x1x3328x128.size (k0_off1_inb i k0_t1 k0_h2 0)).toLoadRect X4))]) ∗ O c arg5 X5 ∗ O c arg7 (stack ![(k0_pay44 v1 (pick (Rect.unit (s := S1x1x16640x128) (k0_off1 k0_t1 2#32) S1x1x3328x128.size (k0_off1_inb i k0_t1 k0_h2 1)).toLoadRect X4)), (k0_pay45 v3 (pick (Rect.unit (s := S1x1x16640x128) (k0_off1 k0_t1 2#32) S1x1x3328x128.size (k0_off1_inb i k0_t1 k0_h2 1)).toLoadRect X4)), (k0_pay47 (k0_pay46 v5 (pick (Rect.unit (s := S1x1x16640x128) (k0_off1 k0_t1 2#32) S1x1x3328x128.size (k0_off1_inb i k0_t1 k0_h2 1)).toLoadRect X4))), (k0_pay48 v7 (k0_pay43 (pick (Rect.unit (s := S1x1x16640x128) (k0_off1 k0_t1 2#32) S1x1x3328x128.size (k0_off1_inb i k0_t1 k0_h2 1)).toLoadRect X4)))]) ∗ O c arg9 (k0_pay52 (k0_pay23 v1 (pick (Rect.unit (s := S1x1x16640x128) (k0_off1 k0_t1 1#32) S1x1x3328x128.size (k0_off1_inb i k0_t1 k0_h2 0)).toLoadRect X4)) (k0_pay30 X7a X9)) ∗ O c arg10 (k0_pay51 (pick (Rect.unit (s := S1x1x16640x256) (k0_off3 k0_t1) S1x1x3328x256.size (k0_off3_inb i k0_t1 k0_h2)).toLoadRect X5) (k0_pay23 v1 (pick (Rect.unit (s := S1x1x16640x128) (k0_off1 k0_t1 1#32) S1x1x3328x128.size (k0_off1_inb i k0_t1 k0_h2 0)).toLoadRect X4)) (k0_pay30 X7a X9) (k0_pay29 (k0_pay27 (pick (Rect.unit (s := S1x1x16640x256) (k0_off2 k0_t1) S1x1x3328x256.size (k0_off2_inb i k0_t1 k0_h2)).toLoadRect X5)) X7a X9 X10)) ∗ O c arg11 (k0_pay55 (k0_pay24 v3 (pick (Rect.unit (s := S1x1x16640x128) (k0_off1 k0_t1 1#32) S1x1x3328x128.size (k0_off1_inb i k0_t1 k0_h2 0)).toLoadRect X4)) (k0_pay34 (k0_pay31 X7b X11))) ∗ O c arg12 (k0_pay54 (k0_pay49 (pick (Rect.unit (s := S1x1x16640x256) (k0_off3 k0_t1) S1x1x3328x256.size (k0_off3_inb i k0_t1 k0_h2)).toLoadRect X5)) (k0_pay24 v3 (pick (Rect.unit (s := S1x1x16640x128) (k0_off1 k0_t1 1#32) S1x1x3328x128.size (k0_off1_inb i k0_t1 k0_h2 0)).toLoadRect X4)) (k0_pay34 (k0_pay31 X7b X11)) (k0_pay33 (k0_pay32 (k0_pay27 (pick (Rect.unit (s := S1x1x16640x256) (k0_off2 k0_t1) S1x1x3328x256.size (k0_off2_inb i k0_t1 k0_h2)).toLoadRect X5)) X7b X11 X12))) ∗ O c arg13 (k0_pay63 (k0_pay56 (k0_pay25 v5 (pick (Rect.unit (s := S1x1x16640x128) (k0_off1 k0_t1 1#32) S1x1x3328x128.size (k0_off1_inb i k0_t1 k0_h2 0)).toLoadRect X4)) (k0_pay37 X7p X13))) ∗ O c arg14 (k0_pay57 (k0_pay49 (pick (Rect.unit (s := S1x1x16640x256) (k0_off3 k0_t1) S1x1x3328x256.size (k0_off3_inb i k0_t1 k0_h2)).toLoadRect X5)) (k0_pay25 v5 (pick (Rect.unit (s := S1x1x16640x128) (k0_off1 k0_t1 1#32) S1x1x3328x128.size (k0_off1_inb i k0_t1 k0_h2 0)).toLoadRect X4)) (k0_pay37 X7p X13) (k0_pay36 (k0_pay27 (pick (Rect.unit (s := S1x1x16640x256) (k0_off2 k0_t1) S1x1x3328x256.size (k0_off2_inb i k0_t1 k0_h2)).toLoadRect X5)) X7p X13 X14)) ∗ O c arg15 (k0_pay66 (k0_pay26 v7 (pick (Rect.unit (s := S1x1x16640x128) (k0_off1 k0_t1 1#32) S1x1x3328x128.size (k0_off1_inb i k0_t1 k0_h2 0)).toLoadRect X4)) (k0_pay42 (k0_pay38 X7d X15))) ∗ O c arg16 (k0_pay65 (k0_pay49 (pick (Rect.unit (s := S1x1x16640x256) (k0_off3 k0_t1) S1x1x3328x256.size (k0_off3_inb i k0_t1 k0_h2)).toLoadRect X5)) (k0_pay26 v7 (pick (Rect.unit (s := S1x1x16640x128) (k0_off1 k0_t1 1#32) S1x1x3328x128.size (k0_off1_inb i k0_t1 k0_h2 0)).toLoadRect X4)) (k0_pay42 (k0_pay38 X7d X15)) (k0_pay41 (k0_pay27 (pick (Rect.unit (s := S1x1x16640x256) (k0_off2 k0_t1) S1x1x3328x256.size (k0_off2_inb i k0_t1 k0_h2)).toLoadRect X5)) (k0_pay39 X7d X15) (k0_pay40 X7d X15) X16)))
          -∗ Q ⟨⟩) -∗ W c (k0_t1_body i arg3 harg3 arg4 harg4 arg5 harg5 arg6 harg6 arg7 harg7 arg8 harg8 arg9 harg9 arg10 harg10 arg11 harg11 arg12 harg12 arg13 harg13 arg14 harg14 arg15 harg15 arg16 harg16 v1 v3 v5 v7 k0_h2 k0_t1 ()) Q) := by
  unfold W k0_t1_body
  iintro ⟨H4, H8, H5, H7, H9, H10, H11, H12, H13, H14, H15, H16⟩ HK
  rw [wp_bind]
  iapply (part3_spec c arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ _ _) $$ [H4 H8 H5 H7]
  · isplitl [H4]; · iexact H4
    · isplitl [H8]; · iexact H8
      · isplitl [H5]; · iexact H5
        iexact H7
  iintro ⟨H4, H8, H5, H7⟩
  try dsimp only
  rw [wp_bind]
  iapply (part4_spec c arg3 harg3 arg4 harg4 arg5 harg5 arg6 harg6 arg7 harg7 arg8 harg8 arg9 harg9 arg10 harg10 arg11 harg11 arg12 harg12 arg13 harg13 arg14 harg14 arg15 harg15 arg16 harg16 _ _ _) $$ [H9 H10 H7 H11 H12]
  · isplitl [H9]; · iexact H9
    · isplitl [H10]; · iexact H10
      · isplitl [H7]; · iexact H7
        · isplitl [H11]; · iexact H11
          iexact H12
  iintro ⟨H9, H10, H7, H11, H12⟩
  try dsimp only
  rw [wp_bind]
  iapply (part5_spec c arg3 harg3 arg4 harg4 arg5 harg5 arg6 harg6 arg7 harg7 arg8 harg8 arg9 harg9 arg10 harg10 arg11 harg11 arg12 harg12 arg13 harg13 arg14 harg14 arg15 harg15 arg16 harg16 _ _ _ _ _) $$ [H12 H11 H7 H13 H14 H15]
  · isplitl [H12]; · iexact H12
    · isplitl [H11]; · iexact H11
      · isplitl [H7]; · iexact H7
        · isplitl [H13]; · iexact H13
          · isplitl [H14]; · iexact H14
            iexact H15
  iintro ⟨H12, H11, H7, H13, H14, H15⟩
  try dsimp only
  rw [wp_bind]
  iapply (part6_spec c arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ _ _ _ _) $$ [H16 H15 H4 H7]
  · isplitl [H16]; · iexact H16
    · isplitl [H15]; · iexact H15
      · isplitl [H4]; · iexact H4
        iexact H7
  iintro ⟨H16, H15, H4, H7⟩
  try dsimp only
  rw [wp_bind]
  iapply (part7_spec c arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _) $$ [H7 H5 H8 H9 H10]
  · isplitl [H7]; · iexact H7
    · isplitl [H5]; · iexact H5
      · isplitl [H8]; · iexact H8
        · isplitl [H9]; · iexact H9
          iexact H10
  iintro ⟨H7, H5, H8, H9, H10⟩
  try dsimp only
  rw [wp_bind]
  iapply (part8_spec c arg3 harg3 arg4 harg4 arg5 harg5 arg6 harg6 arg7 harg7 arg8 harg8 arg9 harg9 arg10 harg10 arg11 harg11 arg12 harg12 arg13 harg13 arg14 harg14 arg15 harg15 arg16 harg16 _ _ _) $$ [H11 H12 H8 H13 H14]
  · isplitl [H11]; · iexact H11
    · isplitl [H12]; · iexact H12
      · isplitl [H8]; · iexact H8
        · isplitl [H13]; · iexact H13
          iexact H14
  iintro ⟨H11, H12, H8, H13, H14⟩
  try dsimp only
  iapply (store_all 𝒱₀ (c : Thread nD τ) none Set.univ z2) $$ H14; iintro H14
  iapply (load_all 𝒱₀ (c : Thread nD τ) none Set.univ z2) $$ H13; iintro H13
  iapply (store_all 𝒱₀ (c : Thread nD τ) none Set.univ z2) $$ H13; iintro H13
  iapply (load_rows_3 𝒱₀ (c : Thread nD τ) none Set.univ) $$ H8; iintro H8
  iapply (load_all 𝒱₀ (c : Thread nD τ) none Set.univ z2) $$ H15; iintro H15
  iapply (load_all 𝒱₀ (c : Thread nD τ) none Set.univ z2) $$ H16; iintro H16
  iapply (load_all 𝒱₀ (c : Thread nD τ) none Set.univ z2) $$ H16; iintro H16
  iapply (store_all 𝒱₀ (c : Thread nD τ) none Set.univ z2) $$ H16; iintro H16
  iapply (load_all 𝒱₀ (c : Thread nD τ) none Set.univ z2) $$ H15; iintro H15
  iapply (store_all 𝒱₀ (c : Thread nD τ) none Set.univ z2) $$ H15; iintro H15
  iapply (le_wp_ret _ _ _ _ _)
  iapply HK
  isplitl [H4]; · iexact H4
  isplitl [H8]; · iexact H8
  isplitl [H5]; · iexact H5
  isplitl [H7]; · iexact H7
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

end Cert.Proof.Gqa

end
-- ==== Proof.GqaLoop.lean ====
/-
  The loop of the grouped-attention kernel, and the parts of its body around the loop.
-/
module

public import proofs.«01_k».proof.Proof.GqaParts
public import proofs.«01_k».proof.Proof.Gen.Kernel2Ideal.Launch
public import proofs.«01_k».proof.Proof.Gen.Kernel2Ideal.Skeleton

@[expose] public section

noncomputable section

namespace Cert.Proof.Gqa

open Cert.Kernel2Ideal Cert.Kernel2Ideal.Gen Cert.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The first chunk of the keys. -/
abbrev chunk0 := Rect.unit (s := S1x1x16640x128) ![0, 0, 0, 0] S1x1x3328x128.size inb_S1x1x16640x128_S1x1x3328x128_0_0_0_0

/-- The four heads' maxima and weighted sums. -/
structure Streams (F : FTy → Type) where
  m1 : S256x1.Idx → Elt F .f32
  a1 : S256x256.Idx → Elt F .f32
  m2 : S256x1.Idx → Elt F .f32
  a2 : S256x256.Idx → Elt F .f32
  m3 : S256x1.Idx → Elt F .f32
  a3 : S256x256.Idx → Elt F .f32
  m4 : S256x1.Idx → Elt F .f32
  a4 : S256x256.Idx → Elt F .f32

/-- What the loop carries: each head's scores of the chunk to come, and the streams. -/
structure Regs (F : FTy → Type) where
  s1 : S256x3328.Idx → Elt F .f32
  s2 : S256x3328.Idx → Elt F .f32
  s3 : S256x3328.Idx → Elt F .f32
  s4 : S256x3328.Idx → Elt F .f32
  p : Streams F

/-- Core `c` owns the memref of four blocks of rows, whatever they hold. -/
abbrev AnyS (c : Dev nD) (m : Memref sig .tc .vmem S1024x3328 .f32) : sProp 𝕄 :=
  iprop(∃ Z : Fin 4 → S256x3328.Idx → Elt F .f32, O (F := F) c m (stack Z))

/-- One trip of the loop, on what it carries. -/
def trip (i : grid0.Coords) (v1 v3 v5 v7 : FVec F S256x128 .bf16) (k0_h2 : k0_cond2 i = 1#1) (K : S1x1x16640x128.Idx → Elt F .bf16) (V : S1x1x16640x256.Idx → Elt F .bf16) (k0_t1 : Fin k0_t1_loop.trips) (r : Regs F) : Regs F :=
    let K2 := pick (Rect.unit (s := S1x1x16640x128) (k0_off1 k0_t1 2#32) S1x1x3328x128.size (k0_off1_inb i k0_t1 k0_h2 1)).toLoadRect K
    let K1 := pick (Rect.unit (s := S1x1x16640x128) (k0_off1 k0_t1 1#32) S1x1x3328x128.size (k0_off1_inb i k0_t1 k0_h2 0)).toLoadRect K
    let V3 := pick (Rect.unit (s := S1x1x16640x256) (k0_off3 k0_t1) S1x1x3328x256.size (k0_off3_inb i k0_t1 k0_h2)).toLoadRect V
    let V2 := pick (Rect.unit (s := S1x1x16640x256) (k0_off2 k0_t1) S1x1x3328x256.size (k0_off2_inb i k0_t1 k0_h2)).toLoadRect V
    ⟨(k0_pay44 v1 K2),
    (k0_pay45 v3 K2),
    (k0_pay47 (k0_pay46 v5 K2)),
    (k0_pay48 v7 (k0_pay43 K2)),
    { m1 := (k0_pay52 (k0_pay23 v1 K1) (k0_pay30 r.s1 r.p.m1)),
      a1 := (k0_pay51 V3 (k0_pay23 v1 K1) (k0_pay30 r.s1 r.p.m1) (k0_pay29 (k0_pay27 V2) r.s1 r.p.m1 r.p.a1)),
      m2 := (k0_pay55 (k0_pay24 v3 K1) (k0_pay34 (k0_pay31 r.s2 r.p.m2))),
      a2 := (k0_pay54 (k0_pay49 V3) (k0_pay24 v3 K1) (k0_pay34 (k0_pay31 r.s2 r.p.m2)) (k0_pay33 (k0_pay32 (k0_pay27 V2) r.s2 r.p.m2 r.p.a2))),
      m3 := (k0_pay63 (k0_pay56 (k0_pay25 v5 K1) (k0_pay37 r.s3 r.p.m3))),
      a3 := (k0_pay57 (k0_pay49 V3) (k0_pay25 v5 K1) (k0_pay37 r.s3 r.p.m3) (k0_pay36 (k0_pay27 V2) r.s3 r.p.m3 r.p.a3)),
      m4 := (k0_pay66 (k0_pay26 v7 K1) (k0_pay42 (k0_pay38 r.s4 r.p.m4))),
      a4 := (k0_pay65 (k0_pay49 V3) (k0_pay26 v7 K1) (k0_pay42 (k0_pay38 r.s4 r.p.m4)) (k0_pay41 (k0_pay27 V2) (k0_pay39 r.s4 r.p.m4) (k0_pay40 r.s4 r.p.m4) r.p.a4)) }⟩

/-- What the loop carries before trip `n`. -/
def regsAt (i : grid0.Coords) (v1 v3 v5 v7 : FVec F S256x128 .bf16) (k0_h2 : k0_cond2 i = 1#1) (K : S1x1x16640x128.Idx → Elt F .bf16) (V : S1x1x16640x256.Idx → Elt F .bf16) (r : Regs F) : ℕ → Regs F
  | 0 => r
  | n + 1 => if h : n < k0_t1_loop.trips then trip i v1 v3 v5 v7 k0_h2 K V ⟨n, h⟩ (regsAt i v1 v3 v5 v7 k0_h2 K V r n) else regsAt i v1 v3 v5 v7 k0_h2 K V r n

theorem regsAt_succ (i : grid0.Coords) (v1 v3 v5 v7 : FVec F S256x128 .bf16) (k0_h2 : k0_cond2 i = 1#1) (K : S1x1x16640x128.Idx → Elt F .bf16) (V : S1x1x16640x256.Idx → Elt F .bf16) (r : Regs F) (k : Fin k0_t1_loop.trips) :
    regsAt i v1 v3 v5 v7 k0_h2 K V r (k.val + 1) = trip i v1 v3 v5 v7 k0_h2 K V k (regsAt i v1 v3 v5 v7 k0_h2 K V r k.val) := by
  rw [regsAt, dif_pos k.isLt]

/-- The loop: from what it carries at the start to what it carries after the last trip. -/
theorem loop_spec (c : Dev nD) (arg3 : Memref sig .tc .vmem S1x4x256x128 .bf16) (harg3 : arg3.IsWhole) (arg4 : Memref sig .tc .vmem S1x1x16640x128 .bf16) (harg4 : arg4.IsWhole) (arg5 : Memref sig .tc .vmem S1x1x16640x256 .bf16) (harg5 : arg5.IsWhole) (arg6 : Memref sig .tc .vmem S1x256x512 .bf16) (harg6 : arg6.IsWhole) (arg7 : Memref sig .tc .vmem S1024x3328 .f32) (harg7 : arg7.IsWhole) (arg8 : Memref sig .tc .vmem S1024x3328 .f32) (harg8 : arg8.IsWhole) (arg9 : Memref sig .tc .vmem S256x1 .f32) (harg9 : arg9.IsWhole) (arg10 : Memref sig .tc .vmem S256x256 .f32) (harg10 : arg10.IsWhole) (arg11 : Memref sig .tc .vmem S256x1 .f32) (harg11 : arg11.IsWhole) (arg12 : Memref sig .tc .vmem S256x256 .f32) (harg12 : arg12.IsWhole) (arg13 : Memref sig .tc .vmem S256x1 .f32) (harg13 : arg13.IsWhole) (arg14 : Memref sig .tc .vmem S256x256 .f32) (harg14 : arg14.IsWhole) (arg15 : Memref sig .tc .vmem S256x1 .f32) (harg15 : arg15.IsWhole) (arg16 : Memref sig .tc .vmem S256x256 .f32) (harg16 : arg16.IsWhole) (i : grid0.Coords) (v1 v3 v5 v7 : FVec F S256x128 .bf16) (k0_h2 : k0_cond2 i = 1#1) {K : S1x1x16640x128.Idx → Elt F .bf16} {V : S1x1x16640x256.Idx → Elt F .bf16} {r : Regs F} {α : Type} {kk : Unit → Prog (TpuEff nD τ sig (Elt F) Λ₀ .tc) α} {Q : α → sProp 𝕄} :
    iprop(O c arg4 K ∗ AnyS (F := F) c arg8 ∗ O c arg5 V ∗ O c arg7 (stack ![r.s1, r.s2, r.s3, r.s4]) ∗ O c arg9 r.p.m1 ∗ O c arg10 r.p.a1 ∗ O c arg11 r.p.m2 ∗ O c arg12 r.p.a2 ∗ O c arg13 r.p.m3 ∗ O c arg14 r.p.a3 ∗ O c arg15 r.p.m4 ∗ O c arg16 r.p.a4)
      ⊢ iprop((iprop(O c arg4 K ∗ AnyS (F := F) c arg8 ∗ O c arg5 V ∗ O c arg7 (stack ![(regsAt i v1 v3 v5 v7 k0_h2 K V r k0_t1_loop.trips).s1, (regsAt i v1 v3 v5 v7 k0_h2 K V r k0_t1_loop.trips).s2, (regsAt i v1 v3 v5 v7 k0_h2 K V r k0_t1_loop.trips).s3, (regsAt i v1 v3 v5 v7 k0_h2 K V r k0_t1_loop.trips).s4]) ∗ O c arg9 (regsAt i v1 v3 v5 v7 k0_h2 K V r k0_t1_loop.trips).p.m1 ∗ O c arg10 (regsAt i v1 v3 v5 v7 k0_h2 K V r k0_t1_loop.trips).p.a1 ∗ O c arg11 (regsAt i v1 v3 v5 v7 k0_h2 K V r k0_t1_loop.trips).p.m2 ∗ O c arg12 (regsAt i v1 v3 v5 v7 k0_h2 K V r k0_t1_loop.trips).p.a2 ∗ O c arg13 (regsAt i v1 v3 v5 v7 k0_h2 K V r k0_t1_loop.trips).p.m3 ∗ O c arg14 (regsAt i v1 v3 v5 v7 k0_h2 K V r k0_t1_loop.trips).p.a3 ∗ O c arg15 (regsAt i v1 v3 v5 v7 k0_h2 K V r k0_t1_loop.trips).p.m4 ∗ O c arg16 (regsAt i v1 v3 v5 v7 k0_h2 K V r k0_t1_loop.trips).p.a4)
          -∗ W c (kk ()) Q) -∗ W c (Scf.Loop.for k0_t1_loop (k0_t1_ok i k0_h2) () (k0_t1_body i arg3 harg3 arg4 harg4 arg5 harg5 arg6 harg6 arg7 harg7 arg8 harg8 arg9 harg9 arg10 harg10 arg11 harg11 arg12 harg12 arg13 harg13 arg14 harg14 arg15 harg15 arg16 harg16 v1 v3 v5 v7 k0_h2) >>= kk) Q) := by
  have step : ∀ (k : Fin k0_t1_loop.trips) (acc : Unit), (fun n _ => iprop(O c arg4 K ∗ AnyS (F := F) c arg8 ∗ O c arg5 V ∗ O c arg7 (stack ![(regsAt i v1 v3 v5 v7 k0_h2 K V r n).s1, (regsAt i v1 v3 v5 v7 k0_h2 K V r n).s2, (regsAt i v1 v3 v5 v7 k0_h2 K V r n).s3, (regsAt i v1 v3 v5 v7 k0_h2 K V r n).s4]) ∗ O c arg9 (regsAt i v1 v3 v5 v7 k0_h2 K V r n).p.m1 ∗ O c arg10 (regsAt i v1 v3 v5 v7 k0_h2 K V r n).p.a1 ∗ O c arg11 (regsAt i v1 v3 v5 v7 k0_h2 K V r n).p.m2 ∗ O c arg12 (regsAt i v1 v3 v5 v7 k0_h2 K V r n).p.a2 ∗ O c arg13 (regsAt i v1 v3 v5 v7 k0_h2 K V r n).p.m3 ∗ O c arg14 (regsAt i v1 v3 v5 v7 k0_h2 K V r n).p.a3 ∗ O c arg15 (regsAt i v1 v3 v5 v7 k0_h2 K V r n).p.m4 ∗ O c arg16 (regsAt i v1 v3 v5 v7 k0_h2 K V r n).p.a4)) k.val acc
      ⊢ wp Idealize.ShloMosaic.frame (wpE (defs₀ (F := F)) 𝒱₀ (c : Thread nD τ) none) Set.univ (k0_t1_body i arg3 harg3 arg4 harg4 arg5 harg5 arg6 harg6 arg7 harg7 arg8 harg8 arg9 harg9 arg10 harg10 arg11 harg11 arg12 harg12 arg13 harg13 arg14 harg14 arg15 harg15 arg16 harg16 v1 v3 v5 v7 k0_h2 k acc) ((fun n _ => iprop(O c arg4 K ∗ AnyS (F := F) c arg8 ∗ O c arg5 V ∗ O c arg7 (stack ![(regsAt i v1 v3 v5 v7 k0_h2 K V r n).s1, (regsAt i v1 v3 v5 v7 k0_h2 K V r n).s2, (regsAt i v1 v3 v5 v7 k0_h2 K V r n).s3, (regsAt i v1 v3 v5 v7 k0_h2 K V r n).s4]) ∗ O c arg9 (regsAt i v1 v3 v5 v7 k0_h2 K V r n).p.m1 ∗ O c arg10 (regsAt i v1 v3 v5 v7 k0_h2 K V r n).p.a1 ∗ O c arg11 (regsAt i v1 v3 v5 v7 k0_h2 K V r n).p.m2 ∗ O c arg12 (regsAt i v1 v3 v5 v7 k0_h2 K V r n).p.a2 ∗ O c arg13 (regsAt i v1 v3 v5 v7 k0_h2 K V r n).p.m3 ∗ O c arg14 (regsAt i v1 v3 v5 v7 k0_h2 K V r n).p.a3 ∗ O c arg15 (regsAt i v1 v3 v5 v7 k0_h2 K V r n).p.m4 ∗ O c arg16 (regsAt i v1 v3 v5 v7 k0_h2 K V r n).p.a4)) (k.val + 1)) := by
    intro k acc
    dsimp only
    iintro ⟨H4, ⟨%Z, H8⟩, H5, H7, H9, H10, H11, H12, H13, H14, H15, H16⟩
    rw [← four_self Z]
    iapply (trip_spec c arg3 harg3 arg4 harg4 arg5 harg5 arg6 harg6 arg7 harg7 arg8 harg8 arg9 harg9 arg10 harg10 arg11 harg11 arg12 harg12 arg13 harg13 arg14 harg14 arg15 harg15 arg16 harg16 i v1 v3 v5 v7 k0_h2 k) $$ [H4 H8 H5 H7 H9 H10 H11 H12 H13 H14 H15 H16]
    · isplitl [H4]; · iexact H4
      isplitl [H8]; · iexact H8
      isplitl [H5]; · iexact H5
      isplitl [H7]; · iexact H7
      isplitl [H9]; · iexact H9
      isplitl [H10]; · iexact H10
      isplitl [H11]; · iexact H11
      isplitl [H12]; · iexact H12
      isplitl [H13]; · iexact H13
      isplitl [H14]; · iexact H14
      isplitl [H15]; · iexact H15
      iexact H16
    iintro ⟨H4, H8, H5, H7, H9, H10, H11, H12, H13, H14, H15, H16⟩
    rw [regsAt_succ]
    isplitl [H4]; · iexact H4
    isplitl [H8]; · iexists _; iexact H8
    isplitl [H5]; · iexact H5
    isplitl [H7]; · iexact H7
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

  unfold W
  iintro ⟨H4, H8, H5, H7, H9, H10, H11, H12, H13, H14, H15, H16⟩ HK
  iapply (Scf.wp_for_bind Idealize.ShloMosaic.frame (wpE (defs₀ (F := F)) 𝒱₀ (c : Thread nD τ) none) Set.univ k0_t1_loop.lb k0_t1_loop.ub k0_t1_loop.st (k0_t1_ok i k0_h2) () (k0_t1_body i arg3 harg3 arg4 harg4 arg5 harg5 arg6 harg6 arg7 harg7 arg8 harg8 arg9 harg9 arg10 harg10 arg11 harg11 arg12 harg12 arg13 harg13 arg14 harg14 arg15 harg15 arg16 harg16 v1 v3 v5 v7 k0_h2) (fun n _ => iprop(O c arg4 K ∗ AnyS (F := F) c arg8 ∗ O c arg5 V ∗ O c arg7 (stack ![(regsAt i v1 v3 v5 v7 k0_h2 K V r n).s1, (regsAt i v1 v3 v5 v7 k0_h2 K V r n).s2, (regsAt i v1 v3 v5 v7 k0_h2 K V r n).s3, (regsAt i v1 v3 v5 v7 k0_h2 K V r n).s4]) ∗ O c arg9 (regsAt i v1 v3 v5 v7 k0_h2 K V r n).p.m1 ∗ O c arg10 (regsAt i v1 v3 v5 v7 k0_h2 K V r n).p.a1 ∗ O c arg11 (regsAt i v1 v3 v5 v7 k0_h2 K V r n).p.m2 ∗ O c arg12 (regsAt i v1 v3 v5 v7 k0_h2 K V r n).p.a2 ∗ O c arg13 (regsAt i v1 v3 v5 v7 k0_h2 K V r n).p.m3 ∗ O c arg14 (regsAt i v1 v3 v5 v7 k0_h2 K V r n).p.a3 ∗ O c arg15 (regsAt i v1 v3 v5 v7 k0_h2 K V r n).p.m4 ∗ O c arg16 (regsAt i v1 v3 v5 v7 k0_h2 K V r n).p.a4)) step) $$ [H4 H8 H5 H7 H9 H10 H11 H12 H13 H14 H15 H16]
  · isplitl [H4]; · iexact H4
    isplitl [H8]; · iexact H8
    isplitl [H5]; · iexact H5
    isplitl [H7]; · iexact H7
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  iintro %acc HI
  iapply HK
  iexact HI

/-- The latent rows: the first chunk is scored, the loop run, and the last chunk's values and first scores read. -/
theorem part9_spec (c : Dev nD) (arg3 : Memref sig .tc .vmem S1x4x256x128 .bf16) (harg3 : arg3.IsWhole) (arg4 : Memref sig .tc .vmem S1x1x16640x128 .bf16) (harg4 : arg4.IsWhole) (arg5 : Memref sig .tc .vmem S1x1x16640x256 .bf16) (harg5 : arg5.IsWhole) (arg6 : Memref sig .tc .vmem S1x256x512 .bf16) (harg6 : arg6.IsWhole) (arg7 : Memref sig .tc .vmem S1024x3328 .f32) (harg7 : arg7.IsWhole) (arg8 : Memref sig .tc .vmem S1024x3328 .f32) (harg8 : arg8.IsWhole) (arg9 : Memref sig .tc .vmem S256x1 .f32) (harg9 : arg9.IsWhole) (arg10 : Memref sig .tc .vmem S256x256 .f32) (harg10 : arg10.IsWhole) (arg11 : Memref sig .tc .vmem S256x1 .f32) (harg11 : arg11.IsWhole) (arg12 : Memref sig .tc .vmem S256x256 .f32) (harg12 : arg12.IsWhole) (arg13 : Memref sig .tc .vmem S256x1 .f32) (harg13 : arg13.IsWhole) (arg14 : Memref sig .tc .vmem S256x256 .f32) (harg14 : arg14.IsWhole) (arg15 : Memref sig .tc .vmem S256x1 .f32) (harg15 : arg15.IsWhole) (arg16 : Memref sig .tc .vmem S256x256 .f32) (harg16 : arg16.IsWhole) (i : grid0.Coords) (v1 : FVec F S256x128 .bf16) (v3 : FVec F S256x128 .bf16) (v5 : FVec F S256x128 .bf16) (v7 : FVec F S256x128 .bf16) (k0_h2 : k0_cond2 i = 1#1) {X4 : S1x1x16640x128.Idx → Elt F .bf16} {X7a X7b X7p X7d : S256x3328.Idx → Elt F .f32} {X5 : S1x1x16640x256.Idx → Elt F .bf16} {X9 : S256x1.Idx → Elt F .f32} {X10 : S256x256.Idx → Elt F .f32} {X11 : S256x1.Idx → Elt F .f32} {X12 : S256x256.Idx → Elt F .f32} {X13 : S256x1.Idx → Elt F .f32} {X14 : S256x256.Idx → Elt F .f32} {X15 : S256x1.Idx → Elt F .f32} {X16 : S256x256.Idx → Elt F .f32} {R : Regs F} (hR : R = regsAt i v1 v3 v5 v7 k0_h2 X4 X5 ⟨(k0_pay59 v1 (pick chunk0.toLoadRect X4)), (k0_pay60 v3 (pick chunk0.toLoadRect X4)), (k0_pay61 v5 (pick chunk0.toLoadRect X4)), (k0_pay62 v7 (pick chunk0.toLoadRect X4)), ⟨X9, X10, X11, X12, X13, X14, X15, X16⟩⟩ k0_t1_loop.trips) {Q : _ → sProp 𝕄} :
    iprop(O c arg4 X4 ∗ O c arg7 (stack ![X7a, X7b, X7p, X7d]) ∗ AnyS c arg8 ∗ O c arg5 X5 ∗ O c arg9 X9 ∗ O c arg10 X10 ∗ O c arg11 X11 ∗ O c arg12 X12 ∗ O c arg13 X13 ∗ O c arg14 X14 ∗ O c arg15 X15 ∗ O c arg16 X16)
      ⊢ iprop((iprop(O c arg4 X4 ∗ O c arg7 (stack ![R.s1, R.s2, R.s3, R.s4]) ∗ AnyS c arg8 ∗ O c arg5 X5 ∗ O c arg9 (R.p.m1) ∗ O c arg10 (R.p.a1) ∗ O c arg11 (R.p.m2) ∗ O c arg12 (R.p.a2) ∗ O c arg13 (R.p.m3) ∗ O c arg14 (R.p.a3) ∗ O c arg15 (R.p.m4) ∗ O c arg16 (R.p.a4))
          -∗ Q ⟨k0_pay67 (pick (Rect.unit (s := S1x1x16640x256) ![0, 0, 13312, 0] S1x1x3328x256.size inb_S1x1x16640x256_S1x1x3328x256_0_0_13312_0).toLoadRect X5), R.s1, R.p.m1⟩) -∗ W c (k0_part9 i arg3 harg3 arg4 harg4 arg5 harg5 arg6 harg6 arg7 harg7 arg8 harg8 arg9 harg9 arg10 harg10 arg11 harg11 arg12 harg12 arg13 harg13 arg14 harg14 arg15 harg15 arg16 harg16 v1 v3 v5 v7 k0_h2) Q) := by
  subst hR
  unfold W
  rw [k0_part9_eq_skeleton]; unfold k0_part9_skel
  iintro ⟨H4, H7, H8, H5, H9, H10, H11, H12, H13, H14, H15, H16⟩ HK
  iapply (load_part 𝒱₀ (c : Thread nD τ) none Set.univ) $$ H4; iintro H4
  iapply (load_rows_0 𝒱₀ (c : Thread nD τ) none Set.univ) $$ H7; iintro H7
  iapply (store_rows_0 𝒱₀ (c : Thread nD τ) none Set.univ) $$ H7; iintro H7
  iapply (load_rows_1 𝒱₀ (c : Thread nD τ) none Set.univ) $$ H7; iintro H7
  iapply (store_rows_1 𝒱₀ (c : Thread nD τ) none Set.univ) $$ H7; iintro H7
  iapply (load_rows_2 𝒱₀ (c : Thread nD τ) none Set.univ) $$ H7; iintro H7
  iapply (store_rows_2 𝒱₀ (c : Thread nD τ) none Set.univ) $$ H7; iintro H7
  iapply (load_rows_3 𝒱₀ (c : Thread nD τ) none Set.univ) $$ H7; iintro H7
  iapply (store_rows_3 𝒱₀ (c : Thread nD τ) none Set.univ) $$ H7; iintro H7
  iapply (loop_spec c arg3 harg3 arg4 harg4 arg5 harg5 arg6 harg6 arg7 harg7 arg8 harg8 arg9 harg9 arg10 harg10 arg11 harg11 arg12 harg12 arg13 harg13 arg14 harg14 arg15 harg15 arg16 harg16 i v1 v3 v5 v7 k0_h2 (r := ⟨(k0_pay59 v1 (pick chunk0.toLoadRect X4)), (k0_pay60 v3 (pick chunk0.toLoadRect X4)), (k0_pay61 v5 (pick chunk0.toLoadRect X4)), (k0_pay62 v7 (pick chunk0.toLoadRect X4)), ⟨X9, X10, X11, X12, X13, X14, X15, X16⟩⟩)) $$ [H4 H8 H5 H7 H9 H10 H11 H12 H13 H14 H15 H16]
  · isplitl [H4]; · iexact H4
    · isplitl [H8]; · iexact H8
      · isplitl [H5]; · iexact H5
        · isplitl [H7]; · iexact H7
          · isplitl [H9]; · iexact H9
            · isplitl [H10]; · iexact H10
              · isplitl [H11]; · iexact H11
                · isplitl [H12]; · iexact H12
                  · isplitl [H13]; · iexact H13
                    · isplitl [H14]; · iexact H14
                      · isplitl [H15]; · iexact H15
                        iexact H16
  iintro ⟨H4, H8, H5, H7, H9, H10, H11, H12, H13, H14, H15, H16⟩
  iapply (load_part 𝒱₀ (c : Thread nD τ) none Set.univ) $$ H5; iintro H5
  iapply (load_rows_0 𝒱₀ (c : Thread nD τ) none Set.univ) $$ H7; iintro H7
  iapply (load_all 𝒱₀ (c : Thread nD τ) none Set.univ z2) $$ H9; iintro H9
  iapply (le_wp_ret _ _ _ _ _)
  iapply HK
  isplitl [H4]; · iexact H4
  isplitl [H7]; · iexact H7
  isplitl [H8]; · iexact H8
  isplitl [H5]; · iexact H5
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The streams after the first 256 keys. -/
def ctxStep (v1 v3 v5 v7 : FVec F S256x128 .bf16) (K : S1x1x16640x128.Idx → Elt F .bf16) (V : S1x1x16640x256.Idx → Elt F .bf16) (p : Streams F) : Streams F :=
    { m1 := (k0_pay10 v1 (pick (Rect.unit (s := S1x1x16640x128) ![0, 0, 0, 0] S1x1x256x128.size inb_S1x1x16640x128_S1x1x256x128_0_0_0_0).toLoadRect K) p.m1),
      a1 := (k0_pay9 v1 (pick (Rect.unit (s := S1x1x16640x128) ![0, 0, 0, 0] S1x1x256x128.size inb_S1x1x16640x128_S1x1x256x128_0_0_0_0).toLoadRect K) (pick (Rect.unit (s := S1x1x16640x256) ![0, 0, 0, 0] S1x1x256x256.size inb_S1x1x16640x256_S1x1x256x256_0_0_0_0).toLoadRect V) p.m1 p.a1),
      m2 := (k0_pay16 (k0_pay12 v3 (pick (Rect.unit (s := S1x1x16640x128) ![0, 0, 0, 0] S1x1x256x128.size inb_S1x1x16640x128_S1x1x256x128_0_0_0_0).toLoadRect K) p.m2)),
      a2 := (k0_pay15 (k0_pay6 (pick (Rect.unit (s := S1x1x16640x256) ![0, 0, 0, 0] S1x1x256x256.size inb_S1x1x16640x256_S1x1x256x256_0_0_0_0).toLoadRect V)) (k0_pay13 v3 (pick (Rect.unit (s := S1x1x16640x128) ![0, 0, 0, 0] S1x1x256x128.size inb_S1x1x16640x128_S1x1x256x128_0_0_0_0).toLoadRect K) p.m2) (k0_pay14 v3 (pick (Rect.unit (s := S1x1x16640x128) ![0, 0, 0, 0] S1x1x256x128.size inb_S1x1x16640x128_S1x1x256x128_0_0_0_0).toLoadRect K) p.m2) p.a2),
      m3 := (k0_pay20 v5 (k0_pay5 (pick (Rect.unit (s := S1x1x16640x128) ![0, 0, 0, 0] S1x1x256x128.size inb_S1x1x16640x128_S1x1x256x128_0_0_0_0).toLoadRect K)) p.m3),
      a3 := (k0_pay19 v5 (k0_pay5 (pick (Rect.unit (s := S1x1x16640x128) ![0, 0, 0, 0] S1x1x256x128.size inb_S1x1x16640x128_S1x1x256x128_0_0_0_0).toLoadRect K)) (k0_pay6 (pick (Rect.unit (s := S1x1x16640x256) ![0, 0, 0, 0] S1x1x256x256.size inb_S1x1x16640x256_S1x1x256x256_0_0_0_0).toLoadRect V)) p.m3 p.a3),
      m4 := (k0_pay94 (k0_pay21 v7 (k0_pay5 (pick (Rect.unit (s := S1x1x16640x128) ![0, 0, 0, 0] S1x1x256x128.size inb_S1x1x16640x128_S1x1x256x128_0_0_0_0).toLoadRect K))) p.m4),
      a4 := (k0_pay93 (k0_pay6 (pick (Rect.unit (s := S1x1x16640x256) ![0, 0, 0, 0] S1x1x256x256.size inb_S1x1x16640x256_S1x1x256x256_0_0_0_0).toLoadRect V)) (k0_pay21 v7 (k0_pay5 (pick (Rect.unit (s := S1x1x16640x128) ![0, 0, 0, 0] S1x1x256x128.size inb_S1x1x16640x128_S1x1x256x128_0_0_0_0).toLoadRect K))) p.m4 p.a4) }

/-- The streams after all chunks. -/
def latStep (i : grid0.Coords) (k0_h2 : k0_cond2 i = 1#1) (v1 v3 v5 v7 : FVec F S256x128 .bf16) (K : S1x1x16640x128.Idx → Elt F .bf16) (V : S1x1x16640x256.Idx → Elt F .bf16) (p : Streams F) : Streams F :=
    let r := regsAt i v1 v3 v5 v7 k0_h2 K V ⟨(k0_pay59 v1 (pick chunk0.toLoadRect K)), (k0_pay60 v3 (pick chunk0.toLoadRect K)), (k0_pay61 v5 (pick chunk0.toLoadRect K)), (k0_pay62 v7 (pick chunk0.toLoadRect K)), ⟨p.m1, p.a1, p.m2, p.a2, p.m3, p.a3, p.m4, p.a4⟩⟩ k0_t1_loop.trips
    let V4 := pick (Rect.unit (s := S1x1x16640x256) ![0, 0, 13312, 0] S1x1x3328x256.size inb_S1x1x16640x256_S1x1x3328x256_0_0_13312_0).toLoadRect V
    { m1 := (k0_pay70 r.s1 r.p.m1),
      a1 := (k0_pay69 (k0_pay67 V4) r.s1 r.p.m1 r.p.a1),
      m2 := (k0_pay73 (k0_pay71 r.s2 r.p.m2)),
      a2 := (k0_pay72 (k0_pay67 V4) r.s2 r.p.m2 r.p.a2),
      m3 := (k0_pay76 r.s3 r.p.m3),
      a3 := (k0_pay75 (k0_pay67 V4) r.s3 r.p.m3 r.p.a3),
      m4 := (k0_pay96 (k0_pay77 r.s4 r.p.m4)),
      a4 := (k0_pay95 (k0_pay67 V4) (k0_pay78 r.s4 r.p.m4) (k0_pay79 r.s4 r.p.m4) r.p.a4) }

/-- A block of context rows, all chunks taken in. -/
theorem part13_pp (c : Dev nD) (arg3 : Memref sig .tc .vmem S1x4x256x128 .bf16) (harg3 : arg3.IsWhole) (arg4 : Memref sig .tc .vmem S1x1x16640x128 .bf16) (harg4 : arg4.IsWhole) (arg5 : Memref sig .tc .vmem S1x1x16640x256 .bf16) (harg5 : arg5.IsWhole) (arg6 : Memref sig .tc .vmem S1x256x512 .bf16) (harg6 : arg6.IsWhole) (arg7 : Memref sig .tc .vmem S1024x3328 .f32) (harg7 : arg7.IsWhole) (arg8 : Memref sig .tc .vmem S1024x3328 .f32) (harg8 : arg8.IsWhole) (arg9 : Memref sig .tc .vmem S256x1 .f32) (harg9 : arg9.IsWhole) (arg10 : Memref sig .tc .vmem S256x256 .f32) (harg10 : arg10.IsWhole) (arg11 : Memref sig .tc .vmem S256x1 .f32) (harg11 : arg11.IsWhole) (arg12 : Memref sig .tc .vmem S256x256 .f32) (harg12 : arg12.IsWhole) (arg13 : Memref sig .tc .vmem S256x1 .f32) (harg13 : arg13.IsWhole) (arg14 : Memref sig .tc .vmem S256x256 .f32) (harg14 : arg14.IsWhole) (arg15 : Memref sig .tc .vmem S256x1 .f32) (harg15 : arg15.IsWhole) (arg16 : Memref sig .tc .vmem S256x256 .f32) (harg16 : arg16.IsWhole) (i : grid0.Coords) (v1 : FVec F S256x128 .bf16) (v3 : FVec F S256x128 .bf16) (v5 : FVec F S256x128 .bf16) (v7 : FVec F S256x128 .bf16) (v8 : BitVec 1) (v24 : FVec F S256x256 .f32) {X12 : S256x256.Idx → Elt F .f32} {X13 : S256x1.Idx → Elt F .f32} {X14 : S256x256.Idx → Elt F .f32} {X15 : S256x1.Idx → Elt F .f32} {X16 : S256x256.Idx → Elt F .f32} {X9 : S256x1.Idx → Elt F .f32} {X10 : S256x256.Idx → Elt F .f32} {X11 : S256x1.Idx → Elt F .f32} {X4 : S1x1x16640x128.Idx → Elt F .bf16} {X5 : S1x1x16640x256.Idx → Elt F .bf16} {X7a X7b X7p X7d : S256x3328.Idx → Elt F .f32} (k0_h1 : (Scalar.cmpi .ne (Scalar.extui v8) 0#32) = 1#1) (k0_h2 : k0_cond2 i = 1#1) {P : Streams F} (hP : P = Streams.mk X9 X10 X11 v24 (k0_pay88 (F := F)) (k0_pay89 (F := F)) (k0_pay90 (F := F)) (k0_pay91 (F := F))) {T : Streams F} (hT : T = ctxStep v1 v3 v5 v7 X4 X5 P) {R : Regs F} (hR : R = regsAt i v1 v3 v5 v7 k0_h2 X4 X5 ⟨(k0_pay59 v1 (pick chunk0.toLoadRect X4)), (k0_pay60 v3 (pick chunk0.toLoadRect X4)), (k0_pay61 v5 (pick chunk0.toLoadRect X4)), (k0_pay62 v7 (pick chunk0.toLoadRect X4)), ⟨T.m1, T.a1, T.m2, T.a2, T.m3, T.a3, T.m4, T.a4⟩⟩ k0_t1_loop.trips) {U : Streams F} (hU : U = latStep i k0_h2 v1 v3 v5 v7 X4 X5 T) {Q : _ → sProp 𝕄} :
    iprop(O c arg12 X12 ∗ O c arg13 X13 ∗ O c arg14 X14 ∗ O c arg15 X15 ∗ O c arg16 X16 ∗ O c arg9 X9 ∗ O c arg10 X10 ∗ O c arg11 X11 ∗ O c arg4 X4 ∗ O c arg5 X5 ∗ O c arg7 (stack ![X7a, X7b, X7p, X7d]) ∗ AnyS c arg8)
      ⊢ iprop((iprop(O c arg12 U.a2 ∗ O c arg13 U.m3 ∗ O c arg14 U.a3 ∗ O c arg15 U.m4 ∗ O c arg16 U.a4 ∗ O c arg9 U.m1 ∗ O c arg10 U.a1 ∗ O c arg11 U.m2 ∗ O c arg4 X4 ∗ O c arg5 X5 ∗ O c arg7 (stack ![(R.s1), (R.s2), (R.s3), (R.s4)]) ∗ AnyS c arg8)
          -∗ Q ⟨k0_pay97 (pick (Rect.unit (s := S256x256) ![0, 0] S256x128.size inb_S256x256_S256x128_0_0).toLoadRect U.a1) (pick (Rect.unit (s := S256x256) ![0, 128] S256x1.size inb_S256x256_S256x1_0_128).toLoadRect U.a1), k0_pay98 (pick (Rect.unit (s := S256x256) ![0, 0] S256x128.size inb_S256x256_S256x128_0_0).toLoadRect U.a2) (pick (Rect.unit (s := S256x256) ![0, 128] S256x1.size inb_S256x256_S256x1_0_128).toLoadRect U.a2)⟩) -∗ W c (k0_part13 i arg3 harg3 arg4 harg4 arg5 harg5 arg6 harg6 arg7 harg7 arg8 harg8 arg9 harg9 arg10 harg10 arg11 harg11 arg12 harg12 arg13 harg13 arg14 harg14 arg15 harg15 arg16 harg16 v1 v3 v5 v7 v8 v24) Q) := by
  subst hU hR hT hP
  unfold latStep ctxStep
  unfold W
  dsimp only
  rw [k0_part13_eq_skeleton]; unfold k0_part13_skel
  iintro ⟨H12, H13, H14, H15, H16, H9, H10, H11, H4, H5, H7, H8⟩ HK
  iapply (store_all 𝒱₀ (c : Thread nD τ) none Set.univ z2) $$ H12; iintro H12
  iapply (load_all 𝒱₀ (c : Thread nD τ) none Set.univ z2) $$ H13; iintro H13
  iapply (store_all 𝒱₀ (c : Thread nD τ) none Set.univ z2) $$ H13; iintro H13
  iapply (load_all 𝒱₀ (c : Thread nD τ) none Set.univ z2) $$ H14; iintro H14
  iapply (store_all 𝒱₀ (c : Thread nD τ) none Set.univ z2) $$ H14; iintro H14
  iapply (load_all 𝒱₀ (c : Thread nD τ) none Set.univ z2) $$ H15; iintro H15
  iapply (store_all 𝒱₀ (c : Thread nD τ) none Set.univ z2) $$ H15; iintro H15
  iapply (load_all 𝒱₀ (c : Thread nD τ) none Set.univ z2) $$ H16; iintro H16
  iapply (store_all 𝒱₀ (c : Thread nD τ) none Set.univ z2) $$ H16; iintro H16
  rw [dif_pos k0_h1]
  rw [wp_bind]
  iapply (part1_spec c arg3 harg3 arg4 harg4 arg5 harg5 arg6 harg6 arg7 harg7 arg8 harg8 arg9 harg9 arg10 harg10 arg11 harg11 arg12 harg12 arg13 harg13 arg14 harg14 arg15 harg15 arg16 harg16 _ _ _) $$ [H4 H5 H9 H10 H11]
  · isplitl [H4]; · iexact H4
    · isplitl [H5]; · iexact H5
      · isplitl [H9]; · iexact H9
        · isplitl [H10]; · iexact H10
          iexact H11
  iintro ⟨H4, H5, H9, H10, H11⟩
  try dsimp only
  rw [wp_bind]
  iapply (part2_spec c arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ _) $$ [H12 H11 H13 H14]
  · isplitl [H12]; · iexact H12
    · isplitl [H11]; · iexact H11
      · isplitl [H13]; · iexact H13
        iexact H14
  iintro ⟨H12, H11, H13, H14⟩
  try dsimp only
  iapply (load_all 𝒱₀ (c : Thread nD τ) none Set.univ z2) $$ H15; iintro H15
  iapply (load_all 𝒱₀ (c : Thread nD τ) none Set.univ z2) $$ H16; iintro H16
  iapply (load_all 𝒱₀ (c : Thread nD τ) none Set.univ z2) $$ H16; iintro H16
  iapply (store_all 𝒱₀ (c : Thread nD τ) none Set.univ z2) $$ H16; iintro H16
  iapply (load_all 𝒱₀ (c : Thread nD τ) none Set.univ z2) $$ H15; iintro H15
  iapply (store_all 𝒱₀ (c : Thread nD τ) none Set.univ z2) $$ H15; iintro H15
  rw [dif_pos k0_h2]
  rw [wp_bind]
  iapply (part9_spec c arg3 harg3 arg4 harg4 arg5 harg5 arg6 harg6 arg7 harg7 arg8 harg8 arg9 harg9 arg10 harg10 arg11 harg11 arg12 harg12 arg13 harg13 arg14 harg14 arg15 harg15 arg16 harg16 _ _ _ _ _ _ rfl) $$ [H4 H7 H8 H5 H9 H10 H11 H12 H13 H14 H15 H16]
  · isplitl [H4]; · iexact H4
    · isplitl [H7]; · iexact H7
      · isplitl [H8]; · iexact H8
        · isplitl [H5]; · iexact H5
          · isplitl [H9]; · iexact H9
            · isplitl [H10]; · iexact H10
              · isplitl [H11]; · iexact H11
                · isplitl [H12]; · iexact H12
                  · isplitl [H13]; · iexact H13
                    · isplitl [H14]; · iexact H14
                      · isplitl [H15]; · iexact H15
                        iexact H16
  iintro ⟨H4, H7, H8, H5, H9, H10, H11, H12, H13, H14, H15, H16⟩
  try dsimp only
  rw [wp_bind]
  iapply (part10_spec c arg3 harg3 arg4 harg4 arg5 harg5 arg6 harg6 arg7 harg7 arg8 harg8 arg9 harg9 arg10 harg10 arg11 harg11 arg12 harg12 arg13 harg13 arg14 harg14 arg15 harg15 arg16 harg16 _ _ _ _) $$ [H10 H9 H7 H11 H12]
  · isplitl [H10]; · iexact H10
    · isplitl [H9]; · iexact H9
      · isplitl [H7]; · iexact H7
        · isplitl [H11]; · iexact H11
          iexact H12
  iintro ⟨H10, H9, H7, H11, H12⟩
  try dsimp only
  rw [wp_bind]
  iapply (part11_spec c arg3 harg3 arg4 harg4 arg5 harg5 arg6 harg6 arg7 harg7 arg8 harg8 arg9 harg9 arg10 harg10 arg11 harg11 arg12 harg12 arg13 harg13 arg14 harg14 arg15 harg15 arg16 harg16 _ _ _) $$ [H11 H7 H13 H14 H15]
  · isplitl [H11]; · iexact H11
    · isplitl [H7]; · iexact H7
      · isplitl [H13]; · iexact H13
        · isplitl [H14]; · iexact H14
          iexact H15
  iintro ⟨H11, H7, H13, H14, H15⟩
  try dsimp only
  iapply (load_all 𝒱₀ (c : Thread nD τ) none Set.univ z2) $$ H16; iintro H16
  iapply (load_all 𝒱₀ (c : Thread nD τ) none Set.univ z2) $$ H16; iintro H16
  iapply (store_all 𝒱₀ (c : Thread nD τ) none Set.univ z2) $$ H16; iintro H16
  iapply (load_all 𝒱₀ (c : Thread nD τ) none Set.univ z2) $$ H15; iintro H15
  iapply (store_all 𝒱₀ (c : Thread nD τ) none Set.univ z2) $$ H15; iintro H15
  iapply (load_part 𝒱₀ (c : Thread nD τ) none Set.univ) $$ H10; iintro H10
  iapply (load_part 𝒱₀ (c : Thread nD τ) none Set.univ) $$ H10; iintro H10
  iapply (load_part 𝒱₀ (c : Thread nD τ) none Set.univ) $$ H12; iintro H12
  iapply (load_part 𝒱₀ (c : Thread nD τ) none Set.univ) $$ H12; iintro H12
  iapply (le_wp_ret _ _ _ _ _)
  iapply HK
  isplitl [H12]; · iexact H12
  isplitl [H13]; · iexact H13
  isplitl [H14]; · iexact H14
  isplitl [H15]; · iexact H15
  isplitl [H16]; · iexact H16
  isplitl [H9]; · iexact H9
  isplitl [H10]; · iexact H10
  isplitl [H11]; · iexact H11
  isplitl [H4]; · iexact H4
  isplitl [H5]; · iexact H5
  isplitl [H7]; · iexact H7
  iexact H8

/-- A block of context rows, the chunks skipped. -/
theorem part13_pn (c : Dev nD) (arg3 : Memref sig .tc .vmem S1x4x256x128 .bf16) (harg3 : arg3.IsWhole) (arg4 : Memref sig .tc .vmem S1x1x16640x128 .bf16) (harg4 : arg4.IsWhole) (arg5 : Memref sig .tc .vmem S1x1x16640x256 .bf16) (harg5 : arg5.IsWhole) (arg6 : Memref sig .tc .vmem S1x256x512 .bf16) (harg6 : arg6.IsWhole) (arg7 : Memref sig .tc .vmem S1024x3328 .f32) (harg7 : arg7.IsWhole) (arg8 : Memref sig .tc .vmem S1024x3328 .f32) (harg8 : arg8.IsWhole) (arg9 : Memref sig .tc .vmem S256x1 .f32) (harg9 : arg9.IsWhole) (arg10 : Memref sig .tc .vmem S256x256 .f32) (harg10 : arg10.IsWhole) (arg11 : Memref sig .tc .vmem S256x1 .f32) (harg11 : arg11.IsWhole) (arg12 : Memref sig .tc .vmem S256x256 .f32) (harg12 : arg12.IsWhole) (arg13 : Memref sig .tc .vmem S256x1 .f32) (harg13 : arg13.IsWhole) (arg14 : Memref sig .tc .vmem S256x256 .f32) (harg14 : arg14.IsWhole) (arg15 : Memref sig .tc .vmem S256x1 .f32) (harg15 : arg15.IsWhole) (arg16 : Memref sig .tc .vmem S256x256 .f32) (harg16 : arg16.IsWhole) (i : grid0.Coords) (v1 : FVec F S256x128 .bf16) (v3 : FVec F S256x128 .bf16) (v5 : FVec F S256x128 .bf16) (v7 : FVec F S256x128 .bf16) (v8 : BitVec 1) (v24 : FVec F S256x256 .f32) {X12 : S256x256.Idx → Elt F .f32} {X13 : S256x1.Idx → Elt F .f32} {X14 : S256x256.Idx → Elt F .f32} {X15 : S256x1.Idx → Elt F .f32} {X16 : S256x256.Idx → Elt F .f32} {X9 : S256x1.Idx → Elt F .f32} {X10 : S256x256.Idx → Elt F .f32} {X11 : S256x1.Idx → Elt F .f32} {X4 : S1x1x16640x128.Idx → Elt F .bf16} {X5 : S1x1x16640x256.Idx → Elt F .bf16} {X7a X7b X7p X7d : S256x3328.Idx → Elt F .f32} {X8a X8b X8p X8d : S256x3328.Idx → Elt F .f32} (k0_h1 : (Scalar.cmpi .ne (Scalar.extui v8) 0#32) = 1#1) (k0_h2 : ¬ (k0_cond2 i = 1#1)) {P : Streams F} (hP : P = Streams.mk X9 X10 X11 v24 (k0_pay88 (F := F)) (k0_pay89 (F := F)) (k0_pay90 (F := F)) (k0_pay91 (F := F))) {T : Streams F} (hT : T = ctxStep v1 v3 v5 v7 X4 X5 P) {Q : _ → sProp 𝕄} :
    iprop(O c arg12 X12 ∗ O c arg13 X13 ∗ O c arg14 X14 ∗ O c arg15 X15 ∗ O c arg16 X16 ∗ O c arg9 X9 ∗ O c arg10 X10 ∗ O c arg11 X11 ∗ O c arg4 X4 ∗ O c arg5 X5 ∗ O c arg7 (stack ![X7a, X7b, X7p, X7d]) ∗ O c arg8 (stack ![X8a, X8b, X8p, X8d]))
      ⊢ iprop((iprop(O c arg12 T.a2 ∗ O c arg13 T.m3 ∗ O c arg14 T.a3 ∗ O c arg15 T.m4 ∗ O c arg16 T.a4 ∗ O c arg9 T.m1 ∗ O c arg10 T.a1 ∗ O c arg11 T.m2 ∗ O c arg4 X4 ∗ O c arg5 X5 ∗ O c arg7 (stack ![X7a, X7b, X7p, X7d]) ∗ O c arg8 (stack ![X8a, X8b, X8p, X8d]))
          -∗ Q ⟨k0_pay97 (pick (Rect.unit (s := S256x256) ![0, 0] S256x128.size inb_S256x256_S256x128_0_0).toLoadRect T.a1) (pick (Rect.unit (s := S256x256) ![0, 128] S256x1.size inb_S256x256_S256x1_0_128).toLoadRect T.a1), k0_pay98 (pick (Rect.unit (s := S256x256) ![0, 0] S256x128.size inb_S256x256_S256x128_0_0).toLoadRect T.a2) (pick (Rect.unit (s := S256x256) ![0, 128] S256x1.size inb_S256x256_S256x1_0_128).toLoadRect T.a2)⟩) -∗ W c (k0_part13 i arg3 harg3 arg4 harg4 arg5 harg5 arg6 harg6 arg7 harg7 arg8 harg8 arg9 harg9 arg10 harg10 arg11 harg11 arg12 harg12 arg13 harg13 arg14 harg14 arg15 harg15 arg16 harg16 v1 v3 v5 v7 v8 v24) Q) := by
  subst hT hP
  unfold ctxStep
  unfold W
  dsimp only
  rw [k0_part13_eq_skeleton]; unfold k0_part13_skel
  iintro ⟨H12, H13, H14, H15, H16, H9, H10, H11, H4, H5, H7, H8⟩ HK
  iapply (store_all 𝒱₀ (c : Thread nD τ) none Set.univ z2) $$ H12; iintro H12
  iapply (load_all 𝒱₀ (c : Thread nD τ) none Set.univ z2) $$ H13; iintro H13
  iapply (store_all 𝒱₀ (c : Thread nD τ) none Set.univ z2) $$ H13; iintro H13
  iapply (load_all 𝒱₀ (c : Thread nD τ) none Set.univ z2) $$ H14; iintro H14
  iapply (store_all 𝒱₀ (c : Thread nD τ) none Set.univ z2) $$ H14; iintro H14
  iapply (load_all 𝒱₀ (c : Thread nD τ) none Set.univ z2) $$ H15; iintro H15
  iapply (store_all 𝒱₀ (c : Thread nD τ) none Set.univ z2) $$ H15; iintro H15
  iapply (load_all 𝒱₀ (c : Thread nD τ) none Set.univ z2) $$ H16; iintro H16
  iapply (store_all 𝒱₀ (c : Thread nD τ) none Set.univ z2) $$ H16; iintro H16
  rw [dif_pos k0_h1]
  rw [wp_bind]
  iapply (part1_spec c arg3 harg3 arg4 harg4 arg5 harg5 arg6 harg6 arg7 harg7 arg8 harg8 arg9 harg9 arg10 harg10 arg11 harg11 arg12 harg12 arg13 harg13 arg14 harg14 arg15 harg15 arg16 harg16 _ _ _) $$ [H4 H5 H9 H10 H11]
  · isplitl [H4]; · iexact H4
    · isplitl [H5]; · iexact H5
      · isplitl [H9]; · iexact H9
        · isplitl [H10]; · iexact H10
          iexact H11
  iintro ⟨H4, H5, H9, H10, H11⟩
  try dsimp only
  rw [wp_bind]
  iapply (part2_spec c arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ _) $$ [H12 H11 H13 H14]
  · isplitl [H12]; · iexact H12
    · isplitl [H11]; · iexact H11
      · isplitl [H13]; · iexact H13
        iexact H14
  iintro ⟨H12, H11, H13, H14⟩
  try dsimp only
  iapply (load_all 𝒱₀ (c : Thread nD τ) none Set.univ z2) $$ H15; iintro H15
  iapply (load_all 𝒱₀ (c : Thread nD τ) none Set.univ z2) $$ H16; iintro H16
  iapply (load_all 𝒱₀ (c : Thread nD τ) none Set.univ z2) $$ H16; iintro H16
  iapply (store_all 𝒱₀ (c : Thread nD τ) none Set.univ z2) $$ H16; iintro H16
  iapply (load_all 𝒱₀ (c : Thread nD τ) none Set.univ z2) $$ H15; iintro H15
  iapply (store_all 𝒱₀ (c : Thread nD τ) none Set.univ z2) $$ H15; iintro H15
  rw [dif_neg k0_h2]
  iapply (load_part 𝒱₀ (c : Thread nD τ) none Set.univ) $$ H10; iintro H10
  iapply (load_part 𝒱₀ (c : Thread nD τ) none Set.univ) $$ H10; iintro H10
  iapply (load_part 𝒱₀ (c : Thread nD τ) none Set.univ) $$ H12; iintro H12
  iapply (load_part 𝒱₀ (c : Thread nD τ) none Set.univ) $$ H12; iintro H12
  iapply (le_wp_ret _ _ _ _ _)
  iapply HK
  isplitl [H12]; · iexact H12
  isplitl [H13]; · iexact H13
  isplitl [H14]; · iexact H14
  isplitl [H15]; · iexact H15
  isplitl [H16]; · iexact H16
  isplitl [H9]; · iexact H9
  isplitl [H10]; · iexact H10
  isplitl [H11]; · iexact H11
  isplitl [H4]; · iexact H4
  isplitl [H5]; · iexact H5
  isplitl [H7]; · iexact H7
  iexact H8

/-- A block of latent rows, all chunks taken in. -/
theorem part13_np (c : Dev nD) (arg3 : Memref sig .tc .vmem S1x4x256x128 .bf16) (harg3 : arg3.IsWhole) (arg4 : Memref sig .tc .vmem S1x1x16640x128 .bf16) (harg4 : arg4.IsWhole) (arg5 : Memref sig .tc .vmem S1x1x16640x256 .bf16) (harg5 : arg5.IsWhole) (arg6 : Memref sig .tc .vmem S1x256x512 .bf16) (harg6 : arg6.IsWhole) (arg7 : Memref sig .tc .vmem S1024x3328 .f32) (harg7 : arg7.IsWhole) (arg8 : Memref sig .tc .vmem S1024x3328 .f32) (harg8 : arg8.IsWhole) (arg9 : Memref sig .tc .vmem S256x1 .f32) (harg9 : arg9.IsWhole) (arg10 : Memref sig .tc .vmem S256x256 .f32) (harg10 : arg10.IsWhole) (arg11 : Memref sig .tc .vmem S256x1 .f32) (harg11 : arg11.IsWhole) (arg12 : Memref sig .tc .vmem S256x256 .f32) (harg12 : arg12.IsWhole) (arg13 : Memref sig .tc .vmem S256x1 .f32) (harg13 : arg13.IsWhole) (arg14 : Memref sig .tc .vmem S256x256 .f32) (harg14 : arg14.IsWhole) (arg15 : Memref sig .tc .vmem S256x1 .f32) (harg15 : arg15.IsWhole) (arg16 : Memref sig .tc .vmem S256x256 .f32) (harg16 : arg16.IsWhole) (i : grid0.Coords) (v1 : FVec F S256x128 .bf16) (v3 : FVec F S256x128 .bf16) (v5 : FVec F S256x128 .bf16) (v7 : FVec F S256x128 .bf16) (v8 : BitVec 1) (v24 : FVec F S256x256 .f32) {X12 : S256x256.Idx → Elt F .f32} {X13 : S256x1.Idx → Elt F .f32} {X14 : S256x256.Idx → Elt F .f32} {X15 : S256x1.Idx → Elt F .f32} {X16 : S256x256.Idx → Elt F .f32} {X9 : S256x1.Idx → Elt F .f32} {X10 : S256x256.Idx → Elt F .f32} {X11 : S256x1.Idx → Elt F .f32} {X4 : S1x1x16640x128.Idx → Elt F .bf16} {X5 : S1x1x16640x256.Idx → Elt F .bf16} {X7a X7b X7p X7d : S256x3328.Idx → Elt F .f32} (k0_h1 : ¬ ((Scalar.cmpi .ne (Scalar.extui v8) 0#32) = 1#1)) (k0_h2 : k0_cond2 i = 1#1) {P : Streams F} (hP : P = Streams.mk X9 X10 X11 v24 (k0_pay88 (F := F)) (k0_pay89 (F := F)) (k0_pay90 (F := F)) (k0_pay91 (F := F))) {R : Regs F} (hR : R = regsAt i v1 v3 v5 v7 k0_h2 X4 X5 ⟨(k0_pay59 v1 (pick chunk0.toLoadRect X4)), (k0_pay60 v3 (pick chunk0.toLoadRect X4)), (k0_pay61 v5 (pick chunk0.toLoadRect X4)), (k0_pay62 v7 (pick chunk0.toLoadRect X4)), ⟨P.m1, P.a1, P.m2, P.a2, P.m3, P.a3, P.m4, P.a4⟩⟩ k0_t1_loop.trips) {U : Streams F} (hU : U = latStep i k0_h2 v1 v3 v5 v7 X4 X5 P) {Q : _ → sProp 𝕄} :
    iprop(O c arg12 X12 ∗ O c arg13 X13 ∗ O c arg14 X14 ∗ O c arg15 X15 ∗ O c arg16 X16 ∗ O c arg9 X9 ∗ O c arg10 X10 ∗ O c arg11 X11 ∗ O c arg4 X4 ∗ O c arg5 X5 ∗ O c arg7 (stack ![X7a, X7b, X7p, X7d]) ∗ AnyS c arg8)
      ⊢ iprop((iprop(O c arg12 U.a2 ∗ O c arg13 U.m3 ∗ O c arg14 U.a3 ∗ O c arg15 U.m4 ∗ O c arg16 U.a4 ∗ O c arg9 U.m1 ∗ O c arg10 U.a1 ∗ O c arg11 U.m2 ∗ O c arg4 X4 ∗ O c arg5 X5 ∗ O c arg7 (stack ![(R.s1), (R.s2), (R.s3), (R.s4)]) ∗ AnyS c arg8)
          -∗ Q ⟨k0_pay97 (pick (Rect.unit (s := S256x256) ![0, 0] S256x128.size inb_S256x256_S256x128_0_0).toLoadRect U.a1) (pick (Rect.unit (s := S256x256) ![0, 128] S256x1.size inb_S256x256_S256x1_0_128).toLoadRect U.a1), k0_pay98 (pick (Rect.unit (s := S256x256) ![0, 0] S256x128.size inb_S256x256_S256x128_0_0).toLoadRect U.a2) (pick (Rect.unit (s := S256x256) ![0, 128] S256x1.size inb_S256x256_S256x1_0_128).toLoadRect U.a2)⟩) -∗ W c (k0_part13 i arg3 harg3 arg4 harg4 arg5 harg5 arg6 harg6 arg7 harg7 arg8 harg8 arg9 harg9 arg10 harg10 arg11 harg11 arg12 harg12 arg13 harg13 arg14 harg14 arg15 harg15 arg16 harg16 v1 v3 v5 v7 v8 v24) Q) := by
  subst hU hR hP
  unfold latStep
  unfold W
  dsimp only
  rw [k0_part13_eq_skeleton]; unfold k0_part13_skel
  iintro ⟨H12, H13, H14, H15, H16, H9, H10, H11, H4, H5, H7, H8⟩ HK
  iapply (store_all 𝒱₀ (c : Thread nD τ) none Set.univ z2) $$ H12; iintro H12
  iapply (load_all 𝒱₀ (c : Thread nD τ) none Set.univ z2) $$ H13; iintro H13
  iapply (store_all 𝒱₀ (c : Thread nD τ) none Set.univ z2) $$ H13; iintro H13
  iapply (load_all 𝒱₀ (c : Thread nD τ) none Set.univ z2) $$ H14; iintro H14
  iapply (store_all 𝒱₀ (c : Thread nD τ) none Set.univ z2) $$ H14; iintro H14
  iapply (load_all 𝒱₀ (c : Thread nD τ) none Set.univ z2) $$ H15; iintro H15
  iapply (store_all 𝒱₀ (c : Thread nD τ) none Set.univ z2) $$ H15; iintro H15
  iapply (load_all 𝒱₀ (c : Thread nD τ) none Set.univ z2) $$ H16; iintro H16
  iapply (store_all 𝒱₀ (c : Thread nD τ) none Set.univ z2) $$ H16; iintro H16
  rw [dif_neg k0_h1]
  rw [dif_pos k0_h2]
  rw [wp_bind]
  iapply (part9_spec c arg3 harg3 arg4 harg4 arg5 harg5 arg6 harg6 arg7 harg7 arg8 harg8 arg9 harg9 arg10 harg10 arg11 harg11 arg12 harg12 arg13 harg13 arg14 harg14 arg15 harg15 arg16 harg16 _ _ _ _ _ _ rfl) $$ [H4 H7 H8 H5 H9 H10 H11 H12 H13 H14 H15 H16]
  · isplitl [H4]; · iexact H4
    · isplitl [H7]; · iexact H7
      · isplitl [H8]; · iexact H8
        · isplitl [H5]; · iexact H5
          · isplitl [H9]; · iexact H9
            · isplitl [H10]; · iexact H10
              · isplitl [H11]; · iexact H11
                · isplitl [H12]; · iexact H12
                  · isplitl [H13]; · iexact H13
                    · isplitl [H14]; · iexact H14
                      · isplitl [H15]; · iexact H15
                        iexact H16
  iintro ⟨H4, H7, H8, H5, H9, H10, H11, H12, H13, H14, H15, H16⟩
  try dsimp only
  rw [wp_bind]
  iapply (part10_spec c arg3 harg3 arg4 harg4 arg5 harg5 arg6 harg6 arg7 harg7 arg8 harg8 arg9 harg9 arg10 harg10 arg11 harg11 arg12 harg12 arg13 harg13 arg14 harg14 arg15 harg15 arg16 harg16 _ _ _ _) $$ [H10 H9 H7 H11 H12]
  · isplitl [H10]; · iexact H10
    · isplitl [H9]; · iexact H9
      · isplitl [H7]; · iexact H7
        · isplitl [H11]; · iexact H11
          iexact H12
  iintro ⟨H10, H9, H7, H11, H12⟩
  try dsimp only
  rw [wp_bind]
  iapply (part11_spec c arg3 harg3 arg4 harg4 arg5 harg5 arg6 harg6 arg7 harg7 arg8 harg8 arg9 harg9 arg10 harg10 arg11 harg11 arg12 harg12 arg13 harg13 arg14 harg14 arg15 harg15 arg16 harg16 _ _ _) $$ [H11 H7 H13 H14 H15]
  · isplitl [H11]; · iexact H11
    · isplitl [H7]; · iexact H7
      · isplitl [H13]; · iexact H13
        · isplitl [H14]; · iexact H14
          iexact H15
  iintro ⟨H11, H7, H13, H14, H15⟩
  try dsimp only
  iapply (load_all 𝒱₀ (c : Thread nD τ) none Set.univ z2) $$ H16; iintro H16
  iapply (load_all 𝒱₀ (c : Thread nD τ) none Set.univ z2) $$ H16; iintro H16
  iapply (store_all 𝒱₀ (c : Thread nD τ) none Set.univ z2) $$ H16; iintro H16
  iapply (load_all 𝒱₀ (c : Thread nD τ) none Set.univ z2) $$ H15; iintro H15
  iapply (store_all 𝒱₀ (c : Thread nD τ) none Set.univ z2) $$ H15; iintro H15
  iapply (load_part 𝒱₀ (c : Thread nD τ) none Set.univ) $$ H10; iintro H10
  iapply (load_part 𝒱₀ (c : Thread nD τ) none Set.univ) $$ H10; iintro H10
  iapply (load_part 𝒱₀ (c : Thread nD τ) none Set.univ) $$ H12; iintro H12
  iapply (load_part 𝒱₀ (c : Thread nD τ) none Set.univ) $$ H12; iintro H12
  iapply (le_wp_ret _ _ _ _ _)
  iapply HK
  isplitl [H12]; · iexact H12
  isplitl [H13]; · iexact H13
  isplitl [H14]; · iexact H14
  isplitl [H15]; · iexact H15
  isplitl [H16]; · iexact H16
  isplitl [H9]; · iexact H9
  isplitl [H10]; · iexact H10
  isplitl [H11]; · iexact H11
  isplitl [H4]; · iexact H4
  isplitl [H5]; · iexact H5
  isplitl [H7]; · iexact H7
  iexact H8

/-- A block of latent rows, the chunks skipped. -/
theorem part13_nn (c : Dev nD) (arg3 : Memref sig .tc .vmem S1x4x256x128 .bf16) (harg3 : arg3.IsWhole) (arg4 : Memref sig .tc .vmem S1x1x16640x128 .bf16) (harg4 : arg4.IsWhole) (arg5 : Memref sig .tc .vmem S1x1x16640x256 .bf16) (harg5 : arg5.IsWhole) (arg6 : Memref sig .tc .vmem S1x256x512 .bf16) (harg6 : arg6.IsWhole) (arg7 : Memref sig .tc .vmem S1024x3328 .f32) (harg7 : arg7.IsWhole) (arg8 : Memref sig .tc .vmem S1024x3328 .f32) (harg8 : arg8.IsWhole) (arg9 : Memref sig .tc .vmem S256x1 .f32) (harg9 : arg9.IsWhole) (arg10 : Memref sig .tc .vmem S256x256 .f32) (harg10 : arg10.IsWhole) (arg11 : Memref sig .tc .vmem S256x1 .f32) (harg11 : arg11.IsWhole) (arg12 : Memref sig .tc .vmem S256x256 .f32) (harg12 : arg12.IsWhole) (arg13 : Memref sig .tc .vmem S256x1 .f32) (harg13 : arg13.IsWhole) (arg14 : Memref sig .tc .vmem S256x256 .f32) (harg14 : arg14.IsWhole) (arg15 : Memref sig .tc .vmem S256x1 .f32) (harg15 : arg15.IsWhole) (arg16 : Memref sig .tc .vmem S256x256 .f32) (harg16 : arg16.IsWhole) (i : grid0.Coords) (v1 : FVec F S256x128 .bf16) (v3 : FVec F S256x128 .bf16) (v5 : FVec F S256x128 .bf16) (v7 : FVec F S256x128 .bf16) (v8 : BitVec 1) (v24 : FVec F S256x256 .f32) {X12 : S256x256.Idx → Elt F .f32} {X13 : S256x1.Idx → Elt F .f32} {X14 : S256x256.Idx → Elt F .f32} {X15 : S256x1.Idx → Elt F .f32} {X16 : S256x256.Idx → Elt F .f32} {X9 : S256x1.Idx → Elt F .f32} {X10 : S256x256.Idx → Elt F .f32} {X11 : S256x1.Idx → Elt F .f32} {X4 : S1x1x16640x128.Idx → Elt F .bf16} {X5 : S1x1x16640x256.Idx → Elt F .bf16} {X7a X7b X7p X7d : S256x3328.Idx → Elt F .f32} {X8a X8b X8p X8d : S256x3328.Idx → Elt F .f32} (k0_h1 : ¬ ((Scalar.cmpi .ne (Scalar.extui v8) 0#32) = 1#1)) (k0_h2 : ¬ (k0_cond2 i = 1#1)) {P : Streams F} (hP : P = Streams.mk X9 X10 X11 v24 (k0_pay88 (F := F)) (k0_pay89 (F := F)) (k0_pay90 (F := F)) (k0_pay91 (F := F))) {Q : _ → sProp 𝕄} :
    iprop(O c arg12 X12 ∗ O c arg13 X13 ∗ O c arg14 X14 ∗ O c arg15 X15 ∗ O c arg16 X16 ∗ O c arg9 X9 ∗ O c arg10 X10 ∗ O c arg11 X11 ∗ O c arg4 X4 ∗ O c arg5 X5 ∗ O c arg7 (stack ![X7a, X7b, X7p, X7d]) ∗ O c arg8 (stack ![X8a, X8b, X8p, X8d]))
      ⊢ iprop((iprop(O c arg12 P.a2 ∗ O c arg13 P.m3 ∗ O c arg14 P.a3 ∗ O c arg15 P.m4 ∗ O c arg16 P.a4 ∗ O c arg9 P.m1 ∗ O c arg10 P.a1 ∗ O c arg11 P.m2 ∗ O c arg4 X4 ∗ O c arg5 X5 ∗ O c arg7 (stack ![X7a, X7b, X7p, X7d]) ∗ O c arg8 (stack ![X8a, X8b, X8p, X8d]))
          -∗ Q ⟨k0_pay97 (pick (Rect.unit (s := S256x256) ![0, 0] S256x128.size inb_S256x256_S256x128_0_0).toLoadRect P.a1) (pick (Rect.unit (s := S256x256) ![0, 128] S256x1.size inb_S256x256_S256x1_0_128).toLoadRect P.a1), k0_pay98 (pick (Rect.unit (s := S256x256) ![0, 0] S256x128.size inb_S256x256_S256x128_0_0).toLoadRect P.a2) (pick (Rect.unit (s := S256x256) ![0, 128] S256x1.size inb_S256x256_S256x1_0_128).toLoadRect P.a2)⟩) -∗ W c (k0_part13 i arg3 harg3 arg4 harg4 arg5 harg5 arg6 harg6 arg7 harg7 arg8 harg8 arg9 harg9 arg10 harg10 arg11 harg11 arg12 harg12 arg13 harg13 arg14 harg14 arg15 harg15 arg16 harg16 v1 v3 v5 v7 v8 v24) Q) := by
  subst hP
  unfold W
  dsimp only
  rw [k0_part13_eq_skeleton]; unfold k0_part13_skel
  iintro ⟨H12, H13, H14, H15, H16, H9, H10, H11, H4, H5, H7, H8⟩ HK
  iapply (store_all 𝒱₀ (c : Thread nD τ) none Set.univ z2) $$ H12; iintro H12
  iapply (load_all 𝒱₀ (c : Thread nD τ) none Set.univ z2) $$ H13; iintro H13
  iapply (store_all 𝒱₀ (c : Thread nD τ) none Set.univ z2) $$ H13; iintro H13
  iapply (load_all 𝒱₀ (c : Thread nD τ) none Set.univ z2) $$ H14; iintro H14
  iapply (store_all 𝒱₀ (c : Thread nD τ) none Set.univ z2) $$ H14; iintro H14
  iapply (load_all 𝒱₀ (c : Thread nD τ) none Set.univ z2) $$ H15; iintro H15
  iapply (store_all 𝒱₀ (c : Thread nD τ) none Set.univ z2) $$ H15; iintro H15
  iapply (load_all 𝒱₀ (c : Thread nD τ) none Set.univ z2) $$ H16; iintro H16
  iapply (store_all 𝒱₀ (c : Thread nD τ) none Set.univ z2) $$ H16; iintro H16
  rw [dif_neg k0_h1]
  rw [dif_neg k0_h2]
  iapply (load_part 𝒱₀ (c : Thread nD τ) none Set.univ) $$ H10; iintro H10
  iapply (load_part 𝒱₀ (c : Thread nD τ) none Set.univ) $$ H10; iintro H10
  iapply (load_part 𝒱₀ (c : Thread nD τ) none Set.univ) $$ H12; iintro H12
  iapply (load_part 𝒱₀ (c : Thread nD τ) none Set.univ) $$ H12; iintro H12
  iapply (le_wp_ret _ _ _ _ _)
  iapply HK
  isplitl [H12]; · iexact H12
  isplitl [H13]; · iexact H13
  isplitl [H14]; · iexact H14
  isplitl [H15]; · iexact H15
  isplitl [H16]; · iexact H16
  isplitl [H9]; · iexact H9
  isplitl [H10]; · iexact H10
  isplitl [H11]; · iexact H11
  isplitl [H4]; · iexact H4
  isplitl [H5]; · iexact H5
  isplitl [H7]; · iexact H7
  iexact H8

end Cert.Proof.Gqa

end
-- ==== Proof.GqaBody.lean ====
/-
  The whole body of the grouped-attention kernel: the output block as a function of what the windows hold.
-/
module

public import proofs.«01_k».proof.Proof.GqaLoop
public import proofs.«01_k».proof.Proof.Gen.Kernel2Ideal.Launch
public import proofs.«01_k».proof.Proof.Gen.Kernel2Ideal.Skeleton

@[expose] public section

noncomputable section

namespace Cert.Proof.Gqa

open Cert.Kernel2Ideal Cert.Kernel2Ideal.Gen Cert.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The streams before any key. -/
def start : Streams F :=
  (Streams.mk (k0_pay84 (F := F)) (k0_pay85 (F := F)) (k0_pay86 (F := F)) (k0_pay87 (F := F)) (k0_pay88 (F := F)) (k0_pay89 (F := F)) (k0_pay90 (F := F)) (k0_pay91 (F := F)))

/-- The condition of the context branch. -/
abbrev isCtx (i : grid0.Coords) : Prop := (Scalar.cmpi .ne (Scalar.extui (Scalar.cmpi .slt (BitVec.ofNat 32 (i 2).val) 1#32)) 0#32) = 1#1

/-- The streams after the context branch. -/
def first (i : grid0.Coords) (v1 v3 v5 v7 : FVec F S256x128 .bf16) (K : S1x1x16640x128.Idx → Elt F .bf16) (V : S1x1x16640x256.Idx → Elt F .bf16) (p : Streams F) : Streams F :=
  if isCtx i then ctxStep v1 v3 v5 v7 K V p else p

/-- The streams after the branch of the latent rows. -/
def second (i : grid0.Coords) (v1 v3 v5 v7 : FVec F S256x128 .bf16) (K : S1x1x16640x128.Idx → Elt F .bf16) (V : S1x1x16640x256.Idx → Elt F .bf16) (p : Streams F) : Streams F :=
  if h : k0_cond2 i = 1#1 then latStep i h v1 v3 v5 v7 K V p else p

/-- The streams at the end of the body. -/
def done (i : grid0.Coords) (q : S1x4x256x128.Idx → Elt F .bf16) (K : S1x1x16640x128.Idx → Elt F .bf16) (V : S1x1x16640x256.Idx → Elt F .bf16) : Streams F :=
  second i (k0_pay80 (pick (Rect.unit (s := S1x4x256x128) ![0, 0, 0, 0] S1x1x256x128.size inb_S1x4x256x128_S1x1x256x128_0_0_0_0).toLoadRect q)) (k0_pay81 (pick (Rect.unit (s := S1x4x256x128) ![0, 1, 0, 0] S1x1x256x128.size inb_S1x4x256x128_S1x1x256x128_0_1_0_0).toLoadRect q)) (k0_pay82 (pick (Rect.unit (s := S1x4x256x128) ![0, 2, 0, 0] S1x1x256x128.size inb_S1x4x256x128_S1x1x256x128_0_2_0_0).toLoadRect q)) (k0_pay83 (pick (Rect.unit (s := S1x4x256x128) ![0, 3, 0, 0] S1x1x256x128.size inb_S1x4x256x128_S1x1x256x128_0_3_0_0).toLoadRect q)) K V (first i (k0_pay80 (pick (Rect.unit (s := S1x4x256x128) ![0, 0, 0, 0] S1x1x256x128.size inb_S1x4x256x128_S1x1x256x128_0_0_0_0).toLoadRect q)) (k0_pay81 (pick (Rect.unit (s := S1x4x256x128) ![0, 1, 0, 0] S1x1x256x128.size inb_S1x4x256x128_S1x1x256x128_0_1_0_0).toLoadRect q)) (k0_pay82 (pick (Rect.unit (s := S1x4x256x128) ![0, 2, 0, 0] S1x1x256x128.size inb_S1x4x256x128_S1x1x256x128_0_2_0_0).toLoadRect q)) (k0_pay83 (pick (Rect.unit (s := S1x4x256x128) ![0, 3, 0, 0] S1x1x256x128.size inb_S1x4x256x128_S1x1x256x128_0_3_0_0).toLoadRect q)) K V start)

/-- The four heads' averages. -/
def out1 (p : Streams F) : S1x256x128.Idx → Elt F .bf16 :=
  (k0_pay1 (k0_pay97 (pick (Rect.unit (s := S256x256) ![0, 0] S256x128.size inb_S256x256_S256x128_0_0).toLoadRect p.a1) (pick (Rect.unit (s := S256x256) ![0, 128] S256x1.size inb_S256x256_S256x1_0_128).toLoadRect p.a1)))

def out2 (p : Streams F) : S1x256x128.Idx → Elt F .bf16 :=
  (k0_pay2 (k0_pay98 (pick (Rect.unit (s := S256x256) ![0, 0] S256x128.size inb_S256x256_S256x128_0_0).toLoadRect p.a2) (pick (Rect.unit (s := S256x256) ![0, 128] S256x1.size inb_S256x256_S256x1_0_128).toLoadRect p.a2)))

def out3 (p : Streams F) : S1x256x128.Idx → Elt F .bf16 :=
  (k0_pay3 (pick (Rect.unit (s := S256x256) ![0, 0] S256x128.size inb_S256x256_S256x128_0_0).toLoadRect (p.a3)) (pick (Rect.unit (s := S256x256) ![0, 128] S256x1.size inb_S256x256_S256x1_0_128).toLoadRect (p.a3)))

def out4 (p : Streams F) : S1x256x128.Idx → Elt F .bf16 :=
  (k0_pay4 (pick (Rect.unit (s := S256x256) ![0, 0] S256x128.size inb_S256x256_S256x128_0_0).toLoadRect (p.a4)) (pick (Rect.unit (s := S256x256) ![0, 128] S256x1.size inb_S256x256_S256x1_0_128).toLoadRect (p.a4)))

/-- The branches of the context rows and of the latent rows, and the first two heads' averages. -/
theorem part13_spec (c : Dev nD) (arg3 : Memref sig .tc .vmem S1x4x256x128 .bf16) (harg3 : arg3.IsWhole) (arg4 : Memref sig .tc .vmem S1x1x16640x128 .bf16) (harg4 : arg4.IsWhole) (arg5 : Memref sig .tc .vmem S1x1x16640x256 .bf16) (harg5 : arg5.IsWhole) (arg6 : Memref sig .tc .vmem S1x256x512 .bf16) (harg6 : arg6.IsWhole) (arg7 : Memref sig .tc .vmem S1024x3328 .f32) (harg7 : arg7.IsWhole) (arg8 : Memref sig .tc .vmem S1024x3328 .f32) (harg8 : arg8.IsWhole) (arg9 : Memref sig .tc .vmem S256x1 .f32) (harg9 : arg9.IsWhole) (arg10 : Memref sig .tc .vmem S256x256 .f32) (harg10 : arg10.IsWhole) (arg11 : Memref sig .tc .vmem S256x1 .f32) (harg11 : arg11.IsWhole) (arg12 : Memref sig .tc .vmem S256x256 .f32) (harg12 : arg12.IsWhole) (arg13 : Memref sig .tc .vmem S256x1 .f32) (harg13 : arg13.IsWhole) (arg14 : Memref sig .tc .vmem S256x256 .f32) (harg14 : arg14.IsWhole) (arg15 : Memref sig .tc .vmem S256x1 .f32) (harg15 : arg15.IsWhole) (arg16 : Memref sig .tc .vmem S256x256 .f32) (harg16 : arg16.IsWhole) (i : grid0.Coords) (v1 : FVec F S256x128 .bf16) (v3 : FVec F S256x128 .bf16) (v5 : FVec F S256x128 .bf16) (v7 : FVec F S256x128 .bf16) (v8 : BitVec 1) (v24 : FVec F S256x256 .f32) (hv8 : v8 = (Scalar.cmpi .slt (BitVec.ofNat 32 (i 2).val) 1#32)) {X4 : S1x1x16640x128.Idx → Elt F .bf16} {X5 : S1x1x16640x256.Idx → Elt F .bf16} {X9 : S256x1.Idx → Elt F .f32} {X10 : S256x256.Idx → Elt F .f32} {X11 : S256x1.Idx → Elt F .f32} {X12 : S256x256.Idx → Elt F .f32} {X13 : S256x1.Idx → Elt F .f32} {X14 : S256x256.Idx → Elt F .f32} {X15 : S256x1.Idx → Elt F .f32} {X16 : S256x256.Idx → Elt F .f32} {Q : _ → sProp 𝕄} :
    iprop(O c arg4 X4 ∗ O c arg5 X5 ∗ AnyS (F := F) c arg7 ∗ AnyS (F := F) c arg8 ∗ O c arg9 X9 ∗ O c arg10 X10 ∗ O c arg11 X11 ∗ O c arg12 X12 ∗ O c arg13 X13 ∗ O c arg14 X14 ∗ O c arg15 X15 ∗ O c arg16 X16)
      ⊢ iprop((iprop(O c arg4 X4 ∗ O c arg5 X5 ∗ AnyS (F := F) c arg7 ∗ AnyS (F := F) c arg8 ∗ O c arg9 ((second i v1 v3 v5 v7 X4 X5 (first i v1 v3 v5 v7 X4 X5 (Streams.mk X9 X10 X11 v24 (k0_pay88 (F := F)) (k0_pay89 (F := F)) (k0_pay90 (F := F)) (k0_pay91 (F := F))))).m1) ∗ O c arg10 ((second i v1 v3 v5 v7 X4 X5 (first i v1 v3 v5 v7 X4 X5 (Streams.mk X9 X10 X11 v24 (k0_pay88 (F := F)) (k0_pay89 (F := F)) (k0_pay90 (F := F)) (k0_pay91 (F := F))))).a1) ∗ O c arg11 ((second i v1 v3 v5 v7 X4 X5 (first i v1 v3 v5 v7 X4 X5 (Streams.mk X9 X10 X11 v24 (k0_pay88 (F := F)) (k0_pay89 (F := F)) (k0_pay90 (F := F)) (k0_pay91 (F := F))))).m2) ∗ O c arg12 ((second i v1 v3 v5 v7 X4 X5 (first i v1 v3 v5 v7 X4 X5 (Streams.mk X9 X10 X11 v24 (k0_pay88 (F := F)) (k0_pay89 (F := F)) (k0_pay90 (F := F)) (k0_pay91 (F := F))))).a2) ∗ O c arg13 ((second i v1 v3 v5 v7 X4 X5 (first i v1 v3 v5 v7 X4 X5 (Streams.mk X9 X10 X11 v24 (k0_pay88 (F := F)) (k0_pay89 (F := F)) (k0_pay90 (F := F)) (k0_pay91 (F := F))))).m3) ∗ O c arg14 ((second i v1 v3 v5 v7 X4 X5 (first i v1 v3 v5 v7 X4 X5 (Streams.mk X9 X10 X11 v24 (k0_pay88 (F := F)) (k0_pay89 (F := F)) (k0_pay90 (F := F)) (k0_pay91 (F := F))))).a3) ∗ O c arg15 ((second i v1 v3 v5 v7 X4 X5 (first i v1 v3 v5 v7 X4 X5 (Streams.mk X9 X10 X11 v24 (k0_pay88 (F := F)) (k0_pay89 (F := F)) (k0_pay90 (F := F)) (k0_pay91 (F := F))))).m4) ∗ O c arg16 ((second i v1 v3 v5 v7 X4 X5 (first i v1 v3 v5 v7 X4 X5 (Streams.mk X9 X10 X11 v24 (k0_pay88 (F := F)) (k0_pay89 (F := F)) (k0_pay90 (F := F)) (k0_pay91 (F := F))))).a4))
          -∗ Q ⟨k0_pay97 (pick (Rect.unit (s := S256x256) ![0, 0] S256x128.size inb_S256x256_S256x128_0_0).toLoadRect (second i v1 v3 v5 v7 X4 X5 (first i v1 v3 v5 v7 X4 X5 (Streams.mk X9 X10 X11 v24 (k0_pay88 (F := F)) (k0_pay89 (F := F)) (k0_pay90 (F := F)) (k0_pay91 (F := F))))).a1) (pick (Rect.unit (s := S256x256) ![0, 128] S256x1.size inb_S256x256_S256x1_0_128).toLoadRect (second i v1 v3 v5 v7 X4 X5 (first i v1 v3 v5 v7 X4 X5 (Streams.mk X9 X10 X11 v24 (k0_pay88 (F := F)) (k0_pay89 (F := F)) (k0_pay90 (F := F)) (k0_pay91 (F := F))))).a1), k0_pay98 (pick (Rect.unit (s := S256x256) ![0, 0] S256x128.size inb_S256x256_S256x128_0_0).toLoadRect (second i v1 v3 v5 v7 X4 X5 (first i v1 v3 v5 v7 X4 X5 (Streams.mk X9 X10 X11 v24 (k0_pay88 (F := F)) (k0_pay89 (F := F)) (k0_pay90 (F := F)) (k0_pay91 (F := F))))).a2) (pick (Rect.unit (s := S256x256) ![0, 128] S256x1.size inb_S256x256_S256x1_0_128).toLoadRect (second i v1 v3 v5 v7 X4 X5 (first i v1 v3 v5 v7 X4 X5 (Streams.mk X9 X10 X11 v24 (k0_pay88 (F := F)) (k0_pay89 (F := F)) (k0_pay90 (F := F)) (k0_pay91 (F := F))))).a2)⟩) -∗ W c (k0_part13 i arg3 harg3 arg4 harg4 arg5 harg5 arg6 harg6 arg7 harg7 arg8 harg8 arg9 harg9 arg10 harg10 arg11 harg11 arg12 harg12 arg13 harg13 arg14 harg14 arg15 harg15 arg16 harg16 v1 v3 v5 v7 v8 v24) Q) := by
  iintro ⟨H4, H5, ⟨%Z7, H7⟩, ⟨%Z8, H8⟩, H9, H10, H11, H12, H13, H14, H15, H16⟩ HK
  subst hv8
  by_cases h1 : isCtx i
  · rw [first, if_pos h1]
    by_cases h2 : k0_cond2 i = 1#1
    · rw [second, dif_pos h2]
      rw [← four_self Z7]
      iapply (part13_pp c arg3 harg3 arg4 harg4 arg5 harg5 arg6 harg6 arg7 harg7 arg8 harg8 arg9 harg9 arg10 harg10 arg11 harg11 arg12 harg12 arg13 harg13 arg14 harg14 arg15 harg15 arg16 harg16 i _ _ _ _ _ _ h1 h2 rfl rfl rfl rfl) $$ [H12 H13 H14 H15 H16 H9 H10 H11 H4 H5 H7 H8]
      · isplitl [H12]; · iexact H12
        isplitl [H13]; · iexact H13
        isplitl [H14]; · iexact H14
        isplitl [H15]; · iexact H15
        isplitl [H16]; · iexact H16
        isplitl [H9]; · iexact H9
        isplitl [H10]; · iexact H10
        isplitl [H11]; · iexact H11
        isplitl [H4]; · iexact H4
        isplitl [H5]; · iexact H5
        isplitl [H7]; · iexact H7
        iexists _; iexact H8
      iintro ⟨H12, H13, H14, H15, H16, H9, H10, H11, H4, H5, H7, H8⟩
      iapply HK
      isplitl [H4]; · iexact H4
      isplitl [H5]; · iexact H5
      isplitl [H7]; · iexists _; iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      iexact H16
    · rw [second, dif_neg h2]
      rw [← four_self Z7]; rw [← four_self Z8]
      iapply (part13_pn c arg3 harg3 arg4 harg4 arg5 harg5 arg6 harg6 arg7 harg7 arg8 harg8 arg9 harg9 arg10 harg10 arg11 harg11 arg12 harg12 arg13 harg13 arg14 harg14 arg15 harg15 arg16 harg16 i _ _ _ _ _ _ h1 h2 rfl rfl) $$ [H12 H13 H14 H15 H16 H9 H10 H11 H4 H5 H7 H8]
      · isplitl [H12]; · iexact H12
        isplitl [H13]; · iexact H13
        isplitl [H14]; · iexact H14
        isplitl [H15]; · iexact H15
        isplitl [H16]; · iexact H16
        isplitl [H9]; · iexact H9
        isplitl [H10]; · iexact H10
        isplitl [H11]; · iexact H11
        isplitl [H4]; · iexact H4
        isplitl [H5]; · iexact H5
        isplitl [H7]; · iexact H7
        iexact H8
      iintro ⟨H12, H13, H14, H15, H16, H9, H10, H11, H4, H5, H7, H8⟩
      iapply HK
      isplitl [H4]; · iexact H4
      isplitl [H5]; · iexact H5
      isplitl [H7]; · iexists _; iexact H7
      isplitl [H8]; · iexists _; iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      iexact H16
  · rw [first, if_neg h1]
    by_cases h2 : k0_cond2 i = 1#1
    · rw [second, dif_pos h2]
      rw [← four_self Z7]
      iapply (part13_np c arg3 harg3 arg4 harg4 arg5 harg5 arg6 harg6 arg7 harg7 arg8 harg8 arg9 harg9 arg10 harg10 arg11 harg11 arg12 harg12 arg13 harg13 arg14 harg14 arg15 harg15 arg16 harg16 i _ _ _ _ _ _ h1 h2 rfl rfl rfl) $$ [H12 H13 H14 H15 H16 H9 H10 H11 H4 H5 H7 H8]
      · isplitl [H12]; · iexact H12
        isplitl [H13]; · iexact H13
        isplitl [H14]; · iexact H14
        isplitl [H15]; · iexact H15
        isplitl [H16]; · iexact H16
        isplitl [H9]; · iexact H9
        isplitl [H10]; · iexact H10
        isplitl [H11]; · iexact H11
        isplitl [H4]; · iexact H4
        isplitl [H5]; · iexact H5
        isplitl [H7]; · iexact H7
        iexists _; iexact H8
      iintro ⟨H12, H13, H14, H15, H16, H9, H10, H11, H4, H5, H7, H8⟩
      iapply HK
      isplitl [H4]; · iexact H4
      isplitl [H5]; · iexact H5
      isplitl [H7]; · iexists _; iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      iexact H16
    · rw [second, dif_neg h2]
      rw [← four_self Z7]; rw [← four_self Z8]
      iapply (part13_nn c arg3 harg3 arg4 harg4 arg5 harg5 arg6 harg6 arg7 harg7 arg8 harg8 arg9 harg9 arg10 harg10 arg11 harg11 arg12 harg12 arg13 harg13 arg14 harg14 arg15 harg15 arg16 harg16 i _ _ _ _ _ _ h1 h2 rfl) $$ [H12 H13 H14 H15 H16 H9 H10 H11 H4 H5 H7 H8]
      · isplitl [H12]; · iexact H12
        isplitl [H13]; · iexact H13
        isplitl [H14]; · iexact H14
        isplitl [H15]; · iexact H15
        isplitl [H16]; · iexact H16
        isplitl [H9]; · iexact H9
        isplitl [H10]; · iexact H10
        isplitl [H11]; · iexact H11
        isplitl [H4]; · iexact H4
        isplitl [H5]; · iexact H5
        isplitl [H7]; · iexact H7
        iexact H8
      iintro ⟨H12, H13, H14, H15, H16, H9, H10, H11, H4, H5, H7, H8⟩
      iapply HK
      isplitl [H4]; · iexact H4
      isplitl [H5]; · iexact H5
      isplitl [H7]; · iexists _; iexact H7
      isplitl [H8]; · iexists _; iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      iexact H16

/-- The whole body: from what its windows hold, what the output block holds. -/
theorem body_spec (c : Dev nD) (arg3 : Memref sig .tc .vmem S1x4x256x128 .bf16) (harg3 : arg3.IsWhole) (arg4 : Memref sig .tc .vmem S1x1x16640x128 .bf16) (harg4 : arg4.IsWhole) (arg5 : Memref sig .tc .vmem S1x1x16640x256 .bf16) (harg5 : arg5.IsWhole) (arg6 : Memref sig .tc .vmem S1x256x512 .bf16) (harg6 : arg6.IsWhole) (arg7 : Memref sig .tc .vmem S1024x3328 .f32) (harg7 : arg7.IsWhole) (arg8 : Memref sig .tc .vmem S1024x3328 .f32) (harg8 : arg8.IsWhole) (arg9 : Memref sig .tc .vmem S256x1 .f32) (harg9 : arg9.IsWhole) (arg10 : Memref sig .tc .vmem S256x256 .f32) (harg10 : arg10.IsWhole) (arg11 : Memref sig .tc .vmem S256x1 .f32) (harg11 : arg11.IsWhole) (arg12 : Memref sig .tc .vmem S256x256 .f32) (harg12 : arg12.IsWhole) (arg13 : Memref sig .tc .vmem S256x1 .f32) (harg13 : arg13.IsWhole) (arg14 : Memref sig .tc .vmem S256x256 .f32) (harg14 : arg14.IsWhole) (arg15 : Memref sig .tc .vmem S256x1 .f32) (harg15 : arg15.IsWhole) (arg16 : Memref sig .tc .vmem S256x256 .f32) (harg16 : arg16.IsWhole) (i : grid0.Coords)  {X3 : S1x4x256x128.Idx → Elt F .bf16} {X9 : S256x1.Idx → Elt F .f32} {X10 : S256x256.Idx → Elt F .f32} {X11 : S256x1.Idx → Elt F .f32} {X12 : S256x256.Idx → Elt F .f32} {X4 : S1x1x16640x128.Idx → Elt F .bf16} {X5 : S1x1x16640x256.Idx → Elt F .bf16} {X13 : S256x1.Idx → Elt F .f32} {X14 : S256x256.Idx → Elt F .f32} {X15 : S256x1.Idx → Elt F .f32} {X16 : S256x256.Idx → Elt F .f32} {X6a X6b X6p X6d : S1x256x128.Idx → Elt F .bf16} {Q : _ → sProp 𝕄} :
    iprop(O c arg3 X3 ∗ O c arg9 X9 ∗ O c arg10 X10 ∗ O c arg11 X11 ∗ O c arg12 X12 ∗ O c arg4 X4 ∗ O c arg5 X5 ∗ AnyS (F := F) c arg7 ∗ AnyS c arg8 ∗ O c arg13 X13 ∗ O c arg14 X14 ∗ O c arg15 X15 ∗ O c arg16 X16 ∗ O c arg6 (beside ![X6a, X6b, X6p, X6d]))
      ⊢ iprop((iprop(O c arg3 X3 ∗ O c arg9 ((done i X3 X4 X5).m1) ∗ O c arg10 ((done i X3 X4 X5).a1) ∗ O c arg11 ((done i X3 X4 X5).m2) ∗ O c arg12 ((done i X3 X4 X5).a2) ∗ O c arg4 X4 ∗ O c arg5 X5 ∗ AnyS (F := F) c arg7 ∗ AnyS c arg8 ∗ O c arg13 ((done i X3 X4 X5).m3) ∗ O c arg14 ((done i X3 X4 X5).a3) ∗ O c arg15 ((done i X3 X4 X5).m4) ∗ O c arg16 ((done i X3 X4 X5).a4) ∗ O c arg6 (beside ![out1 (done i X3 X4 X5), out2 (done i X3 X4 X5), out3 (done i X3 X4 X5), out4 (done i X3 X4 X5)]))
          -∗ Q ⟨⟩) -∗ W c (cc0_gqa_attn i arg3 harg3 arg4 harg4 arg5 harg5 arg6 harg6 arg7 harg7 arg8 harg8 arg9 harg9 arg10 harg10 arg11 harg11 arg12 harg12 arg13 harg13 arg14 harg14 arg15 harg15 arg16 harg16 ) Q) := by
  unfold done out1 out2 out3 out4 start
  unfold W
  rw [cc0_gqa_attn_eq_skeleton]; unfold cc0_gqa_attn_skel
  iintro ⟨H3, H9, H10, H11, H12, H4, H5, H7, H8, H13, H14, H15, H16, H6⟩ HK
  rw [wp_bind]
  iapply (part12_spec c arg3 harg3 arg4 harg4 arg5 harg5 arg6 harg6 arg7 harg7 arg8 harg8 arg9 harg9 arg10 harg10 arg11 harg11 arg12 harg12 arg13 harg13 arg14 harg14 arg15 harg15 arg16 harg16 _) $$ [H3 H9 H10 H11 H12]
  · isplitl [H3]; · iexact H3
    · isplitl [H9]; · iexact H9
      · isplitl [H10]; · iexact H10
        · isplitl [H11]; · iexact H11
          iexact H12
  iintro ⟨H3, H9, H10, H11, H12⟩
  try dsimp only
  rw [wp_bind]
  iapply (part13_spec c arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ rfl) $$ [H4 H5 H7 H8 H9 H10 H11 H12 H13 H14 H15 H16]
  · isplitl [H4]; · iexact H4
    · isplitl [H5]; · iexact H5
      · isplitl [H7]; · iexact H7
        · isplitl [H8]; · iexact H8
          · isplitl [H9]; · iexact H9
            · isplitl [H10]; · iexact H10
              · isplitl [H11]; · iexact H11
                · isplitl [H12]; · iexact H12
                  · isplitl [H13]; · iexact H13
                    · isplitl [H14]; · iexact H14
                      · isplitl [H15]; · iexact H15
                        iexact H16
  iintro ⟨H4, H5, H7, H8, H9, H10, H11, H12, H13, H14, H15, H16⟩
  try dsimp only
  iapply (load_part 𝒱₀ (c : Thread nD τ) none Set.univ) $$ H14; iintro H14
  iapply (load_part 𝒱₀ (c : Thread nD τ) none Set.univ) $$ H14; iintro H14
  iapply (load_part 𝒱₀ (c : Thread nD τ) none Set.univ) $$ H16; iintro H16
  iapply (load_part 𝒱₀ (c : Thread nD τ) none Set.univ) $$ H16; iintro H16
  iapply (load_part 𝒱₀ (c : Thread nD τ) none Set.univ) $$ H6; iintro H6
  iapply (store_lanes_0 𝒱₀ (c : Thread nD τ) none Set.univ) $$ H6; iintro H6
  iapply (load_part 𝒱₀ (c : Thread nD τ) none Set.univ) $$ H6; iintro H6
  iapply (store_lanes_1 𝒱₀ (c : Thread nD τ) none Set.univ) $$ H6; iintro H6
  iapply (load_part 𝒱₀ (c : Thread nD τ) none Set.univ) $$ H6; iintro H6
  iapply (store_lanes_2 𝒱₀ (c : Thread nD τ) none Set.univ) $$ H6; iintro H6
  iapply (load_part 𝒱₀ (c : Thread nD τ) none Set.univ) $$ H6; iintro H6
  iapply (store_lanes_3 𝒱₀ (c : Thread nD τ) none Set.univ) $$ H6; iintro H6
  iapply (le_wp_ret _ _ _ _ _)
  iapply HK
  isplitl [H3]; · iexact H3
  isplitl [H9]; · iexact H9
  isplitl [H10]; · iexact H10
  isplitl [H11]; · iexact H11
  isplitl [H12]; · iexact H12
  isplitl [H4]; · iexact H4
  isplitl [H5]; · iexact H5
  isplitl [H7]; · iexact H7
  isplitl [H8]; · iexact H8
  isplitl [H13]; · iexact H13
  isplitl [H14]; · iexact H14
  isplitl [H15]; · iexact H15
  isplitl [H16]; · iexact H16
  iexact H6

end Cert.Proof.Gqa

end
-- ==== Proof.GqaRun.lean ====
/-
  The run of the grouped-attention program: the pipeline's proof data (each input window at its block, the output
  window at the block the body leaves), the body at every point of the grid, and the run of the whole program.
-/
module

public import proofs.«01_k».proof.Proof.GqaBody
public import proofs.«01_k».proof.Proof.Gen.Kernel2Ideal.Frame

@[expose] public section

noncomputable section

namespace Cert.Proof.Gqa

open Cert.Kernel2Ideal Cert.Kernel2Ideal.Gen Cert.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The output block, from what the windows hold at the point `i`: the four heads side by side. -/
def outBlock (i : grid0.Coords) (q : S1x4x256x128.Idx → Elt F .bf16) (K : S1x1x16640x128.Idx → Elt F .bf16)
    (V : S1x1x16640x256.Idx → Elt F .bf16) : S1x256x512.Idx → Elt F .bf16 :=
  beside ![out1 (done i q K V), out2 (done i q K V), out3 (done i q K V), out4 (done i q K V)]

/-- Core `c` owns the memref, whatever it holds. -/
abbrev Any (c : Dev nD) {sp : Space} {s : Shape} {e : EltTy} (m : Memref sig .tc sp s e) : sProp 𝕄 :=
  iprop(∃ Z : s.Idx → Elt F e, O (F := F) c m Z)

variable (m : (ℓ : Loc nD τ sig) → Buf (Elt F) ℓ) (ρ : Dev nD → PrngReg)

/-- The arrays as the region finds them; after the body each input's buffer at its block, the result's at `outBlock` of
    the blocks; nothing else carried between the points; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (grid0.coords t) (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t
    = outBlock (grid0.coords t) (iblk m c 0 t) (iblk m c 1 t) (iblk m c 2 t) := by dsimp only [dats]

/-- Each input's staging buffer holds its block when the body runs. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
/-- The body at every point: the windows and the scratch buffers are handed to `body_spec`, the rest passes through. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after0_0, after0_1, after0_2, after0_3]
  unfold Pipeline.ΦA
  rw [scopedRest0_eq]
  unfold outBlock
  iintro ⟨⟨⟨⟨%f0, S0⟩, ⟨%f1, S1⟩, ⟨%f2, S2⟩, ⟨%f3, S3⟩, ⟨%f4, S4⟩, ⟨%f5, S5⟩, ⟨%f6, S6⟩, ⟨%f7, S7⟩, ⟨%f8, S8⟩, ⟨%f9, S9⟩⟩, HR⟩, Ho, ⟨%d0, H0⟩, ⟨%d1, H1⟩, ⟨%d2, H2⟩, ⟨%d3, H3⟩⟩
  obtain ⟨z0, hz0⟩ := stack_self f0
  obtain ⟨z1, hz1⟩ := stack_self f1
  have hz3 := beside_self ((dats m 0 c).before 3 t d3)
  obtain ⟨z3, hz3⟩ := hz3
  rw [← hz3, ← four_self z3]
  iapply (body_spec c _ _ _ _ _ _ _ _ _ _ _ _ _ _ _ _ _ _ _ _ _ _ _ _ _ _ _ _ (grid0.coords t)) $$ [S0 S1 S2 S3 S4 S5 S6 S7 S8 S9 H0 H1 H2 H3]
  · isplitl [H0]; · iexact H0
    isplitl [S2]; · iapply (Entails.of_eq (owns_whole (c : Thread nD τ) cc0_scratch2 fullShare f2).symm); iexact S2
    isplitl [S3]; · iapply (Entails.of_eq (owns_whole (c : Thread nD τ) cc0_scratch3 fullShare f3).symm); iexact S3
    isplitl [S4]; · iapply (Entails.of_eq (owns_whole (c : Thread nD τ) cc0_scratch4 fullShare f4).symm); iexact S4
    isplitl [S5]; · iapply (Entails.of_eq (owns_whole (c : Thread nD τ) cc0_scratch5 fullShare f5).symm); iexact S5
    isplitl [H1]; · iexact H1
    isplitl [H2]; · iexact H2
    isplitl [S0]; · iexists z0; rw [hz0]; iapply (Entails.of_eq (owns_whole (c : Thread nD τ) cc0_scratch0 fullShare f0).symm); iexact S0
    isplitl [S1]; · iexists z1; rw [hz1]; iapply (Entails.of_eq (owns_whole (c : Thread nD τ) cc0_scratch1 fullShare f1).symm); iexact S1
    isplitl [S6]; · iapply (Entails.of_eq (owns_whole (c : Thread nD τ) cc0_scratch6 fullShare f6).symm); iexact S6
    isplitl [S7]; · iapply (Entails.of_eq (owns_whole (c : Thread nD τ) cc0_scratch7 fullShare f7).symm); iexact S7
    isplitl [S8]; · iapply (Entails.of_eq (owns_whole (c : Thread nD τ) cc0_scratch8 fullShare f8).symm); iexact S8
    isplitl [S9]; · iapply (Entails.of_eq (owns_whole (c : Thread nD τ) cc0_scratch9 fullShare f9).symm); iexact S9
    iexact H3
  iintro ⟨H0, S2, S3, S4, S5, H1, H2, ⟨%g0, S0⟩, ⟨%g1, S1⟩, S6, S7, S8, S9, H3⟩
  isplitl [HR S0 S1 S2 S3 S4 S5 S6 S7 S8 S9]
  · isplitl [S0 S1 S2 S3 S4 S5 S6 S7 S8 S9]
    · isplitl [S0]; · iexists _; iapply (Entails.of_eq (owns_whole (c : Thread nD τ) cc0_scratch0 fullShare _)); iexact S0
      isplitl [S1]; · iexists _; iapply (Entails.of_eq (owns_whole (c : Thread nD τ) cc0_scratch1 fullShare _)); iexact S1
      isplitl [S2]; · iexists _; iapply (Entails.of_eq (owns_whole (c : Thread nD τ) cc0_scratch2 fullShare _)); iexact S2
      isplitl [S3]; · iexists _; iapply (Entails.of_eq (owns_whole (c : Thread nD τ) cc0_scratch3 fullShare _)); iexact S3
      isplitl [S4]; · iexists _; iapply (Entails.of_eq (owns_whole (c : Thread nD τ) cc0_scratch4 fullShare _)); iexact S4
      isplitl [S5]; · iexists _; iapply (Entails.of_eq (owns_whole (c : Thread nD τ) cc0_scratch5 fullShare _)); iexact S5
      isplitl [S6]; · iexists _; iapply (Entails.of_eq (owns_whole (c : Thread nD τ) cc0_scratch6 fullShare _)); iexact S6
      isplitl [S7]; · iexists _; iapply (Entails.of_eq (owns_whole (c : Thread nD τ) cc0_scratch7 fullShare _)); iexact S7
      isplitl [S8]; · iexists _; iapply (Entails.of_eq (owns_whole (c : Thread nD τ) cc0_scratch8 fullShare _)); iexact S8
      iexists _; iapply (Entails.of_eq (owns_whole (c : Thread nD τ) cc0_scratch9 fullShare _)); iexact S9
    iexact HR
  isplitl [Ho]; · iexact Ho
  isplitl [H0]; · iexact H0
  isplitl [H1]; · iexact H1
  isplitl [H2]; · iexact H2
  iexact H3

set_option backward.isDefEq.respectTransparency.types false in
/-- From any memory with zero counters every weakly fair execution of the program terminates, every array of the
    pipeline ends at what the proof data says, and every counter ends at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := A_eq m) (hΦ := fun _ _ => rfl)

end Cert.Proof.Gqa

end
-- ==== Proof.GqaFrame.lean ====
/-
  The frames of the grouped-attention program, at the bits and at the extended reals: one run, over any floats,
  read at the argument arrays.
-/
module

public import proofs.«01_k».proof.Defs
public import proofs.«01_k».proof.Proof.GqaRun
public import proofs.«01_k».proof.Proof.Gen.Kernel2
public import proofs.«01_k».proof.Proof.Gen.Reference2Ideal.Run
public import Idealize.ShloMosaic.Adequacy
public import Idealize.ShloMosaic.Init

@[expose] public section

noncomputable section

namespace Cert.Proof.Gqa

open Idealize.ShloMosaic Idealize.ShloMosaic.TcCoe Idealize.SL.Sem

/-- The run over any floats: the arguments end as they were, every counter at zero. -/
theorem frame_any {F : FTy → Type} [FloatOps F] (m : (ℓ : Loc Cert.Kernel2Ideal.nD Cert.Kernel2Ideal.τ Cert.Kernel2Ideal.sig) → Buf (Elt F) ℓ)
    (ρ : Dev Cert.Kernel2Ideal.nD → PrngReg) :
    θ_run Cert.Kernel2Ideal.defs (onTc (τ := Cert.Kernel2Ideal.τ) (Cert.Kernel2Ideal.main (F := F))) ⟨m, fun _ => 0, ρ⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0) :=
  θ_run_with_sems (Cert.Kernel2Ideal.Gen.frame_of m ρ (dats m) (A_eq m)) (run_main (F := F) m ρ)

theorem frame_Kernel2Ideal : Cert.quiescent_Kernel2Ideal := fun m ρ _ => frame_any m ρ

/-- The kernel as printed is the same text: the same body table, -/
theorem defs₀_eq : (Cert.Kernel2.defs₀ (F := Bits)) = Cert.Kernel2Ideal.defs₀ (F := Bits) := by
  unfold Cert.Kernel2.defs₀ Cert.Kernel2Ideal.defs₀
  congr 1
  funext l a
  match l, a with
  | 0, (t, s) => rfl

theorem defs_eq : (Cert.Kernel2.defs (F := Bits)) = Cert.Kernel2Ideal.defs (F := Bits) :=
  congrArg (Pipeline.defs (Cert.Kernel2Ideal.pcfgs (F := Bits))) defs₀_eq

/-- so its run is the run over any floats, read at the bits. -/
theorem frame_Kernel2 : Cert.quiescent_Kernel2 := fun m ρ _ => by
  rw [defs_eq]
  exact frame_any (F := Bits) m ρ

/-- The reference is a line of host operations; it declares no semaphore. -/
theorem frame_Reference2Ideal : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

end Cert.Proof.Gqa

end
-- ==== Proof.Means.lean ====
/-
  THE RUNNING FORM OF SOFTMAX ATTENTION WITH ARBITRARY VALUES. As in `Softmax` and `Tile`, the scores are finite, but the
  values averaged may be any extended reals, infinite ones too: every weight is a positive real, and a product with a
  positive real distributes over every sum of extended reals, so the running form still ends with the average
  `average s w n c`.
-/
module

public import proofs.«01_k».proof.Proof.Tile

@[expose] public section

set_option maxRecDepth 16384

noncomputable section

namespace Cert.Attn

open Idealize.ShloMosaic Idealize.ShloMosaic.ValueIdx
open Finset

/-- A product with a real that is not negative distributes over a sum of two extended reals. -/
theorem scale_add (x : ℝ) (hx : 0 ≤ x) (y z : EReal) : (x : EReal) * (y + z) = (x : EReal) * y + (x : EReal) * z :=
  EReal.left_distrib_of_nonneg_of_ne_top (by exact_mod_cast hx) (EReal.coe_ne_top x) y z

/-- The same over a finite sum. -/
theorem scale_sum {ι : Type} (S : Finset ι) (x : ℝ) (hx : 0 ≤ x) (f : ι → EReal) :
    (x : EReal) * ∑ i ∈ S, f i = ∑ i ∈ S, (x : EReal) * f i := by
  classical
  induction S using Finset.induction_on with
  | empty => simp
  | insert i S hi ih => rw [Finset.sum_insert hi, Finset.sum_insert hi, scale_add x hx, ih]

/-- The average of the first `n` rows of `w` with weights `exp (s j)`, at column `c`, the weights divided by their sum
    first. -/
def average (s : ℕ → ℝ) (w : ℕ → ℕ → EReal) (n c : ℕ) : EReal :=
  ∑ j ∈ range n, ((Real.exp (s j) / ∑ i ∈ range n, Real.exp (s i) : ℝ) : EReal) * w j c

/-- Only the first `n` rows and the one column matter. -/
theorem average_congr (s : ℕ → ℝ) {w w' : ℕ → ℕ → EReal} {n c : ℕ} (h : ∀ j, j < n → w j c = w' j c) :
    average s w n c = average s w' n c :=
  Finset.sum_congr rfl fun j hj => by rw [h j (Finset.mem_range.mp hj)]

/-- What the running form holds after the first `n` keys: nothing yet, or, for some real `M`, the sums of the rows
    with weights `2 ^ (σ j - M)`. -/
def Sums (σ : ℕ → ℝ) (w : ℕ → ℕ → EReal) (n : ℕ) (m : EReal) (a : Fin 256 → EReal) : Prop :=
  (n = 0 ∧ m = ⊥ ∧ ∀ c, a c = 0)
    ∨ ∃ M : ℝ, m = (M : EReal) ∧ ∀ c : Fin 256, a c = ∑ j ∈ range n, (((2 : ℝ) ^ (σ j - M) : ℝ) : EReal) * w j c.val

/-- One more chunk of `L` keys. -/
theorem Sums.step {σ : ℕ → ℝ} {w : ℕ → ℕ → EReal} {n : ℕ} {m : EReal} {a : Fin 256 → EReal} (h : Sums σ w n m a)
    {L : ℕ} (hL : 0 < L) (S : Fin L → EReal) (hS : ∀ k, S k = (σ (n + k.val) : EReal))
    (V : Fin L → Fin 256 → EReal) (hV : ∀ k c, V k c = w (n + k.val) c.val)
    (m' : EReal) (hm : m' = max m ((Finset.univ : Finset (Fin L)).fold max (⊥ : EReal) S))
    (a' : Fin 256 → EReal) (ha : ∀ c, a' c = Ideal.exp2 (m - m') * a c + ∑ k : Fin L, Ideal.exp2 (S k - m') * V k c) :
    Sums σ w (n + L) m' a' := by
  obtain ⟨X, hX⟩ := real_max hL (fun k => σ (n + k.val))
  rw [show S = fun k => ((σ (n + k.val) : ℝ) : EReal) from funext hS, hX] at hm
  have tail : ∀ (M : ℝ), m' = M → ∀ c : Fin 256,
      ∑ k : Fin L, Ideal.exp2 (S k - m') * V k c = ∑ j ∈ range L, (((2 : ℝ) ^ (σ (n + j) - M) : ℝ) : EReal) * w (n + j) c.val := by
    intro M hM c
    rw [← Fin.sum_univ_eq_sum_range (fun j => (((2 : ℝ) ^ (σ (n + j) - M) : ℝ) : EReal) * w (n + j) c.val)]
    refine Finset.sum_congr rfl fun k _ => ?_
    rw [hS, hV, hM, ← EReal.coe_sub, two_pow]
  rcases h with ⟨rfl, rfl, h0⟩ | ⟨M, rfl, h1⟩
  · have hM : m' = (X : EReal) := by rw [hm]; exact max_eq_right bot_le
    refine .inr ⟨X, hM, fun c => ?_⟩
    rw [ha, h0, mul_zero, zero_add, tail X hM c]
    simp only [Nat.zero_add]
  · have hM : m' = ((max M X : ℝ) : EReal) := by rw [hm]; exact (EReal.coe_strictMono.monotone.map_max).symm
    refine .inr ⟨max M X, hM, fun c => ?_⟩
    rw [ha, h1, tail _ hM c, hM, ← EReal.coe_sub, two_pow, scale_sum _ _ (Real.rpow_nonneg (by norm_num) _), Finset.sum_range_add]
    refine congrArg (· + _) (Finset.sum_congr rfl fun j _ => ?_)
    rw [← mul_assoc, ← EReal.coe_mul, ← Real.rpow_add (by norm_num)]
    congr 3; ring

/-- The running form's quotient by a column of ones is the average. -/
theorem Sums.div {σ s : ℕ → ℝ} {w : ℕ → ℕ → EReal} {n : ℕ} {m : EReal} {a : Fin 256 → EReal} (h : Sums σ w n m a)
    (hn : 0 < n) (hσ : ∀ j, σ j * Real.log 2 = s j) (c d : Fin 256) (hd : ∀ j, j < n → w j d.val = 1) :
    Ideal.div (a c) (a d) = average s w n c.val := by
  rcases h with ⟨rfl, -⟩ | ⟨M, -, h⟩
  · exact absurd hn (lt_irrefl 0)
  have e : ∀ j, (2 : ℝ) ^ (σ j - M) = (2 : ℝ) ^ (-M) * Real.exp (s j) := by
    intro j
    rw [show σ j - M = -M + σ j by ring, Real.rpow_add (by norm_num), Real.rpow_def_of_pos (by norm_num) (σ j), mul_comm (Real.log 2), hσ]
  have hp : (0 : ℝ) < (2 : ℝ) ^ (-M) := Real.rpow_pos_of_pos (by norm_num) _
  have hs := weights_pos s hn
  have hone : a d = (((2 : ℝ) ^ (-M) * ∑ j ∈ range n, Real.exp (s j) : ℝ) : EReal) := by
    rw [h d, Finset.mul_sum, real_sum]
    refine Finset.sum_congr rfl fun j hj => ?_
    rw [e, hd j (Finset.mem_range.mp hj), mul_one]
  have hq := mul_pos hp hs
  unfold Ideal.div average
  rw [hone, if_neg (by exact_mod_cast hq.ne'), h c, ← EReal.coe_inv, mul_comm, scale_sum _ _ (inv_nonneg.mpr hq.le)]
  refine Finset.sum_congr rfl fun j _ => ?_
  rw [← mul_assoc, ← EReal.coe_mul, e]
  congr 2
  field_simp

/-- After the first `n` keys, every row of the tile holds the running form of its own scores. -/
def RowSums (σ : Fin 256 → ℕ → ℝ) (w : ℕ → ℕ → EReal) (n : ℕ) (m : (⟨2, ![256, 1]⟩ : Shape).Idx → EReal)
    (a : (⟨2, ![256, 256]⟩ : Shape).Idx → EReal) : Prop :=
  ∀ r, Sums (σ r) w n (m (ix2 r 0)) (fun c => a (ix2 r c))

/-- One more chunk on the tile. -/
theorem RowSums.step {σ : Fin 256 → ℕ → ℝ} {w : ℕ → ℕ → EReal} {n n' : ℕ} {m : (⟨2, ![256, 1]⟩ : Shape).Idx → EReal}
    {a : (⟨2, ![256, 256]⟩ : Shape).Idx → EReal} (h : RowSums σ w n m a) {L : ℕ} (hL : 0 < L) (hn : n' = n + L)
    {S : (⟨2, ![256, L]⟩ : Shape).Idx → EReal} (hS : ∀ r k, S (ix2 r k) = (σ r (n + k.val) : EReal))
    {V : (⟨4, ![1, 1, L, 256]⟩ : Shape).Idx → EReal} (hV : ∀ k c, V (ix4 0 0 k c) = w (n + k.val) c.val) :
    RowSums σ w n' (newMax S m) (newAcc S V m a) := by
  subst hn
  intro r
  exact (h r).step hL (fun k => S (ix2 r k)) (hS r) (fun k c => V (ix4 0 0 k c)) hV _ rfl _ fun c => rfl

end Cert.Attn

end

end
-- ==== Proof.GqaPay.lean ====
/-
  What the grouped-attention kernel's vector operations compute, over extended reals: each update of a head's greatest
  scores is `newMax`, each update of its accumulator `newAcc`, and each block of scores the product of the head's queries
  with the chunk's keys.
-/
module

public import proofs.«01_k».proof.Proof.Tile
public import proofs.«01_k».proof.Proof.Gen.Kernel2Ideal.Skeleton

@[expose] public section

set_option maxRecDepth 16384

noncomputable section

namespace Cert.Proof.Gqa

open Cert.Kernel2Ideal Cert.Kernel2Ideal.Gen Cert.Attn
open Idealize.ShloMosaic Idealize.ShloMosaic.ValueIdx

/-! ### Chunks of 3328 keys -/

variable (S : FVec Ideal S256x3328 .f32) (V : FVec Ideal S1x1x3328x256 .bf16) (m : FVec Ideal S256x1 .f32) (a : FVec Ideal S256x256 .f32)

theorem max28 : k0_pay28 (F := Ideal) S m = newMax S m := newMax_eq S m _ _ _ _
theorem max31 : k0_pay31 (F := Ideal) S m = newMax S m := newMax_eq S m _ _ _ _
theorem max35 : k0_pay35 (F := Ideal) S m = newMax S m := newMax_eq S m _ _ _ _
theorem max38 : k0_pay38 (F := Ideal) S m = newMax S m := newMax_eq S m _ _ _ _
theorem max50 : k0_pay50 (F := Ideal) S m = newMax S m := newMax_eq S m _ _ _ _
theorem max53 : k0_pay53 (F := Ideal) S m = newMax S m := newMax_eq S m _ _ _ _
theorem max56 : k0_pay56 (F := Ideal) S m = newMax S m := newMax_eq S m _ _ _ _
theorem max64 : k0_pay64 (F := Ideal) S m = newMax S m := newMax_eq S m _ _ _ _
theorem max68 : k0_pay68 (F := Ideal) S m = newMax S m := newMax_eq S m _ _ _ _
theorem max71 : k0_pay71 (F := Ideal) S m = newMax S m := newMax_eq S m _ _ _ _
theorem max74 : k0_pay74 (F := Ideal) S m = newMax S m := newMax_eq S m _ _ _ _
theorem max77 : k0_pay77 (F := Ideal) S m = newMax S m := newMax_eq S m _ _ _ _
theorem max30 : k0_pay30 (F := Ideal) S m = newMax S m := (cast_same _ _).trans (max28 S m)
theorem max37 : k0_pay37 (F := Ideal) S m = newMax S m := (cast_same _ _).trans (max35 S m)
theorem max52 : k0_pay52 (F := Ideal) S m = newMax S m := (cast_same _ _).trans (max50 S m)
theorem max55 : k0_pay55 (F := Ideal) S m = newMax S m := (cast_same _ _).trans (max53 S m)
theorem max66 : k0_pay66 (F := Ideal) S m = newMax S m := (cast_same _ _).trans (max64 S m)
theorem max70 : k0_pay70 (F := Ideal) S m = newMax S m := (cast_same _ _).trans (max68 S m)
theorem max76 : k0_pay76 (F := Ideal) S m = newMax S m := (cast_same _ _).trans (max74 S m)
theorem max34 : k0_pay34 (F := Ideal) (k0_pay31 (F := Ideal) S m) = newMax S m := (cast_same _ _).trans (max31 S m)
theorem max42 : k0_pay42 (F := Ideal) (k0_pay38 (F := Ideal) S m) = newMax S m := (cast_same _ _).trans (max38 S m)
theorem max63 : k0_pay63 (F := Ideal) (k0_pay56 (F := Ideal) S m) = newMax S m := (cast_same _ _).trans (max56 S m)
theorem max73 : k0_pay73 (F := Ideal) (k0_pay71 (F := Ideal) S m) = newMax S m := (cast_same _ _).trans (max71 S m)
theorem max96 : k0_pay96 (F := Ideal) (k0_pay77 (F := Ideal) S m) = newMax S m := (cast_same _ _).trans (max77 S m)
theorem acc29 : k0_pay29 (F := Ideal) (k0_pay27 (F := Ideal) V) S m a = newAcc S V m a := by
  unfold k0_pay29 k0_pay27
  dsimp only
  rw [cast_same]
  exact newAcc_eq S m _ (max28 S m) a V _ _ _ _
theorem acc36 : k0_pay36 (F := Ideal) (k0_pay27 (F := Ideal) V) S m a = newAcc S V m a := by
  unfold k0_pay36 k0_pay27
  dsimp only
  rw [cast_same]
  exact newAcc_eq S m _ (max35 S m) a V _ _ _ _
theorem acc54 : k0_pay54 (F := Ideal) (k0_pay49 (F := Ideal) V) S m a = newAcc S V m a := by
  unfold k0_pay54 k0_pay49
  dsimp only
  rw [cast_same]
  exact newAcc_eq S m _ (max53 S m) a V _ _ _ _
theorem acc57 : k0_pay57 (F := Ideal) (k0_pay49 (F := Ideal) V) S m a = newAcc S V m a := by
  unfold k0_pay57 k0_pay49
  dsimp only
  rw [cast_same]
  exact newAcc_eq S m _ (max56 S m) a V _ _ _ _
theorem acc65 : k0_pay65 (F := Ideal) (k0_pay49 (F := Ideal) V) S m a = newAcc S V m a := by
  unfold k0_pay65 k0_pay49
  dsimp only
  rw [cast_same]
  exact newAcc_eq S m _ (max64 S m) a V _ _ _ _
theorem acc69 : k0_pay69 (F := Ideal) (k0_pay67 (F := Ideal) V) S m a = newAcc S V m a := by
  unfold k0_pay69 k0_pay67
  dsimp only
  rw [cast_same]
  exact newAcc_eq S m _ (max68 S m) a V _ _ _ _
theorem acc72 : k0_pay72 (F := Ideal) (k0_pay67 (F := Ideal) V) S m a = newAcc S V m a := by
  unfold k0_pay72 k0_pay67
  dsimp only
  rw [cast_same]
  exact newAcc_eq S m _ (max71 S m) a V _ _ _ _
theorem acc75 : k0_pay75 (F := Ideal) (k0_pay67 (F := Ideal) V) S m a = newAcc S V m a := by
  unfold k0_pay75 k0_pay67
  dsimp only
  rw [cast_same]
  exact newAcc_eq S m _ (max74 S m) a V _ _ _ _
theorem acc33 : k0_pay33 (F := Ideal) (k0_pay32 (F := Ideal) (k0_pay27 (F := Ideal) V) S m a) = newAcc S V m a := by
  unfold k0_pay33 k0_pay32 k0_pay27
  dsimp only
  rw [cast_same]
  exact newAcc_eq S m _ (max31 S m) a V _ _ _ _
theorem acc41 : k0_pay41 (F := Ideal) (k0_pay27 (F := Ideal) V) (k0_pay39 (F := Ideal) S m) (k0_pay40 (F := Ideal) S m) a = newAcc S V m a := by
  unfold k0_pay41 k0_pay39 k0_pay40 k0_pay27
  dsimp only
  rw [cast_same]
  exact newAcc_eq S m _ (max38 S m) a V _ _ _ _
theorem acc51 : k0_pay51 (F := Ideal) V S m a = newAcc S V m a := by
  unfold k0_pay51 k0_pay49
  dsimp only
  rw [cast_same]
  exact newAcc_eq S m _ (max50 S m) a V _ _ _ _
theorem acc95 : k0_pay95 (F := Ideal) (k0_pay67 (F := Ideal) V) (k0_pay78 (F := Ideal) S m) (k0_pay79 (F := Ideal) S m) a = newAcc S V m a := by
  unfold k0_pay95 k0_pay78 k0_pay79 k0_pay67
  dsimp only
  rw [cast_same]
  exact newAcc_eq S m _ (max77 S m) a V _ _ _ _

/-! ### The context tile's one chunk, of 256 keys -/

variable (q : FVec Ideal S256x128 .bf16) (K : FVec Ideal S1x1x256x128 .bf16) (U : FVec Ideal S1x1x256x256 .bf16)

theorem max8 : k0_pay8 (F := Ideal) q K m = newMax (k0_pay7 (F := Ideal) q K) m := newMax_eq (k0_pay7 (F := Ideal) q K) m _ _ _ _
theorem max10 : k0_pay10 (F := Ideal) q K m = newMax (k0_pay7 (F := Ideal) q K) m := (cast_same _ _).trans (max8 m q K)
theorem max12 : k0_pay12 (F := Ideal) q K m = newMax (k0_pay11 (F := Ideal) q K) m := newMax_eq (k0_pay11 (F := Ideal) q K) m _ _ _ _
theorem max16 : k0_pay16 (F := Ideal) (k0_pay12 (F := Ideal) q K m) = newMax (k0_pay11 (F := Ideal) q K) m := (cast_same _ _).trans (max12 m q K)
theorem max18 : k0_pay18 (F := Ideal) q (k0_pay5 (F := Ideal) K) m = newMax (k0_pay17 (F := Ideal) q (k0_pay5 (F := Ideal) K)) m := newMax_eq (k0_pay17 (F := Ideal) q (k0_pay5 (F := Ideal) K)) m _ _ _ _
theorem max20 : k0_pay20 (F := Ideal) q (k0_pay5 (F := Ideal) K) m = newMax (k0_pay17 (F := Ideal) q (k0_pay5 (F := Ideal) K)) m := (cast_same _ _).trans (max18 m q K)
theorem max92 : k0_pay92 (F := Ideal) (k0_pay21 (F := Ideal) q (k0_pay5 (F := Ideal) K)) m = newMax (k0_pay21 (F := Ideal) q (k0_pay5 (F := Ideal) K)) m := newMax_eq (k0_pay21 (F := Ideal) q (k0_pay5 (F := Ideal) K)) m _ _ _ _
theorem max94 : k0_pay94 (F := Ideal) (k0_pay21 (F := Ideal) q (k0_pay5 (F := Ideal) K)) m = newMax (k0_pay21 (F := Ideal) q (k0_pay5 (F := Ideal) K)) m := (cast_same _ _).trans (max92 m q K)
theorem acc9 : k0_pay9 (F := Ideal) q K U m a = newAcc (k0_pay7 (F := Ideal) q K) U m a := by
  unfold k0_pay9 k0_pay6
  dsimp only
  rw [cast_same]
  exact newAcc_eq (k0_pay7 (F := Ideal) q K) m _ (max8 m q K) a U _ _ _ _
theorem acc15 : k0_pay15 (F := Ideal) (k0_pay6 (F := Ideal) U) (k0_pay13 (F := Ideal) q K m) (k0_pay14 (F := Ideal) q K m) a = newAcc (k0_pay11 (F := Ideal) q K) U m a := by
  unfold k0_pay15 k0_pay13 k0_pay14 k0_pay6
  dsimp only
  rw [cast_same]
  exact newAcc_eq (k0_pay11 (F := Ideal) q K) m _ (max12 m q K) a U _ _ _ _
theorem acc19 : k0_pay19 (F := Ideal) q (k0_pay5 (F := Ideal) K) (k0_pay6 (F := Ideal) U) m a = newAcc (k0_pay17 (F := Ideal) q (k0_pay5 (F := Ideal) K)) U m a := by
  unfold k0_pay19 k0_pay6
  dsimp only
  rw [cast_same]
  exact newAcc_eq (k0_pay17 (F := Ideal) q (k0_pay5 (F := Ideal) K)) m _ (max18 m q K) a U _ _ _ _
theorem acc93 : k0_pay93 (F := Ideal) (k0_pay6 (F := Ideal) U) (k0_pay21 (F := Ideal) q (k0_pay5 (F := Ideal) K)) m a = newAcc (k0_pay21 (F := Ideal) q (k0_pay5 (F := Ideal) K)) U m a := by
  unfold k0_pay93 k0_pay6
  dsimp only
  rw [cast_same]
  exact newAcc_eq (k0_pay21 (F := Ideal) q (k0_pay5 (F := Ideal) K)) m _ (max92 m q K) a U _ _ _ _

/-! ### Scores -/

theorem scores7 (r : Fin 256) (k : Fin 256) : k0_pay7 (F := Ideal) q K (ix2 r k) = ∑ d : Fin 128, q (ix2 r d) * K (ix4 0 0 k d) := by
  refine (scores_apply q (k0_pay5 (F := Ideal) K) r k).trans (Finset.sum_congr rfl fun d _ => ?_)
  exact congrArg (q (ix2 r d) * ·) (drop_two_apply K _ k d)
theorem scores11 (r : Fin 256) (k : Fin 256) : k0_pay11 (F := Ideal) q K (ix2 r k) = ∑ d : Fin 128, q (ix2 r d) * K (ix4 0 0 k d) := scores7 q K r k
theorem scores17 (r : Fin 256) (k : Fin 256) : k0_pay17 (F := Ideal) q (k0_pay5 (F := Ideal) K) (ix2 r k) = ∑ d : Fin 128, q (ix2 r d) * K (ix4 0 0 k d) := scores7 q K r k
theorem scores21 (r : Fin 256) (k : Fin 256) : k0_pay21 (F := Ideal) q (k0_pay5 (F := Ideal) K) (ix2 r k) = ∑ d : Fin 128, q (ix2 r d) * K (ix4 0 0 k d) := scores7 q K r k

variable (L : FVec Ideal S1x1x3328x128 .bf16) (r : Fin 256) (k : Fin 3328)

theorem scores23 : k0_pay23 (F := Ideal) q L (ix2 r k) = ∑ d : Fin 128, q (ix2 r d) * L (ix4 0 0 k d) := by
  unfold k0_pay23
  rw [cast_same]
  refine (scores_apply q _ r k).trans (Finset.sum_congr rfl fun d _ => ?_)
  exact congrArg (q (ix2 r d) * ·) (drop_two_apply L _ k d)
theorem scores24 : k0_pay24 (F := Ideal) q L (ix2 r k) = ∑ d : Fin 128, q (ix2 r d) * L (ix4 0 0 k d) := scores23 q L r k
theorem scores25 : k0_pay25 (F := Ideal) q L (ix2 r k) = ∑ d : Fin 128, q (ix2 r d) * L (ix4 0 0 k d) := scores23 q L r k
theorem scores26 : k0_pay26 (F := Ideal) q L (ix2 r k) = ∑ d : Fin 128, q (ix2 r d) * L (ix4 0 0 k d) := scores23 q L r k
theorem scores44 : k0_pay44 (F := Ideal) q L (ix2 r k) = ∑ d : Fin 128, q (ix2 r d) * L (ix4 0 0 k d) := scores23 q L r k
theorem scores45 : k0_pay45 (F := Ideal) q L (ix2 r k) = ∑ d : Fin 128, q (ix2 r d) * L (ix4 0 0 k d) := scores23 q L r k
theorem scores47 : k0_pay47 (F := Ideal) (k0_pay46 (F := Ideal) q L) (ix2 r k) = ∑ d : Fin 128, q (ix2 r d) * L (ix4 0 0 k d) := scores23 q L r k
theorem scores48 : k0_pay48 (F := Ideal) q (k0_pay43 (F := Ideal) L) (ix2 r k) = ∑ d : Fin 128, q (ix2 r d) * L (ix4 0 0 k d) := scores23 q L r k
theorem scores59 : k0_pay59 (F := Ideal) q L (ix2 r k) = ∑ d : Fin 128, q (ix2 r d) * L (ix4 0 0 k d) := scores23 q L r k
theorem scores60 : k0_pay60 (F := Ideal) q L (ix2 r k) = ∑ d : Fin 128, q (ix2 r d) * L (ix4 0 0 k d) := scores23 q L r k
theorem scores61 : k0_pay61 (F := Ideal) q L (ix2 r k) = ∑ d : Fin 128, q (ix2 r d) * L (ix4 0 0 k d) := scores23 q L r k
theorem scores62 : k0_pay62 (F := Ideal) q L (ix2 r k) = ∑ d : Fin 128, q (ix2 r d) * L (ix4 0 0 k d) := scores23 q L r k

/-! ### A head's queries -/

variable (x : FVec Ideal S1x1x256x128 .bf16) (d : Fin 128)

theorem queries80 : k0_pay80 (F := Ideal) x (ix2 r d) = x (ix4 0 0 r d) := drop_two_apply x _ r d
theorem queries81 : k0_pay81 (F := Ideal) x (ix2 r d) = x (ix4 0 0 r d) := drop_two_apply x _ r d
theorem queries82 : k0_pay82 (F := Ideal) x (ix2 r d) = x (ix4 0 0 r d) := drop_two_apply x _ r d
theorem queries83 : k0_pay83 (F := Ideal) x (ix2 r d) = x (ix4 0 0 r d) := drop_two_apply x _ r d

end Cert.Proof.Gqa

end

end
-- ==== Proof.GqaTile.lean ====
/-
  What one grid point of the grouped-attention kernel leaves, over extended reals, when its queries and keys are finite:
  for each of the four heads and every query of the tile, the head's stream holds the running form of that query's scores
  over the keys the tile attends to.
-/
module

public import proofs.«01_k».proof.Proof.Means
public import proofs.«01_k».proof.Proof.GqaPay
public import proofs.«01_k».proof.Proof.GqaRun
public import proofs.«01_k».proof.Proof.DiffTile

@[expose] public section

set_option maxRecDepth 16384

noncomputable section

namespace Cert.Proof.Gqa

open Cert.Kernel2Ideal Cert.Kernel2Ideal.Gen Cert.Attn
open Cert.Proof.Diff (keys_at values_at)
open Idealize.ShloMosaic Idealize.ShloMosaic.ValueIdx
open Finset

/-- The product of query `r` and key `j`. -/
def dot (Q κ : ℕ → ℕ → ℝ) (r j : ℕ) : ℝ := ∑ d ∈ range 128, Q r d * κ j d

theorem dot_sum (f g : ℕ → ℝ) (x y : Fin 128 → EReal) (hx : ∀ d, x d = (f d.val : EReal)) (hy : ∀ d, y d = (g d.val : EReal)) :
    ∑ d : Fin 128, x d * y d = ((∑ d ∈ range 128, f d * g d : ℝ) : EReal) := by
  rw [← Fin.sum_univ_eq_sum_range (fun d => f d * g d), real_sum]
  exact Finset.sum_congr rfl fun d _ => by rw [hx, hy, EReal.coe_mul]

/-- The blocks of a grid point: finite queries `Q`, head by head, and finite keys `κ`; the values `w` are any. -/
structure Holds (q : S1x4x256x128.Idx → EReal) (K : S1x1x16640x128.Idx → EReal) (V : S1x1x16640x256.Idx → EReal)
    (Q : Fin 4 → ℕ → ℕ → ℝ) (κ : ℕ → ℕ → ℝ) (w : ℕ → ℕ → EReal) : Prop where
  q_eq : ∀ (g : Fin 4) (r : Fin 256) (d : Fin 128), q (ix4 0 g r d) = (Q g r.val d.val : EReal)
  k_eq : ∀ (j : Fin 16640) (d : Fin 128), K (ix4 0 0 j d) = (κ j.val d.val : EReal)
  v_eq : ∀ (j : Fin 16640) (c : Fin 256), V (ix4 0 0 j c) = w j.val c.val

variable {q : S1x4x256x128.Idx → EReal} {K : S1x1x16640x128.Idx → EReal} {V : S1x1x16640x256.Idx → EReal}
  {Q : Fin 4 → ℕ → ℕ → ℝ} {κ : ℕ → ℕ → ℝ} {w : ℕ → ℕ → EReal}

/-- The four heads' queries as the body holds them. -/
structure Asked (v1 v3 v5 v7 : FVec Ideal S256x128 .bf16) (Q : Fin 4 → ℕ → ℕ → ℝ) : Prop where
  h1 : ∀ (r : Fin 256) (d : Fin 128), v1 (ix2 r d) = (Q 0 r.val d.val : EReal)
  h2 : ∀ (r : Fin 256) (d : Fin 128), v3 (ix2 r d) = (Q 1 r.val d.val : EReal)
  h3 : ∀ (r : Fin 256) (d : Fin 128), v5 (ix2 r d) = (Q 2 r.val d.val : EReal)
  h4 : ∀ (r : Fin 256) (d : Fin 128), v7 (ix2 r d) = (Q 3 r.val d.val : EReal)

/-- One head's block of the queries. -/
theorem head_at (g : ℕ) (hg : g < 4) (inb : ∀ a, (![0, g, 0, 0] : Fin 4 → ℕ) a + S1x1x256x128.size a ≤ S1x4x256x128.size a)
    (q : S1x4x256x128.Idx → EReal) (r : Fin 256) (d : Fin 128) :
    pick (Rect.unit (s := S1x4x256x128) ![0, g, 0, 0] S1x1x256x128.size inb).toLoadRect q (ix4 0 0 r d) = q (ix4 0 ⟨g, hg⟩ r d) := by
  refine pick_apply (s := S1x4x256x128) _ _ inb q (ix4 0 0 r d) (ix4 0 ⟨g, hg⟩ r d) fun a => ?_
  match a with
  | ⟨0, _⟩ => rfl
  | ⟨1, _⟩ => rfl
  | ⟨2, _⟩ => exact (Nat.zero_add _).symm
  | ⟨3, _⟩ => exact (Nat.zero_add _).symm

/-- A query's product with a key of the chunk read at `n`. -/
theorem chunk_dot (H : Holds q K V Q κ w) {g : Fin 4} {v : FVec Ideal S256x128 .bf16} (hv : ∀ (r : Fin 256) (d : Fin 128), v (ix2 r d) = (Q g r.val d.val : EReal))
    {L n : ℕ} (off : Fin 4 → ℕ) (ho : off = ![0, 0, n, 0]) (hL : n + L ≤ 16640)
    (inb : ∀ a, off a + (⟨4, ![1, 1, L, 128]⟩ : Shape).size a ≤ S1x1x16640x128.size a) (r : Fin 256) (k : Fin L) :
    ∑ d : Fin 128, v (ix2 r d) * pick (Rect.unit (s := S1x1x16640x128) off (⟨4, ![1, 1, L, 128]⟩ : Shape).size inb).toLoadRect K (ix4 0 0 k d)
      = (dot (Q g) κ r.val (n + k.val) : EReal) :=
  dot_sum (Q g r.val) (κ (n + k.val)) _ _ (hv r) fun d => (keys_at off ho hL inb K k d).trans (H.k_eq ⟨n + k.val, by omega⟩ d)

/-- A block holds a head's scores of the chunk at `n`. -/
def ScoresAt (Q κ : ℕ → ℕ → ℝ) (n : ℕ) (s : S256x3328.Idx → EReal) : Prop :=
  ∀ (r : Fin 256) (k : Fin 3328), s (ix2 r k) = (dot Q κ r.val (n + k.val) : EReal)

/-- Every stream holds the running form after the first `n` keys. -/
structure Heads (Q : Fin 4 → ℕ → ℕ → ℝ) (κ : ℕ → ℕ → ℝ) (w : ℕ → ℕ → EReal) (n : ℕ) (p : Streams Ideal) : Prop where
  h1 : RowSums (fun r => dot (Q 0) κ r.val) w n p.m1 p.a1
  h2 : RowSums (fun r => dot (Q 1) κ r.val) w n p.m2 p.a2
  h3 : RowSums (fun r => dot (Q 2) κ r.val) w n p.m3 p.a3
  h4 : RowSums (fun r => dot (Q 3) κ r.val) w n p.m4 p.a4

/-- Every head's scores of the chunk at `n` are there, and every stream holds the running form before it. -/
structure Ready (Q : Fin 4 → ℕ → ℕ → ℝ) (κ : ℕ → ℕ → ℝ) (w : ℕ → ℕ → EReal) (n : ℕ) (g : Regs Ideal) : Prop where
  s1 : ScoresAt (Q 0) κ n g.s1
  s2 : ScoresAt (Q 1) κ n g.s2
  s3 : ScoresAt (Q 2) κ n g.s3
  s4 : ScoresAt (Q 3) κ n g.s4
  p : Heads Q κ w n g.p

theorem start_heads (Q : Fin 4 → ℕ → ℕ → ℝ) (κ : ℕ → ℕ → ℝ) (w : ℕ → ℕ → EReal) : Heads Q κ w 0 (start (F := Ideal)) := by
  have h1 : ∀ j, k0_pay84 (F := Ideal) j = (⊥ : EReal) := fun j => (congrFun (cast_same (broadcast S256x1 (Scalar.ofBits .f32 0xFF800000#32 : Ideal .f32)) shapeCasts_S256x1_S256x1) j).trans ofBits_neg_inf
  have h2 : ∀ j, k0_pay85 (F := Ideal) j = (0 : EReal) := fun j => (congrFun (cast_same (broadcast S256x256 (Scalar.ofBits .f32 0x00000000#32 : Ideal .f32)) shapeCasts_S256x256_S256x256) j).trans Ideal.ofBits_zero_f32
  exact ⟨fun r => .inl ⟨rfl, h1 (ix2 r 0), fun c => h2 (ix2 r c)⟩, fun r => .inl ⟨rfl, h1 (ix2 r 0), fun c => h2 (ix2 r c)⟩,
    fun r => .inl ⟨rfl, h1 (ix2 r 0), fun c => h2 (ix2 r c)⟩, fun r => .inl ⟨rfl, h1 (ix2 r 0), fun c => h2 (ix2 r c)⟩⟩

variable {v1 v3 v5 v7 : FVec Ideal S256x128 .bf16}

/-- The context branch: the first 256 keys. -/
theorem ctx_heads (H : Holds q K V Q κ w) (A : Asked v1 v3 v5 v7 Q) : Heads Q κ w 256 (ctxStep (F := Ideal) v1 v3 v5 v7 K V start) := by
  have h := start_heads Q κ w
  have hv := fun (k : Fin 256) (c : Fin 256) => (values_at (L := 256) (n := 0) ![0, 0, 0, 0] rfl (by omega) inb_S1x1x16640x256_S1x1x256x256_0_0_0_0 V k c).trans (H.v_eq _ c)
  refine ⟨?_, ?_, ?_, ?_⟩
  · unfold ctxStep
    dsimp only
    rw [max10, acc9]
    refine h.h1.step (by norm_num) rfl (fun r k => ?_) hv
    exact (scores7 _ _ r k).trans (chunk_dot H A.h1 (L := 256) (n := 0) ![0, 0, 0, 0] rfl (by omega) inb_S1x1x16640x128_S1x1x256x128_0_0_0_0 r k)
  · unfold ctxStep
    dsimp only
    rw [max16, acc15]
    refine h.h2.step (by norm_num) rfl (fun r k => ?_) hv
    exact (scores11 _ _ r k).trans (chunk_dot H A.h2 (L := 256) (n := 0) ![0, 0, 0, 0] rfl (by omega) inb_S1x1x16640x128_S1x1x256x128_0_0_0_0 r k)
  · unfold ctxStep
    dsimp only
    rw [max20, acc19]
    refine h.h3.step (by norm_num) rfl (fun r k => ?_) hv
    exact (scores17 _ _ r k).trans (chunk_dot H A.h3 (L := 256) (n := 0) ![0, 0, 0, 0] rfl (by omega) inb_S1x1x16640x128_S1x1x256x128_0_0_0_0 r k)
  · unfold ctxStep
    dsimp only
    rw [max94, acc93]
    refine h.h4.step (by norm_num) rfl (fun r k => ?_) hv
    exact (scores21 _ _ r k).trans (chunk_dot H A.h4 (L := 256) (n := 0) ![0, 0, 0, 0] rfl (by omega) inb_S1x1x16640x128_S1x1x256x128_0_0_0_0 r k)

theorem trips_eq : k0_t1_loop.trips = 2 := by decide +kernel
theorem off1_next : ∀ t : Fin k0_t1_loop.trips, k0_off1 t 1#32 = ![0, 0, 6656 * t.val + 3328, 0] := by decide +kernel
theorem off1_after : ∀ t : Fin k0_t1_loop.trips, k0_off1 t 2#32 = ![0, 0, 6656 * (t.val + 1), 0] := by decide +kernel
theorem off2_eq : ∀ t : Fin k0_t1_loop.trips, k0_off2 t = ![0, 0, 6656 * t.val, 0] := by decide +kernel
theorem off3_eq : ∀ t : Fin k0_t1_loop.trips, k0_off3 t = ![0, 0, 6656 * t.val + 3328, 0] := by decide +kernel

/-- One trip: two chunks, and the scores of the one after. -/
theorem trip_heads (H : Holds q K V Q κ w) (A : Asked v1 v3 v5 v7 Q) (i : grid0.Coords) (hc : k0_cond2 i = 1#1) (t : Fin k0_t1_loop.trips) (g : Regs Ideal)
    (hg : Ready Q κ w (6656 * t.val) g) : Ready Q κ w (6656 * (t.val + 1)) (trip (F := Ideal) i v1 v3 v5 v7 hc K V t g) := by
  have ht : t.val < 2 := lt_of_lt_of_eq t.isLt trips_eq
  have hv2 := fun (k : Fin 3328) (c : Fin 256) => (values_at (L := 3328) (n := 6656 * t.val) (k0_off2 t) (off2_eq t) (by omega) (k0_off2_inb i t hc) V k c).trans (H.v_eq _ c)
  have hv3 := fun (k : Fin 3328) (c : Fin 256) => (values_at (L := 3328) (n := 6656 * t.val + 3328) (k0_off3 t) (off3_eq t) (by omega) (k0_off3_inb i t hc) V k c).trans (H.v_eq _ c)
  refine ⟨?_, ?_, ?_, ?_, ⟨?_, ?_, ?_, ?_⟩⟩
  · exact fun r k => (scores44 _ _ r k).trans (chunk_dot H A.h1 (L := 3328) (n := 6656 * (t.val + 1)) (k0_off1 t 2#32) (off1_after t) (by omega) (k0_off1_inb i t hc 1) r k)
  · exact fun r k => (scores45 _ _ r k).trans (chunk_dot H A.h2 (L := 3328) (n := 6656 * (t.val + 1)) (k0_off1 t 2#32) (off1_after t) (by omega) (k0_off1_inb i t hc 1) r k)
  · exact fun r k => (scores47 _ _ r k).trans (chunk_dot H A.h3 (L := 3328) (n := 6656 * (t.val + 1)) (k0_off1 t 2#32) (off1_after t) (by omega) (k0_off1_inb i t hc 1) r k)
  · exact fun r k => (scores48 _ _ r k).trans (chunk_dot H A.h4 (L := 3328) (n := 6656 * (t.val + 1)) (k0_off1 t 2#32) (off1_after t) (by omega) (k0_off1_inb i t hc 1) r k)
  · unfold trip
    dsimp only
    rw [max52, acc51, max30, acc29]
    refine (hg.p.h1.step (by norm_num) rfl hg.s1 hv2).step (by norm_num) (by omega) (fun r k => ?_) hv3
    exact (scores23 _ _ r k).trans (chunk_dot H A.h1 (L := 3328) (n := 6656 * t.val + 3328) (k0_off1 t 1#32) (off1_next t) (by omega) (k0_off1_inb i t hc 0) r k)
  · unfold trip
    dsimp only
    rw [max55, acc54, max34, acc33]
    refine (hg.p.h2.step (by norm_num) rfl hg.s2 hv2).step (by norm_num) (by omega) (fun r k => ?_) hv3
    exact (scores24 _ _ r k).trans (chunk_dot H A.h2 (L := 3328) (n := 6656 * t.val + 3328) (k0_off1 t 1#32) (off1_next t) (by omega) (k0_off1_inb i t hc 0) r k)
  · unfold trip
    dsimp only
    rw [max63, acc57, max37, acc36]
    refine (hg.p.h3.step (by norm_num) rfl hg.s3 hv2).step (by norm_num) (by omega) (fun r k => ?_) hv3
    exact (scores25 _ _ r k).trans (chunk_dot H A.h3 (L := 3328) (n := 6656 * t.val + 3328) (k0_off1 t 1#32) (off1_next t) (by omega) (k0_off1_inb i t hc 0) r k)
  · unfold trip
    dsimp only
    rw [max66, acc65, max42, acc41]
    refine (hg.p.h4.step (by norm_num) rfl hg.s4 hv2).step (by norm_num) (by omega) (fun r k => ?_) hv3
    exact (scores26 _ _ r k).trans (chunk_dot H A.h4 (L := 3328) (n := 6656 * t.val + 3328) (k0_off1 t 1#32) (off1_next t) (by omega) (k0_off1_inb i t hc 0) r k)

/-- Before trip `n`. -/
theorem regs_heads (H : Holds q K V Q κ w) (A : Asked v1 v3 v5 v7 Q) (i : grid0.Coords) (hc : k0_cond2 i = 1#1) (g : Regs Ideal)
    (hg : Ready Q κ w 0 g) (n : ℕ) (hn : n ≤ k0_t1_loop.trips) : Ready Q κ w (6656 * n) (regsAt (F := Ideal) i v1 v3 v5 v7 hc K V g n) := by
  induction n with
  | zero => exact hg
  | succ n ih =>
    rw [regsAt_succ i v1 v3 v5 v7 hc K V g ⟨n, hn⟩]
    exact trip_heads H A i hc ⟨n, hn⟩ _ (ih (Nat.le_of_succ_le hn))

/-- The latent branch: all 16640 keys. -/
theorem lat_heads (H : Holds q K V Q κ w) (A : Asked v1 v3 v5 v7 Q) (i : grid0.Coords) (hc : k0_cond2 i = 1#1) (p : Streams Ideal)
    (hp : Heads Q κ w 0 p) : Heads Q κ w 16640 (latStep (F := Ideal) i hc v1 v3 v5 v7 K V p) := by
  have hk := fun {g : Fin 4} {v : FVec Ideal S256x128 .bf16} (hv : ∀ (r : Fin 256) (d : Fin 128), v (ix2 r d) = (Q g r.val d.val : EReal)) =>
    chunk_dot H hv (L := 3328) (n := 0) ![0, 0, 0, 0] rfl (by omega) inb_S1x1x16640x128_S1x1x3328x128_0_0_0_0
  have h := regs_heads H A i hc ⟨k0_pay59 (F := Ideal) v1 (pick (Rect.unit (s := S1x1x16640x128) ![0, 0, 0, 0] S1x1x3328x128.size inb_S1x1x16640x128_S1x1x3328x128_0_0_0_0).toLoadRect K), k0_pay60 (F := Ideal) v3 (pick (Rect.unit (s := S1x1x16640x128) ![0, 0, 0, 0] S1x1x3328x128.size inb_S1x1x16640x128_S1x1x3328x128_0_0_0_0).toLoadRect K),
    k0_pay61 (F := Ideal) v5 (pick (Rect.unit (s := S1x1x16640x128) ![0, 0, 0, 0] S1x1x3328x128.size inb_S1x1x16640x128_S1x1x3328x128_0_0_0_0).toLoadRect K), k0_pay62 (F := Ideal) v7 (pick (Rect.unit (s := S1x1x16640x128) ![0, 0, 0, 0] S1x1x3328x128.size inb_S1x1x16640x128_S1x1x3328x128_0_0_0_0).toLoadRect K), p⟩ ⟨fun r k => (scores59 _ _ r k).trans (hk A.h1 r k), fun r k => (scores60 _ _ r k).trans (hk A.h2 r k),
    fun r k => (scores61 _ _ r k).trans (hk A.h3 r k), fun r k => (scores62 _ _ r k).trans (hk A.h4 r k), hp⟩ k0_t1_loop.trips le_rfl
  have hv := fun (k : Fin 3328) (c : Fin 256) => (values_at (L := 3328) (n := 13312) ![0, 0, 13312, 0] rfl (by omega) inb_S1x1x16640x256_S1x1x3328x256_0_0_13312_0 V k c).trans (H.v_eq _ c)
  have e : 6656 * k0_t1_loop.trips = 13312 := by rw [trips_eq]
  rw [e] at h
  refine ⟨?_, ?_, ?_, ?_⟩
  · unfold latStep
    dsimp only
    rw [max70, acc69]
    exact h.p.h1.step (by norm_num) rfl h.s1 hv
  · unfold latStep
    dsimp only
    rw [max73, acc72]
    exact h.p.h2.step (by norm_num) rfl h.s2 hv
  · unfold latStep
    dsimp only
    rw [max76, acc75]
    exact h.p.h3.step (by norm_num) rfl h.s3 hv
  · unfold latStep
    dsimp only
    rw [max96, acc95]
    exact h.p.h4.step (by norm_num) rfl h.s4 hv

end Cert.Proof.Gqa

end

end
-- ==== Proof.GqaOut.lean ====
/-
  The block a grid point of the grouped-attention kernel stores, read at a query and a lane.
-/
module

public import proofs.«01_k».proof.Proof.GqaTile
public import proofs.«01_k».proof.Proof.DiffOut

@[expose] public section

set_option maxRecDepth 16384

noncomputable section

namespace Cert.Proof.Gqa

open Cert.Kernel2Ideal Cert.Kernel2Ideal.Gen Cert.Attn
open Cert.Proof.Diff (lanes_at weights_at)
open Idealize.ShloMosaic Idealize.ShloMosaic.ValueIdx
open Finset

/-- A head's stored block: its sums divided by its weights. -/
theorem quotient_apply (n : FVec Ideal S256x128 .f32) (d : FVec Ideal S256x1 .f32) (hb : S256x1.Broadcasts S256x128) (hc : S256x128.ShapeCasts S1x256x128)
    (ht : FTy.bits .bf16 < FTy.bits .f32) (r : Fin 256) (c : Fin 128) :
    shapeCast S1x256x128 (truncf (F := Ideal) .bf16 (divf n (broadcastTo S256x128 d hb)) ht) hc (ix3 0 r c) = Ideal.div (n (ix2 r c)) (d (ix2 r 0)) := by
  rw [shapeCast_ab_1ab_apply]
  exact congrArg (Ideal.div (n (ix2 r c)) ·) (spread_apply d hb r c)

variable (p : Streams Ideal) (r : Fin 256) (c : Fin 128)

theorem out1_apply : out1 (F := Ideal) p (ix3 0 r c) = Ideal.div (p.a1 (ix2 r ⟨c.val, by omega⟩)) (p.a1 (ix2 r ⟨128, by omega⟩)) :=
  (quotient_apply _ _ _ _ _ r c).trans (congrArg₂ Ideal.div (lanes_at p.a1 r c) (weights_at p.a1 r))
theorem out2_apply : out2 (F := Ideal) p (ix3 0 r c) = Ideal.div (p.a2 (ix2 r ⟨c.val, by omega⟩)) (p.a2 (ix2 r ⟨128, by omega⟩)) :=
  (quotient_apply _ _ _ _ _ r c).trans (congrArg₂ Ideal.div (lanes_at p.a2 r c) (weights_at p.a2 r))
theorem out3_apply : out3 (F := Ideal) p (ix3 0 r c) = Ideal.div (p.a3 (ix2 r ⟨c.val, by omega⟩)) (p.a3 (ix2 r ⟨128, by omega⟩)) :=
  (quotient_apply _ _ _ _ _ r c).trans (congrArg₂ Ideal.div (lanes_at p.a3 r c) (weights_at p.a3 r))
theorem out4_apply : out4 (F := Ideal) p (ix3 0 r c) = Ideal.div (p.a4 (ix2 r ⟨c.val, by omega⟩)) (p.a4 (ix2 r ⟨128, by omega⟩)) :=
  (quotient_apply _ _ _ _ _ r c).trans (congrArg₂ Ideal.div (lanes_at p.a4 r c) (weights_at p.a4 r))

variable {q : S1x4x256x128.Idx → EReal} {K : S1x1x16640x128.Idx → EReal} {V : S1x1x16640x256.Idx → EReal}
  {Q : Fin 4 → ℕ → ℕ → ℝ} {κ : ℕ → ℕ → ℝ} {w : ℕ → ℕ → EReal}

theorem isCtx_iff (i : grid0.Coords) : isCtx i ↔ (i 2).val = 0 :=
  (by decide +kernel : ∀ n : Fin 65, (Scalar.cmpi .ne (Scalar.extui (Scalar.cmpi .slt (BitVec.ofNat 32 n.val) 1#32) : BitVec 32) 0#32) = 1#1 ↔ n.val = 0) (i 2)

theorem cond2_iff (i : grid0.Coords) : k0_cond2 i = 1#1 ↔ (i 2).val ≠ 0 :=
  (by decide +kernel : ∀ n : Fin 65, (Scalar.cmpi .ne (Scalar.extui (Scalar.xori (Scalar.cmpi .slt (BitVec.ofNat 32 n.val) 1#32) 1#1) : BitVec 32) 0#32) = 1#1 ↔ n.val ≠ 0) (i 2)

/-- The number of keys a tile's queries attend to. -/
def reach (i : grid0.Coords) : ℕ := if (i 2).val = 0 then 256 else 16640

/-- At the end of the body every stream holds the running form over the tile's reach. -/
theorem done_heads (H : Holds q K V Q κ w) (i : grid0.Coords) : Heads Q κ w (reach i) (done (F := Ideal) i q K V) := by
  have A : Asked _ _ _ _ Q := ⟨fun r d => (queries80 r _ d).trans ((head_at 0 (by omega) inb_S1x4x256x128_S1x1x256x128_0_0_0_0 q r d).trans (H.q_eq 0 r d)),
    fun r d => (queries81 r _ d).trans ((head_at 1 (by omega) inb_S1x4x256x128_S1x1x256x128_0_1_0_0 q r d).trans (H.q_eq 1 r d)),
    fun r d => (queries82 r _ d).trans ((head_at 2 (by omega) inb_S1x4x256x128_S1x1x256x128_0_2_0_0 q r d).trans (H.q_eq 2 r d)),
    fun r d => (queries83 r _ d).trans ((head_at 3 (by omega) inb_S1x4x256x128_S1x1x256x128_0_3_0_0 q r d).trans (H.q_eq 3 r d))⟩
  unfold done first second reach
  by_cases h : (i 2).val = 0
  · rw [dif_neg (fun e => (cond2_iff i).mp e h), if_pos ((isCtx_iff i).mpr h), if_pos h]
    exact ctx_heads H A
  · rw [dif_pos ((cond2_iff i).mpr h), if_neg (fun e => h ((isCtx_iff i).mp e)), if_neg h]
    exact lat_heads H A i ((cond2_iff i).mpr h) start (start_heads Q κ w)

/-- The block stored at a grid point: each head's average, the heads beside each other. The streams' scores are in base two:
    `s` are the scores in base e. -/
theorem outBlock_apply (H : Holds q K V Q κ w) (hw : ∀ j, j < 16640 → w j 128 = 1) (i : grid0.Coords) (s : Fin 4 → ℕ → ℕ → ℝ)
    (hs : ∀ g r j, dot (Q g) κ r j * Real.log 2 = s g r j) (r : Fin 256) (g : Fin 4) (c : Fin 128) :
    outBlock (F := Ideal) i q K V (ix3 0 r (⟨128 * g.val + c.val, by omega⟩ : Fin 512)) = average (s g r.val) w (reach i) c.val := by
  have hB := done_heads H i
  have hp : 0 < reach i := by unfold reach; split <;> omega
  have hle : reach i ≤ 16640 := by unfold reach; split <;> omega
  have e1 : lanesOf (ix3 (0 : Fin 1) r (⟨128 * g.val + c.val, by omega⟩ : Fin 512)) = g := Fin.ext (by show (128 * g.val + c.val) / 128 = g.val; omega)
  have e2 : inLanes (ix3 (0 : Fin 1) r (⟨128 * g.val + c.val, by omega⟩ : Fin 512)) = ix3 (0 : Fin 1) r c := by
    funext a
    match a with
    | ⟨0, _⟩ => rfl
    | ⟨1, _⟩ => rfl
    | ⟨2, _⟩ => exact Fin.ext (by show (128 * g.val + c.val) % 128 = c.val; omega)
  unfold outBlock beside
  rw [e1, e2]
  match g with
  | ⟨0, _⟩ => exact (out1_apply _ r c).trans ((hB.h1 r).div hp (hs 0 r.val) ⟨c.val, by omega⟩ ⟨128, by omega⟩ (fun j hj => hw j (by omega)))
  | ⟨1, _⟩ => exact (out2_apply _ r c).trans ((hB.h2 r).div hp (hs 1 r.val) ⟨c.val, by omega⟩ ⟨128, by omega⟩ (fun j hj => hw j (by omega)))
  | ⟨2, _⟩ => exact (out3_apply _ r c).trans ((hB.h3 r).div hp (hs 2 r.val) ⟨c.val, by omega⟩ ⟨128, by omega⟩ (fun j hj => hw j (by omega)))
  | ⟨3, _⟩ => exact (out4_apply _ r c).trans ((hB.h4 r).div hp (hs 3 r.val) ⟨c.val, by omega⟩ ⟨128, by omega⟩ (fun j hj => hw j (by omega)))

end Cert.Proof.Gqa

end

end
-- ==== Proof.GqaSpec.lean ====
/-
  The grouped attention as one formula over the arguments' entries, which both programs are shown to compute. Four query
  heads share one head of keys and values.
-/
module

public import proofs.«01_k».proof.Proof.Means
public import proofs.«01_k».proof.Proof.Spec

@[expose] public section

noncomputable section

namespace Cert.Attn

open Idealize.ShloMosaic Idealize.ShloMosaic.ValueIdx
open Finset

/-- The scale both programs multiply the scores by: the single-precision number nearest to one over the square root
    of 128. -/
def root : ℝ := (Ideal.ofBits .f32 0x3DB504F3#32).toReal

theorem root_eq : Ideal.ofBits .f32 0x3DB504F3#32 = (root : EReal) := by
  unfold root
  simp [Ideal.ofBits, Ideal.ieee]
  rw [← EReal.coe_mul, EReal.toReal_coe]

/-- The entries of a rank-four array, by number. -/
def read4 {n0 n1 n2 n3 : ℕ} (x : (⟨4, ![n0, n1, n2, n3]⟩ : Shape).Idx → EReal) (b h l d : ℕ) : EReal :=
  if H : b < n0 ∧ h < n1 ∧ l < n2 ∧ d < n3 then x (ix4 ⟨b, H.1⟩ ⟨h, H.2.1⟩ ⟨l, H.2.2.1⟩ ⟨d, H.2.2.2⟩) else 0

theorem read4_eq {n0 n1 n2 n3 : ℕ} (x : (⟨4, ![n0, n1, n2, n3]⟩ : Shape).Idx → EReal) (b : Fin n0) (h : Fin n1) (l : Fin n2) (d : Fin n3) :
    x (ix4 b h l d) = read4 x b.val h.val l.val d.val := by
  unfold read4
  rw [dif_pos ⟨b.isLt, h.isLt, l.isLt, d.isLt⟩]

/-- The score of query `l` of head `h` against key `j` of the head's group. -/
def scoreG (q k : ℕ → ℕ → ℕ → ℕ → ℝ) (b h l j : ℕ) : ℝ := (∑ d ∈ range 128, q b h l d * k b (h / 4) j d) * root

/-- The layer's result for batch `b`, head `h`, query `l`, at lane `c`. -/
def groupOut (q k : ℕ → ℕ → ℕ → ℕ → ℝ) (v : ℕ → ℕ → ℕ → ℕ → EReal) (b h l c : ℕ) : EReal :=
  average (scoreG q k b h l) (v b (h / 4)) (reachOf l) c

end Cert.Attn

end

end
-- ==== Proof.GqaHost.lean ====
/-
  The arrays the grouped-attention kernel is launched on: the host's scaling, casts and column of ones, and which part of
  each a grid point sees.
-/
module

public import proofs.«01_k».proof.Proof.GqaOut
public import proofs.«01_k».proof.Proof.GqaSpec
public import proofs.«01_k».proof.Proof.DiffHost

@[expose] public section

set_option maxRecDepth 16384

noncomputable section

namespace Cert.Proof.Gqa

open Cert.Kernel2Ideal Cert.Kernel2Ideal.Gen Cert.Attn
open Cert.Proof.Diff (two one log_two_ne word_val)
open Idealize.ShloMosaic hiding ix0 ix1 ix2 ix3 ix4 ix5
open Idealize.ShloMosaic.TcCoe Idealize.ShloMosaic.ValueIdx Idealize.SL.Sem
open Finset

variable (m : (ℓ : Loc nD τ sig) → Buf (Elt Ideal) ℓ) (c : Dev nD)

theorem V_q : V m c main_v4 = truncf (F := Ideal) (s := S2x8x16640x128) (φ := .f32) .bf16 (mulf (m ((c : Thread nD τ).loc main_arg0)) (broadcastInDim S2x8x16640x128 ![] bcast_S_S2x8x16640x128 (Host.divf (constant S_ .f32 0x3DB504F3#32) (Host.log (constant S_ .f32 0x40000000#32))))) bitsLt_bf16_f32 := by
  entry_read
  rfl

theorem V_k : V m c main_v5 = truncf (F := Ideal) (s := S2x2x16640x128) (φ := .f32) .bf16 (m ((c : Thread nD τ).loc main_arg1)) bitsLt_bf16_f32 := by
  entry_read
  rfl

theorem V_v : V m c main_v12 = concatenate S2x2x16640x256 3 [⟨S2x2x16640x128, truncf .bf16 (m ((c : Thread nD τ).loc main_arg2)) bitsLt_bf16_f32⟩,
      ⟨S2x2x16640x128, truncf .bf16 (select (cmpi .eq (iotaInDim S2x2x16640x128 32 3) (broadcastInDim S2x2x16640x128 ![] bcast_S_S2x2x16640x128 (constantI S_ 32 0#32)))
        (broadcastInDim S2x2x16640x128 ![] bcast_S_S2x2x16640x128 (constant (F := Ideal) S_ .f32 0x3F800000#32)) (broadcastInDim S2x2x16640x128 ![] bcast_S_S2x2x16640x128 (constant (F := Ideal) S_ .f32 0x00000000#32))) bitsLt_bf16_f32⟩]
      concatenates_S2x2x16640x128_S2x2x16640x128_S2x2x16640x256_d3 := by
  entry_read
  rfl

/-! ## The entries -/

/-- The scale of the queries: the scores' scale over the logarithm of two. -/
theorem scale_eq : Ideal.div (Ideal.ofBits .f32 0x3DB504F3#32) (Ideal.log (Ideal.ofBits .f32 0x40000000#32)) = ((root / Real.log 2 : ℝ) : EReal) := by
  rw [root_eq, two, Ideal.log_coe, if_neg (by norm_num), real_div _ _ log_two_ne]

theorem q_entry (hq : Finite4 (n0 := 2) (n1 := 8) (n2 := 16640) (n3 := 128) (m ((c : Thread nD τ).loc main_arg0))) (b : Fin 2) (h : Fin 8) (l : Fin 16640) (d : Fin 128) :
    V m c main_v4 (ix4 b h l d) = ((entry (n0 := 2) (n1 := 8) (n2 := 16640) (n3 := 128) (m ((c : Thread nD τ).loc main_arg0)) b.val h.val l.val d.val * (root / Real.log 2) : ℝ) : EReal) := by
  rw [V_q, EReal.coe_mul, ← entry_eq hq, ← scale_eq]
  exact congrArg (fun y : EReal => (show EReal from m ((c : Thread nD τ).loc main_arg0) (ix4 b h l d)) * y) (broadcastInDim_scalar_apply _ _ _)

theorem k_entry (hk : Finite4 (n0 := 2) (n1 := 2) (n2 := 16640) (n3 := 128) (m ((c : Thread nD τ).loc main_arg1))) (b : Fin 2) (h : Fin 2) (l : Fin 16640) (d : Fin 128) :
    V m c main_v5 (ix4 b h l d) = (entry (n0 := 2) (n1 := 2) (n2 := 16640) (n3 := 128) (m ((c : Thread nD τ).loc main_arg1)) b.val h.val l.val d.val : EReal) := by
  rw [V_k, ← entry_eq hk]
  rfl

/-- The values with the column of ones at lane 128 and zeros after it. -/
def padded (v : ℕ → ℕ → EReal) (j d : ℕ) : EReal := if d < 128 then v j d else if d = 128 then 1 else 0

theorem v_entry (b : Fin 2) (h : Fin 2) (l : Fin 16640) (d : Fin 256) :
    V m c main_v12 (ix4 b h l d) = padded (read4 (n0 := 2) (n1 := 2) (n2 := 16640) (n3 := 128) (m ((c : Thread nD τ).loc main_arg2)) b.val h.val) l.val d.val := by
  rw [V_v]
  unfold padded
  by_cases hd : d.val < 128
  · rw [if_pos hd]
    refine (concatenate_pair_apply_left (t := S2x2x16640x256) (s₁ := S2x2x16640x128) (s₂ := S2x2x16640x128) _ _ _ _ (ix4 b h l d) rfl (ix4 b h l ⟨d.val, hd⟩) fun a => ?_).trans
      (read4_eq (n0 := 2) (n1 := 2) (n2 := 16640) (n3 := 128) _ b h l ⟨d.val, hd⟩)
    match a with
    | ⟨0, _⟩ => rfl
    | ⟨1, _⟩ => rfl
    | ⟨2, _⟩ => rfl
    | ⟨3, _⟩ => rfl
  · rw [if_neg hd]
    have hd' : d.val - 128 < 128 := by omega
    refine (concatenate_pair_apply_right (t := S2x2x16640x256) (s₁ := S2x2x16640x128) (s₂ := S2x2x16640x128) _ _ _ _ (ix4 b h l d) rfl rfl (ix4 b h l ⟨d.val - 128, hd'⟩) (fun a ha => ?_) ?_).trans ?_
    · match a with
      | ⟨0, _⟩ => rfl
      | ⟨1, _⟩ => rfl
      | ⟨2, _⟩ => rfl
      | ⟨3, _⟩ => exact absurd rfl ha
    · show d.val - 128 + 128 = d.val
      omega
    · show (if IntOp.cmpi .eq (BitVec.ofNat 32 (d.val - 128)) (broadcastInDim S2x2x16640x128 ![] bcast_S_S2x2x16640x128 (constantI S_ 32 0#32) _) = 1#1 then broadcastInDim S2x2x16640x128 ![] bcast_S_S2x2x16640x128 (constant (F := Ideal) S_ .f32 0x3F800000#32) _
        else broadcastInDim S2x2x16640x128 ![] bcast_S_S2x2x16640x128 (constant (F := Ideal) S_ .f32 0x00000000#32) _) = _
      rw [broadcastInDim_scalar_apply, broadcastInDim_scalar_apply, broadcastInDim_scalar_apply]
      show (if IntOp.cmpi .eq (BitVec.ofNat 32 (d.val - 128)) 0#32 = 1#1 then Ideal.ofBits .f32 0x3F800000#32 else Ideal.ofBits .f32 0x00000000#32) = _
      have key : ∀ x : Fin 128, IntOp.cmpi .eq (BitVec.ofNat 32 x.val) 0#32 = 1#1 ↔ x.val = 0 := by decide +kernel
      by_cases h0 : d.val = 128
      · rw [if_pos ((key ⟨d.val - 128, hd'⟩).mpr (by show d.val - 128 = 0; omega)), if_pos h0, one, EReal.coe_one]
      · rw [if_neg (fun e => h0 (by have := (key ⟨d.val - 128, hd'⟩).mp e; simp at this; omega)), if_neg h0, Ideal.ofBits_zero_f32]

/-! ## The blocks -/

theorem map0 (i : grid0.Coords) : cc0_transform_0 i = ![(i 0).val, (i 1).val, (i 2).val, 0] := by
  show ![(BitVec.ofNat 32 (i 0).val).toNat, (BitVec.ofNat 32 (i 1).val).toNat, (BitVec.ofNat 32 (i 2).val).toNat, 0] = _
  rw [word_val (i 0).isLt (by decide), word_val (i 1).isLt (by decide), word_val (i 2).isLt (by decide)]
theorem map1 (i : grid0.Coords) : cc0_transform_1 i = ![(i 0).val, (i 1).val, 0, 0] := by
  show ![(BitVec.ofNat 32 (i 0).val).toNat, (BitVec.ofNat 32 (i 1).val).toNat, 0, 0] = _
  rw [word_val (i 0).isLt (by decide), word_val (i 1).isLt (by decide)]
theorem map2 (i : grid0.Coords) : cc0_transform_2 i = ![(i 0).val, (i 1).val, 0, 0] := map1 i
theorem map3 (i : grid0.Coords) : cc0_transform_3 i = ![(i 0).val, (i 2).val, (i 1).val] := by
  show ![(BitVec.ofNat 32 (i 0).val).toNat, (BitVec.ofNat 32 (i 2).val).toNat, (BitVec.ofNat 32 (i 1).val).toNat] = _
  rw [word_val (i 0).isLt (by decide), word_val (i 1).isLt (by decide), word_val (i 2).isLt (by decide)]

/-- The batch, the group of heads and the tile of a grid point. -/
def batchOf (i : grid0.Coords) : Fin 2 := i 0
def groupOf (i : grid0.Coords) : Fin 2 := i 1
def tileOf (i : grid0.Coords) : Fin 65 := i 2

theorem blk0 (t : Fin cfg0.N) (g : Fin 4) (r : Fin 256) (d : Fin 128) : iblk m c 0 t (ix4 0 g r d)
    = V m c main_v4 (ix4 (batchOf (grid0.coords t)) (⟨4 * (groupOf (grid0.coords t)).val + g.val, by omega⟩ : Fin 8) ⟨256 * (tileOf (grid0.coords t)).val + r.val, by omega⟩ d) := by
  refine congrArg (V m c main_v4) (funext fun a => Fin.ext ?_)
  refine (Pipeline.Window.rect_emb_val win0_0 t (ix4 0 g r d) a).trans ?_
  show cc0_transform_0 (grid0.coords t) a * win0_0.size a + _ = _
  rw [map0]
  match a with
  | ⟨0, _⟩ => exact (Nat.add_zero _).trans (Nat.mul_one _)
  | ⟨1, _⟩ => exact congrArg (· + g.val) (Nat.mul_comm _ 4)
  | ⟨2, _⟩ => exact congrArg (· + r.val) (Nat.mul_comm _ 256)
  | ⟨3, _⟩ => exact (congrArg (· + d.val) (Nat.zero_mul _)).trans (Nat.zero_add _)

theorem blk1 (t : Fin cfg0.N) (j : Fin 16640) (d : Fin 128) : iblk m c 1 t (ix4 0 0 j d)
    = V m c main_v5 (ix4 (batchOf (grid0.coords t)) (groupOf (grid0.coords t)) j d) := by
  refine congrArg (V m c main_v5) (funext fun a => Fin.ext ?_)
  refine (Pipeline.Window.rect_emb_val win0_1 t (ix4 0 0 j d) a).trans ?_
  show cc0_transform_1 (grid0.coords t) a * win0_1.size a + _ = _
  rw [map1]
  match a with
  | ⟨0, _⟩ => exact (Nat.add_zero _).trans (Nat.mul_one _)
  | ⟨1, _⟩ => exact (Nat.add_zero _).trans (Nat.mul_one _)
  | ⟨2, _⟩ => exact (congrArg (· + j.val) (Nat.zero_mul _)).trans (Nat.zero_add _)
  | ⟨3, _⟩ => exact (congrArg (· + d.val) (Nat.zero_mul _)).trans (Nat.zero_add _)

theorem blk2 (t : Fin cfg0.N) (j : Fin 16640) (d : Fin 256) : iblk m c 2 t (ix4 0 0 j d)
    = V m c main_v12 (ix4 (batchOf (grid0.coords t)) (groupOf (grid0.coords t)) j d) := by
  refine congrArg (V m c main_v12) (funext fun a => Fin.ext ?_)
  refine (Pipeline.Window.rect_emb_val win0_2 t (ix4 0 0 j d) a).trans ?_
  show cc0_transform_2 (grid0.coords t) a * win0_2.size a + _ = _
  rw [map2]
  match a with
  | ⟨0, _⟩ => exact (Nat.add_zero _).trans (Nat.mul_one _)
  | ⟨1, _⟩ => exact (Nat.add_zero _).trans (Nat.mul_one _)
  | ⟨2, _⟩ => exact (congrArg (· + j.val) (Nat.zero_mul _)).trans (Nat.zero_add _)
  | ⟨3, _⟩ => exact (congrArg (· + d.val) (Nat.zero_mul _)).trans (Nat.zero_add _)

theorem emb3 (t : Fin cfg0.N) (r : Fin 256) (e : Fin 512) : ((cfg0.win 3).blk t).view.emb (ix3 0 r e)
    = ix3 (batchOf (grid0.coords t)) (⟨256 * (tileOf (grid0.coords t)).val + r.val, by omega⟩ : Fin 16640) (⟨512 * (groupOf (grid0.coords t)).val + e.val, by omega⟩ : Fin 1024) := by
  refine funext fun a => Fin.ext ?_
  refine (Pipeline.Window.rect_emb_val win0_3 t (ix3 0 r e) a).trans ?_
  show cc0_transform_3 (grid0.coords t) a * win0_3.size a + _ = _
  rw [map3]
  match a with
  | ⟨0, _⟩ => exact (Nat.add_zero _).trans (Nat.mul_one _)
  | ⟨1, _⟩ => exact congrArg (· + r.val) (Nat.mul_comm _ 256)
  | ⟨2, _⟩ => exact congrArg (· + e.val) (Nat.mul_comm _ 512)

/-- A grid point from its batch, group and tile. -/
def pointAt (b : Fin 2) (h : Fin 2) (t : Fin 65) : grid0.Coords := fun a => match a with
  | ⟨0, _⟩ => b
  | ⟨1, _⟩ => h
  | ⟨2, _⟩ => t

theorem covers3 : win0_3.Covers :=
  win0_3.covers_of_indexMap_surj rfl (by decide) fun β => by
    refine ⟨pointAt (β 0) (β 2) (β 1), ?_⟩
    intro a
    have e := congrFun (map3 (pointAt (β 0) (β 2) (β 1))) a
    refine Eq.trans e ?_
    match a with
    | ⟨0, _⟩ => rfl
    | ⟨1, _⟩ => rfl
    | ⟨2, _⟩ => rfl

end Cert.Proof.Gqa

end

end
-- ==== Proof.GqaValue.lean ====
/-
  The grouped-attention kernel's result, over extended reals, entry by entry, when the queries and keys are finite.
-/
module

public import proofs.«01_k».proof.Proof.GqaHost

@[expose] public section

set_option maxRecDepth 16384

noncomputable section

namespace Cert.Proof.Gqa

open Cert.Kernel2Ideal Cert.Kernel2Ideal.Gen Cert.Attn
open Cert.Proof.Diff (log_two_ne)
open Idealize.ShloMosaic hiding ix0 ix1 ix2 ix3 ix4 ix5
open Idealize.ShloMosaic.TcCoe Idealize.ShloMosaic.ValueIdx Idealize.SL.Sem
open Finset

variable (m : (ℓ : Loc nD τ sig) → Buf (Elt Ideal) ℓ) (c : Dev nD)

/-- The arguments' entries. -/
abbrev qOf : ℕ → ℕ → ℕ → ℕ → ℝ := entry (n0 := 2) (n1 := 8) (n2 := 16640) (n3 := 128) (m ((c : Thread nD τ).loc main_arg0))
abbrev kOf : ℕ → ℕ → ℕ → ℕ → ℝ := entry (n0 := 2) (n1 := 2) (n2 := 16640) (n3 := 128) (m ((c : Thread nD τ).loc main_arg1))
abbrev vOf : ℕ → ℕ → ℕ → ℕ → EReal := read4 (n0 := 2) (n1 := 2) (n2 := 16640) (n3 := 128) (m ((c : Thread nD τ).loc main_arg2))

/-- The queries and the keys are finite. -/
structure Finite : Prop where
  q : Finite4 (n0 := 2) (n1 := 8) (n2 := 16640) (n3 := 128) (m ((c : Thread nD τ).loc main_arg0))
  k : Finite4 (n0 := 2) (n1 := 2) (n2 := 16640) (n3 := 128) (m ((c : Thread nD τ).loc main_arg1))

/-- The blocks of a grid point hold the arguments' entries. -/
theorem holds_at (H : Finite m c) (t : Fin cfg0.N) :
    Holds (iblk m c 0 t) (iblk m c 1 t) (iblk m c 2 t)
      (fun g r d => qOf m c (batchOf (grid0.coords t)).val (4 * (groupOf (grid0.coords t)).val + g.val) (256 * (tileOf (grid0.coords t)).val + r) d * (root / Real.log 2))
      (kOf m c (batchOf (grid0.coords t)).val (groupOf (grid0.coords t)).val)
      (padded (vOf m c (batchOf (grid0.coords t)).val (groupOf (grid0.coords t)).val)) where
  q_eq g r d := (blk0 m c t g r d).trans (q_entry m c H.q _ _ _ d)
  k_eq j d := (blk1 m c t j d).trans (k_entry m c H.k _ _ j d)
  v_eq j d := (blk2 m c t j d).trans (v_entry m c _ _ j d)

theorem scale_score (q k : ℕ → ℕ → ℕ → ℕ → ℝ) (b n l : ℕ) (g : Fin 4) (r j : ℕ) :
    dot (fun r d => q b (4 * n + g.val) (l + r) d * (root / Real.log 2)) (k b n) r j * Real.log 2 = scoreG q k b (4 * n + g.val) (l + r) j := by
  unfold dot scoreG
  have : (4 * n + g.val) / 4 = n := by omega
  rw [Finset.sum_mul, Finset.sum_mul, this]
  refine Finset.sum_congr rfl fun d _ => ?_
  have := log_two_ne
  field_simp

/-- The result array: head `e / 128` of token `l` at lane `e % 128`. -/
def result (c : Dev nD) : S2x16640x1024.Idx → EReal := fun i =>
  groupOut (qOf m c) (kOf m c) (vOf m c) (i 0).val ((i 2).val / 128) (i 1).val ((i 2).val % 128)

theorem reach_eq (i : grid0.Coords) (r : Fin 256) : reach i = reachOf (256 * (tileOf i).val + r.val) := by
  unfold reach reachOf
  have : (tileOf i).val = (i 2).val := rfl
  by_cases h : (i 2).val = 0
  · rw [if_pos h, if_pos (by rw [this, h]; omega)]
  · rw [if_neg h, if_neg (by rw [this]; omega)]

theorem stored_eq (H : Finite m c) (t : Fin cfg0.N) (r : Fin 256) (g : Fin 4) (d : Fin 128) :
    outBlock (F := Ideal) (grid0.coords t) (iblk m c 0 t) (iblk m c 1 t) (iblk m c 2 t) (ix3 0 r (⟨128 * g.val + d.val, by omega⟩ : Fin 512))
      = groupOut (qOf m c) (kOf m c) (vOf m c)
          (batchOf (grid0.coords t)).val (4 * (groupOf (grid0.coords t)).val + g.val) (256 * (tileOf (grid0.coords t)).val + r.val) d.val := by
  rw [outBlock_apply (holds_at m c H t) (fun j _ => by unfold padded; simp) (grid0.coords t) _
    (fun g r j => scale_score (qOf m c) (kOf m c) _ _ _ g r j) r g d]
  unfold groupOut
  have e : (4 * (groupOf (grid0.coords t)).val + g.val) / 4 = (groupOf (grid0.coords t)).val := by omega
  rw [reach_eq (grid0.coords t) r, e]
  exact average_congr _ fun j _ => if_pos d.isLt

/-- The array the run leaves. -/
theorem final_eq (H : Finite m c) : (dats m 0 c).arrAt 3 cfg0.N = result m c := by
  refine (dats m 0 c).arrAt_eq_of_covers 3 _ covers3 fun t hf y => ?_
  obtain ⟨u, r, e, rfl⟩ : ∃ (u : Fin 1) (r : Fin 256) (e : Fin 512), y = ix3 u r e := ⟨y 0, y 1, y 2, ValueIdx.eq_ix3 y⟩
  obtain rfl : u = 0 := Subsingleton.elim _ _
  obtain ⟨g, d, rfl⟩ : ∃ (g : Fin 4) (d : Fin 128), e = ⟨128 * g.val + d.val, by omega⟩ :=
    ⟨⟨e.val / 128, by omega⟩, ⟨e.val % 128, Nat.mod_lt _ (by norm_num)⟩, Fin.ext (by show e.val = 128 * (e.val / 128) + e.val % 128; omega)⟩
  rw [emb3]
  refine (congrFun (after0_3 m c t) _).trans ((stored_eq m c H t r g d).trans ?_)
  unfold result
  show _ = groupOut _ _ _ _ ((512 * (groupOf (grid0.coords t)).val + (128 * g.val + d.val)) / 128) _ ((512 * (groupOf (grid0.coords t)).val + (128 * g.val + d.val)) % 128)
  have h1 : (512 * (groupOf (grid0.coords t)).val + (128 * g.val + d.val)) / 128 = 4 * (groupOf (grid0.coords t)).val + g.val := by omega
  have h2 : (512 * (groupOf (grid0.coords t)).val + (128 * g.val + d.val)) % 128 = d.val := by omega
  rw [h1, h2]

end Cert.Proof.Gqa

end

end
-- ==== Proof.GqaPlain.lean ====
/-
  Grouped attention written plainly by host operations, for `L` queries and `M` keys: scores of four query heads against
  their group's keys by one product, the softmax over the keys, and the weights applied to the group's values.
-/
module

public import proofs.«01_k».proof.Proof.Plain
public import proofs.«01_k».proof.Proof.GqaSpec

@[expose] public section

set_option maxRecDepth 16384

noncomputable section

namespace Cert.Attn.Grouped

open Idealize.ShloMosaic Idealize.ShloMosaic.ValueIdx
open Finset

/-- Keys or values: batch, group, position, lane. -/
abbrev K4 (M D : ℕ) : Shape := ⟨4, ![2, 2, M, D]⟩
/-- One number per query: batch, group, head in the group, position. -/
abbrev G4 (L : ℕ) : Shape := ⟨4, ![2, 2, 4, L]⟩
/-- Queries or scores. -/
abbrev G5 (L M : ℕ) : Shape := ⟨5, ![2, 2, 4, L, M]⟩

/-- Queries against keys. -/
def groupQK (L M D : ℕ) (wf : DotDims.WF (G5 L D) (K4 M D) (G5 L M) [4] [3] [2, 3] [2] [0, 1] [0, 1]) : DotDims (G5 L D) (K4 M D) (G5 L M) where
  lhsContracting := [4]
  rhsContracting := [3]
  lhsNonContracting := [2, 3]
  rhsNonContracting := [2]
  lhsBatch := [0, 1]
  rhsBatch := [0, 1]
  wf := wf

/-- Weights against values. -/
def groupPV (L M D : ℕ) (wf : DotDims.WF (G5 L M) (K4 M D) (G5 L D) [4] [2] [2, 3] [3] [0, 1] [0, 1]) : DotDims (G5 L M) (K4 M D) (G5 L D) where
  lhsContracting := [4]
  rhsContracting := [2]
  lhsNonContracting := [2, 3]
  rhsNonContracting := [3]
  lhsBatch := [0, 1]
  rhsBatch := [0, 1]
  wf := wf

theorem groupQK_apply {L M D : ℕ} (wf) (x : FVec Ideal (G5 L D) .f32) (y : FVec Ideal (K4 M D) .f32) (b n : Fin 2) (g : Fin 4) (i : Fin L) (j : Fin M) :
    Host.dotGeneral (φ₁ := .f32) (φ₂ := .f32) (groupQK L M D wf) none x y (ix5 b n g i j) = ∑ d : Fin D, x (ix5 b n g i d) * y (ix4 b n j d) := by
  have hr : (groupQK L M D wf).contr.rank = 1 := rfl
  have hs : (groupQK L M D wf).contr.size ⟨0, by rw [hr]; omega⟩ = D := rfl
  refine (Ideal.dotGeneral_apply (groupQK L M D wf) none _ x y _).trans ?_
  rw [← Equiv.sum_comp (contrEquiv1 _ D hr hs).symm]
  refine Finset.sum_congr rfl fun d _ => ?_
  have hd := contrEquiv1_symm_val (groupQK L M D wf) D hr hs d
  refine congrArg₂ (· * ·) (congrArg x (funext fun a => Fin.ext ?_)) (congrArg y (funext fun a => Fin.ext ?_))
  · match a with
    | ⟨0, _⟩ => rfl
    | ⟨1, _⟩ => rfl
    | ⟨2, _⟩ => rfl
    | ⟨3, _⟩ => rfl
    | ⟨4, _⟩ => exact hd
  · match a with
    | ⟨0, _⟩ => rfl
    | ⟨1, _⟩ => rfl
    | ⟨2, _⟩ => rfl
    | ⟨3, _⟩ => exact hd

theorem groupPV_apply {L M D : ℕ} (wf) (x : FVec Ideal (G5 L M) .f32) (y : FVec Ideal (K4 M D) .f32) (b n : Fin 2) (g : Fin 4) (i : Fin L) (c : Fin D) :
    Host.dotGeneral (φ₁ := .f32) (φ₂ := .f32) (groupPV L M D wf) none x y (ix5 b n g i c) = ∑ j : Fin M, x (ix5 b n g i j) * y (ix4 b n j c) := by
  have hr : (groupPV L M D wf).contr.rank = 1 := rfl
  have hs : (groupPV L M D wf).contr.size ⟨0, by rw [hr]; omega⟩ = M := rfl
  refine (Ideal.dotGeneral_apply (groupPV L M D wf) none _ x y _).trans ?_
  rw [← Equiv.sum_comp (contrEquiv1 _ M hr hs).symm]
  refine Finset.sum_congr rfl fun d _ => ?_
  have hd := contrEquiv1_symm_val (groupPV L M D wf) M hr hs d
  refine congrArg₂ (· * ·) (congrArg x (funext fun a => Fin.ext ?_)) (congrArg y (funext fun a => Fin.ext ?_))
  · match a with
    | ⟨0, _⟩ => rfl
    | ⟨1, _⟩ => rfl
    | ⟨2, _⟩ => rfl
    | ⟨3, _⟩ => rfl
    | ⟨4, _⟩ => exact hd
  · match a with
    | ⟨0, _⟩ => rfl
    | ⟨1, _⟩ => rfl
    | ⟨2, _⟩ => exact hd
    | ⟨3, _⟩ => rfl

/-- The shapes of one attention call. -/
structure CallFacts (L M : ℕ) : Prop where
  qk : DotDims.WF (G5 L 128) (K4 M 128) (G5 L M) [4] [3] [2, 3] [2] [0, 1] [0, 1]
  pv : DotDims.WF (G5 L M) (K4 M 128) (G5 L 128) [4] [2] [2, 3] [3] [0, 1] [0, 1]
  bS : Sc.BroadcastsInDim (G5 L M) ![]
  bT : Sc.BroadcastsInDim (G4 L) ![]
  keep : (G4 L).BroadcastsInDim (G5 L 1) ![0, 1, 2, 3]
  spread : (G5 L 1).BroadcastsInDim (G5 L M) ![0, 1, 2, 3, 4]
  rT : (G5 L M).ReducesTo [4] (G4 L)
  red : (G5 L M).Reduces [4] (G4 L)
  hS : 0 < Sc.numel

variable {L M : ℕ} (f : CallFacts L M) (b n : Fin 2) (g : Fin 4) (i : Fin L)

/-- One number per query spread along the keys. -/
abbrev along (x : FVec Ideal (G4 L) .f32) : FVec Ideal (G5 L M) .f32 :=
  broadcastInDim (G5 L M) ![0, 1, 2, 3, 4] f.spread (broadcastInDim (G5 L 1) ![0, 1, 2, 3] f.keep x)

theorem along_apply (x : FVec Ideal (G4 L) .f32) (j : Fin M) : along f x (ix5 b n g i j) = x (ix4 b n g i) := by
  refine (broadcastInDim_apply _ f.spread _ _ (ix5 b n g i 0) fun a => ?_).trans (broadcastInDim_apply _ f.keep x _ (ix4 b n g i) fun a => ?_)
  · match a with
    | ⟨0, _⟩ => rfl
    | ⟨1, _⟩ => rfl
    | ⟨2, _⟩ => rfl
    | ⟨3, _⟩ =>
      show i.val = if L = 1 then 0 else i.val
      split
      · have := i.isLt; omega
      · rfl
    | ⟨4, _⟩ => rfl
  · match a with
    | ⟨0, _⟩ => rfl
    | ⟨1, _⟩ => rfl
    | ⟨2, _⟩ => rfl
    | ⟨3, _⟩ =>
      show i.val = if L = 1 then 0 else i.val
      split
      · have := i.isLt; omega
      · rfl

theorem lift5 (k : Fin M) : f.red.lift (ix4 b n g i) k = ix5 b n g i k := by
  funext a; apply Fin.ext
  match a with
  | ⟨0, _⟩ => rfl
  | ⟨1, _⟩ => rfl
  | ⟨2, _⟩ => rfl
  | ⟨3, _⟩ => rfl
  | ⟨4, _⟩ => rfl

/-- The sum along the keys. -/
theorem sum5_apply (x : FVec Ideal (G5 L M) .f32) :
    Host.reduceAdd x (constant Sc .f32 0x00000000#32) f.rT f.hS (ix4 b n g i) = 0 + ∑ k : Fin M, x (ix5 b n g i k) := by
  refine (Ideal.hostReduceAdd_single f.rT f.red x _ _).trans ?_
  exact congrArg₂ (· + ·) Ideal.ofBits_zero_f32 (Finset.sum_congr rfl fun k _ => congrArg x (lift5 f b n g i k))

/-- The largest score of each query, as jax prints it. -/
def plainMax (S : FVec Ideal (G5 L M) .f32) : FVec Ideal (G4 L) .f32 :=
  maximumf (broadcastInDim (G4 L) ![] f.bT (constant Sc .f32 0xFF800000#32)) (Host.reduce FloatOps.maximumf S (constant Sc .f32 0xFF800000#32) f.rT f.hS)

/-- The exponentials of the scores less the largest. -/
def plainExp (S : FVec Ideal (G5 L M) .f32) : FVec Ideal (G5 L M) .f32 := Host.exp (subf S (along f (plainMax f S)))

/-- The softmax over the keys, as jax prints it. -/
def softmax5 (S : FVec Ideal (G5 L M) .f32) : FVec Ideal (G5 L M) .f32 :=
  Host.divf (plainExp f S) (along f (Host.reduceAdd (plainExp f S) (constant Sc .f32 0x00000000#32) f.rT f.hS))

/-- A weight of the softmax of finite scores. -/
theorem softmax5_apply (hM : 0 < M) (S : FVec Ideal (G5 L M) .f32) (s : ℕ → ℝ) (hS : ∀ j : Fin M, S (ix5 b n g i j) = (s j.val : EReal)) (j : Fin M) :
    softmax5 f S (ix5 b n g i j) = ((Real.exp (s j.val) / ∑ k ∈ range M, Real.exp (s k) : ℝ) : EReal) := by
  obtain ⟨A, hA⟩ := real_max hM fun k : Fin M => s k.val
  have hmax : plainMax f S (ix4 b n g i) = (A : EReal) := by
    show max (broadcastInDim (G4 L) ![] f.bT (constant (F := Ideal) Sc .f32 0xFF800000#32) (ix4 b n g i)) (Host.reduce FloatOps.maximumf S (constant Sc .f32 0xFF800000#32) f.rT f.hS (ix4 b n g i)) = _
    rw [broadcastInDim_scalar_apply, Host.reduce_eq_fold_single FloatOps.maximumf S _ f.rT f.red f.hS]
    show max (Ideal.ofBits .f32 0xFF800000#32) (Finset.fold max (Ideal.ofBits .f32 0xFF800000#32) (fun k : Fin M => S (f.red.lift (ix4 b n g i) k)) Finset.univ) = _
    rw [ofBits_neg_inf, max_eq_right bot_le, ← hA]
    exact congrArg (fun e => Finset.fold max ⊥ e Finset.univ) (funext fun k => (congrArg S (lift5 f b n g i k)).trans (hS k))
  have hexp : ∀ k : Fin M, plainExp f S (ix5 b n g i k) = Ideal.exp ((s k.val : EReal) - (A : EReal)) := fun k =>
    congrArg Ideal.exp (congrArg₂ (· - ·) (hS k) ((along_apply f b n g i _ k).trans hmax))
  refine Eq.trans ?_ (plain_weight s hM A j)
  refine congrArg₂ Ideal.div (hexp j) ((along_apply f b n g i _ j).trans ((sum5_apply f b n g i _).trans ?_))
  exact congrArg (0 + ·) (Finset.sum_congr rfl fun k _ => hexp k)

/-- The scores. -/
def groupScores (q : FVec Ideal (G5 L 128) .f32) (k : FVec Ideal (K4 M 128) .f32) : FVec Ideal (G5 L M) .f32 :=
  mulf (Host.dotGeneral (groupQK L M 128 f.qk) none q k) (broadcastInDim (G5 L M) ![] f.bS (constant Sc .f32 0x3DB504F3#32))

/-- One attention call. -/
def groupCall (q : FVec Ideal (G5 L 128) .f32) (k v : FVec Ideal (K4 M 128) .f32) : FVec Ideal (G5 L 128) .f32 :=
  Host.dotGeneral (groupPV L M 128 f.pv) none (softmax5 f (groupScores f q k)) v

theorem groupScores_apply (q : FVec Ideal (G5 L 128) .f32) (k : FVec Ideal (K4 M 128) .f32) (x y : ℕ → ℝ) (j : Fin M)
    (hq : ∀ d : Fin 128, q (ix5 b n g i d) = (x d.val : EReal)) (hk : ∀ d : Fin 128, k (ix4 b n j d) = (y d.val : EReal)) :
    groupScores f q k (ix5 b n g i j) = (((∑ d ∈ range 128, x d * y d) * root : ℝ) : EReal) := by
  rw [EReal.coe_mul]
  refine congrArg₂ (· * ·) ((groupQK_apply f.qk q k b n g i j).trans ?_) ((broadcastInDim_scalar_apply _ _ _).trans root_eq)
  rw [← Fin.sum_univ_eq_sum_range (fun d => x d * y d), real_sum]
  exact Finset.sum_congr rfl fun d _ => by rw [hq, hk, EReal.coe_mul]

/-- What a call computes: `h` is the head's number, `l` the query's. -/
theorem groupCall_apply (hM : 0 < M) (q : FVec Ideal (G5 L 128) .f32) (k v : FVec Ideal (K4 M 128) .f32) (Q K : ℕ → ℕ → ℕ → ℕ → ℝ) (V : ℕ → ℕ → ℕ → ℕ → EReal) (h l : ℕ)
    (hh : h / 4 = n.val) (hl : reachOf l = M) (hq : ∀ d : Fin 128, q (ix5 b n g i d) = (Q b.val h l d.val : EReal))
    (hk : ∀ (j : Fin M) (d : Fin 128), k (ix4 b n j d) = (K b.val n.val j.val d.val : EReal)) (hv : ∀ (j : Fin M) (d : Fin 128), v (ix4 b n j d) = V b.val n.val j.val d.val) (c : Fin 128) :
    groupCall f q k v (ix5 b n g i c) = groupOut Q K V b.val h l c.val := by
  have hs : ∀ j : Fin M, groupScores f q k (ix5 b n g i j) = (scoreG Q K b.val h l j.val : EReal) := fun j => by
    unfold scoreG
    rw [hh]
    exact groupScores_apply f b n g i q k (Q b.val h l) (K b.val n.val j.val) j hq (hk j)
  unfold groupOut average
  rw [hh, hl, ← Fin.sum_univ_eq_sum_range (fun j => ((Real.exp (scoreG Q K b.val h l j) / ∑ i ∈ range M, Real.exp (scoreG Q K b.val h l i) : ℝ) : EReal) * V b.val n.val j c.val)]
  refine (groupPV_apply f.pv _ v b n g i c).trans (Finset.sum_congr rfl fun j _ => ?_)
  exact congrArg₂ (· * ·) (softmax5_apply f b n g i hM _ _ hs j) (hv j c)

end Cert.Attn.Grouped

end

end
-- ==== Proof.GqaRef.lean ====
/-
  The grouped attention's reference, over extended reals, entry by entry, when the queries and keys are finite.
-/
module

public import proofs.«01_k».proof.Proof.GqaPlain
public import Idealize.ShloMosaic.Lib.Pointwise.Reduce
public import proofs.«01_k».proof.Proof.Gen.Reference2Ideal
public import proofs.«01_k».proof.Proof.Gen.Reference2Ideal.Run

@[expose] public section

set_option maxRecDepth 16384

noncomputable section

namespace Cert.Proof.GqaRef

open Cert.Reference2Ideal Cert.Reference2Ideal.Gen Cert.Attn Cert.Attn.Grouped
open Idealize.ShloMosaic hiding ix0 ix1 ix2 ix3 ix4 ix5
open Idealize.ShloMosaic.TcCoe Idealize.ShloMosaic.ValueIdx Idealize.SL.Sem

/-- The shapes of the context's call, -/
theorem ctxFacts : Grouped.CallFacts 256 256 where
  qk := dot_S2x2x4x256x128_S2x2x256x128_S2x2x4x256x256_4_3_23_2_01_01_wf
  pv := dot_S2x2x4x256x256_S2x2x256x128_S2x2x4x256x128_4_2_23_3_01_01_wf
  bS := bcast_S_S2x2x4x256x256
  bT := bcast_S_S2x2x4x256
  keep := bcast_S2x2x4x256_S2x2x4x256x1_0_1_2_3
  spread := bcast_S2x2x4x256x1_S2x2x4x256x256_0_1_2_3_4
  rT := reducesTo_S2x2x4x256x256_S2x2x4x256_d4
  red := by decide
  hS := h_S_

/-- and of the latents' call. -/
theorem latFacts : Grouped.CallFacts 16384 16640 where
  qk := dot_S2x2x4x16384x128_S2x2x16640x128_S2x2x4x16384x16640_4_3_23_2_01_01_wf
  pv := dot_S2x2x4x16384x16640_S2x2x16640x128_S2x2x4x16384x128_4_2_23_3_01_01_wf
  bS := bcast_S_S2x2x4x16384x16640
  bT := bcast_S_S2x2x4x16384
  keep := bcast_S2x2x4x16384_S2x2x4x16384x1_0_1_2_3
  spread := bcast_S2x2x4x16384x1_S2x2x4x16384x16640_0_1_2_3_4
  rT := reducesTo_S2x2x4x16384x16640_S2x2x4x16384_d4
  red := by decide
  hS := h_S_

variable (m : (ℓ : Loc nD τ sig) → Buf (Elt Ideal) ℓ) (c : Dev nD)

/-- The heads in groups of four. -/
abbrev grouped (q : FVec Ideal S2x8x16640x128 .f32) : FVec Ideal S2x2x4x16640x128 .f32 := shapeCast S2x2x4x16640x128 q shapeCasts_S2x8x16640x128_S2x2x4x16640x128
abbrev ctxRows (x : FVec Ideal S2x2x16640x128 .f32) : FVec Ideal S2x2x256x128 .f32 :=
  extractStridedSlice S2x2x256x128 ![0, 0, 0, 0] x slices_S2x2x16640x128_S2x2x256x128_0_0_0_0

/-- The two calls of the reference. -/
def ctxCall (q : FVec Ideal S2x8x16640x128 .f32) (k v : FVec Ideal S2x2x16640x128 .f32) : FVec Ideal S2x2x4x256x128 .f32 :=
  groupCall ctxFacts (extractStridedSlice S2x2x4x256x128 ![0, 0, 0, 0, 0] (grouped q) slices_S2x2x4x16640x128_S2x2x4x256x128_0_0_0_0_0) (ctxRows k) (ctxRows v)
def latCall (q : FVec Ideal S2x8x16640x128 .f32) (k v : FVec Ideal S2x2x16640x128 .f32) : FVec Ideal S2x2x4x16384x128 .f32 :=
  groupCall latFacts (extractStridedSlice S2x2x4x16384x128 ![0, 0, 0, 256, 0] (grouped q) slices_S2x2x4x16640x128_S2x2x4x16384x128_0_0_0_256_0) k v

/-- The two calls' results, one after the other along the queries. -/
def heads (q : FVec Ideal S2x8x16640x128 .f32) (k v : FVec Ideal S2x2x16640x128 .f32) : FVec Ideal S2x2x4x16640x128 .f32 :=
  concatenate S2x2x4x16640x128 3 [⟨S2x2x4x256x128, ctxCall q k v⟩, ⟨S2x2x4x16384x128, latCall q k v⟩] concatenates_S2x2x4x256x128_S2x2x4x16384x128_S2x2x4x16640x128_d3

/-- The heads beside each other in a token's row. -/
def rows (x : FVec Ideal S2x2x4x16640x128 .f32) : FVec Ideal S2x16640x1024 .f32 :=
  shapeCast S2x16640x1024 (transpose S2x16640x2x4x128 [0, 3, 1, 2, 4] x transposes_S2x2x4x16640x128_S2x16640x2x4x128_0_3_1_2_4) shapeCasts_S2x16640x2x4x128_S2x16640x1024

theorem res_eq : Value.res_main_v38 (F := Ideal) m c
    = truncf (F := Ideal) (s := S2x16640x1024) (φ := .f32) .bf16
        (rows (heads (m ((c : Thread nD τ).loc main_arg0)) (m ((c : Thread nD τ).loc main_arg1)) (m ((c : Thread nD τ).loc main_arg2)))) bitsLt_bf16_f32 := by
  unfold Value.res_main_v38
  rfl

theorem grouped_apply (q : FVec Ideal S2x8x16640x128 .f32) (b n : Fin 2) (g : Fin 4) (l : Fin 16640) (d : Fin 128) :
    grouped q (ix5 b n g l d) = q (ix4 b (⟨4 * n.val + g.val, by omega⟩ : Fin 8) l d) :=
  shapeCast_apply (s := S2x8x16640x128) (t := S2x2x4x16640x128) _ _ _ (ix4 b (⟨4 * n.val + g.val, by omega⟩ : Fin 8) l d) (by
    rw [Shape.rowMajor_val_four, Shape.rowMajor_val_five]
    show ((b.val * 8 + (4 * n.val + g.val)) * 16640 + l.val) * 128 + d.val = (((b.val * 2 + n.val) * 4 + g.val) * 16640 + l.val) * 128 + d.val
    omega)

/-- The queries from `l0` on, by head and number. -/
theorem queries_read {L l0 : ℕ} (q : FVec Ideal S2x8x16640x128 .f32) (hq : Finite4 (n0 := 2) (n1 := 8) (n2 := 16640) (n3 := 128) q)
    (hs : S2x2x4x16640x128.Slices ![0, 0, 0, l0, 0] (G5 L 128)) (b n : Fin 2) (g : Fin 4) (i : Fin L) (hl : l0 + L ≤ 16640) (d : Fin 128) :
    extractStridedSlice (G5 L 128) ![0, 0, 0, l0, 0] (grouped q) hs (ix5 b n g i d)
      = (entry (n0 := 2) (n1 := 8) (n2 := 16640) (n3 := 128) q b.val (4 * n.val + g.val) (l0 + i.val) d.val : EReal) := by
  have hi := i.isLt
  refine (extractStridedSlice_apply _ _ hs _ (ix5 b n g ⟨l0 + i.val, by omega⟩ d) fun a => ?_).trans
    ((grouped_apply q b n g ⟨l0 + i.val, by omega⟩ d).trans (entry_eq hq b ⟨4 * n.val + g.val, by omega⟩ ⟨l0 + i.val, by omega⟩ d))
  match a with
  | ⟨0, _⟩ => exact (Nat.zero_add _).symm
  | ⟨1, _⟩ => exact (Nat.zero_add _).symm
  | ⟨2, _⟩ => exact (Nat.zero_add _).symm
  | ⟨3, _⟩ => rfl
  | ⟨4, _⟩ => exact (Nat.zero_add _).symm

theorem ctxRows_apply (x : FVec Ideal S2x2x16640x128 .f32) (b n : Fin 2) (j : Fin 256) (d : Fin 128) :
    ctxRows x (ix4 b n j d) = x (ix4 b n (⟨j.val, by omega⟩ : Fin 16640) d) := by
  refine extractStridedSlice_apply _ _ _ _ (ix4 b n ⟨j.val, by omega⟩ d) fun a => ?_
  match a with
  | ⟨0, _⟩ => exact (Nat.zero_add _).symm
  | ⟨1, _⟩ => exact (Nat.zero_add _).symm
  | ⟨2, _⟩ => exact (Nat.zero_add _).symm
  | ⟨3, _⟩ => exact (Nat.zero_add _).symm

variable (q : FVec Ideal S2x8x16640x128 .f32) (k v : FVec Ideal S2x2x16640x128 .f32)

/-- The heads, entry by entry. -/
theorem heads_apply (hq : Finite4 (n0 := 2) (n1 := 8) (n2 := 16640) (n3 := 128) q) (hk : Finite4 (n0 := 2) (n1 := 2) (n2 := 16640) (n3 := 128) k)
    (b n : Fin 2) (g : Fin 4) (t : Fin 16640) (c : Fin 128) :
    heads q k v (ix5 b n g t c)
      = groupOut (entry (n0 := 2) (n1 := 8) (n2 := 16640) (n3 := 128) q) (entry (n0 := 2) (n1 := 2) (n2 := 16640) (n3 := 128) k) (read4 (n0 := 2) (n1 := 2) (n2 := 16640) (n3 := 128) v)
          b.val (4 * n.val + g.val) t.val c.val := by
  have hh : (4 * n.val + g.val) / 4 = n.val := by omega
  have htl := t.isLt
  by_cases ht : t.val < 256
  · refine (concatenate_pair_apply_left (t := S2x2x4x16640x128) (s₁ := S2x2x4x256x128) (s₂ := S2x2x4x16384x128) 3 _ _ _ _ rfl (ix5 b n g ⟨t.val, ht⟩ c) ?_).trans ?_
    · intro a
      match a with
      | ⟨0, _⟩ => rfl
      | ⟨1, _⟩ => rfl
      | ⟨2, _⟩ => rfl
      | ⟨3, _⟩ => rfl
      | ⟨4, _⟩ => rfl
    · refine groupCall_apply ctxFacts b n g ⟨t.val, ht⟩ (by norm_num) _ _ _ _ _ _ _ t.val hh ?_ ?_ ?_ ?_ c
      · unfold reachOf; rw [if_pos ht]
      · exact fun d => (queries_read (L := 256) q hq _ b n g ⟨t.val, ht⟩ (by norm_num) d).trans (by rw [Nat.zero_add])
      · exact fun j d => (ctxRows_apply k b n j d).trans (entry_eq hk b n _ d)
      · exact fun j d => (ctxRows_apply v b n j d).trans (read4_eq (n0 := 2) (n1 := 2) (n2 := 16640) (n3 := 128) v b n _ d)
  · refine (concatenate_pair_apply_right (t := S2x2x4x16640x128) (s₁ := S2x2x4x256x128) (s₂ := S2x2x4x16384x128) 3 _ _ _ _ rfl rfl (ix5 b n g ⟨t.val - 256, by omega⟩ c) ?_ ?_).trans ?_
    · intro a ha
      match a with
      | ⟨0, _⟩ => rfl
      | ⟨1, _⟩ => rfl
      | ⟨2, _⟩ => rfl
      | ⟨3, _⟩ => exact absurd rfl ha
      | ⟨4, _⟩ => rfl
    · show t.val - 256 + 256 = t.val; omega
    · refine groupCall_apply latFacts b n g ⟨t.val - 256, by omega⟩ (by norm_num) _ _ _ _ _ _ _ t.val hh ?_ ?_ ?_ ?_ c
      · unfold reachOf; rw [if_neg ht]
      · exact fun d => (queries_read (L := 16384) q hq _ b n g ⟨t.val - 256, by omega⟩ (by norm_num) d).trans (by rw [show 256 + (t.val - 256) = t.val by omega])
      · exact fun j d => entry_eq hk b n j d
      · exact fun j d => read4_eq (n0 := 2) (n1 := 2) (n2 := 16640) (n3 := 128) v b n j d

/-- Heads beside each other: lane `e` of a token's row is lane `e % 128` of head `e / 128`. -/
theorem rows_apply (x : FVec Ideal S2x2x4x16640x128 .f32) (b : Fin 2) (t : Fin 16640) (e : Fin 1024) :
    rows x (ix3 b t e) = x (ix5 b (⟨e.val / 512, by omega⟩ : Fin 2) (⟨e.val / 128 % 4, by omega⟩ : Fin 4) t (⟨e.val % 128, by omega⟩ : Fin 128)) := by
  refine (shapeCast_apply (s := S2x16640x2x4x128) (t := S2x16640x1024) _ _ _ (ix5 b t (⟨e.val / 512, by omega⟩ : Fin 2) (⟨e.val / 128 % 4, by omega⟩ : Fin 4) (⟨e.val % 128, by omega⟩ : Fin 128)) ?_).trans ?_
  · rw [Shape.rowMajor_val_five, Shape.rowMajor_val_three]
    show (((b.val * 16640 + t.val) * 2 + e.val / 512) * 4 + e.val / 128 % 4) * 128 + e.val % 128 = (b.val * 16640 + t.val) * 1024 + e.val
    omega
  refine transpose_apply (s := S2x2x4x16640x128) (t := S2x16640x2x4x128) _ _ _ _ _ fun a => ?_
  match a with
  | ⟨0, _⟩ => rfl
  | ⟨1, _⟩ => rfl
  | ⟨2, _⟩ => rfl
  | ⟨3, _⟩ => rfl
  | ⟨4, _⟩ => rfl

/-- The result of the reference, entry by entry. -/
theorem res_apply (hq : Finite4 (n0 := 2) (n1 := 8) (n2 := 16640) (n3 := 128) q) (hk : Finite4 (n0 := 2) (n1 := 2) (n2 := 16640) (n3 := 128) k) (i : S2x16640x1024.Idx) :
    rows (heads q k v) i
      = groupOut (entry (n0 := 2) (n1 := 8) (n2 := 16640) (n3 := 128) q) (entry (n0 := 2) (n1 := 2) (n2 := 16640) (n3 := 128) k) (read4 (n0 := 2) (n1 := 2) (n2 := 16640) (n3 := 128) v)
          (i 0).val ((i 2).val / 128) (i 1).val ((i 2).val % 128) := by
  obtain ⟨b, t, e, rfl⟩ : ∃ (b : Fin 2) (t : Fin 16640) (e : Fin 1024), i = ix3 b t e := ⟨i 0, i 1, i 2, ValueIdx.eq_ix3 i⟩
  refine (rows_apply _ b t e).trans ((heads_apply q k v hq hk b _ _ t _).trans ?_)
  show groupOut _ _ _ b.val (4 * (e.val / 512) + e.val / 128 % 4) t.val (e.val % 128) = groupOut _ _ _ b.val (e.val / 128) t.val (e.val % 128)
  rw [show 4 * (e.val / 512) + e.val / 128 % 4 = e.val / 128 by omega]

end Cert.Proof.GqaRef

end

end
-- ==== Proof.GqaClaim.lean ====
/-
  The grouped-attention kernel and its reference leave the same result: both leave, entry by entry, the softmax average of
  the group's values.
-/
module

public import proofs.«01_k».proof.Proof.DiffClaim
public import proofs.«01_k».proof.Proof.GqaFrame
public import proofs.«01_k».proof.Proof.GqaValue
public import proofs.«01_k».proof.Proof.GqaRef
public import proofs.«01_k».proof.Proof.Gen.Pre_finite_scores

@[expose] public section

set_option maxRecDepth 16384

noncomputable section

namespace Cert.Proof.Gqa

open Cert.Attn
open Idealize.ShloMosaic hiding ix0 ix1 ix2 ix3 ix4 ix5
open Idealize.ShloMosaic.TcCoe Idealize.ShloMosaic.ValueIdx Idealize.SL.Sem

/-- What the precondition says of the arguments. -/
theorem finite_of_pre [hP : Cert.Pre_finite_scores.Facts] (x0 : FVec Ideal Cert.Pre_finite_scores.S2x8x16640x128 .f32) (x1 x2 : FVec Ideal Cert.Pre_finite_scores.S2x2x16640x128 .f32)
    (h : Cert.Pre_finite_scores.fn (F := Ideal) x0 x1 x2 = fun _ => 1#1) :
    Finite4 (n0 := 2) (n1 := 8) (n2 := 16640) (n3 := 128) x0 ∧ Finite4 (n0 := 2) (n1 := 2) (n2 := 16640) (n3 := 128) x1 := by
  haveI : Subsingleton Cert.Pre_finite_scores.S_.Idx := ⟨fun a b => funext fun k => k.elim0⟩
  obtain ⟨h0, h1⟩ := IntOp.andi_eq_one.1 (congrFun h ix0)
  exact ⟨fun i => Diff.real_at x0 _ i (Host.reduce_andi_all _ _ _ _ _ h0 i), fun i => Diff.real_at x1 _ i (Host.reduce_andi_all _ _ _ _ _ h1 i)⟩

/-- Over extended reals a narrowing cast changes nothing. -/
theorem narrowed {s : Shape} (x : FVec Ideal s .f32) (h : FTy.bits .bf16 < FTy.bits .f32) (y : s.Idx → EReal) (e : ∀ i, x i = y i) :
    truncf (F := Ideal) (s := s) (φ := .f32) .bf16 x h = y := funext e

/-- The reference's result from its memory, when the queries and keys are finite. -/
theorem reference_result (m' : (ℓ : Loc Cert.Reference2Ideal.nD Cert.Reference2Ideal.τ Cert.Reference2Ideal.sig) → Buf (Elt Ideal) ℓ) (c : Dev Cert.Reference2Ideal.nD)
    (q : FVec Ideal Cert.Reference2Ideal.S2x8x16640x128 .f32) (k v : FVec Ideal Cert.Reference2Ideal.S2x2x16640x128 .f32)
    (e0 : m' ((c.tc : Thread Cert.Reference2Ideal.nD Cert.Reference2Ideal.τ).loc Cert.Reference2Ideal.main_arg0) = q)
    (e1 : m' ((c.tc : Thread Cert.Reference2Ideal.nD Cert.Reference2Ideal.τ).loc Cert.Reference2Ideal.main_arg1) = k)
    (e2 : m' ((c.tc : Thread Cert.Reference2Ideal.nD Cert.Reference2Ideal.τ).loc Cert.Reference2Ideal.main_arg2) = v)
    (hq : Finite4 (n0 := 2) (n1 := 8) (n2 := 16640) (n3 := 128) q) (hk : Finite4 (n0 := 2) (n1 := 2) (n2 := 16640) (n3 := 128) k) :
    Cert.Reference2Ideal.Value.res_main_v38 (F := Ideal) m' c = fun i => groupOut (entry (n0 := 2) (n1 := 8) (n2 := 16640) (n3 := 128) q) (entry (n0 := 2) (n1 := 2) (n2 := 16640) (n3 := 128) k)
      (read4 (n0 := 2) (n1 := 2) (n2 := 16640) (n3 := 128) v) (i 0).val ((i 2).val / 128) (i 1).val ((i 2).val % 128) := by
  rw [GqaRef.res_eq, e0, e1, e2]
  exact narrowed _ _ _ fun i => GqaRef.res_apply _ _ _ hq hk i

theorem algebraic_Kernel2Ideal [hP : Cert.Pre_finite_scores.Facts] : Cert.algebraic_Kernel2Ideal_Reference2Ideal_pre_finite_scores := by
  intro m g m' g' hpre hargs
  refine ⟨result m, ?_, ?_⟩
  · refine (θ_run Cert.Kernel2Ideal.defs _ _).mono (fun r h c => ?_) (θ_run_and (run_main (F := Ideal) m g) (frame_any (F := Ideal) m g))
    obtain ⟨⟨hpost, _⟩, hframe, _⟩ := h
    obtain ⟨h0, h1⟩ := finite_of_pre _ _ _ (hpre c)
    exact ⟨(hpost.out_eq c 3).trans (final_eq m c ⟨h0, h1⟩), hframe c⟩
  · refine (θ_run Cert.Reference2Ideal.defs _ _).mono (fun r h c => ?_) (Cert.Reference2Ideal.Value.run (F := Ideal) m' g')
    refine ⟨(h c).1.trans ?_, (h c).2⟩
    obtain ⟨h0, h1⟩ := finite_of_pre _ _ _ (hpre c)
    obtain ⟨e0, e1, e2⟩ := hargs c
    exact reference_result m' c _ _ _ e0 e1 e2 h0 h1

end Cert.Proof.Gqa

end

end
-- ==== Proof.Eighths.lean ====
/-
  A 4096-ROW ARRAY HELD AS EIGHT CLASSES OF ROWS: class `s` is the rows `s`, `s + 8`, `s + 16`, … A load at a stride of
  eight rows continues at a class; a store at a stride of eight rows replaces one class and leaves the others. And a load
  of one word of scalar memory, at any share.
-/
module

public import proofs.«01_k».proof.Proof.Blocks
public import Idealize.ShloMosaic.Lib.ValueIdx

@[expose] public section

noncomputable section

namespace Cert.Attn

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U] {Lvl : Type} {Λ : Labels}
variable [Preorder Lvl] {defs : Defs nD τ sig Val Λ} (𝒱 : Variants) (c : Thread nD τ) (bd : Option 𝒱.V) (E : Set Name)
variable {e : EltTy} {α : Type} {Q : α → sProp (MT nD τ sig Ix Val Name U Lvl)}

/-- The place within its class of an index of the 4096-row array. -/
def inClass (j : (⟨2, ![4096, 128]⟩ : Shape).Idx) : (⟨2, ![512, 128]⟩ : Shape).Idx :=
  ix2 (⟨(j 0).val / 8, by have : (j 0).val < 4096 := (j 0).isLt; omega⟩ : Fin 512) (j 1 : Fin 128)

/-- The class of an index of the 4096-row array. -/
def classOf (j : (⟨2, ![4096, 128]⟩ : Shape).Idx) : Fin 8 := ⟨(j 0).val % 8, Nat.mod_lt _ (by decide)⟩

/-- Eight classes of rows, put together. -/
def interleave {β : Type} (x : Fin 8 → (⟨2, ![512, 128]⟩ : Shape).Idx → β) : (⟨2, ![4096, 128]⟩ : Shape).Idx → β :=
  fun j => x (classOf j) (inClass j)

section Rect

variable (g : Fin 8) {off : Fin 2 → ℕ} (h0 : off 0 = g.val) (h1 : off 1 = 0)
  (inb : ∀ a, (![512, 128] : Fin 2 → ℕ) a = 0 ∨ off a + (![8, 1] : Fin 2 → ℕ) a * ((![512, 128] : Fin 2 → ℕ) a - 1) < (⟨2, ![4096, 128]⟩ : Shape).size a)

/-- The rows `s`, `s + 8`, …, as a rectangle at stride eight. -/
abbrev eighths (off : Fin 2 → ℕ)
    (inb : ∀ a, (![512, 128] : Fin 2 → ℕ) a = 0 ∨ off a + (![8, 1] : Fin 2 → ℕ) a * ((![512, 128] : Fin 2 → ℕ) a - 1) < (⟨2, ![4096, 128]⟩ : Shape).size a) :
    LoadRect (⟨2, ![4096, 128]⟩ : Shape) := ⟨off, ![512, 128], ![8, 1], inb⟩

include h0 h1 in
theorem eighths_idx (j : (⟨2, ![512, 128]⟩ : Shape).Idx) :
    classOf ((eighths off inb).idx j) = g ∧ inClass ((eighths off inb).idx j) = j := by
  have hj : (j 0).val < 512 := (j 0).isLt
  have hg := g.isLt
  have e0 : (((eighths off inb).idx j) 0).val = off 0 + 8 * (j 0).val := rfl
  have e1 : (((eighths off inb).idx j) 1).val = off 1 + 1 * (j 1).val := rfl
  rw [h0] at e0; rw [h1] at e1
  constructor
  · apply Fin.ext; show _ % 8 = _; rw [e0]; omega
  · funext a; apply Fin.ext
    match a with
    | ⟨0, _⟩ => show _ / 8 = (j 0).val; rw [e0]; omega
    | ⟨1, _⟩ => exact e1.trans (show 0 + 1 * (j 1).val = (j 1).val by omega)

include h0 h1 in
/-- A class read at a stride of eight rows. -/
theorem eighths_pick {β : Type} (x : Fin 8 → (⟨2, ![512, 128]⟩ : Shape).Idx → β) :
    pick (eighths off inb) (interleave x) = x g := by
  funext j
  obtain ⟨a, b⟩ := eighths_idx g h0 h1 inb j
  show x (classOf _) (inClass _) = x g j
  exact (congrArg (fun t => x t _) a).trans (congrArg (x g) b)

include h0 h1 in
theorem eighths_out {β : Type} (x : Fin 8 → (⟨2, ![512, 128]⟩ : Shape).Idx → β) (w : (⟨2, ![512, 128]⟩ : Shape).Idx → β)
    (i : (⟨2, ![4096, 128]⟩ : Shape).Idx) (h : ∀ j, (eighths off inb).idx j ≠ i) :
    interleave (Function.update x g w) i = interleave x i := by
  have hne : classOf i ≠ g := by
    intro hg
    apply h (inClass i)
    funext a; apply Fin.ext
    have hv : (i 0).val % 8 = g.val := congrArg Fin.val hg
    match a with
    | ⟨0, _⟩ => show off 0 + 8 * ((i 0).val / 8) = (i 0).val; rw [h0]; omega
    | ⟨1, _⟩ => show off 1 + 1 * (i 1).val = (i 1).val; rw [h1]; omega
  show Function.update x g w (classOf i) (inClass i) = x (classOf i) (inClass i)
  rw [Function.update_of_ne hne]

variable {cs : CoreSpace}

include h0 h1 in
/-- A store at a stride of eight rows replaces one class. -/
theorem store_eighths {m : Memref sig c.2.kind cs ⟨2, ![4096, 128]⟩ e} {sp : ∀ a, 0 < (![8, 1] : Fin 2 → ℕ) a}
    {w : (⟨2, ![512, 128]⟩ : Shape).Idx → Val e} {hx : (m.access ⟨eighths off inb, sp⟩).Stores Finset.univ}
    {hm : Finset.univ = Finset.univ ∨ ∀ a, (⟨eighths off inb, sp⟩ : Rect (⟨2, ![4096, 128]⟩ : Shape)).stride a = 1}
    {k : PUnit → Prog (TpuEff nD τ sig Val Λ c.2) α} {x : Fin 8 → (⟨2, ![512, 128]⟩ : Shape).Idx → Val e} :
    owns c m fullShare (interleave x)
      ⊢ iprop((owns c m fullShare (interleave (Function.update x g w)) -∗ wp frame (wpE defs 𝒱 c bd) E (k ⟨⟩) Q)
        -∗ wp frame (wpE defs 𝒱 c bd) E (Prog.lift (.store m (⟨eighths off inb, sp⟩ : Rect (⟨2, ![4096, 128]⟩ : Shape)) w Finset.univ hx hm) >>= k) Q) :=
  store_as 𝒱 c bd E
    (fun j => (congrFun (eighths_pick g h0 h1 inb (Function.update x g w)) j).trans (congrFun (Function.update_self g w x) j))
    (fun i hi => eighths_out g h0 h1 inb x w i hi)

end Rect

/-- Every 4096-row array is eight classes of rows. -/
theorem interleave_self {β : Type} (Z : (⟨2, ![4096, 128]⟩ : Shape).Idx → β) : ∃ x, interleave x = Z := by
  refine ⟨fun g j => Z (ix2 (⟨8 * (j 0).val + g.val, ?_⟩ : Fin 4096) (j 1 : Fin 128)), ?_⟩
  · have := g.isLt; have : (j 0).val < 512 := (j 0).isLt; omega
  · funext i
    refine congrArg Z ?_
    funext a; apply Fin.ext
    match a with
    | ⟨0, _⟩ => show 8 * ((i 0).val / 8) + (i 0).val % 8 = (i 0).val; omega
    | ⟨1, _⟩ => rfl

/-- After all eight classes are replaced nothing of the old array is left. -/
theorem eight_set {β : Type} (x : Fin 8 → β) (a b d f g h i j : β) :
    Function.update (Function.update (Function.update (Function.update (Function.update (Function.update (Function.update
      (Function.update x 0 a) 1 b) 2 d) 3 f) 4 g) 5 h) 6 i) 7 j = ![a, b, d, f, g, h, i, j] := by
  funext t; fin_cases t <;> rfl

/-- A load of one word of scalar memory held at any share continues at the word. -/
theorem load_word {s : Shape} {m : Memref sig c.2.kind .smem s e} {r : Rect s} {h1 : r.shape.numel = 1} {hp : e.packing = 1}
    {q : PosShare TreeShare} {k : Val e → Prog (TpuEff nD τ sig Val Λ c.2) α} {X : s.Idx → Val e} :
    owns c m q X
      ⊢ iprop((owns c m q X -∗ wp frame (wpE defs 𝒱 c bd) E (k (X (r.emb (Shape.Idx.first (h1.symm ▸ Nat.one_pos))))) Q)
        -∗ wp frame (wpE defs 𝒱 c bd) E (smemLoad m r h1 hp >>= k) Q) := by
  unfold owns
  iintro ⟨%f, %hf, H⟩ K
  subst hf
  iapply (wp_load 𝒱 c bd E (hl := View.loadsAt_rect (View.loads_smem_one hp h1))
    (k := fun g => k (g (Shape.Idx.first (h1.symm ▸ Nat.one_pos)))) (Q := Q) (S := m.view.set) (q := q) (f := f)
    (View.setOn_subset_set m.view r.toLoadRect.set)) $$ [H]
  · iexact H
  iintro H
  iapply K
  iexists f
  isplitr
  · ipureintro; rfl
  iexact H

end Cert.Attn

end
-- ==== Proof.ExpBody.lean ====
/-
  The body of the expert kernel: from what each memref holds, what it holds afterwards. The weights are taken into the
  scratch buffers at the first block of an expert; a block in use is the feed-forward of its rows at the scratch
  buffers' weights; a block not in use is zeros.
-/
module

public import proofs.«01_k».proof.Proof.Eighths
public import proofs.«01_k».proof.Proof.Gen.Kernel3Ideal.Launch
public import proofs.«01_k».proof.Proof.Gen.Kernel3Ideal.Skeleton

@[expose] public section

noncomputable section

namespace Cert.Proof.Exp

open Cert.Kernel3Ideal Cert.Kernel3Ideal.Gen Cert.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev 𝒱₀ : Variants := Variants.none

/-- Core `c` owns the memref and reads `X` through it. -/
abbrev O (c : Dev nD) {sp : Space} {s : Shape} {e : EltTy} (m : Memref sig .tc sp s e) (X : s.Idx → Elt F e) : sProp 𝕄 :=
  owns (c : Thread nD τ) m fullShare X

/-- Core `c` holds half of a table, which reads `X`. -/
abbrev H (c : Dev nD) {s : Shape} {e : EltTy} (m : Memref sig .tc .smem s e) (X : s.Idx → Elt F e) : sProp 𝕄 :=
  owns (c : Thread nD τ) m fullShare.right X

/-- The program `p` on core `c` runs safely to the post `Q`. -/
abbrev W (c : Dev nD) {α : Type} (p : Prog (TpuEff nD τ sig (Elt F) Λ₀ .tc) α) (Q : α → sProp 𝕄) : sProp 𝕄 :=
  wp Idealize.ShloMosaic.frame (wpE (defs₀ (F := F)) 𝒱₀ (c : Thread nD τ) none) Set.univ p Q

/-- The block's rows, rounded. -/
def rows (X : S4096x128.Idx → Elt F .f32) : FVec F S512x1024 .bf16 :=
  k0_pay13 (pick (⟨![0, 0], S512x128.size, ![8, 1], inb_S4096x128_S512x128_0_0_s_8_1⟩ : LoadRect S4096x128) X) (pick (⟨![1, 0], S512x128.size, ![8, 1], inb_S4096x128_S512x128_1_0_s_8_1⟩ : LoadRect S4096x128) X) (pick (⟨![2, 0], S512x128.size, ![8, 1], inb_S4096x128_S512x128_2_0_s_8_1⟩ : LoadRect S4096x128) X) (pick (⟨![3, 0], S512x128.size, ![8, 1], inb_S4096x128_S512x128_3_0_s_8_1⟩ : LoadRect S4096x128) X) (pick (⟨![4, 0], S512x128.size, ![8, 1], inb_S4096x128_S512x128_4_0_s_8_1⟩ : LoadRect S4096x128) X) (pick (⟨![5, 0], S512x128.size, ![8, 1], inb_S4096x128_S512x128_5_0_s_8_1⟩ : LoadRect S4096x128) X) (pick (⟨![6, 0], S512x128.size, ![8, 1], inb_S4096x128_S512x128_6_0_s_8_1⟩ : LoadRect S4096x128) X) (pick (⟨![7, 0], S512x128.size, ![8, 1], inb_S4096x128_S512x128_7_0_s_8_1⟩ : LoadRect S4096x128) X)

/-- The first half of the gates, capped above. -/
def gateLo (X : S4096x128.Idx → Elt F .f32) (G : S1024x2048.Idx → Elt F .bf16) (B : S1x1x2048.Idx → Elt F .f32) : FVec F S512x512 .f32 :=
  k0_pay15 (pick (⟨![0, 0], S512x128.size, ![8, 1], inb_S4096x128_S512x128_0_0_s_8_1⟩ : LoadRect S4096x128) X) (pick (⟨![1, 0], S512x128.size, ![8, 1], inb_S4096x128_S512x128_1_0_s_8_1⟩ : LoadRect S4096x128) X) (pick (⟨![2, 0], S512x128.size, ![8, 1], inb_S4096x128_S512x128_2_0_s_8_1⟩ : LoadRect S4096x128) X) (pick (⟨![3, 0], S512x128.size, ![8, 1], inb_S4096x128_S512x128_3_0_s_8_1⟩ : LoadRect S4096x128) X) (pick (⟨![4, 0], S512x128.size, ![8, 1], inb_S4096x128_S512x128_4_0_s_8_1⟩ : LoadRect S4096x128) X) (pick (⟨![5, 0], S512x128.size, ![8, 1], inb_S4096x128_S512x128_5_0_s_8_1⟩ : LoadRect S4096x128) X) (pick (⟨![6, 0], S512x128.size, ![8, 1], inb_S4096x128_S512x128_6_0_s_8_1⟩ : LoadRect S4096x128) X) (pick (⟨![7, 0], S512x128.size, ![8, 1], inb_S4096x128_S512x128_7_0_s_8_1⟩ : LoadRect S4096x128) X) (pick (Rect.unit (s := S1024x2048) ![0, 0] S1024x512.size inb_S1024x2048_S1024x512_0_0).toLoadRect G) (pick (Rect.unit (s := S1x1x2048) ![0, 0, 0] S1x1x512.size inb_S1x1x2048_S1x1x512_0_0_0).toLoadRect B)

/-- The first half of the linear parts, before their cap above. -/
def linLo (X : S4096x128.Idx → Elt F .f32) (G : S1024x2048.Idx → Elt F .bf16) (B : S1x1x2048.Idx → Elt F .f32) : FVec F S512x512 .f32 :=
  k0_pay16 (pick (⟨![0, 0], S512x128.size, ![8, 1], inb_S4096x128_S512x128_0_0_s_8_1⟩ : LoadRect S4096x128) X) (pick (⟨![1, 0], S512x128.size, ![8, 1], inb_S4096x128_S512x128_1_0_s_8_1⟩ : LoadRect S4096x128) X) (pick (⟨![2, 0], S512x128.size, ![8, 1], inb_S4096x128_S512x128_2_0_s_8_1⟩ : LoadRect S4096x128) X) (pick (⟨![3, 0], S512x128.size, ![8, 1], inb_S4096x128_S512x128_3_0_s_8_1⟩ : LoadRect S4096x128) X) (pick (⟨![4, 0], S512x128.size, ![8, 1], inb_S4096x128_S512x128_4_0_s_8_1⟩ : LoadRect S4096x128) X) (pick (⟨![5, 0], S512x128.size, ![8, 1], inb_S4096x128_S512x128_5_0_s_8_1⟩ : LoadRect S4096x128) X) (pick (⟨![6, 0], S512x128.size, ![8, 1], inb_S4096x128_S512x128_6_0_s_8_1⟩ : LoadRect S4096x128) X) (pick (⟨![7, 0], S512x128.size, ![8, 1], inb_S4096x128_S512x128_7_0_s_8_1⟩ : LoadRect S4096x128) X) (pick (Rect.unit (s := S1024x2048) ![0, 1024] S1024x512.size inb_S1024x2048_S1024x512_0_1024).toLoadRect G) (pick (Rect.unit (s := S1x1x2048) ![0, 0, 1024] S1x1x512.size inb_S1x1x2048_S1x1x512_0_0_1024).toLoadRect B)

/-- The product with the first half of the second weights. -/
def outLo (X : S4096x128.Idx → Elt F .f32) (G : S1024x2048.Idx → Elt F .bf16) (B : S1x1x2048.Idx → Elt F .f32) (D : S1024x1024.Idx → Elt F .bf16) : FVec F S512x1024 .f32 :=
  k0_pay18 (k0_pay14 (F := F)) (gateLo X G B) (linLo X G B) (k0_pay17 (F := F)) (pick (Rect.unit (s := S1024x1024) ![0, 0] S512x1024.size inb_S1024x1024_S512x1024_0_0).toLoadRect D)

/-- The second half of the activations. -/
def actHi (X : S4096x128.Idx → Elt F .f32) (G : S1024x2048.Idx → Elt F .bf16) (B : S1x1x2048.Idx → Elt F .f32) : FVec F S512x512 .bf16 :=
  k0_pay19 (rows X) (pick (Rect.unit (s := S1024x2048) ![0, 512] S1024x512.size inb_S1024x2048_S1024x512_0_512).toLoadRect G) (pick (Rect.unit (s := S1x1x2048) ![0, 0, 512] S1x1x512.size inb_S1x1x2048_S1x1x512_0_0_512).toLoadRect B) (pick (Rect.unit (s := S1024x2048) ![0, 1536] S1024x512.size inb_S1024x2048_S1024x512_0_1536).toLoadRect G) (pick (Rect.unit (s := S1x1x2048) ![0, 0, 1536] S1x1x512.size inb_S1x1x2048_S1x1x512_0_0_1536).toLoadRect B)

/-- The block of the result: its eight classes of rows. -/
def filled (X : S4096x128.Idx → Elt F .f32) (G : S1024x2048.Idx → Elt F .bf16) (B : S1x1x2048.Idx → Elt F .f32) (D : S1024x1024.Idx → Elt F .bf16)
    (B' : S1x1x1024.Idx → Elt F .f32) : S4096x128.Idx → Elt F .f32 :=
  interleave ![k0_pay4 (outLo X G B D) (actHi X G B) (pick (Rect.unit (s := S1024x1024) ![512, 0] S512x1024.size inb_S1024x1024_S512x1024_512_0).toLoadRect D) B', k0_pay5 (outLo X G B D) (actHi X G B) (pick (Rect.unit (s := S1024x1024) ![512, 0] S512x1024.size inb_S1024x1024_S512x1024_512_0).toLoadRect D) B', k0_pay6 (outLo X G B D) (actHi X G B) (pick (Rect.unit (s := S1024x1024) ![512, 0] S512x1024.size inb_S1024x1024_S512x1024_512_0).toLoadRect D) B', k0_pay7 (outLo X G B D) (actHi X G B) (pick (Rect.unit (s := S1024x1024) ![512, 0] S512x1024.size inb_S1024x1024_S512x1024_512_0).toLoadRect D) B', k0_pay8 (outLo X G B D) (actHi X G B) (pick (Rect.unit (s := S1024x1024) ![512, 0] S512x1024.size inb_S1024x1024_S512x1024_512_0).toLoadRect D) B', k0_pay9 (outLo X G B D) (actHi X G B) (pick (Rect.unit (s := S1024x1024) ![512, 0] S512x1024.size inb_S1024x1024_S512x1024_512_0).toLoadRect D) B', k0_pay10 (outLo X G B D) (actHi X G B) (pick (Rect.unit (s := S1024x1024) ![512, 0] S512x1024.size inb_S1024x1024_S512x1024_512_0).toLoadRect D) B', k0_pay11 (outLo X G B D) (actHi X G B) (pick (Rect.unit (s := S1024x1024) ![512, 0] S512x1024.size inb_S1024x1024_S512x1024_512_0).toLoadRect D) B']

/-- The kernel's test whether the block `i` takes in its expert's weights, from the words it reads: the block is in use
    (`n` blocks are), and it is the first, or its expert is not the expert of the block before. -/
def takes (i : grid0.Coords) (n e e' : BitVec 32) : BitVec 1 :=
  Scalar.cmpi .ne (Scalar.extui (Scalar.andi (Scalar.cmpi .slt (BitVec.ofNat 32 (i 0).val) n)
    (Scalar.ori (Scalar.cmpi .eq (BitVec.ofNat 32 (i 0).val) 0#32) (Scalar.cmpi .ne e e')))) 0#32

/-- The zeros are stored exactly where the block is not in use. -/
theorem cond3_iff (i : grid0.Coords) (n : BitVec 32) : k0_cond3 i n = 1#1 ↔ ¬ k0_cond2 i n = 1#1 := by
  unfold k0_cond3 k0_cond2
  dsimp only
  generalize Scalar.cmpi .slt (BitVec.ofNat 32 (i 0).val) n = b
  revert b
  decide

/-- The first part of a block in use: the rows, the first halves of gates and linear parts. -/
theorem part1_spec (c : Dev nD) (arg1 : Memref sig .tc .smem S292 .i32) (harg1 : arg1.IsWhole) (arg2 : Memref sig .tc .smem S1 .i32) (harg2 : arg2.IsWhole) (arg3 : Memref sig .tc .vmem S4096x128 .f32) (harg3 : arg3.IsWhole) (arg4 : Memref sig .tc .vmem S1x1x1024x2048 .f32) (harg4 : arg4.IsWhole) (arg5 : Memref sig .tc .vmem S1x1x2048 .f32) (harg5 : arg5.IsWhole) (arg6 : Memref sig .tc .vmem S1x1x1024x1024 .f32) (harg6 : arg6.IsWhole) (arg7 : Memref sig .tc .vmem S1x1x1024 .f32) (harg7 : arg7.IsWhole) (arg8 : Memref sig .tc .vmem S4096x128 .f32) (harg8 : arg8.IsWhole) (arg9 : Memref sig .tc .vmem S1024x2048 .bf16) (harg9 : arg9.IsWhole) (arg10 : Memref sig .tc .vmem S1024x1024 .bf16) (harg10 : arg10.IsWhole) (i : grid0.Coords) {X : S4096x128.Idx → Elt F .f32} {G : S1024x2048.Idx → Elt F .bf16} {B : S1x1x2048.Idx → Elt F .f32} {Q : _ → sProp 𝕄} :
    iprop(O c arg3 X ∗ O c arg9 G ∗ O c arg5 B)
      ⊢ iprop((iprop(O c arg3 X ∗ O c arg9 G ∗ O c arg5 B) -∗ Q ⟨rows X, k0_pay14 (F := F), gateLo X G B, linLo X G B, k0_pay17 (F := F)⟩) -∗ W c (k0_part1 i arg1 harg1 arg2 harg2 arg3 harg3 arg4 harg4 arg5 harg5 arg6 harg6 arg7 harg7 arg8 harg8 arg9 harg9 arg10 harg10) Q) := by
  unfold rows gateLo linLo
  unfold W
  rw [k0_part1_eq_skeleton]; unfold k0_part1_skel
  iintro ⟨H3, H9, H5⟩ HK
  iapply (load_part 𝒱₀ (c : Thread nD τ) none Set.univ) $$ H3; iintro H3
  iapply (load_part 𝒱₀ (c : Thread nD τ) none Set.univ) $$ H3; iintro H3
  iapply (load_part 𝒱₀ (c : Thread nD τ) none Set.univ) $$ H3; iintro H3
  iapply (load_part 𝒱₀ (c : Thread nD τ) none Set.univ) $$ H3; iintro H3
  iapply (load_part 𝒱₀ (c : Thread nD τ) none Set.univ) $$ H3; iintro H3
  iapply (load_part 𝒱₀ (c : Thread nD τ) none Set.univ) $$ H3; iintro H3
  iapply (load_part 𝒱₀ (c : Thread nD τ) none Set.univ) $$ H3; iintro H3
  iapply (load_part 𝒱₀ (c : Thread nD τ) none Set.univ) $$ H3; iintro H3
  iapply (load_part 𝒱₀ (c : Thread nD τ) none Set.univ) $$ H9; iintro H9
  iapply (load_part 𝒱₀ (c : Thread nD τ) none Set.univ) $$ H5; iintro H5
  iapply (load_part 𝒱₀ (c : Thread nD τ) none Set.univ) $$ H9; iintro H9
  iapply (load_part 𝒱₀ (c : Thread nD τ) none Set.univ) $$ H5; iintro H5
  iapply (le_wp_ret _ _ _ _ _)
  iapply HK
  isplitl [H3]; · iexact H3
  isplitl [H9]; · iexact H9
  iexact H5

/-- The second part: the product with the first half of the second weights, and the second half of the activations. -/
theorem part2_spec (c : Dev nD) (arg1 : Memref sig .tc .smem S292 .i32) (harg1 : arg1.IsWhole) (arg2 : Memref sig .tc .smem S1 .i32) (harg2 : arg2.IsWhole) (arg3 : Memref sig .tc .vmem S4096x128 .f32) (harg3 : arg3.IsWhole) (arg4 : Memref sig .tc .vmem S1x1x1024x2048 .f32) (harg4 : arg4.IsWhole) (arg5 : Memref sig .tc .vmem S1x1x2048 .f32) (harg5 : arg5.IsWhole) (arg6 : Memref sig .tc .vmem S1x1x1024x1024 .f32) (harg6 : arg6.IsWhole) (arg7 : Memref sig .tc .vmem S1x1x1024 .f32) (harg7 : arg7.IsWhole) (arg8 : Memref sig .tc .vmem S4096x128 .f32) (harg8 : arg8.IsWhole) (arg9 : Memref sig .tc .vmem S1024x2048 .bf16) (harg9 : arg9.IsWhole) (arg10 : Memref sig .tc .vmem S1024x1024 .bf16) (harg10 : arg10.IsWhole) (i : grid0.Coords) (v28 : FVec F S512x1024 .bf16) (v29 : FVec F S512x1024 .f32) (v43 : FVec F S512x512 .f32) (v45 : FVec F S512x512 .f32) (v46 : FVec F S512x512 .f32) {G : S1024x2048.Idx → Elt F .bf16} {B : S1x1x2048.Idx → Elt F .f32} {D : S1024x1024.Idx → Elt F .bf16} {Q : _ → sProp 𝕄} :
    iprop(O c arg10 D ∗ O c arg9 G ∗ O c arg5 B)
      ⊢ iprop((iprop(O c arg10 D ∗ O c arg9 G ∗ O c arg5 B) -∗ Q ⟨k0_pay18 v29 v43 v45 v46 (pick (Rect.unit (s := S1024x1024) ![0, 0] S512x1024.size inb_S1024x1024_S512x1024_0_0).toLoadRect D), k0_pay19 v28 (pick (Rect.unit (s := S1024x2048) ![0, 512] S1024x512.size inb_S1024x2048_S1024x512_0_512).toLoadRect G) (pick (Rect.unit (s := S1x1x2048) ![0, 0, 512] S1x1x512.size inb_S1x1x2048_S1x1x512_0_0_512).toLoadRect B) (pick (Rect.unit (s := S1024x2048) ![0, 1536] S1024x512.size inb_S1024x2048_S1024x512_0_1536).toLoadRect G) (pick (Rect.unit (s := S1x1x2048) ![0, 0, 1536] S1x1x512.size inb_S1x1x2048_S1x1x512_0_0_1536).toLoadRect B)⟩) -∗ W c (k0_part2 i arg1 harg1 arg2 harg2 arg3 harg3 arg4 harg4 arg5 harg5 arg6 harg6 arg7 harg7 arg8 harg8 arg9 harg9 arg10 harg10 v28 v29 v43 v45 v46) Q) := by
  unfold W
  rw [k0_part2_eq_skeleton]; unfold k0_part2_skel
  iintro ⟨H10, H9, H5⟩ HK
  iapply (load_part 𝒱₀ (c : Thread nD τ) none Set.univ) $$ H10; iintro H10
  iapply (load_part 𝒱₀ (c : Thread nD τ) none Set.univ) $$ H9; iintro H9
  iapply (load_part 𝒱₀ (c : Thread nD τ) none Set.univ) $$ H5; iintro H5
  iapply (load_part 𝒱₀ (c : Thread nD τ) none Set.univ) $$ H9; iintro H9
  iapply (load_part 𝒱₀ (c : Thread nD τ) none Set.univ) $$ H5; iintro H5
  iapply (le_wp_ret _ _ _ _ _)
  iapply HK
  isplitl [H10]; · iexact H10
  isplitl [H9]; · iexact H9
  iexact H5

/-- The word of a table at the offsets `off`. -/
abbrev wordAt {s : Shape} (T : s.Idx → Elt F .i32) (r : Rect s) (h1 : r.shape.numel = 1) : BitVec 32 :=
  T (r.emb (Shape.Idx.first (h1.symm ▸ Nat.one_pos)))

/-- The number of blocks in use, as the body reads it. -/
abbrev usedWord (N : S1.Idx → Elt F .i32) : BitVec 32 := wordAt (F := F) N (Rect.unit (s := S1) ![0] S1.size inb_S1_S1_0) numel1_S1

/-- The expert of the block `i`, as the body reads it. -/
abbrev ownWord (T : S292.Idx → Elt F .i32) (i : grid0.Coords) : BitVec 32 :=
  wordAt (F := F) T (Rect.unit (s := S292) (k0_off1 i) S1.size (k0_off1_inb i)) numel1_S1

/-- The expert of the block before `i`, as the body reads it. -/
abbrev lastWord (T : S292.Idx → Elt F .i32) (i : grid0.Coords) : BitVec 32 :=
  wordAt (F := F) T (Rect.unit (s := S292) (k0_off2 i) S1.size (k0_off2_inb i)) numel1_S1

/-- The first weights in the scratch buffer while the block `i` runs. -/
def firstW (i : grid0.Coords) (T : S292.Idx → Elt F .i32) (N : S1.Idx → Elt F .i32) (A : S1x1x1024x2048.Idx → Elt F .f32)
    (G : S1024x2048.Idx → Elt F .bf16) : S1024x2048.Idx → Elt F .bf16 :=
  if takes i (usedWord N) (ownWord T i) (lastWord T i) = 1#1 then k0_pay1 A else G

/-- The second weights in the scratch buffer while the block `i` runs. -/
def secondW (i : grid0.Coords) (T : S292.Idx → Elt F .i32) (N : S1.Idx → Elt F .i32) (A : S1x1x1024x1024.Idx → Elt F .f32)
    (D : S1024x1024.Idx → Elt F .bf16) : S1024x1024.Idx → Elt F .bf16 :=
  if takes i (usedWord N) (ownWord T i) (lastWord T i) = 1#1 then k0_pay2 A else D

/-- The block of the result: the feed-forward of the rows where the block is in use, zeros elsewhere. -/
def result (i : grid0.Coords) (N : S1.Idx → Elt F .i32) (X : S4096x128.Idx → Elt F .f32) (G : S1024x2048.Idx → Elt F .bf16)
    (B : S1x1x2048.Idx → Elt F .f32) (D : S1024x1024.Idx → Elt F .bf16) (B' : S1x1x1024.Idx → Elt F .f32) : S4096x128.Idx → Elt F .f32 :=
  if k0_cond2 i (usedWord N) = 1#1 then filled X G B D B' else k0_pay12 (F := F)

/-- The whole body. -/
theorem body_spec (c : Dev nD) (arg1 : Memref sig .tc .smem S292 .i32) (harg1 : arg1.IsWhole) (arg2 : Memref sig .tc .smem S1 .i32) (harg2 : arg2.IsWhole) (arg3 : Memref sig .tc .vmem S4096x128 .f32) (harg3 : arg3.IsWhole) (arg4 : Memref sig .tc .vmem S1x1x1024x2048 .f32) (harg4 : arg4.IsWhole) (arg5 : Memref sig .tc .vmem S1x1x2048 .f32) (harg5 : arg5.IsWhole) (arg6 : Memref sig .tc .vmem S1x1x1024x1024 .f32) (harg6 : arg6.IsWhole) (arg7 : Memref sig .tc .vmem S1x1x1024 .f32) (harg7 : arg7.IsWhole) (arg8 : Memref sig .tc .vmem S4096x128 .f32) (harg8 : arg8.IsWhole) (arg9 : Memref sig .tc .vmem S1024x2048 .bf16) (harg9 : arg9.IsWhole) (arg10 : Memref sig .tc .vmem S1024x1024 .bf16) (harg10 : arg10.IsWhole) (i : grid0.Coords) {X : S4096x128.Idx → Elt F .f32} {A : S1x1x1024x2048.Idx → Elt F .f32} {B : S1x1x2048.Idx → Elt F .f32} {A' : S1x1x1024x1024.Idx → Elt F .f32} {B' : S1x1x1024.Idx → Elt F .f32}
    {Z : S4096x128.Idx → Elt F .f32} {G : S1024x2048.Idx → Elt F .bf16} {D : S1024x1024.Idx → Elt F .bf16} {T : S292.Idx → Elt F .i32} {N : S1.Idx → Elt F .i32}  {Q : _ → sProp 𝕄} :
    iprop(H c arg1 T ∗ H c arg2 N ∗ O c arg3 X ∗ O c arg4 A ∗ O c arg5 B ∗ O c arg6 A' ∗ O c arg7 B' ∗ O c arg8 Z ∗ O c arg9 G ∗ O c arg10 D)
      ⊢ iprop((iprop(H c arg1 T ∗ H c arg2 N ∗ O c arg3 X ∗ O c arg4 A ∗ O c arg5 B ∗ O c arg6 A' ∗ O c arg7 B' ∗ O c arg8 (result i N X (firstW i T N A G) B (secondW i T N A' D) B') ∗ O c arg9 (firstW i T N A G) ∗ O c arg10 (secondW i T N A' D)) -∗ Q ⟨⟩) -∗ W c (cc0_expert_ffn i arg1 harg1 arg2 harg2 arg3 harg3 arg4 harg4 arg5 harg5 arg6 harg6 arg7 harg7 arg8 harg8 arg9 harg9 arg10 harg10) Q) := by
  unfold W
  rw [cc0_expert_ffn_eq_skeleton]; unfold cc0_expert_ffn_skel
  iintro ⟨H1, H2, H3, H4, H5, H6, H7, H8, H9, H10⟩ HK
  obtain ⟨x, rfl⟩ := interleave_self Z
  iapply (load_word 𝒱₀ (c : Thread nD τ) none Set.univ) $$ H2; iintro H2
  iapply (load_word 𝒱₀ (c : Thread nD τ) none Set.univ) $$ H1; iintro H1
  iapply (load_word 𝒱₀ (c : Thread nD τ) none Set.univ) $$ H1; iintro H1
  try dsimp only
  by_cases ht : takes i (usedWord N) (ownWord T i) (lastWord T i) = 1#1
  · rw [show firstW i T N A G = k0_pay1 A from if_pos ht, show secondW i T N A' D = k0_pay2 A' from if_pos ht]
    unfold takes at ht
    rw [if_pos ht]
    iapply (load_all 𝒱₀ (c : Thread nD τ) none Set.univ z4) $$ H4; iintro H4
    iapply (load_all 𝒱₀ (c : Thread nD τ) none Set.univ z2) $$ H9; iintro H9
    iapply (store_all 𝒱₀ (c : Thread nD τ) none Set.univ z2) $$ H9; iintro H9
    iapply (load_all 𝒱₀ (c : Thread nD τ) none Set.univ z4) $$ H6; iintro H6
    iapply (load_all 𝒱₀ (c : Thread nD τ) none Set.univ z2) $$ H10; iintro H10
    iapply (store_all 𝒱₀ (c : Thread nD τ) none Set.univ z2) $$ H10; iintro H10
    by_cases hu : k0_cond2 i (usedWord N) = 1#1
    · have hz : ¬ k0_cond3 i (usedWord N) = 1#1 := fun h => (cond3_iff i _).mp h hu
      rw [dif_pos hu]
      rw [wp_bind]
      iapply (part1_spec c arg1 harg1 arg2 harg2 arg3 harg3 arg4 harg4 arg5 harg5 arg6 harg6 arg7 harg7 arg8 harg8 arg9 harg9 arg10 harg10 i) $$ [H3 H9 H5]
      · isplitl [H3]; · iexact H3
        isplitl [H9]; · iexact H9
        iexact H5
      iintro ⟨H3, H9, H5⟩
      try dsimp only
      rw [wp_bind]
      iapply (part2_spec c arg1 harg1 arg2 harg2 arg3 harg3 arg4 harg4 arg5 harg5 arg6 harg6 arg7 harg7 arg8 harg8 arg9 harg9 arg10 harg10 i _ _ _ _ _) $$ [H10 H9 H5]
      · isplitl [H10]; · iexact H10
        isplitl [H9]; · iexact H9
        iexact H5
      iintro ⟨H10, H9, H5⟩
      try dsimp only
      iapply (load_part 𝒱₀ (c : Thread nD τ) none Set.univ) $$ H10; iintro H10
      iapply (load_all 𝒱₀ (c : Thread nD τ) none Set.univ z3) $$ H7; iintro H7
      iapply (load_part 𝒱₀ (c : Thread nD τ) none Set.univ) $$ H8; iintro H8
      iapply (store_eighths 𝒱₀ (c : Thread nD τ) none Set.univ 0 rfl rfl _) $$ H8; iintro H8
      iapply (load_part 𝒱₀ (c : Thread nD τ) none Set.univ) $$ H8; iintro H8
      iapply (store_eighths 𝒱₀ (c : Thread nD τ) none Set.univ 1 rfl rfl _) $$ H8; iintro H8
      iapply (load_part 𝒱₀ (c : Thread nD τ) none Set.univ) $$ H8; iintro H8
      iapply (store_eighths 𝒱₀ (c : Thread nD τ) none Set.univ 2 rfl rfl _) $$ H8; iintro H8
      iapply (load_part 𝒱₀ (c : Thread nD τ) none Set.univ) $$ H8; iintro H8
      iapply (store_eighths 𝒱₀ (c : Thread nD τ) none Set.univ 3 rfl rfl _) $$ H8; iintro H8
      iapply (load_part 𝒱₀ (c : Thread nD τ) none Set.univ) $$ H8; iintro H8
      iapply (store_eighths 𝒱₀ (c : Thread nD τ) none Set.univ 4 rfl rfl _) $$ H8; iintro H8
      iapply (load_part 𝒱₀ (c : Thread nD τ) none Set.univ) $$ H8; iintro H8
      iapply (store_eighths 𝒱₀ (c : Thread nD τ) none Set.univ 5 rfl rfl _) $$ H8; iintro H8
      iapply (load_part 𝒱₀ (c : Thread nD τ) none Set.univ) $$ H8; iintro H8
      iapply (store_eighths 𝒱₀ (c : Thread nD τ) none Set.univ 6 rfl rfl _) $$ H8; iintro H8
      iapply (load_part 𝒱₀ (c : Thread nD τ) none Set.univ) $$ H8; iintro H8
      iapply (store_eighths 𝒱₀ (c : Thread nD τ) none Set.univ 7 rfl rfl _) $$ H8; iintro H8
      rw [dif_neg hz]
      rw [eight_set]
      simp only [result, if_pos hu]
      iapply (le_wp_ret _ _ _ _ _)
      iapply HK
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · have hz : k0_cond3 i (usedWord N) = 1#1 := (cond3_iff i _).mpr hu
      rw [dif_neg hu]
      rw [dif_pos hz]
      iapply (load_all 𝒱₀ (c : Thread nD τ) none Set.univ z2) $$ H8; iintro H8
      iapply (store_all 𝒱₀ (c : Thread nD τ) none Set.univ z2) $$ H8; iintro H8
      simp only [result, if_neg hu]
      iapply (le_wp_ret _ _ _ _ _)
      iapply HK
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
  · rw [show firstW i T N A G = G from if_neg ht, show secondW i T N A' D = D from if_neg ht]
    unfold takes at ht
    rw [if_neg ht]
    by_cases hu : k0_cond2 i (usedWord N) = 1#1
    · have hz : ¬ k0_cond3 i (usedWord N) = 1#1 := fun h => (cond3_iff i _).mp h hu
      rw [dif_pos hu]
      rw [wp_bind]
      iapply (part1_spec c arg1 harg1 arg2 harg2 arg3 harg3 arg4 harg4 arg5 harg5 arg6 harg6 arg7 harg7 arg8 harg8 arg9 harg9 arg10 harg10 i) $$ [H3 H9 H5]
      · isplitl [H3]; · iexact H3
        isplitl [H9]; · iexact H9
        iexact H5
      iintro ⟨H3, H9, H5⟩
      try dsimp only
      rw [wp_bind]
      iapply (part2_spec c arg1 harg1 arg2 harg2 arg3 harg3 arg4 harg4 arg5 harg5 arg6 harg6 arg7 harg7 arg8 harg8 arg9 harg9 arg10 harg10 i _ _ _ _ _) $$ [H10 H9 H5]
      · isplitl [H10]; · iexact H10
        isplitl [H9]; · iexact H9
        iexact H5
      iintro ⟨H10, H9, H5⟩
      try dsimp only
      iapply (load_part 𝒱₀ (c : Thread nD τ) none Set.univ) $$ H10; iintro H10
      iapply (load_all 𝒱₀ (c : Thread nD τ) none Set.univ z3) $$ H7; iintro H7
      iapply (load_part 𝒱₀ (c : Thread nD τ) none Set.univ) $$ H8; iintro H8
      iapply (store_eighths 𝒱₀ (c : Thread nD τ) none Set.univ 0 rfl rfl _) $$ H8; iintro H8
      iapply (load_part 𝒱₀ (c : Thread nD τ) none Set.univ) $$ H8; iintro H8
      iapply (store_eighths 𝒱₀ (c : Thread nD τ) none Set.univ 1 rfl rfl _) $$ H8; iintro H8
      iapply (load_part 𝒱₀ (c : Thread nD τ) none Set.univ) $$ H8; iintro H8
      iapply (store_eighths 𝒱₀ (c : Thread nD τ) none Set.univ 2 rfl rfl _) $$ H8; iintro H8
      iapply (load_part 𝒱₀ (c : Thread nD τ) none Set.univ) $$ H8; iintro H8
      iapply (store_eighths 𝒱₀ (c : Thread nD τ) none Set.univ 3 rfl rfl _) $$ H8; iintro H8
      iapply (load_part 𝒱₀ (c : Thread nD τ) none Set.univ) $$ H8; iintro H8
      iapply (store_eighths 𝒱₀ (c : Thread nD τ) none Set.univ 4 rfl rfl _) $$ H8; iintro H8
      iapply (load_part 𝒱₀ (c : Thread nD τ) none Set.univ) $$ H8; iintro H8
      iapply (store_eighths 𝒱₀ (c : Thread nD τ) none Set.univ 5 rfl rfl _) $$ H8; iintro H8
      iapply (load_part 𝒱₀ (c : Thread nD τ) none Set.univ) $$ H8; iintro H8
      iapply (store_eighths 𝒱₀ (c : Thread nD τ) none Set.univ 6 rfl rfl _) $$ H8; iintro H8
      iapply (load_part 𝒱₀ (c : Thread nD τ) none Set.univ) $$ H8; iintro H8
      iapply (store_eighths 𝒱₀ (c : Thread nD τ) none Set.univ 7 rfl rfl _) $$ H8; iintro H8
      rw [dif_neg hz]
      rw [eight_set]
      simp only [result, if_pos hu]
      iapply (le_wp_ret _ _ _ _ _)
      iapply HK
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · have hz : k0_cond3 i (usedWord N) = 1#1 := (cond3_iff i _).mpr hu
      rw [dif_neg hu]
      rw [dif_pos hz]
      iapply (load_all 𝒱₀ (c : Thread nD τ) none Set.univ z2) $$ H8; iintro H8
      iapply (store_all 𝒱₀ (c : Thread nD τ) none Set.univ z2) $$ H8; iintro H8
      simp only [result, if_neg hu]
      iapply (le_wp_ret _ _ _ _ _)
      iapply HK
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10

end Cert.Proof.Exp

end
-- ==== Proof.ExpSpec.lean ====
/-
  One token's feed-forward through one expert, over extended reals: a product with the first weights and a bias, a gated
  activation, a product with the second weights and a bias.
-/
module

public import Idealize.ShloMosaic.PureOps.Ideal.Laws
public import Idealize.ShloMosaic.Lib.IdealHost
public import Idealize.ShloMosaic.Lib.ValueIdxCore

@[expose] public section

noncomputable section

namespace Cert.Proof.Exp

open Idealize.ShloMosaic Idealize.ShloMosaic.ValueIdx
open Finset

/-- A gate's place among the first product's columns. -/
def gateCol (f : Fin 1024) : Fin 2048 := ⟨f.val, by omega⟩

/-- A linear part's place among the first product's columns. -/
def linCol (f : Fin 1024) : Fin 2048 := ⟨1024 + f.val, by omega⟩

/-- The first product and its bias, at one column. -/
def hidden (x : Fin 1024 → EReal) (G : Fin 1024 → Fin 2048 → EReal) (B : Fin 2048 → EReal) (f : Fin 2048) : EReal :=
  ∑ d : Fin 1024, x d * G d f + B f

/-- The cap of the gate and of the linear part. -/
def cap : EReal := Ideal.ofBits .f32 0x40E00000#32

/-- The lower bound of the linear part. -/
def floor : EReal := Ideal.ofBits .f32 0xC0E00000#32

/-- The factor inside the gate's logistic function. -/
def slope : EReal := Ideal.ofBits .f32 0x3FD9DB23#32

/-- The gated activation of a gate `g` and a linear part `u`. -/
def activation (g u : EReal) : EReal :=
  min g cap * Ideal.logistic (slope * min g cap) * (min cap (max floor u) + 1)

/-- The feed-forward's hidden activations. -/
def active (x : Fin 1024 → EReal) (G : Fin 1024 → Fin 2048 → EReal) (B : Fin 2048 → EReal) (f : Fin 1024) : EReal :=
  activation (hidden x G B (gateCol f)) (hidden x G B (linCol f))

/-- The feed-forward of the token `x`, at one column of the result. -/
def ffn (x : Fin 1024 → EReal) (G : Fin 1024 → Fin 2048 → EReal) (B : Fin 2048 → EReal) (D : Fin 1024 → Fin 1024 → EReal)
    (B' : Fin 1024 → EReal) (d : Fin 1024) : EReal :=
  ∑ f : Fin 1024, active x G B f * D f d + B' d

/-- A sum of 1024 terms is the sum of its first 512 and of its last 512. -/
theorem sum_halves (t : Fin 1024 → EReal) :
    ∑ f : Fin 1024, t f = ∑ f : Fin 512, t ⟨f.val, by omega⟩ + ∑ f : Fin 512, t ⟨512 + f.val, by omega⟩ :=
  Fin.sum_univ_add (a := 512) (b := 512) t

/-- Where column `d` of token `r` of block `j` lies among the rows of 128. -/
def flat (j : Fin 292) (r : Fin 512) (d : Fin 1024) : (⟨2, ![1196032, 128]⟩ : Shape).Idx :=
  ix2 (⟨j.val * 4096 + (8 * r.val + d.val / 128), by omega⟩ : Fin 1196032) (⟨d.val % 128, by omega⟩ : Fin 128)

/-- The block, the token and the column of a place. -/
def blockOf (i : (⟨2, ![1196032, 128]⟩ : Shape).Idx) : Fin 292 :=
  ⟨(i 0).val / 4096, by have : (i 0).val < 1196032 := (i 0).isLt; omega⟩
def tokenOf (i : (⟨2, ![1196032, 128]⟩ : Shape).Idx) : Fin 512 := ⟨(i 0).val % 4096 / 8, by omega⟩
def colOf (i : (⟨2, ![1196032, 128]⟩ : Shape).Idx) : Fin 1024 :=
  ⟨128 * ((i 0).val % 8) + (i 1).val, by have : (i 1).val < 128 := (i 1).isLt; omega⟩

theorem flat_of (i : (⟨2, ![1196032, 128]⟩ : Shape).Idx) : flat (blockOf i) (tokenOf i) (colOf i) = i := by
  have h1 : (i 1).val < 128 := (i 1).isLt
  funext a; apply Fin.ext
  match a with
  | ⟨0, _⟩ =>
    show (i 0).val / 4096 * 4096 + (8 * ((i 0).val % 4096 / 8) + (128 * ((i 0).val % 8) + (i 1).val) / 128) = (i 0).val
    omega
  | ⟨1, _⟩ => show (128 * ((i 0).val % 8) + (i 1).val) % 128 = (i 1).val; omega

theorem blockOf_flat (j : Fin 292) (r : Fin 512) (d : Fin 1024) : blockOf (flat j r d) = j :=
  Fin.ext (by show (j.val * 4096 + (8 * r.val + d.val / 128)) / 4096 = j.val; omega)
theorem tokenOf_flat (j : Fin 292) (r : Fin 512) (d : Fin 1024) : tokenOf (flat j r d) = r :=
  Fin.ext (by show (j.val * 4096 + (8 * r.val + d.val / 128)) % 4096 / 8 = r.val; omega)
theorem colOf_flat (j : Fin 292) (r : Fin 512) (d : Fin 1024) : colOf (flat j r d) = d :=
  Fin.ext (by show 128 * ((j.val * 4096 + (8 * r.val + d.val / 128)) % 8) + d.val % 128 = d.val; omega)

/-- Token `r` of block `j` through the expert `e` of the layer `l`. -/
def through (l : Fin 4) (X : (⟨2, ![1196032, 128]⟩ : Shape).Idx → EReal) (W₁ : (⟨4, ![4, 32, 1024, 2048]⟩ : Shape).Idx → EReal)
    (B₁ : (⟨3, ![32, 1, 2048]⟩ : Shape).Idx → EReal) (W₂ : (⟨4, ![4, 32, 1024, 1024]⟩ : Shape).Idx → EReal)
    (B₂ : (⟨3, ![32, 1, 1024]⟩ : Shape).Idx → EReal) (e : Fin 32) (j : Fin 292) (r : Fin 512) (d : Fin 1024) : EReal :=
  ffn (fun a => X (flat j r a)) (fun a f => W₁ (ix4 l e a f)) (fun f => B₁ (ix3 e 0 f)) (fun f a => W₂ (ix4 l e f a)) (fun a => B₂ (ix3 e 0 a)) d

end Cert.Proof.Exp

end
-- ==== Proof.ExpPay.lean ====
/-
  A block of the expert kernel's result, over extended reals: every row of a block in use is the feed-forward of its
  token, whatever the buffers' contents.
-/
module

public import proofs.«01_k».proof.Proof.ExpBody
public import proofs.«01_k».proof.Proof.ExpSpec
public import proofs.«01_k».proof.Proof.Tile

@[expose] public section

set_option maxRecDepth 16384

noncomputable section

namespace Cert.Proof.Exp

open Cert.Kernel3Ideal Cert.Kernel3Ideal.Gen Cert.Attn
open Idealize.ShloMosaic
open Idealize.ShloMosaic.TcCoe Idealize.ShloMosaic.ValueIdx
open Finset

/-- Eight pieces of 128 columns side by side. -/
theorem beside_apply {β : Type} (x0 x1 x2 x3 x4 x5 x6 x7 : S512x128.Idx → β)
    (h : Shape.Concatenates [S512x128, S512x128, S512x128, S512x128, S512x128, S512x128, S512x128, S512x128] S512x1024 1)
    (r : Fin 512) (d : Fin 1024) :
    concatenate S512x1024 1 [⟨S512x128, x0⟩, ⟨S512x128, x1⟩, ⟨S512x128, x2⟩, ⟨S512x128, x3⟩, ⟨S512x128, x4⟩, ⟨S512x128, x5⟩,
      ⟨S512x128, x6⟩, ⟨S512x128, x7⟩] h (ix2 r d)
      = (![x0, x1, x2, x3, x4, x5, x6, x7] : Fin 8 → S512x128.Idx → β) ⟨d.val / 128, by omega⟩ (ix2 r (⟨d.val % 128, by omega⟩ : Fin 128)) := by
  refine concatenate_ofFn_apply (t := S512x1024) (s₁ := S512x128) (1 : Fin 2) (![x0, x1, x2, x3, x4, x5, x6, x7] : Fin 8 → S512x128.Idx → β) h
    rfl 128 rfl (ix2 r d) ⟨d.val / 128, by omega⟩ rfl (ix2 r (⟨d.val % 128, by omega⟩ : Fin 128)) rfl ?_
  intro b hb
  match b with
  | ⟨0, _⟩ => rfl
  | ⟨1, _⟩ => exact absurd rfl hb

/-- The place of column `d` of token `r` among a block's rows of 128. -/
def place (r : Fin 512) (d : Fin 1024) : S4096x128.Idx :=
  ix2 (⟨8 * r.val + d.val / 128, by omega⟩ : Fin 4096) (⟨d.val % 128, by omega⟩ : Fin 128)

/-- A token of a block. -/
abbrev token (X : S4096x128.Idx → EReal) (r : Fin 512) : Fin 1024 → EReal := fun d => X (place r d)

/-- The rows of eight taken together are the block's tokens. -/
theorem rows_apply (X : S4096x128.Idx → EReal) (r : Fin 512) (d : Fin 1024) :
    rows (F := Ideal) X (ix2 r d) = token X r d := by
  unfold rows k0_pay13
  refine (beside_apply _ _ _ _ _ _ _ _ concatenates_S512x128_S512x128_S512x128_S512x128_S512x128_S512x128_S512x128_S512x128_S512x1024_d1 r d).trans ?_
  have key : ∀ (g : Fin 8) (inb) (l : Fin 128), pick (eighths ![g.val, 0] inb) X (ix2 r l)
      = X (ix2 (⟨8 * r.val + g.val, by omega⟩ : Fin 4096) l) := by
    intro g inb l
    unfold pick
    refine congrArg X (funext fun a => Fin.ext ?_)
    match a with
    | ⟨0, _⟩ => show g.val + 8 * r.val = 8 * r.val + g.val; omega
    | ⟨1, _⟩ => show 0 + 1 * l.val = l.val; omega
  unfold token place
  generalize hq : (⟨d.val / 128, by omega⟩ : Fin 8) = q
  have hv : d.val / 128 = q.val := congrArg Fin.val hq
  have e : (⟨8 * r.val + d.val / 128, by omega⟩ : Fin 4096) = ⟨8 * r.val + q.val, by omega⟩ := Fin.ext (by show 8 * _ + _ = 8 * _ + _; rw [hv])
  rw [e]
  fin_cases q
  · exact key 0 _ _
  · exact key 1 _ _
  · exact key 2 _ _
  · exact key 3 _ _
  · exact key 4 _ _
  · exact key 5 _ _
  · exact key 6 _ _
  · exact key 7 _ _

/-- A product with a bias added, at one entry. -/
theorem biased_apply {R K N : ℕ} (A : FVec Ideal ⟨2, ![R, K]⟩ .bf16) (W : FVec Ideal ⟨2, ![K, N]⟩ .bf16) (b : FVec Ideal ⟨3, ![1, 1, N]⟩ .f32)
    (h1 : (⟨3, ![1, 1, N]⟩ : Shape).ShapeCasts ⟨2, ![1, N]⟩) (h2 : (⟨2, ![1, N]⟩ : Shape).Broadcasts ⟨2, ![R, N]⟩) (r : Fin R) (f : Fin N) :
    broadcastTo ⟨2, ![R, N]⟩ (shapeCast ⟨2, ![1, N]⟩ b h1) h2 (ix2 r f) = b (ix3 0 0 f) := by
  rw [broadcastTo_apply _ h2 (ix2 r f) (ix2 0 f) (by
    intro a
    match a with
    | ⟨0, _⟩ => rfl
    | ⟨1, _⟩ =>
      show f.val = if N = 1 then 0 else f.val
      split
      · have := f.isLt; omega
      · rfl)]
  exact shapeCast_apply b h1 _ _ (by
    rw [Shape.rowMajor_val_three, Shape.rowMajor_val_two]
    show (0 * 1 + 0) * N + f.val = 0 * N + f.val
    simp)

/-- A product into zeros, at one entry. -/
theorem product_apply {R K N : ℕ} (A : FVec Ideal ⟨2, ![R, K]⟩ .bf16) (W : FVec Ideal ⟨2, ![K, N]⟩ .bf16) (r : Fin R) (f : Fin N) :
    matmul (DotDims.plain R K N) none A W (constant ⟨2, ![R, N]⟩ .f32 0x00000000#32) (ix2 r f)
      = ∑ k : Fin K, A (ix2 r k) * W (ix2 k f) := by
  simp only [matmul]
  rw [Ideal.matmul_plain_apply, constant_apply, Ideal.ofBits_zero_f32, zero_add]

section Block

variable (X : S4096x128.Idx → EReal) (G : S1024x2048.Idx → EReal) (B : S1x1x2048.Idx → EReal) (D : S1024x1024.Idx → EReal)
  (B' : S1x1x1024.Idx → EReal)

/-- The buffers' contents as matrices and vectors. -/
abbrev mat {K N : ℕ} (G : (⟨2, ![K, N]⟩ : Shape).Idx → EReal) : Fin K → Fin N → EReal := fun d f => G (ix2 d f)
abbrev vec {N : ℕ} (B : (⟨3, ![1, 1, N]⟩ : Shape).Idx → EReal) : Fin N → EReal := fun f => B (ix3 0 0 f)

/-- One tile of the first product and its bias: 512 of the columns. -/
theorem tile_apply (A : FVec Ideal S512x1024 .bf16) (x : Fin 1024 → EReal) (r : Fin 512) (hA : ∀ d, A (ix2 r d) = x d) (o : ℕ)
    (i1 : ∀ a, (![0, o] : Fin 2 → ℕ) a + S1024x512.size a ≤ S1024x2048.size a)
    (i2 : ∀ a, (![0, 0, o] : Fin 3 → ℕ) a + S1x1x512.size a ≤ S1x1x2048.size a) (h1 h2) (f : Fin 512) (f' : Fin 2048) (hf : f'.val = o + f.val) :
    addf (matmul (F := Ideal) dot_S512x1024_S1024x512_S512x512_1_0_0_1_n_n none A
        (pick (Rect.unit (s := S1024x2048) ![0, o] S1024x512.size i1).toLoadRect G : FVec Ideal S1024x512 .bf16) (constant S512x512 .f32 0x00000000#32))
      (broadcastTo S512x512 (shapeCast S1x512 (pick (Rect.unit (s := S1x1x2048) ![0, 0, o] S1x1x512.size i2).toLoadRect B : FVec Ideal S1x1x512 .f32) h1) h2)
      (ix2 r f) = hidden x (mat G) (vec B) f' := by
  rw [addf_apply]
  unfold hidden
  refine congrArg₂ (· + ·) ?_ ?_
  · refine (product_apply (R := 512) (K := 1024) (N := 512) A _ r f).trans (Finset.sum_congr rfl fun d _ => ?_)
    rw [hA]
    refine congrArg (x d * ·) ?_
    exact pick_apply (s := S1024x2048) ![0, o] S1024x512.size i1 G (ix2 d f) (ix2 d f') (fun a => match a with
      | ⟨0, _⟩ => (Nat.zero_add _).symm
      | ⟨1, _⟩ => hf)
  · refine (biased_apply (R := 512) (K := 1024) (N := 512) A (fun _ => 0) _ h1 h2 r f).trans ?_
    exact pick_apply (s := S1x1x2048) ![0, 0, o] S1x1x512.size i2 B (ix3 0 0 f) (ix3 0 0 f') (fun a => match a with
      | ⟨0, _⟩ => rfl
      | ⟨1, _⟩ => rfl
      | ⟨2, _⟩ => hf)

theorem gateLo_apply (r : Fin 512) (f : Fin 512) :
    gateLo (F := Ideal) X G B (ix2 r f) = min (hidden (token X r) (mat G) (vec B) (gateCol ⟨f.val, by omega⟩)) cap :=
  congrArg (min · cap) (tile_apply G B (rows X) (token X r) r (fun d => rows_apply X r d) 0 _ _ _ _ f _ (Nat.zero_add _).symm)

theorem linLo_apply (r : Fin 512) (f : Fin 512) :
    linLo (F := Ideal) X G B (ix2 r f) = max floor (hidden (token X r) (mat G) (vec B) (linCol ⟨f.val, by omega⟩)) :=
  congrArg (max floor) (tile_apply G B (rows X) (token X r) r (fun d => rows_apply X r d) 1024 _ _ _ _ f _ rfl)

/-- The activation as the kernel writes it. -/
theorem activation_eq (g u : EReal) :
    min g cap * Ideal.logistic (slope * min g cap) * (min cap (max floor u) + Ideal.ofBits .f32 0x3F800000#32) = activation g u := by
  unfold activation
  rw [Ideal.ofBits_one_f32]

theorem actHi_apply (r : Fin 512) (f : Fin 512) :
    actHi (F := Ideal) X G B (ix2 r f) = active (token X r) (mat G) (vec B) ⟨512 + f.val, by omega⟩ := by
  have hg := tile_apply G B (rows X) (token X r) r (fun d => rows_apply X r d) 512 inb_S1024x2048_S1024x512_0_512 inb_S1x1x2048_S1x1x512_0_0_512
    shapeCasts_S1x1x512_S1x512 broadcasts_S1x512_S512x512 f (gateCol ⟨512 + f.val, by omega⟩) rfl
  have hu := tile_apply G B (rows X) (token X r) r (fun d => rows_apply X r d) 1536 inb_S1024x2048_S1024x512_0_1536 inb_S1x1x2048_S1x1x512_0_0_1536
    shapeCasts_S1x1x512_S1x512 broadcasts_S1x512_S512x512 f (linCol ⟨512 + f.val, by omega⟩) (by show 1024 + (512 + f.val) = _; omega)
  unfold active
  rw [← activation_eq, ← hg, ← hu]
  rfl

theorem outLo_apply (r : Fin 512) (d : Fin 1024) :
    outLo (F := Ideal) X G B D (ix2 r d)
      = ∑ f : Fin 512, active (token X r) (mat G) (vec B) ⟨f.val, by omega⟩ * D (ix2 (⟨f.val, by omega⟩ : Fin 1024) d) := by
  unfold outLo k0_pay18
  dsimp only
  rw [addf_apply]
  refine (congrArg₂ (· + ·) (show k0_pay14 (F := Ideal) (ix2 r d) = 0 from Ideal.ofBits_zero_f32) ?_).trans (zero_add _)
  refine (product_apply (R := 512) (K := 512) (N := 1024) _ _ r d).trans (Finset.sum_congr rfl fun f _ => ?_)
  refine congrArg₂ (· * ·) ?_ ?_
  · unfold active
    rw [← activation_eq]
    have hg := gateLo_apply X G B r f
    have hu := linLo_apply X G B r f
    rw [← hg, ← hu]
    rfl
  · exact pick_apply (s := S1024x1024) ![0, 0] S512x1024.size inb_S1024x1024_S512x1024_0_0 D (ix2 f d) (ix2 (⟨f.val, by omega⟩ : Fin 1024) d) (fun a => match a with
      | ⟨0, _⟩ => (Nat.zero_add _).symm
      | ⟨1, _⟩ => (Nat.zero_add _).symm)

/-- The block's rows of 1024: every one the feed-forward of its token. -/
theorem out_apply (r : Fin 512) (d : Fin 1024) :
    k0_pay3 (F := Ideal) (outLo X G B D) (actHi X G B) (pick (Rect.unit (s := S1024x1024) ![512, 0] S512x1024.size inb_S1024x1024_S512x1024_512_0).toLoadRect D) B' (ix2 r d)
      = ffn (token X r) (mat G) (vec B) (mat D) (vec B') d := by
  unfold k0_pay3 ffn
  dsimp only
  rw [addf_apply, addf_apply, sum_halves]
  refine congrArg₂ (· + ·) (congrArg₂ (· + ·) (outLo_apply X G B D r d) ?_) ?_
  · refine (product_apply (R := 512) (K := 512) (N := 1024) _ _ r d).trans (Finset.sum_congr rfl fun f _ => ?_)
    refine congrArg₂ (· * ·) (actHi_apply X G B r f) ?_
    exact pick_apply (s := S1024x1024) ![512, 0] S512x1024.size inb_S1024x1024_S512x1024_512_0 D (ix2 f d) (ix2 (⟨512 + f.val, by omega⟩ : Fin 1024) d) (fun a => match a with
      | ⟨0, _⟩ => rfl
      | ⟨1, _⟩ => (Nat.zero_add _).symm)
  · exact biased_apply (R := 512) (K := 512) (N := 1024) (fun _ => 0) (fun _ => 0) B' _ _ r d

/-- 128 of the columns. -/
theorem cut_apply {β : Type} (x : S512x1024.Idx → β) (o : ℕ) (h : S512x1024.Slices ![0, o] S512x128) (r : Fin 512) (l : Fin 128) (d : Fin 1024)
    (hd : d.val = o + l.val) : extractStridedSlice S512x128 ![0, o] x h (ix2 r l) = x (ix2 r d) :=
  extractStridedSlice_apply _ _ h _ _ fun a => match a with
    | ⟨0, _⟩ => (Nat.zero_add _).symm
    | ⟨1, _⟩ => hd

/-- Each row of 128 of the block's result. -/
theorem filled_apply (r : Fin 512) (d : Fin 1024) :
    filled (F := Ideal) X G B D B' (place r d) = ffn (token X r) (mat G) (vec B) (mat D) (vec B') d := by
  unfold filled interleave k0_pay4 k0_pay5 k0_pay6 k0_pay7 k0_pay8 k0_pay9 k0_pay10 k0_pay11
  have hi : inClass (place r d) = ix2 r (⟨d.val % 128, by omega⟩ : Fin 128) := by
    funext a; apply Fin.ext
    match a with
    | ⟨0, _⟩ => show (8 * r.val + d.val / 128) / 8 = r.val; omega
    | ⟨1, _⟩ => rfl
  have hc : classOf (place r d) = ⟨d.val / 128, by omega⟩ := Fin.ext (by show (8 * r.val + d.val / 128) % 8 = d.val / 128; omega)
  rw [hi, hc, ← out_apply]
  generalize k0_pay3 (F := Ideal) (outLo X G B D) (actHi X G B) _ B' = Z
  generalize hq : (⟨d.val / 128, by omega⟩ : Fin 8) = q
  have hv : d.val / 128 = q.val := congrArg Fin.val hq
  fin_cases q
  · exact cut_apply Z 0 slices_S512x1024_o0_0_S512x128 r ⟨d.val % 128, by omega⟩ d (by show d.val = 0 + d.val % 128; simp at hv; omega)
  · exact cut_apply Z 128 slices_S512x1024_o0_128_S512x128 r ⟨d.val % 128, by omega⟩ d (by show d.val = 128 + d.val % 128; simp at hv; omega)
  · exact cut_apply Z 256 slices_S512x1024_o0_256_S512x128 r ⟨d.val % 128, by omega⟩ d (by show d.val = 256 + d.val % 128; simp at hv; omega)
  · exact cut_apply Z 384 slices_S512x1024_o0_384_S512x128 r ⟨d.val % 128, by omega⟩ d (by show d.val = 384 + d.val % 128; simp at hv; omega)
  · exact cut_apply Z 512 slices_S512x1024_o0_512_S512x128 r ⟨d.val % 128, by omega⟩ d (by show d.val = 512 + d.val % 128; simp at hv; omega)
  · exact cut_apply Z 640 slices_S512x1024_o0_640_S512x128 r ⟨d.val % 128, by omega⟩ d (by show d.val = 640 + d.val % 128; simp at hv; omega)
  · exact cut_apply Z 768 slices_S512x1024_o0_768_S512x128 r ⟨d.val % 128, by omega⟩ d (by show d.val = 768 + d.val % 128; simp at hv; omega)
  · exact cut_apply Z 896 slices_S512x1024_o0_896_S512x128 r ⟨d.val % 128, by omega⟩ d (by show d.val = 896 + d.val % 128; simp at hv; omega)

end Block

/-- The weights taken into the scratch buffers are the weights. -/
theorem pay1_apply (w : S1x1x1024x2048.Idx → EReal) (d : Fin 1024) (f : Fin 2048) : k0_pay1 (F := Ideal) w (ix2 d f) = w (ix4 0 0 d f) := by
  unfold k0_pay1
  rw [cast_same]
  exact drop_two_apply w _ d f

theorem pay2_apply (w : S1x1x1024x1024.Idx → EReal) (d : Fin 1024) (f : Fin 1024) : k0_pay2 (F := Ideal) w (ix2 d f) = w (ix4 0 0 d f) := by
  unfold k0_pay2
  rw [cast_same]
  exact drop_two_apply w _ d f

end Cert.Proof.Exp

end
-- ==== Proof.ExpLaunch.lean ====
/-
  The expert kernel's launch for any one of the four layers: the printed launch with the layer a variable. The layer is
  only in the two index maps of the weights.
-/
module

public import proofs.«01_k».proof.Kernel3Ideal
public import proofs.«01_k».proof.Proof.Gen.Kernel3Ideal
public import proofs.«01_k».proof.Proof.Gen.Kernel3Ideal.Launch

@[expose] public section

noncomputable section

namespace Cert.Proof.Exp

open Cert.Kernel3Ideal Cert.Kernel3Ideal.Gen
open Idealize.ShloMosaic Idealize.ShloMosaic.TcCoe Idealize.SL.Sem

variable {F : FTy → Type} [FloatOps F] (l : Fin 4)

/-- The layer's block of the first weights, and of the second, that a point fetches. -/
def first4 (pf : pre0.Contents (Elt F)) (i : grid0.Coords) : Fin 4 → Nat := ![l.val, cc0_transform_1 k0_off1_inb numel1_S1 pf i 1, 0, 0]
def second4 (pf : pre0.Contents (Elt F)) (i : grid0.Coords) : Fin 4 → Nat := ![l.val, cc0_transform_3 k0_off1_inb numel1_S1 pf i 1, 0, 0]

/-- The windows' index maps. -/
abbrev ixAt (pf : pre0.Contents (Elt F)) : (w : Fin 6) → grid0.Coords → Fin (spec0 w).shape.rank → Nat := fun
  | 0 => cc0_transform_0 inb_S1_S1_0 numel1_S1 pf | 1 => first4 l pf | 2 => cc0_transform_2 k0_off1_inb numel1_S1 pf
  | 3 => second4 l pf | 4 => cc0_transform_4 k0_off1_inb numel1_S1 pf | 5 => cc0_transform_5
  | ⟨_ + 6, h⟩ => absurd h (Nat.not_lt.2 (Nat.le_add_left _ _))

theorem readsAt : ∀ (pf : pre0.Contents (Elt F)) w (i i' : grid0.Coords), (∀ a, (spec0 w).reads a = true → i a = i' a) → ixAt l pf w i = ixAt l pf w i' := fun pf => fun
  | 0 => hreads0_0 pf
  | 1 => fun i i' h => congrArg (fun f : Fin 4 → Nat => ![l.val, f 1, 0, 0]) (hreads0_1 pf i i' h)
  | 2 => hreads0_2 pf
  | 3 => fun i i' h => congrArg (fun f : Fin 4 → Nat => ![l.val, f 1, 0, 0]) (hreads0_3 pf i i' h)
  | 4 => hreads0_4 pf | 5 => hreads0_5
  | ⟨_ + 6, h⟩ => absurd h (Nat.not_lt.2 (Nat.le_add_left _ _))

/-- The launch's condition on the tables. -/
def okAt (pf : pre0.Contents (Elt F)) : Prop :=
  (∀ i : grid0.Coords, ∃ h : (∀ a, (cc0_transform_0 inb_S1_S1_0 numel1_S1 pf i a + 1) * S4096x128.size a ≤ S1196032x128.size a), EltTy.bits .f32 = 32 ∨ (Rect.block (s := S1196032x128) S4096x128.size (cc0_transform_0 inb_S1_S1_0 numel1_S1 pf i) h).WholeWords (EltTy.packing .f32)) ∧
  (∀ i : grid0.Coords, ∃ h : (∀ a, (first4 l pf i a + 1) * S1x1x1024x2048.size a ≤ S4x32x1024x2048.size a), EltTy.bits .f32 = 32 ∨ (Rect.block (s := S4x32x1024x2048) S1x1x1024x2048.size (first4 l pf i) h).WholeWords (EltTy.packing .f32)) ∧
  (∀ i : grid0.Coords, ∃ h : (∀ a, (cc0_transform_2 k0_off1_inb numel1_S1 pf i a + 1) * S1x1x2048.size a ≤ S32x1x2048.size a), EltTy.bits .f32 = 32 ∨ (Rect.block (s := S32x1x2048) S1x1x2048.size (cc0_transform_2 k0_off1_inb numel1_S1 pf i) h).WholeWords (EltTy.packing .f32)) ∧
  (∀ i : grid0.Coords, ∃ h : (∀ a, (second4 l pf i a + 1) * S1x1x1024x1024.size a ≤ S4x32x1024x1024.size a), EltTy.bits .f32 = 32 ∨ (Rect.block (s := S4x32x1024x1024) S1x1x1024x1024.size (second4 l pf i) h).WholeWords (EltTy.packing .f32)) ∧
  (∀ i : grid0.Coords, ∃ h : (∀ a, (cc0_transform_4 k0_off1_inb numel1_S1 pf i a + 1) * S1x1x1024.size a ≤ S32x1x1024.size a), EltTy.bits .f32 = 32 ∨ (Rect.block (s := S32x1x1024) S1x1x1024.size (cc0_transform_4 k0_off1_inb numel1_S1 pf i) h).WholeWords (EltTy.packing .f32))

instance (pf : pre0.Contents (Elt F)) : Decidable (okAt l pf) := decidable_of_iff' _ (Iff.of_eq (okAt.eq_1 l pf))

theorem inbAt (pf : pre0.Contents (Elt F)) (hok : okAt l pf) : ∀ w (i : grid0.Coords) a, (ixAt l pf w i a + 1) * (spec0 w).size a ≤ (spec0 w).shape.size a := fun
  | 0 => fun i a => (hok.1 i).elim fun h _ => h a | 1 => fun i a => (hok.2.1 i).elim fun h _ => h a | 2 => fun i a => (hok.2.2.1 i).elim fun h _ => h a
  | 3 => fun i a => (hok.2.2.2.1 i).elim fun h _ => h a | 4 => fun i a => (hok.2.2.2.2 i).elim fun h _ => h a | 5 => hinb0_5
  | ⟨_ + 6, h⟩ => absurd h (Nat.not_lt.2 (Nat.le_add_left _ _))

theorem wholeAt (pf : pre0.Contents (Elt F)) (hok : okAt l pf) : ∀ w (i : grid0.Coords), (spec0 w).elt.bits = 32 ∨ (Rect.block (spec0 w).size (ixAt l pf w i) (inbAt l pf hok w i)).WholeWords (spec0 w).elt.packing := fun
  | 0 => fun i => (hok.1 i).elim fun _ h => h | 1 => fun i => (hok.2.1 i).elim fun _ h => h | 2 => fun i => (hok.2.2.1 i).elim fun _ h => h
  | 3 => fun i => (hok.2.2.2.1 i).elim fun _ h => h | 4 => fun i => (hok.2.2.2.2 i).elim fun _ h => h | 5 => hwx0_5
  | ⟨_ + 6, h⟩ => absurd h (Nat.not_lt.2 (Nat.le_add_left _ _))

/-- The launch as a pipeline. -/
abbrev pcfgAt : Pipeline.PCfg sig Λ₀ (Elt F) :=
  Pipeline.PCfg.ofSpecs pre0 grid0 hrank0 (fun _ => grid0.bound) (fun _ _ _ => rfl)
    6 spec0 hcount0 harr0 (ixAt l) (readsAt l) (okAt l) (inbAt l) (wholeAt l) 0 (fun _ _ t s => (t, s)) (fun pf => idle0 pf)
variable {l} in
abbrev cfgAt (a : (pcfgAt (F := F) l).Adm) : Pipeline.Cfg sig Λ₀ := (pcfgAt l).at a
variable {l} in
abbrev winAt (a : (pcfgAt (F := F) l).Adm) : Fin 6 → Pipeline.Window sig grid0 := (cfgAt a).win
abbrev pcfgsAt : Fin 1 → Pipeline.PCfg sig Λ₀ (Elt F) := fun _ => pcfgAt l

/-- The body table, and the program: one call. -/
def defsAt : Defs nD τ sig (Elt F) (Pipeline.Sig Λ₀ (Fin 1) fun p => (pcfgsAt (F := F) l p).Adm) := Pipeline.defs (pcfgsAt l) defs₀
def mainAt : Dev nD → Prog (TpuEff nD τ sig (Elt F) (Pipeline.Sig Λ₀ (Fin 1) fun p => (pcfgsAt (F := F) l p).Adm) .tc) PUnit := fun _ => do
  Prog.lift (.customCall (Pipeline.entry 0) ())
  pure ⟨⟩

/-- What a launch asks. -/
theorem launchAt : Pipeline.PLaunchFacts (nD := nD) (τ := τ) (pcfgsAt (F := F) l) 0 :=
  ⟨fun a => Pipeline.cellOf_injective_of_table (Pipeline.pin (pcfgsAt (F := F) l) a) semTab
    (fun | 0 => rfl | ⟨_ + 1, h⟩ => absurd h (Nat.not_lt.2 (Nat.le_add_left _ _))) semsDistinct semsDisjoint,
    winFacts0, preFacts0, block_pos0, arr_whole0, stage_whole0⟩

end Cert.Proof.Exp

end

end
-- ==== Proof.ExpWords.lean ====
/-
  The words of the two tables of the expert kernel: which blocks are in use, which expert a block has, and the
  condition the launch asks of the tables.
-/
module

public import proofs.«01_k».proof.Proof.ExpBody
public import proofs.«01_k».proof.Proof.ExpLaunch
public import Idealize.ShloMosaic.Lib.WordCmp
public import Idealize.ShloMosaic.Lib.ValueIdx

@[expose] public section

noncomputable section

namespace Cert.Proof.Exp

open Cert.Kernel3Ideal Cert.Kernel3Ideal.Gen Cert.Attn
open Idealize.ShloMosaic
open Idealize.ShloMosaic.ValueIdx
open Idealize.ShloMosaic.TcCoe

variable {F : FTy → Type} [FloatOps F]

/-- The tables name experts below 32 and between one and 292 blocks in use. -/
structure Routed (T : S292.Idx → BitVec 32) (N : S1.Idx → BitVec 32) : Prop where
  expert : ∀ j, (T j).toNat < 32
  some_used : 1 ≤ (N (ix1 (0 : Fin 1))).toNat
  used_le : (N (ix1 (0 : Fin 1))).toNat ≤ 292

theorem point_lt (i : grid0.Coords) : (i 0).val < 292 := (i 0).isLt

theorem coords_val (t : Fin grid0.N) : (grid0.coords t 0).val = t.val := by
  have hN : t.val < 292 := lt_of_lt_of_eq t.isLt N_0
  show t.val / _ % _ = _
  have h1 : grid0.stride 0 = 1 := by decide
  have h2 : grid0.bound 0 = 292 := rfl
  rw [h1, h2]
  omega

theorem usedWord_eq (N : S1.Idx → Elt F .i32) : usedWord (F := F) N = N (ix1 (0 : Fin 1)) :=
  congrArg N (funext fun a => match a with | ⟨0, _⟩ => Subsingleton.elim (α := Fin 1) _ _)

theorem ownWord_eq (T : S292.Idx → Elt F .i32) (i : grid0.Coords) : ownWord (F := F) T i = T (ix1 (i 0 : Fin 292)) := by
  refine congrArg T (funext fun a => Fin.ext ?_)
  match a with
  | ⟨0, _⟩ =>
    have hi := point_lt i
    show (BitVec.ofNat 32 (i 0).val).toNat + 1 * 0 = (i 0).val
    simp only [BitVec.toNat_ofNat]
    omega

theorem lastWord_eq (T : S292.Idx → Elt F .i32) (i i' : grid0.Coords) (h : (i 0).val = (i' 0).val + 1) :
    lastWord (F := F) T i = T (ix1 (i' 0 : Fin 292)) := by
  refine congrArg T (funext fun a => Fin.ext ?_)
  match a with
  | ⟨0, _⟩ =>
    have hi := point_lt i
    have hi' := point_lt i'
    show (IntOp.maxsi (BitVec.ofNat 32 (i 0).val - 1#32) 0#32).toNat + 1 * 0 = (i' 0).val
    have e : BitVec.ofNat 32 (i 0).val - 1#32 = BitVec.ofNat 32 (i' 0).val := by
      apply BitVec.eq_of_toNat_eq
      rw [BitVec.toNat_sub]
      simp only [BitVec.toNat_ofNat]
      omega
    rw [e]
    have hs : (0#32).slt (BitVec.ofNat 32 (i' 0).val) = true ∨ (i' 0).val = 0 := by
      by_cases hz : (i' 0).val = 0
      · exact .inr hz
      · refine .inl ?_
        rw [BitVec.slt_iff_toInt_lt, BitVec.toInt_eq_toNat_of_lt (by simp only [BitVec.toNat_ofNat]; omega),
          BitVec.toInt_eq_toNat_of_lt (by simp only [BitVec.toNat_ofNat]; omega)]
        simp only [BitVec.toNat_ofNat]
        omega
    unfold IntOp.maxsi
    rcases hs with hs | hs
    · rw [if_pos hs]; simp only [BitVec.toNat_ofNat]; omega
    · rw [hs]; rfl

/-- A block is in use when its number is below the number of blocks in use. -/
theorem slt_iff (i : grid0.Coords) (n : BitVec 32) (hn : n.toNat ≤ 292) :
    Scalar.cmpi .slt (BitVec.ofNat 32 (i 0).val) n = 1#1 ↔ (i 0).val < n.toNat := by
  have hi := point_lt i
  show BitVec.ofBool ((BitVec.ofNat 32 (i 0).val).slt n) = 1#1 ↔ _
  have e : (BitVec.ofNat 32 (i 0).val).slt n = decide ((i 0).val < n.toNat) := by
    rw [Bool.eq_iff_iff, BitVec.slt_iff_toInt_lt, BitVec.toInt_eq_toNat_of_lt (by simp only [BitVec.toNat_ofNat]; omega),
      BitVec.toInt_eq_toNat_of_lt (by omega)]
    simp only [BitVec.toNat_ofNat, decide_eq_true_eq]
    omega
  rw [e]
  by_cases h : (i 0).val < n.toNat <;> simp [h]

theorem cond2_iff (i : grid0.Coords) (n : BitVec 32) (hn : n.toNat ≤ 292) : k0_cond2 i n = 1#1 ↔ (i 0).val < n.toNat := by
  rw [← slt_iff i n hn]
  unfold k0_cond2
  dsimp only
  generalize Scalar.cmpi .slt (BitVec.ofNat 32 (i 0).val) n = b
  revert b
  decide

/-- A block in use takes in its weights unless it has a block before it of the same expert. -/
theorem takes_of (i : grid0.Coords) (n e e' : BitVec 32) (hn : n.toNat ≤ 292) (hu : (i 0).val < n.toNat)
    (h : ¬ takes i n e e' = 1#1) : (i 0).val ≠ 0 ∧ e = e' := by
  have hb := (slt_iff i n hn).mpr hu
  have hi := point_lt i
  unfold takes at h
  rw [hb] at h
  constructor
  · intro h0
    apply h
    rw [h0]
    generalize Scalar.cmpi .ne e e' = d
    revert d
    decide
  · by_contra he
    apply h
    have hd : Scalar.cmpi .ne e e' = 1#1 := by
      show BitVec.ofBool (e != e') = 1#1
      rw [bne_iff_ne.mpr he]; rfl
    rw [hd]
    generalize Scalar.cmpi .eq (BitVec.ofNat 32 (i 0).val) 0#32 = d
    revert d
    decide

/-- The block of rows a point fetches. -/
theorem min_eq (i : grid0.Coords) (n : BitVec 32) (h1 : 1 ≤ n.toNat) (hn : n.toNat ≤ 292) :
    (IntOp.minsi (BitVec.ofNat 32 (i 0).val) (n - 1#32)).toNat = min (i 0).val (n.toNat - 1) := by
  have hi := point_lt i
  have e : (n - 1#32).toNat = n.toNat - 1 := by
    rw [BitVec.toNat_sub]
    simp only [BitVec.toNat_ofNat]
    omega
  have e' : (BitVec.ofNat 32 (i 0).val).toNat = (i 0).val := by
    simp only [BitVec.toNat_ofNat]
    omega
  unfold IntOp.minsi
  have hs : (BitVec.ofNat 32 (i 0).val).slt (n - 1#32) = true ↔ (i 0).val < n.toNat - 1 := by
    rw [BitVec.slt_iff_toInt_lt, BitVec.toInt_eq_toNat_of_lt (by omega), BitVec.toInt_eq_toNat_of_lt (by omega), e, e']
    omega
  by_cases h : (i 0).val < n.toNat - 1
  · rw [if_pos (hs.mpr h), e']; omega
  · rw [if_neg (fun h' => h (hs.mp h')), e]; omega

/-- The experts' table and the number of blocks in use. -/
def tblE (pf : pre0.Contents (Elt F)) : S292.Idx → BitVec 32 := pf 0
def tblN (pf : pre0.Contents (Elt F)) : S1.Idx → BitVec 32 := pf 1

/-- The expert of the block `j`, the number of blocks in use. -/
def expertOf (pf : pre0.Contents (Elt F)) (j : Fin 292) : ℕ := (tblE pf (ix1 j)).toNat
def usedOf (pf : pre0.Contents (Elt F)) : ℕ := (tblN pf (ix1 (0 : Fin 1))).toNat

/-- What a point's index maps read off the tables. -/
theorem transform0 (pf : pre0.Contents (Elt F)) (R : Routed (tblE pf) (tblN pf)) (i : grid0.Coords) :
    cc0_transform_0 inb_S1_S1_0 numel1_S1 pf i = ![min (i 0).val (usedOf pf - 1), 0] :=
  (congrArg (fun w : BitVec 32 => ![(IntOp.minsi (BitVec.ofNat 32 (i 0).val) (w - 1#32)).toNat, 0]) (usedWord_eq (F := F) (pf 1))).trans
    (congrArg (fun n : ℕ => ![n, 0]) (min_eq i _ R.some_used R.used_le))
theorem transform1 (l : Fin 4) (pf : pre0.Contents (Elt F)) (i : grid0.Coords) :
    first4 l pf i = ![l.val, expertOf pf (i 0 : Fin 292), 0, 0] :=
  congrArg (fun w : BitVec 32 => ![l.val, w.toNat, 0, 0]) (ownWord_eq (F := F) (pf 0) i)
theorem transform2 (pf : pre0.Contents (Elt F)) (i : grid0.Coords) :
    cc0_transform_2 k0_off1_inb numel1_S1 pf i = ![expertOf pf (i 0 : Fin 292), 0, 0] :=
  congrArg (fun w : BitVec 32 => ![w.toNat, 0, 0]) (ownWord_eq (F := F) (pf 0) i)
theorem transform3 (l : Fin 4) (pf : pre0.Contents (Elt F)) (i : grid0.Coords) :
    second4 l pf i = ![l.val, expertOf pf (i 0 : Fin 292), 0, 0] :=
  congrArg (fun w : BitVec 32 => ![l.val, w.toNat, 0, 0]) (ownWord_eq (F := F) (pf 0) i)
theorem transform4 (pf : pre0.Contents (Elt F)) (i : grid0.Coords) :
    cc0_transform_4 k0_off1_inb numel1_S1 pf i = ![expertOf pf (i 0 : Fin 292), 0, 0] :=
  congrArg (fun w : BitVec 32 => ![w.toNat, 0, 0]) (ownWord_eq (F := F) (pf 0) i)

/-- The launch's condition on the tables: every block lies inside its array. -/
theorem ok_of_routed (l : Fin 4) (pf : pre0.Contents (Elt F)) (R : Routed (tblE pf) (tblN pf)) : okAt l pf := by
  have hl := l.isLt
  have hT : ∀ i : grid0.Coords, expertOf pf (i 0 : Fin 292) < 32 := fun i => R.expert _
  have hU : usedOf pf ≤ 292 := R.used_le
  refine ⟨fun i => ⟨?_, .inl rfl⟩, fun i => ⟨?_, .inl rfl⟩, fun i => ⟨?_, .inl rfl⟩, fun i => ⟨?_, .inl rfl⟩, fun i => ⟨?_, .inl rfl⟩⟩
  · rw [transform0 pf R i]
    intro a
    match a with
    | ⟨0, _⟩ =>
      show (min (i 0).val (usedOf pf - 1) + 1) * 4096 ≤ 1196032
      omega
    | ⟨1, _⟩ => show (0 + 1) * 128 ≤ 128; omega
  · rw [transform1 l pf i]
    intro a
    have := hT i
    match a with
    | ⟨0, _⟩ => show (l.val + 1) * 1 ≤ 4; omega
    | ⟨1, _⟩ => show (expertOf pf (i 0 : Fin 292) + 1) * 1 ≤ 32; omega
    | ⟨2, _⟩ => show (0 + 1) * 1024 ≤ 1024; omega
    | ⟨3, _⟩ => show (0 + 1) * 2048 ≤ 2048; omega
  · rw [transform2 pf i]
    intro a
    have := hT i
    match a with
    | ⟨0, _⟩ => show (expertOf pf (i 0 : Fin 292) + 1) * 1 ≤ 32; omega
    | ⟨1, _⟩ => show (0 + 1) * 1 ≤ 1; omega
    | ⟨2, _⟩ => show (0 + 1) * 2048 ≤ 2048; omega
  · rw [transform3 l pf i]
    intro a
    have := hT i
    match a with
    | ⟨0, _⟩ => show (l.val + 1) * 1 ≤ 4; omega
    | ⟨1, _⟩ => show (expertOf pf (i 0 : Fin 292) + 1) * 1 ≤ 32; omega
    | ⟨2, _⟩ => show (0 + 1) * 1024 ≤ 1024; omega
    | ⟨3, _⟩ => show (0 + 1) * 1024 ≤ 1024; omega
  · rw [transform4 pf i]
    intro a
    have := hT i
    match a with
    | ⟨0, _⟩ => show (expertOf pf (i 0 : Fin 292) + 1) * 1 ≤ 32; omega
    | ⟨1, _⟩ => show (0 + 1) * 1 ≤ 1; omega
    | ⟨2, _⟩ => show (0 + 1) * 1024 ≤ 1024; omega

end Cert.Proof.Exp

end
-- ==== Proof.ExpRun.lean ====
/-
  The run of the expert program: the pipeline's proof data (each input window at its block, the output window at the
  block the body leaves, the scratch buffers at the weights of the last block in use), the body at every point of the
  grid, and the run of the whole program.
-/
module

public import proofs.«01_k».proof.Proof.ExpWords
public import Idealize.ShloMosaic.Lib.Pipeline.Frame
public import Idealize.ShloMosaic.Lib.Pipeline.FrameBody
public import Idealize.ShloMosaic.Lib.Exec

@[expose] public section

noncomputable section

namespace Cert.Proof.Exp

open Cert.Kernel3Ideal Cert.Kernel3Ideal.Gen Cert.Attn
open Idealize.ShloMosaic Idealize.ShloMosaic.TcCoe Idealize.ShloMosaic.Tactic
open Idealize.ShloMosaic.ValueIdx (ix1)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers' contents when the program starts. -/
def V (c : Dev nD) (b : Ref sig .tc) : Buf (Elt F) ((c : Thread nD τ).loc b) := m ((c : Thread nD τ).loc b)

variable {l : Fin 4} (a : (pcfgAt (F := F) l).Adm)

/-- Window `w`'s block at point `t`, read off its array. -/
def iblk (c : Dev nD) (w : Fin 6) (t : Fin grid0.N) : (((cfgAt a).win w).xblock ((cfgAt a).grid.coords t)).Idx → Elt F ((cfgAt a).win w).elt :=
  (((cfgAt a).win w).blk t).view.read (Elt F) (V m c (Pipeline.arrRef spec0 w))

/-- What the windows' staging buffers hold at the point `t`. -/
def xBlk (c : Dev nD) (t : Fin grid0.N) : S4096x128.Idx → Elt F .f32 := iblk m a c 0 t
def w1Blk (c : Dev nD) (t : Fin grid0.N) : S1x1x1024x2048.Idx → Elt F .f32 := iblk m a c 1 t
def b1Blk (c : Dev nD) (t : Fin grid0.N) : S1x1x2048.Idx → Elt F .f32 := iblk m a c 2 t
def w2Blk (c : Dev nD) (t : Fin grid0.N) : S1x1x1024x1024.Idx → Elt F .f32 := iblk m a c 3 t
def b2Blk (c : Dev nD) (t : Fin grid0.N) : S1x1x1024.Idx → Elt F .f32 := iblk m a c 4 t

/-- The block the body leaves at the point `t`. -/
def outBlk (c : Dev nD) (t : Fin grid0.N) : S4096x128.Idx → Elt F .f32 :=
  result (grid0.coords t) (tblN a.1) (xBlk m a c t) (k0_pay1 (w1Blk m a c t)) (b1Blk m a c t) (k0_pay2 (w2Blk m a c t)) (b2Blk m a c t)

/-- Before the point `n`, the scratch buffers hold the rounded weights of the point before it, if that is in use. -/
def Kept (c : Dev nD) (n : ℕ) (G : S1024x2048.Idx → Elt F .bf16) (D : S1024x1024.Idx → Elt F .bf16) : Prop :=
  ∀ t : Fin grid0.N, t.val + 1 = n → t.val < usedOf a.1 → G = k0_pay1 (w1Blk m a c t) ∧ D = k0_pay2 (w2Blk m a c t)

/-- What is carried from point to point: the scratch buffers, the generator's register, the tables. -/
def carried (c : Dev nD) (n : ℕ) : sProp 𝕄 :=
  iprop(∃ (f0 : Buf (Elt F) ((c : Thread nD τ).loc cc0_scratch0)) (f1 : Buf (Elt F) ((c : Thread nD τ).loc cc0_scratch1)), ⌜Kept m a c n f0 f1⌝
    ∗ (((c : Thread nD τ).loc cc0_scratch0) ↦{fullShare} f0) ∗ (((c : Thread nD τ).loc cc0_scratch1) ↦{fullShare} f1)
    ∗ (∃ r, prngReg c r) ∗ Pipeline.ΦT pre0 a.1 c)

/-- The proof data. -/
def dats (_ : Fin 1) (c : Dev nD) : Dat τ (Elt F) Unit ℕ (UR sig nD τ) ℕ (cfgAt a) c where
  A w := V m c (Pipeline.arrRef spec0 w)
  after w t := match w with
    | ⟨0, _⟩ => iblk m a c 0 t
    | ⟨1, _⟩ => iblk m a c 1 t
    | ⟨2, _⟩ => iblk m a c 2 t
    | ⟨3, _⟩ => iblk m a c 3 t
    | ⟨4, _⟩ => iblk m a c 4 t
    | ⟨5, _⟩ => outBlk m a c t
  Φ n := carried m a c n.val
  q _ := fullShare
  owed _ := 0

theorem A_eq (c : Dev nD) (w : Fin 6) : (dats m a 0 c).A w = V m c (Pipeline.arrRef spec0 w) := by dsimp only [dats]
theorem after0_0 (c : Dev nD) (t : Fin grid0.N) : (dats m a 0 c).after 0 t = iblk m a c 0 t := by dsimp only [dats]; rfl
theorem after0_1 (c : Dev nD) (t : Fin grid0.N) : (dats m a 0 c).after 1 t = iblk m a c 1 t := by dsimp only [dats]; rfl
theorem after0_2 (c : Dev nD) (t : Fin grid0.N) : (dats m a 0 c).after 2 t = iblk m a c 2 t := by dsimp only [dats]; rfl
theorem after0_3 (c : Dev nD) (t : Fin grid0.N) : (dats m a 0 c).after 3 t = iblk m a c 3 t := by dsimp only [dats]; rfl
theorem after0_4 (c : Dev nD) (t : Fin grid0.N) : (dats m a 0 c).after 4 t = iblk m a c 4 t := by dsimp only [dats]; rfl
theorem after0_5 (c : Dev nD) (t : Fin grid0.N) : (dats m a 0 c).after 5 t = outBlk m a c t := by dsimp only [dats]; rfl

/-- An input window fetches its block. -/
theorem fetched1 (c : Dev nD) (t : Fin grid0.N) (d) : (dats m a 0 c).fetched 1 t d = iblk m a c 1 t := by
  unfold Dat.fetched Dat.blockOf iblk; rw [A_eq]; try rfl
theorem fetched3 (c : Dev nD) (t : Fin grid0.N) (d) : (dats m a 0 c).fetched 3 t d = iblk m a c 3 t := by
  unfold Dat.fetched Dat.blockOf iblk; rw [A_eq]; try rfl

/-- Each input's staging buffer holds its block when the body runs. -/
theorem before0_0 (c : Dev nD) (t : Fin grid0.N) (d) : (dats m a 0 c).before (0 : Fin 6) t d = xBlk m a c t :=
  ((dats m a 0 c).before_in_eq_fetched 0 rfl (fun _ => rfl) (fun _ _ _ => rfl) (fun t => by rw [after0_0]; unfold Dat.blockOf iblk; rw [A_eq]; try rfl) t d).trans
    (by unfold Dat.fetched Dat.blockOf xBlk iblk; rw [A_eq]; try rfl)
theorem before0_1 (c : Dev nD) (t : Fin grid0.N) (d) : (dats m a 0 c).before (1 : Fin 6) t d = w1Blk m a c t :=
  ((dats m a 0 c).before_in_eq_fetched 1 rfl (fun _ => rfl) (fun _ _ _ => rfl) (fun t => by rw [after0_1]; unfold Dat.blockOf iblk; rw [A_eq]; try rfl) t d).trans
    (by unfold Dat.fetched Dat.blockOf w1Blk iblk; rw [A_eq]; try rfl)
theorem before0_2 (c : Dev nD) (t : Fin grid0.N) (d) : (dats m a 0 c).before (2 : Fin 6) t d = b1Blk m a c t :=
  ((dats m a 0 c).before_in_eq_fetched 2 rfl (fun _ => rfl) (fun _ _ _ => rfl) (fun t => by rw [after0_2]; unfold Dat.blockOf iblk; rw [A_eq]; try rfl) t d).trans
    (by unfold Dat.fetched Dat.blockOf b1Blk iblk; rw [A_eq]; try rfl)
theorem before0_3 (c : Dev nD) (t : Fin grid0.N) (d) : (dats m a 0 c).before (3 : Fin 6) t d = w2Blk m a c t :=
  ((dats m a 0 c).before_in_eq_fetched 3 rfl (fun _ => rfl) (fun _ _ _ => rfl) (fun t => by rw [after0_3]; unfold Dat.blockOf iblk; rw [A_eq]; try rfl) t d).trans
    (by unfold Dat.fetched Dat.blockOf w2Blk iblk; rw [A_eq]; try rfl)
theorem before0_4 (c : Dev nD) (t : Fin grid0.N) (d) : (dats m a 0 c).before (4 : Fin 6) t d = b2Blk m a c t :=
  ((dats m a 0 c).before_in_eq_fetched 4 rfl (fun _ => rfl) (fun _ _ _ => rfl) (fun t => by rw [after0_4]; unfold Dat.blockOf iblk; rw [A_eq]; try rfl) t d).trans
    (by unfold Dat.fetched Dat.blockOf b2Blk iblk; rw [A_eq]; try rfl)

/-- Two points of one expert have the same blocks of weights. -/
theorem w1Blk_congr (c : Dev nD) (t t' : Fin grid0.N) (h : expertOf a.1 (grid0.coords t 0 : Fin 292) = expertOf a.1 (grid0.coords t' 0 : Fin 292)) :
    w1Blk m a c t = w1Blk m a c t' :=
  (fetched1 m a c t (fun _ => Classical.arbitrary _)).symm.trans (((dats m a 0 c).fetched_congr 1
    (((transform1 l a.1 (grid0.coords t)).trans (congrArg (fun n : ℕ => ![l.val, n, 0, 0]) h)).trans (transform1 l a.1 (grid0.coords t')).symm) rfl _).trans
    (fetched1 m a c t' _))
theorem w2Blk_congr (c : Dev nD) (t t' : Fin grid0.N) (h : expertOf a.1 (grid0.coords t 0 : Fin 292) = expertOf a.1 (grid0.coords t' 0 : Fin 292)) :
    w2Blk m a c t = w2Blk m a c t' :=
  (fetched3 m a c t (fun _ => Classical.arbitrary _)).symm.trans (((dats m a 0 c).fetched_congr 3
    (((transform3 l a.1 (grid0.coords t)).trans (congrArg (fun n : ℕ => ![l.val, n, 0, 0]) h)).trans (transform3 l a.1 (grid0.coords t')).symm) rfl _).trans
    (fetched3 m a c t' _))

variable (R : Routed (tblE a.1) (tblN a.1))

include R in
/-- In a block in use the body works with its own expert's rounded weights. -/
theorem weights_in_use (c : Dev nD) (t : Fin grid0.N) (G : S1024x2048.Idx → Elt F .bf16) (D : S1024x1024.Idx → Elt F .bf16)
    (hk : Kept m a c t.val G D) (hu : t.val < usedOf a.1) :
    firstW (grid0.coords t) (tblE a.1) (tblN a.1) (w1Blk m a c t) G = k0_pay1 (w1Blk m a c t)
    ∧ secondW (grid0.coords t) (tblE a.1) (tblN a.1) (w2Blk m a c t) D = k0_pay2 (w2Blk m a c t) := by
  unfold firstW secondW
  by_cases h : takes (grid0.coords t) (usedWord (F := F) (tblN a.1)) (ownWord (F := F) (tblE a.1) (grid0.coords t)) (lastWord (F := F) (tblE a.1) (grid0.coords t)) = 1#1
  · rw [if_pos h, if_pos h]; exact ⟨rfl, rfl⟩
  · rw [if_neg h, if_neg h]
    have e := usedWord_eq (F := F) (tblN a.1)
    obtain ⟨h0, he⟩ := takes_of (grid0.coords t) _ _ _ (by rw [e]; exact R.used_le) (by rw [e, coords_val]; exact hu) h
    rw [coords_val] at h0
    have hp : t.val - 1 < grid0.N := lt_of_le_of_lt (Nat.sub_le _ _) t.isLt
    have hv : (grid0.coords t 0).val = (grid0.coords ⟨t.val - 1, hp⟩ 0).val + 1 := by
      rw [coords_val, coords_val]
      show t.val = t.val - 1 + 1
      omega
    rw [ownWord_eq, lastWord_eq _ _ _ hv] at he
    have hx : expertOf a.1 (grid0.coords t 0 : Fin 292) = expertOf a.1 (grid0.coords ⟨t.val - 1, hp⟩ 0 : Fin 292) := congrArg BitVec.toNat he
    have hk' := hk ⟨t.val - 1, hp⟩ (show t.val - 1 + 1 = t.val by omega) (show t.val - 1 < _ by omega)
    rw [w1Blk_congr m a c t ⟨t.val - 1, hp⟩ hx, w2Blk_congr m a c t ⟨t.val - 1, hp⟩ hx]
    exact hk'

include R in
/-- So the next point finds them, -/
theorem kept_next (c : Dev nD) (t : Fin grid0.N) (G : S1024x2048.Idx → Elt F .bf16) (D : S1024x1024.Idx → Elt F .bf16)
    (hk : Kept m a c t.val G D) :
    Kept m a c (t.val + 1) (firstW (grid0.coords t) (tblE a.1) (tblN a.1) (w1Blk m a c t) G)
      (secondW (grid0.coords t) (tblE a.1) (tblN a.1) (w2Blk m a c t) D) := by
  intro t' ht hu
  obtain rfl : t' = t := Fin.ext (by omega)
  exact weights_in_use m a R c t' G D hk hu

include R in
/-- and the block left is the one the proof data say. -/
theorem result_eq (c : Dev nD) (t : Fin grid0.N) (G : S1024x2048.Idx → Elt F .bf16) (D : S1024x1024.Idx → Elt F .bf16)
    (hk : Kept m a c t.val G D) :
    result (grid0.coords t) (tblN a.1) (xBlk m a c t) (firstW (grid0.coords t) (tblE a.1) (tblN a.1) (w1Blk m a c t) G) (b1Blk m a c t)
      (secondW (grid0.coords t) (tblE a.1) (tblN a.1) (w2Blk m a c t) D) (b2Blk m a c t) = outBlk m a c t := by
  unfold outBlk result
  by_cases h : k0_cond2 (grid0.coords t) (usedWord (F := F) (tblN a.1)) = 1#1
  · have e := usedWord_eq (F := F) (tblN a.1)
    have hu : t.val < usedOf a.1 := by
      have := (cond2_iff (grid0.coords t) _ (by rw [e]; exact R.used_le)).mp h
      rw [coords_val, e] at this
      exact this
    obtain ⟨h1, h2⟩ := weights_in_use m a R c t G D hk hu
    rw [if_pos h, if_pos h, h1, h2]
  · rw [if_neg h, if_neg h]

/-- The tables, one by one. -/
theorem tables_eq (c : Dev nD) : (Pipeline.ΦT pre0 a.1 c : sProp 𝕄) = iprop((((c : Thread nD τ).loc main_arg0) ↦{fullShare.right} tblE a.1) ∗ (((c : Thread nD τ).loc main_arg1) ↦{fullShare.right} tblN a.1)) := by
  unfold Pipeline.ΦT Pipeline.prefHeld
  exact bigSep_univ_eq_bigSepL [(0 : Fin 2), (1 : Fin 2)] (by decide) (by decide) _

/-- The body stores something into the result's window at every point. -/
theorem never_idle (t : Fin grid0.N) : (cfgAt a).idle 5 (grid0.coords t) = false := by
  show (!(k0_cond2 (grid0.coords t) (a.1.atD 1 ![0]) == 1#1) && !(k0_cond3 (grid0.coords t) (a.1.atD 1 ![0]) == 1#1)) = false
  have h := cond3_iff (grid0.coords t) (a.1.atD 1 ![0])
  by_cases h2 : k0_cond2 (grid0.coords t) (a.1.atD 1 ![0]) = 1#1
  · rw [h2]; rfl
  · rw [h.mpr h2]; simp

include R in
/-- The body at every point: the windows, the scratch buffers and the tables are handed to `body_spec`. -/
theorem body_obligation (c : Dev nD) : BodyObligation (dats (F := F) m a 0 c) (defs₀ (F := F)) 𝒱₀ () Set.univ := fun t => by
  rw [bigSep_W0, bigSep_W0]
  have hi : (cfgAt a).idle (5 : Fin 6) ((cfgAt a).grid.coords t) = false := never_idle a t
  rw [hi]
  sl_whnfR [defs₀, Defs.onTc]
  rw [show (dats m a 0 c).Φ t.succ = carried m a c (t.val + 1) from rfl, show (dats m a 0 c).Φ t.castSucc = carried m a c t.val from rfl,
    show (dats m a 0 c).owesAt () t.succ = (dats m a 0 c).owesAt () t.castSucc from rfl, after0_0, after0_1, after0_2, after0_3, after0_4, after0_5]
  unfold carried
  rw [tables_eq]
  iintro ⟨⟨%f0, %f1, %hk, S0, S1, HR, T0, T1⟩, Ho, ⟨%d0, H0⟩, ⟨%d1, H1⟩, ⟨%d2, H2⟩, ⟨%d3, H3⟩, ⟨%d4, H4⟩, ⟨%d5, H5⟩⟩
  rw [before0_0, before0_1, before0_2, before0_3, before0_4]
  iapply (body_spec c _ _ _ _ _ _ _ _ _ _ _ _ _ _ _ _ _ _ _ _ (grid0.coords t)) $$ [S0 S1 T0 T1 H0 H1 H2 H3 H4 H5]
  · isplitl [T0]; · iapply (Entails.of_eq (owns_whole (c : Thread nD τ) main_arg0 fullShare.right (tblE a.1)).symm); iexact T0
    isplitl [T1]; · iapply (Entails.of_eq (owns_whole (c : Thread nD τ) main_arg1 fullShare.right (tblN a.1)).symm); iexact T1
    isplitl [H0]; · iexact H0
    isplitl [H1]; · iexact H1
    isplitl [H2]; · iexact H2
    isplitl [H3]; · iexact H3
    isplitl [H4]; · iexact H4
    isplitl [H5]; · iexact H5
    isplitl [S0]; · iapply (Entails.of_eq (owns_whole (c : Thread nD τ) cc0_scratch0 fullShare f0).symm); iexact S0
    iapply (Entails.of_eq (owns_whole (c : Thread nD τ) cc0_scratch1 fullShare f1).symm); iexact S1
  rw [result_eq m a R c t f0 f1 hk]
  iintro ⟨T0, T1, H0, H1, H2, H3, H4, H5, S0, S1⟩
  isplitl [HR S0 S1 T0 T1]
  · iexists _
    iexists _
    isplitl []
    · ipureintro
      exact kept_next m a R c t f0 f1 hk
    isplitl [S0]; · iapply (Entails.of_eq (owns_whole (c : Thread nD τ) cc0_scratch0 fullShare _)); iexact S0
    isplitl [S1]; · iapply (Entails.of_eq (owns_whole (c : Thread nD τ) cc0_scratch1 fullShare _)); iexact S1
    isplitl [HR]; · iexact HR
    isplitl [T0]; · iapply (Entails.of_eq (owns_whole (c : Thread nD τ) main_arg0 fullShare.right (tblE a.1))); iexact T0
    iapply (Entails.of_eq (owns_whole (c : Thread nD τ) main_arg1 fullShare.right (tblN a.1))); iexact T1
  isplitl [Ho]; · iexact Ho
  isplitl [H0]; · iexact H0
  isplitl [H1]; · iexact H1
  isplitl [H2]; · iexact H2
  isplitl [H3]; · iexact H3
  isplitl [H4]; · iexact H4
  iexact H5

/-- Before the first point nothing is asked of the scratch buffers, -/
theorem carried_first (c : Dev nD) : iprop(Pipeline.ΦA (U := UR sig nD τ) spec0 c ∗ Pipeline.ΦT pre0 a.1 c) ⊢ (carried m a c 0 : sProp 𝕄) := by
  unfold carried Pipeline.ΦA
  rw [scopedRest0_eq]
  iintro ⟨⟨⟨⟨%f0, S0⟩, ⟨%f1, S1⟩⟩, HR⟩, HT⟩
  iexists f0
  iexists f1
  isplitl []
  · ipureintro
    intro t h
    omega
  isplitl [S0]; · iexact S0
  isplitl [S1]; · iexact S1
  isplitl [HR]; · iexact HR
  iexact HT

/-- and after the last the tables are given back. -/
theorem carried_last (c : Dev nD) (n : ℕ) : (carried m a c n : sProp 𝕄) ⊢ Pipeline.ΦA (U := UR sig nD τ) spec0 c := by
  unfold carried Pipeline.ΦA
  rw [scopedRest0_eq]
  iintro ⟨%f0, %f1, %hk, S0, S1, HR, HT⟩
  isplitl [S0 S1]
  · isplitl [S0]; · iexists f0; iexact S0
    iexists f1; iexact S1
  iexact HR

variable (ha : ∀ c k, V m c (pre0.ref k) = a.1 k)

set_option backward.isDefEq.respectTransparency.types false in
include R ha in
/-- From any memory with zero counters whose tables are the ones `a` names, every weakly fair execution of the program
    terminates, every array of the pipeline ends at what the proof data says, and every counter ends at zero. -/
theorem run_main : θ_run (defsAt l) (onTc (τ := τ) (mainAt (F := F) l)) (s₀ m ρ)
    (fun r => Pipeline.FramePost (Pipeline.pin (pcfgsAt l) (fun _ => a)) (dats m a) 0 (V m) r ∧ r.2.sem = fun _ => 0) :=
  Pipeline.θ_run_frameP_track (Q' := _) (pcfgsAt l) (fun _ => a) (dats m a) (0 : Fin 1) (launchAt l) defs₀ 𝒱₀ m ρ (mainAt l)
    (hbody := fun c => (body_obligation m a R c).loose) (hshare := fun c => (dats m a 0 c).share_full fun _ => rfl)
    (howed := fun _ _ => rfl) (V := V m) (hmain := Pipeline.hmainP_region (pcfgsAt l) 0 defs₀ 𝒱₀ m (mainAt l) fun _ => rfl) (hA := A_eq m a) (hpf := ha)
    (hin := fun c => carried_first m a c) (hout := fun c => carried_last m a c _)

end Cert.Proof.Exp

end
-- ==== Proof.ExpFrame.lean ====
/-
  The frames of the expert program, at the bits and at the extended reals: what the precondition says of the two
  tables, one run over any floats, read at the argument arrays.
-/
module

public import proofs.«01_k».proof.Defs
public import proofs.«01_k».proof.Proof.ExpRun
public import proofs.«01_k».proof.Proof.GqaFrame
public import proofs.«01_k».proof.Proof.Gen.Kernel3
public import proofs.«01_k».proof.Proof.Gen.Pre_routed
public import proofs.«01_k».proof.Proof.Gen.Reference3Ideal.Run
public import Idealize.ShloMosaic.Adequacy
public import Idealize.ShloMosaic.Init
public import Idealize.ShloMosaic.Lib.ReduceAll
public import Idealize.ShloMosaic.Lib.WordCmp

@[expose] public section

noncomputable section

namespace Cert.Proof.Exp

open Cert.Kernel3Ideal Cert.Kernel3Ideal.Gen Cert.Attn
open Idealize.ShloMosaic
open Idealize.ShloMosaic.TcCoe Idealize.SL.Sem
open Idealize.ShloMosaic.WordCmp
open Idealize.ShloMosaic.ValueIdx (ix1)
open Idealize.ShloMosaic.Pipeline (Dat)

variable {F : FTy → Type} [FloatOps F]

/-- A word at least 0 and below 32 as a signed number is so as an unsigned one. -/
theorem word_lt (x : BitVec 32) (h0 : IntOp.cmpi .sge x 0#32 = 1#1) (h1 : IntOp.cmpi .slt x 32#32 = 1#1) : x.toNat < 32 := by
  have h0' : (0 : Int) ≤ x.toInt := by
    have := (ofBool_eq_one_iff _).1 h0
    simpa [BitVec.sle] using this
  have h1' : x.toInt < 32 := by
    have := (ofBool_eq_one_iff _).1 h1
    simpa [BitVec.slt] using this
  have := BitVec.toInt_eq_toNat_cond x
  split at this <;> omega

theorem word_between (x : BitVec 32) (h0 : IntOp.cmpi .sge x 1#32 = 1#1) (h1 : IntOp.cmpi .sle x 292#32 = 1#1) : 1 ≤ x.toNat ∧ x.toNat ≤ 292 := by
  have h0' : (1 : Int) ≤ x.toInt := by
    have := (ofBool_eq_one_iff _).1 h0
    simpa [BitVec.sle] using this
  have h1' : x.toInt ≤ 292 := by
    have := (ofBool_eq_one_iff _).1 h1
    simpa [BitVec.sle] using this
  have := BitVec.toInt_eq_toNat_cond x
  split at this <;> omega

/-- What the precondition says of the tables. -/
theorem routed_of_pre [hP : Cert.Pre_routed.Facts] (T : S292.Idx → BitVec 32) (N : S1.Idx → BitVec 32)
    (x : FVec F S1196032x128 .f32) (w1 : FVec F S4x32x1024x2048 .f32) (b1 : FVec F S32x1x2048 .f32) (w2 : FVec F S4x32x1024x1024 .f32)
    (b2 : FVec F S32x1x1024 .f32) (h : Cert.Pre_routed.fn (F := F) T N x w1 b1 w2 b2 = fun _ => 1#1) : Routed T N := by
  haveI : Subsingleton Cert.Pre_routed.S_.Idx := ⟨fun a b => funext fun k => k.elim0⟩
  have hj : ∀ j, _ ∧ _ := fun j => IntOp.andi_eq_one.1 (congrFun h j)
  have hn := IntOp.andi_eq_one.1 (Host.reduce_andi_all _ _ _ _ _ (hj (ix1 (0 : Fin 292))).2 (ix1 (0 : Fin 1)))
  have hb := word_between _ hn.1 hn.2
  exact ⟨fun j => word_lt _ (IntOp.andi_eq_one.1 (hj j).1).1 (IntOp.andi_eq_one.1 (hj j).1).2, hb.1, hb.2⟩

variable (m : (ℓ : Loc nD τ sig) → Buf (Elt F) ℓ) (ρ : Dev nD → PrngReg) (l : Fin 4)

/-- The tables the program reads, on its one device. -/
def tables : pre0.Contents (Elt F) := fun k => V m (0 : Fin 1) (pre0.ref k)

/-- The tables are routed on the device `c`. -/
abbrev RoutedAt (c : Dev nD) : Prop := Routed (m ((c : Thread nD τ).loc main_arg0)) (m ((c : Thread nD τ).loc main_arg1))

theorem routed_tables (R : ∀ c, RoutedAt m c) : Routed (tblE (tables m)) (tblN (tables m)) := R (0 : Fin 1)

/-- The tables, admitted. -/
def adm (R : ∀ c, RoutedAt m c) : (pcfgAt (F := F) l).Adm := ⟨tables m, ok_of_routed l _ (routed_tables m R)⟩

theorem adm_tables (R : ∀ c, RoutedAt m c) (c : Dev nD) (k) : V m c (pre0.ref k) = (adm m l R).1 k := by
  obtain rfl : c = (0 : Fin 1) := Subsingleton.elim _ _
  rfl

/-- The run over any floats. -/
theorem run_any (R : ∀ c, RoutedAt m c) : θ_run (defsAt l) (onTc (τ := τ) (mainAt (F := F) l)) (s₀ m ρ)
    (fun r => Pipeline.FramePost (Pipeline.pin (pcfgsAt l) (fun _ => adm m l R)) (dats m (adm m l R)) 0 (V m) r ∧ r.2.sem = fun _ => 0) :=
  run_main m ρ (adm m l R) (routed_tables m R) (adm_tables m l R)

theorem rest0 : main_arg0 ∈ Pipeline.restRefs sig spec0 := Pipeline.mem_restRefs_of main_arg0 (by decide) (by decide)
theorem rest1 : main_arg1 ∈ Pipeline.restRefs sig spec0 := Pipeline.mem_restRefs_of main_arg1 (by decide) (by decide)

/-- It leaves the arguments as they were, every counter at zero. -/
theorem frame_any (R : ∀ c, RoutedAt m c) : θ_run (defsAt l) (onTc (τ := τ) (mainAt (F := F) l)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run (defsAt l) _ _).mono (fun r h => ⟨fun c =>
    ⟨(h.1 c).2 main_arg0 rest0,
     (h.1 c).2 main_arg1 rest1,
     ((h.1 c).1 (0 : Fin 6)).trans (((dats m (adm m l R) 0 c).arrAt_in (0 : Fin 6) rfl _).trans (A_eq m (adm m l R) c 0)),
     ((h.1 c).1 (1 : Fin 6)).trans (((dats m (adm m l R) 0 c).arrAt_in (1 : Fin 6) rfl _).trans (A_eq m (adm m l R) c 1)),
     ((h.1 c).1 (2 : Fin 6)).trans (((dats m (adm m l R) 0 c).arrAt_in (2 : Fin 6) rfl _).trans (A_eq m (adm m l R) c 2)),
     ((h.1 c).1 (3 : Fin 6)).trans (((dats m (adm m l R) 0 c).arrAt_in (3 : Fin 6) rfl _).trans (A_eq m (adm m l R) c 3)),
     ((h.1 c).1 (4 : Fin 6)).trans (((dats m (adm m l R) 0 c).arrAt_in (4 : Fin 6) rfl _).trans (A_eq m (adm m l R) c 4))⟩, h.2⟩)
    (run_any m ρ l R)

theorem defs_Kernel3Ideal : Cert.Kernel3Ideal.defs (F := F) = defsAt 0 := congrArg (Pipeline.defs (pcfgsAt (F := F) 0)) (rfl : defs₀ = defs₀)

theorem frame_Kernel3Ideal [hP : Cert.Pre_routed.Facts] : Cert.quiescent_Kernel3Ideal := fun m ρ h => by
  rw [defs_Kernel3Ideal]
  exact frame_any m ρ 0 fun c => routed_of_pre _ _ _ _ _ _ _ (h c)

/-- The kernel as printed is the same text: the same body table, -/
theorem defs₀_Kernel3 : (Cert.Kernel3.defs₀ (F := Bits)) = Cert.Kernel3Ideal.defs₀ (F := Bits) := by
  unfold Cert.Kernel3.defs₀ Cert.Kernel3Ideal.defs₀
  congr 1
  funext l a
  match l, a with
  | 0, (t, s) => rfl

theorem defs_Kernel3 : (Cert.Kernel3.defs (F := Bits)) = defsAt 0 :=
  congrArg (Pipeline.defs (pcfgsAt (F := Bits) 0)) defs₀_Kernel3

/-- so its run is the run over any floats, read at the bits. -/
theorem frame_Kernel3 [hP : Cert.Pre_routed.Facts] : Cert.quiescent_Kernel3 := fun m ρ h => by
  rw [defs_Kernel3]
  exact frame_any (F := Bits) m ρ 0 fun c => routed_of_pre _ _ _ _ _ _ _ (h c)

/-- The reference is a line of host operations; it declares no semaphore. -/
theorem frame_Reference3Ideal : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

end Cert.Proof.Exp

end
-- ==== Proof.ExpValue.lean ====
/-
  The expert kernel's result, over extended reals, entry by entry: a block in use is its tokens' feed-forward through the
  block's expert, a block not in use is zeros.
-/
module

public import proofs.«01_k».proof.Proof.ExpPay
public import proofs.«01_k».proof.Proof.ExpFrame
public import Idealize.ShloMosaic.Lib.Pipeline.Covers
public import Idealize.ShloMosaic.Lib.Pipeline.ValueKit

@[expose] public section

set_option maxRecDepth 16384

noncomputable section

namespace Cert.Proof.Exp

open Cert.Kernel3Ideal Cert.Kernel3Ideal.Gen Cert.Attn
open Idealize.ShloMosaic hiding ix0 ix1 ix2 ix3 ix4 ix5
open Idealize.ShloMosaic.TcCoe Idealize.ShloMosaic.ValueIdx Idealize.SL.Sem

variable (m : (ℓ : Loc nD τ sig) → Buf (Elt Ideal) ℓ) {l : Fin 4} (a : (pcfgAt (F := Ideal) l).Adm) (R : Routed (tblE a.1) (tblN a.1)) (c : Dev nD)

/-- A point's block among the 292. -/
def blockAt (t : Fin grid0.N) : Fin 292 := grid0.coords t 0

/-- A block's expert. -/
def expertAt (j : Fin 292) : Fin 32 := ⟨expertOf a.1 j, R.expert _⟩

include R in
/-- A block in use lies at its own place among the tokens. -/
theorem xBlk_apply (t : Fin grid0.N) (hu : (blockAt t).val < usedOf a.1) (r : Fin 512) (d : Fin 1024) :
    xBlk m a c t (place r d) = V m c main_arg2 (flat (blockAt t) r d) := by
  unfold xBlk iblk
  refine congrArg (V m c main_arg2) (funext fun x => Fin.ext ?_)
  refine (Pipeline.Window.rect_emb_val (winAt a 0) t (place r d) x).trans ?_
  show cc0_transform_0 inb_S1_S1_0 numel1_S1 a.1 (grid0.coords t) x * S4096x128.size x + (place r d x).val = _
  rw [transform0 a.1 R]
  have hb : (blockAt t).val = (grid0.coords t 0).val := rfl
  match x with
  | ⟨0, _⟩ =>
    show min (grid0.coords t 0).val (usedOf a.1 - 1) * 4096 + (8 * r.val + d.val / 128) = (blockAt t).val * 4096 + (8 * r.val + d.val / 128)
    rw [← hb, Nat.min_eq_left (by omega)]
  | ⟨1, _⟩ => show 0 * 128 + d.val % 128 = d.val % 128; omega

theorem w1Blk_apply (t : Fin grid0.N) (d : Fin 1024) (f : Fin 2048) :
    w1Blk m a c t (ix4 0 0 d f) = V m c main_arg3 (ix4 l (expertAt a R (blockAt t)) d f) := by
  unfold w1Blk iblk
  refine congrArg (V m c main_arg3) (funext fun x => Fin.ext ?_)
  refine (Pipeline.Window.rect_emb_val (winAt a 1) t (ix4 0 0 d f) x).trans ?_
  show first4 l a.1 (grid0.coords t) x * S1x1x1024x2048.size x + _ = _
  rw [transform1 l a.1]
  match x with
  | ⟨0, _⟩ => exact (Nat.add_zero _).trans (Nat.mul_one _)
  | ⟨1, _⟩ => exact (Nat.add_zero _).trans (Nat.mul_one _)
  | ⟨2, _⟩ => exact (congrArg (· + d.val) (Nat.zero_mul _)).trans (Nat.zero_add _)
  | ⟨3, _⟩ => exact (congrArg (· + f.val) (Nat.zero_mul _)).trans (Nat.zero_add _)

theorem b1Blk_apply (t : Fin grid0.N) (f : Fin 2048) :
    b1Blk m a c t (ix3 0 0 f) = V m c main_arg4 (ix3 (expertAt a R (blockAt t)) 0 f) := by
  unfold b1Blk iblk
  refine congrArg (V m c main_arg4) (funext fun x => Fin.ext ?_)
  refine (Pipeline.Window.rect_emb_val (winAt a 2) t (ix3 0 0 f) x).trans ?_
  show cc0_transform_2 k0_off1_inb numel1_S1 a.1 (grid0.coords t) x * S1x1x2048.size x + _ = _
  rw [transform2 a.1]
  match x with
  | ⟨0, _⟩ => exact (Nat.add_zero _).trans (Nat.mul_one _)
  | ⟨1, _⟩ => rfl
  | ⟨2, _⟩ => exact (congrArg (· + f.val) (Nat.zero_mul _)).trans (Nat.zero_add _)

theorem w2Blk_apply (t : Fin grid0.N) (f : Fin 1024) (d : Fin 1024) :
    w2Blk m a c t (ix4 0 0 f d) = V m c main_arg5 (ix4 l (expertAt a R (blockAt t)) f d) := by
  unfold w2Blk iblk
  refine congrArg (V m c main_arg5) (funext fun x => Fin.ext ?_)
  refine (Pipeline.Window.rect_emb_val (winAt a 3) t (ix4 0 0 f d) x).trans ?_
  show second4 l a.1 (grid0.coords t) x * S1x1x1024x1024.size x + _ = _
  rw [transform3 l a.1]
  match x with
  | ⟨0, _⟩ => exact (Nat.add_zero _).trans (Nat.mul_one _)
  | ⟨1, _⟩ => exact (Nat.add_zero _).trans (Nat.mul_one _)
  | ⟨2, _⟩ => exact (congrArg (· + f.val) (Nat.zero_mul _)).trans (Nat.zero_add _)
  | ⟨3, _⟩ => exact (congrArg (· + d.val) (Nat.zero_mul _)).trans (Nat.zero_add _)

theorem b2Blk_apply (t : Fin grid0.N) (d : Fin 1024) :
    b2Blk m a c t (ix3 0 0 d) = V m c main_arg6 (ix3 (expertAt a R (blockAt t)) 0 d) := by
  unfold b2Blk iblk
  refine congrArg (V m c main_arg6) (funext fun x => Fin.ext ?_)
  refine (Pipeline.Window.rect_emb_val (winAt a 4) t (ix3 0 0 d) x).trans ?_
  show cc0_transform_4 k0_off1_inb numel1_S1 a.1 (grid0.coords t) x * S1x1x1024.size x + _ = _
  rw [transform4 a.1]
  match x with
  | ⟨0, _⟩ => exact (Nat.add_zero _).trans (Nat.mul_one _)
  | ⟨1, _⟩ => rfl
  | ⟨2, _⟩ => exact (congrArg (· + d.val) (Nat.zero_mul _)).trans (Nat.zero_add _)

/-- One entry of the result. -/
def entryAt (j : Fin 292) (r : Fin 512) (d : Fin 1024) : EReal :=
  if j.val < usedOf a.1 then
    through l (V m c main_arg2) (V m c main_arg3) (V m c main_arg4) (V m c main_arg5) (V m c main_arg6) (expertAt a R j) j r d
  else 0

/-- The block left at a point. -/
theorem outBlk_apply (t : Fin grid0.N) (r : Fin 512) (d : Fin 1024) :
    outBlk m a c t (place r d) = entryAt m a R c (blockAt t) r d := by
  unfold outBlk result entryAt
  have e := usedWord_eq (F := Ideal) (tblN a.1)
  have hc := cond2_iff (grid0.coords t) (usedWord (F := Ideal) (tblN a.1)) (by rw [e]; exact R.used_le)
  rw [e] at hc
  rw [e]
  by_cases h : (blockAt t).val < usedOf a.1
  · rw [if_pos h, if_pos (hc.mpr h)]
    refine (filled_apply _ _ _ _ _ r d).trans ?_
    unfold through
    have h1 : token (xBlk m a c t) r = fun x => V m c main_arg2 (flat (blockAt t) r x) := funext fun x => xBlk_apply m a R c t h r x
    have h2 : mat (k0_pay1 (F := Ideal) (w1Blk m a c t)) = fun x f => V m c main_arg3 (ix4 l (expertAt a R (blockAt t)) x f) :=
      funext fun x => funext fun f => (pay1_apply _ x f).trans (w1Blk_apply m a R c t x f)
    have h3 : vec (b1Blk m a c t) = fun f => V m c main_arg4 (ix3 (expertAt a R (blockAt t)) 0 f) := funext fun f => b1Blk_apply m a R c t f
    have h4 : mat (k0_pay2 (F := Ideal) (w2Blk m a c t)) = fun f x => V m c main_arg5 (ix4 l (expertAt a R (blockAt t)) f x) :=
      funext fun f => funext fun x => (pay2_apply _ f x).trans (w2Blk_apply m a R c t f x)
    have h5 : vec (b2Blk m a c t) = fun x => V m c main_arg6 (ix3 (expertAt a R (blockAt t)) 0 x) := funext fun x => b2Blk_apply m a R c t x
    exact congr (congr (congr (congr (congr (congrArg ffn h1) h2) h3) h4) h5) rfl
  · rw [if_neg h, if_neg (fun h' => h (hc.mp h'))]
    exact Ideal.ofBits_zero_f32

theorem transform5 (i : grid0.Coords) : cc0_transform_5 i = ![(i 0).val, 0] := by
  have hi := point_lt i
  show ![(BitVec.ofNat 32 (i 0).val).toNat, 0] = _
  rw [BitVec.toNat_ofNat, Nat.mod_eq_of_lt (by omega)]

/-- Every place of a block is a column of one of its tokens. -/
theorem place_surjective (y : S4096x128.Idx) : ∃ r d, place r d = y := by
  have h0 : (y 0).val < 4096 := (y 0).isLt
  have h1 : (y 1).val < 128 := (y 1).isLt
  refine ⟨⟨(y 0).val / 8, by omega⟩, ⟨128 * ((y 0).val % 8) + (y 1).val, by omega⟩, ?_⟩
  funext x; apply Fin.ext
  match x with
  | ⟨0, _⟩ => show 8 * ((y 0).val / 8) + (128 * ((y 0).val % 8) + (y 1).val) / 128 = (y 0).val; omega
  | ⟨1, _⟩ => show (128 * ((y 0).val % 8) + (y 1).val) % 128 = (y 1).val; omega

/-- A block of the result lies at its own place. -/
theorem emb5 (t : Fin grid0.N) (r : Fin 512) (d : Fin 1024) :
    ((cfgAt a).win 5 |>.blk t).view.emb (place r d) = flat (blockAt t) r d := by
  refine funext fun x => Fin.ext ?_
  refine (Pipeline.Window.rect_emb_val (winAt a 5) t (place r d) x).trans ?_
  show cc0_transform_5 (grid0.coords t) x * S4096x128.size x + (place r d x).val = _
  rw [transform5]
  match x with
  | ⟨0, _⟩ => rfl
  | ⟨1, _⟩ => show 0 * 128 + d.val % 128 = d.val % 128; omega

theorem nblk0 : (winAt a 5).nblk 0 = 292 := by
  have h0 : (winAt a 5).shape.size 0 = 1196032 := rfl
  have h1 : (winAt a 5).size 0 = 4096 := rfl
  unfold Pipeline.Window.nblk
  rw [h0, h1]

theorem nblk1 : (winAt a 5).nblk 1 = 1 := by
  have h0 : (winAt a 5).shape.size 1 = 128 := rfl
  have h1 : (winAt a 5).size 1 = 128 := rfl
  unfold Pipeline.Window.nblk
  rw [h0, h1]

theorem covers5 : (winAt a 5).Covers :=
  (winAt a 5).covers_of_indexMap_surj rfl (fun x => match x with | ⟨0, _⟩ => by show 0 < 4096; omega | ⟨1, _⟩ => by show 0 < 128; omega) fun β => by
    obtain ⟨i, hi⟩ : ∃ i : grid0.Coords, (i 0).val = (β 0).val :=
      ⟨fun x => match x with | ⟨0, _⟩ => ⟨(β 0).val, lt_of_lt_of_eq (β 0).isLt (nblk0 a)⟩, rfl⟩
    refine ⟨i, fun x => ?_⟩
    refine Eq.trans (b := cc0_transform_5 i x) rfl ?_
    rw [transform5]
    match x with
    | ⟨0, _⟩ => exact hi
    | ⟨1, _⟩ =>
      have : (β 1).val < 1 := lt_of_lt_of_eq (β 1).isLt (nblk1 a)
      show 0 = (β 1).val
      omega

/-- The array the run leaves. -/
theorem final_eq : (dats m a 0 c).arrAt (5 : Fin 6) (cfgAt a).N = fun i => entryAt m a R c (blockOf i) (tokenOf i) (colOf i) := by
  refine (dats m a 0 c).arrAt_eq_of_covers (5 : Fin 6) _ (covers5 a) fun t hf y => ?_
  obtain ⟨r, d, rfl⟩ := place_surjective y
  refine Eq.trans ?_ (congrArg (fun i => entryAt m a R c (blockOf i) (tokenOf i) (colOf i)) (emb5 a t r d).symm)
  refine (congrFun (after0_5 m a c t) _).trans ((outBlk_apply m a R c t r d).trans ?_)
  show _ = entryAt m a R c (blockOf (flat _ r d)) (tokenOf (flat _ r d)) (colOf (flat _ r d))
  rw [blockOf_flat, tokenOf_flat, colOf_flat]

end Cert.Proof.Exp

end
-- ==== Proof.ExpRef.lean ====
/-
  The experts' reference, over extended reals, entry by entry: a block in use is its tokens' feed-forward through the
  block's expert, a block not in use is zeros.
-/
module

public import proofs.«01_k».proof.Proof.ExpSpec
public import proofs.«01_k».proof.Proof.Gen.Reference3Ideal
public import proofs.«01_k».proof.Proof.Gen.Reference3Ideal.Run
public import Idealize.ShloMosaic.Lib.StackMember
public import Idealize.ShloMosaic.Lib.WordCmp
public import Idealize.ShloMosaic.Lib.ValueIdx
public import Idealize.ShloMosaic.Lib.Pipeline.Value

@[expose] public section

set_option maxRecDepth 16384

noncomputable section

namespace Cert.Proof.ExpRef

open Cert.Reference3Ideal Cert.Reference3Ideal.Gen Cert.Proof.Exp
open Idealize.ShloMosaic Idealize.ShloMosaic.TcCoe Idealize.ShloMosaic.ValueIdx Idealize.SL.Sem
open Idealize.ShloMosaic.StackMember (dotGeneral_stack_apply)

/-- Members of a stack of matrices taken by number: the number is in range, so it is neither wrapped nor clamped. -/
theorem members_apply {α : Type} {E A B n : ℕ}
    (w : GatherDims.WF ⟨3, ![E, A, B]⟩ ⟨2, ![n, 1]⟩ ⟨3, ![n, A, B]⟩ [1, 2] [0] [] [0] [] 1 ![1, A, B])
    (x : (⟨3, ![E, A, B]⟩ : Shape).Idx → α) (idx : IVec ⟨2, ![n, 1]⟩ 32) (j : Fin n) (y : Fin A) (z : Fin B) (b : Fin E)
    (hb : (idx (ix2 j 0)).toInt.toNat = b.val) :
    Host.gather (⟨[1, 2], [0], [], [], [0], 1, ![1, A, B], w⟩ : GatherDims _ _ _) x idx (ix3 j y z) = x (ix3 b y z) := by
  unfold Host.gather
  refine congrArg x (funext fun a => Fin.ext ?_)
  have hbl := b.isLt
  match a with
  | ⟨0, _⟩ =>
    show min (idx (GatherDims.siIdx (⟨[1, 2], [0], [], [], [0], 1, ![1, A, B], w⟩ : GatherDims _ _ _) (ix3 j y z) ⟨0, Nat.one_pos⟩)).toInt.toNat (E - 1) + 0 + 0 = b.val
    have hs : GatherDims.siIdx (⟨[1, 2], [0], [], [], [0], 1, ![1, A, B], w⟩ : GatherDims ⟨3, ![E, A, B]⟩ ⟨2, ![n, 1]⟩ ⟨3, ![n, A, B]⟩) (ix3 j y z) ⟨0, Nat.one_pos⟩ = ix2 j 0 := by
      funext c; apply Fin.ext
      match c with
      | ⟨0, _⟩ => rfl
      | ⟨1, _⟩ => rfl
    rw [hs, hb]
    omega
  | ⟨1, _⟩ => show 0 + 0 + y.val = y.val; omega
  | ⟨2, _⟩ => show 0 + 0 + z.val = z.val; omega

section

/-- The layer's part of the weights lies inside them. -/
theorem slices₁ (l : Fin 4) : S4x32x1024x2048.Slices ![l.val, 0, 0, 0] S1x32x1024x2048 := by revert l; decide
theorem slices₂ (l : Fin 4) : S4x32x1024x1024.Slices ![l.val, 0, 0, 0] S1x32x1024x1024 := by revert l; decide

variable (l : Fin 4) (T : IVec S292 32) (N : IVec S1 32) (X : FVec Ideal S1196032x128 .f32) (W₁ : FVec Ideal S4x32x1024x2048 .f32) (B₁ : FVec Ideal S32x1x2048 .f32)
  (W₂ : FVec Ideal S4x32x1024x1024 .f32) (B₂ : FVec Ideal S32x1x1024 .f32)

/-- The experts' numbers as the reference looks them up. -/
def numbers : IVec S292x1 32 :=
  broadcastInDim S292x1 ![0] bcast_S292_S292x1_0 (select (cmpi .slt T (broadcastInDim S292 ![] bcast_S_S292 (constantI S_ 32 0#32)))
    (addi T (broadcastInDim S292 ![] bcast_S_S292 (constantI S_ 32 32#32))) T)

/-- Every block's expert's weights and biases. -/
def weights₁ : FVec Ideal S292x1024x2048 .f32 :=
  Host.gather gather_S32x1024x2048_S292x1_S292x1024x2048_12_0_n_n_0_1_110242048
    (shapeCast S32x1024x2048 (extractStridedSlice S1x32x1024x2048 ![l.val, 0, 0, 0] W₁ (slices₁ l)) shapeCasts_S1x32x1024x2048_S32x1024x2048) (numbers T)
def biases₁ : FVec Ideal S292x1x2048 .f32 := Host.gather gather_S32x1x2048_S292x1_S292x1x2048_12_0_n_n_0_1_112048 B₁ (numbers T)
def weights₂ : FVec Ideal S292x1024x1024 .f32 :=
  Host.gather gather_S32x1024x1024_S292x1_S292x1024x1024_12_0_n_n_0_1_110241024
    (shapeCast S32x1024x1024 (extractStridedSlice S1x32x1024x1024 ![l.val, 0, 0, 0] W₂ (slices₂ l)) shapeCasts_S1x32x1024x1024_S32x1024x1024) (numbers T)
def biases₂ : FVec Ideal S292x1x1024 .f32 := Host.gather gather_S32x1x1024_S292x1_S292x1x1024_12_0_n_n_0_1_111024 B₂ (numbers T)

/-- The first product and its bias. -/
def first : FVec Ideal S292x512x2048 .f32 :=
  addf (Host.dotGeneral dot_S292x512x1024_S292x1024x2048_S292x512x2048_2_1_1_2_0_0 none (shapeCast S292x512x1024 X shapeCasts_S1196032x128_S292x512x1024) (weights₁ l T W₁))
    (broadcastInDim S292x512x2048 ![0, 1, 2] bcast_S292x1x2048_S292x512x2048_0_1_2 (biases₁ T B₁))

/-- One number at every entry. -/
abbrev everywhere (b : BitVec 32) : FVec Ideal S292x512x1024 .f32 := broadcastInDim S292x512x1024 ![] bcast_S_S292x512x1024 (constant (F := Ideal) S_ .f32 b)

/-- The gates, capped. -/
def gates (H : FVec Ideal S292x512x2048 .f32) : FVec Ideal S292x512x1024 .f32 :=
  minimumf (extractStridedSlice S292x512x1024 ![0, 0, 0] H slices_S292x512x2048_S292x512x1024_0_0_0) (everywhere 0x40E00000#32)

/-- The gated activation. -/
def activations (H : FVec Ideal S292x512x2048 .f32) : FVec Ideal S292x512x1024 .f32 :=
  mulf (mulf (gates H) (Host.divf (everywhere 0x3F800000#32) (addf (everywhere 0x3F800000#32) (Host.exp (Host.negf (mulf (everywhere 0x3FD9DB23#32) (gates H)))))))
    (addf (minimumf (broadcastInDim S292x512x1024 ![] bcast_S_S292x512x1024 (id (constant (F := Ideal) S_ .f32 0x40E00000#32)))
      (maximumf (broadcastInDim S292x512x1024 ![] bcast_S_S292x512x1024 (id (constant (F := Ideal) S_ .f32 0xC0E00000#32)))
        (extractStridedSlice S292x512x1024 ![0, 0, 1024] H slices_S292x512x2048_S292x512x1024_0_0_1024))) (everywhere 0x3F800000#32))

/-- The second product and its bias. -/
def second (A : FVec Ideal S292x512x1024 .f32) : FVec Ideal S292x512x1024 .f32 :=
  addf (Host.dotGeneral dot_S292x512x1024_S292x1024x1024_S292x512x1024_2_1_1_2_0_0 none A (weights₂ l T W₂))
    (broadcastInDim S292x512x1024 ![0, 1, 2] bcast_S292x1x1024_S292x512x1024_0_1_2 (biases₂ T B₂))

/-- Which entries belong to blocks in use. -/
def inUse : IVec S292x512x1024 1 :=
  broadcastInDim S292x512x1024 ![0, 1, 2] bcast_S292x1x1_S292x512x1024_0_1_2 (broadcastInDim S292x1x1 ![0] bcast_S292_S292x1x1_0
    (cmpi .slt (iotaInDim S292 32 0) (broadcastInDim S292 ![] bcast_S_S292 (shapeCast S_ N shapeCasts_S1_S_))))

/-- The result before its rows are laid out. -/
def blocks : FVec Ideal S292x512x1024 .f32 :=
  select (inUse N) (second l T W₂ B₂ (activations (first l T X W₁ B₁)))
    (broadcastInDim S292x512x1024 ![] bcast_S_S292x512x1024 (id (constant (F := Ideal) S_ .f32 0x00000000#32)))

variable (hT : ∀ j, (T j).toNat < 32)

/-- A block's expert. -/
def expert (j : Fin 292) : Fin 32 := ⟨(T (ix1 j)).toNat, hT _⟩

include hT in
theorem numbers_apply (j : Fin 292) : numbers T (ix2 j 0) = T (ix1 j) := by
  unfold numbers
  refine (broadcastInDim_apply ![0] bcast_S292_S292x1_0 _ (ix2 j 0) (ix1 j) (fun a => match a with | ⟨0, _⟩ => rfl)).trans ?_
  rw [select_apply]
  have h := hT (ix1 j)
  have hz : cmpi .slt T (broadcastInDim S292 ![] bcast_S_S292 (constantI S_ 32 0#32)) (ix1 j) = 0#1 := by
    show IntOp.cmpi .slt (T (ix1 j)) 0#32 = 0#1
    rw [WordCmp.cmpi_slt_of_lt (by norm_num; omega) (by decide)]
    rfl
  rw [hz]
  rfl

theorem numbers_toInt (j : Fin 292) : (numbers T (ix2 j 0)).toInt.toNat = (expert T hT j).val := by
  rw [numbers_apply T hT j, WordCmp.toInt_eq_toNat_of_lt_half (by have := hT (ix1 j); norm_num; omega)]
  rfl

theorem weights₁_apply (j : Fin 292) (d : Fin 1024) (f : Fin 2048) : weights₁ l T W₁ (ix3 j d f) = W₁ (ix4 l (expert T hT j) d f) := by
  unfold weights₁
  refine (members_apply gather_S32x1024x2048_S292x1_S292x1024x2048_12_0_n_n_0_1_110242048_wf _ (numbers T) j d f (expert T hT j) (numbers_toInt T hT j)).trans ?_
  refine (shapeCast_apply _ _ _ (ix4 0 (expert T hT j) d f) ?_).trans ?_
  · rw [Shape.rowMajor_val_four, Shape.rowMajor_val_three]
    show ((0 * 32 + _) * 1024 + d.val) * 2048 + f.val = (_ * 1024 + d.val) * 2048 + f.val
    rw [Nat.zero_mul, Nat.zero_add]
  · exact extractStridedSlice_apply _ _ _ _ _ fun a => match a with
      | ⟨0, _⟩ => rfl
      | ⟨1, _⟩ => (Nat.zero_add _).symm
      | ⟨2, _⟩ => (Nat.zero_add _).symm
      | ⟨3, _⟩ => (Nat.zero_add _).symm

theorem weights₂_apply (j : Fin 292) (d : Fin 1024) (f : Fin 1024) : weights₂ l T W₂ (ix3 j d f) = W₂ (ix4 l (expert T hT j) d f) := by
  unfold weights₂
  refine (members_apply gather_S32x1024x1024_S292x1_S292x1024x1024_12_0_n_n_0_1_110241024_wf _ (numbers T) j d f (expert T hT j) (numbers_toInt T hT j)).trans ?_
  refine (shapeCast_apply _ _ _ (ix4 0 (expert T hT j) d f) ?_).trans ?_
  · rw [Shape.rowMajor_val_four, Shape.rowMajor_val_three]
    show ((0 * 32 + _) * 1024 + d.val) * 1024 + f.val = (_ * 1024 + d.val) * 1024 + f.val
    rw [Nat.zero_mul, Nat.zero_add]
  · exact extractStridedSlice_apply _ _ _ _ _ fun a => match a with
      | ⟨0, _⟩ => rfl
      | ⟨1, _⟩ => (Nat.zero_add _).symm
      | ⟨2, _⟩ => (Nat.zero_add _).symm
      | ⟨3, _⟩ => (Nat.zero_add _).symm

theorem biases₁_apply (j : Fin 292) (f : Fin 2048) : biases₁ T B₁ (ix3 j 0 f) = B₁ (ix3 (expert T hT j) 0 f) :=
  members_apply gather_S32x1x2048_S292x1_S292x1x2048_12_0_n_n_0_1_112048_wf _ (numbers T) j 0 f (expert T hT j) (numbers_toInt T hT j)

theorem biases₂_apply (j : Fin 292) (f : Fin 1024) : biases₂ T B₂ (ix3 j 0 f) = B₂ (ix3 (expert T hT j) 0 f) :=
  members_apply gather_S32x1x1024_S292x1_S292x1x1024_12_0_n_n_0_1_111024_wf _ (numbers T) j 0 f (expert T hT j) (numbers_toInt T hT j)

/-- A bias at every token of its block. -/
theorem bias_apply {n : ℕ} (hn : n ≠ 1) (b : FVec Ideal ⟨3, ![292, 1, n]⟩ .f32) (h : (⟨3, ![292, 1, n]⟩ : Shape).BroadcastsInDim ⟨3, ![292, 512, n]⟩ ![0, 1, 2])
    (j : Fin 292) (r : Fin 512) (f : Fin n) : broadcastInDim ⟨3, ![292, 512, n]⟩ ![0, 1, 2] h b (ix3 j r f) = b (ix3 j 0 f) :=
  broadcastInDim_apply _ h b (ix3 j r f) (ix3 j 0 f) fun a => match a with
    | ⟨0, _⟩ => rfl
    | ⟨1, _⟩ => rfl
    | ⟨2, _⟩ => by show f.val = if n = 1 then 0 else f.val; rw [if_neg hn]

/-- The tokens of a block. -/
theorem tokens_apply (j : Fin 292) (r : Fin 512) (d : Fin 1024) :
    shapeCast S292x512x1024 X shapeCasts_S1196032x128_S292x512x1024 (ix3 j r d) = X (flat j r d) :=
  shapeCast_apply X _ _ _ (by
    rw [Shape.rowMajor_val_two, Shape.rowMajor_val_three]
    show (j.val * 4096 + (8 * r.val + d.val / 128)) * 128 + d.val % 128 = (j.val * 512 + r.val) * 1024 + d.val
    omega)

theorem first_apply (j : Fin 292) (r : Fin 512) (f : Fin 2048) : first l T X W₁ B₁ (ix3 j r f)
    = Exp.hidden (fun a => X (flat j r a)) (fun a f => W₁ (ix4 l (expert T hT j) a f)) (fun f => B₁ (ix3 (expert T hT j) 0 f)) f := by
  unfold first Exp.hidden
  rw [addf_apply]
  refine congrArg₂ (· + ·) ?_ ((bias_apply (by decide) _ _ j r f).trans (biases₁_apply T B₁ hT j f))
  refine (dotGeneral_stack_apply dot_S292x512x1024_S292x1024x2048_S292x512x2048_2_1_1_2_0_0_wf none _ _ j r f).trans (Finset.sum_congr rfl fun d _ => ?_)
  exact congrArg₂ (· * ·) (tokens_apply X j r d) (weights₁_apply l T W₁ hT j d f)

theorem gates_apply (H : FVec Ideal S292x512x2048 .f32) (j : Fin 292) (r : Fin 512) (f : Fin 1024) :
    gates H (ix3 j r f) = min (H (ix3 j r (gateCol f))) cap := by
  unfold gates
  rw [minimumf_apply]
  refine congrArg₂ min ?_ rfl
  exact extractStridedSlice_apply _ _ _ _ _ fun a => match a with
    | ⟨0, _⟩ => (Nat.zero_add _).symm
    | ⟨1, _⟩ => (Nat.zero_add _).symm
    | ⟨2, _⟩ => (Nat.zero_add _).symm

theorem activations_apply (H : FVec Ideal S292x512x2048 .f32) (j : Fin 292) (r : Fin 512) (f : Fin 1024) :
    activations H (ix3 j r f) = activation (H (ix3 j r (gateCol f))) (H (ix3 j r (linCol f))) := by
  have hg := gates_apply H j r f
  have hu : extractStridedSlice S292x512x1024 ![0, 0, 1024] H slices_S292x512x2048_S292x512x1024_0_0_1024 (ix3 j r f) = H (ix3 j r (linCol f)) :=
    extractStridedSlice_apply _ _ _ _ _ fun a => match a with
      | ⟨0, _⟩ => (Nat.zero_add _).symm
      | ⟨1, _⟩ => (Nat.zero_add _).symm
      | ⟨2, _⟩ => rfl
  unfold activation Ideal.logistic
  rw [← hg, ← hu, ← Ideal.ofBits_one_f32]
  rfl

theorem second_apply (A : FVec Ideal S292x512x1024 .f32) (j : Fin 292) (r : Fin 512) (d : Fin 1024) : second l T W₂ B₂ A (ix3 j r d)
    = ∑ f : Fin 1024, A (ix3 j r f) * W₂ (ix4 l (expert T hT j) f d) + B₂ (ix3 (expert T hT j) 0 d) := by
  unfold second
  rw [addf_apply]
  refine congrArg₂ (· + ·) ?_ ((bias_apply (by decide) _ _ j r d).trans (biases₂_apply T B₂ hT j d))
  refine (dotGeneral_stack_apply dot_S292x512x1024_S292x1024x1024_S292x512x1024_2_1_1_2_0_0_wf none _ _ j r d).trans (Finset.sum_congr rfl fun f _ => ?_)
  exact congrArg (A (ix3 j r f) * ·) (weights₂_apply l T W₂ hT j f d)

/-- The comparison with the number of blocks in use. -/
theorem inUse_apply (hN : (N (ix1 0)).toNat ≤ 292) (j : Fin 292) (r : Fin 512) (d : Fin 1024) :
    inUse N (ix3 j r d) = BitVec.ofBool (decide (j.val < (N (ix1 0)).toNat)) := by
  unfold inUse
  refine (broadcastInDim_apply ![0, 1, 2] bcast_S292x1x1_S292x512x1024_0_1_2 _ (ix3 j r d) (ix3 j 0 0) (fun a => match a with
    | ⟨0, _⟩ => rfl
    | ⟨1, _⟩ => rfl
    | ⟨2, _⟩ => rfl)).trans ?_
  refine (broadcastInDim_apply ![0] bcast_S292_S292x1x1_0 _ (ix3 j 0 0) (ix1 j) (fun a => match a with | ⟨0, _⟩ => rfl)).trans ?_
  have hN' : broadcastInDim S292 ![] bcast_S_S292 (shapeCast S_ N shapeCasts_S1_S_) (ix1 j) = N (ix1 0) :=
    congrArg N (funext fun a => match a with | ⟨0, _⟩ => Subsingleton.elim (α := Fin 1) _ _)
  show IntOp.cmpi .slt (BitVec.ofNat 32 j.val) (broadcastInDim S292 ![] bcast_S_S292 (shapeCast S_ N shapeCasts_S1_S_) (ix1 j)) = _
  have hj : (BitVec.ofNat 32 j.val).toNat = j.val := WordCmp.toNat_ofNat_of_lt (by omega)
  rw [hN', WordCmp.cmpi_slt_of_lt (by rw [hj]; norm_num; omega) (by norm_num; omega), hj]

/-- The result of the reference. -/
theorem res_apply (hN : (N (ix1 0)).toNat ≤ 292) (j : Fin 292) (r : Fin 512) (d : Fin 1024) :
    shapeCast S1196032x128 (blocks l T N X W₁ B₁ W₂ B₂) shapeCasts_S292x512x1024_S1196032x128 (flat j r d)
      = if j.val < (N (ix1 0)).toNat then through l X W₁ B₁ W₂ B₂ (expert T hT j) j r d else 0 := by
  refine (shapeCast_apply _ _ _ (ix3 j r d) (by
    rw [Shape.rowMajor_val_two, Shape.rowMajor_val_three]
    show (j.val * 512 + r.val) * 1024 + d.val = (j.val * 4096 + (8 * r.val + d.val / 128)) * 128 + d.val % 128
    omega)).trans ?_
  unfold blocks
  rw [select_apply, inUse_apply N hN]
  by_cases h : j.val < (N (ix1 0)).toNat
  · rw [if_pos h, decide_eq_true h]
    refine (second_apply l T W₂ B₂ hT _ j r d).trans ?_
    unfold through ffn active
    refine congrArg₂ (· + ·) (Finset.sum_congr rfl fun f _ => ?_) rfl
    refine congrArg (· * W₂ (ix4 l (expert T hT j) f d)) ((activations_apply _ j r f).trans ?_)
    rw [first_apply l T X W₁ B₁ hT, first_apply l T X W₁ B₁ hT]
  · rw [if_neg h, decide_eq_false h]
    exact Ideal.ofBits_zero_f32

end

end Cert.Proof.ExpRef

end
-- ==== Proof.ExpClaim.lean ====
/-
  The expert kernel and its reference leave the same result: both leave, for each block in use, its tokens put through the
  block's expert, and zero in the blocks past the last one in use.
-/
module

public import proofs.«01_k».proof.Proof.ExpValue
public import proofs.«01_k».proof.Proof.ExpRef

@[expose] public section

set_option maxRecDepth 16384

noncomputable section

namespace Cert.Proof.Exp

open Cert.Attn
open Idealize.ShloMosaic hiding ix0 ix1 ix2 ix3 ix4 ix5
open Idealize.ShloMosaic.TcCoe Idealize.ShloMosaic.ValueIdx Idealize.SL.Sem

variable (l : Fin 4) (m : (ℓ : Loc Cert.Kernel3Ideal.nD Cert.Kernel3Ideal.τ Cert.Kernel3Ideal.sig) → Buf (Elt Ideal) ℓ) (R : ∀ c, RoutedAt m c)

/-- The result of the layer's experts. -/
def resultOf (c : Dev Cert.Kernel3Ideal.nD) (i : Cert.Kernel3Ideal.S1196032x128.Idx) : EReal :=
  entryAt m (adm m l R) (routed_tables m R) c (blockOf i) (tokenOf i) (colOf i)

/-- The kernel leaves it, and its arguments as they were. -/
theorem kernel_result (g : Dev Cert.Kernel3Ideal.nD → PrngReg) :
    θ_run (defsAt l) (onTc (τ := Cert.Kernel3Ideal.τ) (mainAt (F := Ideal) l)) ⟨m, fun _ => 0, g⟩ (fun r => ∀ c : Dev Cert.Kernel3Ideal.nD,
      r.2.mem ((c.tc : Thread Cert.Kernel3Ideal.nD Cert.Kernel3Ideal.τ).loc Cert.Kernel3Ideal.main_v0) = resultOf l m R c
      ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)) := by
  refine (θ_run (defsAt l) _ _).mono (fun r h c => ?_) (θ_run_and (run_any (F := Ideal) m g l R) (frame_any (F := Ideal) m g l R))
  obtain ⟨⟨hpost, _⟩, hframe, _⟩ := h
  exact ⟨(hpost.out_eq c (5 : Fin 6)).trans (final_eq m (adm m l R) (routed_tables m R) c), hframe c⟩

/-- The reference's text, from the kernel's arguments, is it. -/
theorem reference_result (c : Dev Cert.Kernel3Ideal.nD) {T N X W₁ B₁ W₂ B₂}
    (e : T = m ((c.tc : Thread Cert.Kernel3Ideal.nD Cert.Kernel3Ideal.τ).loc Cert.Kernel3Ideal.main_arg0)
      ∧ N = m ((c.tc : Thread Cert.Kernel3Ideal.nD Cert.Kernel3Ideal.τ).loc Cert.Kernel3Ideal.main_arg1)
      ∧ X = m ((c.tc : Thread Cert.Kernel3Ideal.nD Cert.Kernel3Ideal.τ).loc Cert.Kernel3Ideal.main_arg2)
      ∧ W₁ = m ((c.tc : Thread Cert.Kernel3Ideal.nD Cert.Kernel3Ideal.τ).loc Cert.Kernel3Ideal.main_arg3)
      ∧ B₁ = m ((c.tc : Thread Cert.Kernel3Ideal.nD Cert.Kernel3Ideal.τ).loc Cert.Kernel3Ideal.main_arg4)
      ∧ W₂ = m ((c.tc : Thread Cert.Kernel3Ideal.nD Cert.Kernel3Ideal.τ).loc Cert.Kernel3Ideal.main_arg5)
      ∧ B₂ = m ((c.tc : Thread Cert.Kernel3Ideal.nD Cert.Kernel3Ideal.τ).loc Cert.Kernel3Ideal.main_arg6)) :
    shapeCast Cert.Reference3Ideal.S1196032x128 (ExpRef.blocks l T N X W₁ B₁ W₂ B₂) Cert.Reference3Ideal.Gen.shapeCasts_S292x512x1024_S1196032x128 = resultOf l m R c := by
  obtain ⟨rfl, rfl, rfl, rfl, rfl, rfl, rfl⟩ := e
  obtain rfl : c = (0 : Fin 1) := Subsingleton.elim _ _
  funext i
  obtain ⟨j, r, d, rfl⟩ : ∃ j r d, flat j r d = i := ⟨_, _, _, flat_of i⟩
  refine (ExpRef.res_apply l _ _ _ _ _ _ _ (fun j => (routed_tables m R).expert j) (routed_tables m R).used_le j r d).trans ?_
  unfold resultOf
  rw [blockOf_flat, tokenOf_flat, colOf_flat]
  rfl

theorem algebraic_Kernel3Ideal [hP : Cert.Pre_routed.Facts] : Cert.algebraic_Kernel3Ideal_Reference3Ideal := by
  intro m g m' g' hpre hargs
  have R : ∀ c, RoutedAt m c := fun c => routed_of_pre _ _ _ _ _ _ _ (hpre c)
  refine ⟨resultOf 0 m R, ?_, ?_⟩
  · rw [defs_Kernel3Ideal]
    exact kernel_result 0 m R g
  · refine (θ_run Cert.Reference3Ideal.defs _ _).mono (fun r h c => ⟨(h c).1.trans ?_, (h c).2⟩) (Cert.Reference3Ideal.Value.run (F := Ideal) m' g')
    refine Eq.trans ?_ (reference_result 0 m R c (hargs c))
    unfold Cert.Reference3Ideal.Value.res_main_v62
    rfl

end Cert.Proof.Exp

end

end
-- ==== Proof.ExpLayers.lean ====
/-
  The expert kernel at the other three layers: each printed program is the launch at its layer, so its frames and its
  result are the ones of any layer.
-/
module

public import proofs.«01_k».proof.Proof.ExpClaim
public import proofs.«01_k».proof.Proof.Gen.Kernel4
public import proofs.«01_k».proof.Proof.Gen.Kernel4Ideal
public import proofs.«01_k».proof.Proof.Gen.Reference4Ideal
public import proofs.«01_k».proof.Proof.Gen.Reference4Ideal.Run
public import proofs.«01_k».proof.Proof.Gen.Kernel5
public import proofs.«01_k».proof.Proof.Gen.Kernel5Ideal
public import proofs.«01_k».proof.Proof.Gen.Reference5Ideal
public import proofs.«01_k».proof.Proof.Gen.Reference5Ideal.Run
public import proofs.«01_k».proof.Proof.Gen.Kernel6
public import proofs.«01_k».proof.Proof.Gen.Kernel6Ideal
public import proofs.«01_k».proof.Proof.Gen.Reference6Ideal
public import proofs.«01_k».proof.Proof.Gen.Reference6Ideal.Run

@[expose] public section

set_option maxRecDepth 16384

noncomputable section

namespace Cert.Proof.Exp

open Idealize.ShloMosaic Idealize.ShloMosaic.TcCoe Idealize.SL.Sem

variable {F : FTy → Type} [FloatOps F]

/-! ## The second layer -/

theorem defs₀_Kernel4Ideal : Cert.Kernel4Ideal.defs₀ (F := F) = Cert.Kernel3Ideal.defs₀ := by
  unfold Cert.Kernel4Ideal.defs₀ Cert.Kernel3Ideal.defs₀
  congr 1
  funext l a
  match l, a with
  | 0, (t, s) => rfl
theorem defs_Kernel4Ideal : Cert.Kernel4Ideal.defs (F := F) = defsAt 1 := congrArg (Pipeline.defs (pcfgsAt (F := F) 1)) defs₀_Kernel4Ideal

theorem defs₀_Kernel4 : Cert.Kernel4.defs₀ (F := Bits) = Cert.Kernel3Ideal.defs₀ := by
  unfold Cert.Kernel4.defs₀ Cert.Kernel3Ideal.defs₀
  congr 1
  funext l a
  match l, a with
  | 0, (t, s) => rfl
theorem defs_Kernel4 : Cert.Kernel4.defs (F := Bits) = defsAt 1 := congrArg (Pipeline.defs (pcfgsAt (F := Bits) 1)) defs₀_Kernel4

theorem frame_Kernel4 [hP : Cert.Pre_routed.Facts] : Cert.quiescent_Kernel4 := fun m ρ h => by
  rw [defs_Kernel4]
  exact frame_any (F := Bits) m ρ 1 fun c => routed_of_pre _ _ _ _ _ _ _ (h c)

theorem frame_Kernel4Ideal [hP : Cert.Pre_routed.Facts] : Cert.quiescent_Kernel4Ideal := fun m ρ h => by
  rw [defs_Kernel4Ideal]
  exact frame_any m ρ 1 fun c => routed_of_pre _ _ _ _ _ _ _ (h c)

theorem frame_Reference4Ideal : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem algebraic_Kernel4Ideal [hP : Cert.Pre_routed.Facts] : Cert.algebraic_Kernel4Ideal_Reference4Ideal := by
  intro m g m' g' hpre hargs
  have R : ∀ c, RoutedAt m c := fun c => routed_of_pre _ _ _ _ _ _ _ (hpre c)
  refine ⟨resultOf 1 m R, ?_, ?_⟩
  · rw [defs_Kernel4Ideal]
    exact kernel_result 1 m R g
  · refine (θ_run Cert.Reference4Ideal.defs _ _).mono (fun r h c => ⟨(h c).1.trans ?_, (h c).2⟩) (Cert.Reference4Ideal.Value.run (F := Ideal) m' g')
    refine Eq.trans ?_ (reference_result 1 m R c (hargs c))
    unfold Cert.Reference4Ideal.Value.res_main_v62
    rfl

/-! ## The third layer -/

theorem defs₀_Kernel5Ideal : Cert.Kernel5Ideal.defs₀ (F := F) = Cert.Kernel3Ideal.defs₀ := by
  unfold Cert.Kernel5Ideal.defs₀ Cert.Kernel3Ideal.defs₀
  congr 1
  funext l a
  match l, a with
  | 0, (t, s) => rfl
theorem defs_Kernel5Ideal : Cert.Kernel5Ideal.defs (F := F) = defsAt 2 := congrArg (Pipeline.defs (pcfgsAt (F := F) 2)) defs₀_Kernel5Ideal

theorem defs₀_Kernel5 : Cert.Kernel5.defs₀ (F := Bits) = Cert.Kernel3Ideal.defs₀ := by
  unfold Cert.Kernel5.defs₀ Cert.Kernel3Ideal.defs₀
  congr 1
  funext l a
  match l, a with
  | 0, (t, s) => rfl
theorem defs_Kernel5 : Cert.Kernel5.defs (F := Bits) = defsAt 2 := congrArg (Pipeline.defs (pcfgsAt (F := Bits) 2)) defs₀_Kernel5

theorem frame_Kernel5 [hP : Cert.Pre_routed.Facts] : Cert.quiescent_Kernel5 := fun m ρ h => by
  rw [defs_Kernel5]
  exact frame_any (F := Bits) m ρ 2 fun c => routed_of_pre _ _ _ _ _ _ _ (h c)

theorem frame_Kernel5Ideal [hP : Cert.Pre_routed.Facts] : Cert.quiescent_Kernel5Ideal := fun m ρ h => by
  rw [defs_Kernel5Ideal]
  exact frame_any m ρ 2 fun c => routed_of_pre _ _ _ _ _ _ _ (h c)

theorem frame_Reference5Ideal : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem algebraic_Kernel5Ideal [hP : Cert.Pre_routed.Facts] : Cert.algebraic_Kernel5Ideal_Reference5Ideal := by
  intro m g m' g' hpre hargs
  have R : ∀ c, RoutedAt m c := fun c => routed_of_pre _ _ _ _ _ _ _ (hpre c)
  refine ⟨resultOf 2 m R, ?_, ?_⟩
  · rw [defs_Kernel5Ideal]
    exact kernel_result 2 m R g
  · refine (θ_run Cert.Reference5Ideal.defs _ _).mono (fun r h c => ⟨(h c).1.trans ?_, (h c).2⟩) (Cert.Reference5Ideal.Value.run (F := Ideal) m' g')
    refine Eq.trans ?_ (reference_result 2 m R c (hargs c))
    unfold Cert.Reference5Ideal.Value.res_main_v62
    rfl

/-! ## The last layer -/

theorem defs₀_Kernel6Ideal : Cert.Kernel6Ideal.defs₀ (F := F) = Cert.Kernel3Ideal.defs₀ := by
  unfold Cert.Kernel6Ideal.defs₀ Cert.Kernel3Ideal.defs₀
  congr 1
  funext l a
  match l, a with
  | 0, (t, s) => rfl
theorem defs_Kernel6Ideal : Cert.Kernel6Ideal.defs (F := F) = defsAt 3 := congrArg (Pipeline.defs (pcfgsAt (F := F) 3)) defs₀_Kernel6Ideal

theorem defs₀_Kernel6 : Cert.Kernel6.defs₀ (F := Bits) = Cert.Kernel3Ideal.defs₀ := by
  unfold Cert.Kernel6.defs₀ Cert.Kernel3Ideal.defs₀
  congr 1
  funext l a
  match l, a with
  | 0, (t, s) => rfl
theorem defs_Kernel6 : Cert.Kernel6.defs (F := Bits) = defsAt 3 := congrArg (Pipeline.defs (pcfgsAt (F := Bits) 3)) defs₀_Kernel6

theorem frame_Kernel6 [hP : Cert.Pre_routed.Facts] : Cert.quiescent_Kernel6 := fun m ρ h => by
  rw [defs_Kernel6]
  exact frame_any (F := Bits) m ρ 3 fun c => routed_of_pre _ _ _ _ _ _ _ (h c)

theorem frame_Kernel6Ideal [hP : Cert.Pre_routed.Facts] : Cert.quiescent_Kernel6Ideal := fun m ρ h => by
  rw [defs_Kernel6Ideal]
  exact frame_any m ρ 3 fun c => routed_of_pre _ _ _ _ _ _ _ (h c)

theorem frame_Reference6Ideal : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem algebraic_Kernel6Ideal [hP : Cert.Pre_routed.Facts] : Cert.algebraic_Kernel6Ideal_Reference6Ideal := by
  intro m g m' g' hpre hargs
  have R : ∀ c, RoutedAt m c := fun c => routed_of_pre _ _ _ _ _ _ _ (hpre c)
  refine ⟨resultOf 3 m R, ?_, ?_⟩
  · rw [defs_Kernel6Ideal]
    exact kernel_result 3 m R g
  · refine (θ_run Cert.Reference6Ideal.defs _ _).mono (fun r h c => ⟨(h c).1.trans ?_, (h c).2⟩) (Cert.Reference6Ideal.Value.run (F := Ideal) m' g')
    refine Eq.trans ?_ (reference_result 3 m R c (hargs c))
    unfold Cert.Reference6Ideal.Value.res_main_v62
    rfl

end Cert.Proof.Exp

end

end
-- ==== Proof.ConvSpec.lean ====
/-
  The first half of the short convolution's layer as one formula over the arguments' entries: a row normalised, scaled and
  shifted by its modulation, multiplied into the weights, and the two thirds that are gates.
-/
module

public import proofs.«01_k».proof.Proof.Tile
public import Idealize.ShloMosaic.Lib.ValueIdx

@[expose] public section

noncomputable section

namespace Cert.Proof.Conv

open Idealize.ShloMosaic Idealize.ShloMosaic.ValueIdx

/-- A row over its root mean square, times the gain, modulated. -/
def modded (x g scale shift : Fin 1024 → EReal) (d : Fin 1024) : EReal :=
  x d * Ideal.rsqrt (Ideal.div (∑ k, x k * x k) (Ideal.ofBits .f32 0x44800000#32) + Ideal.ofBits .f32 0x358637BD#32) * g d
    * (Ideal.ofBits .f32 0x3F800000#32 + scale d) + shift d

/-- The modulated row against one column of the weights: the modulation holds the shift first, then the scale. -/
def column (x g : Fin 1024 → EReal) (md : Fin 6144 → EReal) (w : Fin 1024 → EReal) : EReal :=
  ∑ d, modded x g (fun k => md ⟨1024 + k.val, by omega⟩) (fun k => md ⟨k.val, by omega⟩) d * w d

/-- The modulation of a row: the third for a context row, its batch's for a latent row. -/
def modOf (R : Fin 33280) : Fin 8 := if R.val % 16640 < 256 then 2 else ⟨R.val / 16640, by omega⟩

variable (x : (⟨2, ![33280, 1024]⟩ : Shape).Idx → EReal) (md : (⟨3, ![8, 1, 6144]⟩ : Shape).Idx → EReal)
  (g : (⟨2, ![1, 1024]⟩ : Shape).Idx → EReal) (w : (⟨2, ![1024, 3072]⟩ : Shape).Idx → EReal)

/-- The product at a row and a column. -/
def product (R : Fin 33280) (f : Fin 3072) : EReal :=
  column (fun k => x (ix2 R k)) (fun k => g (ix2 0 k)) (fun k => md (ix3 (modOf R) 0 k)) (fun k => w (ix2 k f))

/-- The two results: the first third of the columns, and the second third times the last. -/
def gateOut : (⟨2, ![33280, 1024]⟩ : Shape).Idx → EReal := fun i => product x md g w (i 0) ⟨(i 1).val, by have : (i 1).val < 1024 := (i 1).isLt; omega⟩
def mixOut : (⟨2, ![33280, 1024]⟩ : Shape).Idx → EReal := fun i =>
  product x md g w (i 0) ⟨1024 + (i 1).val, by have : (i 1).val < 1024 := (i 1).isLt; omega⟩
    * product x md g w (i 0) ⟨2048 + (i 1).val, by have : (i 1).val < 1024 := (i 1).isLt; omega⟩

end Cert.Proof.Conv

end

end
-- ==== Proof.ConvValue.lean ====
/-
  The arrays the convolution's first call leaves, over extended reals, entry by entry.
-/
module

public import proofs.«01_k».proof.Proof.ConvSpec
public import proofs.«01_k».proof.Proof.DiffHost
public import proofs.«01_k».proof.Proof.ExpPay
public import proofs.«01_k».proof.Proof.Gen.Kernel7Ideal.Frame

@[expose] public section

set_option maxRecDepth 16384

noncomputable section

namespace Cert.Proof.Conv

open Cert.Kernel7Ideal Cert.Kernel7Ideal.Gen Cert.Attn
open Cert.Proof.Diff (word_val)
open Cert.Proof.Exp (product_apply)
open Idealize.ShloMosaic hiding ix0 ix1 ix2 ix3 ix4 ix5
open Idealize.ShloMosaic.TcCoe Idealize.ShloMosaic.ValueIdx Idealize.SL.Sem
open Finset

/-- The product of a tile, at a row and a column. -/
theorem tile_apply (v0 : FVec Ideal S1x1x6144 .f32) (v2 : FVec Ideal S256x1024 .f32) (v3 : FVec Ideal S1x1024 .f32) (v25 : FVec Ideal S1024x3072 .bf16)
    (r : Fin 256) (f : Fin 3072) :
    k0_pay1 (F := Ideal) v0 v2 v3 v25 (ix2 r f)
      = column (fun k => v2 (ix2 r k)) (fun k => v3 (ix2 0 k)) (fun k => v0 (ix3 0 0 k)) (fun k => v25 (ix2 k f)) := by
  unfold k0_pay1 column
  dsimp only
  refine (product_apply (R := 256) (K := 1024) (N := 3072) _ _ r f).trans (Finset.sum_congr rfl fun d _ => ?_)
  refine congrArg₂ (· * ·) ?_ (congrFun (cast_same v25 _) _)
  have hm : ∀ (o : ℕ) (h : S1x6144.Slices ![0, o] S1x1024) (k : Fin 6144), k.val = o + d.val →
      extractStridedSlice S1x1024 ![0, o] (shapeCast S1x6144 v0 shapeCasts_S1x1x6144_S1x6144) h (ix2 (0 : Fin 1) d) = v0 (ix3 0 0 k) := fun o h k hk =>
    (slice2_axis1_apply o _ h (0 : Fin 1) d k hk).trans (shapeCast_1ab_ab_apply v0 _ 0 k)
  refine congrArg₂ (· + ·) (congrArg₂ (· * ·) (congrArg₂ (· * ·) (congrArg (v2 (ix2 r d) * ·) ((spread_apply _ _ r d).trans ?_)) (broadcastTo_1b_ab_apply v3 _ r d))
    ((broadcastTo_1b_ab_apply _ _ r d).trans ?_)) ((broadcastTo_1b_ab_apply _ _ r d).trans (hm 0 _ ⟨d.val, by omega⟩ (Nat.zero_add _).symm))
  rotate_left
  · exact congrArg (Ideal.ofBits .f32 0x3F800000#32 + ·) (hm 1024 _ ⟨1024 + d.val, by omega⟩ rfl)
  exact congrArg Ideal.rsqrt (congrArg (· + _) (congrArg (Ideal.div · _) (sumCol_apply (R := 256) (L := 1024) (mulf v2 v2) _ _ _ _ r 0)))

/-! ## The blocks -/

/-- Reading the whole of a buffer reads the buffer. -/
theorem ld_whole {s : Shape} {e : EltTy} (X : s.Idx → Elt Ideal e) (off : Fin s.rank → ℕ) (inb : ∀ a, off a + s.size a ≤ s.size a) (i : s.Idx) :
    View.ld X (Rect.unit (s := s) off s.size inb) i = X i :=
  pick_apply off s.size inb X i i fun a => by have := inb a; omega

variable (m : (ℓ : Loc nD τ sig) → Buf (Elt Ideal) ℓ) (c : Dev nD)

theorem V_w : V m c main_v0 = truncf (F := Ideal) (s := S1024x3072) (φ := .f32) .bf16 (m ((c : Thread nD τ).loc main_arg3)) bitsLt_bf16_f32 := by
  entry_read
  rfl

theorem map0 (i : grid0.Coords) : cc0_transform_0 i = ![(i 0).val, 0] := by
  show ![(BitVec.ofNat 32 (i 0).val).toNat, 0] = _
  rw [word_val (i 0).isLt (by decide)]

/-- The row of the modulation a tile takes. -/
def tileMod (n : Fin 130) : ℕ := if n.val % 65 < 1 then 2 else n.val / 65

theorem map2 (i : grid0.Coords) : cc0_transform_2 i = ![tileMod (i 0), 0, 0] := by
  have key : ∀ n : Fin 130, cc0_transform_2 (fun a => match a with | ⟨0, _⟩ => n) = ![tileMod n, 0, 0] := by decide +kernel
  refine Eq.trans (congrArg cc0_transform_2 (funext fun a => ?_)) (key (i 0))
  match a with
  | ⟨0, _⟩ => rfl

def tileOf (t : Fin cfg0.N) : Fin 130 := grid0.coords t 0
/-- A row of a tile, in the whole. -/
def rowAt (n : Fin 130) (r : Fin 256) : Fin 33280 := ⟨256 * n.val + r.val, by omega⟩

theorem mod_at (n : Fin 130) (r : Fin 256) : (modOf (rowAt n r)).val = tileMod n := by
  unfold modOf tileMod rowAt
  dsimp only
  split <;> split
  · rfl
  · omega
  · omega
  · show (256 * n.val + r.val) / 16640 = _
    omega

theorem blk0 (t : Fin cfg0.N) (r : Fin 256) (d : Fin 1024) : iblk m c 0 t (ix2 r d) = m ((c : Thread nD τ).loc main_arg0) (ix2 (rowAt (tileOf t) r) d) := by
  refine Eq.trans (b := V m c main_arg0 (ix2 (rowAt (tileOf t) r) d)) (congrArg (V m c main_arg0) (funext fun a => Fin.ext ?_)) (congrFun (V_main_arg0 m c) _)
  refine (Pipeline.Window.rect_emb_val win0_0 t (ix2 r d) a).trans ?_
  show cc0_transform_0 (grid0.coords t) a * win0_0.size a + _ = _
  rw [map0]
  match a with
  | ⟨0, _⟩ => exact congrArg (· + r.val) (Nat.mul_comm _ 256)
  | ⟨1, _⟩ => exact (congrArg (· + d.val) (Nat.zero_mul _)).trans (Nat.zero_add _)

theorem blk1 (t : Fin cfg0.N) (d : Fin 1024) : iblk m c 1 t (ix2 0 d) = m ((c : Thread nD τ).loc main_arg2) (ix2 0 d) := by
  refine Eq.trans (b := V m c main_arg2 (ix2 0 d)) (congrArg (V m c main_arg2) (funext fun a => Fin.ext ?_)) (congrFun (V_main_arg2 m c) _)
  refine (Pipeline.Window.rect_emb_val win0_1 t (ix2 0 d) a).trans ?_
  match a with
  | ⟨0, _⟩ => rfl
  | ⟨1, _⟩ => exact (congrArg (· + d.val) (Nat.zero_mul _)).trans (Nat.zero_add _)

theorem blk2 (t : Fin cfg0.N) (r : Fin 256) (d : Fin 6144) : iblk m c 2 t (ix3 0 0 d) = m ((c : Thread nD τ).loc main_arg1) (ix3 (modOf (rowAt (tileOf t) r)) 0 d) := by
  refine Eq.trans (b := V m c main_arg1 (ix3 (modOf (rowAt (tileOf t) r)) 0 d)) (congrArg (V m c main_arg1) (funext fun a => Fin.ext ?_)) (congrFun (V_main_arg1 m c) _)
  refine (Pipeline.Window.rect_emb_val win0_2 t (ix3 0 0 d) a).trans ?_
  show cc0_transform_2 (grid0.coords t) a * win0_2.size a + _ = _
  rw [map2]
  match a with
  | ⟨0, _⟩ => exact ((Nat.add_zero _).trans (Nat.mul_one _)).trans (mod_at (tileOf t) r).symm
  | ⟨1, _⟩ => rfl
  | ⟨2, _⟩ => exact (congrArg (· + d.val) (Nat.zero_mul _)).trans (Nat.zero_add _)

theorem blk3 (t : Fin cfg0.N) (k : Fin 1024) (f : Fin 3072) : iblk m c 3 t (ix2 k f) = m ((c : Thread nD τ).loc main_arg3) (ix2 k f) := by
  refine Eq.trans (b := V m c main_v0 (ix2 k f)) (congrArg (V m c main_v0) (funext fun a => Fin.ext ?_)) (congrFun (V_w m c) _)
  refine (Pipeline.Window.rect_emb_val win0_3 t (ix2 k f) a).trans ?_
  match a with
  | ⟨0, _⟩ => exact (congrArg (· + k.val) (Nat.zero_mul _)).trans (Nat.zero_add _)
  | ⟨1, _⟩ => exact (congrArg (· + f.val) (Nat.zero_mul _)).trans (Nat.zero_add _)

/-- The product of a grid point's blocks. -/
def blockProduct (t : Fin cfg0.N) : FVec Ideal S256x3072 .f32 :=
  k0_pay1 (F := Ideal) (View.ld (iblk m c 2 t) r0_0) (View.ld (iblk m c 0 t) r0_1) (View.ld (iblk m c 1 t) r0_2) (View.ld (iblk m c 3 t) r0_3)

theorem block_apply (t : Fin cfg0.N) (r : Fin 256) (f : Fin 3072) : blockProduct m c t (ix2 r f)
      = product (m ((c : Thread nD τ).loc main_arg0)) (m ((c : Thread nD τ).loc main_arg1)) (m ((c : Thread nD τ).loc main_arg2)) (m ((c : Thread nD τ).loc main_arg3))
          (rowAt (tileOf t) r) f := by
  refine (tile_apply _ _ _ _ r f).trans ?_
  unfold product
  congr 1
  · exact funext fun k => (ld_whole _ _ _ _).trans (blk0 m c t r k)
  · exact funext fun k => (ld_whole _ _ _ _).trans (blk1 m c t k)
  · exact funext fun k => (ld_whole _ _ _ _).trans (blk2 m c t r k)
  · exact funext fun k => (ld_whole _ _ _ _).trans (blk3 m c t k f)

/-- What is stored over a whole buffer is the buffer. -/
theorem emb_whole {s : Shape} (off : Fin s.rank → ℕ) (inb : ∀ a, off a + s.size a ≤ s.size a) (i : s.Idx) : (Rect.unit (s := s) off s.size inb).emb i = i := by
  funext a; apply Fin.ext
  show off a + 1 * (i a).val = (i a).val
  have := inb a
  omega

theorem stored_whole {s : Shape} {e : EltTy} (off : Fin s.rank → ℕ) (inb : ∀ a, off a + s.size a ≤ s.size a) (w : s.Idx → Elt Ideal e) (i : s.Idx) :
    View.canon (Val := Elt Ideal) (s := s) (e := e) [⟨Rect.unit (s := s) off s.size inb, w⟩] i = w i :=
  (congrArg (View.canon (Val := Elt Ideal) (s := s) (e := e) [⟨Rect.unit (s := s) off s.size inb, w⟩]) (emb_whole off inb i)).symm.trans
    (View.canon_cons_emb (Val := Elt Ideal) (Rect.unit (s := s) off s.size inb) w [] i)

theorem emb4 (t : Fin cfg0.N) (r : Fin 256) (d : Fin 1024) : ((cfg0.win 4).blk t).view.emb (ix2 r d) = (ix2 (rowAt (tileOf t) r) d : S33280x1024.Idx) := by
  funext a; apply Fin.ext
  refine (Pipeline.Window.rect_emb_val win0_4 t (ix2 r d) a).trans ?_
  show cc0_transform_0 (grid0.coords t) a * win0_4.size a + _ = _
  rw [map0]
  match a with
  | ⟨0, _⟩ => exact congrArg (· + r.val) (Nat.mul_comm _ 256)
  | ⟨1, _⟩ => exact (congrArg (· + d.val) (Nat.zero_mul _)).trans (Nat.zero_add _)

theorem emb5 (t : Fin cfg0.N) (r : Fin 256) (d : Fin 1024) : ((cfg0.win 5).blk t).view.emb (ix2 r d) = (ix2 (rowAt (tileOf t) r) d : S33280x1024.Idx) := emb4 t r d

def pointAt (n : Fin 130) : grid0.Coords := fun a => match a with
  | ⟨0, _⟩ => n

theorem covers4 : win0_4.Covers :=
  win0_4.covers_of_indexMap_surj rfl (by decide) fun β => by
    refine ⟨pointAt (β 0), fun a => ?_⟩
    refine Eq.trans (congrFun (map0 (pointAt (β 0))) a) ?_
    match a with
    | ⟨0, _⟩ => rfl
    | ⟨1, _⟩ =>
      have : (β 1).val < 1 := (β 1).isLt
      show 0 = (β 1).val
      omega

theorem covers5 : win0_5.Covers :=
  win0_5.covers_of_indexMap_surj rfl (by decide) fun β => by
    refine ⟨pointAt (β 0), fun a => ?_⟩
    refine Eq.trans (congrFun (map0 (pointAt (β 0))) a) ?_
    match a with
    | ⟨0, _⟩ => rfl
    | ⟨1, _⟩ =>
      have : (β 1).val < 1 := (β 1).isLt
      show 0 = (β 1).val
      omega

/-- The first array the run leaves, -/
theorem final4 : (dats m 0 c).arrAt (4 : Fin 6) cfg0.N
    = gateOut (m ((c : Thread nD τ).loc main_arg0)) (m ((c : Thread nD τ).loc main_arg1)) (m ((c : Thread nD τ).loc main_arg2)) (m ((c : Thread nD τ).loc main_arg3)) := by
  refine (dats m 0 c).arrAt_eq_of_covers (4 : Fin 6) _ covers4 fun t hf y => ?_
  obtain ⟨r, d, rfl⟩ : ∃ (r : Fin 256) (d : Fin 1024), y = ix2 r d := ⟨y 0, y 1, ValueIdx.eq_ix2 y⟩
  rw [emb4]
  refine (congrFun (after0_4 m c t) _).trans ((stored_whole _ _ _ _).trans ?_)
  exact (slice2_axis1_apply 0 (blockProduct m c t) slices_S256x3072_o0_0_S256x1024 r d ⟨d.val, by omega⟩ (Nat.zero_add _).symm).trans (block_apply m c t r _)

/-- and the second. -/
theorem final5 : (dats m 0 c).arrAt (5 : Fin 6) cfg0.N
    = mixOut (m ((c : Thread nD τ).loc main_arg0)) (m ((c : Thread nD τ).loc main_arg1)) (m ((c : Thread nD τ).loc main_arg2)) (m ((c : Thread nD τ).loc main_arg3)) := by
  refine (dats m 0 c).arrAt_eq_of_covers (5 : Fin 6) _ covers5 fun t hf y => ?_
  obtain ⟨r, d, rfl⟩ : ∃ (r : Fin 256) (d : Fin 1024), y = ix2 r d := ⟨y 0, y 1, ValueIdx.eq_ix2 y⟩
  rw [emb5]
  refine (congrFun (after0_5 m c t) _).trans ((stored_whole _ _ _ _).trans (congrArg₂ (· * ·) ?_ ?_))
  · exact (slice2_axis1_apply 1024 (blockProduct m c t) slices_S256x3072_o0_1024_S256x1024 r d ⟨1024 + d.val, by omega⟩ rfl).trans (block_apply m c t r _)
  · exact (slice2_axis1_apply 2048 (blockProduct m c t) slices_S256x3072_o0_2048_S256x1024 r d ⟨2048 + d.val, by omega⟩ rfl).trans (block_apply m c t r _)

end Cert.Proof.Conv

end

end
-- ==== Proof.ConvRef.lean ====
/-
  The reference of the convolution's first call, over extended reals, entry by entry.
-/
module

public import proofs.«01_k».proof.Proof.ConvSpec
public import proofs.«01_k».proof.Proof.Gen.Reference7Ideal
public import proofs.«01_k».proof.Proof.Gen.Reference7Ideal.Run
public import Idealize.ShloMosaic.Lib.ValueIdx
public import Idealize.ShloMosaic.Lib.IdealHost
public import Idealize.ShloMosaic.Lib.Pipeline.Value

@[expose] public section

set_option maxRecDepth 16384

noncomputable section

namespace Cert.Proof.ConvRef

open Cert.Reference7Ideal Cert.Reference7Ideal.Gen Cert.Proof.Conv
open Idealize.ShloMosaic Idealize.ShloMosaic.TcCoe Idealize.ShloMosaic.ValueIdx Idealize.SL.Sem
open Finset

abbrev T3 (B L N : ℕ) : Shape := ⟨3, ![B, L, N]⟩

/-- Rows of two batches against the weights. -/
def dotRows (L : ℕ) (wf : DotDims.WF (T3 2 L 1024) S1024x3072 (T3 2 L 3072) [2] [0] [0, 1] [1] [] []) : DotDims (T3 2 L 1024) S1024x3072 (T3 2 L 3072) where
  lhsContracting := [2]
  rhsContracting := [0]
  lhsNonContracting := [0, 1]
  rhsNonContracting := [1]
  lhsBatch := []
  rhsBatch := []
  wf := wf

theorem dotRows_apply {L : ℕ} (wf) (x : FVec Ideal (T3 2 L 1024) .f32) (w : FVec Ideal S1024x3072 .f32) (b : Fin 2) (i : Fin L) (f : Fin 3072) :
    Host.dotGeneral (φ₁ := .f32) (φ₂ := .f32) (dotRows L wf) none x w (ix3 b i f) = ∑ d : Fin 1024, x (ix3 b i d) * w (ix2 d f) := by
  have hr : (dotRows L wf).contr.rank = 1 := rfl
  have hs : (dotRows L wf).contr.size ⟨0, by rw [hr]; omega⟩ = 1024 := rfl
  refine (Ideal.dotGeneral_apply (dotRows L wf) none _ x w _).trans ?_
  rw [← Equiv.sum_comp (contrEquiv1 _ 1024 hr hs).symm]
  refine Finset.sum_congr rfl fun d _ => ?_
  have hd := contrEquiv1_symm_val (dotRows L wf) 1024 hr hs d
  refine congrArg₂ (· * ·) (congrArg x (funext fun a => Fin.ext ?_)) (congrArg w (funext fun a => Fin.ext ?_))
  · match a with
    | ⟨0, _⟩ => rfl
    | ⟨1, _⟩ => rfl
    | ⟨2, _⟩ => exact hd
  · match a with
    | ⟨0, _⟩ => exact hd
    | ⟨1, _⟩ => rfl

/-- What the shapes have to satisfy, for `L` rows a batch and `B` modulations. -/
structure RowsFacts (B L : ℕ) : Prop where
  rT : (T3 2 L 1024).ReducesTo [2] ⟨2, ![2, L]⟩
  red : (T3 2 L 1024).Reduces [2] ⟨2, ![2, L]⟩
  b2 : (⟨2, ![2, L]⟩ : Shape).BroadcastsInDim (T3 2 L 1) ![0, 1]
  b1 : S_.BroadcastsInDim (T3 2 L 1) ![]
  b3 : (T3 2 L 1).BroadcastsInDim (T3 2 L 1024) ![0, 1, 2]
  g3 : (T3 1 1 1024).BroadcastsInDim (T3 2 L 1024) ![0, 1, 2]
  s1 : (T3 B 1 6144).Slices ![0, 0, 1024] (T3 B 1 1024)
  s0 : (T3 B 1 6144).Slices ![0, 0, 0] (T3 B 1 1024)
  o1 : S_.BroadcastsInDim (T3 B 1 1024) ![]
  m3 : (T3 B 1 1024).BroadcastsInDim (T3 2 L 1024) ![0, 1, 2]
  dot : DotDims.WF (T3 2 L 1024) S1024x3072 (T3 2 L 3072) [2] [0] [0, 1] [1] [] []

variable {B L : ℕ} (H : RowsFacts B L)

/-- The norm, the modulation and the product, as jax prints them. -/
def plainRows (x : FVec Ideal (T3 2 L 1024) .f32) (g : FVec Ideal S1024 .f32) (md : FVec Ideal (T3 B 1 6144) .f32) (w : FVec Ideal S1024x3072 .f32) : FVec Ideal (T3 2 L 3072) .f32 :=
  Host.dotGeneral (φ₁ := .f32) (φ₂ := .f32) (dotRows L H.dot) none (addf (mulf (mulf (mulf x (broadcastInDim (T3 2 L 1024) ![0, 1, 2] H.b3 (Host.rsqrt (addf (Host.divf
      (broadcastInDim (T3 2 L 1) ![0, 1] H.b2 (Host.reduceAdd (mulf x x) (constant S_ .f32 0x00000000#32) H.rT h_S_))
      (broadcastInDim (T3 2 L 1) ![] H.b1 (constant S_ .f32 0x44800000#32))) (broadcastInDim (T3 2 L 1) ![] H.b1 (constant S_ .f32 0x358637BD#32))))))
    (broadcastInDim (T3 2 L 1024) ![0, 1, 2] H.g3 (broadcastInDim (T3 1 1 1024) ![2] bcast_S1024_S1x1x1024_2 g)))
    (broadcastInDim (T3 2 L 1024) ![0, 1, 2] H.m3 (addf (broadcastInDim (T3 B 1 1024) ![] H.o1 (constant S_ .f32 0x3F800000#32)) (extractStridedSlice (T3 B 1 1024) ![0, 0, 1024] md H.s1))))
    (broadcastInDim (T3 2 L 1024) ![0, 1, 2] H.m3 (extractStridedSlice (T3 B 1 1024) ![0, 0, 0] md H.s0))) w

include H in
/-- The modulation spread over the rows: read at the batch's own, or at the only one. -/
theorem spreadMod (y : FVec Ideal (T3 B 1 1024) .f32) (b : Fin 2) (i : Fin L) (d : Fin 1024) (q : Fin B) (hq : q.val = if B = 1 then 0 else b.val) :
    broadcastInDim (T3 2 L 1024) ![0, 1, 2] H.m3 y (ix3 b i d) = y (ix3 q 0 d) :=
  broadcastInDim_apply _ H.m3 y _ _ fun a => match a with
    | ⟨0, _⟩ => hq
    | ⟨1, _⟩ => rfl
    | ⟨2, _⟩ => rfl

theorem sliceMod (o : ℕ) (md : FVec Ideal (T3 B 1 6144) .f32) (h : (T3 B 1 6144).Slices ![0, 0, o] (T3 B 1 1024)) (q : Fin B) (d : Fin 1024) (k : Fin 6144)
    (hk : k.val = o + d.val) : extractStridedSlice (T3 B 1 1024) ![0, 0, o] md h (ix3 q 0 d) = md (ix3 q 0 k) :=
  extractStridedSlice_apply _ _ h _ _ fun a => match a with
    | ⟨0, _⟩ => (Nat.zero_add _).symm
    | ⟨1, _⟩ => rfl
    | ⟨2, _⟩ => hk

theorem plainRows_apply (x : FVec Ideal (T3 2 L 1024) .f32) (g : FVec Ideal S1024 .f32) (md : FVec Ideal (T3 B 1 6144) .f32) (w : FVec Ideal S1024x3072 .f32)
    (b : Fin 2) (i : Fin L) (f : Fin 3072) (q : Fin B) (hq : q.val = if B = 1 then 0 else b.val) :
    plainRows H x g md w (ix3 b i f) = column (fun k => x (ix3 b i k)) (fun k => g (ix1 k)) (fun k => md (ix3 q 0 k)) (fun k => w (ix2 k f)) := by
  have hi : i.val = if L = 1 then 0 else i.val := by
    split
    · have := i.isLt; omega
    · rfl
  have hl : ∀ k : Fin 1024, H.red.lift (ix2 b i) k = ix3 b i k := fun k => by
    funext a; apply Fin.ext
    match a with
    | ⟨0, _⟩ => rfl
    | ⟨1, _⟩ => rfl
    | ⟨2, _⟩ => rfl
  refine (dotRows_apply H.dot _ w b i f).trans (Finset.sum_congr rfl fun d _ => congrArg (· * w (ix2 d f)) ?_)
  refine congrArg₂ (· + ·) (congrArg₂ (· * ·) (congrArg₂ (· * ·) (congrArg (x (ix3 b i d) * ·) ?_) ?_) ?_) ?_
  · refine (broadcastInDim_apply _ H.b3 _ (ix3 b i d) (ix3 b i 0) fun a => match a with
      | ⟨0, _⟩ => rfl
      | ⟨1, _⟩ => hi
      | ⟨2, _⟩ => rfl).trans ?_
    refine congrArg Ideal.rsqrt (congrArg₂ (· + ·) (congrArg₂ Ideal.div ?_ (broadcastInDim_scalar_apply _ _ _)) (broadcastInDim_scalar_apply _ _ _))
    refine (broadcastInDim_apply _ H.b2 _ (ix3 b i 0) (ix2 b i) fun a => match a with
      | ⟨0, _⟩ => rfl
      | ⟨1, _⟩ => hi).trans ((Ideal.hostReduceAdd_single H.rT H.red (mulf x x) _ _).trans ?_)
    exact (congrArg₂ (· + ·) Ideal.ofBits_zero_f32 (Finset.sum_congr rfl fun k _ => congrArg (mulf x x) (hl k))).trans (zero_add _)
  · exact (broadcastInDim_apply _ H.g3 _ _ (ix3 0 0 d) fun a => match a with
      | ⟨0, _⟩ => rfl
      | ⟨1, _⟩ => rfl
      | ⟨2, _⟩ => rfl).trans (broadcastInDim_apply _ bcast_S1024_S1x1x1024_2 _ _ (ix1 d) fun a => match a with
      | ⟨0, _⟩ => rfl)
  · exact (spreadMod H _ b i d q hq).trans (congrArg₂ (· + ·) (broadcastInDim_scalar_apply _ _ _) (sliceMod 1024 md H.s1 q d _ rfl))
  · exact (spreadMod H _ b i d q hq).trans (sliceMod 0 md H.s0 q d _ (Nat.zero_add _).symm)

/-! ## The reference's two parts -/

/-- The shapes of the context's part, -/
theorem ctxFacts : RowsFacts 1 256 := ⟨reducesTo_S2x256x1024_S2x256_d2, by decide, bcast_S2x256_S2x256x1_0_1, bcast_S_S2x256x1, bcast_S2x256x1_S2x256x1024_0_1_2,
  bcast_S1x1x1024_S2x256x1024_0_1_2, slices_S1x1x6144_S1x1x1024_0_0_1024, slices_S1x1x6144_S1x1x1024_0_0_0, bcast_S_S1x1x1024, bcast_S1x1x1024_S2x256x1024_0_1_2,
  dot_S2x256x1024_S1024x3072_S2x256x3072_2_0_01_1_n_n_wf⟩
/-- and of the latents' part. -/
theorem latFacts : RowsFacts 2 16384 := ⟨reducesTo_S2x16384x1024_S2x16384_d2, by decide, bcast_S2x16384_S2x16384x1_0_1, bcast_S_S2x16384x1, bcast_S2x16384x1_S2x16384x1024_0_1_2,
  bcast_S1x1x1024_S2x16384x1024_0_1_2, slices_S2x1x6144_S2x1x1024_0_0_1024, slices_S2x1x6144_S2x1x1024_0_0_0, bcast_S_S2x1x1024, bcast_S2x1x1024_S2x16384x1024_0_1_2,
  dot_S2x16384x1024_S1024x3072_S2x16384x3072_2_0_01_1_n_n_wf⟩

variable (x : FVec Ideal S33280x1024 .f32) (md : FVec Ideal S8x1x6144 .f32) (g : FVec Ideal S1x1024 .f32) (w : FVec Ideal S1024x3072 .f32)

def ctxRows : FVec Ideal S2x256x3072 .f32 :=
  plainRows ctxFacts (extractStridedSlice S2x256x1024 ![0, 0, 0] (shapeCast S2x16640x1024 x shapeCasts_S33280x1024_S2x16640x1024) slices_S2x16640x1024_S2x256x1024_0_0_0)
    (shapeCast S1024 g shapeCasts_S1x1024_S1024) (extractStridedSlice S1x1x6144 ![2, 0, 0] md slices_S8x1x6144_S1x1x6144_2_0_0) w
def latRows : FVec Ideal S2x16384x3072 .f32 :=
  plainRows latFacts (extractStridedSlice S2x16384x1024 ![0, 256, 0] (shapeCast S2x16640x1024 x shapeCasts_S33280x1024_S2x16640x1024) slices_S2x16640x1024_S2x16384x1024_0_256_0)
    (shapeCast S1024 g shapeCasts_S1x1024_S1024) (extractStridedSlice S2x1x6144 ![0, 0, 0] md slices_S8x1x6144_S2x1x6144_0_0_0) w

/-- The row of the arguments a batch and a token have. -/
def rowOf (b : Fin 2) (l : Fin 16640) : Fin 33280 := ⟨b.val * 16640 + l.val, by omega⟩

/-- The rows by batch. -/
theorem rows_apply {L o : ℕ} (h : S2x16640x1024.Slices ![0, o, 0] (T3 2 L 1024)) (b : Fin 2) (i : Fin L) (k : Fin 1024) (l : Fin 16640) (hl : l.val = o + i.val) :
    extractStridedSlice (T3 2 L 1024) ![0, o, 0] (shapeCast S2x16640x1024 x shapeCasts_S33280x1024_S2x16640x1024) h (ix3 b i k) = x (ix2 (rowOf b l) k) := by
  refine (extractStridedSlice_apply _ _ h (ix3 b i k) (ix3 b l k) fun a => match a with
    | ⟨0, _⟩ => (Nat.zero_add _).symm
    | ⟨1, _⟩ => hl
    | ⟨2, _⟩ => (Nat.zero_add _).symm).trans (shapeCast_apply x _ _ _ ?_)
  rw [Shape.rowMajor_val_two, Shape.rowMajor_val_three]
  rfl

theorem ctxRows_apply (b : Fin 2) (i : Fin 256) (f : Fin 3072) (l : Fin 16640) (hl : l.val = i.val) : ctxRows x md g w (ix3 b i f) = product x md g w (rowOf b l) f := by
  have hm : modOf (rowOf b l) = 2 := if_pos (by show (b.val * 16640 + l.val) % 16640 < 256; omega)
  refine (plainRows_apply ctxFacts _ _ _ w b i f 0 rfl).trans ?_
  unfold product
  rw [hm]
  congr 1
  · exact funext fun k => rows_apply x _ b i k l (hl.trans (Nat.zero_add _).symm)
  · exact funext fun k => shapeCast_1a_a_apply g _ k
  · exact funext fun k => extractStridedSlice_apply _ _ _ _ _ fun a => match a with
      | ⟨0, _⟩ => rfl
      | ⟨1, _⟩ => rfl
      | ⟨2, _⟩ => (Nat.zero_add _).symm

theorem latRows_apply (b : Fin 2) (i : Fin 16384) (f : Fin 3072) (l : Fin 16640) (hl : l.val = 256 + i.val) : latRows x md g w (ix3 b i f) = product x md g w (rowOf b l) f := by
  have hm : modOf (rowOf b l) = ⟨b.val, by omega⟩ := (if_neg (by show ¬ (b.val * 16640 + l.val) % 16640 < 256; omega)).trans
    (Fin.ext (by show (b.val * 16640 + l.val) / 16640 = b.val; omega))
  refine (plainRows_apply latFacts _ _ _ w b i f b rfl).trans ?_
  unfold product
  rw [hm]
  congr 1
  · exact funext fun k => rows_apply x _ b i k l hl
  · exact funext fun k => shapeCast_1a_a_apply g _ k
  · exact funext fun k => extractStridedSlice_apply _ _ _ _ _ fun a => match a with
      | ⟨0, _⟩ => (Nat.zero_add _).symm
      | ⟨1, _⟩ => rfl
      | ⟨2, _⟩ => (Nat.zero_add _).symm

/-- The two parts joined and laid out as rows: an entry is the one its batch and token have. -/
theorem joined_apply (p : FVec Ideal S2x256x1024 .f32) (q : FVec Ideal S2x16384x1024 .f32) (z : Fin 33280 → Fin 1024 → EReal)
    (hp : ∀ b i k (l : Fin 16640), l.val = i.val → p (ix3 b i k) = z (rowOf b l) k) (hq : ∀ b i k (l : Fin 16640), l.val = 256 + i.val → q (ix3 b i k) = z (rowOf b l) k)
    (i : S33280x1024.Idx) :
    shapeCast S33280x1024 (concatenate S2x16640x1024 1 [⟨S2x256x1024, p⟩, ⟨S2x16384x1024, q⟩] concatenates_S2x256x1024_S2x16384x1024_S2x16640x1024_d1)
      shapeCasts_S2x16640x1024_S33280x1024 i = z (i 0) (i 1) := by
  obtain ⟨R, e, rfl⟩ : ∃ (R : Fin 33280) (e : Fin 1024), i = ix2 R e := ⟨i 0, i 1, ValueIdx.eq_ix2 i⟩
  obtain ⟨b, l, rfl⟩ : ∃ (b : Fin 2) (l : Fin 16640), R = rowOf b l :=
    ⟨⟨R.val / 16640, by omega⟩, ⟨R.val % 16640, by omega⟩, Fin.ext (by show R.val = R.val / 16640 * 16640 + R.val % 16640; omega)⟩
  refine (shapeCast_apply _ _ _ (ix3 b l e) (by rw [Shape.rowMajor_val_two, Shape.rowMajor_val_three]; rfl)).trans ?_
  have hl := l.isLt
  by_cases h : l.val < 256
  · refine (concatenate_pair_apply_left (t := S2x16640x1024) (s₁ := S2x256x1024) (s₂ := S2x16384x1024) 1 _ _ _ _ rfl (ix3 b ⟨l.val, h⟩ e) fun a => ?_).trans (hp b _ e l rfl)
    match a with
    | ⟨0, _⟩ => rfl
    | ⟨1, _⟩ => rfl
    | ⟨2, _⟩ => rfl
  · refine (concatenate_pair_apply_right (t := S2x16640x1024) (s₁ := S2x256x1024) (s₂ := S2x16384x1024) 1 _ _ _ _ rfl rfl (ix3 b ⟨l.val - 256, by omega⟩ e) (fun a ha => ?_) ?_).trans
      (hq b _ e l (by show l.val = 256 + (l.val - 256); omega))
    · match a with
      | ⟨0, _⟩ => rfl
      | ⟨1, _⟩ => exact absurd rfl ha
      | ⟨2, _⟩ => rfl
    · show l.val - 256 + 256 = l.val; omega

/-- A third of the columns. -/
theorem third_apply {L o : ℕ} (y : FVec Ideal (T3 2 L 3072) .f32) (h : (T3 2 L 3072).Slices ![0, 0, o] (T3 2 L 1024)) (b : Fin 2) (i : Fin L) (k : Fin 1024) (f : Fin 3072)
    (hf : f.val = o + k.val) : extractStridedSlice (T3 2 L 1024) ![0, 0, o] y h (ix3 b i k) = y (ix3 b i f) :=
  extractStridedSlice_apply _ _ h _ _ fun a => match a with
    | ⟨0, _⟩ => (Nat.zero_add _).symm
    | ⟨1, _⟩ => (Nat.zero_add _).symm
    | ⟨2, _⟩ => hf

variable (m : (ℓ : Loc nD τ sig) → Buf (Elt Ideal) ℓ) (c : Dev nD)

/-- The reference's first result, -/
theorem res0 (h0 : m ((c : Thread nD τ).loc main_arg0) = x) (h1 : m ((c : Thread nD τ).loc main_arg1) = md) (h2 : m ((c : Thread nD τ).loc main_arg2) = g)
    (h3 : m ((c : Thread nD τ).loc main_arg3) = w) : Value.res_main_v60 (F := Ideal) m c = gateOut x md g w := by
  subst h0 h1 h2 h3
  refine Eq.trans (b := shapeCast S33280x1024 (concatenate S2x16640x1024 1
    [⟨S2x256x1024, extractStridedSlice S2x256x1024 ![0, 0, 0] (ctxRows _ _ _ _) slices_S2x256x3072_S2x256x1024_0_0_0⟩,
     ⟨S2x16384x1024, extractStridedSlice S2x16384x1024 ![0, 0, 0] (latRows _ _ _ _) slices_S2x16384x3072_S2x16384x1024_0_0_0⟩]
    concatenates_S2x256x1024_S2x16384x1024_S2x16640x1024_d1) shapeCasts_S2x16640x1024_S33280x1024) (by unfold Value.res_main_v60; rfl) (funext fun i => ?_)
  refine joined_apply _ _ (fun R k => product _ _ _ _ R ⟨k.val, by omega⟩) (fun b i k l hl => ?_) (fun b i k l hl => ?_) i
  · exact (third_apply (L := 256) _ _ b i k _ (Nat.zero_add _).symm).trans (ctxRows_apply _ _ _ _ b i _ l hl)
  · exact (third_apply (L := 16384) _ _ b i k _ (Nat.zero_add _).symm).trans (latRows_apply _ _ _ _ b i _ l hl)

/-- and its second. -/
theorem res1 (h0 : m ((c : Thread nD τ).loc main_arg0) = x) (h1 : m ((c : Thread nD τ).loc main_arg1) = md) (h2 : m ((c : Thread nD τ).loc main_arg2) = g)
    (h3 : m ((c : Thread nD τ).loc main_arg3) = w) : Value.res_main_v62 (F := Ideal) m c = mixOut x md g w := by
  subst h0 h1 h2 h3
  refine Eq.trans (b := shapeCast S33280x1024 (concatenate S2x16640x1024 1
    [⟨S2x256x1024, mulf (extractStridedSlice S2x256x1024 ![0, 0, 1024] (ctxRows _ _ _ _) slices_S2x256x3072_S2x256x1024_0_0_1024)
        (extractStridedSlice S2x256x1024 ![0, 0, 2048] (ctxRows _ _ _ _) slices_S2x256x3072_S2x256x1024_0_0_2048)⟩,
     ⟨S2x16384x1024, mulf (extractStridedSlice S2x16384x1024 ![0, 0, 1024] (latRows _ _ _ _) slices_S2x16384x3072_S2x16384x1024_0_0_1024)
        (extractStridedSlice S2x16384x1024 ![0, 0, 2048] (latRows _ _ _ _) slices_S2x16384x3072_S2x16384x1024_0_0_2048)⟩]
    concatenates_S2x256x1024_S2x16384x1024_S2x16640x1024_d1) shapeCasts_S2x16640x1024_S33280x1024) (by unfold Value.res_main_v62; rfl) (funext fun i => ?_)
  refine joined_apply _ _ (fun R k => product _ _ _ _ R ⟨1024 + k.val, by omega⟩ * product _ _ _ _ R ⟨2048 + k.val, by omega⟩)
    (fun b i k l hl => congrArg₂ (· * ·) ?_ ?_) (fun b i k l hl => congrArg₂ (· * ·) ?_ ?_) i
  · exact (third_apply (L := 256) _ _ b i k _ rfl).trans (ctxRows_apply _ _ _ _ b i _ l hl)
  · exact (third_apply (L := 256) _ _ b i k _ rfl).trans (ctxRows_apply _ _ _ _ b i _ l hl)
  · exact (third_apply (L := 16384) _ _ b i k _ rfl).trans (latRows_apply _ _ _ _ b i _ l hl)
  · exact (third_apply (L := 16384) _ _ b i k _ rfl).trans (latRows_apply _ _ _ _ b i _ l hl)

end Cert.Proof.ConvRef

end

end
-- ==== Proof.ConvClaim.lean ====
/-
  The convolution's first call: the frames of its programs, and that the kernel and its reference leave the same results.
-/
module

public import proofs.«01_k».proof.Defs
public import proofs.«01_k».proof.Proof.ConvValue
public import proofs.«01_k».proof.Proof.ConvRef
public import proofs.«01_k».proof.Proof.Gen.Kernel7
public import Idealize.ShloMosaic.Adequacy
public import Idealize.ShloMosaic.Init

@[expose] public section

set_option maxRecDepth 16384

noncomputable section

namespace Cert.Proof.Conv

open Idealize.ShloMosaic hiding ix0 ix1 ix2 ix3 ix4 ix5
open Idealize.ShloMosaic.TcCoe Idealize.SL.Sem

theorem frame_Kernel7Ideal : Cert.quiescent_Kernel7Ideal := fun m ρ _ => Cert.Kernel7Ideal.Gen.frame m ρ

/-- The kernel as printed is the same text: the same body table, -/
theorem defs₀_eq : (Cert.Kernel7.defs₀ (F := Bits)) = Cert.Kernel7Ideal.defs₀ (F := Bits) := by
  unfold Cert.Kernel7.defs₀ Cert.Kernel7Ideal.defs₀
  congr 1
  funext l a
  match l, a with
  | 0, (t, s) => rfl

theorem defs_eq : (Cert.Kernel7.defs (F := Bits)) = Cert.Kernel7Ideal.defs (F := Bits) :=
  congrArg (Pipeline.defs (Cert.Kernel7Ideal.pcfgs (F := Bits))) defs₀_eq

/-- so its run is the run over any floats, read at the bits. -/
theorem frame_Kernel7 : Cert.quiescent_Kernel7 := fun m ρ _ => by
  rw [defs_eq]
  exact Cert.Kernel7Ideal.Gen.frame (F := Bits) m ρ

/-- The reference is a line of host operations; it declares no semaphore. -/
theorem frame_Reference7Ideal : Cert.quiescent_Reference7Ideal := fun m ρ _ =>
  (θ_run Cert.Reference7Ideal.defs _ _).mono (fun r h => ⟨fun c => (h c).2.2, sem_eq_zero_of_no_sems (by decide) r.2⟩)
    (Cert.Reference7Ideal.Value.run (F := Ideal) m ρ)

theorem algebraic_Kernel7Ideal : Cert.algebraic_Kernel7Ideal_Reference7Ideal := by
  intro m g m' g' _ hargs
  refine ⟨fun c => gateOut (m ((c : Thread Cert.Kernel7Ideal.nD Cert.Kernel7Ideal.τ).loc Cert.Kernel7Ideal.main_arg0)) (m ((c : Thread Cert.Kernel7Ideal.nD Cert.Kernel7Ideal.τ).loc Cert.Kernel7Ideal.main_arg1))
      (m ((c : Thread Cert.Kernel7Ideal.nD Cert.Kernel7Ideal.τ).loc Cert.Kernel7Ideal.main_arg2)) (m ((c : Thread Cert.Kernel7Ideal.nD Cert.Kernel7Ideal.τ).loc Cert.Kernel7Ideal.main_arg3)),
    fun c => mixOut (m ((c : Thread Cert.Kernel7Ideal.nD Cert.Kernel7Ideal.τ).loc Cert.Kernel7Ideal.main_arg0)) (m ((c : Thread Cert.Kernel7Ideal.nD Cert.Kernel7Ideal.τ).loc Cert.Kernel7Ideal.main_arg1))
      (m ((c : Thread Cert.Kernel7Ideal.nD Cert.Kernel7Ideal.τ).loc Cert.Kernel7Ideal.main_arg2)) (m ((c : Thread Cert.Kernel7Ideal.nD Cert.Kernel7Ideal.τ).loc Cert.Kernel7Ideal.main_arg3)), ?_, ?_⟩
  · refine (θ_run Cert.Kernel7Ideal.defs _ _).mono (fun r h c => ?_)
      (θ_run_and (Cert.Kernel7Ideal.Gen.run_main (F := Ideal) m g) (Cert.Kernel7Ideal.Gen.frame (F := Ideal) m g))
    obtain ⟨hpost, hframe, _⟩ := h
    exact ⟨(hpost.out_eq c 4).trans (final4 m c), (hpost.out_eq c 5).trans (final5 m c), hframe c⟩
  · refine (θ_run Cert.Reference7Ideal.defs _ _).mono (fun r h c => ?_) (Cert.Reference7Ideal.Value.run (F := Ideal) m' g')
    obtain ⟨e0, e1, e2, e3⟩ := hargs c
    exact ⟨(h c).1.trans (ConvRef.res0 _ _ _ _ m' c e0 e1 e2 e3), (h c).2.1.trans (ConvRef.res1 _ _ _ _ m' c e0 e1 e2 e3), (h c).2.2⟩

end Cert.Proof.Conv

end

end
-- ==== Proof.lean ====
/-
  The proof of `Cert.Claim`: the witnesses of the programs' stated facts, then the claims in order.
-/
module

public import proofs.«01_k».proof.Defs
public import proofs.«01_k».proof.Proof.DiffClaim
public import proofs.«01_k».proof.Proof.GqaClaim
public import proofs.«01_k».proof.Proof.ExpClaim
public import proofs.«01_k».proof.Proof.ExpLayers
public import proofs.«01_k».proof.Proof.ConvClaim
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_inputs
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Loops
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Pre_finite_scores
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Reference4Ideal
public import proofs.«01_k».proof.Proof.Gen.Reference4Ideal.Run
public import proofs.«01_k».proof.Proof.Gen.Kernel5
public import proofs.«01_k».proof.Proof.Gen.Kernel5Ideal
public import proofs.«01_k».proof.Proof.Gen.Reference5Ideal
public import proofs.«01_k».proof.Proof.Gen.Reference5Ideal.Run
public import proofs.«01_k».proof.Proof.Gen.Kernel6
public import proofs.«01_k».proof.Proof.Gen.Kernel6Ideal
public import proofs.«01_k».proof.Proof.Gen.Reference6Ideal
public import proofs.«01_k».proof.Proof.Gen.Reference6Ideal.Run
public import proofs.«01_k».proof.Proof.Gen.Pre_routed
public import proofs.«01_k».proof.Proof.Gen.Kernel7
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import Idealize.ShloMosaic.Adequacy
public import Idealize.ShloMosaic.Init

@[expose] public section

noncomputable section

namespace Cert.Proof

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Pre_finite_inputs.Gen.facts, Cert.Pre_finite_scores.Gen.facts, Cert.Pre_routed.Gen.facts,
  Diff.frame_Kernel, Diff.frame_KernelIdeal, fun m g _ => Diff.frame_KernelIdeal m g trivial,
  Diff.frame_ReferenceIdeal, fun m g _ => Diff.frame_ReferenceIdeal m g trivial,
  Gqa.frame_Kernel2, Gqa.frame_Kernel2Ideal, fun m g _ => Gqa.frame_Kernel2Ideal m g trivial,
  Gqa.frame_Reference2Ideal, fun m g _ => Gqa.frame_Reference2Ideal m g trivial,
  Exp.frame_Kernel3, Exp.frame_Kernel3Ideal, Exp.frame_Reference3Ideal, fun m g _ => Exp.frame_Reference3Ideal m g trivial,
  Exp.frame_Kernel4, Exp.frame_Kernel4Ideal, Exp.frame_Reference4Ideal, fun m g _ => Exp.frame_Reference4Ideal m g trivial,
  Exp.frame_Kernel5, Exp.frame_Kernel5Ideal, Exp.frame_Reference5Ideal, fun m g _ => Exp.frame_Reference5Ideal m g trivial,
  Exp.frame_Kernel6, Exp.frame_Kernel6Ideal, Exp.frame_Reference6Ideal, fun m g _ => Exp.frame_Reference6Ideal m g trivial,
  Conv.frame_Kernel7, Conv.frame_Kernel7Ideal, Conv.frame_Reference7Ideal,
  trivial, Diff.algebraic_KernelIdeal, trivial, Gqa.algebraic_Kernel2Ideal, trivial, Exp.algebraic_Kernel3Ideal,
  trivial, Exp.algebraic_Kernel4Ideal, trivial, Exp.algebraic_Kernel5Ideal, trivial, Exp.algebraic_Kernel6Ideal,
  trivial, Conv.algebraic_Kernel7Ideal⟩

end Cert.Proof

end
